-- ==== Defs.lean ====
def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossRIdeal (m : (ℓ : Loc Cert.LossRIdeal.nD Cert.LossRIdeal.τ Cert.LossRIdeal.sig) → Buf (Elt Ideal) ℓ) : Prop :=
  True

def Pre_InxK (m : (ℓ : Loc Cert.InxK.nD Cert.InxK.τ Cert.InxK.sig) → Buf (Elt Bits) ℓ) : Prop :=
  True

def Pre_InxKIdeal (m : (ℓ : Loc Cert.InxKIdeal.nD Cert.InxKIdeal.τ Cert.InxKIdeal.sig) → Buf (Elt Ideal) ℓ) : Prop :=
  True

def Pre_InxRIdeal (m : (ℓ : Loc Cert.InxRIdeal.nD Cert.InxRIdeal.τ Cert.InxRIdeal.sig) → Buf (Elt Ideal) ℓ) : Prop :=
  True

def Pre_SguK (m : (ℓ : Loc Cert.SguK.nD Cert.SguK.τ Cert.SguK.sig) → Buf (Elt Bits) ℓ) : Prop :=
  True

def Pre_SguKIdeal (m : (ℓ : Loc Cert.SguKIdeal.nD Cert.SguKIdeal.τ Cert.SguKIdeal.sig) → Buf (Elt Ideal) ℓ) : Prop :=
  True

def Pre_SguKIdeal_finite_sgu [hPre_finite_sgu : Cert.Pre_finite_sgu.Facts] (m : (ℓ : Loc Cert.SguKIdeal.nD Cert.SguKIdeal.τ Cert.SguKIdeal.sig) → Buf (Elt Ideal) ℓ) : Prop :=
  ∀ c : Dev Cert.SguKIdeal.nD,
    (Cert.Pre_finite_sgu.fn (F := Ideal) (m ((c.tc : Thread Cert.SguKIdeal.nD Cert.SguKIdeal.τ).loc Cert.SguKIdeal.main_arg0)) (m ((c.tc : Thread Cert.SguKIdeal.nD Cert.SguKIdeal.τ).loc Cert.SguKIdeal.main_arg1)) (m ((c.tc : Thread Cert.SguKIdeal.nD Cert.SguKIdeal.τ).loc Cert.SguKIdeal.main_arg2)) (m ((c.tc : Thread Cert.SguKIdeal.nD Cert.SguKIdeal.τ).loc Cert.SguKIdeal.main_arg3)) (m ((c.tc : Thread Cert.SguKIdeal.nD Cert.SguKIdeal.τ).loc Cert.SguKIdeal.main_arg4)) (m ((c.tc : Thread Cert.SguKIdeal.nD Cert.SguKIdeal.τ).loc Cert.SguKIdeal.main_arg5)) (m ((c.tc : Thread Cert.SguKIdeal.nD Cert.SguKIdeal.τ).loc Cert.SguKIdeal.main_arg6))) = (fun _ => 1#1)

def Pre_SguRIdeal (m : (ℓ : Loc Cert.SguRIdeal.nD Cert.SguRIdeal.τ Cert.SguRIdeal.sig) → Buf (Elt Ideal) ℓ) : Prop :=
  True

def Pre_SguRIdeal_finite_sgu [hPre_finite_sgu : Cert.Pre_finite_sgu.Facts] (m : (ℓ : Loc Cert.SguRIdeal.nD Cert.SguRIdeal.τ Cert.SguRIdeal.sig) → Buf (Elt Ideal) ℓ) : Prop :=
  ∀ c : Dev Cert.SguRIdeal.nD,
    (Cert.Pre_finite_sgu.fn (F := Ideal) (m ((c.tc : Thread Cert.SguRIdeal.nD Cert.SguRIdeal.τ).loc Cert.SguRIdeal.main_arg0)) (m ((c.tc : Thread Cert.SguRIdeal.nD Cert.SguRIdeal.τ).loc Cert.SguRIdeal.main_arg1)) (m ((c.tc : Thread Cert.SguRIdeal.nD Cert.SguRIdeal.τ).loc Cert.SguRIdeal.main_arg2)) (m ((c.tc : Thread Cert.SguRIdeal.nD Cert.SguRIdeal.τ).loc Cert.SguRIdeal.main_arg3)) (m ((c.tc : Thread Cert.SguRIdeal.nD Cert.SguRIdeal.τ).loc Cert.SguRIdeal.main_arg4)) (m ((c.tc : Thread Cert.SguRIdeal.nD Cert.SguRIdeal.τ).loc Cert.SguRIdeal.main_arg5)) (m ((c.tc : Thread Cert.SguRIdeal.nD Cert.SguRIdeal.τ).loc Cert.SguRIdeal.main_arg6))) = (fun _ => 1#1)

def Pre_PleK (m : (ℓ : Loc Cert.PleK.nD Cert.PleK.τ Cert.PleK.sig) → Buf (Elt Bits) ℓ) : Prop :=
  True

def Pre_PleKIdeal (m : (ℓ : Loc Cert.PleKIdeal.nD Cert.PleKIdeal.τ Cert.PleKIdeal.sig) → Buf (Elt Ideal) ℓ) : Prop :=
  True

def Pre_PleRIdeal (m : (ℓ : Loc Cert.PleRIdeal.nD Cert.PleRIdeal.τ Cert.PleRIdeal.sig) → Buf (Elt Ideal) ℓ) : Prop :=
  True

def Pre_OconvK (m : (ℓ : Loc Cert.OconvK.nD Cert.OconvK.τ Cert.OconvK.sig) → Buf (Elt Bits) ℓ) : Prop :=
  True

def Pre_OconvKIdeal (m : (ℓ : Loc Cert.OconvKIdeal.nD Cert.OconvKIdeal.τ Cert.OconvKIdeal.sig) → Buf (Elt Ideal) ℓ) : Prop :=
  True

def Pre_OconvKIdeal_finite_oconv [hPre_finite_oconv : Cert.Pre_finite_oconv.Facts] (m : (ℓ : Loc Cert.OconvKIdeal.nD Cert.OconvKIdeal.τ Cert.OconvKIdeal.sig) → Buf (Elt Ideal) ℓ) : Prop :=
  ∀ c : Dev Cert.OconvKIdeal.nD,
    (Cert.Pre_finite_oconv.fn (F := Ideal) (m ((c.tc : Thread Cert.OconvKIdeal.nD Cert.OconvKIdeal.τ).loc Cert.OconvKIdeal.main_arg0)) (m ((c.tc : Thread Cert.OconvKIdeal.nD Cert.OconvKIdeal.τ).loc Cert.OconvKIdeal.main_arg1)) (m ((c.tc : Thread Cert.OconvKIdeal.nD Cert.OconvKIdeal.τ).loc Cert.OconvKIdeal.main_arg2)) (m ((c.tc : Thread Cert.OconvKIdeal.nD Cert.OconvKIdeal.τ).loc Cert.OconvKIdeal.main_arg3)) (m ((c.tc : Thread Cert.OconvKIdeal.nD Cert.OconvKIdeal.τ).loc Cert.OconvKIdeal.main_arg4)) (m ((c.tc : Thread Cert.OconvKIdeal.nD Cert.OconvKIdeal.τ).loc Cert.OconvKIdeal.main_arg5)) (m ((c.tc : Thread Cert.OconvKIdeal.nD Cert.OconvKIdeal.τ).loc Cert.OconvKIdeal.main_arg6))) = (fun _ => 1#1)

def Pre_OconvRIdeal (m : (ℓ : Loc Cert.OconvRIdeal.nD Cert.OconvRIdeal.τ Cert.OconvRIdeal.sig) → Buf (Elt Ideal) ℓ) : Prop :=
  True

def Pre_OconvRIdeal_finite_oconv [hPre_finite_oconv : Cert.Pre_finite_oconv.Facts] (m : (ℓ : Loc Cert.OconvRIdeal.nD Cert.OconvRIdeal.τ Cert.OconvRIdeal.sig) → Buf (Elt Ideal) ℓ) : Prop :=
  ∀ c : Dev Cert.OconvRIdeal.nD,
    (Cert.Pre_finite_oconv.fn (F := Ideal) (m ((c.tc : Thread Cert.OconvRIdeal.nD Cert.OconvRIdeal.τ).loc Cert.OconvRIdeal.main_arg0)) (m ((c.tc : Thread Cert.OconvRIdeal.nD Cert.OconvRIdeal.τ).loc Cert.OconvRIdeal.main_arg1)) (m ((c.tc : Thread Cert.OconvRIdeal.nD Cert.OconvRIdeal.τ).loc Cert.OconvRIdeal.main_arg2)) (m ((c.tc : Thread Cert.OconvRIdeal.nD Cert.OconvRIdeal.τ).loc Cert.OconvRIdeal.main_arg3)) (m ((c.tc : Thread Cert.OconvRIdeal.nD Cert.OconvRIdeal.τ).loc Cert.OconvRIdeal.main_arg4)) (m ((c.tc : Thread Cert.OconvRIdeal.nD Cert.OconvRIdeal.τ).loc Cert.OconvRIdeal.main_arg5)) (m ((c.tc : Thread Cert.OconvRIdeal.nD Cert.OconvRIdeal.τ).loc Cert.OconvRIdeal.main_arg6))) = (fun _ => 1#1)

def Pre_LsguK (m : (ℓ : Loc Cert.LsguK.nD Cert.LsguK.τ Cert.LsguK.sig) → Buf (Elt Bits) ℓ) : Prop :=
  True

def Pre_LsguKIdeal (m : (ℓ : Loc Cert.LsguKIdeal.nD Cert.LsguKIdeal.τ Cert.LsguKIdeal.sig) → Buf (Elt Ideal) ℓ) : Prop :=
  True

def Pre_LsguRIdeal (m : (ℓ : Loc Cert.LsguRIdeal.nD Cert.LsguRIdeal.τ Cert.LsguRIdeal.sig) → Buf (Elt Ideal) ℓ) : Prop :=
  True

def Pre_InwK (m : (ℓ : Loc Cert.InwK.nD Cert.InwK.τ Cert.InwK.sig) → Buf (Elt Bits) ℓ) : Prop :=
  True

def Pre_InwKIdeal (m : (ℓ : Loc Cert.InwKIdeal.nD Cert.InwKIdeal.τ Cert.InwKIdeal.sig) → Buf (Elt Ideal) ℓ) : Prop :=
  True

def Pre_InwRIdeal (m : (ℓ : Loc Cert.InwRIdeal.nD Cert.InwRIdeal.τ Cert.InwRIdeal.sig) → Buf (Elt Ideal) ℓ) : Prop :=
  True

def Pre_AdamK (m : (ℓ : Loc Cert.AdamK.nD Cert.AdamK.τ Cert.AdamK.sig) → Buf (Elt Bits) ℓ) : Prop :=
  True

def Pre_AdamKIdeal (m : (ℓ : Loc Cert.AdamKIdeal.nD Cert.AdamKIdeal.τ Cert.AdamKIdeal.sig) → Buf (Elt Ideal) ℓ) : Prop :=
  True

def Pre_AdamRIdeal (m : (ℓ : Loc Cert.AdamRIdeal.nD Cert.AdamRIdeal.τ Cert.AdamRIdeal.sig) → Buf (Elt Ideal) ℓ) : Prop :=
  True

def Pre_AdsK (m : (ℓ : Loc Cert.AdsK.nD Cert.AdsK.τ Cert.AdsK.sig) → Buf (Elt Bits) ℓ) : Prop :=
  True

def Pre_AdsKIdeal (m : (ℓ : Loc Cert.AdsKIdeal.nD Cert.AdsKIdeal.τ Cert.AdsKIdeal.sig) → Buf (Elt Ideal) ℓ) : Prop :=
  True

def Pre_AdsRIdeal (m : (ℓ : Loc Cert.AdsRIdeal.nD Cert.AdsRIdeal.τ Cert.AdsRIdeal.sig) → Buf (Elt Ideal) ℓ) : Prop :=
  True

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_InxK [hInxK : Cert.InxK.Facts] : Prop :=
  ∀ (m : (ℓ : Loc Cert.InxK.nD Cert.InxK.τ Cert.InxK.sig) → Buf (Elt Bits) ℓ) (g : Dev Cert.InxK.nD → PrngReg), Pre_InxK m →
    θ_run (Cert.InxK.defs (F := Bits)) (onTc (τ := Cert.InxK.τ) (Cert.InxK.main (F := Bits))) ⟨m, fun _ => 0, g⟩ (fun r => (∀ c : Dev Cert.InxK.nD,
      r.2.mem ((c.tc : Thread Cert.InxK.nD Cert.InxK.τ).loc Cert.InxK.main_arg0) = m ((c.tc : Thread Cert.InxK.nD Cert.InxK.τ).loc Cert.InxK.main_arg0)
      ∧ r.2.mem ((c.tc : Thread Cert.InxK.nD Cert.InxK.τ).loc Cert.InxK.main_arg1) = m ((c.tc : Thread Cert.InxK.nD Cert.InxK.τ).loc Cert.InxK.main_arg1)
      ∧ r.2.mem ((c.tc : Thread Cert.InxK.nD Cert.InxK.τ).loc Cert.InxK.main_arg2) = m ((c.tc : Thread Cert.InxK.nD Cert.InxK.τ).loc Cert.InxK.main_arg2)
      ∧ r.2.mem ((c.tc : Thread Cert.InxK.nD Cert.InxK.τ).loc Cert.InxK.main_arg3) = m ((c.tc : Thread Cert.InxK.nD Cert.InxK.τ).loc Cert.InxK.main_arg3)
      ∧ r.2.mem ((c.tc : Thread Cert.InxK.nD Cert.InxK.τ).loc Cert.InxK.main_arg4) = m ((c.tc : Thread Cert.InxK.nD Cert.InxK.τ).loc Cert.InxK.main_arg4))
      ∧ r.2.sem = fun _ => 0)

def quiescent_InxKIdeal [hInxKIdeal : Cert.InxKIdeal.Facts] : Prop :=
  ∀ (m : (ℓ : Loc Cert.InxKIdeal.nD Cert.InxKIdeal.τ Cert.InxKIdeal.sig) → Buf (Elt Ideal) ℓ) (g : Dev Cert.InxKIdeal.nD → PrngReg), Pre_InxKIdeal m →
    θ_run (Cert.InxKIdeal.defs (F := Ideal)) (onTc (τ := Cert.InxKIdeal.τ) (Cert.InxKIdeal.main (F := Ideal))) ⟨m, fun _ => 0, g⟩ (fun r => (∀ c : Dev Cert.InxKIdeal.nD,
      r.2.mem ((c.tc : Thread Cert.InxKIdeal.nD Cert.InxKIdeal.τ).loc Cert.InxKIdeal.main_arg0) = m ((c.tc : Thread Cert.InxKIdeal.nD Cert.InxKIdeal.τ).loc Cert.InxKIdeal.main_arg0)
      ∧ r.2.mem ((c.tc : Thread Cert.InxKIdeal.nD Cert.InxKIdeal.τ).loc Cert.InxKIdeal.main_arg1) = m ((c.tc : Thread Cert.InxKIdeal.nD Cert.InxKIdeal.τ).loc Cert.InxKIdeal.main_arg1)
      ∧ r.2.mem ((c.tc : Thread Cert.InxKIdeal.nD Cert.InxKIdeal.τ).loc Cert.InxKIdeal.main_arg2) = m ((c.tc : Thread Cert.InxKIdeal.nD Cert.InxKIdeal.τ).loc Cert.InxKIdeal.main_arg2)
      ∧ r.2.mem ((c.tc : Thread Cert.InxKIdeal.nD Cert.InxKIdeal.τ).loc Cert.InxKIdeal.main_arg3) = m ((c.tc : Thread Cert.InxKIdeal.nD Cert.InxKIdeal.τ).loc Cert.InxKIdeal.main_arg3)
      ∧ r.2.mem ((c.tc : Thread Cert.InxKIdeal.nD Cert.InxKIdeal.τ).loc Cert.InxKIdeal.main_arg4) = m ((c.tc : Thread Cert.InxKIdeal.nD Cert.InxKIdeal.τ).loc Cert.InxKIdeal.main_arg4))
      ∧ r.2.sem = fun _ => 0)

def quiescent_InxRIdeal [hInxRIdeal : Cert.InxRIdeal.Facts] : Prop :=
  ∀ (m : (ℓ : Loc Cert.InxRIdeal.nD Cert.InxRIdeal.τ Cert.InxRIdeal.sig) → Buf (Elt Ideal) ℓ) (g : Dev Cert.InxRIdeal.nD → PrngReg), Pre_InxRIdeal m →
    θ_run (Cert.InxRIdeal.defs (F := Ideal)) (onTc (τ := Cert.InxRIdeal.τ) (Cert.InxRIdeal.main (F := Ideal))) ⟨m, fun _ => 0, g⟩ (fun r => (∀ c : Dev Cert.InxRIdeal.nD,
      r.2.mem ((c.tc : Thread Cert.InxRIdeal.nD Cert.InxRIdeal.τ).loc Cert.InxRIdeal.main_arg0) = m ((c.tc : Thread Cert.InxRIdeal.nD Cert.InxRIdeal.τ).loc Cert.InxRIdeal.main_arg0)
      ∧ r.2.mem ((c.tc : Thread Cert.InxRIdeal.nD Cert.InxRIdeal.τ).loc Cert.InxRIdeal.main_arg1) = m ((c.tc : Thread Cert.InxRIdeal.nD Cert.InxRIdeal.τ).loc Cert.InxRIdeal.main_arg1)
      ∧ r.2.mem ((c.tc : Thread Cert.InxRIdeal.nD Cert.InxRIdeal.τ).loc Cert.InxRIdeal.main_arg2) = m ((c.tc : Thread Cert.InxRIdeal.nD Cert.InxRIdeal.τ).loc Cert.InxRIdeal.main_arg2)
      ∧ r.2.mem ((c.tc : Thread Cert.InxRIdeal.nD Cert.InxRIdeal.τ).loc Cert.InxRIdeal.main_arg3) = m ((c.tc : Thread Cert.InxRIdeal.nD Cert.InxRIdeal.τ).loc Cert.InxRIdeal.main_arg3)
      ∧ r.2.mem ((c.tc : Thread Cert.InxRIdeal.nD Cert.InxRIdeal.τ).loc Cert.InxRIdeal.main_arg4) = m ((c.tc : Thread Cert.InxRIdeal.nD Cert.InxRIdeal.τ).loc Cert.InxRIdeal.main_arg4))
      ∧ r.2.sem = fun _ => 0)

def quiescent_SguK [hSguK : Cert.SguK.Facts] : Prop :=
  ∀ (m : (ℓ : Loc Cert.SguK.nD Cert.SguK.τ Cert.SguK.sig) → Buf (Elt Bits) ℓ) (g : Dev Cert.SguK.nD → PrngReg), Pre_SguK m →
    θ_run (Cert.SguK.defs (F := Bits)) (onTc (τ := Cert.SguK.τ) (Cert.SguK.main (F := Bits))) ⟨m, fun _ => 0, g⟩ (fun r => (∀ c : Dev Cert.SguK.nD,
      r.2.mem ((c.tc : Thread Cert.SguK.nD Cert.SguK.τ).loc Cert.SguK.main_arg0) = m ((c.tc : Thread Cert.SguK.nD Cert.SguK.τ).loc Cert.SguK.main_arg0)
      ∧ r.2.mem ((c.tc : Thread Cert.SguK.nD Cert.SguK.τ).loc Cert.SguK.main_arg1) = m ((c.tc : Thread Cert.SguK.nD Cert.SguK.τ).loc Cert.SguK.main_arg1)
      ∧ r.2.mem ((c.tc : Thread Cert.SguK.nD Cert.SguK.τ).loc Cert.SguK.main_arg2) = m ((c.tc : Thread Cert.SguK.nD Cert.SguK.τ).loc Cert.SguK.main_arg2)
      ∧ r.2.mem ((c.tc : Thread Cert.SguK.nD Cert.SguK.τ).loc Cert.SguK.main_arg3) = m ((c.tc : Thread Cert.SguK.nD Cert.SguK.τ).loc Cert.SguK.main_arg3)
      ∧ r.2.mem ((c.tc : Thread Cert.SguK.nD Cert.SguK.τ).loc Cert.SguK.main_arg4) = m ((c.tc : Thread Cert.SguK.nD Cert.SguK.τ).loc Cert.SguK.main_arg4)
      ∧ r.2.mem ((c.tc : Thread Cert.SguK.nD Cert.SguK.τ).loc Cert.SguK.main_arg5) = m ((c.tc : Thread Cert.SguK.nD Cert.SguK.τ).loc Cert.SguK.main_arg5)
      ∧ r.2.mem ((c.tc : Thread Cert.SguK.nD Cert.SguK.τ).loc Cert.SguK.main_arg6) = m ((c.tc : Thread Cert.SguK.nD Cert.SguK.τ).loc Cert.SguK.main_arg6))
      ∧ r.2.sem = fun _ => 0)

def quiescent_SguKIdeal [hSguKIdeal : Cert.SguKIdeal.Facts] : Prop :=
  ∀ (m : (ℓ : Loc Cert.SguKIdeal.nD Cert.SguKIdeal.τ Cert.SguKIdeal.sig) → Buf (Elt Ideal) ℓ) (g : Dev Cert.SguKIdeal.nD → PrngReg), Pre_SguKIdeal m →
    θ_run (Cert.SguKIdeal.defs (F := Ideal)) (onTc (τ := Cert.SguKIdeal.τ) (Cert.SguKIdeal.main (F := Ideal))) ⟨m, fun _ => 0, g⟩ (fun r => (∀ c : Dev Cert.SguKIdeal.nD,
      r.2.mem ((c.tc : Thread Cert.SguKIdeal.nD Cert.SguKIdeal.τ).loc Cert.SguKIdeal.main_arg0) = m ((c.tc : Thread Cert.SguKIdeal.nD Cert.SguKIdeal.τ).loc Cert.SguKIdeal.main_arg0)
      ∧ r.2.mem ((c.tc : Thread Cert.SguKIdeal.nD Cert.SguKIdeal.τ).loc Cert.SguKIdeal.main_arg1) = m ((c.tc : Thread Cert.SguKIdeal.nD Cert.SguKIdeal.τ).loc Cert.SguKIdeal.main_arg1)
      ∧ r.2.mem ((c.tc : Thread Cert.SguKIdeal.nD Cert.SguKIdeal.τ).loc Cert.SguKIdeal.main_arg2) = m ((c.tc : Thread Cert.SguKIdeal.nD Cert.SguKIdeal.τ).loc Cert.SguKIdeal.main_arg2)
      ∧ r.2.mem ((c.tc : Thread Cert.SguKIdeal.nD Cert.SguKIdeal.τ).loc Cert.SguKIdeal.main_arg3) = m ((c.tc : Thread Cert.SguKIdeal.nD Cert.SguKIdeal.τ).loc Cert.SguKIdeal.main_arg3)
      ∧ r.2.mem ((c.tc : Thread Cert.SguKIdeal.nD Cert.SguKIdeal.τ).loc Cert.SguKIdeal.main_arg4) = m ((c.tc : Thread Cert.SguKIdeal.nD Cert.SguKIdeal.τ).loc Cert.SguKIdeal.main_arg4)
      ∧ r.2.mem ((c.tc : Thread Cert.SguKIdeal.nD Cert.SguKIdeal.τ).loc Cert.SguKIdeal.main_arg5) = m ((c.tc : Thread Cert.SguKIdeal.nD Cert.SguKIdeal.τ).loc Cert.SguKIdeal.main_arg5)
      ∧ r.2.mem ((c.tc : Thread Cert.SguKIdeal.nD Cert.SguKIdeal.τ).loc Cert.SguKIdeal.main_arg6) = m ((c.tc : Thread Cert.SguKIdeal.nD Cert.SguKIdeal.τ).loc Cert.SguKIdeal.main_arg6))
      ∧ r.2.sem = fun _ => 0)

def quiescent_SguKIdeal_pre_finite_sgu [hSguKIdeal : Cert.SguKIdeal.Facts] [hPre_finite_sgu : Cert.Pre_finite_sgu.Facts] : Prop :=
  ∀ (m : (ℓ : Loc Cert.SguKIdeal.nD Cert.SguKIdeal.τ Cert.SguKIdeal.sig) → Buf (Elt Ideal) ℓ) (g : Dev Cert.SguKIdeal.nD → PrngReg), Pre_SguKIdeal_finite_sgu m →
    θ_run (Cert.SguKIdeal.defs (F := Ideal)) (onTc (τ := Cert.SguKIdeal.τ) (Cert.SguKIdeal.main (F := Ideal))) ⟨m, fun _ => 0, g⟩ (fun r => (∀ c : Dev Cert.SguKIdeal.nD,
      r.2.mem ((c.tc : Thread Cert.SguKIdeal.nD Cert.SguKIdeal.τ).loc Cert.SguKIdeal.main_arg0) = m ((c.tc : Thread Cert.SguKIdeal.nD Cert.SguKIdeal.τ).loc Cert.SguKIdeal.main_arg0)
      ∧ r.2.mem ((c.tc : Thread Cert.SguKIdeal.nD Cert.SguKIdeal.τ).loc Cert.SguKIdeal.main_arg1) = m ((c.tc : Thread Cert.SguKIdeal.nD Cert.SguKIdeal.τ).loc Cert.SguKIdeal.main_arg1)
      ∧ r.2.mem ((c.tc : Thread Cert.SguKIdeal.nD Cert.SguKIdeal.τ).loc Cert.SguKIdeal.main_arg2) = m ((c.tc : Thread Cert.SguKIdeal.nD Cert.SguKIdeal.τ).loc Cert.SguKIdeal.main_arg2)
      ∧ r.2.mem ((c.tc : Thread Cert.SguKIdeal.nD Cert.SguKIdeal.τ).loc Cert.SguKIdeal.main_arg3) = m ((c.tc : Thread Cert.SguKIdeal.nD Cert.SguKIdeal.τ).loc Cert.SguKIdeal.main_arg3)
      ∧ r.2.mem ((c.tc : Thread Cert.SguKIdeal.nD Cert.SguKIdeal.τ).loc Cert.SguKIdeal.main_arg4) = m ((c.tc : Thread Cert.SguKIdeal.nD Cert.SguKIdeal.τ).loc Cert.SguKIdeal.main_arg4)
      ∧ r.2.mem ((c.tc : Thread Cert.SguKIdeal.nD Cert.SguKIdeal.τ).loc Cert.SguKIdeal.main_arg5) = m ((c.tc : Thread Cert.SguKIdeal.nD Cert.SguKIdeal.τ).loc Cert.SguKIdeal.main_arg5)
      ∧ r.2.mem ((c.tc : Thread Cert.SguKIdeal.nD Cert.SguKIdeal.τ).loc Cert.SguKIdeal.main_arg6) = m ((c.tc : Thread Cert.SguKIdeal.nD Cert.SguKIdeal.τ).loc Cert.SguKIdeal.main_arg6))
      ∧ r.2.sem = fun _ => 0)

def quiescent_SguRIdeal [hSguRIdeal : Cert.SguRIdeal.Facts] : Prop :=
  ∀ (m : (ℓ : Loc Cert.SguRIdeal.nD Cert.SguRIdeal.τ Cert.SguRIdeal.sig) → Buf (Elt Ideal) ℓ) (g : Dev Cert.SguRIdeal.nD → PrngReg), Pre_SguRIdeal m →
    θ_run (Cert.SguRIdeal.defs (F := Ideal)) (onTc (τ := Cert.SguRIdeal.τ) (Cert.SguRIdeal.main (F := Ideal))) ⟨m, fun _ => 0, g⟩ (fun r => (∀ c : Dev Cert.SguRIdeal.nD,
      r.2.mem ((c.tc : Thread Cert.SguRIdeal.nD Cert.SguRIdeal.τ).loc Cert.SguRIdeal.main_arg0) = m ((c.tc : Thread Cert.SguRIdeal.nD Cert.SguRIdeal.τ).loc Cert.SguRIdeal.main_arg0)
      ∧ r.2.mem ((c.tc : Thread Cert.SguRIdeal.nD Cert.SguRIdeal.τ).loc Cert.SguRIdeal.main_arg1) = m ((c.tc : Thread Cert.SguRIdeal.nD Cert.SguRIdeal.τ).loc Cert.SguRIdeal.main_arg1)
      ∧ r.2.mem ((c.tc : Thread Cert.SguRIdeal.nD Cert.SguRIdeal.τ).loc Cert.SguRIdeal.main_arg2) = m ((c.tc : Thread Cert.SguRIdeal.nD Cert.SguRIdeal.τ).loc Cert.SguRIdeal.main_arg2)
      ∧ r.2.mem ((c.tc : Thread Cert.SguRIdeal.nD Cert.SguRIdeal.τ).loc Cert.SguRIdeal.main_arg3) = m ((c.tc : Thread Cert.SguRIdeal.nD Cert.SguRIdeal.τ).loc Cert.SguRIdeal.main_arg3)
      ∧ r.2.mem ((c.tc : Thread Cert.SguRIdeal.nD Cert.SguRIdeal.τ).loc Cert.SguRIdeal.main_arg4) = m ((c.tc : Thread Cert.SguRIdeal.nD Cert.SguRIdeal.τ).loc Cert.SguRIdeal.main_arg4)
      ∧ r.2.mem ((c.tc : Thread Cert.SguRIdeal.nD Cert.SguRIdeal.τ).loc Cert.SguRIdeal.main_arg5) = m ((c.tc : Thread Cert.SguRIdeal.nD Cert.SguRIdeal.τ).loc Cert.SguRIdeal.main_arg5)
      ∧ r.2.mem ((c.tc : Thread Cert.SguRIdeal.nD Cert.SguRIdeal.τ).loc Cert.SguRIdeal.main_arg6) = m ((c.tc : Thread Cert.SguRIdeal.nD Cert.SguRIdeal.τ).loc Cert.SguRIdeal.main_arg6))
      ∧ r.2.sem = fun _ => 0)

def quiescent_SguRIdeal_pre_finite_sgu [hSguRIdeal : Cert.SguRIdeal.Facts] [hPre_finite_sgu : Cert.Pre_finite_sgu.Facts] : Prop :=
  ∀ (m : (ℓ : Loc Cert.SguRIdeal.nD Cert.SguRIdeal.τ Cert.SguRIdeal.sig) → Buf (Elt Ideal) ℓ) (g : Dev Cert.SguRIdeal.nD → PrngReg), Pre_SguRIdeal_finite_sgu m →
    θ_run (Cert.SguRIdeal.defs (F := Ideal)) (onTc (τ := Cert.SguRIdeal.τ) (Cert.SguRIdeal.main (F := Ideal))) ⟨m, fun _ => 0, g⟩ (fun r => (∀ c : Dev Cert.SguRIdeal.nD,
      r.2.mem ((c.tc : Thread Cert.SguRIdeal.nD Cert.SguRIdeal.τ).loc Cert.SguRIdeal.main_arg0) = m ((c.tc : Thread Cert.SguRIdeal.nD Cert.SguRIdeal.τ).loc Cert.SguRIdeal.main_arg0)
      ∧ r.2.mem ((c.tc : Thread Cert.SguRIdeal.nD Cert.SguRIdeal.τ).loc Cert.SguRIdeal.main_arg1) = m ((c.tc : Thread Cert.SguRIdeal.nD Cert.SguRIdeal.τ).loc Cert.SguRIdeal.main_arg1)
      ∧ r.2.mem ((c.tc : Thread Cert.SguRIdeal.nD Cert.SguRIdeal.τ).loc Cert.SguRIdeal.main_arg2) = m ((c.tc : Thread Cert.SguRIdeal.nD Cert.SguRIdeal.τ).loc Cert.SguRIdeal.main_arg2)
      ∧ r.2.mem ((c.tc : Thread Cert.SguRIdeal.nD Cert.SguRIdeal.τ).loc Cert.SguRIdeal.main_arg3) = m ((c.tc : Thread Cert.SguRIdeal.nD Cert.SguRIdeal.τ).loc Cert.SguRIdeal.main_arg3)
      ∧ r.2.mem ((c.tc : Thread Cert.SguRIdeal.nD Cert.SguRIdeal.τ).loc Cert.SguRIdeal.main_arg4) = m ((c.tc : Thread Cert.SguRIdeal.nD Cert.SguRIdeal.τ).loc Cert.SguRIdeal.main_arg4)
      ∧ r.2.mem ((c.tc : Thread Cert.SguRIdeal.nD Cert.SguRIdeal.τ).loc Cert.SguRIdeal.main_arg5) = m ((c.tc : Thread Cert.SguRIdeal.nD Cert.SguRIdeal.τ).loc Cert.SguRIdeal.main_arg5)
      ∧ r.2.mem ((c.tc : Thread Cert.SguRIdeal.nD Cert.SguRIdeal.τ).loc Cert.SguRIdeal.main_arg6) = m ((c.tc : Thread Cert.SguRIdeal.nD Cert.SguRIdeal.τ).loc Cert.SguRIdeal.main_arg6))
      ∧ r.2.sem = fun _ => 0)

def quiescent_PleK [hPleK : Cert.PleK.Facts] : Prop :=
  ∀ (m : (ℓ : Loc Cert.PleK.nD Cert.PleK.τ Cert.PleK.sig) → Buf (Elt Bits) ℓ) (g : Dev Cert.PleK.nD → PrngReg), Pre_PleK m →
    θ_run (Cert.PleK.defs (F := Bits)) (onTc (τ := Cert.PleK.τ) (Cert.PleK.main (F := Bits))) ⟨m, fun _ => 0, g⟩ (fun r => (∀ c : Dev Cert.PleK.nD,
      r.2.mem ((c.tc : Thread Cert.PleK.nD Cert.PleK.τ).loc Cert.PleK.main_arg0) = m ((c.tc : Thread Cert.PleK.nD Cert.PleK.τ).loc Cert.PleK.main_arg0)
      ∧ r.2.mem ((c.tc : Thread Cert.PleK.nD Cert.PleK.τ).loc Cert.PleK.main_arg1) = m ((c.tc : Thread Cert.PleK.nD Cert.PleK.τ).loc Cert.PleK.main_arg1)
      ∧ r.2.mem ((c.tc : Thread Cert.PleK.nD Cert.PleK.τ).loc Cert.PleK.main_arg2) = m ((c.tc : Thread Cert.PleK.nD Cert.PleK.τ).loc Cert.PleK.main_arg2)
      ∧ r.2.mem ((c.tc : Thread Cert.PleK.nD Cert.PleK.τ).loc Cert.PleK.main_arg3) = m ((c.tc : Thread Cert.PleK.nD Cert.PleK.τ).loc Cert.PleK.main_arg3)
      ∧ r.2.mem ((c.tc : Thread Cert.PleK.nD Cert.PleK.τ).loc Cert.PleK.main_arg4) = m ((c.tc : Thread Cert.PleK.nD Cert.PleK.τ).loc Cert.PleK.main_arg4)
      ∧ r.2.mem ((c.tc : Thread Cert.PleK.nD Cert.PleK.τ).loc Cert.PleK.main_arg5) = m ((c.tc : Thread Cert.PleK.nD Cert.PleK.τ).loc Cert.PleK.main_arg5))
      ∧ r.2.sem = fun _ => 0)

def quiescent_PleKIdeal [hPleKIdeal : Cert.PleKIdeal.Facts] : Prop :=
  ∀ (m : (ℓ : Loc Cert.PleKIdeal.nD Cert.PleKIdeal.τ Cert.PleKIdeal.sig) → Buf (Elt Ideal) ℓ) (g : Dev Cert.PleKIdeal.nD → PrngReg), Pre_PleKIdeal m →
    θ_run (Cert.PleKIdeal.defs (F := Ideal)) (onTc (τ := Cert.PleKIdeal.τ) (Cert.PleKIdeal.main (F := Ideal))) ⟨m, fun _ => 0, g⟩ (fun r => (∀ c : Dev Cert.PleKIdeal.nD,
      r.2.mem ((c.tc : Thread Cert.PleKIdeal.nD Cert.PleKIdeal.τ).loc Cert.PleKIdeal.main_arg0) = m ((c.tc : Thread Cert.PleKIdeal.nD Cert.PleKIdeal.τ).loc Cert.PleKIdeal.main_arg0)
      ∧ r.2.mem ((c.tc : Thread Cert.PleKIdeal.nD Cert.PleKIdeal.τ).loc Cert.PleKIdeal.main_arg1) = m ((c.tc : Thread Cert.PleKIdeal.nD Cert.PleKIdeal.τ).loc Cert.PleKIdeal.main_arg1)
      ∧ r.2.mem ((c.tc : Thread Cert.PleKIdeal.nD Cert.PleKIdeal.τ).loc Cert.PleKIdeal.main_arg2) = m ((c.tc : Thread Cert.PleKIdeal.nD Cert.PleKIdeal.τ).loc Cert.PleKIdeal.main_arg2)
      ∧ r.2.mem ((c.tc : Thread Cert.PleKIdeal.nD Cert.PleKIdeal.τ).loc Cert.PleKIdeal.main_arg3) = m ((c.tc : Thread Cert.PleKIdeal.nD Cert.PleKIdeal.τ).loc Cert.PleKIdeal.main_arg3)
      ∧ r.2.mem ((c.tc : Thread Cert.PleKIdeal.nD Cert.PleKIdeal.τ).loc Cert.PleKIdeal.main_arg4) = m ((c.tc : Thread Cert.PleKIdeal.nD Cert.PleKIdeal.τ).loc Cert.PleKIdeal.main_arg4)
      ∧ r.2.mem ((c.tc : Thread Cert.PleKIdeal.nD Cert.PleKIdeal.τ).loc Cert.PleKIdeal.main_arg5) = m ((c.tc : Thread Cert.PleKIdeal.nD Cert.PleKIdeal.τ).loc Cert.PleKIdeal.main_arg5))
      ∧ r.2.sem = fun _ => 0)

def quiescent_PleRIdeal [hPleRIdeal : Cert.PleRIdeal.Facts] : Prop :=
  ∀ (m : (ℓ : Loc Cert.PleRIdeal.nD Cert.PleRIdeal.τ Cert.PleRIdeal.sig) → Buf (Elt Ideal) ℓ) (g : Dev Cert.PleRIdeal.nD → PrngReg), Pre_PleRIdeal m →
    θ_run (Cert.PleRIdeal.defs (F := Ideal)) (onTc (τ := Cert.PleRIdeal.τ) (Cert.PleRIdeal.main (F := Ideal))) ⟨m, fun _ => 0, g⟩ (fun r => (∀ c : Dev Cert.PleRIdeal.nD,
      r.2.mem ((c.tc : Thread Cert.PleRIdeal.nD Cert.PleRIdeal.τ).loc Cert.PleRIdeal.main_arg0) = m ((c.tc : Thread Cert.PleRIdeal.nD Cert.PleRIdeal.τ).loc Cert.PleRIdeal.main_arg0)
      ∧ r.2.mem ((c.tc : Thread Cert.PleRIdeal.nD Cert.PleRIdeal.τ).loc Cert.PleRIdeal.main_arg1) = m ((c.tc : Thread Cert.PleRIdeal.nD Cert.PleRIdeal.τ).loc Cert.PleRIdeal.main_arg1)
      ∧ r.2.mem ((c.tc : Thread Cert.PleRIdeal.nD Cert.PleRIdeal.τ).loc Cert.PleRIdeal.main_arg2) = m ((c.tc : Thread Cert.PleRIdeal.nD Cert.PleRIdeal.τ).loc Cert.PleRIdeal.main_arg2)
      ∧ r.2.mem ((c.tc : Thread Cert.PleRIdeal.nD Cert.PleRIdeal.τ).loc Cert.PleRIdeal.main_arg3) = m ((c.tc : Thread Cert.PleRIdeal.nD Cert.PleRIdeal.τ).loc Cert.PleRIdeal.main_arg3)
      ∧ r.2.mem ((c.tc : Thread Cert.PleRIdeal.nD Cert.PleRIdeal.τ).loc Cert.PleRIdeal.main_arg4) = m ((c.tc : Thread Cert.PleRIdeal.nD Cert.PleRIdeal.τ).loc Cert.PleRIdeal.main_arg4)
      ∧ r.2.mem ((c.tc : Thread Cert.PleRIdeal.nD Cert.PleRIdeal.τ).loc Cert.PleRIdeal.main_arg5) = m ((c.tc : Thread Cert.PleRIdeal.nD Cert.PleRIdeal.τ).loc Cert.PleRIdeal.main_arg5))
      ∧ r.2.sem = fun _ => 0)

def quiescent_OconvK [hOconvK : Cert.OconvK.Facts] : Prop :=
  ∀ (m : (ℓ : Loc Cert.OconvK.nD Cert.OconvK.τ Cert.OconvK.sig) → Buf (Elt Bits) ℓ) (g : Dev Cert.OconvK.nD → PrngReg), Pre_OconvK m →
    θ_run (Cert.OconvK.defs (F := Bits)) (onTc (τ := Cert.OconvK.τ) (Cert.OconvK.main (F := Bits))) ⟨m, fun _ => 0, g⟩ (fun r => (∀ c : Dev Cert.OconvK.nD,
      r.2.mem ((c.tc : Thread Cert.OconvK.nD Cert.OconvK.τ).loc Cert.OconvK.main_arg0) = m ((c.tc : Thread Cert.OconvK.nD Cert.OconvK.τ).loc Cert.OconvK.main_arg0)
      ∧ r.2.mem ((c.tc : Thread Cert.OconvK.nD Cert.OconvK.τ).loc Cert.OconvK.main_arg1) = m ((c.tc : Thread Cert.OconvK.nD Cert.OconvK.τ).loc Cert.OconvK.main_arg1)
      ∧ r.2.mem ((c.tc : Thread Cert.OconvK.nD Cert.OconvK.τ).loc Cert.OconvK.main_arg2) = m ((c.tc : Thread Cert.OconvK.nD Cert.OconvK.τ).loc Cert.OconvK.main_arg2)
      ∧ r.2.mem ((c.tc : Thread Cert.OconvK.nD Cert.OconvK.τ).loc Cert.OconvK.main_arg3) = m ((c.tc : Thread Cert.OconvK.nD Cert.OconvK.τ).loc Cert.OconvK.main_arg3)
      ∧ r.2.mem ((c.tc : Thread Cert.OconvK.nD Cert.OconvK.τ).loc Cert.OconvK.main_arg4) = m ((c.tc : Thread Cert.OconvK.nD Cert.OconvK.τ).loc Cert.OconvK.main_arg4)
      ∧ r.2.mem ((c.tc : Thread Cert.OconvK.nD Cert.OconvK.τ).loc Cert.OconvK.main_arg5) = m ((c.tc : Thread Cert.OconvK.nD Cert.OconvK.τ).loc Cert.OconvK.main_arg5)
      ∧ r.2.mem ((c.tc : Thread Cert.OconvK.nD Cert.OconvK.τ).loc Cert.OconvK.main_arg6) = m ((c.tc : Thread Cert.OconvK.nD Cert.OconvK.τ).loc Cert.OconvK.main_arg6))
      ∧ r.2.sem = fun _ => 0)

def quiescent_OconvKIdeal [hOconvKIdeal : Cert.OconvKIdeal.Facts] : Prop :=
  ∀ (m : (ℓ : Loc Cert.OconvKIdeal.nD Cert.OconvKIdeal.τ Cert.OconvKIdeal.sig) → Buf (Elt Ideal) ℓ) (g : Dev Cert.OconvKIdeal.nD → PrngReg), Pre_OconvKIdeal m →
    θ_run (Cert.OconvKIdeal.defs (F := Ideal)) (onTc (τ := Cert.OconvKIdeal.τ) (Cert.OconvKIdeal.main (F := Ideal))) ⟨m, fun _ => 0, g⟩ (fun r => (∀ c : Dev Cert.OconvKIdeal.nD,
      r.2.mem ((c.tc : Thread Cert.OconvKIdeal.nD Cert.OconvKIdeal.τ).loc Cert.OconvKIdeal.main_arg0) = m ((c.tc : Thread Cert.OconvKIdeal.nD Cert.OconvKIdeal.τ).loc Cert.OconvKIdeal.main_arg0)
      ∧ r.2.mem ((c.tc : Thread Cert.OconvKIdeal.nD Cert.OconvKIdeal.τ).loc Cert.OconvKIdeal.main_arg1) = m ((c.tc : Thread Cert.OconvKIdeal.nD Cert.OconvKIdeal.τ).loc Cert.OconvKIdeal.main_arg1)
      ∧ r.2.mem ((c.tc : Thread Cert.OconvKIdeal.nD Cert.OconvKIdeal.τ).loc Cert.OconvKIdeal.main_arg2) = m ((c.tc : Thread Cert.OconvKIdeal.nD Cert.OconvKIdeal.τ).loc Cert.OconvKIdeal.main_arg2)
      ∧ r.2.mem ((c.tc : Thread Cert.OconvKIdeal.nD Cert.OconvKIdeal.τ).loc Cert.OconvKIdeal.main_arg3) = m ((c.tc : Thread Cert.OconvKIdeal.nD Cert.OconvKIdeal.τ).loc Cert.OconvKIdeal.main_arg3)
      ∧ r.2.mem ((c.tc : Thread Cert.OconvKIdeal.nD Cert.OconvKIdeal.τ).loc Cert.OconvKIdeal.main_arg4) = m ((c.tc : Thread Cert.OconvKIdeal.nD Cert.OconvKIdeal.τ).loc Cert.OconvKIdeal.main_arg4)
      ∧ r.2.mem ((c.tc : Thread Cert.OconvKIdeal.nD Cert.OconvKIdeal.τ).loc Cert.OconvKIdeal.main_arg5) = m ((c.tc : Thread Cert.OconvKIdeal.nD Cert.OconvKIdeal.τ).loc Cert.OconvKIdeal.main_arg5)
      ∧ r.2.mem ((c.tc : Thread Cert.OconvKIdeal.nD Cert.OconvKIdeal.τ).loc Cert.OconvKIdeal.main_arg6) = m ((c.tc : Thread Cert.OconvKIdeal.nD Cert.OconvKIdeal.τ).loc Cert.OconvKIdeal.main_arg6))
      ∧ r.2.sem = fun _ => 0)

def quiescent_OconvKIdeal_pre_finite_oconv [hOconvKIdeal : Cert.OconvKIdeal.Facts] [hPre_finite_oconv : Cert.Pre_finite_oconv.Facts] : Prop :=
  ∀ (m : (ℓ : Loc Cert.OconvKIdeal.nD Cert.OconvKIdeal.τ Cert.OconvKIdeal.sig) → Buf (Elt Ideal) ℓ) (g : Dev Cert.OconvKIdeal.nD → PrngReg), Pre_OconvKIdeal_finite_oconv m →
    θ_run (Cert.OconvKIdeal.defs (F := Ideal)) (onTc (τ := Cert.OconvKIdeal.τ) (Cert.OconvKIdeal.main (F := Ideal))) ⟨m, fun _ => 0, g⟩ (fun r => (∀ c : Dev Cert.OconvKIdeal.nD,
      r.2.mem ((c.tc : Thread Cert.OconvKIdeal.nD Cert.OconvKIdeal.τ).loc Cert.OconvKIdeal.main_arg0) = m ((c.tc : Thread Cert.OconvKIdeal.nD Cert.OconvKIdeal.τ).loc Cert.OconvKIdeal.main_arg0)
      ∧ r.2.mem ((c.tc : Thread Cert.OconvKIdeal.nD Cert.OconvKIdeal.τ).loc Cert.OconvKIdeal.main_arg1) = m ((c.tc : Thread Cert.OconvKIdeal.nD Cert.OconvKIdeal.τ).loc Cert.OconvKIdeal.main_arg1)
      ∧ r.2.mem ((c.tc : Thread Cert.OconvKIdeal.nD Cert.OconvKIdeal.τ).loc Cert.OconvKIdeal.main_arg2) = m ((c.tc : Thread Cert.OconvKIdeal.nD Cert.OconvKIdeal.τ).loc Cert.OconvKIdeal.main_arg2)
      ∧ r.2.mem ((c.tc : Thread Cert.OconvKIdeal.nD Cert.OconvKIdeal.τ).loc Cert.OconvKIdeal.main_arg3) = m ((c.tc : Thread Cert.OconvKIdeal.nD Cert.OconvKIdeal.τ).loc Cert.OconvKIdeal.main_arg3)
      ∧ r.2.mem ((c.tc : Thread Cert.OconvKIdeal.nD Cert.OconvKIdeal.τ).loc Cert.OconvKIdeal.main_arg4) = m ((c.tc : Thread Cert.OconvKIdeal.nD Cert.OconvKIdeal.τ).loc Cert.OconvKIdeal.main_arg4)
      ∧ r.2.mem ((c.tc : Thread Cert.OconvKIdeal.nD Cert.OconvKIdeal.τ).loc Cert.OconvKIdeal.main_arg5) = m ((c.tc : Thread Cert.OconvKIdeal.nD Cert.OconvKIdeal.τ).loc Cert.OconvKIdeal.main_arg5)
      ∧ r.2.mem ((c.tc : Thread Cert.OconvKIdeal.nD Cert.OconvKIdeal.τ).loc Cert.OconvKIdeal.main_arg6) = m ((c.tc : Thread Cert.OconvKIdeal.nD Cert.OconvKIdeal.τ).loc Cert.OconvKIdeal.main_arg6))
      ∧ r.2.sem = fun _ => 0)

def quiescent_OconvRIdeal [hOconvRIdeal : Cert.OconvRIdeal.Facts] : Prop :=
  ∀ (m : (ℓ : Loc Cert.OconvRIdeal.nD Cert.OconvRIdeal.τ Cert.OconvRIdeal.sig) → Buf (Elt Ideal) ℓ) (g : Dev Cert.OconvRIdeal.nD → PrngReg), Pre_OconvRIdeal m →
    θ_run (Cert.OconvRIdeal.defs (F := Ideal)) (onTc (τ := Cert.OconvRIdeal.τ) (Cert.OconvRIdeal.main (F := Ideal))) ⟨m, fun _ => 0, g⟩ (fun r => (∀ c : Dev Cert.OconvRIdeal.nD,
      r.2.mem ((c.tc : Thread Cert.OconvRIdeal.nD Cert.OconvRIdeal.τ).loc Cert.OconvRIdeal.main_arg0) = m ((c.tc : Thread Cert.OconvRIdeal.nD Cert.OconvRIdeal.τ).loc Cert.OconvRIdeal.main_arg0)
      ∧ r.2.mem ((c.tc : Thread Cert.OconvRIdeal.nD Cert.OconvRIdeal.τ).loc Cert.OconvRIdeal.main_arg1) = m ((c.tc : Thread Cert.OconvRIdeal.nD Cert.OconvRIdeal.τ).loc Cert.OconvRIdeal.main_arg1)
      ∧ r.2.mem ((c.tc : Thread Cert.OconvRIdeal.nD Cert.OconvRIdeal.τ).loc Cert.OconvRIdeal.main_arg2) = m ((c.tc : Thread Cert.OconvRIdeal.nD Cert.OconvRIdeal.τ).loc Cert.OconvRIdeal.main_arg2)
      ∧ r.2.mem ((c.tc : Thread Cert.OconvRIdeal.nD Cert.OconvRIdeal.τ).loc Cert.OconvRIdeal.main_arg3) = m ((c.tc : Thread Cert.OconvRIdeal.nD Cert.OconvRIdeal.τ).loc Cert.OconvRIdeal.main_arg3)
      ∧ r.2.mem ((c.tc : Thread Cert.OconvRIdeal.nD Cert.OconvRIdeal.τ).loc Cert.OconvRIdeal.main_arg4) = m ((c.tc : Thread Cert.OconvRIdeal.nD Cert.OconvRIdeal.τ).loc Cert.OconvRIdeal.main_arg4)
      ∧ r.2.mem ((c.tc : Thread Cert.OconvRIdeal.nD Cert.OconvRIdeal.τ).loc Cert.OconvRIdeal.main_arg5) = m ((c.tc : Thread Cert.OconvRIdeal.nD Cert.OconvRIdeal.τ).loc Cert.OconvRIdeal.main_arg5)
      ∧ r.2.mem ((c.tc : Thread Cert.OconvRIdeal.nD Cert.OconvRIdeal.τ).loc Cert.OconvRIdeal.main_arg6) = m ((c.tc : Thread Cert.OconvRIdeal.nD Cert.OconvRIdeal.τ).loc Cert.OconvRIdeal.main_arg6))
      ∧ r.2.sem = fun _ => 0)

def quiescent_OconvRIdeal_pre_finite_oconv [hOconvRIdeal : Cert.OconvRIdeal.Facts] [hPre_finite_oconv : Cert.Pre_finite_oconv.Facts] : Prop :=
  ∀ (m : (ℓ : Loc Cert.OconvRIdeal.nD Cert.OconvRIdeal.τ Cert.OconvRIdeal.sig) → Buf (Elt Ideal) ℓ) (g : Dev Cert.OconvRIdeal.nD → PrngReg), Pre_OconvRIdeal_finite_oconv m →
    θ_run (Cert.OconvRIdeal.defs (F := Ideal)) (onTc (τ := Cert.OconvRIdeal.τ) (Cert.OconvRIdeal.main (F := Ideal))) ⟨m, fun _ => 0, g⟩ (fun r => (∀ c : Dev Cert.OconvRIdeal.nD,
      r.2.mem ((c.tc : Thread Cert.OconvRIdeal.nD Cert.OconvRIdeal.τ).loc Cert.OconvRIdeal.main_arg0) = m ((c.tc : Thread Cert.OconvRIdeal.nD Cert.OconvRIdeal.τ).loc Cert.OconvRIdeal.main_arg0)
      ∧ r.2.mem ((c.tc : Thread Cert.OconvRIdeal.nD Cert.OconvRIdeal.τ).loc Cert.OconvRIdeal.main_arg1) = m ((c.tc : Thread Cert.OconvRIdeal.nD Cert.OconvRIdeal.τ).loc Cert.OconvRIdeal.main_arg1)
      ∧ r.2.mem ((c.tc : Thread Cert.OconvRIdeal.nD Cert.OconvRIdeal.τ).loc Cert.OconvRIdeal.main_arg2) = m ((c.tc : Thread Cert.OconvRIdeal.nD Cert.OconvRIdeal.τ).loc Cert.OconvRIdeal.main_arg2)
      ∧ r.2.mem ((c.tc : Thread Cert.OconvRIdeal.nD Cert.OconvRIdeal.τ).loc Cert.OconvRIdeal.main_arg3) = m ((c.tc : Thread Cert.OconvRIdeal.nD Cert.OconvRIdeal.τ).loc Cert.OconvRIdeal.main_arg3)
      ∧ r.2.mem ((c.tc : Thread Cert.OconvRIdeal.nD Cert.OconvRIdeal.τ).loc Cert.OconvRIdeal.main_arg4) = m ((c.tc : Thread Cert.OconvRIdeal.nD Cert.OconvRIdeal.τ).loc Cert.OconvRIdeal.main_arg4)
      ∧ r.2.mem ((c.tc : Thread Cert.OconvRIdeal.nD Cert.OconvRIdeal.τ).loc Cert.OconvRIdeal.main_arg5) = m ((c.tc : Thread Cert.OconvRIdeal.nD Cert.OconvRIdeal.τ).loc Cert.OconvRIdeal.main_arg5)
      ∧ r.2.mem ((c.tc : Thread Cert.OconvRIdeal.nD Cert.OconvRIdeal.τ).loc Cert.OconvRIdeal.main_arg6) = m ((c.tc : Thread Cert.OconvRIdeal.nD Cert.OconvRIdeal.τ).loc Cert.OconvRIdeal.main_arg6))
      ∧ r.2.sem = fun _ => 0)

def quiescent_LsguK [hLsguK : Cert.LsguK.Facts] : Prop :=
  ∀ (m : (ℓ : Loc Cert.LsguK.nD Cert.LsguK.τ Cert.LsguK.sig) → Buf (Elt Bits) ℓ) (g : Dev Cert.LsguK.nD → PrngReg), Pre_LsguK m →
    θ_run (Cert.LsguK.defs (F := Bits)) (onTc (τ := Cert.LsguK.τ) (Cert.LsguK.main (F := Bits))) ⟨m, fun _ => 0, g⟩ (fun r => (∀ c : Dev Cert.LsguK.nD,
      r.2.mem ((c.tc : Thread Cert.LsguK.nD Cert.LsguK.τ).loc Cert.LsguK.main_arg0) = m ((c.tc : Thread Cert.LsguK.nD Cert.LsguK.τ).loc Cert.LsguK.main_arg0)
      ∧ r.2.mem ((c.tc : Thread Cert.LsguK.nD Cert.LsguK.τ).loc Cert.LsguK.main_arg1) = m ((c.tc : Thread Cert.LsguK.nD Cert.LsguK.τ).loc Cert.LsguK.main_arg1)
      ∧ r.2.mem ((c.tc : Thread Cert.LsguK.nD Cert.LsguK.τ).loc Cert.LsguK.main_arg2) = m ((c.tc : Thread Cert.LsguK.nD Cert.LsguK.τ).loc Cert.LsguK.main_arg2)
      ∧ r.2.mem ((c.tc : Thread Cert.LsguK.nD Cert.LsguK.τ).loc Cert.LsguK.main_arg3) = m ((c.tc : Thread Cert.LsguK.nD Cert.LsguK.τ).loc Cert.LsguK.main_arg3)
      ∧ r.2.mem ((c.tc : Thread Cert.LsguK.nD Cert.LsguK.τ).loc Cert.LsguK.main_arg4) = m ((c.tc : Thread Cert.LsguK.nD Cert.LsguK.τ).loc Cert.LsguK.main_arg4)
      ∧ r.2.mem ((c.tc : Thread Cert.LsguK.nD Cert.LsguK.τ).loc Cert.LsguK.main_arg5) = m ((c.tc : Thread Cert.LsguK.nD Cert.LsguK.τ).loc Cert.LsguK.main_arg5)
      ∧ r.2.mem ((c.tc : Thread Cert.LsguK.nD Cert.LsguK.τ).loc Cert.LsguK.main_arg6) = m ((c.tc : Thread Cert.LsguK.nD Cert.LsguK.τ).loc Cert.LsguK.main_arg6)
      ∧ r.2.mem ((c.tc : Thread Cert.LsguK.nD Cert.LsguK.τ).loc Cert.LsguK.main_arg7) = m ((c.tc : Thread Cert.LsguK.nD Cert.LsguK.τ).loc Cert.LsguK.main_arg7)
      ∧ r.2.mem ((c.tc : Thread Cert.LsguK.nD Cert.LsguK.τ).loc Cert.LsguK.main_arg8) = m ((c.tc : Thread Cert.LsguK.nD Cert.LsguK.τ).loc Cert.LsguK.main_arg8)
      ∧ r.2.mem ((c.tc : Thread Cert.LsguK.nD Cert.LsguK.τ).loc Cert.LsguK.main_arg9) = m ((c.tc : Thread Cert.LsguK.nD Cert.LsguK.τ).loc Cert.LsguK.main_arg9)
      ∧ r.2.mem ((c.tc : Thread Cert.LsguK.nD Cert.LsguK.τ).loc Cert.LsguK.main_arg10) = m ((c.tc : Thread Cert.LsguK.nD Cert.LsguK.τ).loc Cert.LsguK.main_arg10)
      ∧ r.2.mem ((c.tc : Thread Cert.LsguK.nD Cert.LsguK.τ).loc Cert.LsguK.main_arg11) = m ((c.tc : Thread Cert.LsguK.nD Cert.LsguK.τ).loc Cert.LsguK.main_arg11))
      ∧ r.2.sem = fun _ => 0)

def quiescent_LsguKIdeal [hLsguKIdeal : Cert.LsguKIdeal.Facts] : Prop :=
  ∀ (m : (ℓ : Loc Cert.LsguKIdeal.nD Cert.LsguKIdeal.τ Cert.LsguKIdeal.sig) → Buf (Elt Ideal) ℓ) (g : Dev Cert.LsguKIdeal.nD → PrngReg), Pre_LsguKIdeal m →
    θ_run (Cert.LsguKIdeal.defs (F := Ideal)) (onTc (τ := Cert.LsguKIdeal.τ) (Cert.LsguKIdeal.main (F := Ideal))) ⟨m, fun _ => 0, g⟩ (fun r => (∀ c : Dev Cert.LsguKIdeal.nD,
      r.2.mem ((c.tc : Thread Cert.LsguKIdeal.nD Cert.LsguKIdeal.τ).loc Cert.LsguKIdeal.main_arg0) = m ((c.tc : Thread Cert.LsguKIdeal.nD Cert.LsguKIdeal.τ).loc Cert.LsguKIdeal.main_arg0)
      ∧ r.2.mem ((c.tc : Thread Cert.LsguKIdeal.nD Cert.LsguKIdeal.τ).loc Cert.LsguKIdeal.main_arg1) = m ((c.tc : Thread Cert.LsguKIdeal.nD Cert.LsguKIdeal.τ).loc Cert.LsguKIdeal.main_arg1)
      ∧ r.2.mem ((c.tc : Thread Cert.LsguKIdeal.nD Cert.LsguKIdeal.τ).loc Cert.LsguKIdeal.main_arg2) = m ((c.tc : Thread Cert.LsguKIdeal.nD Cert.LsguKIdeal.τ).loc Cert.LsguKIdeal.main_arg2)
      ∧ r.2.mem ((c.tc : Thread Cert.LsguKIdeal.nD Cert.LsguKIdeal.τ).loc Cert.LsguKIdeal.main_arg3) = m ((c.tc : Thread Cert.LsguKIdeal.nD Cert.LsguKIdeal.τ).loc Cert.LsguKIdeal.main_arg3)
      ∧ r.2.mem ((c.tc : Thread Cert.LsguKIdeal.nD Cert.LsguKIdeal.τ).loc Cert.LsguKIdeal.main_arg4) = m ((c.tc : Thread Cert.LsguKIdeal.nD Cert.LsguKIdeal.τ).loc Cert.LsguKIdeal.main_arg4)
      ∧ r.2.mem ((c.tc : Thread Cert.LsguKIdeal.nD Cert.LsguKIdeal.τ).loc Cert.LsguKIdeal.main_arg5) = m ((c.tc : Thread Cert.LsguKIdeal.nD Cert.LsguKIdeal.τ).loc Cert.LsguKIdeal.main_arg5)
      ∧ r.2.mem ((c.tc : Thread Cert.LsguKIdeal.nD Cert.LsguKIdeal.τ).loc Cert.LsguKIdeal.main_arg6) = m ((c.tc : Thread Cert.LsguKIdeal.nD Cert.LsguKIdeal.τ).loc Cert.LsguKIdeal.main_arg6)
      ∧ r.2.mem ((c.tc : Thread Cert.LsguKIdeal.nD Cert.LsguKIdeal.τ).loc Cert.LsguKIdeal.main_arg7) = m ((c.tc : Thread Cert.LsguKIdeal.nD Cert.LsguKIdeal.τ).loc Cert.LsguKIdeal.main_arg7)
      ∧ r.2.mem ((c.tc : Thread Cert.LsguKIdeal.nD Cert.LsguKIdeal.τ).loc Cert.LsguKIdeal.main_arg8) = m ((c.tc : Thread Cert.LsguKIdeal.nD Cert.LsguKIdeal.τ).loc Cert.LsguKIdeal.main_arg8)
      ∧ r.2.mem ((c.tc : Thread Cert.LsguKIdeal.nD Cert.LsguKIdeal.τ).loc Cert.LsguKIdeal.main_arg9) = m ((c.tc : Thread Cert.LsguKIdeal.nD Cert.LsguKIdeal.τ).loc Cert.LsguKIdeal.main_arg9)
      ∧ r.2.mem ((c.tc : Thread Cert.LsguKIdeal.nD Cert.LsguKIdeal.τ).loc Cert.LsguKIdeal.main_arg10) = m ((c.tc : Thread Cert.LsguKIdeal.nD Cert.LsguKIdeal.τ).loc Cert.LsguKIdeal.main_arg10)
      ∧ r.2.mem ((c.tc : Thread Cert.LsguKIdeal.nD Cert.LsguKIdeal.τ).loc Cert.LsguKIdeal.main_arg11) = m ((c.tc : Thread Cert.LsguKIdeal.nD Cert.LsguKIdeal.τ).loc Cert.LsguKIdeal.main_arg11))
      ∧ r.2.sem = fun _ => 0)

def quiescent_LsguRIdeal [hLsguRIdeal : Cert.LsguRIdeal.Facts] : Prop :=
  ∀ (m : (ℓ : Loc Cert.LsguRIdeal.nD Cert.LsguRIdeal.τ Cert.LsguRIdeal.sig) → Buf (Elt Ideal) ℓ) (g : Dev Cert.LsguRIdeal.nD → PrngReg), Pre_LsguRIdeal m →
    θ_run (Cert.LsguRIdeal.defs (F := Ideal)) (onTc (τ := Cert.LsguRIdeal.τ) (Cert.LsguRIdeal.main (F := Ideal))) ⟨m, fun _ => 0, g⟩ (fun r => (∀ c : Dev Cert.LsguRIdeal.nD,
      r.2.mem ((c.tc : Thread Cert.LsguRIdeal.nD Cert.LsguRIdeal.τ).loc Cert.LsguRIdeal.main_arg0) = m ((c.tc : Thread Cert.LsguRIdeal.nD Cert.LsguRIdeal.τ).loc Cert.LsguRIdeal.main_arg0)
      ∧ r.2.mem ((c.tc : Thread Cert.LsguRIdeal.nD Cert.LsguRIdeal.τ).loc Cert.LsguRIdeal.main_arg1) = m ((c.tc : Thread Cert.LsguRIdeal.nD Cert.LsguRIdeal.τ).loc Cert.LsguRIdeal.main_arg1)
      ∧ r.2.mem ((c.tc : Thread Cert.LsguRIdeal.nD Cert.LsguRIdeal.τ).loc Cert.LsguRIdeal.main_arg2) = m ((c.tc : Thread Cert.LsguRIdeal.nD Cert.LsguRIdeal.τ).loc Cert.LsguRIdeal.main_arg2)
      ∧ r.2.mem ((c.tc : Thread Cert.LsguRIdeal.nD Cert.LsguRIdeal.τ).loc Cert.LsguRIdeal.main_arg3) = m ((c.tc : Thread Cert.LsguRIdeal.nD Cert.LsguRIdeal.τ).loc Cert.LsguRIdeal.main_arg3)
      ∧ r.2.mem ((c.tc : Thread Cert.LsguRIdeal.nD Cert.LsguRIdeal.τ).loc Cert.LsguRIdeal.main_arg4) = m ((c.tc : Thread Cert.LsguRIdeal.nD Cert.LsguRIdeal.τ).loc Cert.LsguRIdeal.main_arg4)
      ∧ r.2.mem ((c.tc : Thread Cert.LsguRIdeal.nD Cert.LsguRIdeal.τ).loc Cert.LsguRIdeal.main_arg5) = m ((c.tc : Thread Cert.LsguRIdeal.nD Cert.LsguRIdeal.τ).loc Cert.LsguRIdeal.main_arg5)
      ∧ r.2.mem ((c.tc : Thread Cert.LsguRIdeal.nD Cert.LsguRIdeal.τ).loc Cert.LsguRIdeal.main_arg6) = m ((c.tc : Thread Cert.LsguRIdeal.nD Cert.LsguRIdeal.τ).loc Cert.LsguRIdeal.main_arg6)
      ∧ r.2.mem ((c.tc : Thread Cert.LsguRIdeal.nD Cert.LsguRIdeal.τ).loc Cert.LsguRIdeal.main_arg7) = m ((c.tc : Thread Cert.LsguRIdeal.nD Cert.LsguRIdeal.τ).loc Cert.LsguRIdeal.main_arg7)
      ∧ r.2.mem ((c.tc : Thread Cert.LsguRIdeal.nD Cert.LsguRIdeal.τ).loc Cert.LsguRIdeal.main_arg8) = m ((c.tc : Thread Cert.LsguRIdeal.nD Cert.LsguRIdeal.τ).loc Cert.LsguRIdeal.main_arg8)
      ∧ r.2.mem ((c.tc : Thread Cert.LsguRIdeal.nD Cert.LsguRIdeal.τ).loc Cert.LsguRIdeal.main_arg9) = m ((c.tc : Thread Cert.LsguRIdeal.nD Cert.LsguRIdeal.τ).loc Cert.LsguRIdeal.main_arg9)
      ∧ r.2.mem ((c.tc : Thread Cert.LsguRIdeal.nD Cert.LsguRIdeal.τ).loc Cert.LsguRIdeal.main_arg10) = m ((c.tc : Thread Cert.LsguRIdeal.nD Cert.LsguRIdeal.τ).loc Cert.LsguRIdeal.main_arg10)
      ∧ r.2.mem ((c.tc : Thread Cert.LsguRIdeal.nD Cert.LsguRIdeal.τ).loc Cert.LsguRIdeal.main_arg11) = m ((c.tc : Thread Cert.LsguRIdeal.nD Cert.LsguRIdeal.τ).loc Cert.LsguRIdeal.main_arg11))
      ∧ r.2.sem = fun _ => 0)

def quiescent_InwK [hInwK : Cert.InwK.Facts] : Prop :=
  ∀ (m : (ℓ : Loc Cert.InwK.nD Cert.InwK.τ Cert.InwK.sig) → Buf (Elt Bits) ℓ) (g : Dev Cert.InwK.nD → PrngReg), Pre_InwK m →
    θ_run (Cert.InwK.defs (F := Bits)) (onTc (τ := Cert.InwK.τ) (Cert.InwK.main (F := Bits))) ⟨m, fun _ => 0, g⟩ (fun r => (∀ c : Dev Cert.InwK.nD,
      r.2.mem ((c.tc : Thread Cert.InwK.nD Cert.InwK.τ).loc Cert.InwK.main_arg0) = m ((c.tc : Thread Cert.InwK.nD Cert.InwK.τ).loc Cert.InwK.main_arg0)
      ∧ r.2.mem ((c.tc : Thread Cert.InwK.nD Cert.InwK.τ).loc Cert.InwK.main_arg1) = m ((c.tc : Thread Cert.InwK.nD Cert.InwK.τ).loc Cert.InwK.main_arg1)
      ∧ r.2.mem ((c.tc : Thread Cert.InwK.nD Cert.InwK.τ).loc Cert.InwK.main_arg2) = m ((c.tc : Thread Cert.InwK.nD Cert.InwK.τ).loc Cert.InwK.main_arg2))
      ∧ r.2.sem = fun _ => 0)

def quiescent_InwKIdeal [hInwKIdeal : Cert.InwKIdeal.Facts] : Prop :=
  ∀ (m : (ℓ : Loc Cert.InwKIdeal.nD Cert.InwKIdeal.τ Cert.InwKIdeal.sig) → Buf (Elt Ideal) ℓ) (g : Dev Cert.InwKIdeal.nD → PrngReg), Pre_InwKIdeal m →
    θ_run (Cert.InwKIdeal.defs (F := Ideal)) (onTc (τ := Cert.InwKIdeal.τ) (Cert.InwKIdeal.main (F := Ideal))) ⟨m, fun _ => 0, g⟩ (fun r => (∀ c : Dev Cert.InwKIdeal.nD,
      r.2.mem ((c.tc : Thread Cert.InwKIdeal.nD Cert.InwKIdeal.τ).loc Cert.InwKIdeal.main_arg0) = m ((c.tc : Thread Cert.InwKIdeal.nD Cert.InwKIdeal.τ).loc Cert.InwKIdeal.main_arg0)
      ∧ r.2.mem ((c.tc : Thread Cert.InwKIdeal.nD Cert.InwKIdeal.τ).loc Cert.InwKIdeal.main_arg1) = m ((c.tc : Thread Cert.InwKIdeal.nD Cert.InwKIdeal.τ).loc Cert.InwKIdeal.main_arg1)
      ∧ r.2.mem ((c.tc : Thread Cert.InwKIdeal.nD Cert.InwKIdeal.τ).loc Cert.InwKIdeal.main_arg2) = m ((c.tc : Thread Cert.InwKIdeal.nD Cert.InwKIdeal.τ).loc Cert.InwKIdeal.main_arg2))
      ∧ r.2.sem = fun _ => 0)

def quiescent_InwRIdeal [hInwRIdeal : Cert.InwRIdeal.Facts] : Prop :=
  ∀ (m : (ℓ : Loc Cert.InwRIdeal.nD Cert.InwRIdeal.τ Cert.InwRIdeal.sig) → Buf (Elt Ideal) ℓ) (g : Dev Cert.InwRIdeal.nD → PrngReg), Pre_InwRIdeal m →
    θ_run (Cert.InwRIdeal.defs (F := Ideal)) (onTc (τ := Cert.InwRIdeal.τ) (Cert.InwRIdeal.main (F := Ideal))) ⟨m, fun _ => 0, g⟩ (fun r => (∀ c : Dev Cert.InwRIdeal.nD,
      r.2.mem ((c.tc : Thread Cert.InwRIdeal.nD Cert.InwRIdeal.τ).loc Cert.InwRIdeal.main_arg0) = m ((c.tc : Thread Cert.InwRIdeal.nD Cert.InwRIdeal.τ).loc Cert.InwRIdeal.main_arg0)
      ∧ r.2.mem ((c.tc : Thread Cert.InwRIdeal.nD Cert.InwRIdeal.τ).loc Cert.InwRIdeal.main_arg1) = m ((c.tc : Thread Cert.InwRIdeal.nD Cert.InwRIdeal.τ).loc Cert.InwRIdeal.main_arg1)
      ∧ r.2.mem ((c.tc : Thread Cert.InwRIdeal.nD Cert.InwRIdeal.τ).loc Cert.InwRIdeal.main_arg2) = m ((c.tc : Thread Cert.InwRIdeal.nD Cert.InwRIdeal.τ).loc Cert.InwRIdeal.main_arg2))
      ∧ r.2.sem = fun _ => 0)

def quiescent_AdamK [hAdamK : Cert.AdamK.Facts] : Prop :=
  ∀ (m : (ℓ : Loc Cert.AdamK.nD Cert.AdamK.τ Cert.AdamK.sig) → Buf (Elt Bits) ℓ) (g : Dev Cert.AdamK.nD → PrngReg), Pre_AdamK m →
    θ_run (Cert.AdamK.defs (F := Bits)) (onTc (τ := Cert.AdamK.τ) (Cert.AdamK.main (F := Bits))) ⟨m, fun _ => 0, g⟩ (fun r => (∀ c : Dev Cert.AdamK.nD,
      r.2.mem ((c.tc : Thread Cert.AdamK.nD Cert.AdamK.τ).loc Cert.AdamK.main_arg0) = m ((c.tc : Thread Cert.AdamK.nD Cert.AdamK.τ).loc Cert.AdamK.main_arg0)
      ∧ r.2.mem ((c.tc : Thread Cert.AdamK.nD Cert.AdamK.τ).loc Cert.AdamK.main_arg1) = m ((c.tc : Thread Cert.AdamK.nD Cert.AdamK.τ).loc Cert.AdamK.main_arg1)
      ∧ r.2.mem ((c.tc : Thread Cert.AdamK.nD Cert.AdamK.τ).loc Cert.AdamK.main_arg2) = m ((c.tc : Thread Cert.AdamK.nD Cert.AdamK.τ).loc Cert.AdamK.main_arg2)
      ∧ r.2.mem ((c.tc : Thread Cert.AdamK.nD Cert.AdamK.τ).loc Cert.AdamK.main_arg3) = m ((c.tc : Thread Cert.AdamK.nD Cert.AdamK.τ).loc Cert.AdamK.main_arg3)
      ∧ r.2.mem ((c.tc : Thread Cert.AdamK.nD Cert.AdamK.τ).loc Cert.AdamK.main_arg4) = m ((c.tc : Thread Cert.AdamK.nD Cert.AdamK.τ).loc Cert.AdamK.main_arg4)
      ∧ r.2.mem ((c.tc : Thread Cert.AdamK.nD Cert.AdamK.τ).loc Cert.AdamK.main_arg5) = m ((c.tc : Thread Cert.AdamK.nD Cert.AdamK.τ).loc Cert.AdamK.main_arg5)
      ∧ r.2.mem ((c.tc : Thread Cert.AdamK.nD Cert.AdamK.τ).loc Cert.AdamK.main_arg6) = m ((c.tc : Thread Cert.AdamK.nD Cert.AdamK.τ).loc Cert.AdamK.main_arg6))
      ∧ r.2.sem = fun _ => 0)

def quiescent_AdamKIdeal [hAdamKIdeal : Cert.AdamKIdeal.Facts] : Prop :=
  ∀ (m : (ℓ : Loc Cert.AdamKIdeal.nD Cert.AdamKIdeal.τ Cert.AdamKIdeal.sig) → Buf (Elt Ideal) ℓ) (g : Dev Cert.AdamKIdeal.nD → PrngReg), Pre_AdamKIdeal m →
    θ_run (Cert.AdamKIdeal.defs (F := Ideal)) (onTc (τ := Cert.AdamKIdeal.τ) (Cert.AdamKIdeal.main (F := Ideal))) ⟨m, fun _ => 0, g⟩ (fun r => (∀ c : Dev Cert.AdamKIdeal.nD,
      r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
      ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
      ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
      ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3)
      ∧ r.2.mem ((c.tc : Thread Cert.AdamKIdeal.nD Cert.AdamKIdeal.τ).loc Cert.AdamKIdeal.main_arg4) = m ((c.tc : Thread Cert.AdamKIdeal.nD Cert.AdamKIdeal.τ).loc Cert.AdamKIdeal.main_arg4)
      ∧ r.2.mem ((c.tc : Thread Cert.AdamKIdeal.nD Cert.AdamKIdeal.τ).loc Cert.AdamKIdeal.main_arg5) = m ((c.tc : Thread Cert.AdamKIdeal.nD Cert.AdamKIdeal.τ).loc Cert.AdamKIdeal.main_arg5)
      ∧ r.2.mem ((c.tc : Thread Cert.AdamKIdeal.nD Cert.AdamKIdeal.τ).loc Cert.AdamKIdeal.main_arg6) = m ((c.tc : Thread Cert.AdamKIdeal.nD Cert.AdamKIdeal.τ).loc Cert.AdamKIdeal.main_arg6))
      ∧ r.2.sem = fun _ => 0)

def quiescent_AdamRIdeal [hAdamRIdeal : Cert.AdamRIdeal.Facts] : Prop :=
  ∀ (m : (ℓ : Loc Cert.AdamRIdeal.nD Cert.AdamRIdeal.τ Cert.AdamRIdeal.sig) → Buf (Elt Ideal) ℓ) (g : Dev Cert.AdamRIdeal.nD → PrngReg), Pre_AdamRIdeal m →
    θ_run (Cert.AdamRIdeal.defs (F := Ideal)) (onTc (τ := Cert.AdamRIdeal.τ) (Cert.AdamRIdeal.main (F := Ideal))) ⟨m, fun _ => 0, g⟩ (fun r => (∀ c : Dev Cert.AdamRIdeal.nD,
      r.2.mem ((c.tc : Thread Cert.AdamRIdeal.nD Cert.AdamRIdeal.τ).loc Cert.AdamRIdeal.main_arg0) = m ((c.tc : Thread Cert.AdamRIdeal.nD Cert.AdamRIdeal.τ).loc Cert.AdamRIdeal.main_arg0)
      ∧ r.2.mem ((c.tc : Thread Cert.AdamRIdeal.nD Cert.AdamRIdeal.τ).loc Cert.AdamRIdeal.main_arg1) = m ((c.tc : Thread Cert.AdamRIdeal.nD Cert.AdamRIdeal.τ).loc Cert.AdamRIdeal.main_arg1)
      ∧ r.2.mem ((c.tc : Thread Cert.AdamRIdeal.nD Cert.AdamRIdeal.τ).loc Cert.AdamRIdeal.main_arg2) = m ((c.tc : Thread Cert.AdamRIdeal.nD Cert.AdamRIdeal.τ).loc Cert.AdamRIdeal.main_arg2)
      ∧ r.2.mem ((c.tc : Thread Cert.AdamRIdeal.nD Cert.AdamRIdeal.τ).loc Cert.AdamRIdeal.main_arg3) = m ((c.tc : Thread Cert.AdamRIdeal.nD Cert.AdamRIdeal.τ).loc Cert.AdamRIdeal.main_arg3)
      ∧ r.2.mem ((c.tc : Thread Cert.AdamRIdeal.nD Cert.AdamRIdeal.τ).loc Cert.AdamRIdeal.main_arg4) = m ((c.tc : Thread Cert.AdamRIdeal.nD Cert.AdamRIdeal.τ).loc Cert.AdamRIdeal.main_arg4)
      ∧ r.2.mem ((c.tc : Thread Cert.AdamRIdeal.nD Cert.AdamRIdeal.τ).loc Cert.AdamRIdeal.main_arg5) = m ((c.tc : Thread Cert.AdamRIdeal.nD Cert.AdamRIdeal.τ).loc Cert.AdamRIdeal.main_arg5)
      ∧ r.2.mem ((c.tc : Thread Cert.AdamRIdeal.nD Cert.AdamRIdeal.τ).loc Cert.AdamRIdeal.main_arg6) = m ((c.tc : Thread Cert.AdamRIdeal.nD Cert.AdamRIdeal.τ).loc Cert.AdamRIdeal.main_arg6))
      ∧ r.2.sem = fun _ => 0)

def quiescent_AdsK [hAdsK : Cert.AdsK.Facts] : Prop :=
  ∀ (m : (ℓ : Loc Cert.AdsK.nD Cert.AdsK.τ Cert.AdsK.sig) → Buf (Elt Bits) ℓ) (g : Dev Cert.AdsK.nD → PrngReg), Pre_AdsK m →
    θ_run (Cert.AdsK.defs (F := Bits)) (onTc (τ := Cert.AdsK.τ) (Cert.AdsK.main (F := Bits))) ⟨m, fun _ => 0, g⟩ (fun r => (∀ c : Dev Cert.AdsK.nD,
      r.2.mem ((c.tc : Thread Cert.AdsK.nD Cert.AdsK.τ).loc Cert.AdsK.main_arg0) = m ((c.tc : Thread Cert.AdsK.nD Cert.AdsK.τ).loc Cert.AdsK.main_arg0)
      ∧ r.2.mem ((c.tc : Thread Cert.AdsK.nD Cert.AdsK.τ).loc Cert.AdsK.main_arg1) = m ((c.tc : Thread Cert.AdsK.nD Cert.AdsK.τ).loc Cert.AdsK.main_arg1)
      ∧ r.2.mem ((c.tc : Thread Cert.AdsK.nD Cert.AdsK.τ).loc Cert.AdsK.main_arg2) = m ((c.tc : Thread Cert.AdsK.nD Cert.AdsK.τ).loc Cert.AdsK.main_arg2)
      ∧ r.2.mem ((c.tc : Thread Cert.AdsK.nD Cert.AdsK.τ).loc Cert.AdsK.main_arg3) = m ((c.tc : Thread Cert.AdsK.nD Cert.AdsK.τ).loc Cert.AdsK.main_arg3)
      ∧ r.2.mem ((c.tc : Thread Cert.AdsK.nD Cert.AdsK.τ).loc Cert.AdsK.main_arg4) = m ((c.tc : Thread Cert.AdsK.nD Cert.AdsK.τ).loc Cert.AdsK.main_arg4)
      ∧ r.2.mem ((c.tc : Thread Cert.AdsK.nD Cert.AdsK.τ).loc Cert.AdsK.main_arg5) = m ((c.tc : Thread Cert.AdsK.nD Cert.AdsK.τ).loc Cert.AdsK.main_arg5)
      ∧ r.2.mem ((c.tc : Thread Cert.AdsK.nD Cert.AdsK.τ).loc Cert.AdsK.main_arg6) = m ((c.tc : Thread Cert.AdsK.nD Cert.AdsK.τ).loc Cert.AdsK.main_arg6)
      ∧ r.2.mem ((c.tc : Thread Cert.AdsK.nD Cert.AdsK.τ).loc Cert.AdsK.main_arg7) = m ((c.tc : Thread Cert.AdsK.nD Cert.AdsK.τ).loc Cert.AdsK.main_arg7)
      ∧ r.2.mem ((c.tc : Thread Cert.AdsK.nD Cert.AdsK.τ).loc Cert.AdsK.main_arg8) = m ((c.tc : Thread Cert.AdsK.nD Cert.AdsK.τ).loc Cert.AdsK.main_arg8)
      ∧ r.2.mem ((c.tc : Thread Cert.AdsK.nD Cert.AdsK.τ).loc Cert.AdsK.main_arg9) = m ((c.tc : Thread Cert.AdsK.nD Cert.AdsK.τ).loc Cert.AdsK.main_arg9)
      ∧ r.2.mem ((c.tc : Thread Cert.AdsK.nD Cert.AdsK.τ).loc Cert.AdsK.main_arg10) = m ((c.tc : Thread Cert.AdsK.nD Cert.AdsK.τ).loc Cert.AdsK.main_arg10)
      ∧ r.2.mem ((c.tc : Thread Cert.AdsK.nD Cert.AdsK.τ).loc Cert.AdsK.main_arg11) = m ((c.tc : Thread Cert.AdsK.nD Cert.AdsK.τ).loc Cert.AdsK.main_arg11)
      ∧ r.2.mem ((c.tc : Thread Cert.AdsK.nD Cert.AdsK.τ).loc Cert.AdsK.main_arg12) = m ((c.tc : Thread Cert.AdsK.nD Cert.AdsK.τ).loc Cert.AdsK.main_arg12)
      ∧ r.2.mem ((c.tc : Thread Cert.AdsK.nD Cert.AdsK.τ).loc Cert.AdsK.main_arg13) = m ((c.tc : Thread Cert.AdsK.nD Cert.AdsK.τ).loc Cert.AdsK.main_arg13)
      ∧ r.2.mem ((c.tc : Thread Cert.AdsK.nD Cert.AdsK.τ).loc Cert.AdsK.main_arg14) = m ((c.tc : Thread Cert.AdsK.nD Cert.AdsK.τ).loc Cert.AdsK.main_arg14)
      ∧ r.2.mem ((c.tc : Thread Cert.AdsK.nD Cert.AdsK.τ).loc Cert.AdsK.main_arg15) = m ((c.tc : Thread Cert.AdsK.nD Cert.AdsK.τ).loc Cert.AdsK.main_arg15)
      ∧ r.2.mem ((c.tc : Thread Cert.AdsK.nD Cert.AdsK.τ).loc Cert.AdsK.main_arg16) = m ((c.tc : Thread Cert.AdsK.nD Cert.AdsK.τ).loc Cert.AdsK.main_arg16)
      ∧ r.2.mem ((c.tc : Thread Cert.AdsK.nD Cert.AdsK.τ).loc Cert.AdsK.main_arg17) = m ((c.tc : Thread Cert.AdsK.nD Cert.AdsK.τ).loc Cert.AdsK.main_arg17)
      ∧ r.2.mem ((c.tc : Thread Cert.AdsK.nD Cert.AdsK.τ).loc Cert.AdsK.main_arg18) = m ((c.tc : Thread Cert.AdsK.nD Cert.AdsK.τ).loc Cert.AdsK.main_arg18)
      ∧ r.2.mem ((c.tc : Thread Cert.AdsK.nD Cert.AdsK.τ).loc Cert.AdsK.main_arg19) = m ((c.tc : Thread Cert.AdsK.nD Cert.AdsK.τ).loc Cert.AdsK.main_arg19)
      ∧ r.2.mem ((c.tc : Thread Cert.AdsK.nD Cert.AdsK.τ).loc Cert.AdsK.main_arg20) = m ((c.tc : Thread Cert.AdsK.nD Cert.AdsK.τ).loc Cert.AdsK.main_arg20)
      ∧ r.2.mem ((c.tc : Thread Cert.AdsK.nD Cert.AdsK.τ).loc Cert.AdsK.main_arg21) = m ((c.tc : Thread Cert.AdsK.nD Cert.AdsK.τ).loc Cert.AdsK.main_arg21)
      ∧ r.2.mem ((c.tc : Thread Cert.AdsK.nD Cert.AdsK.τ).loc Cert.AdsK.main_arg22) = m ((c.tc : Thread Cert.AdsK.nD Cert.AdsK.τ).loc Cert.AdsK.main_arg22)
      ∧ r.2.mem ((c.tc : Thread Cert.AdsK.nD Cert.AdsK.τ).loc Cert.AdsK.main_arg23) = m ((c.tc : Thread Cert.AdsK.nD Cert.AdsK.τ).loc Cert.AdsK.main_arg23)
      ∧ r.2.mem ((c.tc : Thread Cert.AdsK.nD Cert.AdsK.τ).loc Cert.AdsK.main_arg24) = m ((c.tc : Thread Cert.AdsK.nD Cert.AdsK.τ).loc Cert.AdsK.main_arg24)
      ∧ r.2.mem ((c.tc : Thread Cert.AdsK.nD Cert.AdsK.τ).loc Cert.AdsK.main_arg25) = m ((c.tc : Thread Cert.AdsK.nD Cert.AdsK.τ).loc Cert.AdsK.main_arg25)
      ∧ r.2.mem ((c.tc : Thread Cert.AdsK.nD Cert.AdsK.τ).loc Cert.AdsK.main_arg26) = m ((c.tc : Thread Cert.AdsK.nD Cert.AdsK.τ).loc Cert.AdsK.main_arg26)
      ∧ r.2.mem ((c.tc : Thread Cert.AdsK.nD Cert.AdsK.τ).loc Cert.AdsK.main_arg27) = m ((c.tc : Thread Cert.AdsK.nD Cert.AdsK.τ).loc Cert.AdsK.main_arg27)
      ∧ r.2.mem ((c.tc : Thread Cert.AdsK.nD Cert.AdsK.τ).loc Cert.AdsK.main_arg28) = m ((c.tc : Thread Cert.AdsK.nD Cert.AdsK.τ).loc Cert.AdsK.main_arg28)
      ∧ r.2.mem ((c.tc : Thread Cert.AdsK.nD Cert.AdsK.τ).loc Cert.AdsK.main_arg29) = m ((c.tc : Thread Cert.AdsK.nD Cert.AdsK.τ).loc Cert.AdsK.main_arg29)
      ∧ r.2.mem ((c.tc : Thread Cert.AdsK.nD Cert.AdsK.τ).loc Cert.AdsK.main_arg30) = m ((c.tc : Thread Cert.AdsK.nD Cert.AdsK.τ).loc Cert.AdsK.main_arg30)
      ∧ r.2.mem ((c.tc : Thread Cert.AdsK.nD Cert.AdsK.τ).loc Cert.AdsK.main_arg31) = m ((c.tc : Thread Cert.AdsK.nD Cert.AdsK.τ).loc Cert.AdsK.main_arg31)
      ∧ r.2.mem ((c.tc : Thread Cert.AdsK.nD Cert.AdsK.τ).loc Cert.AdsK.main_arg32) = m ((c.tc : Thread Cert.AdsK.nD Cert.AdsK.τ).loc Cert.AdsK.main_arg32)
      ∧ r.2.mem ((c.tc : Thread Cert.AdsK.nD Cert.AdsK.τ).loc Cert.AdsK.main_arg33) = m ((c.tc : Thread Cert.AdsK.nD Cert.AdsK.τ).loc Cert.AdsK.main_arg33)
      ∧ r.2.mem ((c.tc : Thread Cert.AdsK.nD Cert.AdsK.τ).loc Cert.AdsK.main_arg34) = m ((c.tc : Thread Cert.AdsK.nD Cert.AdsK.τ).loc Cert.AdsK.main_arg34)
      ∧ r.2.mem ((c.tc : Thread Cert.AdsK.nD Cert.AdsK.τ).loc Cert.AdsK.main_arg35) = m ((c.tc : Thread Cert.AdsK.nD Cert.AdsK.τ).loc Cert.AdsK.main_arg35)
      ∧ r.2.mem ((c.tc : Thread Cert.AdsK.nD Cert.AdsK.τ).loc Cert.AdsK.main_arg36) = m ((c.tc : Thread Cert.AdsK.nD Cert.AdsK.τ).loc Cert.AdsK.main_arg36)
      ∧ r.2.mem ((c.tc : Thread Cert.AdsK.nD Cert.AdsK.τ).loc Cert.AdsK.main_arg37) = m ((c.tc : Thread Cert.AdsK.nD Cert.AdsK.τ).loc Cert.AdsK.main_arg37)
      ∧ r.2.mem ((c.tc : Thread Cert.AdsK.nD Cert.AdsK.τ).loc Cert.AdsK.main_arg38) = m ((c.tc : Thread Cert.AdsK.nD Cert.AdsK.τ).loc Cert.AdsK.main_arg38)
      ∧ r.2.mem ((c.tc : Thread Cert.AdsK.nD Cert.AdsK.τ).loc Cert.AdsK.main_arg39) = m ((c.tc : Thread Cert.AdsK.nD Cert.AdsK.τ).loc Cert.AdsK.main_arg39)
      ∧ r.2.mem ((c.tc : Thread Cert.AdsK.nD Cert.AdsK.τ).loc Cert.AdsK.main_arg40) = m ((c.tc : Thread Cert.AdsK.nD Cert.AdsK.τ).loc Cert.AdsK.main_arg40)
      ∧ r.2.mem ((c.tc : Thread Cert.AdsK.nD Cert.AdsK.τ).loc Cert.AdsK.main_arg41) = m ((c.tc : Thread Cert.AdsK.nD Cert.AdsK.τ).loc Cert.AdsK.main_arg41)
      ∧ r.2.mem ((c.tc : Thread Cert.AdsK.nD Cert.AdsK.τ).loc Cert.AdsK.main_arg42) = m ((c.tc : Thread Cert.AdsK.nD Cert.AdsK.τ).loc Cert.AdsK.main_arg42)
      ∧ r.2.mem ((c.tc : Thread Cert.AdsK.nD Cert.AdsK.τ).loc Cert.AdsK.main_arg43) = m ((c.tc : Thread Cert.AdsK.nD Cert.AdsK.τ).loc Cert.AdsK.main_arg43)
      ∧ r.2.mem ((c.tc : Thread Cert.AdsK.nD Cert.AdsK.τ).loc Cert.AdsK.main_arg44) = m ((c.tc : Thread Cert.AdsK.nD Cert.AdsK.τ).loc Cert.AdsK.main_arg44))
      ∧ r.2.sem = fun _ => 0)

def quiescent_AdsKIdeal [hAdsKIdeal : Cert.AdsKIdeal.Facts] : Prop :=
  ∀ (m : (ℓ : Loc Cert.AdsKIdeal.nD Cert.AdsKIdeal.τ Cert.AdsKIdeal.sig) → Buf (Elt Ideal) ℓ) (g : Dev Cert.AdsKIdeal.nD → PrngReg), Pre_AdsKIdeal m →
    θ_run (Cert.AdsKIdeal.defs (F := Ideal)) (onTc (τ := Cert.AdsKIdeal.τ) (Cert.AdsKIdeal.main (F := Ideal))) ⟨m, fun _ => 0, g⟩ (fun r => (∀ c : Dev Cert.AdsKIdeal.nD,
      r.2.mem ((c.tc : Thread Cert.AdsKIdeal.nD Cert.AdsKIdeal.τ).loc Cert.AdsKIdeal.main_arg0) = m ((c.tc : Thread Cert.AdsKIdeal.nD Cert.AdsKIdeal.τ).loc Cert.AdsKIdeal.main_arg0)
      ∧ r.2.mem ((c.tc : Thread Cert.AdsKIdeal.nD Cert.AdsKIdeal.τ).loc Cert.AdsKIdeal.main_arg1) = m ((c.tc : Thread Cert.AdsKIdeal.nD Cert.AdsKIdeal.τ).loc Cert.AdsKIdeal.main_arg1)
      ∧ r.2.mem ((c.tc : Thread Cert.AdsKIdeal.nD Cert.AdsKIdeal.τ).loc Cert.AdsKIdeal.main_arg2) = m ((c.tc : Thread Cert.AdsKIdeal.nD Cert.AdsKIdeal.τ).loc Cert.AdsKIdeal.main_arg2)
      ∧ r.2.mem ((c.tc : Thread Cert.AdsKIdeal.nD Cert.AdsKIdeal.τ).loc Cert.AdsKIdeal.main_arg3) = m ((c.tc : Thread Cert.AdsKIdeal.nD Cert.AdsKIdeal.τ).loc Cert.AdsKIdeal.main_arg3)
      ∧ r.2.mem ((c.tc : Thread Cert.AdsKIdeal.nD Cert.AdsKIdeal.τ).loc Cert.AdsKIdeal.main_arg4) = m ((c.tc : Thread Cert.AdsKIdeal.nD Cert.AdsKIdeal.τ).loc Cert.AdsKIdeal.main_arg4)
      ∧ r.2.mem ((c.tc : Thread Cert.AdsKIdeal.nD Cert.AdsKIdeal.τ).loc Cert.AdsKIdeal.main_arg5) = m ((c.tc : Thread Cert.AdsKIdeal.nD Cert.AdsKIdeal.τ).loc Cert.AdsKIdeal.main_arg5)
      ∧ r.2.mem ((c.tc : Thread Cert.AdsKIdeal.nD Cert.AdsKIdeal.τ).loc Cert.AdsKIdeal.main_arg6) = m ((c.tc : Thread Cert.AdsKIdeal.nD Cert.AdsKIdeal.τ).loc Cert.AdsKIdeal.main_arg6)
      ∧ r.2.mem ((c.tc : Thread Cert.AdsKIdeal.nD Cert.AdsKIdeal.τ).loc Cert.AdsKIdeal.main_arg7) = m ((c.tc : Thread Cert.AdsKIdeal.nD Cert.AdsKIdeal.τ).loc Cert.AdsKIdeal.main_arg7)
      ∧ r.2.mem ((c.tc : Thread Cert.AdsKIdeal.nD Cert.AdsKIdeal.τ).loc Cert.AdsKIdeal.main_arg8) = m ((c.tc : Thread Cert.AdsKIdeal.nD Cert.AdsKIdeal.τ).loc Cert.AdsKIdeal.main_arg8)
      ∧ r.2.mem ((c.tc : Thread Cert.AdsKIdeal.nD Cert.AdsKIdeal.τ).loc Cert.AdsKIdeal.main_arg9) = m ((c.tc : Thread Cert.AdsKIdeal.nD Cert.AdsKIdeal.τ).loc Cert.AdsKIdeal.main_arg9)
      ∧ r.2.mem ((c.tc : Thread Cert.AdsKIdeal.nD Cert.AdsKIdeal.τ).loc Cert.AdsKIdeal.main_arg10) = m ((c.tc : Thread Cert.AdsKIdeal.nD Cert.AdsKIdeal.τ).loc Cert.AdsKIdeal.main_arg10)
      ∧ r.2.mem ((c.tc : Thread Cert.AdsKIdeal.nD Cert.AdsKIdeal.τ).loc Cert.AdsKIdeal.main_arg11) = m ((c.tc : Thread Cert.AdsKIdeal.nD Cert.AdsKIdeal.τ).loc Cert.AdsKIdeal.main_arg11)
      ∧ r.2.mem ((c.tc : Thread Cert.AdsKIdeal.nD Cert.AdsKIdeal.τ).loc Cert.AdsKIdeal.main_arg12) = m ((c.tc : Thread Cert.AdsKIdeal.nD Cert.AdsKIdeal.τ).loc Cert.AdsKIdeal.main_arg12)
      ∧ r.2.mem ((c.tc : Thread Cert.AdsKIdeal.nD Cert.AdsKIdeal.τ).loc Cert.AdsKIdeal.main_arg13) = m ((c.tc : Thread Cert.AdsKIdeal.nD Cert.AdsKIdeal.τ).loc Cert.AdsKIdeal.main_arg13)
      ∧ r.2.mem ((c.tc : Thread Cert.AdsKIdeal.nD Cert.AdsKIdeal.τ).loc Cert.AdsKIdeal.main_arg14) = m ((c.tc : Thread Cert.AdsKIdeal.nD Cert.AdsKIdeal.τ).loc Cert.AdsKIdeal.main_arg14)
      ∧ r.2.mem ((c.tc : Thread Cert.AdsKIdeal.nD Cert.AdsKIdeal.τ).loc Cert.AdsKIdeal.main_arg15) = m ((c.tc : Thread Cert.AdsKIdeal.nD Cert.AdsKIdeal.τ).loc Cert.AdsKIdeal.main_arg15)
      ∧ r.2.mem ((c.tc : Thread Cert.AdsKIdeal.nD Cert.AdsKIdeal.τ).loc Cert.AdsKIdeal.main_arg16) = m ((c.tc : Thread Cert.AdsKIdeal.nD Cert.AdsKIdeal.τ).loc Cert.AdsKIdeal.main_arg16)
      ∧ r.2.mem ((c.tc : Thread Cert.AdsKIdeal.nD Cert.AdsKIdeal.τ).loc Cert.AdsKIdeal.main_arg17) = m ((c.tc : Thread Cert.AdsKIdeal.nD Cert.AdsKIdeal.τ).loc Cert.AdsKIdeal.main_arg17)
      ∧ r.2.mem ((c.tc : Thread Cert.AdsKIdeal.nD Cert.AdsKIdeal.τ).loc Cert.AdsKIdeal.main_arg18) = m ((c.tc : Thread Cert.AdsKIdeal.nD Cert.AdsKIdeal.τ).loc Cert.AdsKIdeal.main_arg18)
      ∧ r.2.mem ((c.tc : Thread Cert.AdsKIdeal.nD Cert.AdsKIdeal.τ).loc Cert.AdsKIdeal.main_arg19) = m ((c.tc : Thread Cert.AdsKIdeal.nD Cert.AdsKIdeal.τ).loc Cert.AdsKIdeal.main_arg19)
      ∧ r.2.mem ((c.tc : Thread Cert.AdsKIdeal.nD Cert.AdsKIdeal.τ).loc Cert.AdsKIdeal.main_arg20) = m ((c.tc : Thread Cert.AdsKIdeal.nD Cert.AdsKIdeal.τ).loc Cert.AdsKIdeal.main_arg20)
      ∧ r.2.mem ((c.tc : Thread Cert.AdsKIdeal.nD Cert.AdsKIdeal.τ).loc Cert.AdsKIdeal.main_arg21) = m ((c.tc : Thread Cert.AdsKIdeal.nD Cert.AdsKIdeal.τ).loc Cert.AdsKIdeal.main_arg21)
      ∧ r.2.mem ((c.tc : Thread Cert.AdsKIdeal.nD Cert.AdsKIdeal.τ).loc Cert.AdsKIdeal.main_arg22) = m ((c.tc : Thread Cert.AdsKIdeal.nD Cert.AdsKIdeal.τ).loc Cert.AdsKIdeal.main_arg22)
      ∧ r.2.mem ((c.tc : Thread Cert.AdsKIdeal.nD Cert.AdsKIdeal.τ).loc Cert.AdsKIdeal.main_arg23) = m ((c.tc : Thread Cert.AdsKIdeal.nD Cert.AdsKIdeal.τ).loc Cert.AdsKIdeal.main_arg23)
      ∧ r.2.mem ((c.tc : Thread Cert.AdsKIdeal.nD Cert.AdsKIdeal.τ).loc Cert.AdsKIdeal.main_arg24) = m ((c.tc : Thread Cert.AdsKIdeal.nD Cert.AdsKIdeal.τ).loc Cert.AdsKIdeal.main_arg24)
      ∧ r.2.mem ((c.tc : Thread Cert.AdsKIdeal.nD Cert.AdsKIdeal.τ).loc Cert.AdsKIdeal.main_arg25) = m ((c.tc : Thread Cert.AdsKIdeal.nD Cert.AdsKIdeal.τ).loc Cert.AdsKIdeal.main_arg25)
      ∧ r.2.mem ((c.tc : Thread Cert.AdsKIdeal.nD Cert.AdsKIdeal.τ).loc Cert.AdsKIdeal.main_arg26) = m ((c.tc : Thread Cert.AdsKIdeal.nD Cert.AdsKIdeal.τ).loc Cert.AdsKIdeal.main_arg26)
      ∧ r.2.mem ((c.tc : Thread Cert.AdsKIdeal.nD Cert.AdsKIdeal.τ).loc Cert.AdsKIdeal.main_arg27) = m ((c.tc : Thread Cert.AdsKIdeal.nD Cert.AdsKIdeal.τ).loc Cert.AdsKIdeal.main_arg27)
      ∧ r.2.mem ((c.tc : Thread Cert.AdsKIdeal.nD Cert.AdsKIdeal.τ).loc Cert.AdsKIdeal.main_arg28) = m ((c.tc : Thread Cert.AdsKIdeal.nD Cert.AdsKIdeal.τ).loc Cert.AdsKIdeal.main_arg28)
      ∧ r.2.mem ((c.tc : Thread Cert.AdsKIdeal.nD Cert.AdsKIdeal.τ).loc Cert.AdsKIdeal.main_arg29) = m ((c.tc : Thread Cert.AdsKIdeal.nD Cert.AdsKIdeal.τ).loc Cert.AdsKIdeal.main_arg29)
      ∧ r.2.mem ((c.tc : Thread Cert.AdsKIdeal.nD Cert.AdsKIdeal.τ).loc Cert.AdsKIdeal.main_arg30) = m ((c.tc : Thread Cert.AdsKIdeal.nD Cert.AdsKIdeal.τ).loc Cert.AdsKIdeal.main_arg30)
      ∧ r.2.mem ((c.tc : Thread Cert.AdsKIdeal.nD Cert.AdsKIdeal.τ).loc Cert.AdsKIdeal.main_arg31) = m ((c.tc : Thread Cert.AdsKIdeal.nD Cert.AdsKIdeal.τ).loc Cert.AdsKIdeal.main_arg31)
      ∧ r.2.mem ((c.tc : Thread Cert.AdsKIdeal.nD Cert.AdsKIdeal.τ).loc Cert.AdsKIdeal.main_arg32) = m ((c.tc : Thread Cert.AdsKIdeal.nD Cert.AdsKIdeal.τ).loc Cert.AdsKIdeal.main_arg32)
      ∧ r.2.mem ((c.tc : Thread Cert.AdsKIdeal.nD Cert.AdsKIdeal.τ).loc Cert.AdsKIdeal.main_arg33) = m ((c.tc : Thread Cert.AdsKIdeal.nD Cert.AdsKIdeal.τ).loc Cert.AdsKIdeal.main_arg33)
      ∧ r.2.mem ((c.tc : Thread Cert.AdsKIdeal.nD Cert.AdsKIdeal.τ).loc Cert.AdsKIdeal.main_arg34) = m ((c.tc : Thread Cert.AdsKIdeal.nD Cert.AdsKIdeal.τ).loc Cert.AdsKIdeal.main_arg34)
      ∧ r.2.mem ((c.tc : Thread Cert.AdsKIdeal.nD Cert.AdsKIdeal.τ).loc Cert.AdsKIdeal.main_arg35) = m ((c.tc : Thread Cert.AdsKIdeal.nD Cert.AdsKIdeal.τ).loc Cert.AdsKIdeal.main_arg35)
      ∧ r.2.mem ((c.tc : Thread Cert.AdsKIdeal.nD Cert.AdsKIdeal.τ).loc Cert.AdsKIdeal.main_arg36) = m ((c.tc : Thread Cert.AdsKIdeal.nD Cert.AdsKIdeal.τ).loc Cert.AdsKIdeal.main_arg36)
      ∧ r.2.mem ((c.tc : Thread Cert.AdsKIdeal.nD Cert.AdsKIdeal.τ).loc Cert.AdsKIdeal.main_arg37) = m ((c.tc : Thread Cert.AdsKIdeal.nD Cert.AdsKIdeal.τ).loc Cert.AdsKIdeal.main_arg37)
      ∧ r.2.mem ((c.tc : Thread Cert.AdsKIdeal.nD Cert.AdsKIdeal.τ).loc Cert.AdsKIdeal.main_arg38) = m ((c.tc : Thread Cert.AdsKIdeal.nD Cert.AdsKIdeal.τ).loc Cert.AdsKIdeal.main_arg38)
      ∧ r.2.mem ((c.tc : Thread Cert.AdsKIdeal.nD Cert.AdsKIdeal.τ).loc Cert.AdsKIdeal.main_arg39) = m ((c.tc : Thread Cert.AdsKIdeal.nD Cert.AdsKIdeal.τ).loc Cert.AdsKIdeal.main_arg39)
      ∧ r.2.mem ((c.tc : Thread Cert.AdsKIdeal.nD Cert.AdsKIdeal.τ).loc Cert.AdsKIdeal.main_arg40) = m ((c.tc : Thread Cert.AdsKIdeal.nD Cert.AdsKIdeal.τ).loc Cert.AdsKIdeal.main_arg40)
      ∧ r.2.mem ((c.tc : Thread Cert.AdsKIdeal.nD Cert.AdsKIdeal.τ).loc Cert.AdsKIdeal.main_arg41) = m ((c.tc : Thread Cert.AdsKIdeal.nD Cert.AdsKIdeal.τ).loc Cert.AdsKIdeal.main_arg41)
      ∧ r.2.mem ((c.tc : Thread Cert.AdsKIdeal.nD Cert.AdsKIdeal.τ).loc Cert.AdsKIdeal.main_arg42) = m ((c.tc : Thread Cert.AdsKIdeal.nD Cert.AdsKIdeal.τ).loc Cert.AdsKIdeal.main_arg42)
      ∧ r.2.mem ((c.tc : Thread Cert.AdsKIdeal.nD Cert.AdsKIdeal.τ).loc Cert.AdsKIdeal.main_arg43) = m ((c.tc : Thread Cert.AdsKIdeal.nD Cert.AdsKIdeal.τ).loc Cert.AdsKIdeal.main_arg43)
      ∧ r.2.mem ((c.tc : Thread Cert.AdsKIdeal.nD Cert.AdsKIdeal.τ).loc Cert.AdsKIdeal.main_arg44) = m ((c.tc : Thread Cert.AdsKIdeal.nD Cert.AdsKIdeal.τ).loc Cert.AdsKIdeal.main_arg44))
      ∧ r.2.sem = fun _ => 0)

def quiescent_AdsRIdeal [hAdsRIdeal : Cert.AdsRIdeal.Facts] : Prop :=
  ∀ (m : (ℓ : Loc Cert.AdsRIdeal.nD Cert.AdsRIdeal.τ Cert.AdsRIdeal.sig) → Buf (Elt Ideal) ℓ) (g : Dev Cert.AdsRIdeal.nD → PrngReg), Pre_AdsRIdeal m →
    θ_run (Cert.AdsRIdeal.defs (F := Ideal)) (onTc (τ := Cert.AdsRIdeal.τ) (Cert.AdsRIdeal.main (F := Ideal))) ⟨m, fun _ => 0, g⟩ (fun r => (∀ c : Dev Cert.AdsRIdeal.nD,
      r.2.mem ((c.tc : Thread Cert.AdsRIdeal.nD Cert.AdsRIdeal.τ).loc Cert.AdsRIdeal.main_arg0) = m ((c.tc : Thread Cert.AdsRIdeal.nD Cert.AdsRIdeal.τ).loc Cert.AdsRIdeal.main_arg0)
      ∧ r.2.mem ((c.tc : Thread Cert.AdsRIdeal.nD Cert.AdsRIdeal.τ).loc Cert.AdsRIdeal.main_arg1) = m ((c.tc : Thread Cert.AdsRIdeal.nD Cert.AdsRIdeal.τ).loc Cert.AdsRIdeal.main_arg1)
      ∧ r.2.mem ((c.tc : Thread Cert.AdsRIdeal.nD Cert.AdsRIdeal.τ).loc Cert.AdsRIdeal.main_arg2) = m ((c.tc : Thread Cert.AdsRIdeal.nD Cert.AdsRIdeal.τ).loc Cert.AdsRIdeal.main_arg2)
      ∧ r.2.mem ((c.tc : Thread Cert.AdsRIdeal.nD Cert.AdsRIdeal.τ).loc Cert.AdsRIdeal.main_arg3) = m ((c.tc : Thread Cert.AdsRIdeal.nD Cert.AdsRIdeal.τ).loc Cert.AdsRIdeal.main_arg3)
      ∧ r.2.mem ((c.tc : Thread Cert.AdsRIdeal.nD Cert.AdsRIdeal.τ).loc Cert.AdsRIdeal.main_arg4) = m ((c.tc : Thread Cert.AdsRIdeal.nD Cert.AdsRIdeal.τ).loc Cert.AdsRIdeal.main_arg4)
      ∧ r.2.mem ((c.tc : Thread Cert.AdsRIdeal.nD Cert.AdsRIdeal.τ).loc Cert.AdsRIdeal.main_arg5) = m ((c.tc : Thread Cert.AdsRIdeal.nD Cert.AdsRIdeal.τ).loc Cert.AdsRIdeal.main_arg5)
      ∧ r.2.mem ((c.tc : Thread Cert.AdsRIdeal.nD Cert.AdsRIdeal.τ).loc Cert.AdsRIdeal.main_arg6) = m ((c.tc : Thread Cert.AdsRIdeal.nD Cert.AdsRIdeal.τ).loc Cert.AdsRIdeal.main_arg6)
      ∧ r.2.mem ((c.tc : Thread Cert.AdsRIdeal.nD Cert.AdsRIdeal.τ).loc Cert.AdsRIdeal.main_arg7) = m ((c.tc : Thread Cert.AdsRIdeal.nD Cert.AdsRIdeal.τ).loc Cert.AdsRIdeal.main_arg7)
      ∧ r.2.mem ((c.tc : Thread Cert.AdsRIdeal.nD Cert.AdsRIdeal.τ).loc Cert.AdsRIdeal.main_arg8) = m ((c.tc : Thread Cert.AdsRIdeal.nD Cert.AdsRIdeal.τ).loc Cert.AdsRIdeal.main_arg8)
      ∧ r.2.mem ((c.tc : Thread Cert.AdsRIdeal.nD Cert.AdsRIdeal.τ).loc Cert.AdsRIdeal.main_arg9) = m ((c.tc : Thread Cert.AdsRIdeal.nD Cert.AdsRIdeal.τ).loc Cert.AdsRIdeal.main_arg9)
      ∧ r.2.mem ((c.tc : Thread Cert.AdsRIdeal.nD Cert.AdsRIdeal.τ).loc Cert.AdsRIdeal.main_arg10) = m ((c.tc : Thread Cert.AdsRIdeal.nD Cert.AdsRIdeal.τ).loc Cert.AdsRIdeal.main_arg10)
      ∧ r.2.mem ((c.tc : Thread Cert.AdsRIdeal.nD Cert.AdsRIdeal.τ).loc Cert.AdsRIdeal.main_arg11) = m ((c.tc : Thread Cert.AdsRIdeal.nD Cert.AdsRIdeal.τ).loc Cert.AdsRIdeal.main_arg11)
      ∧ r.2.mem ((c.tc : Thread Cert.AdsRIdeal.nD Cert.AdsRIdeal.τ).loc Cert.AdsRIdeal.main_arg12) = m ((c.tc : Thread Cert.AdsRIdeal.nD Cert.AdsRIdeal.τ).loc Cert.AdsRIdeal.main_arg12)
      ∧ r.2.mem ((c.tc : Thread Cert.AdsRIdeal.nD Cert.AdsRIdeal.τ).loc Cert.AdsRIdeal.main_arg13) = m ((c.tc : Thread Cert.AdsRIdeal.nD Cert.AdsRIdeal.τ).loc Cert.AdsRIdeal.main_arg13)
      ∧ r.2.mem ((c.tc : Thread Cert.AdsRIdeal.nD Cert.AdsRIdeal.τ).loc Cert.AdsRIdeal.main_arg14) = m ((c.tc : Thread Cert.AdsRIdeal.nD Cert.AdsRIdeal.τ).loc Cert.AdsRIdeal.main_arg14)
      ∧ r.2.mem ((c.tc : Thread Cert.AdsRIdeal.nD Cert.AdsRIdeal.τ).loc Cert.AdsRIdeal.main_arg15) = m ((c.tc : Thread Cert.AdsRIdeal.nD Cert.AdsRIdeal.τ).loc Cert.AdsRIdeal.main_arg15)
      ∧ r.2.mem ((c.tc : Thread Cert.AdsRIdeal.nD Cert.AdsRIdeal.τ).loc Cert.AdsRIdeal.main_arg16) = m ((c.tc : Thread Cert.AdsRIdeal.nD Cert.AdsRIdeal.τ).loc Cert.AdsRIdeal.main_arg16)
      ∧ r.2.mem ((c.tc : Thread Cert.AdsRIdeal.nD Cert.AdsRIdeal.τ).loc Cert.AdsRIdeal.main_arg17) = m ((c.tc : Thread Cert.AdsRIdeal.nD Cert.AdsRIdeal.τ).loc Cert.AdsRIdeal.main_arg17)
      ∧ r.2.mem ((c.tc : Thread Cert.AdsRIdeal.nD Cert.AdsRIdeal.τ).loc Cert.AdsRIdeal.main_arg18) = m ((c.tc : Thread Cert.AdsRIdeal.nD Cert.AdsRIdeal.τ).loc Cert.AdsRIdeal.main_arg18)
      ∧ r.2.mem ((c.tc : Thread Cert.AdsRIdeal.nD Cert.AdsRIdeal.τ).loc Cert.AdsRIdeal.main_arg19) = m ((c.tc : Thread Cert.AdsRIdeal.nD Cert.AdsRIdeal.τ).loc Cert.AdsRIdeal.main_arg19)
      ∧ r.2.mem ((c.tc : Thread Cert.AdsRIdeal.nD Cert.AdsRIdeal.τ).loc Cert.AdsRIdeal.main_arg20) = m ((c.tc : Thread Cert.AdsRIdeal.nD Cert.AdsRIdeal.τ).loc Cert.AdsRIdeal.main_arg20)
      ∧ r.2.mem ((c.tc : Thread Cert.AdsRIdeal.nD Cert.AdsRIdeal.τ).loc Cert.AdsRIdeal.main_arg21) = m ((c.tc : Thread Cert.AdsRIdeal.nD Cert.AdsRIdeal.τ).loc Cert.AdsRIdeal.main_arg21)
      ∧ r.2.mem ((c.tc : Thread Cert.AdsRIdeal.nD Cert.AdsRIdeal.τ).loc Cert.AdsRIdeal.main_arg22) = m ((c.tc : Thread Cert.AdsRIdeal.nD Cert.AdsRIdeal.τ).loc Cert.AdsRIdeal.main_arg22)
      ∧ r.2.mem ((c.tc : Thread Cert.AdsRIdeal.nD Cert.AdsRIdeal.τ).loc Cert.AdsRIdeal.main_arg23) = m ((c.tc : Thread Cert.AdsRIdeal.nD Cert.AdsRIdeal.τ).loc Cert.AdsRIdeal.main_arg23)
      ∧ r.2.mem ((c.tc : Thread Cert.AdsRIdeal.nD Cert.AdsRIdeal.τ).loc Cert.AdsRIdeal.main_arg24) = m ((c.tc : Thread Cert.AdsRIdeal.nD Cert.AdsRIdeal.τ).loc Cert.AdsRIdeal.main_arg24)
      ∧ r.2.mem ((c.tc : Thread Cert.AdsRIdeal.nD Cert.AdsRIdeal.τ).loc Cert.AdsRIdeal.main_arg25) = m ((c.tc : Thread Cert.AdsRIdeal.nD Cert.AdsRIdeal.τ).loc Cert.AdsRIdeal.main_arg25)
      ∧ r.2.mem ((c.tc : Thread Cert.AdsRIdeal.nD Cert.AdsRIdeal.τ).loc Cert.AdsRIdeal.main_arg26) = m ((c.tc : Thread Cert.AdsRIdeal.nD Cert.AdsRIdeal.τ).loc Cert.AdsRIdeal.main_arg26)
      ∧ r.2.mem ((c.tc : Thread Cert.AdsRIdeal.nD Cert.AdsRIdeal.τ).loc Cert.AdsRIdeal.main_arg27) = m ((c.tc : Thread Cert.AdsRIdeal.nD Cert.AdsRIdeal.τ).loc Cert.AdsRIdeal.main_arg27)
      ∧ r.2.mem ((c.tc : Thread Cert.AdsRIdeal.nD Cert.AdsRIdeal.τ).loc Cert.AdsRIdeal.main_arg28) = m ((c.tc : Thread Cert.AdsRIdeal.nD Cert.AdsRIdeal.τ).loc Cert.AdsRIdeal.main_arg28)
      ∧ r.2.mem ((c.tc : Thread Cert.AdsRIdeal.nD Cert.AdsRIdeal.τ).loc Cert.AdsRIdeal.main_arg29) = m ((c.tc : Thread Cert.AdsRIdeal.nD Cert.AdsRIdeal.τ).loc Cert.AdsRIdeal.main_arg29)
      ∧ r.2.mem ((c.tc : Thread Cert.AdsRIdeal.nD Cert.AdsRIdeal.τ).loc Cert.AdsRIdeal.main_arg30) = m ((c.tc : Thread Cert.AdsRIdeal.nD Cert.AdsRIdeal.τ).loc Cert.AdsRIdeal.main_arg30)
      ∧ r.2.mem ((c.tc : Thread Cert.AdsRIdeal.nD Cert.AdsRIdeal.τ).loc Cert.AdsRIdeal.main_arg31) = m ((c.tc : Thread Cert.AdsRIdeal.nD Cert.AdsRIdeal.τ).loc Cert.AdsRIdeal.main_arg31)
      ∧ r.2.mem ((c.tc : Thread Cert.AdsRIdeal.nD Cert.AdsRIdeal.τ).loc Cert.AdsRIdeal.main_arg32) = m ((c.tc : Thread Cert.AdsRIdeal.nD Cert.AdsRIdeal.τ).loc Cert.AdsRIdeal.main_arg32)
      ∧ r.2.mem ((c.tc : Thread Cert.AdsRIdeal.nD Cert.AdsRIdeal.τ).loc Cert.AdsRIdeal.main_arg33) = m ((c.tc : Thread Cert.AdsRIdeal.nD Cert.AdsRIdeal.τ).loc Cert.AdsRIdeal.main_arg33)
      ∧ r.2.mem ((c.tc : Thread Cert.AdsRIdeal.nD Cert.AdsRIdeal.τ).loc Cert.AdsRIdeal.main_arg34) = m ((c.tc : Thread Cert.AdsRIdeal.nD Cert.AdsRIdeal.τ).loc Cert.AdsRIdeal.main_arg34)
      ∧ r.2.mem ((c.tc : Thread Cert.AdsRIdeal.nD Cert.AdsRIdeal.τ).loc Cert.AdsRIdeal.main_arg35) = m ((c.tc : Thread Cert.AdsRIdeal.nD Cert.AdsRIdeal.τ).loc Cert.AdsRIdeal.main_arg35)
      ∧ r.2.mem ((c.tc : Thread Cert.AdsRIdeal.nD Cert.AdsRIdeal.τ).loc Cert.AdsRIdeal.main_arg36) = m ((c.tc : Thread Cert.AdsRIdeal.nD Cert.AdsRIdeal.τ).loc Cert.AdsRIdeal.main_arg36)
      ∧ r.2.mem ((c.tc : Thread Cert.AdsRIdeal.nD Cert.AdsRIdeal.τ).loc Cert.AdsRIdeal.main_arg37) = m ((c.tc : Thread Cert.AdsRIdeal.nD Cert.AdsRIdeal.τ).loc Cert.AdsRIdeal.main_arg37)
      ∧ r.2.mem ((c.tc : Thread Cert.AdsRIdeal.nD Cert.AdsRIdeal.τ).loc Cert.AdsRIdeal.main_arg38) = m ((c.tc : Thread Cert.AdsRIdeal.nD Cert.AdsRIdeal.τ).loc Cert.AdsRIdeal.main_arg38)
      ∧ r.2.mem ((c.tc : Thread Cert.AdsRIdeal.nD Cert.AdsRIdeal.τ).loc Cert.AdsRIdeal.main_arg39) = m ((c.tc : Thread Cert.AdsRIdeal.nD Cert.AdsRIdeal.τ).loc Cert.AdsRIdeal.main_arg39)
      ∧ r.2.mem ((c.tc : Thread Cert.AdsRIdeal.nD Cert.AdsRIdeal.τ).loc Cert.AdsRIdeal.main_arg40) = m ((c.tc : Thread Cert.AdsRIdeal.nD Cert.AdsRIdeal.τ).loc Cert.AdsRIdeal.main_arg40)
      ∧ r.2.mem ((c.tc : Thread Cert.AdsRIdeal.nD Cert.AdsRIdeal.τ).loc Cert.AdsRIdeal.main_arg41) = m ((c.tc : Thread Cert.AdsRIdeal.nD Cert.AdsRIdeal.τ).loc Cert.AdsRIdeal.main_arg41)
      ∧ r.2.mem ((c.tc : Thread Cert.AdsRIdeal.nD Cert.AdsRIdeal.τ).loc Cert.AdsRIdeal.main_arg42) = m ((c.tc : Thread Cert.AdsRIdeal.nD Cert.AdsRIdeal.τ).loc Cert.AdsRIdeal.main_arg42)
      ∧ r.2.mem ((c.tc : Thread Cert.AdsRIdeal.nD Cert.AdsRIdeal.τ).loc Cert.AdsRIdeal.main_arg43) = m ((c.tc : Thread Cert.AdsRIdeal.nD Cert.AdsRIdeal.τ).loc Cert.AdsRIdeal.main_arg43)
      ∧ r.2.mem ((c.tc : Thread Cert.AdsRIdeal.nD Cert.AdsRIdeal.τ).loc Cert.AdsRIdeal.main_arg44) = m ((c.tc : Thread Cert.AdsRIdeal.nD Cert.AdsRIdeal.τ).loc Cert.AdsRIdeal.main_arg44))
      ∧ r.2.sem = fun _ => 0)

def preserves_LossK_LossKIdeal : Prop :=
  True

def algebraic_LossKIdeal_LossRIdeal [hLossKIdeal : Cert.LossKIdeal.Facts] [hLossRIdeal : Cert.LossRIdeal.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)) →
    ∃ (v0 : (c : Dev Cert.LossKIdeal.nD) → Buf (Elt Ideal) ((c.tc : Thread Cert.LossKIdeal.nD Cert.LossKIdeal.τ).loc Cert.LossKIdeal.main_v3_0)) (v1 : (c : Dev Cert.LossKIdeal.nD) → Buf (Elt Ideal) ((c.tc : Thread Cert.LossKIdeal.nD Cert.LossKIdeal.τ).loc Cert.LossKIdeal.main_v3_1)) (v2 : (c : Dev Cert.LossKIdeal.nD) → Buf (Elt Ideal) ((c.tc : Thread Cert.LossKIdeal.nD Cert.LossKIdeal.τ).loc Cert.LossKIdeal.main_v3_2)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v3_0) = v0 c
          ∧ r.2.mem ((c.tc : Thread Cert.LossKIdeal.nD Cert.LossKIdeal.τ).loc Cert.LossKIdeal.main_v3_1) = v1 c
          ∧ r.2.mem ((c.tc : Thread Cert.LossKIdeal.nD Cert.LossKIdeal.τ).loc Cert.LossKIdeal.main_v3_2) = v2 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v51) = v0 c
          ∧ r.2.mem ((c.tc : Thread Cert.LossRIdeal.nD Cert.LossRIdeal.τ).loc Cert.LossRIdeal.main_v52) = v1 c
          ∧ r.2.mem ((c.tc : Thread Cert.LossRIdeal.nD Cert.LossRIdeal.τ).loc Cert.LossRIdeal.main_v53) = v2 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2))

def preserves_InxK_InxKIdeal : Prop :=
  True

def algebraic_InxKIdeal_InxRIdeal [hInxKIdeal : Cert.InxKIdeal.Facts] [hInxRIdeal : Cert.InxRIdeal.Facts] : Prop :=
  ∀ (m : (ℓ : Loc Cert.InxKIdeal.nD Cert.InxKIdeal.τ Cert.InxKIdeal.sig) → Buf (Elt Ideal) ℓ) (g : Dev Cert.InxKIdeal.nD → PrngReg)
    (m' : (ℓ : Loc Cert.InxRIdeal.nD Cert.InxRIdeal.τ Cert.InxRIdeal.sig) → Buf (Elt Ideal) ℓ) (g' : Dev Cert.InxRIdeal.nD → PrngReg), Pre_InxKIdeal m →
    (∀ c : Dev Cert.InxKIdeal.nD,
      m' ((c.tc : Thread Cert.InxRIdeal.nD Cert.InxRIdeal.τ).loc Cert.InxRIdeal.main_arg0) = m ((c.tc : Thread Cert.InxKIdeal.nD Cert.InxKIdeal.τ).loc Cert.InxKIdeal.main_arg0)
      ∧ m' ((c.tc : Thread Cert.InxRIdeal.nD Cert.InxRIdeal.τ).loc Cert.InxRIdeal.main_arg1) = m ((c.tc : Thread Cert.InxKIdeal.nD Cert.InxKIdeal.τ).loc Cert.InxKIdeal.main_arg1)
      ∧ m' ((c.tc : Thread Cert.InxRIdeal.nD Cert.InxRIdeal.τ).loc Cert.InxRIdeal.main_arg2) = m ((c.tc : Thread Cert.InxKIdeal.nD Cert.InxKIdeal.τ).loc Cert.InxKIdeal.main_arg2)
      ∧ m' ((c.tc : Thread Cert.InxRIdeal.nD Cert.InxRIdeal.τ).loc Cert.InxRIdeal.main_arg3) = m ((c.tc : Thread Cert.InxKIdeal.nD Cert.InxKIdeal.τ).loc Cert.InxKIdeal.main_arg3)
      ∧ m' ((c.tc : Thread Cert.InxRIdeal.nD Cert.InxRIdeal.τ).loc Cert.InxRIdeal.main_arg4) = m ((c.tc : Thread Cert.InxKIdeal.nD Cert.InxKIdeal.τ).loc Cert.InxKIdeal.main_arg4)) →
    ∃ (v0 : (c : Dev Cert.InxKIdeal.nD) → Buf (Elt Ideal) ((c.tc : Thread Cert.InxKIdeal.nD Cert.InxKIdeal.τ).loc Cert.InxKIdeal.main_v8_0)) (v1 : (c : Dev Cert.InxKIdeal.nD) → Buf (Elt Ideal) ((c.tc : Thread Cert.InxKIdeal.nD Cert.InxKIdeal.τ).loc Cert.InxKIdeal.main_v8_1)),
      θ_run (Cert.InxKIdeal.defs (F := Ideal)) (onTc (τ := Cert.InxKIdeal.τ) (Cert.InxKIdeal.main (F := Ideal))) ⟨m, fun _ => 0, g⟩ (fun r => ∀ c : Dev Cert.InxKIdeal.nD,
          r.2.mem ((c.tc : Thread Cert.InxKIdeal.nD Cert.InxKIdeal.τ).loc Cert.InxKIdeal.main_v8_0) = v0 c
          ∧ r.2.mem ((c.tc : Thread Cert.InxKIdeal.nD Cert.InxKIdeal.τ).loc Cert.InxKIdeal.main_v8_1) = v1 c
          ∧ r.2.mem ((c.tc : Thread Cert.InxKIdeal.nD Cert.InxKIdeal.τ).loc Cert.InxKIdeal.main_arg0) = m ((c.tc : Thread Cert.InxKIdeal.nD Cert.InxKIdeal.τ).loc Cert.InxKIdeal.main_arg0)
          ∧ r.2.mem ((c.tc : Thread Cert.InxKIdeal.nD Cert.InxKIdeal.τ).loc Cert.InxKIdeal.main_arg1) = m ((c.tc : Thread Cert.InxKIdeal.nD Cert.InxKIdeal.τ).loc Cert.InxKIdeal.main_arg1)
          ∧ r.2.mem ((c.tc : Thread Cert.InxKIdeal.nD Cert.InxKIdeal.τ).loc Cert.InxKIdeal.main_arg2) = m ((c.tc : Thread Cert.InxKIdeal.nD Cert.InxKIdeal.τ).loc Cert.InxKIdeal.main_arg2)
          ∧ r.2.mem ((c.tc : Thread Cert.InxKIdeal.nD Cert.InxKIdeal.τ).loc Cert.InxKIdeal.main_arg3) = m ((c.tc : Thread Cert.InxKIdeal.nD Cert.InxKIdeal.τ).loc Cert.InxKIdeal.main_arg3)
          ∧ r.2.mem ((c.tc : Thread Cert.InxKIdeal.nD Cert.InxKIdeal.τ).loc Cert.InxKIdeal.main_arg4) = m ((c.tc : Thread Cert.InxKIdeal.nD Cert.InxKIdeal.τ).loc Cert.InxKIdeal.main_arg4))
      ∧ θ_run (Cert.InxRIdeal.defs (F := Ideal)) (onTc (τ := Cert.InxRIdeal.τ) (Cert.InxRIdeal.main (F := Ideal))) ⟨m', fun _ => 0, g'⟩ (fun r => ∀ c : Dev Cert.InxRIdeal.nD,
          r.2.mem ((c.tc : Thread Cert.InxRIdeal.nD Cert.InxRIdeal.τ).loc Cert.InxRIdeal.main_v39) = v0 c
          ∧ r.2.mem ((c.tc : Thread Cert.InxRIdeal.nD Cert.InxRIdeal.τ).loc Cert.InxRIdeal.main_v40) = v1 c
          ∧ r.2.mem ((c.tc : Thread Cert.InxRIdeal.nD Cert.InxRIdeal.τ).loc Cert.InxRIdeal.main_arg0) = m' ((c.tc : Thread Cert.InxRIdeal.nD Cert.InxRIdeal.τ).loc Cert.InxRIdeal.main_arg0)
          ∧ r.2.mem ((c.tc : Thread Cert.InxRIdeal.nD Cert.InxRIdeal.τ).loc Cert.InxRIdeal.main_arg1) = m' ((c.tc : Thread Cert.InxRIdeal.nD Cert.InxRIdeal.τ).loc Cert.InxRIdeal.main_arg1)
          ∧ r.2.mem ((c.tc : Thread Cert.InxRIdeal.nD Cert.InxRIdeal.τ).loc Cert.InxRIdeal.main_arg2) = m' ((c.tc : Thread Cert.InxRIdeal.nD Cert.InxRIdeal.τ).loc Cert.InxRIdeal.main_arg2)
          ∧ r.2.mem ((c.tc : Thread Cert.InxRIdeal.nD Cert.InxRIdeal.τ).loc Cert.InxRIdeal.main_arg3) = m' ((c.tc : Thread Cert.InxRIdeal.nD Cert.InxRIdeal.τ).loc Cert.InxRIdeal.main_arg3)
          ∧ r.2.mem ((c.tc : Thread Cert.InxRIdeal.nD Cert.InxRIdeal.τ).loc Cert.InxRIdeal.main_arg4) = m' ((c.tc : Thread Cert.InxRIdeal.nD Cert.InxRIdeal.τ).loc Cert.InxRIdeal.main_arg4))

def preserves_SguK_SguKIdeal : Prop :=
  IdealRules.named_const.Statement Cert.SguKIdeal.κ "c" .f32 0x3F3504F3#32 (((Real.sqrt 2)⁻¹ : ℝ) : EReal)
  ∧ IdealRules.named_const.Statement Cert.SguKIdeal.κ "p" .f32 0x3ECC422A#32 (((9465531 / 16777216) * (Real.sqrt 2)⁻¹ : ℝ) : EReal)

def algebraic_SguKIdeal_SguRIdeal_pre_finite_sgu [hSguKIdeal : Cert.SguKIdeal.Facts] [hSguRIdeal : Cert.SguRIdeal.Facts] [hPre_finite_sgu : Cert.Pre_finite_sgu.Facts] : Prop :=
  ∀ (m : (ℓ : Loc Cert.SguKIdeal.nD Cert.SguKIdeal.τ Cert.SguKIdeal.sig) → Buf (Elt Ideal) ℓ) (g : Dev Cert.SguKIdeal.nD → PrngReg)
    (m' : (ℓ : Loc Cert.SguRIdeal.nD Cert.SguRIdeal.τ Cert.SguRIdeal.sig) → Buf (Elt Ideal) ℓ) (g' : Dev Cert.SguRIdeal.nD → PrngReg), Pre_SguKIdeal_finite_sgu m →
    (∀ c : Dev Cert.SguKIdeal.nD,
      m' ((c.tc : Thread Cert.SguRIdeal.nD Cert.SguRIdeal.τ).loc Cert.SguRIdeal.main_arg0) = m ((c.tc : Thread Cert.SguKIdeal.nD Cert.SguKIdeal.τ).loc Cert.SguKIdeal.main_arg0)
      ∧ m' ((c.tc : Thread Cert.SguRIdeal.nD Cert.SguRIdeal.τ).loc Cert.SguRIdeal.main_arg1) = m ((c.tc : Thread Cert.SguKIdeal.nD Cert.SguKIdeal.τ).loc Cert.SguKIdeal.main_arg1)
      ∧ m' ((c.tc : Thread Cert.SguRIdeal.nD Cert.SguRIdeal.τ).loc Cert.SguRIdeal.main_arg2) = m ((c.tc : Thread Cert.SguKIdeal.nD Cert.SguKIdeal.τ).loc Cert.SguKIdeal.main_arg2)
      ∧ m' ((c.tc : Thread Cert.SguRIdeal.nD Cert.SguRIdeal.τ).loc Cert.SguRIdeal.main_arg3) = m ((c.tc : Thread Cert.SguKIdeal.nD Cert.SguKIdeal.τ).loc Cert.SguKIdeal.main_arg3)
      ∧ m' ((c.tc : Thread Cert.SguRIdeal.nD Cert.SguRIdeal.τ).loc Cert.SguRIdeal.main_arg4) = m ((c.tc : Thread Cert.SguKIdeal.nD Cert.SguKIdeal.τ).loc Cert.SguKIdeal.main_arg4)
      ∧ m' ((c.tc : Thread Cert.SguRIdeal.nD Cert.SguRIdeal.τ).loc Cert.SguRIdeal.main_arg5) = m ((c.tc : Thread Cert.SguKIdeal.nD Cert.SguKIdeal.τ).loc Cert.SguKIdeal.main_arg5)
      ∧ m' ((c.tc : Thread Cert.SguRIdeal.nD Cert.SguRIdeal.τ).loc Cert.SguRIdeal.main_arg6) = m ((c.tc : Thread Cert.SguKIdeal.nD Cert.SguKIdeal.τ).loc Cert.SguKIdeal.main_arg6)) →
    ∃ (v0 : (c : Dev Cert.SguKIdeal.nD) → Buf (Elt Ideal) ((c.tc : Thread Cert.SguKIdeal.nD Cert.SguKIdeal.τ).loc Cert.SguKIdeal.main_v7_0)) (v1 : (c : Dev Cert.SguKIdeal.nD) → Buf (Elt Ideal) ((c.tc : Thread Cert.SguKIdeal.nD Cert.SguKIdeal.τ).loc Cert.SguKIdeal.main_v7_1)) (v2 : (c : Dev Cert.SguKIdeal.nD) → Buf (Elt Ideal) ((c.tc : Thread Cert.SguKIdeal.nD Cert.SguKIdeal.τ).loc Cert.SguKIdeal.main_v7_2)) (v3 : (c : Dev Cert.SguKIdeal.nD) → Buf (Elt Ideal) ((c.tc : Thread Cert.SguKIdeal.nD Cert.SguKIdeal.τ).loc Cert.SguKIdeal.main_v7_3)) (v4 : (c : Dev Cert.SguKIdeal.nD) → Buf (Elt Ideal) ((c.tc : Thread Cert.SguKIdeal.nD Cert.SguKIdeal.τ).loc Cert.SguKIdeal.main_v7_4)) (v5 : (c : Dev Cert.SguKIdeal.nD) → Buf (Elt Ideal) ((c.tc : Thread Cert.SguKIdeal.nD Cert.SguKIdeal.τ).loc Cert.SguKIdeal.main_v7_5)),
      θ_run (Cert.SguKIdeal.defs (F := Ideal)) (onTc (τ := Cert.SguKIdeal.τ) (Cert.SguKIdeal.main (F := Ideal))) ⟨m, fun _ => 0, g⟩ (fun r => ∀ c : Dev Cert.SguKIdeal.nD,
          r.2.mem ((c.tc : Thread Cert.SguKIdeal.nD Cert.SguKIdeal.τ).loc Cert.SguKIdeal.main_v7_0) = v0 c
          ∧ r.2.mem ((c.tc : Thread Cert.SguKIdeal.nD Cert.SguKIdeal.τ).loc Cert.SguKIdeal.main_v7_1) = v1 c
          ∧ r.2.mem ((c.tc : Thread Cert.SguKIdeal.nD Cert.SguKIdeal.τ).loc Cert.SguKIdeal.main_v7_2) = v2 c
          ∧ r.2.mem ((c.tc : Thread Cert.SguKIdeal.nD Cert.SguKIdeal.τ).loc Cert.SguKIdeal.main_v7_3) = v3 c
          ∧ r.2.mem ((c.tc : Thread Cert.SguKIdeal.nD Cert.SguKIdeal.τ).loc Cert.SguKIdeal.main_v7_4) = v4 c
          ∧ r.2.mem ((c.tc : Thread Cert.SguKIdeal.nD Cert.SguKIdeal.τ).loc Cert.SguKIdeal.main_v7_5) = v5 c
          ∧ r.2.mem ((c.tc : Thread Cert.SguKIdeal.nD Cert.SguKIdeal.τ).loc Cert.SguKIdeal.main_arg0) = m ((c.tc : Thread Cert.SguKIdeal.nD Cert.SguKIdeal.τ).loc Cert.SguKIdeal.main_arg0)
          ∧ r.2.mem ((c.tc : Thread Cert.SguKIdeal.nD Cert.SguKIdeal.τ).loc Cert.SguKIdeal.main_arg1) = m ((c.tc : Thread Cert.SguKIdeal.nD Cert.SguKIdeal.τ).loc Cert.SguKIdeal.main_arg1)
          ∧ r.2.mem ((c.tc : Thread Cert.SguKIdeal.nD Cert.SguKIdeal.τ).loc Cert.SguKIdeal.main_arg2) = m ((c.tc : Thread Cert.SguKIdeal.nD Cert.SguKIdeal.τ).loc Cert.SguKIdeal.main_arg2)
          ∧ r.2.mem ((c.tc : Thread Cert.SguKIdeal.nD Cert.SguKIdeal.τ).loc Cert.SguKIdeal.main_arg3) = m ((c.tc : Thread Cert.SguKIdeal.nD Cert.SguKIdeal.τ).loc Cert.SguKIdeal.main_arg3)
          ∧ r.2.mem ((c.tc : Thread Cert.SguKIdeal.nD Cert.SguKIdeal.τ).loc Cert.SguKIdeal.main_arg4) = m ((c.tc : Thread Cert.SguKIdeal.nD Cert.SguKIdeal.τ).loc Cert.SguKIdeal.main_arg4)
          ∧ r.2.mem ((c.tc : Thread Cert.SguKIdeal.nD Cert.SguKIdeal.τ).loc Cert.SguKIdeal.main_arg5) = m ((c.tc : Thread Cert.SguKIdeal.nD Cert.SguKIdeal.τ).loc Cert.SguKIdeal.main_arg5)
          ∧ r.2.mem ((c.tc : Thread Cert.SguKIdeal.nD Cert.SguKIdeal.τ).loc Cert.SguKIdeal.main_arg6) = m ((c.tc : Thread Cert.SguKIdeal.nD Cert.SguKIdeal.τ).loc Cert.SguKIdeal.main_arg6))
      ∧ θ_run (Cert.SguRIdeal.defs (F := Ideal)) (onTc (τ := Cert.SguRIdeal.τ) (Cert.SguRIdeal.main (F := Ideal))) ⟨m', fun _ => 0, g'⟩ (fun r => ∀ c : Dev Cert.SguRIdeal.nD,
          r.2.mem ((c.tc : Thread Cert.SguRIdeal.nD Cert.SguRIdeal.τ).loc Cert.SguRIdeal.main_v140) = v0 c
          ∧ r.2.mem ((c.tc : Thread Cert.SguRIdeal.nD Cert.SguRIdeal.τ).loc Cert.SguRIdeal.main_v141) = v1 c
          ∧ r.2.mem ((c.tc : Thread Cert.SguRIdeal.nD Cert.SguRIdeal.τ).loc Cert.SguRIdeal.main_v83) = v2 c
          ∧ r.2.mem ((c.tc : Thread Cert.SguRIdeal.nD Cert.SguRIdeal.τ).loc Cert.SguRIdeal.main_v78) = v3 c
          ∧ r.2.mem ((c.tc : Thread Cert.SguRIdeal.nD Cert.SguRIdeal.τ).loc Cert.SguRIdeal.main_v142) = v4 c
          ∧ r.2.mem ((c.tc : Thread Cert.SguRIdeal.nD Cert.SguRIdeal.τ).loc Cert.SguRIdeal.main_v143) = v5 c
          ∧ r.2.mem ((c.tc : Thread Cert.SguRIdeal.nD Cert.SguRIdeal.τ).loc Cert.SguRIdeal.main_arg0) = m' ((c.tc : Thread Cert.SguRIdeal.nD Cert.SguRIdeal.τ).loc Cert.SguRIdeal.main_arg0)
          ∧ r.2.mem ((c.tc : Thread Cert.SguRIdeal.nD Cert.SguRIdeal.τ).loc Cert.SguRIdeal.main_arg1) = m' ((c.tc : Thread Cert.SguRIdeal.nD Cert.SguRIdeal.τ).loc Cert.SguRIdeal.main_arg1)
          ∧ r.2.mem ((c.tc : Thread Cert.SguRIdeal.nD Cert.SguRIdeal.τ).loc Cert.SguRIdeal.main_arg2) = m' ((c.tc : Thread Cert.SguRIdeal.nD Cert.SguRIdeal.τ).loc Cert.SguRIdeal.main_arg2)
          ∧ r.2.mem ((c.tc : Thread Cert.SguRIdeal.nD Cert.SguRIdeal.τ).loc Cert.SguRIdeal.main_arg3) = m' ((c.tc : Thread Cert.SguRIdeal.nD Cert.SguRIdeal.τ).loc Cert.SguRIdeal.main_arg3)
          ∧ r.2.mem ((c.tc : Thread Cert.SguRIdeal.nD Cert.SguRIdeal.τ).loc Cert.SguRIdeal.main_arg4) = m' ((c.tc : Thread Cert.SguRIdeal.nD Cert.SguRIdeal.τ).loc Cert.SguRIdeal.main_arg4)
          ∧ r.2.mem ((c.tc : Thread Cert.SguRIdeal.nD Cert.SguRIdeal.τ).loc Cert.SguRIdeal.main_arg5) = m' ((c.tc : Thread Cert.SguRIdeal.nD Cert.SguRIdeal.τ).loc Cert.SguRIdeal.main_arg5)
          ∧ r.2.mem ((c.tc : Thread Cert.SguRIdeal.nD Cert.SguRIdeal.τ).loc Cert.SguRIdeal.main_arg6) = m' ((c.tc : Thread Cert.SguRIdeal.nD Cert.SguRIdeal.τ).loc Cert.SguRIdeal.main_arg6))

def preserves_PleK_PleKIdeal : Prop :=
  True

def algebraic_PleKIdeal_PleRIdeal [hPleKIdeal : Cert.PleKIdeal.Facts] [hPleRIdeal : Cert.PleRIdeal.Facts] : Prop :=
  ∀ (m : (ℓ : Loc Cert.PleKIdeal.nD Cert.PleKIdeal.τ Cert.PleKIdeal.sig) → Buf (Elt Ideal) ℓ) (g : Dev Cert.PleKIdeal.nD → PrngReg)
    (m' : (ℓ : Loc Cert.PleRIdeal.nD Cert.PleRIdeal.τ Cert.PleRIdeal.sig) → Buf (Elt Ideal) ℓ) (g' : Dev Cert.PleRIdeal.nD → PrngReg), Pre_PleKIdeal m →
    (∀ c : Dev Cert.PleKIdeal.nD,
      m' ((c.tc : Thread Cert.PleRIdeal.nD Cert.PleRIdeal.τ).loc Cert.PleRIdeal.main_arg0) = m ((c.tc : Thread Cert.PleKIdeal.nD Cert.PleKIdeal.τ).loc Cert.PleKIdeal.main_arg0)
      ∧ m' ((c.tc : Thread Cert.PleRIdeal.nD Cert.PleRIdeal.τ).loc Cert.PleRIdeal.main_arg1) = m ((c.tc : Thread Cert.PleKIdeal.nD Cert.PleKIdeal.τ).loc Cert.PleKIdeal.main_arg1)
      ∧ m' ((c.tc : Thread Cert.PleRIdeal.nD Cert.PleRIdeal.τ).loc Cert.PleRIdeal.main_arg2) = m ((c.tc : Thread Cert.PleKIdeal.nD Cert.PleKIdeal.τ).loc Cert.PleKIdeal.main_arg2)
      ∧ m' ((c.tc : Thread Cert.PleRIdeal.nD Cert.PleRIdeal.τ).loc Cert.PleRIdeal.main_arg3) = m ((c.tc : Thread Cert.PleKIdeal.nD Cert.PleKIdeal.τ).loc Cert.PleKIdeal.main_arg3)
      ∧ m' ((c.tc : Thread Cert.PleRIdeal.nD Cert.PleRIdeal.τ).loc Cert.PleRIdeal.main_arg4) = m ((c.tc : Thread Cert.PleKIdeal.nD Cert.PleKIdeal.τ).loc Cert.PleKIdeal.main_arg4)
      ∧ m' ((c.tc : Thread Cert.PleRIdeal.nD Cert.PleRIdeal.τ).loc Cert.PleRIdeal.main_arg5) = m ((c.tc : Thread Cert.PleKIdeal.nD Cert.PleKIdeal.τ).loc Cert.PleKIdeal.main_arg5)) →
    ∃ (v0 : (c : Dev Cert.PleKIdeal.nD) → Buf (Elt Ideal) ((c.tc : Thread Cert.PleKIdeal.nD Cert.PleKIdeal.τ).loc Cert.PleKIdeal.main_v27_0)) (v1 : (c : Dev Cert.PleKIdeal.nD) → Buf (Elt Ideal) ((c.tc : Thread Cert.PleKIdeal.nD Cert.PleKIdeal.τ).loc Cert.PleKIdeal.main_v27_1)) (v2 : (c : Dev Cert.PleKIdeal.nD) → Buf (Elt Ideal) ((c.tc : Thread Cert.PleKIdeal.nD Cert.PleKIdeal.τ).loc Cert.PleKIdeal.main_v27_2)) (v3 : (c : Dev Cert.PleKIdeal.nD) → Buf (Elt Ideal) ((c.tc : Thread Cert.PleKIdeal.nD Cert.PleKIdeal.τ).loc Cert.PleKIdeal.main_v27_3)),
      θ_run (Cert.PleKIdeal.defs (F := Ideal)) (onTc (τ := Cert.PleKIdeal.τ) (Cert.PleKIdeal.main (F := Ideal))) ⟨m, fun _ => 0, g⟩ (fun r => ∀ c : Dev Cert.PleKIdeal.nD,
          r.2.mem ((c.tc : Thread Cert.PleKIdeal.nD Cert.PleKIdeal.τ).loc Cert.PleKIdeal.main_v27_0) = v0 c
          ∧ r.2.mem ((c.tc : Thread Cert.PleKIdeal.nD Cert.PleKIdeal.τ).loc Cert.PleKIdeal.main_v27_1) = v1 c
          ∧ r.2.mem ((c.tc : Thread Cert.PleKIdeal.nD Cert.PleKIdeal.τ).loc Cert.PleKIdeal.main_v27_2) = v2 c
          ∧ r.2.mem ((c.tc : Thread Cert.PleKIdeal.nD Cert.PleKIdeal.τ).loc Cert.PleKIdeal.main_v27_3) = v3 c
          ∧ r.2.mem ((c.tc : Thread Cert.PleKIdeal.nD Cert.PleKIdeal.τ).loc Cert.PleKIdeal.main_arg0) = m ((c.tc : Thread Cert.PleKIdeal.nD Cert.PleKIdeal.τ).loc Cert.PleKIdeal.main_arg0)
          ∧ r.2.mem ((c.tc : Thread Cert.PleKIdeal.nD Cert.PleKIdeal.τ).loc Cert.PleKIdeal.main_arg1) = m ((c.tc : Thread Cert.PleKIdeal.nD Cert.PleKIdeal.τ).loc Cert.PleKIdeal.main_arg1)
          ∧ r.2.mem ((c.tc : Thread Cert.PleKIdeal.nD Cert.PleKIdeal.τ).loc Cert.PleKIdeal.main_arg2) = m ((c.tc : Thread Cert.PleKIdeal.nD Cert.PleKIdeal.τ).loc Cert.PleKIdeal.main_arg2)
          ∧ r.2.mem ((c.tc : Thread Cert.PleKIdeal.nD Cert.PleKIdeal.τ).loc Cert.PleKIdeal.main_arg3) = m ((c.tc : Thread Cert.PleKIdeal.nD Cert.PleKIdeal.τ).loc Cert.PleKIdeal.main_arg3)
          ∧ r.2.mem ((c.tc : Thread Cert.PleKIdeal.nD Cert.PleKIdeal.τ).loc Cert.PleKIdeal.main_arg4) = m ((c.tc : Thread Cert.PleKIdeal.nD Cert.PleKIdeal.τ).loc Cert.PleKIdeal.main_arg4)
          ∧ r.2.mem ((c.tc : Thread Cert.PleKIdeal.nD Cert.PleKIdeal.τ).loc Cert.PleKIdeal.main_arg5) = m ((c.tc : Thread Cert.PleKIdeal.nD Cert.PleKIdeal.τ).loc Cert.PleKIdeal.main_arg5))
      ∧ θ_run (Cert.PleRIdeal.defs (F := Ideal)) (onTc (τ := Cert.PleRIdeal.τ) (Cert.PleRIdeal.main (F := Ideal))) ⟨m', fun _ => 0, g'⟩ (fun r => ∀ c : Dev Cert.PleRIdeal.nD,
          r.2.mem ((c.tc : Thread Cert.PleRIdeal.nD Cert.PleRIdeal.τ).loc Cert.PleRIdeal.main_v61) = v0 c
          ∧ r.2.mem ((c.tc : Thread Cert.PleRIdeal.nD Cert.PleRIdeal.τ).loc Cert.PleRIdeal.main_v62) = v1 c
          ∧ r.2.mem ((c.tc : Thread Cert.PleRIdeal.nD Cert.PleRIdeal.τ).loc Cert.PleRIdeal.main_v63) = v2 c
          ∧ r.2.mem ((c.tc : Thread Cert.PleRIdeal.nD Cert.PleRIdeal.τ).loc Cert.PleRIdeal.main_v64) = v3 c
          ∧ r.2.mem ((c.tc : Thread Cert.PleRIdeal.nD Cert.PleRIdeal.τ).loc Cert.PleRIdeal.main_arg0) = m' ((c.tc : Thread Cert.PleRIdeal.nD Cert.PleRIdeal.τ).loc Cert.PleRIdeal.main_arg0)
          ∧ r.2.mem ((c.tc : Thread Cert.PleRIdeal.nD Cert.PleRIdeal.τ).loc Cert.PleRIdeal.main_arg1) = m' ((c.tc : Thread Cert.PleRIdeal.nD Cert.PleRIdeal.τ).loc Cert.PleRIdeal.main_arg1)
          ∧ r.2.mem ((c.tc : Thread Cert.PleRIdeal.nD Cert.PleRIdeal.τ).loc Cert.PleRIdeal.main_arg2) = m' ((c.tc : Thread Cert.PleRIdeal.nD Cert.PleRIdeal.τ).loc Cert.PleRIdeal.main_arg2)
          ∧ r.2.mem ((c.tc : Thread Cert.PleRIdeal.nD Cert.PleRIdeal.τ).loc Cert.PleRIdeal.main_arg3) = m' ((c.tc : Thread Cert.PleRIdeal.nD Cert.PleRIdeal.τ).loc Cert.PleRIdeal.main_arg3)
          ∧ r.2.mem ((c.tc : Thread Cert.PleRIdeal.nD Cert.PleRIdeal.τ).loc Cert.PleRIdeal.main_arg4) = m' ((c.tc : Thread Cert.PleRIdeal.nD Cert.PleRIdeal.τ).loc Cert.PleRIdeal.main_arg4)
          ∧ r.2.mem ((c.tc : Thread Cert.PleRIdeal.nD Cert.PleRIdeal.τ).loc Cert.PleRIdeal.main_arg5) = m' ((c.tc : Thread Cert.PleRIdeal.nD Cert.PleRIdeal.τ).loc Cert.PleRIdeal.main_arg5))

def preserves_OconvK_OconvKIdeal : Prop :=
  True

def algebraic_OconvKIdeal_OconvRIdeal_pre_finite_oconv [hOconvKIdeal : Cert.OconvKIdeal.Facts] [hOconvRIdeal : Cert.OconvRIdeal.Facts] [hPre_finite_oconv : Cert.Pre_finite_oconv.Facts] : Prop :=
  ∀ (m : (ℓ : Loc Cert.OconvKIdeal.nD Cert.OconvKIdeal.τ Cert.OconvKIdeal.sig) → Buf (Elt Ideal) ℓ) (g : Dev Cert.OconvKIdeal.nD → PrngReg)
    (m' : (ℓ : Loc Cert.OconvRIdeal.nD Cert.OconvRIdeal.τ Cert.OconvRIdeal.sig) → Buf (Elt Ideal) ℓ) (g' : Dev Cert.OconvRIdeal.nD → PrngReg), Pre_OconvKIdeal_finite_oconv m →
    (∀ c : Dev Cert.OconvKIdeal.nD,
      m' ((c.tc : Thread Cert.OconvRIdeal.nD Cert.OconvRIdeal.τ).loc Cert.OconvRIdeal.main_arg0) = m ((c.tc : Thread Cert.OconvKIdeal.nD Cert.OconvKIdeal.τ).loc Cert.OconvKIdeal.main_arg0)
      ∧ m' ((c.tc : Thread Cert.OconvRIdeal.nD Cert.OconvRIdeal.τ).loc Cert.OconvRIdeal.main_arg1) = m ((c.tc : Thread Cert.OconvKIdeal.nD Cert.OconvKIdeal.τ).loc Cert.OconvKIdeal.main_arg1)
      ∧ m' ((c.tc : Thread Cert.OconvRIdeal.nD Cert.OconvRIdeal.τ).loc Cert.OconvRIdeal.main_arg2) = m ((c.tc : Thread Cert.OconvKIdeal.nD Cert.OconvKIdeal.τ).loc Cert.OconvKIdeal.main_arg2)
      ∧ m' ((c.tc : Thread Cert.OconvRIdeal.nD Cert.OconvRIdeal.τ).loc Cert.OconvRIdeal.main_arg3) = m ((c.tc : Thread Cert.OconvKIdeal.nD Cert.OconvKIdeal.τ).loc Cert.OconvKIdeal.main_arg3)
      ∧ m' ((c.tc : Thread Cert.OconvRIdeal.nD Cert.OconvRIdeal.τ).loc Cert.OconvRIdeal.main_arg4) = m ((c.tc : Thread Cert.OconvKIdeal.nD Cert.OconvKIdeal.τ).loc Cert.OconvKIdeal.main_arg4)
      ∧ m' ((c.tc : Thread Cert.OconvRIdeal.nD Cert.OconvRIdeal.τ).loc Cert.OconvRIdeal.main_arg5) = m ((c.tc : Thread Cert.OconvKIdeal.nD Cert.OconvKIdeal.τ).loc Cert.OconvKIdeal.main_arg5)
      ∧ m' ((c.tc : Thread Cert.OconvRIdeal.nD Cert.OconvRIdeal.τ).loc Cert.OconvRIdeal.main_arg6) = m ((c.tc : Thread Cert.OconvKIdeal.nD Cert.OconvKIdeal.τ).loc Cert.OconvKIdeal.main_arg6)) →
    ∃ (v0 : (c : Dev Cert.OconvKIdeal.nD) → Buf (Elt Ideal) ((c.tc : Thread Cert.OconvKIdeal.nD Cert.OconvKIdeal.τ).loc Cert.OconvKIdeal.main_v9_0)) (v1 : (c : Dev Cert.OconvKIdeal.nD) → Buf (Elt Ideal) ((c.tc : Thread Cert.OconvKIdeal.nD Cert.OconvKIdeal.τ).loc Cert.OconvKIdeal.main_v9_1)) (v2 : (c : Dev Cert.OconvKIdeal.nD) → Buf (Elt Ideal) ((c.tc : Thread Cert.OconvKIdeal.nD Cert.OconvKIdeal.τ).loc Cert.OconvKIdeal.main_v9_2)) (v3 : (c : Dev Cert.OconvKIdeal.nD) → Buf (Elt Ideal) ((c.tc : Thread Cert.OconvKIdeal.nD Cert.OconvKIdeal.τ).loc Cert.OconvKIdeal.main_v9_3)) (v4 : (c : Dev Cert.OconvKIdeal.nD) → Buf (Elt Ideal) ((c.tc : Thread Cert.OconvKIdeal.nD Cert.OconvKIdeal.τ).loc Cert.OconvKIdeal.main_v9_4)) (v5 : (c : Dev Cert.OconvKIdeal.nD) → Buf (Elt Ideal) ((c.tc : Thread Cert.OconvKIdeal.nD Cert.OconvKIdeal.τ).loc Cert.OconvKIdeal.main_v9_5)),
      θ_run (Cert.OconvKIdeal.defs (F := Ideal)) (onTc (τ := Cert.OconvKIdeal.τ) (Cert.OconvKIdeal.main (F := Ideal))) ⟨m, fun _ => 0, g⟩ (fun r => ∀ c : Dev Cert.OconvKIdeal.nD,
          r.2.mem ((c.tc : Thread Cert.OconvKIdeal.nD Cert.OconvKIdeal.τ).loc Cert.OconvKIdeal.main_v9_0) = v0 c
          ∧ r.2.mem ((c.tc : Thread Cert.OconvKIdeal.nD Cert.OconvKIdeal.τ).loc Cert.OconvKIdeal.main_v9_1) = v1 c
          ∧ r.2.mem ((c.tc : Thread Cert.OconvKIdeal.nD Cert.OconvKIdeal.τ).loc Cert.OconvKIdeal.main_v9_2) = v2 c
          ∧ r.2.mem ((c.tc : Thread Cert.OconvKIdeal.nD Cert.OconvKIdeal.τ).loc Cert.OconvKIdeal.main_v9_3) = v3 c
          ∧ r.2.mem ((c.tc : Thread Cert.OconvKIdeal.nD Cert.OconvKIdeal.τ).loc Cert.OconvKIdeal.main_v9_4) = v4 c
          ∧ r.2.mem ((c.tc : Thread Cert.OconvKIdeal.nD Cert.OconvKIdeal.τ).loc Cert.OconvKIdeal.main_v9_5) = v5 c
          ∧ r.2.mem ((c.tc : Thread Cert.OconvKIdeal.nD Cert.OconvKIdeal.τ).loc Cert.OconvKIdeal.main_arg0) = m ((c.tc : Thread Cert.OconvKIdeal.nD Cert.OconvKIdeal.τ).loc Cert.OconvKIdeal.main_arg0)
          ∧ r.2.mem ((c.tc : Thread Cert.OconvKIdeal.nD Cert.OconvKIdeal.τ).loc Cert.OconvKIdeal.main_arg1) = m ((c.tc : Thread Cert.OconvKIdeal.nD Cert.OconvKIdeal.τ).loc Cert.OconvKIdeal.main_arg1)
          ∧ r.2.mem ((c.tc : Thread Cert.OconvKIdeal.nD Cert.OconvKIdeal.τ).loc Cert.OconvKIdeal.main_arg2) = m ((c.tc : Thread Cert.OconvKIdeal.nD Cert.OconvKIdeal.τ).loc Cert.OconvKIdeal.main_arg2)
          ∧ r.2.mem ((c.tc : Thread Cert.OconvKIdeal.nD Cert.OconvKIdeal.τ).loc Cert.OconvKIdeal.main_arg3) = m ((c.tc : Thread Cert.OconvKIdeal.nD Cert.OconvKIdeal.τ).loc Cert.OconvKIdeal.main_arg3)
          ∧ r.2.mem ((c.tc : Thread Cert.OconvKIdeal.nD Cert.OconvKIdeal.τ).loc Cert.OconvKIdeal.main_arg4) = m ((c.tc : Thread Cert.OconvKIdeal.nD Cert.OconvKIdeal.τ).loc Cert.OconvKIdeal.main_arg4)
          ∧ r.2.mem ((c.tc : Thread Cert.OconvKIdeal.nD Cert.OconvKIdeal.τ).loc Cert.OconvKIdeal.main_arg5) = m ((c.tc : Thread Cert.OconvKIdeal.nD Cert.OconvKIdeal.τ).loc Cert.OconvKIdeal.main_arg5)
          ∧ r.2.mem ((c.tc : Thread Cert.OconvKIdeal.nD Cert.OconvKIdeal.τ).loc Cert.OconvKIdeal.main_arg6) = m ((c.tc : Thread Cert.OconvKIdeal.nD Cert.OconvKIdeal.τ).loc Cert.OconvKIdeal.main_arg6))
      ∧ θ_run (Cert.OconvRIdeal.defs (F := Ideal)) (onTc (τ := Cert.OconvRIdeal.τ) (Cert.OconvRIdeal.main (F := Ideal))) ⟨m', fun _ => 0, g'⟩ (fun r => ∀ c : Dev Cert.OconvRIdeal.nD,
          r.2.mem ((c.tc : Thread Cert.OconvRIdeal.nD Cert.OconvRIdeal.τ).loc Cert.OconvRIdeal.main_v76) = v0 c
          ∧ r.2.mem ((c.tc : Thread Cert.OconvRIdeal.nD Cert.OconvRIdeal.τ).loc Cert.OconvRIdeal.main_v78) = v1 c
          ∧ r.2.mem ((c.tc : Thread Cert.OconvRIdeal.nD Cert.OconvRIdeal.τ).loc Cert.OconvRIdeal.main_v79) = v2 c
          ∧ r.2.mem ((c.tc : Thread Cert.OconvRIdeal.nD Cert.OconvRIdeal.τ).loc Cert.OconvRIdeal.main_v80) = v3 c
          ∧ r.2.mem ((c.tc : Thread Cert.OconvRIdeal.nD Cert.OconvRIdeal.τ).loc Cert.OconvRIdeal.main_v81) = v4 c
          ∧ r.2.mem ((c.tc : Thread Cert.OconvRIdeal.nD Cert.OconvRIdeal.τ).loc Cert.OconvRIdeal.main_v82) = v5 c
          ∧ r.2.mem ((c.tc : Thread Cert.OconvRIdeal.nD Cert.OconvRIdeal.τ).loc Cert.OconvRIdeal.main_arg0) = m' ((c.tc : Thread Cert.OconvRIdeal.nD Cert.OconvRIdeal.τ).loc Cert.OconvRIdeal.main_arg0)
          ∧ r.2.mem ((c.tc : Thread Cert.OconvRIdeal.nD Cert.OconvRIdeal.τ).loc Cert.OconvRIdeal.main_arg1) = m' ((c.tc : Thread Cert.OconvRIdeal.nD Cert.OconvRIdeal.τ).loc Cert.OconvRIdeal.main_arg1)
          ∧ r.2.mem ((c.tc : Thread Cert.OconvRIdeal.nD Cert.OconvRIdeal.τ).loc Cert.OconvRIdeal.main_arg2) = m' ((c.tc : Thread Cert.OconvRIdeal.nD Cert.OconvRIdeal.τ).loc Cert.OconvRIdeal.main_arg2)
          ∧ r.2.mem ((c.tc : Thread Cert.OconvRIdeal.nD Cert.OconvRIdeal.τ).loc Cert.OconvRIdeal.main_arg3) = m' ((c.tc : Thread Cert.OconvRIdeal.nD Cert.OconvRIdeal.τ).loc Cert.OconvRIdeal.main_arg3)
          ∧ r.2.mem ((c.tc : Thread Cert.OconvRIdeal.nD Cert.OconvRIdeal.τ).loc Cert.OconvRIdeal.main_arg4) = m' ((c.tc : Thread Cert.OconvRIdeal.nD Cert.OconvRIdeal.τ).loc Cert.OconvRIdeal.main_arg4)
          ∧ r.2.mem ((c.tc : Thread Cert.OconvRIdeal.nD Cert.OconvRIdeal.τ).loc Cert.OconvRIdeal.main_arg5) = m' ((c.tc : Thread Cert.OconvRIdeal.nD Cert.OconvRIdeal.τ).loc Cert.OconvRIdeal.main_arg5)
          ∧ r.2.mem ((c.tc : Thread Cert.OconvRIdeal.nD Cert.OconvRIdeal.τ).loc Cert.OconvRIdeal.main_arg6) = m' ((c.tc : Thread Cert.OconvRIdeal.nD Cert.OconvRIdeal.τ).loc Cert.OconvRIdeal.main_arg6))

def preserves_LsguK_LsguKIdeal : Prop :=
  IdealRules.named_const.Statement Cert.LsguKIdeal.κ "c" .f32 0x3F3504F3#32 (((Real.sqrt 2)⁻¹ : ℝ) : EReal)

def algebraic_LsguKIdeal_LsguRIdeal [hLsguKIdeal : Cert.LsguKIdeal.Facts] [hLsguRIdeal : Cert.LsguRIdeal.Facts] : Prop :=
  ∀ (m : (ℓ : Loc Cert.LsguKIdeal.nD Cert.LsguKIdeal.τ Cert.LsguKIdeal.sig) → Buf (Elt Ideal) ℓ) (g : Dev Cert.LsguKIdeal.nD → PrngReg)
    (m' : (ℓ : Loc Cert.LsguRIdeal.nD Cert.LsguRIdeal.τ Cert.LsguRIdeal.sig) → Buf (Elt Ideal) ℓ) (g' : Dev Cert.LsguRIdeal.nD → PrngReg), Pre_LsguKIdeal m →
    (∀ c : Dev Cert.LsguKIdeal.nD,
      m' ((c.tc : Thread Cert.LsguRIdeal.nD Cert.LsguRIdeal.τ).loc Cert.LsguRIdeal.main_arg0) = m ((c.tc : Thread Cert.LsguKIdeal.nD Cert.LsguKIdeal.τ).loc Cert.LsguKIdeal.main_arg0)
      ∧ m' ((c.tc : Thread Cert.LsguRIdeal.nD Cert.LsguRIdeal.τ).loc Cert.LsguRIdeal.main_arg1) = m ((c.tc : Thread Cert.LsguKIdeal.nD Cert.LsguKIdeal.τ).loc Cert.LsguKIdeal.main_arg1)
      ∧ m' ((c.tc : Thread Cert.LsguRIdeal.nD Cert.LsguRIdeal.τ).loc Cert.LsguRIdeal.main_arg2) = m ((c.tc : Thread Cert.LsguKIdeal.nD Cert.LsguKIdeal.τ).loc Cert.LsguKIdeal.main_arg2)
      ∧ m' ((c.tc : Thread Cert.LsguRIdeal.nD Cert.LsguRIdeal.τ).loc Cert.LsguRIdeal.main_arg3) = m ((c.tc : Thread Cert.LsguKIdeal.nD Cert.LsguKIdeal.τ).loc Cert.LsguKIdeal.main_arg3)
      ∧ m' ((c.tc : Thread Cert.LsguRIdeal.nD Cert.LsguRIdeal.τ).loc Cert.LsguRIdeal.main_arg4) = m ((c.tc : Thread Cert.LsguKIdeal.nD Cert.LsguKIdeal.τ).loc Cert.LsguKIdeal.main_arg4)
      ∧ m' ((c.tc : Thread Cert.LsguRIdeal.nD Cert.LsguRIdeal.τ).loc Cert.LsguRIdeal.main_arg5) = m ((c.tc : Thread Cert.LsguKIdeal.nD Cert.LsguKIdeal.τ).loc Cert.LsguKIdeal.main_arg5)
      ∧ m' ((c.tc : Thread Cert.LsguRIdeal.nD Cert.LsguRIdeal.τ).loc Cert.LsguRIdeal.main_arg6) = m ((c.tc : Thread Cert.LsguKIdeal.nD Cert.LsguKIdeal.τ).loc Cert.LsguKIdeal.main_arg6)
      ∧ m' ((c.tc : Thread Cert.LsguRIdeal.nD Cert.LsguRIdeal.τ).loc Cert.LsguRIdeal.main_arg7) = m ((c.tc : Thread Cert.LsguKIdeal.nD Cert.LsguKIdeal.τ).loc Cert.LsguKIdeal.main_arg7)
      ∧ m' ((c.tc : Thread Cert.LsguRIdeal.nD Cert.LsguRIdeal.τ).loc Cert.LsguRIdeal.main_arg8) = m ((c.tc : Thread Cert.LsguKIdeal.nD Cert.LsguKIdeal.τ).loc Cert.LsguKIdeal.main_arg8)
      ∧ m' ((c.tc : Thread Cert.LsguRIdeal.nD Cert.LsguRIdeal.τ).loc Cert.LsguRIdeal.main_arg9) = m ((c.tc : Thread Cert.LsguKIdeal.nD Cert.LsguKIdeal.τ).loc Cert.LsguKIdeal.main_arg9)
      ∧ m' ((c.tc : Thread Cert.LsguRIdeal.nD Cert.LsguRIdeal.τ).loc Cert.LsguRIdeal.main_arg10) = m ((c.tc : Thread Cert.LsguKIdeal.nD Cert.LsguKIdeal.τ).loc Cert.LsguKIdeal.main_arg10)
      ∧ m' ((c.tc : Thread Cert.LsguRIdeal.nD Cert.LsguRIdeal.τ).loc Cert.LsguRIdeal.main_arg11) = m ((c.tc : Thread Cert.LsguKIdeal.nD Cert.LsguKIdeal.τ).loc Cert.LsguKIdeal.main_arg11)) →
    ∃ (v0 : (c : Dev Cert.LsguKIdeal.nD) → Buf (Elt Ideal) ((c.tc : Thread Cert.LsguKIdeal.nD Cert.LsguKIdeal.τ).loc Cert.LsguKIdeal.main_v13_0)) (v1 : (c : Dev Cert.LsguKIdeal.nD) → Buf (Elt Ideal) ((c.tc : Thread Cert.LsguKIdeal.nD Cert.LsguKIdeal.τ).loc Cert.LsguKIdeal.main_v13_1)) (v2 : (c : Dev Cert.LsguKIdeal.nD) → Buf (Elt Ideal) ((c.tc : Thread Cert.LsguKIdeal.nD Cert.LsguKIdeal.τ).loc Cert.LsguKIdeal.main_v13_2)) (v3 : (c : Dev Cert.LsguKIdeal.nD) → Buf (Elt Ideal) ((c.tc : Thread Cert.LsguKIdeal.nD Cert.LsguKIdeal.τ).loc Cert.LsguKIdeal.main_v13_3)) (v4 : (c : Dev Cert.LsguKIdeal.nD) → Buf (Elt Ideal) ((c.tc : Thread Cert.LsguKIdeal.nD Cert.LsguKIdeal.τ).loc Cert.LsguKIdeal.main_v13_4)),
      θ_run (Cert.LsguKIdeal.defs (F := Ideal)) (onTc (τ := Cert.LsguKIdeal.τ) (Cert.LsguKIdeal.main (F := Ideal))) ⟨m, fun _ => 0, g⟩ (fun r => ∀ c : Dev Cert.LsguKIdeal.nD,
          r.2.mem ((c.tc : Thread Cert.LsguKIdeal.nD Cert.LsguKIdeal.τ).loc Cert.LsguKIdeal.main_v13_0) = v0 c
          ∧ r.2.mem ((c.tc : Thread Cert.LsguKIdeal.nD Cert.LsguKIdeal.τ).loc Cert.LsguKIdeal.main_v13_1) = v1 c
          ∧ r.2.mem ((c.tc : Thread Cert.LsguKIdeal.nD Cert.LsguKIdeal.τ).loc Cert.LsguKIdeal.main_v13_2) = v2 c
          ∧ r.2.mem ((c.tc : Thread Cert.LsguKIdeal.nD Cert.LsguKIdeal.τ).loc Cert.LsguKIdeal.main_v13_3) = v3 c
          ∧ r.2.mem ((c.tc : Thread Cert.LsguKIdeal.nD Cert.LsguKIdeal.τ).loc Cert.LsguKIdeal.main_v13_4) = v4 c
          ∧ r.2.mem ((c.tc : Thread Cert.LsguKIdeal.nD Cert.LsguKIdeal.τ).loc Cert.LsguKIdeal.main_arg0) = m ((c.tc : Thread Cert.LsguKIdeal.nD Cert.LsguKIdeal.τ).loc Cert.LsguKIdeal.main_arg0)
          ∧ r.2.mem ((c.tc : Thread Cert.LsguKIdeal.nD Cert.LsguKIdeal.τ).loc Cert.LsguKIdeal.main_arg1) = m ((c.tc : Thread Cert.LsguKIdeal.nD Cert.LsguKIdeal.τ).loc Cert.LsguKIdeal.main_arg1)
          ∧ r.2.mem ((c.tc : Thread Cert.LsguKIdeal.nD Cert.LsguKIdeal.τ).loc Cert.LsguKIdeal.main_arg2) = m ((c.tc : Thread Cert.LsguKIdeal.nD Cert.LsguKIdeal.τ).loc Cert.LsguKIdeal.main_arg2)
          ∧ r.2.mem ((c.tc : Thread Cert.LsguKIdeal.nD Cert.LsguKIdeal.τ).loc Cert.LsguKIdeal.main_arg3) = m ((c.tc : Thread Cert.LsguKIdeal.nD Cert.LsguKIdeal.τ).loc Cert.LsguKIdeal.main_arg3)
          ∧ r.2.mem ((c.tc : Thread Cert.LsguKIdeal.nD Cert.LsguKIdeal.τ).loc Cert.LsguKIdeal.main_arg4) = m ((c.tc : Thread Cert.LsguKIdeal.nD Cert.LsguKIdeal.τ).loc Cert.LsguKIdeal.main_arg4)
          ∧ r.2.mem ((c.tc : Thread Cert.LsguKIdeal.nD Cert.LsguKIdeal.τ).loc Cert.LsguKIdeal.main_arg5) = m ((c.tc : Thread Cert.LsguKIdeal.nD Cert.LsguKIdeal.τ).loc Cert.LsguKIdeal.main_arg5)
          ∧ r.2.mem ((c.tc : Thread Cert.LsguKIdeal.nD Cert.LsguKIdeal.τ).loc Cert.LsguKIdeal.main_arg6) = m ((c.tc : Thread Cert.LsguKIdeal.nD Cert.LsguKIdeal.τ).loc Cert.LsguKIdeal.main_arg6)
          ∧ r.2.mem ((c.tc : Thread Cert.LsguKIdeal.nD Cert.LsguKIdeal.τ).loc Cert.LsguKIdeal.main_arg7) = m ((c.tc : Thread Cert.LsguKIdeal.nD Cert.LsguKIdeal.τ).loc Cert.LsguKIdeal.main_arg7)
          ∧ r.2.mem ((c.tc : Thread Cert.LsguKIdeal.nD Cert.LsguKIdeal.τ).loc Cert.LsguKIdeal.main_arg8) = m ((c.tc : Thread Cert.LsguKIdeal.nD Cert.LsguKIdeal.τ).loc Cert.LsguKIdeal.main_arg8)
          ∧ r.2.mem ((c.tc : Thread Cert.LsguKIdeal.nD Cert.LsguKIdeal.τ).loc Cert.LsguKIdeal.main_arg9) = m ((c.tc : Thread Cert.LsguKIdeal.nD Cert.LsguKIdeal.τ).loc Cert.LsguKIdeal.main_arg9)
          ∧ r.2.mem ((c.tc : Thread Cert.LsguKIdeal.nD Cert.LsguKIdeal.τ).loc Cert.LsguKIdeal.main_arg10) = m ((c.tc : Thread Cert.LsguKIdeal.nD Cert.LsguKIdeal.τ).loc Cert.LsguKIdeal.main_arg10)
          ∧ r.2.mem ((c.tc : Thread Cert.LsguKIdeal.nD Cert.LsguKIdeal.τ).loc Cert.LsguKIdeal.main_arg11) = m ((c.tc : Thread Cert.LsguKIdeal.nD Cert.LsguKIdeal.τ).loc Cert.LsguKIdeal.main_arg11))
      ∧ θ_run (Cert.LsguRIdeal.defs (F := Ideal)) (onTc (τ := Cert.LsguRIdeal.τ) (Cert.LsguRIdeal.main (F := Ideal))) ⟨m', fun _ => 0, g'⟩ (fun r => ∀ c : Dev Cert.LsguRIdeal.nD,
          r.2.mem ((c.tc : Thread Cert.LsguRIdeal.nD Cert.LsguRIdeal.τ).loc Cert.LsguRIdeal.main_v96) = v0 c
          ∧ r.2.mem ((c.tc : Thread Cert.LsguRIdeal.nD Cert.LsguRIdeal.τ).loc Cert.LsguRIdeal.main_v97) = v1 c
          ∧ r.2.mem ((c.tc : Thread Cert.LsguRIdeal.nD Cert.LsguRIdeal.τ).loc Cert.LsguRIdeal.main_v98) = v2 c
          ∧ r.2.mem ((c.tc : Thread Cert.LsguRIdeal.nD Cert.LsguRIdeal.τ).loc Cert.LsguRIdeal.main_v99) = v3 c
          ∧ r.2.mem ((c.tc : Thread Cert.LsguRIdeal.nD Cert.LsguRIdeal.τ).loc Cert.LsguRIdeal.main_v100) = v4 c
          ∧ r.2.mem ((c.tc : Thread Cert.LsguRIdeal.nD Cert.LsguRIdeal.τ).loc Cert.LsguRIdeal.main_arg0) = m' ((c.tc : Thread Cert.LsguRIdeal.nD Cert.LsguRIdeal.τ).loc Cert.LsguRIdeal.main_arg0)
          ∧ r.2.mem ((c.tc : Thread Cert.LsguRIdeal.nD Cert.LsguRIdeal.τ).loc Cert.LsguRIdeal.main_arg1) = m' ((c.tc : Thread Cert.LsguRIdeal.nD Cert.LsguRIdeal.τ).loc Cert.LsguRIdeal.main_arg1)
          ∧ r.2.mem ((c.tc : Thread Cert.LsguRIdeal.nD Cert.LsguRIdeal.τ).loc Cert.LsguRIdeal.main_arg2) = m' ((c.tc : Thread Cert.LsguRIdeal.nD Cert.LsguRIdeal.τ).loc Cert.LsguRIdeal.main_arg2)
          ∧ r.2.mem ((c.tc : Thread Cert.LsguRIdeal.nD Cert.LsguRIdeal.τ).loc Cert.LsguRIdeal.main_arg3) = m' ((c.tc : Thread Cert.LsguRIdeal.nD Cert.LsguRIdeal.τ).loc Cert.LsguRIdeal.main_arg3)
          ∧ r.2.mem ((c.tc : Thread Cert.LsguRIdeal.nD Cert.LsguRIdeal.τ).loc Cert.LsguRIdeal.main_arg4) = m' ((c.tc : Thread Cert.LsguRIdeal.nD Cert.LsguRIdeal.τ).loc Cert.LsguRIdeal.main_arg4)
          ∧ r.2.mem ((c.tc : Thread Cert.LsguRIdeal.nD Cert.LsguRIdeal.τ).loc Cert.LsguRIdeal.main_arg5) = m' ((c.tc : Thread Cert.LsguRIdeal.nD Cert.LsguRIdeal.τ).loc Cert.LsguRIdeal.main_arg5)
          ∧ r.2.mem ((c.tc : Thread Cert.LsguRIdeal.nD Cert.LsguRIdeal.τ).loc Cert.LsguRIdeal.main_arg6) = m' ((c.tc : Thread Cert.LsguRIdeal.nD Cert.LsguRIdeal.τ).loc Cert.LsguRIdeal.main_arg6)
          ∧ r.2.mem ((c.tc : Thread Cert.LsguRIdeal.nD Cert.LsguRIdeal.τ).loc Cert.LsguRIdeal.main_arg7) = m' ((c.tc : Thread Cert.LsguRIdeal.nD Cert.LsguRIdeal.τ).loc Cert.LsguRIdeal.main_arg7)
          ∧ r.2.mem ((c.tc : Thread Cert.LsguRIdeal.nD Cert.LsguRIdeal.τ).loc Cert.LsguRIdeal.main_arg8) = m' ((c.tc : Thread Cert.LsguRIdeal.nD Cert.LsguRIdeal.τ).loc Cert.LsguRIdeal.main_arg8)
          ∧ r.2.mem ((c.tc : Thread Cert.LsguRIdeal.nD Cert.LsguRIdeal.τ).loc Cert.LsguRIdeal.main_arg9) = m' ((c.tc : Thread Cert.LsguRIdeal.nD Cert.LsguRIdeal.τ).loc Cert.LsguRIdeal.main_arg9)
          ∧ r.2.mem ((c.tc : Thread Cert.LsguRIdeal.nD Cert.LsguRIdeal.τ).loc Cert.LsguRIdeal.main_arg10) = m' ((c.tc : Thread Cert.LsguRIdeal.nD Cert.LsguRIdeal.τ).loc Cert.LsguRIdeal.main_arg10)
          ∧ r.2.mem ((c.tc : Thread Cert.LsguRIdeal.nD Cert.LsguRIdeal.τ).loc Cert.LsguRIdeal.main_arg11) = m' ((c.tc : Thread Cert.LsguRIdeal.nD Cert.LsguRIdeal.τ).loc Cert.LsguRIdeal.main_arg11))

def preserves_InwK_InwKIdeal : Prop :=
  True

def algebraic_InwKIdeal_InwRIdeal [hInwKIdeal : Cert.InwKIdeal.Facts] [hInwRIdeal : Cert.InwRIdeal.Facts] : Prop :=
  ∀ (m : (ℓ : Loc Cert.InwKIdeal.nD Cert.InwKIdeal.τ Cert.InwKIdeal.sig) → Buf (Elt Ideal) ℓ) (g : Dev Cert.InwKIdeal.nD → PrngReg)
    (m' : (ℓ : Loc Cert.InwRIdeal.nD Cert.InwRIdeal.τ Cert.InwRIdeal.sig) → Buf (Elt Ideal) ℓ) (g' : Dev Cert.InwRIdeal.nD → PrngReg), Pre_InwKIdeal m →
    (∀ c : Dev Cert.InwKIdeal.nD,
      m' ((c.tc : Thread Cert.InwRIdeal.nD Cert.InwRIdeal.τ).loc Cert.InwRIdeal.main_arg0) = m ((c.tc : Thread Cert.InwKIdeal.nD Cert.InwKIdeal.τ).loc Cert.InwKIdeal.main_arg0)
      ∧ m' ((c.tc : Thread Cert.InwRIdeal.nD Cert.InwRIdeal.τ).loc Cert.InwRIdeal.main_arg1) = m ((c.tc : Thread Cert.InwKIdeal.nD Cert.InwKIdeal.τ).loc Cert.InwKIdeal.main_arg1)
      ∧ m' ((c.tc : Thread Cert.InwRIdeal.nD Cert.InwRIdeal.τ).loc Cert.InwRIdeal.main_arg2) = m ((c.tc : Thread Cert.InwKIdeal.nD Cert.InwKIdeal.τ).loc Cert.InwKIdeal.main_arg2)) →
    ∃ (v0 : (c : Dev Cert.InwKIdeal.nD) → Buf (Elt Ideal) ((c.tc : Thread Cert.InwKIdeal.nD Cert.InwKIdeal.τ).loc Cert.InwKIdeal.main_v17)),
      θ_run (Cert.InwKIdeal.defs (F := Ideal)) (onTc (τ := Cert.InwKIdeal.τ) (Cert.InwKIdeal.main (F := Ideal))) ⟨m, fun _ => 0, g⟩ (fun r => ∀ c : Dev Cert.InwKIdeal.nD,
          r.2.mem ((c.tc : Thread Cert.InwKIdeal.nD Cert.InwKIdeal.τ).loc Cert.InwKIdeal.main_v17) = v0 c
          ∧ r.2.mem ((c.tc : Thread Cert.InwKIdeal.nD Cert.InwKIdeal.τ).loc Cert.InwKIdeal.main_arg0) = m ((c.tc : Thread Cert.InwKIdeal.nD Cert.InwKIdeal.τ).loc Cert.InwKIdeal.main_arg0)
          ∧ r.2.mem ((c.tc : Thread Cert.InwKIdeal.nD Cert.InwKIdeal.τ).loc Cert.InwKIdeal.main_arg1) = m ((c.tc : Thread Cert.InwKIdeal.nD Cert.InwKIdeal.τ).loc Cert.InwKIdeal.main_arg1)
          ∧ r.2.mem ((c.tc : Thread Cert.InwKIdeal.nD Cert.InwKIdeal.τ).loc Cert.InwKIdeal.main_arg2) = m ((c.tc : Thread Cert.InwKIdeal.nD Cert.InwKIdeal.τ).loc Cert.InwKIdeal.main_arg2))
      ∧ θ_run (Cert.InwRIdeal.defs (F := Ideal)) (onTc (τ := Cert.InwRIdeal.τ) (Cert.InwRIdeal.main (F := Ideal))) ⟨m', fun _ => 0, g'⟩ (fun r => ∀ c : Dev Cert.InwRIdeal.nD,
          r.2.mem ((c.tc : Thread Cert.InwRIdeal.nD Cert.InwRIdeal.τ).loc Cert.InwRIdeal.main_v19) = v0 c
          ∧ r.2.mem ((c.tc : Thread Cert.InwRIdeal.nD Cert.InwRIdeal.τ).loc Cert.InwRIdeal.main_arg0) = m' ((c.tc : Thread Cert.InwRIdeal.nD Cert.InwRIdeal.τ).loc Cert.InwRIdeal.main_arg0)
          ∧ r.2.mem ((c.tc : Thread Cert.InwRIdeal.nD Cert.InwRIdeal.τ).loc Cert.InwRIdeal.main_arg1) = m' ((c.tc : Thread Cert.InwRIdeal.nD Cert.InwRIdeal.τ).loc Cert.InwRIdeal.main_arg1)
          ∧ r.2.mem ((c.tc : Thread Cert.InwRIdeal.nD Cert.InwRIdeal.τ).loc Cert.InwRIdeal.main_arg2) = m' ((c.tc : Thread Cert.InwRIdeal.nD Cert.InwRIdeal.τ).loc Cert.InwRIdeal.main_arg2))

def preserves_AdamK_AdamKIdeal : Prop :=
  True

def algebraic_AdamKIdeal_AdamRIdeal [hAdamKIdeal : Cert.AdamKIdeal.Facts] [hAdamRIdeal : Cert.AdamRIdeal.Facts] : Prop :=
  ∀ (m : (ℓ : Loc Cert.AdamKIdeal.nD Cert.AdamKIdeal.τ Cert.AdamKIdeal.sig) → Buf (Elt Ideal) ℓ) (g : Dev Cert.AdamKIdeal.nD → PrngReg)
    (m' : (ℓ : Loc Cert.AdamRIdeal.nD Cert.AdamRIdeal.τ Cert.AdamRIdeal.sig) → Buf (Elt Ideal) ℓ) (g' : Dev Cert.AdamRIdeal.nD → PrngReg), Pre_AdamKIdeal m →
    (∀ c : Dev Cert.AdamKIdeal.nD,
      m' ((c.tc : Thread Cert.AdamRIdeal.nD Cert.AdamRIdeal.τ).loc Cert.AdamRIdeal.main_arg0) = m ((c.tc : Thread Cert.AdamKIdeal.nD Cert.AdamKIdeal.τ).loc Cert.AdamKIdeal.main_arg0)
      ∧ m' ((c.tc : Thread Cert.AdamRIdeal.nD Cert.AdamRIdeal.τ).loc Cert.AdamRIdeal.main_arg1) = m ((c.tc : Thread Cert.AdamKIdeal.nD Cert.AdamKIdeal.τ).loc Cert.AdamKIdeal.main_arg1)
      ∧ m' ((c.tc : Thread Cert.AdamRIdeal.nD Cert.AdamRIdeal.τ).loc Cert.AdamRIdeal.main_arg2) = m ((c.tc : Thread Cert.AdamKIdeal.nD Cert.AdamKIdeal.τ).loc Cert.AdamKIdeal.main_arg2)
      ∧ m' ((c.tc : Thread Cert.AdamRIdeal.nD Cert.AdamRIdeal.τ).loc Cert.AdamRIdeal.main_arg3) = m ((c.tc : Thread Cert.AdamKIdeal.nD Cert.AdamKIdeal.τ).loc Cert.AdamKIdeal.main_arg3)
      ∧ m' ((c.tc : Thread Cert.AdamRIdeal.nD Cert.AdamRIdeal.τ).loc Cert.AdamRIdeal.main_arg4) = m ((c.tc : Thread Cert.AdamKIdeal.nD Cert.AdamKIdeal.τ).loc Cert.AdamKIdeal.main_arg4)
      ∧ m' ((c.tc : Thread Cert.AdamRIdeal.nD Cert.AdamRIdeal.τ).loc Cert.AdamRIdeal.main_arg5) = m ((c.tc : Thread Cert.AdamKIdeal.nD Cert.AdamKIdeal.τ).loc Cert.AdamKIdeal.main_arg5)
      ∧ m' ((c.tc : Thread Cert.AdamRIdeal.nD Cert.AdamRIdeal.τ).loc Cert.AdamRIdeal.main_arg6) = m ((c.tc : Thread Cert.AdamKIdeal.nD Cert.AdamKIdeal.τ).loc Cert.AdamKIdeal.main_arg6)) →
    ∃ (v0 : (c : Dev Cert.AdamKIdeal.nD) → Buf (Elt Ideal) ((c.tc : Thread Cert.AdamKIdeal.nD Cert.AdamKIdeal.τ).loc Cert.AdamKIdeal.main_v4_0)) (v1 : (c : Dev Cert.AdamKIdeal.nD) → Buf (Elt Ideal) ((c.tc : Thread Cert.AdamKIdeal.nD Cert.AdamKIdeal.τ).loc Cert.AdamKIdeal.main_v4_1)) (v2 : (c : Dev Cert.AdamKIdeal.nD) → Buf (Elt Ideal) ((c.tc : Thread Cert.AdamKIdeal.nD Cert.AdamKIdeal.τ).loc Cert.AdamKIdeal.main_v4_2)) (v3 : (c : Dev Cert.AdamKIdeal.nD) → Buf (Elt Ideal) ((c.tc : Thread Cert.AdamKIdeal.nD Cert.AdamKIdeal.τ).loc Cert.AdamKIdeal.main_v4_3)),
      θ_run (Cert.AdamKIdeal.defs (F := Ideal)) (onTc (τ := Cert.AdamKIdeal.τ) (Cert.AdamKIdeal.main (F := Ideal))) ⟨m, fun _ => 0, g⟩ (fun r => ∀ c : Dev Cert.AdamKIdeal.nD,
          r.2.mem ((c.tc : Thread Cert.AdamKIdeal.nD Cert.AdamKIdeal.τ).loc Cert.AdamKIdeal.main_v4_0) = v0 c
          ∧ r.2.mem ((c.tc : Thread Cert.AdamKIdeal.nD Cert.AdamKIdeal.τ).loc Cert.AdamKIdeal.main_v4_1) = v1 c
          ∧ r.2.mem ((c.tc : Thread Cert.AdamKIdeal.nD Cert.AdamKIdeal.τ).loc Cert.AdamKIdeal.main_v4_2) = v2 c
          ∧ r.2.mem ((c.tc : Thread Cert.AdamKIdeal.nD Cert.AdamKIdeal.τ).loc Cert.AdamKIdeal.main_v4_3) = v3 c
          ∧ r.2.mem ((c.tc : Thread Cert.AdamKIdeal.nD Cert.AdamKIdeal.τ).loc Cert.AdamKIdeal.main_arg0) = m ((c.tc : Thread Cert.AdamKIdeal.nD Cert.AdamKIdeal.τ).loc Cert.AdamKIdeal.main_arg0)
          ∧ r.2.mem ((c.tc : Thread Cert.AdamKIdeal.nD Cert.AdamKIdeal.τ).loc Cert.AdamKIdeal.main_arg1) = m ((c.tc : Thread Cert.AdamKIdeal.nD Cert.AdamKIdeal.τ).loc Cert.AdamKIdeal.main_arg1)
          ∧ r.2.mem ((c.tc : Thread Cert.AdamKIdeal.nD Cert.AdamKIdeal.τ).loc Cert.AdamKIdeal.main_arg2) = m ((c.tc : Thread Cert.AdamKIdeal.nD Cert.AdamKIdeal.τ).loc Cert.AdamKIdeal.main_arg2)
          ∧ r.2.mem ((c.tc : Thread Cert.AdamKIdeal.nD Cert.AdamKIdeal.τ).loc Cert.AdamKIdeal.main_arg3) = m ((c.tc : Thread Cert.AdamKIdeal.nD Cert.AdamKIdeal.τ).loc Cert.AdamKIdeal.main_arg3)
          ∧ r.2.mem ((c.tc : Thread Cert.AdamKIdeal.nD Cert.AdamKIdeal.τ).loc Cert.AdamKIdeal.main_arg4) = m ((c.tc : Thread Cert.AdamKIdeal.nD Cert.AdamKIdeal.τ).loc Cert.AdamKIdeal.main_arg4)
          ∧ r.2.mem ((c.tc : Thread Cert.AdamKIdeal.nD Cert.AdamKIdeal.τ).loc Cert.AdamKIdeal.main_arg5) = m ((c.tc : Thread Cert.AdamKIdeal.nD Cert.AdamKIdeal.τ).loc Cert.AdamKIdeal.main_arg5)
          ∧ r.2.mem ((c.tc : Thread Cert.AdamKIdeal.nD Cert.AdamKIdeal.τ).loc Cert.AdamKIdeal.main_arg6) = m ((c.tc : Thread Cert.AdamKIdeal.nD Cert.AdamKIdeal.τ).loc Cert.AdamKIdeal.main_arg6))
      ∧ θ_run (Cert.AdamRIdeal.defs (F := Ideal)) (onTc (τ := Cert.AdamRIdeal.τ) (Cert.AdamRIdeal.main (F := Ideal))) ⟨m', fun _ => 0, g'⟩ (fun r => ∀ c : Dev Cert.AdamRIdeal.nD,
          r.2.mem ((c.tc : Thread Cert.AdamRIdeal.nD Cert.AdamRIdeal.τ).loc Cert.AdamRIdeal.main_v8) = v0 c
          ∧ r.2.mem ((c.tc : Thread Cert.AdamRIdeal.nD Cert.AdamRIdeal.τ).loc Cert.AdamRIdeal.main_v32) = v1 c
          ∧ r.2.mem ((c.tc : Thread Cert.AdamRIdeal.nD Cert.AdamRIdeal.τ).loc Cert.AdamRIdeal.main_v13) = v2 c
          ∧ r.2.mem ((c.tc : Thread Cert.AdamRIdeal.nD Cert.AdamRIdeal.τ).loc Cert.AdamRIdeal.main_v19) = v3 c
          ∧ r.2.mem ((c.tc : Thread Cert.AdamRIdeal.nD Cert.AdamRIdeal.τ).loc Cert.AdamRIdeal.main_arg0) = m' ((c.tc : Thread Cert.AdamRIdeal.nD Cert.AdamRIdeal.τ).loc Cert.AdamRIdeal.main_arg0)
          ∧ r.2.mem ((c.tc : Thread Cert.AdamRIdeal.nD Cert.AdamRIdeal.τ).loc Cert.AdamRIdeal.main_arg1) = m' ((c.tc : Thread Cert.AdamRIdeal.nD Cert.AdamRIdeal.τ).loc Cert.AdamRIdeal.main_arg1)
          ∧ r.2.mem ((c.tc : Thread Cert.AdamRIdeal.nD Cert.AdamRIdeal.τ).loc Cert.AdamRIdeal.main_arg2) = m' ((c.tc : Thread Cert.AdamRIdeal.nD Cert.AdamRIdeal.τ).loc Cert.AdamRIdeal.main_arg2)
          ∧ r.2.mem ((c.tc : Thread Cert.AdamRIdeal.nD Cert.AdamRIdeal.τ).loc Cert.AdamRIdeal.main_arg3) = m' ((c.tc : Thread Cert.AdamRIdeal.nD Cert.AdamRIdeal.τ).loc Cert.AdamRIdeal.main_arg3)
          ∧ r.2.mem ((c.tc : Thread Cert.AdamRIdeal.nD Cert.AdamRIdeal.τ).loc Cert.AdamRIdeal.main_arg4) = m' ((c.tc : Thread Cert.AdamRIdeal.nD Cert.AdamRIdeal.τ).loc Cert.AdamRIdeal.main_arg4)
          ∧ r.2.mem ((c.tc : Thread Cert.AdamRIdeal.nD Cert.AdamRIdeal.τ).loc Cert.AdamRIdeal.main_arg5) = m' ((c.tc : Thread Cert.AdamRIdeal.nD Cert.AdamRIdeal.τ).loc Cert.AdamRIdeal.main_arg5)
          ∧ r.2.mem ((c.tc : Thread Cert.AdamRIdeal.nD Cert.AdamRIdeal.τ).loc Cert.AdamRIdeal.main_arg6) = m' ((c.tc : Thread Cert.AdamRIdeal.nD Cert.AdamRIdeal.τ).loc Cert.AdamRIdeal.main_arg6))

def preserves_AdsK_AdsKIdeal : Prop :=
  True

def algebraic_AdsKIdeal_AdsRIdeal [hAdsKIdeal : Cert.AdsKIdeal.Facts] [hAdsRIdeal : Cert.AdsRIdeal.Facts] : Prop :=
  ∀ (m : (ℓ : Loc Cert.AdsKIdeal.nD Cert.AdsKIdeal.τ Cert.AdsKIdeal.sig) → Buf (Elt Ideal) ℓ) (g : Dev Cert.AdsKIdeal.nD → PrngReg)
    (m' : (ℓ : Loc Cert.AdsRIdeal.nD Cert.AdsRIdeal.τ Cert.AdsRIdeal.sig) → Buf (Elt Ideal) ℓ) (g' : Dev Cert.AdsRIdeal.nD → PrngReg), Pre_AdsKIdeal m →
    (∀ c : Dev Cert.AdsKIdeal.nD,
      m' ((c.tc : Thread Cert.AdsRIdeal.nD Cert.AdsRIdeal.τ).loc Cert.AdsRIdeal.main_arg0) = m ((c.tc : Thread Cert.AdsKIdeal.nD Cert.AdsKIdeal.τ).loc Cert.AdsKIdeal.main_arg0)
      ∧ m' ((c.tc : Thread Cert.AdsRIdeal.nD Cert.AdsRIdeal.τ).loc Cert.AdsRIdeal.main_arg1) = m ((c.tc : Thread Cert.AdsKIdeal.nD Cert.AdsKIdeal.τ).loc Cert.AdsKIdeal.main_arg1)
      ∧ m' ((c.tc : Thread Cert.AdsRIdeal.nD Cert.AdsRIdeal.τ).loc Cert.AdsRIdeal.main_arg2) = m ((c.tc : Thread Cert.AdsKIdeal.nD Cert.AdsKIdeal.τ).loc Cert.AdsKIdeal.main_arg2)
      ∧ m' ((c.tc : Thread Cert.AdsRIdeal.nD Cert.AdsRIdeal.τ).loc Cert.AdsRIdeal.main_arg3) = m ((c.tc : Thread Cert.AdsKIdeal.nD Cert.AdsKIdeal.τ).loc Cert.AdsKIdeal.main_arg3)
      ∧ m' ((c.tc : Thread Cert.AdsRIdeal.nD Cert.AdsRIdeal.τ).loc Cert.AdsRIdeal.main_arg4) = m ((c.tc : Thread Cert.AdsKIdeal.nD Cert.AdsKIdeal.τ).loc Cert.AdsKIdeal.main_arg4)
      ∧ m' ((c.tc : Thread Cert.AdsRIdeal.nD Cert.AdsRIdeal.τ).loc Cert.AdsRIdeal.main_arg5) = m ((c.tc : Thread Cert.AdsKIdeal.nD Cert.AdsKIdeal.τ).loc Cert.AdsKIdeal.main_arg5)
      ∧ m' ((c.tc : Thread Cert.AdsRIdeal.nD Cert.AdsRIdeal.τ).loc Cert.AdsRIdeal.main_arg6) = m ((c.tc : Thread Cert.AdsKIdeal.nD Cert.AdsKIdeal.τ).loc Cert.AdsKIdeal.main_arg6)
      ∧ m' ((c.tc : Thread Cert.AdsRIdeal.nD Cert.AdsRIdeal.τ).loc Cert.AdsRIdeal.main_arg7) = m ((c.tc : Thread Cert.AdsKIdeal.nD Cert.AdsKIdeal.τ).loc Cert.AdsKIdeal.main_arg7)
      ∧ m' ((c.tc : Thread Cert.AdsRIdeal.nD Cert.AdsRIdeal.τ).loc Cert.AdsRIdeal.main_arg8) = m ((c.tc : Thread Cert.AdsKIdeal.nD Cert.AdsKIdeal.τ).loc Cert.AdsKIdeal.main_arg8)
      ∧ m' ((c.tc : Thread Cert.AdsRIdeal.nD Cert.AdsRIdeal.τ).loc Cert.AdsRIdeal.main_arg9) = m ((c.tc : Thread Cert.AdsKIdeal.nD Cert.AdsKIdeal.τ).loc Cert.AdsKIdeal.main_arg9)
      ∧ m' ((c.tc : Thread Cert.AdsRIdeal.nD Cert.AdsRIdeal.τ).loc Cert.AdsRIdeal.main_arg10) = m ((c.tc : Thread Cert.AdsKIdeal.nD Cert.AdsKIdeal.τ).loc Cert.AdsKIdeal.main_arg10)
      ∧ m' ((c.tc : Thread Cert.AdsRIdeal.nD Cert.AdsRIdeal.τ).loc Cert.AdsRIdeal.main_arg11) = m ((c.tc : Thread Cert.AdsKIdeal.nD Cert.AdsKIdeal.τ).loc Cert.AdsKIdeal.main_arg11)
      ∧ m' ((c.tc : Thread Cert.AdsRIdeal.nD Cert.AdsRIdeal.τ).loc Cert.AdsRIdeal.main_arg12) = m ((c.tc : Thread Cert.AdsKIdeal.nD Cert.AdsKIdeal.τ).loc Cert.AdsKIdeal.main_arg12)
      ∧ m' ((c.tc : Thread Cert.AdsRIdeal.nD Cert.AdsRIdeal.τ).loc Cert.AdsRIdeal.main_arg13) = m ((c.tc : Thread Cert.AdsKIdeal.nD Cert.AdsKIdeal.τ).loc Cert.AdsKIdeal.main_arg13)
      ∧ m' ((c.tc : Thread Cert.AdsRIdeal.nD Cert.AdsRIdeal.τ).loc Cert.AdsRIdeal.main_arg14) = m ((c.tc : Thread Cert.AdsKIdeal.nD Cert.AdsKIdeal.τ).loc Cert.AdsKIdeal.main_arg14)
      ∧ m' ((c.tc : Thread Cert.AdsRIdeal.nD Cert.AdsRIdeal.τ).loc Cert.AdsRIdeal.main_arg15) = m ((c.tc : Thread Cert.AdsKIdeal.nD Cert.AdsKIdeal.τ).loc Cert.AdsKIdeal.main_arg15)
      ∧ m' ((c.tc : Thread Cert.AdsRIdeal.nD Cert.AdsRIdeal.τ).loc Cert.AdsRIdeal.main_arg16) = m ((c.tc : Thread Cert.AdsKIdeal.nD Cert.AdsKIdeal.τ).loc Cert.AdsKIdeal.main_arg16)
      ∧ m' ((c.tc : Thread Cert.AdsRIdeal.nD Cert.AdsRIdeal.τ).loc Cert.AdsRIdeal.main_arg17) = m ((c.tc : Thread Cert.AdsKIdeal.nD Cert.AdsKIdeal.τ).loc Cert.AdsKIdeal.main_arg17)
      ∧ m' ((c.tc : Thread Cert.AdsRIdeal.nD Cert.AdsRIdeal.τ).loc Cert.AdsRIdeal.main_arg18) = m ((c.tc : Thread Cert.AdsKIdeal.nD Cert.AdsKIdeal.τ).loc Cert.AdsKIdeal.main_arg18)
      ∧ m' ((c.tc : Thread Cert.AdsRIdeal.nD Cert.AdsRIdeal.τ).loc Cert.AdsRIdeal.main_arg19) = m ((c.tc : Thread Cert.AdsKIdeal.nD Cert.AdsKIdeal.τ).loc Cert.AdsKIdeal.main_arg19)
      ∧ m' ((c.tc : Thread Cert.AdsRIdeal.nD Cert.AdsRIdeal.τ).loc Cert.AdsRIdeal.main_arg20) = m ((c.tc : Thread Cert.AdsKIdeal.nD Cert.AdsKIdeal.τ).loc Cert.AdsKIdeal.main_arg20)
      ∧ m' ((c.tc : Thread Cert.AdsRIdeal.nD Cert.AdsRIdeal.τ).loc Cert.AdsRIdeal.main_arg21) = m ((c.tc : Thread Cert.AdsKIdeal.nD Cert.AdsKIdeal.τ).loc Cert.AdsKIdeal.main_arg21)
      ∧ m' ((c.tc : Thread Cert.AdsRIdeal.nD Cert.AdsRIdeal.τ).loc Cert.AdsRIdeal.main_arg22) = m ((c.tc : Thread Cert.AdsKIdeal.nD Cert.AdsKIdeal.τ).loc Cert.AdsKIdeal.main_arg22)
      ∧ m' ((c.tc : Thread Cert.AdsRIdeal.nD Cert.AdsRIdeal.τ).loc Cert.AdsRIdeal.main_arg23) = m ((c.tc : Thread Cert.AdsKIdeal.nD Cert.AdsKIdeal.τ).loc Cert.AdsKIdeal.main_arg23)
      ∧ m' ((c.tc : Thread Cert.AdsRIdeal.nD Cert.AdsRIdeal.τ).loc Cert.AdsRIdeal.main_arg24) = m ((c.tc : Thread Cert.AdsKIdeal.nD Cert.AdsKIdeal.τ).loc Cert.AdsKIdeal.main_arg24)
      ∧ m' ((c.tc : Thread Cert.AdsRIdeal.nD Cert.AdsRIdeal.τ).loc Cert.AdsRIdeal.main_arg25) = m ((c.tc : Thread Cert.AdsKIdeal.nD Cert.AdsKIdeal.τ).loc Cert.AdsKIdeal.main_arg25)
      ∧ m' ((c.tc : Thread Cert.AdsRIdeal.nD Cert.AdsRIdeal.τ).loc Cert.AdsRIdeal.main_arg26) = m ((c.tc : Thread Cert.AdsKIdeal.nD Cert.AdsKIdeal.τ).loc Cert.AdsKIdeal.main_arg26)
      ∧ m' ((c.tc : Thread Cert.AdsRIdeal.nD Cert.AdsRIdeal.τ).loc Cert.AdsRIdeal.main_arg27) = m ((c.tc : Thread Cert.AdsKIdeal.nD Cert.AdsKIdeal.τ).loc Cert.AdsKIdeal.main_arg27)
      ∧ m' ((c.tc : Thread Cert.AdsRIdeal.nD Cert.AdsRIdeal.τ).loc Cert.AdsRIdeal.main_arg28) = m ((c.tc : Thread Cert.AdsKIdeal.nD Cert.AdsKIdeal.τ).loc Cert.AdsKIdeal.main_arg28)
      ∧ m' ((c.tc : Thread Cert.AdsRIdeal.nD Cert.AdsRIdeal.τ).loc Cert.AdsRIdeal.main_arg29) = m ((c.tc : Thread Cert.AdsKIdeal.nD Cert.AdsKIdeal.τ).loc Cert.AdsKIdeal.main_arg29)
      ∧ m' ((c.tc : Thread Cert.AdsRIdeal.nD Cert.AdsRIdeal.τ).loc Cert.AdsRIdeal.main_arg30) = m ((c.tc : Thread Cert.AdsKIdeal.nD Cert.AdsKIdeal.τ).loc Cert.AdsKIdeal.main_arg30)
      ∧ m' ((c.tc : Thread Cert.AdsRIdeal.nD Cert.AdsRIdeal.τ).loc Cert.AdsRIdeal.main_arg31) = m ((c.tc : Thread Cert.AdsKIdeal.nD Cert.AdsKIdeal.τ).loc Cert.AdsKIdeal.main_arg31)
      ∧ m' ((c.tc : Thread Cert.AdsRIdeal.nD Cert.AdsRIdeal.τ).loc Cert.AdsRIdeal.main_arg32) = m ((c.tc : Thread Cert.AdsKIdeal.nD Cert.AdsKIdeal.τ).loc Cert.AdsKIdeal.main_arg32)
      ∧ m' ((c.tc : Thread Cert.AdsRIdeal.nD Cert.AdsRIdeal.τ).loc Cert.AdsRIdeal.main_arg33) = m ((c.tc : Thread Cert.AdsKIdeal.nD Cert.AdsKIdeal.τ).loc Cert.AdsKIdeal.main_arg33)
      ∧ m' ((c.tc : Thread Cert.AdsRIdeal.nD Cert.AdsRIdeal.τ).loc Cert.AdsRIdeal.main_arg34) = m ((c.tc : Thread Cert.AdsKIdeal.nD Cert.AdsKIdeal.τ).loc Cert.AdsKIdeal.main_arg34)
      ∧ m' ((c.tc : Thread Cert.AdsRIdeal.nD Cert.AdsRIdeal.τ).loc Cert.AdsRIdeal.main_arg35) = m ((c.tc : Thread Cert.AdsKIdeal.nD Cert.AdsKIdeal.τ).loc Cert.AdsKIdeal.main_arg35)
      ∧ m' ((c.tc : Thread Cert.AdsRIdeal.nD Cert.AdsRIdeal.τ).loc Cert.AdsRIdeal.main_arg36) = m ((c.tc : Thread Cert.AdsKIdeal.nD Cert.AdsKIdeal.τ).loc Cert.AdsKIdeal.main_arg36)
      ∧ m' ((c.tc : Thread Cert.AdsRIdeal.nD Cert.AdsRIdeal.τ).loc Cert.AdsRIdeal.main_arg37) = m ((c.tc : Thread Cert.AdsKIdeal.nD Cert.AdsKIdeal.τ).loc Cert.AdsKIdeal.main_arg37)
      ∧ m' ((c.tc : Thread Cert.AdsRIdeal.nD Cert.AdsRIdeal.τ).loc Cert.AdsRIdeal.main_arg38) = m ((c.tc : Thread Cert.AdsKIdeal.nD Cert.AdsKIdeal.τ).loc Cert.AdsKIdeal.main_arg38)
      ∧ m' ((c.tc : Thread Cert.AdsRIdeal.nD Cert.AdsRIdeal.τ).loc Cert.AdsRIdeal.main_arg39) = m ((c.tc : Thread Cert.AdsKIdeal.nD Cert.AdsKIdeal.τ).loc Cert.AdsKIdeal.main_arg39)
      ∧ m' ((c.tc : Thread Cert.AdsRIdeal.nD Cert.AdsRIdeal.τ).loc Cert.AdsRIdeal.main_arg40) = m ((c.tc : Thread Cert.AdsKIdeal.nD Cert.AdsKIdeal.τ).loc Cert.AdsKIdeal.main_arg40)
      ∧ m' ((c.tc : Thread Cert.AdsRIdeal.nD Cert.AdsRIdeal.τ).loc Cert.AdsRIdeal.main_arg41) = m ((c.tc : Thread Cert.AdsKIdeal.nD Cert.AdsKIdeal.τ).loc Cert.AdsKIdeal.main_arg41)
      ∧ m' ((c.tc : Thread Cert.AdsRIdeal.nD Cert.AdsRIdeal.τ).loc Cert.AdsRIdeal.main_arg42) = m ((c.tc : Thread Cert.AdsKIdeal.nD Cert.AdsKIdeal.τ).loc Cert.AdsKIdeal.main_arg42)
      ∧ m' ((c.tc : Thread Cert.AdsRIdeal.nD Cert.AdsRIdeal.τ).loc Cert.AdsRIdeal.main_arg43) = m ((c.tc : Thread Cert.AdsKIdeal.nD Cert.AdsKIdeal.τ).loc Cert.AdsKIdeal.main_arg43)
      ∧ m' ((c.tc : Thread Cert.AdsRIdeal.nD Cert.AdsRIdeal.τ).loc Cert.AdsRIdeal.main_arg44) = m ((c.tc : Thread Cert.AdsKIdeal.nD Cert.AdsKIdeal.τ).loc Cert.AdsKIdeal.main_arg44)) →
    ∃ (v0 : (c : Dev Cert.AdsKIdeal.nD) → Buf (Elt Ideal) ((c.tc : Thread Cert.AdsKIdeal.nD Cert.AdsKIdeal.τ).loc Cert.AdsKIdeal.main_v0_0)) (v1 : (c : Dev Cert.AdsKIdeal.nD) → Buf (Elt Ideal) ((c.tc : Thread Cert.AdsKIdeal.nD Cert.AdsKIdeal.τ).loc Cert.AdsKIdeal.main_v0_1)) (v2 : (c : Dev Cert.AdsKIdeal.nD) → Buf (Elt Ideal) ((c.tc : Thread Cert.AdsKIdeal.nD Cert.AdsKIdeal.τ).loc Cert.AdsKIdeal.main_v0_2)) (v3 : (c : Dev Cert.AdsKIdeal.nD) → Buf (Elt Ideal) ((c.tc : Thread Cert.AdsKIdeal.nD Cert.AdsKIdeal.τ).loc Cert.AdsKIdeal.main_v0_3)) (v4 : (c : Dev Cert.AdsKIdeal.nD) → Buf (Elt Ideal) ((c.tc : Thread Cert.AdsKIdeal.nD Cert.AdsKIdeal.τ).loc Cert.AdsKIdeal.main_v0_4)) (v5 : (c : Dev Cert.AdsKIdeal.nD) → Buf (Elt Ideal) ((c.tc : Thread Cert.AdsKIdeal.nD Cert.AdsKIdeal.τ).loc Cert.AdsKIdeal.main_v0_5)) (v6 : (c : Dev Cert.AdsKIdeal.nD) → Buf (Elt Ideal) ((c.tc : Thread Cert.AdsKIdeal.nD Cert.AdsKIdeal.τ).loc Cert.AdsKIdeal.main_v0_6)) (v7 : (c : Dev Cert.AdsKIdeal.nD) → Buf (Elt Ideal) ((c.tc : Thread Cert.AdsKIdeal.nD Cert.AdsKIdeal.τ).loc Cert.AdsKIdeal.main_v0_7)) (v8 : (c : Dev Cert.AdsKIdeal.nD) → Buf (Elt Ideal) ((c.tc : Thread Cert.AdsKIdeal.nD Cert.AdsKIdeal.τ).loc Cert.AdsKIdeal.main_v0_8)) (v9 : (c : Dev Cert.AdsKIdeal.nD) → Buf (Elt Ideal) ((c.tc : Thread Cert.AdsKIdeal.nD Cert.AdsKIdeal.τ).loc Cert.AdsKIdeal.main_v0_9)) (v10 : (c : Dev Cert.AdsKIdeal.nD) → Buf (Elt Ideal) ((c.tc : Thread Cert.AdsKIdeal.nD Cert.AdsKIdeal.τ).loc Cert.AdsKIdeal.main_v0_10)) (v11 : (c : Dev Cert.AdsKIdeal.nD) → Buf (Elt Ideal) ((c.tc : Thread Cert.AdsKIdeal.nD Cert.AdsKIdeal.τ).loc Cert.AdsKIdeal.main_v0_11)) (v12 : (c : Dev Cert.AdsKIdeal.nD) → Buf (Elt Ideal) ((c.tc : Thread Cert.AdsKIdeal.nD Cert.AdsKIdeal.τ).loc Cert.AdsKIdeal.main_v0_12)) (v13 : (c : Dev Cert.AdsKIdeal.nD) → Buf (Elt Ideal) ((c.tc : Thread Cert.AdsKIdeal.nD Cert.AdsKIdeal.τ).loc Cert.AdsKIdeal.main_v0_13)) (v14 : (c : Dev Cert.AdsKIdeal.nD) → Buf (Elt Ideal) ((c.tc : Thread Cert.AdsKIdeal.nD Cert.AdsKIdeal.τ).loc Cert.AdsKIdeal.main_v0_14)) (v15 : (c : Dev Cert.AdsKIdeal.nD) → Buf (Elt Ideal) ((c.tc : Thread Cert.AdsKIdeal.nD Cert.AdsKIdeal.τ).loc Cert.AdsKIdeal.main_v0_15)) (v16 : (c : Dev Cert.AdsKIdeal.nD) → Buf (Elt Ideal) ((c.tc : Thread Cert.AdsKIdeal.nD Cert.AdsKIdeal.τ).loc Cert.AdsKIdeal.main_v0_16)) (v17 : (c : Dev Cert.AdsKIdeal.nD) → Buf (Elt Ideal) ((c.tc : Thread Cert.AdsKIdeal.nD Cert.AdsKIdeal.τ).loc Cert.AdsKIdeal.main_v0_17)) (v18 : (c : Dev Cert.AdsKIdeal.nD) → Buf (Elt Ideal) ((c.tc : Thread Cert.AdsKIdeal.nD Cert.AdsKIdeal.τ).loc Cert.AdsKIdeal.main_v0_18)) (v19 : (c : Dev Cert.AdsKIdeal.nD) → Buf (Elt Ideal) ((c.tc : Thread Cert.AdsKIdeal.nD Cert.AdsKIdeal.τ).loc Cert.AdsKIdeal.main_v0_19)) (v20 : (c : Dev Cert.AdsKIdeal.nD) → Buf (Elt Ideal) ((c.tc : Thread Cert.AdsKIdeal.nD Cert.AdsKIdeal.τ).loc Cert.AdsKIdeal.main_v0_20)) (v21 : (c : Dev Cert.AdsKIdeal.nD) → Buf (Elt Ideal) ((c.tc : Thread Cert.AdsKIdeal.nD Cert.AdsKIdeal.τ).loc Cert.AdsKIdeal.main_v0_21)) (v22 : (c : Dev Cert.AdsKIdeal.nD) → Buf (Elt Ideal) ((c.tc : Thread Cert.AdsKIdeal.nD Cert.AdsKIdeal.τ).loc Cert.AdsKIdeal.main_v0_22)) (v23 : (c : Dev Cert.AdsKIdeal.nD) → Buf (Elt Ideal) ((c.tc : Thread Cert.AdsKIdeal.nD Cert.AdsKIdeal.τ).loc Cert.AdsKIdeal.main_v0_23)) (v24 : (c : Dev Cert.AdsKIdeal.nD) → Buf (Elt Ideal) ((c.tc : Thread Cert.AdsKIdeal.nD Cert.AdsKIdeal.τ).loc Cert.AdsKIdeal.main_v0_24)) (v25 : (c : Dev Cert.AdsKIdeal.nD) → Buf (Elt Ideal) ((c.tc : Thread Cert.AdsKIdeal.nD Cert.AdsKIdeal.τ).loc Cert.AdsKIdeal.main_v0_25)) (v26 : (c : Dev Cert.AdsKIdeal.nD) → Buf (Elt Ideal) ((c.tc : Thread Cert.AdsKIdeal.nD Cert.AdsKIdeal.τ).loc Cert.AdsKIdeal.main_v0_26)) (v27 : (c : Dev Cert.AdsKIdeal.nD) → Buf (Elt Ideal) ((c.tc : Thread Cert.AdsKIdeal.nD Cert.AdsKIdeal.τ).loc Cert.AdsKIdeal.main_v0_27)) (v28 : (c : Dev Cert.AdsKIdeal.nD) → Buf (Elt Ideal) ((c.tc : Thread Cert.AdsKIdeal.nD Cert.AdsKIdeal.τ).loc Cert.AdsKIdeal.main_v0_28)) (v29 : (c : Dev Cert.AdsKIdeal.nD) → Buf (Elt Ideal) ((c.tc : Thread Cert.AdsKIdeal.nD Cert.AdsKIdeal.τ).loc Cert.AdsKIdeal.main_v0_29)) (v30 : (c : Dev Cert.AdsKIdeal.nD) → Buf (Elt Ideal) ((c.tc : Thread Cert.AdsKIdeal.nD Cert.AdsKIdeal.τ).loc Cert.AdsKIdeal.main_v0_30)) (v31 : (c : Dev Cert.AdsKIdeal.nD) → Buf (Elt Ideal) ((c.tc : Thread Cert.AdsKIdeal.nD Cert.AdsKIdeal.τ).loc Cert.AdsKIdeal.main_v0_31)) (v32 : (c : Dev Cert.AdsKIdeal.nD) → Buf (Elt Ideal) ((c.tc : Thread Cert.AdsKIdeal.nD Cert.AdsKIdeal.τ).loc Cert.AdsKIdeal.main_v0_32)) (v33 : (c : Dev Cert.AdsKIdeal.nD) → Buf (Elt Ideal) ((c.tc : Thread Cert.AdsKIdeal.nD Cert.AdsKIdeal.τ).loc Cert.AdsKIdeal.main_v0_33)) (v34 : (c : Dev Cert.AdsKIdeal.nD) → Buf (Elt Ideal) ((c.tc : Thread Cert.AdsKIdeal.nD Cert.AdsKIdeal.τ).loc Cert.AdsKIdeal.main_v0_34)) (v35 : (c : Dev Cert.AdsKIdeal.nD) → Buf (Elt Ideal) ((c.tc : Thread Cert.AdsKIdeal.nD Cert.AdsKIdeal.τ).loc Cert.AdsKIdeal.main_v0_35)) (v36 : (c : Dev Cert.AdsKIdeal.nD) → Buf (Elt Ideal) ((c.tc : Thread Cert.AdsKIdeal.nD Cert.AdsKIdeal.τ).loc Cert.AdsKIdeal.main_v0_36)) (v37 : (c : Dev Cert.AdsKIdeal.nD) → Buf (Elt Ideal) ((c.tc : Thread Cert.AdsKIdeal.nD Cert.AdsKIdeal.τ).loc Cert.AdsKIdeal.main_v0_37)) (v38 : (c : Dev Cert.AdsKIdeal.nD) → Buf (Elt Ideal) ((c.tc : Thread Cert.AdsKIdeal.nD Cert.AdsKIdeal.τ).loc Cert.AdsKIdeal.main_v0_38)) (v39 : (c : Dev Cert.AdsKIdeal.nD) → Buf (Elt Ideal) ((c.tc : Thread Cert.AdsKIdeal.nD Cert.AdsKIdeal.τ).loc Cert.AdsKIdeal.main_v0_39)) (v40 : (c : Dev Cert.AdsKIdeal.nD) → Buf (Elt Ideal) ((c.tc : Thread Cert.AdsKIdeal.nD Cert.AdsKIdeal.τ).loc Cert.AdsKIdeal.main_v0_40)) (v41 : (c : Dev Cert.AdsKIdeal.nD) → Buf (Elt Ideal) ((c.tc : Thread Cert.AdsKIdeal.nD Cert.AdsKIdeal.τ).loc Cert.AdsKIdeal.main_v0_41)) (v42 : (c : Dev Cert.AdsKIdeal.nD) → Buf (Elt Ideal) ((c.tc : Thread Cert.AdsKIdeal.nD Cert.AdsKIdeal.τ).loc Cert.AdsKIdeal.main_v0_42)) (v43 : (c : Dev Cert.AdsKIdeal.nD) → Buf (Elt Ideal) ((c.tc : Thread Cert.AdsKIdeal.nD Cert.AdsKIdeal.τ).loc Cert.AdsKIdeal.main_v0_43)) (v44 : (c : Dev Cert.AdsKIdeal.nD) → Buf (Elt Ideal) ((c.tc : Thread Cert.AdsKIdeal.nD Cert.AdsKIdeal.τ).loc Cert.AdsKIdeal.main_v0_44)),
      θ_run (Cert.AdsKIdeal.defs (F := Ideal)) (onTc (τ := Cert.AdsKIdeal.τ) (Cert.AdsKIdeal.main (F := Ideal))) ⟨m, fun _ => 0, g⟩ (fun r => ∀ c : Dev Cert.AdsKIdeal.nD,
          r.2.mem ((c.tc : Thread Cert.AdsKIdeal.nD Cert.AdsKIdeal.τ).loc Cert.AdsKIdeal.main_v0_0) = v0 c
          ∧ r.2.mem ((c.tc : Thread Cert.AdsKIdeal.nD Cert.AdsKIdeal.τ).loc Cert.AdsKIdeal.main_v0_1) = v1 c
          ∧ r.2.mem ((c.tc : Thread Cert.AdsKIdeal.nD Cert.AdsKIdeal.τ).loc Cert.AdsKIdeal.main_v0_2) = v2 c
          ∧ r.2.mem ((c.tc : Thread Cert.AdsKIdeal.nD Cert.AdsKIdeal.τ).loc Cert.AdsKIdeal.main_v0_3) = v3 c
          ∧ r.2.mem ((c.tc : Thread Cert.AdsKIdeal.nD Cert.AdsKIdeal.τ).loc Cert.AdsKIdeal.main_v0_4) = v4 c
          ∧ r.2.mem ((c.tc : Thread Cert.AdsKIdeal.nD Cert.AdsKIdeal.τ).loc Cert.AdsKIdeal.main_v0_5) = v5 c
          ∧ r.2.mem ((c.tc : Thread Cert.AdsKIdeal.nD Cert.AdsKIdeal.τ).loc Cert.AdsKIdeal.main_v0_6) = v6 c
          ∧ r.2.mem ((c.tc : Thread Cert.AdsKIdeal.nD Cert.AdsKIdeal.τ).loc Cert.AdsKIdeal.main_v0_7) = v7 c
          ∧ r.2.mem ((c.tc : Thread Cert.AdsKIdeal.nD Cert.AdsKIdeal.τ).loc Cert.AdsKIdeal.main_v0_8) = v8 c
          ∧ r.2.mem ((c.tc : Thread Cert.AdsKIdeal.nD Cert.AdsKIdeal.τ).loc Cert.AdsKIdeal.main_v0_9) = v9 c
          ∧ r.2.mem ((c.tc : Thread Cert.AdsKIdeal.nD Cert.AdsKIdeal.τ).loc Cert.AdsKIdeal.main_v0_10) = v10 c
          ∧ r.2.mem ((c.tc : Thread Cert.AdsKIdeal.nD Cert.AdsKIdeal.τ).loc Cert.AdsKIdeal.main_v0_11) = v11 c
          ∧ r.2.mem ((c.tc : Thread Cert.AdsKIdeal.nD Cert.AdsKIdeal.τ).loc Cert.AdsKIdeal.main_v0_12) = v12 c
          ∧ r.2.mem ((c.tc : Thread Cert.AdsKIdeal.nD Cert.AdsKIdeal.τ).loc Cert.AdsKIdeal.main_v0_13) = v13 c
          ∧ r.2.mem ((c.tc : Thread Cert.AdsKIdeal.nD Cert.AdsKIdeal.τ).loc Cert.AdsKIdeal.main_v0_14) = v14 c
          ∧ r.2.mem ((c.tc : Thread Cert.AdsKIdeal.nD Cert.AdsKIdeal.τ).loc Cert.AdsKIdeal.main_v0_15) = v15 c
          ∧ r.2.mem ((c.tc : Thread Cert.AdsKIdeal.nD Cert.AdsKIdeal.τ).loc Cert.AdsKIdeal.main_v0_16) = v16 c
          ∧ r.2.mem ((c.tc : Thread Cert.AdsKIdeal.nD Cert.AdsKIdeal.τ).loc Cert.AdsKIdeal.main_v0_17) = v17 c
          ∧ r.2.mem ((c.tc : Thread Cert.AdsKIdeal.nD Cert.AdsKIdeal.τ).loc Cert.AdsKIdeal.main_v0_18) = v18 c
          ∧ r.2.mem ((c.tc : Thread Cert.AdsKIdeal.nD Cert.AdsKIdeal.τ).loc Cert.AdsKIdeal.main_v0_19) = v19 c
          ∧ r.2.mem ((c.tc : Thread Cert.AdsKIdeal.nD Cert.AdsKIdeal.τ).loc Cert.AdsKIdeal.main_v0_20) = v20 c
          ∧ r.2.mem ((c.tc : Thread Cert.AdsKIdeal.nD Cert.AdsKIdeal.τ).loc Cert.AdsKIdeal.main_v0_21) = v21 c
          ∧ r.2.mem ((c.tc : Thread Cert.AdsKIdeal.nD Cert.AdsKIdeal.τ).loc Cert.AdsKIdeal.main_v0_22) = v22 c
          ∧ r.2.mem ((c.tc : Thread Cert.AdsKIdeal.nD Cert.AdsKIdeal.τ).loc Cert.AdsKIdeal.main_v0_23) = v23 c
          ∧ r.2.mem ((c.tc : Thread Cert.AdsKIdeal.nD Cert.AdsKIdeal.τ).loc Cert.AdsKIdeal.main_v0_24) = v24 c
          ∧ r.2.mem ((c.tc : Thread Cert.AdsKIdeal.nD Cert.AdsKIdeal.τ).loc Cert.AdsKIdeal.main_v0_25) = v25 c
          ∧ r.2.mem ((c.tc : Thread Cert.AdsKIdeal.nD Cert.AdsKIdeal.τ).loc Cert.AdsKIdeal.main_v0_26) = v26 c
          ∧ r.2.mem ((c.tc : Thread Cert.AdsKIdeal.nD Cert.AdsKIdeal.τ).loc Cert.AdsKIdeal.main_v0_27) = v27 c
          ∧ r.2.mem ((c.tc : Thread Cert.AdsKIdeal.nD Cert.AdsKIdeal.τ).loc Cert.AdsKIdeal.main_v0_28) = v28 c
          ∧ r.2.mem ((c.tc : Thread Cert.AdsKIdeal.nD Cert.AdsKIdeal.τ).loc Cert.AdsKIdeal.main_v0_29) = v29 c
          ∧ r.2.mem ((c.tc : Thread Cert.AdsKIdeal.nD Cert.AdsKIdeal.τ).loc Cert.AdsKIdeal.main_v0_30) = v30 c
          ∧ r.2.mem ((c.tc : Thread Cert.AdsKIdeal.nD Cert.AdsKIdeal.τ).loc Cert.AdsKIdeal.main_v0_31) = v31 c
          ∧ r.2.mem ((c.tc : Thread Cert.AdsKIdeal.nD Cert.AdsKIdeal.τ).loc Cert.AdsKIdeal.main_v0_32) = v32 c
          ∧ r.2.mem ((c.tc : Thread Cert.AdsKIdeal.nD Cert.AdsKIdeal.τ).loc Cert.AdsKIdeal.main_v0_33) = v33 c
          ∧ r.2.mem ((c.tc : Thread Cert.AdsKIdeal.nD Cert.AdsKIdeal.τ).loc Cert.AdsKIdeal.main_v0_34) = v34 c
          ∧ r.2.mem ((c.tc : Thread Cert.AdsKIdeal.nD Cert.AdsKIdeal.τ).loc Cert.AdsKIdeal.main_v0_35) = v35 c
          ∧ r.2.mem ((c.tc : Thread Cert.AdsKIdeal.nD Cert.AdsKIdeal.τ).loc Cert.AdsKIdeal.main_v0_36) = v36 c
          ∧ r.2.mem ((c.tc : Thread Cert.AdsKIdeal.nD Cert.AdsKIdeal.τ).loc Cert.AdsKIdeal.main_v0_37) = v37 c
          ∧ r.2.mem ((c.tc : Thread Cert.AdsKIdeal.nD Cert.AdsKIdeal.τ).loc Cert.AdsKIdeal.main_v0_38) = v38 c
          ∧ r.2.mem ((c.tc : Thread Cert.AdsKIdeal.nD Cert.AdsKIdeal.τ).loc Cert.AdsKIdeal.main_v0_39) = v39 c
          ∧ r.2.mem ((c.tc : Thread Cert.AdsKIdeal.nD Cert.AdsKIdeal.τ).loc Cert.AdsKIdeal.main_v0_40) = v40 c
          ∧ r.2.mem ((c.tc : Thread Cert.AdsKIdeal.nD Cert.AdsKIdeal.τ).loc Cert.AdsKIdeal.main_v0_41) = v41 c
          ∧ r.2.mem ((c.tc : Thread Cert.AdsKIdeal.nD Cert.AdsKIdeal.τ).loc Cert.AdsKIdeal.main_v0_42) = v42 c
          ∧ r.2.mem ((c.tc : Thread Cert.AdsKIdeal.nD Cert.AdsKIdeal.τ).loc Cert.AdsKIdeal.main_v0_43) = v43 c
          ∧ r.2.mem ((c.tc : Thread Cert.AdsKIdeal.nD Cert.AdsKIdeal.τ).loc Cert.AdsKIdeal.main_v0_44) = v44 c
          ∧ r.2.mem ((c.tc : Thread Cert.AdsKIdeal.nD Cert.AdsKIdeal.τ).loc Cert.AdsKIdeal.main_arg0) = m ((c.tc : Thread Cert.AdsKIdeal.nD Cert.AdsKIdeal.τ).loc Cert.AdsKIdeal.main_arg0)
          ∧ r.2.mem ((c.tc : Thread Cert.AdsKIdeal.nD Cert.AdsKIdeal.τ).loc Cert.AdsKIdeal.main_arg1) = m ((c.tc : Thread Cert.AdsKIdeal.nD Cert.AdsKIdeal.τ).loc Cert.AdsKIdeal.main_arg1)
          ∧ r.2.mem ((c.tc : Thread Cert.AdsKIdeal.nD Cert.AdsKIdeal.τ).loc Cert.AdsKIdeal.main_arg2) = m ((c.tc : Thread Cert.AdsKIdeal.nD Cert.AdsKIdeal.τ).loc Cert.AdsKIdeal.main_arg2)
          ∧ r.2.mem ((c.tc : Thread Cert.AdsKIdeal.nD Cert.AdsKIdeal.τ).loc Cert.AdsKIdeal.main_arg3) = m ((c.tc : Thread Cert.AdsKIdeal.nD Cert.AdsKIdeal.τ).loc Cert.AdsKIdeal.main_arg3)
          ∧ r.2.mem ((c.tc : Thread Cert.AdsKIdeal.nD Cert.AdsKIdeal.τ).loc Cert.AdsKIdeal.main_arg4) = m ((c.tc : Thread Cert.AdsKIdeal.nD Cert.AdsKIdeal.τ).loc Cert.AdsKIdeal.main_arg4)
          ∧ r.2.mem ((c.tc : Thread Cert.AdsKIdeal.nD Cert.AdsKIdeal.τ).loc Cert.AdsKIdeal.main_arg5) = m ((c.tc : Thread Cert.AdsKIdeal.nD Cert.AdsKIdeal.τ).loc Cert.AdsKIdeal.main_arg5)
          ∧ r.2.mem ((c.tc : Thread Cert.AdsKIdeal.nD Cert.AdsKIdeal.τ).loc Cert.AdsKIdeal.main_arg6) = m ((c.tc : Thread Cert.AdsKIdeal.nD Cert.AdsKIdeal.τ).loc Cert.AdsKIdeal.main_arg6)
          ∧ r.2.mem ((c.tc : Thread Cert.AdsKIdeal.nD Cert.AdsKIdeal.τ).loc Cert.AdsKIdeal.main_arg7) = m ((c.tc : Thread Cert.AdsKIdeal.nD Cert.AdsKIdeal.τ).loc Cert.AdsKIdeal.main_arg7)
          ∧ r.2.mem ((c.tc : Thread Cert.AdsKIdeal.nD Cert.AdsKIdeal.τ).loc Cert.AdsKIdeal.main_arg8) = m ((c.tc : Thread Cert.AdsKIdeal.nD Cert.AdsKIdeal.τ).loc Cert.AdsKIdeal.main_arg8)
          ∧ r.2.mem ((c.tc : Thread Cert.AdsKIdeal.nD Cert.AdsKIdeal.τ).loc Cert.AdsKIdeal.main_arg9) = m ((c.tc : Thread Cert.AdsKIdeal.nD Cert.AdsKIdeal.τ).loc Cert.AdsKIdeal.main_arg9)
          ∧ r.2.mem ((c.tc : Thread Cert.AdsKIdeal.nD Cert.AdsKIdeal.τ).loc Cert.AdsKIdeal.main_arg10) = m ((c.tc : Thread Cert.AdsKIdeal.nD Cert.AdsKIdeal.τ).loc Cert.AdsKIdeal.main_arg10)
          ∧ r.2.mem ((c.tc : Thread Cert.AdsKIdeal.nD Cert.AdsKIdeal.τ).loc Cert.AdsKIdeal.main_arg11) = m ((c.tc : Thread Cert.AdsKIdeal.nD Cert.AdsKIdeal.τ).loc Cert.AdsKIdeal.main_arg11)
          ∧ r.2.mem ((c.tc : Thread Cert.AdsKIdeal.nD Cert.AdsKIdeal.τ).loc Cert.AdsKIdeal.main_arg12) = m ((c.tc : Thread Cert.AdsKIdeal.nD Cert.AdsKIdeal.τ).loc Cert.AdsKIdeal.main_arg12)
          ∧ r.2.mem ((c.tc : Thread Cert.AdsKIdeal.nD Cert.AdsKIdeal.τ).loc Cert.AdsKIdeal.main_arg13) = m ((c.tc : Thread Cert.AdsKIdeal.nD Cert.AdsKIdeal.τ).loc Cert.AdsKIdeal.main_arg13)
          ∧ r.2.mem ((c.tc : Thread Cert.AdsKIdeal.nD Cert.AdsKIdeal.τ).loc Cert.AdsKIdeal.main_arg14) = m ((c.tc : Thread Cert.AdsKIdeal.nD Cert.AdsKIdeal.τ).loc Cert.AdsKIdeal.main_arg14)
          ∧ r.2.mem ((c.tc : Thread Cert.AdsKIdeal.nD Cert.AdsKIdeal.τ).loc Cert.AdsKIdeal.main_arg15) = m ((c.tc : Thread Cert.AdsKIdeal.nD Cert.AdsKIdeal.τ).loc Cert.AdsKIdeal.main_arg15)
          ∧ r.2.mem ((c.tc : Thread Cert.AdsKIdeal.nD Cert.AdsKIdeal.τ).loc Cert.AdsKIdeal.main_arg16) = m ((c.tc : Thread Cert.AdsKIdeal.nD Cert.AdsKIdeal.τ).loc Cert.AdsKIdeal.main_arg16)
          ∧ r.2.mem ((c.tc : Thread Cert.AdsKIdeal.nD Cert.AdsKIdeal.τ).loc Cert.AdsKIdeal.main_arg17) = m ((c.tc : Thread Cert.AdsKIdeal.nD Cert.AdsKIdeal.τ).loc Cert.AdsKIdeal.main_arg17)
          ∧ r.2.mem ((c.tc : Thread Cert.AdsKIdeal.nD Cert.AdsKIdeal.τ).loc Cert.AdsKIdeal.main_arg18) = m ((c.tc : Thread Cert.AdsKIdeal.nD Cert.AdsKIdeal.τ).loc Cert.AdsKIdeal.main_arg18)
          ∧ r.2.mem ((c.tc : Thread Cert.AdsKIdeal.nD Cert.AdsKIdeal.τ).loc Cert.AdsKIdeal.main_arg19) = m ((c.tc : Thread Cert.AdsKIdeal.nD Cert.AdsKIdeal.τ).loc Cert.AdsKIdeal.main_arg19)
          ∧ r.2.mem ((c.tc : Thread Cert.AdsKIdeal.nD Cert.AdsKIdeal.τ).loc Cert.AdsKIdeal.main_arg20) = m ((c.tc : Thread Cert.AdsKIdeal.nD Cert.AdsKIdeal.τ).loc Cert.AdsKIdeal.main_arg20)
          ∧ r.2.mem ((c.tc : Thread Cert.AdsKIdeal.nD Cert.AdsKIdeal.τ).loc Cert.AdsKIdeal.main_arg21) = m ((c.tc : Thread Cert.AdsKIdeal.nD Cert.AdsKIdeal.τ).loc Cert.AdsKIdeal.main_arg21)
          ∧ r.2.mem ((c.tc : Thread Cert.AdsKIdeal.nD Cert.AdsKIdeal.τ).loc Cert.AdsKIdeal.main_arg22) = m ((c.tc : Thread Cert.AdsKIdeal.nD Cert.AdsKIdeal.τ).loc Cert.AdsKIdeal.main_arg22)
          ∧ r.2.mem ((c.tc : Thread Cert.AdsKIdeal.nD Cert.AdsKIdeal.τ).loc Cert.AdsKIdeal.main_arg23) = m ((c.tc : Thread Cert.AdsKIdeal.nD Cert.AdsKIdeal.τ).loc Cert.AdsKIdeal.main_arg23)
          ∧ r.2.mem ((c.tc : Thread Cert.AdsKIdeal.nD Cert.AdsKIdeal.τ).loc Cert.AdsKIdeal.main_arg24) = m ((c.tc : Thread Cert.AdsKIdeal.nD Cert.AdsKIdeal.τ).loc Cert.AdsKIdeal.main_arg24)
          ∧ r.2.mem ((c.tc : Thread Cert.AdsKIdeal.nD Cert.AdsKIdeal.τ).loc Cert.AdsKIdeal.main_arg25) = m ((c.tc : Thread Cert.AdsKIdeal.nD Cert.AdsKIdeal.τ).loc Cert.AdsKIdeal.main_arg25)
          ∧ r.2.mem ((c.tc : Thread Cert.AdsKIdeal.nD Cert.AdsKIdeal.τ).loc Cert.AdsKIdeal.main_arg26) = m ((c.tc : Thread Cert.AdsKIdeal.nD Cert.AdsKIdeal.τ).loc Cert.AdsKIdeal.main_arg26)
          ∧ r.2.mem ((c.tc : Thread Cert.AdsKIdeal.nD Cert.AdsKIdeal.τ).loc Cert.AdsKIdeal.main_arg27) = m ((c.tc : Thread Cert.AdsKIdeal.nD Cert.AdsKIdeal.τ).loc Cert.AdsKIdeal.main_arg27)
          ∧ r.2.mem ((c.tc : Thread Cert.AdsKIdeal.nD Cert.AdsKIdeal.τ).loc Cert.AdsKIdeal.main_arg28) = m ((c.tc : Thread Cert.AdsKIdeal.nD Cert.AdsKIdeal.τ).loc Cert.AdsKIdeal.main_arg28)
          ∧ r.2.mem ((c.tc : Thread Cert.AdsKIdeal.nD Cert.AdsKIdeal.τ).loc Cert.AdsKIdeal.main_arg29) = m ((c.tc : Thread Cert.AdsKIdeal.nD Cert.AdsKIdeal.τ).loc Cert.AdsKIdeal.main_arg29)
          ∧ r.2.mem ((c.tc : Thread Cert.AdsKIdeal.nD Cert.AdsKIdeal.τ).loc Cert.AdsKIdeal.main_arg30) = m ((c.tc : Thread Cert.AdsKIdeal.nD Cert.AdsKIdeal.τ).loc Cert.AdsKIdeal.main_arg30)
          ∧ r.2.mem ((c.tc : Thread Cert.AdsKIdeal.nD Cert.AdsKIdeal.τ).loc Cert.AdsKIdeal.main_arg31) = m ((c.tc : Thread Cert.AdsKIdeal.nD Cert.AdsKIdeal.τ).loc Cert.AdsKIdeal.main_arg31)
          ∧ r.2.mem ((c.tc : Thread Cert.AdsKIdeal.nD Cert.AdsKIdeal.τ).loc Cert.AdsKIdeal.main_arg32) = m ((c.tc : Thread Cert.AdsKIdeal.nD Cert.AdsKIdeal.τ).loc Cert.AdsKIdeal.main_arg32)
          ∧ r.2.mem ((c.tc : Thread Cert.AdsKIdeal.nD Cert.AdsKIdeal.τ).loc Cert.AdsKIdeal.main_arg33) = m ((c.tc : Thread Cert.AdsKIdeal.nD Cert.AdsKIdeal.τ).loc Cert.AdsKIdeal.main_arg33)
          ∧ r.2.mem ((c.tc : Thread Cert.AdsKIdeal.nD Cert.AdsKIdeal.τ).loc Cert.AdsKIdeal.main_arg34) = m ((c.tc : Thread Cert.AdsKIdeal.nD Cert.AdsKIdeal.τ).loc Cert.AdsKIdeal.main_arg34)
          ∧ r.2.mem ((c.tc : Thread Cert.AdsKIdeal.nD Cert.AdsKIdeal.τ).loc Cert.AdsKIdeal.main_arg35) = m ((c.tc : Thread Cert.AdsKIdeal.nD Cert.AdsKIdeal.τ).loc Cert.AdsKIdeal.main_arg35)
          ∧ r.2.mem ((c.tc : Thread Cert.AdsKIdeal.nD Cert.AdsKIdeal.τ).loc Cert.AdsKIdeal.main_arg36) = m ((c.tc : Thread Cert.AdsKIdeal.nD Cert.AdsKIdeal.τ).loc Cert.AdsKIdeal.main_arg36)
          ∧ r.2.mem ((c.tc : Thread Cert.AdsKIdeal.nD Cert.AdsKIdeal.τ).loc Cert.AdsKIdeal.main_arg37) = m ((c.tc : Thread Cert.AdsKIdeal.nD Cert.AdsKIdeal.τ).loc Cert.AdsKIdeal.main_arg37)
          ∧ r.2.mem ((c.tc : Thread Cert.AdsKIdeal.nD Cert.AdsKIdeal.τ).loc Cert.AdsKIdeal.main_arg38) = m ((c.tc : Thread Cert.AdsKIdeal.nD Cert.AdsKIdeal.τ).loc Cert.AdsKIdeal.main_arg38)
          ∧ r.2.mem ((c.tc : Thread Cert.AdsKIdeal.nD Cert.AdsKIdeal.τ).loc Cert.AdsKIdeal.main_arg39) = m ((c.tc : Thread Cert.AdsKIdeal.nD Cert.AdsKIdeal.τ).loc Cert.AdsKIdeal.main_arg39)
          ∧ r.2.mem ((c.tc : Thread Cert.AdsKIdeal.nD Cert.AdsKIdeal.τ).loc Cert.AdsKIdeal.main_arg40) = m ((c.tc : Thread Cert.AdsKIdeal.nD Cert.AdsKIdeal.τ).loc Cert.AdsKIdeal.main_arg40)
          ∧ r.2.mem ((c.tc : Thread Cert.AdsKIdeal.nD Cert.AdsKIdeal.τ).loc Cert.AdsKIdeal.main_arg41) = m ((c.tc : Thread Cert.AdsKIdeal.nD Cert.AdsKIdeal.τ).loc Cert.AdsKIdeal.main_arg41)
          ∧ r.2.mem ((c.tc : Thread Cert.AdsKIdeal.nD Cert.AdsKIdeal.τ).loc Cert.AdsKIdeal.main_arg42) = m ((c.tc : Thread Cert.AdsKIdeal.nD Cert.AdsKIdeal.τ).loc Cert.AdsKIdeal.main_arg42)
          ∧ r.2.mem ((c.tc : Thread Cert.AdsKIdeal.nD Cert.AdsKIdeal.τ).loc Cert.AdsKIdeal.main_arg43) = m ((c.tc : Thread Cert.AdsKIdeal.nD Cert.AdsKIdeal.τ).loc Cert.AdsKIdeal.main_arg43)
          ∧ r.2.mem ((c.tc : Thread Cert.AdsKIdeal.nD Cert.AdsKIdeal.τ).loc Cert.AdsKIdeal.main_arg44) = m ((c.tc : Thread Cert.AdsKIdeal.nD Cert.AdsKIdeal.τ).loc Cert.AdsKIdeal.main_arg44))
      ∧ θ_run (Cert.AdsRIdeal.defs (F := Ideal)) (onTc (τ := Cert.AdsRIdeal.τ) (Cert.AdsRIdeal.main (F := Ideal))) ⟨m', fun _ => 0, g'⟩ (fun r => ∀ c : Dev Cert.AdsRIdeal.nD,
          r.2.mem ((c.tc : Thread Cert.AdsRIdeal.nD Cert.AdsRIdeal.τ).loc Cert.AdsRIdeal.main_v0) = v0 c
          ∧ r.2.mem ((c.tc : Thread Cert.AdsRIdeal.nD Cert.AdsRIdeal.τ).loc Cert.AdsRIdeal.main_v1) = v1 c
          ∧ r.2.mem ((c.tc : Thread Cert.AdsRIdeal.nD Cert.AdsRIdeal.τ).loc Cert.AdsRIdeal.main_v2) = v2 c
          ∧ r.2.mem ((c.tc : Thread Cert.AdsRIdeal.nD Cert.AdsRIdeal.τ).loc Cert.AdsRIdeal.main_v3) = v3 c
          ∧ r.2.mem ((c.tc : Thread Cert.AdsRIdeal.nD Cert.AdsRIdeal.τ).loc Cert.AdsRIdeal.main_v4) = v4 c
          ∧ r.2.mem ((c.tc : Thread Cert.AdsRIdeal.nD Cert.AdsRIdeal.τ).loc Cert.AdsRIdeal.main_v5) = v5 c
          ∧ r.2.mem ((c.tc : Thread Cert.AdsRIdeal.nD Cert.AdsRIdeal.τ).loc Cert.AdsRIdeal.main_v6) = v6 c
          ∧ r.2.mem ((c.tc : Thread Cert.AdsRIdeal.nD Cert.AdsRIdeal.τ).loc Cert.AdsRIdeal.main_v7) = v7 c
          ∧ r.2.mem ((c.tc : Thread Cert.AdsRIdeal.nD Cert.AdsRIdeal.τ).loc Cert.AdsRIdeal.main_v8) = v8 c
          ∧ r.2.mem ((c.tc : Thread Cert.AdsRIdeal.nD Cert.AdsRIdeal.τ).loc Cert.AdsRIdeal.main_v9) = v9 c
          ∧ r.2.mem ((c.tc : Thread Cert.AdsRIdeal.nD Cert.AdsRIdeal.τ).loc Cert.AdsRIdeal.main_v10) = v10 c
          ∧ r.2.mem ((c.tc : Thread Cert.AdsRIdeal.nD Cert.AdsRIdeal.τ).loc Cert.AdsRIdeal.main_v34) = v11 c
          ∧ r.2.mem ((c.tc : Thread Cert.AdsRIdeal.nD Cert.AdsRIdeal.τ).loc Cert.AdsRIdeal.main_v58) = v12 c
          ∧ r.2.mem ((c.tc : Thread Cert.AdsRIdeal.nD Cert.AdsRIdeal.τ).loc Cert.AdsRIdeal.main_v82) = v13 c
          ∧ r.2.mem ((c.tc : Thread Cert.AdsRIdeal.nD Cert.AdsRIdeal.τ).loc Cert.AdsRIdeal.main_v106) = v14 c
          ∧ r.2.mem ((c.tc : Thread Cert.AdsRIdeal.nD Cert.AdsRIdeal.τ).loc Cert.AdsRIdeal.main_v130) = v15 c
          ∧ r.2.mem ((c.tc : Thread Cert.AdsRIdeal.nD Cert.AdsRIdeal.τ).loc Cert.AdsRIdeal.main_v154) = v16 c
          ∧ r.2.mem ((c.tc : Thread Cert.AdsRIdeal.nD Cert.AdsRIdeal.τ).loc Cert.AdsRIdeal.main_v178) = v17 c
          ∧ r.2.mem ((c.tc : Thread Cert.AdsRIdeal.nD Cert.AdsRIdeal.τ).loc Cert.AdsRIdeal.main_v202) = v18 c
          ∧ r.2.mem ((c.tc : Thread Cert.AdsRIdeal.nD Cert.AdsRIdeal.τ).loc Cert.AdsRIdeal.main_v226) = v19 c
          ∧ r.2.mem ((c.tc : Thread Cert.AdsRIdeal.nD Cert.AdsRIdeal.τ).loc Cert.AdsRIdeal.main_v250) = v20 c
          ∧ r.2.mem ((c.tc : Thread Cert.AdsRIdeal.nD Cert.AdsRIdeal.τ).loc Cert.AdsRIdeal.main_v274) = v21 c
          ∧ r.2.mem ((c.tc : Thread Cert.AdsRIdeal.nD Cert.AdsRIdeal.τ).loc Cert.AdsRIdeal.main_v15) = v22 c
          ∧ r.2.mem ((c.tc : Thread Cert.AdsRIdeal.nD Cert.AdsRIdeal.τ).loc Cert.AdsRIdeal.main_v39) = v23 c
          ∧ r.2.mem ((c.tc : Thread Cert.AdsRIdeal.nD Cert.AdsRIdeal.τ).loc Cert.AdsRIdeal.main_v63) = v24 c
          ∧ r.2.mem ((c.tc : Thread Cert.AdsRIdeal.nD Cert.AdsRIdeal.τ).loc Cert.AdsRIdeal.main_v87) = v25 c
          ∧ r.2.mem ((c.tc : Thread Cert.AdsRIdeal.nD Cert.AdsRIdeal.τ).loc Cert.AdsRIdeal.main_v111) = v26 c
          ∧ r.2.mem ((c.tc : Thread Cert.AdsRIdeal.nD Cert.AdsRIdeal.τ).loc Cert.AdsRIdeal.main_v135) = v27 c
          ∧ r.2.mem ((c.tc : Thread Cert.AdsRIdeal.nD Cert.AdsRIdeal.τ).loc Cert.AdsRIdeal.main_v159) = v28 c
          ∧ r.2.mem ((c.tc : Thread Cert.AdsRIdeal.nD Cert.AdsRIdeal.τ).loc Cert.AdsRIdeal.main_v183) = v29 c
          ∧ r.2.mem ((c.tc : Thread Cert.AdsRIdeal.nD Cert.AdsRIdeal.τ).loc Cert.AdsRIdeal.main_v207) = v30 c
          ∧ r.2.mem ((c.tc : Thread Cert.AdsRIdeal.nD Cert.AdsRIdeal.τ).loc Cert.AdsRIdeal.main_v231) = v31 c
          ∧ r.2.mem ((c.tc : Thread Cert.AdsRIdeal.nD Cert.AdsRIdeal.τ).loc Cert.AdsRIdeal.main_v255) = v32 c
          ∧ r.2.mem ((c.tc : Thread Cert.AdsRIdeal.nD Cert.AdsRIdeal.τ).loc Cert.AdsRIdeal.main_v21) = v33 c
          ∧ r.2.mem ((c.tc : Thread Cert.AdsRIdeal.nD Cert.AdsRIdeal.τ).loc Cert.AdsRIdeal.main_v45) = v34 c
          ∧ r.2.mem ((c.tc : Thread Cert.AdsRIdeal.nD Cert.AdsRIdeal.τ).loc Cert.AdsRIdeal.main_v69) = v35 c
          ∧ r.2.mem ((c.tc : Thread Cert.AdsRIdeal.nD Cert.AdsRIdeal.τ).loc Cert.AdsRIdeal.main_v93) = v36 c
          ∧ r.2.mem ((c.tc : Thread Cert.AdsRIdeal.nD Cert.AdsRIdeal.τ).loc Cert.AdsRIdeal.main_v117) = v37 c
          ∧ r.2.mem ((c.tc : Thread Cert.AdsRIdeal.nD Cert.AdsRIdeal.τ).loc Cert.AdsRIdeal.main_v141) = v38 c
          ∧ r.2.mem ((c.tc : Thread Cert.AdsRIdeal.nD Cert.AdsRIdeal.τ).loc Cert.AdsRIdeal.main_v165) = v39 c
          ∧ r.2.mem ((c.tc : Thread Cert.AdsRIdeal.nD Cert.AdsRIdeal.τ).loc Cert.AdsRIdeal.main_v189) = v40 c
          ∧ r.2.mem ((c.tc : Thread Cert.AdsRIdeal.nD Cert.AdsRIdeal.τ).loc Cert.AdsRIdeal.main_v213) = v41 c
          ∧ r.2.mem ((c.tc : Thread Cert.AdsRIdeal.nD Cert.AdsRIdeal.τ).loc Cert.AdsRIdeal.main_v237) = v42 c
          ∧ r.2.mem ((c.tc : Thread Cert.AdsRIdeal.nD Cert.AdsRIdeal.τ).loc Cert.AdsRIdeal.main_v261) = v43 c
          ∧ r.2.mem ((c.tc : Thread Cert.AdsRIdeal.nD Cert.AdsRIdeal.τ).loc Cert.AdsRIdeal.main_v275) = v44 c
          ∧ r.2.mem ((c.tc : Thread Cert.AdsRIdeal.nD Cert.AdsRIdeal.τ).loc Cert.AdsRIdeal.main_arg0) = m' ((c.tc : Thread Cert.AdsRIdeal.nD Cert.AdsRIdeal.τ).loc Cert.AdsRIdeal.main_arg0)
          ∧ r.2.mem ((c.tc : Thread Cert.AdsRIdeal.nD Cert.AdsRIdeal.τ).loc Cert.AdsRIdeal.main_arg1) = m' ((c.tc : Thread Cert.AdsRIdeal.nD Cert.AdsRIdeal.τ).loc Cert.AdsRIdeal.main_arg1)
          ∧ r.2.mem ((c.tc : Thread Cert.AdsRIdeal.nD Cert.AdsRIdeal.τ).loc Cert.AdsRIdeal.main_arg2) = m' ((c.tc : Thread Cert.AdsRIdeal.nD Cert.AdsRIdeal.τ).loc Cert.AdsRIdeal.main_arg2)
          ∧ r.2.mem ((c.tc : Thread Cert.AdsRIdeal.nD Cert.AdsRIdeal.τ).loc Cert.AdsRIdeal.main_arg3) = m' ((c.tc : Thread Cert.AdsRIdeal.nD Cert.AdsRIdeal.τ).loc Cert.AdsRIdeal.main_arg3)
          ∧ r.2.mem ((c.tc : Thread Cert.AdsRIdeal.nD Cert.AdsRIdeal.τ).loc Cert.AdsRIdeal.main_arg4) = m' ((c.tc : Thread Cert.AdsRIdeal.nD Cert.AdsRIdeal.τ).loc Cert.AdsRIdeal.main_arg4)
          ∧ r.2.mem ((c.tc : Thread Cert.AdsRIdeal.nD Cert.AdsRIdeal.τ).loc Cert.AdsRIdeal.main_arg5) = m' ((c.tc : Thread Cert.AdsRIdeal.nD Cert.AdsRIdeal.τ).loc Cert.AdsRIdeal.main_arg5)
          ∧ r.2.mem ((c.tc : Thread Cert.AdsRIdeal.nD Cert.AdsRIdeal.τ).loc Cert.AdsRIdeal.main_arg6) = m' ((c.tc : Thread Cert.AdsRIdeal.nD Cert.AdsRIdeal.τ).loc Cert.AdsRIdeal.main_arg6)
          ∧ r.2.mem ((c.tc : Thread Cert.AdsRIdeal.nD Cert.AdsRIdeal.τ).loc Cert.AdsRIdeal.main_arg7) = m' ((c.tc : Thread Cert.AdsRIdeal.nD Cert.AdsRIdeal.τ).loc Cert.AdsRIdeal.main_arg7)
          ∧ r.2.mem ((c.tc : Thread Cert.AdsRIdeal.nD Cert.AdsRIdeal.τ).loc Cert.AdsRIdeal.main_arg8) = m' ((c.tc : Thread Cert.AdsRIdeal.nD Cert.AdsRIdeal.τ).loc Cert.AdsRIdeal.main_arg8)
          ∧ r.2.mem ((c.tc : Thread Cert.AdsRIdeal.nD Cert.AdsRIdeal.τ).loc Cert.AdsRIdeal.main_arg9) = m' ((c.tc : Thread Cert.AdsRIdeal.nD Cert.AdsRIdeal.τ).loc Cert.AdsRIdeal.main_arg9)
          ∧ r.2.mem ((c.tc : Thread Cert.AdsRIdeal.nD Cert.AdsRIdeal.τ).loc Cert.AdsRIdeal.main_arg10) = m' ((c.tc : Thread Cert.AdsRIdeal.nD Cert.AdsRIdeal.τ).loc Cert.AdsRIdeal.main_arg10)
          ∧ r.2.mem ((c.tc : Thread Cert.AdsRIdeal.nD Cert.AdsRIdeal.τ).loc Cert.AdsRIdeal.main_arg11) = m' ((c.tc : Thread Cert.AdsRIdeal.nD Cert.AdsRIdeal.τ).loc Cert.AdsRIdeal.main_arg11)
          ∧ r.2.mem ((c.tc : Thread Cert.AdsRIdeal.nD Cert.AdsRIdeal.τ).loc Cert.AdsRIdeal.main_arg12) = m' ((c.tc : Thread Cert.AdsRIdeal.nD Cert.AdsRIdeal.τ).loc Cert.AdsRIdeal.main_arg12)
          ∧ r.2.mem ((c.tc : Thread Cert.AdsRIdeal.nD Cert.AdsRIdeal.τ).loc Cert.AdsRIdeal.main_arg13) = m' ((c.tc : Thread Cert.AdsRIdeal.nD Cert.AdsRIdeal.τ).loc Cert.AdsRIdeal.main_arg13)
          ∧ r.2.mem ((c.tc : Thread Cert.AdsRIdeal.nD Cert.AdsRIdeal.τ).loc Cert.AdsRIdeal.main_arg14) = m' ((c.tc : Thread Cert.AdsRIdeal.nD Cert.AdsRIdeal.τ).loc Cert.AdsRIdeal.main_arg14)
          ∧ r.2.mem ((c.tc : Thread Cert.AdsRIdeal.nD Cert.AdsRIdeal.τ).loc Cert.AdsRIdeal.main_arg15) = m' ((c.tc : Thread Cert.AdsRIdeal.nD Cert.AdsRIdeal.τ).loc Cert.AdsRIdeal.main_arg15)
          ∧ r.2.mem ((c.tc : Thread Cert.AdsRIdeal.nD Cert.AdsRIdeal.τ).loc Cert.AdsRIdeal.main_arg16) = m' ((c.tc : Thread Cert.AdsRIdeal.nD Cert.AdsRIdeal.τ).loc Cert.AdsRIdeal.main_arg16)
          ∧ r.2.mem ((c.tc : Thread Cert.AdsRIdeal.nD Cert.AdsRIdeal.τ).loc Cert.AdsRIdeal.main_arg17) = m' ((c.tc : Thread Cert.AdsRIdeal.nD Cert.AdsRIdeal.τ).loc Cert.AdsRIdeal.main_arg17)
          ∧ r.2.mem ((c.tc : Thread Cert.AdsRIdeal.nD Cert.AdsRIdeal.τ).loc Cert.AdsRIdeal.main_arg18) = m' ((c.tc : Thread Cert.AdsRIdeal.nD Cert.AdsRIdeal.τ).loc Cert.AdsRIdeal.main_arg18)
          ∧ r.2.mem ((c.tc : Thread Cert.AdsRIdeal.nD Cert.AdsRIdeal.τ).loc Cert.AdsRIdeal.main_arg19) = m' ((c.tc : Thread Cert.AdsRIdeal.nD Cert.AdsRIdeal.τ).loc Cert.AdsRIdeal.main_arg19)
          ∧ r.2.mem ((c.tc : Thread Cert.AdsRIdeal.nD Cert.AdsRIdeal.τ).loc Cert.AdsRIdeal.main_arg20) = m' ((c.tc : Thread Cert.AdsRIdeal.nD Cert.AdsRIdeal.τ).loc Cert.AdsRIdeal.main_arg20)
          ∧ r.2.mem ((c.tc : Thread Cert.AdsRIdeal.nD Cert.AdsRIdeal.τ).loc Cert.AdsRIdeal.main_arg21) = m' ((c.tc : Thread Cert.AdsRIdeal.nD Cert.AdsRIdeal.τ).loc Cert.AdsRIdeal.main_arg21)
          ∧ r.2.mem ((c.tc : Thread Cert.AdsRIdeal.nD Cert.AdsRIdeal.τ).loc Cert.AdsRIdeal.main_arg22) = m' ((c.tc : Thread Cert.AdsRIdeal.nD Cert.AdsRIdeal.τ).loc Cert.AdsRIdeal.main_arg22)
          ∧ r.2.mem ((c.tc : Thread Cert.AdsRIdeal.nD Cert.AdsRIdeal.τ).loc Cert.AdsRIdeal.main_arg23) = m' ((c.tc : Thread Cert.AdsRIdeal.nD Cert.AdsRIdeal.τ).loc Cert.AdsRIdeal.main_arg23)
          ∧ r.2.mem ((c.tc : Thread Cert.AdsRIdeal.nD Cert.AdsRIdeal.τ).loc Cert.AdsRIdeal.main_arg24) = m' ((c.tc : Thread Cert.AdsRIdeal.nD Cert.AdsRIdeal.τ).loc Cert.AdsRIdeal.main_arg24)
          ∧ r.2.mem ((c.tc : Thread Cert.AdsRIdeal.nD Cert.AdsRIdeal.τ).loc Cert.AdsRIdeal.main_arg25) = m' ((c.tc : Thread Cert.AdsRIdeal.nD Cert.AdsRIdeal.τ).loc Cert.AdsRIdeal.main_arg25)
          ∧ r.2.mem ((c.tc : Thread Cert.AdsRIdeal.nD Cert.AdsRIdeal.τ).loc Cert.AdsRIdeal.main_arg26) = m' ((c.tc : Thread Cert.AdsRIdeal.nD Cert.AdsRIdeal.τ).loc Cert.AdsRIdeal.main_arg26)
          ∧ r.2.mem ((c.tc : Thread Cert.AdsRIdeal.nD Cert.AdsRIdeal.τ).loc Cert.AdsRIdeal.main_arg27) = m' ((c.tc : Thread Cert.AdsRIdeal.nD Cert.AdsRIdeal.τ).loc Cert.AdsRIdeal.main_arg27)
          ∧ r.2.mem ((c.tc : Thread Cert.AdsRIdeal.nD Cert.AdsRIdeal.τ).loc Cert.AdsRIdeal.main_arg28) = m' ((c.tc : Thread Cert.AdsRIdeal.nD Cert.AdsRIdeal.τ).loc Cert.AdsRIdeal.main_arg28)
          ∧ r.2.mem ((c.tc : Thread Cert.AdsRIdeal.nD Cert.AdsRIdeal.τ).loc Cert.AdsRIdeal.main_arg29) = m' ((c.tc : Thread Cert.AdsRIdeal.nD Cert.AdsRIdeal.τ).loc Cert.AdsRIdeal.main_arg29)
          ∧ r.2.mem ((c.tc : Thread Cert.AdsRIdeal.nD Cert.AdsRIdeal.τ).loc Cert.AdsRIdeal.main_arg30) = m' ((c.tc : Thread Cert.AdsRIdeal.nD Cert.AdsRIdeal.τ).loc Cert.AdsRIdeal.main_arg30)
          ∧ r.2.mem ((c.tc : Thread Cert.AdsRIdeal.nD Cert.AdsRIdeal.τ).loc Cert.AdsRIdeal.main_arg31) = m' ((c.tc : Thread Cert.AdsRIdeal.nD Cert.AdsRIdeal.τ).loc Cert.AdsRIdeal.main_arg31)
          ∧ r.2.mem ((c.tc : Thread Cert.AdsRIdeal.nD Cert.AdsRIdeal.τ).loc Cert.AdsRIdeal.main_arg32) = m' ((c.tc : Thread Cert.AdsRIdeal.nD Cert.AdsRIdeal.τ).loc Cert.AdsRIdeal.main_arg32)
          ∧ r.2.mem ((c.tc : Thread Cert.AdsRIdeal.nD Cert.AdsRIdeal.τ).loc Cert.AdsRIdeal.main_arg33) = m' ((c.tc : Thread Cert.AdsRIdeal.nD Cert.AdsRIdeal.τ).loc Cert.AdsRIdeal.main_arg33)
          ∧ r.2.mem ((c.tc : Thread Cert.AdsRIdeal.nD Cert.AdsRIdeal.τ).loc Cert.AdsRIdeal.main_arg34) = m' ((c.tc : Thread Cert.AdsRIdeal.nD Cert.AdsRIdeal.τ).loc Cert.AdsRIdeal.main_arg34)
          ∧ r.2.mem ((c.tc : Thread Cert.AdsRIdeal.nD Cert.AdsRIdeal.τ).loc Cert.AdsRIdeal.main_arg35) = m' ((c.tc : Thread Cert.AdsRIdeal.nD Cert.AdsRIdeal.τ).loc Cert.AdsRIdeal.main_arg35)
          ∧ r.2.mem ((c.tc : Thread Cert.AdsRIdeal.nD Cert.AdsRIdeal.τ).loc Cert.AdsRIdeal.main_arg36) = m' ((c.tc : Thread Cert.AdsRIdeal.nD Cert.AdsRIdeal.τ).loc Cert.AdsRIdeal.main_arg36)
          ∧ r.2.mem ((c.tc : Thread Cert.AdsRIdeal.nD Cert.AdsRIdeal.τ).loc Cert.AdsRIdeal.main_arg37) = m' ((c.tc : Thread Cert.AdsRIdeal.nD Cert.AdsRIdeal.τ).loc Cert.AdsRIdeal.main_arg37)
          ∧ r.2.mem ((c.tc : Thread Cert.AdsRIdeal.nD Cert.AdsRIdeal.τ).loc Cert.AdsRIdeal.main_arg38) = m' ((c.tc : Thread Cert.AdsRIdeal.nD Cert.AdsRIdeal.τ).loc Cert.AdsRIdeal.main_arg38)
          ∧ r.2.mem ((c.tc : Thread Cert.AdsRIdeal.nD Cert.AdsRIdeal.τ).loc Cert.AdsRIdeal.main_arg39) = m' ((c.tc : Thread Cert.AdsRIdeal.nD Cert.AdsRIdeal.τ).loc Cert.AdsRIdeal.main_arg39)
          ∧ r.2.mem ((c.tc : Thread Cert.AdsRIdeal.nD Cert.AdsRIdeal.τ).loc Cert.AdsRIdeal.main_arg40) = m' ((c.tc : Thread Cert.AdsRIdeal.nD Cert.AdsRIdeal.τ).loc Cert.AdsRIdeal.main_arg40)
          ∧ r.2.mem ((c.tc : Thread Cert.AdsRIdeal.nD Cert.AdsRIdeal.τ).loc Cert.AdsRIdeal.main_arg41) = m' ((c.tc : Thread Cert.AdsRIdeal.nD Cert.AdsRIdeal.τ).loc Cert.AdsRIdeal.main_arg41)
          ∧ r.2.mem ((c.tc : Thread Cert.AdsRIdeal.nD Cert.AdsRIdeal.τ).loc Cert.AdsRIdeal.main_arg42) = m' ((c.tc : Thread Cert.AdsRIdeal.nD Cert.AdsRIdeal.τ).loc Cert.AdsRIdeal.main_arg42)
          ∧ r.2.mem ((c.tc : Thread Cert.AdsRIdeal.nD Cert.AdsRIdeal.τ).loc Cert.AdsRIdeal.main_arg43) = m' ((c.tc : Thread Cert.AdsRIdeal.nD Cert.AdsRIdeal.τ).loc Cert.AdsRIdeal.main_arg43)
          ∧ r.2.mem ((c.tc : Thread Cert.AdsRIdeal.nD Cert.AdsRIdeal.τ).loc Cert.AdsRIdeal.main_arg44) = m' ((c.tc : Thread Cert.AdsRIdeal.nD Cert.AdsRIdeal.τ).loc Cert.AdsRIdeal.main_arg44))

def Claim : Prop :=
  ∃ (hLossK : Cert.LossK.Facts) (hLossKIdeal : Cert.LossKIdeal.Facts) (hLossRIdeal : Cert.LossRIdeal.Facts) (hInxK : Cert.InxK.Facts) (hInxKIdeal : Cert.InxKIdeal.Facts) (hInxRIdeal : Cert.InxRIdeal.Facts) (hSguK : Cert.SguK.Facts) (hSguKIdeal : Cert.SguKIdeal.Facts) (hSguRIdeal : Cert.SguRIdeal.Facts) (hPleK : Cert.PleK.Facts) (hPleKIdeal : Cert.PleKIdeal.Facts) (hPleRIdeal : Cert.PleRIdeal.Facts) (hOconvK : Cert.OconvK.Facts) (hOconvKIdeal : Cert.OconvKIdeal.Facts) (hOconvRIdeal : Cert.OconvRIdeal.Facts) (hLsguK : Cert.LsguK.Facts) (hLsguKIdeal : Cert.LsguKIdeal.Facts) (hLsguRIdeal : Cert.LsguRIdeal.Facts) (hInwK : Cert.InwK.Facts) (hInwKIdeal : Cert.InwKIdeal.Facts) (hInwRIdeal : Cert.InwRIdeal.Facts) (hAdamK : Cert.AdamK.Facts) (hAdamKIdeal : Cert.AdamKIdeal.Facts) (hAdamRIdeal : Cert.AdamRIdeal.Facts) (hAdsK : Cert.AdsK.Facts) (hAdsKIdeal : Cert.AdsKIdeal.Facts) (hAdsRIdeal : Cert.AdsRIdeal.Facts) (hPre_finite_sgu : Cert.Pre_finite_sgu.Facts) (hPre_finite_oconv : Cert.Pre_finite_oconv.Facts),
    quiescent_LossK (hLossK := hLossK)
    ∧ quiescent_LossKIdeal (hLossKIdeal := hLossKIdeal)
    ∧ quiescent_LossRIdeal (hLossRIdeal := hLossRIdeal)
    ∧ quiescent_InxK (hInxK := hInxK)
    ∧ quiescent_InxKIdeal (hInxKIdeal := hInxKIdeal)
    ∧ quiescent_InxRIdeal (hInxRIdeal := hInxRIdeal)
    ∧ quiescent_SguK (hSguK := hSguK)
    ∧ quiescent_SguKIdeal (hSguKIdeal := hSguKIdeal)
    ∧ quiescent_SguKIdeal_pre_finite_sgu (hSguKIdeal := hSguKIdeal) (hPre_finite_sgu := hPre_finite_sgu)
    ∧ quiescent_SguRIdeal (hSguRIdeal := hSguRIdeal)
    ∧ quiescent_SguRIdeal_pre_finite_sgu (hSguRIdeal := hSguRIdeal) (hPre_finite_sgu := hPre_finite_sgu)
    ∧ quiescent_PleK (hPleK := hPleK)
    ∧ quiescent_PleKIdeal (hPleKIdeal := hPleKIdeal)
    ∧ quiescent_PleRIdeal (hPleRIdeal := hPleRIdeal)
    ∧ quiescent_OconvK (hOconvK := hOconvK)
    ∧ quiescent_OconvKIdeal (hOconvKIdeal := hOconvKIdeal)
    ∧ quiescent_OconvKIdeal_pre_finite_oconv (hOconvKIdeal := hOconvKIdeal) (hPre_finite_oconv := hPre_finite_oconv)
    ∧ quiescent_OconvRIdeal (hOconvRIdeal := hOconvRIdeal)
    ∧ quiescent_OconvRIdeal_pre_finite_oconv (hOconvRIdeal := hOconvRIdeal) (hPre_finite_oconv := hPre_finite_oconv)
    ∧ quiescent_LsguK (hLsguK := hLsguK)
    ∧ quiescent_LsguKIdeal (hLsguKIdeal := hLsguKIdeal)
    ∧ quiescent_LsguRIdeal (hLsguRIdeal := hLsguRIdeal)
    ∧ quiescent_InwK (hInwK := hInwK)
    ∧ quiescent_InwKIdeal (hInwKIdeal := hInwKIdeal)
    ∧ quiescent_InwRIdeal (hInwRIdeal := hInwRIdeal)
    ∧ quiescent_AdamK (hAdamK := hAdamK)
    ∧ quiescent_AdamKIdeal (hAdamKIdeal := hAdamKIdeal)
    ∧ quiescent_AdamRIdeal (hAdamRIdeal := hAdamRIdeal)
    ∧ quiescent_AdsK (hAdsK := hAdsK)
    ∧ quiescent_AdsKIdeal (hAdsKIdeal := hAdsKIdeal)
    ∧ quiescent_AdsRIdeal (hAdsRIdeal := hAdsRIdeal)
    ∧ preserves_LossK_LossKIdeal
    ∧ algebraic_LossKIdeal_LossRIdeal (hLossKIdeal := hLossKIdeal) (hLossRIdeal := hLossRIdeal)
    ∧ preserves_InxK_InxKIdeal
    ∧ algebraic_InxKIdeal_InxRIdeal (hInxKIdeal := hInxKIdeal) (hInxRIdeal := hInxRIdeal)
    ∧ preserves_SguK_SguKIdeal
    ∧ algebraic_SguKIdeal_SguRIdeal_pre_finite_sgu (hSguKIdeal := hSguKIdeal) (hSguRIdeal := hSguRIdeal) (hPre_finite_sgu := hPre_finite_sgu)
    ∧ preserves_PleK_PleKIdeal
    ∧ algebraic_PleKIdeal_PleRIdeal (hPleKIdeal := hPleKIdeal) (hPleRIdeal := hPleRIdeal)
    ∧ preserves_OconvK_OconvKIdeal
    ∧ algebraic_OconvKIdeal_OconvRIdeal_pre_finite_oconv (hOconvKIdeal := hOconvKIdeal) (hOconvRIdeal := hOconvRIdeal) (hPre_finite_oconv := hPre_finite_oconv)
    ∧ preserves_LsguK_LsguKIdeal
    ∧ algebraic_LsguKIdeal_LsguRIdeal (hLsguKIdeal := hLsguKIdeal) (hLsguRIdeal := hLsguRIdeal)
    ∧ preserves_InwK_InwKIdeal
    ∧ algebraic_InwKIdeal_InwRIdeal (hInwKIdeal := hInwKIdeal) (hInwRIdeal := hInwRIdeal)
    ∧ preserves_AdamK_AdamKIdeal
    ∧ algebraic_AdamKIdeal_AdamRIdeal (hAdamKIdeal := hAdamKIdeal) (hAdamRIdeal := hAdamRIdeal)
    ∧ preserves_AdsK_AdsKIdeal
    ∧ algebraic_AdsKIdeal_AdsRIdeal (hAdsKIdeal := hAdsKIdeal) (hAdsRIdeal := hAdsRIdeal)
-- ==== Pre_finite_oconv.lean ====
abbrev S2x4096x2048 : Shape := ⟨3, ![2, 4096, 2048]⟩
abbrev S2x4096x6144 : Shape := ⟨3, ![2, 4096, 6144]⟩
abbrev S2048x1024 : Shape := ⟨2, ![2048, 1024]⟩
abbrev S2048 : Shape := ⟨1, ![2048]⟩
abbrev S2x4096x1024 : Shape := ⟨3, ![2, 4096, 1024]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2x4096x6144 : S_.BroadcastsInDim S2x4096x6144 (![] : Fin 0 → Fin S2x4096x6144.rank)
  reducesTo_S2x4096x6144_S_d0_1_2 : S2x4096x6144.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn_part2 {F : FTy → Type} [FloatOps F] (main_v29 : IVec S_ 1) (main_v32 : IVec S2x4096x1024 1) (main_c_12 : IVec S_ 1) : IVec S_ 1 :=
  let main_v33 : IVec S_ 1 := (fun x v => Host.reduce IntOp.andi x v reducesTo_S2x4096x1024_S_d0_1_2 h_S_) main_v32 main_c_12
  let main_v34 : IVec S_ 1 := andi main_v29 main_v33
  main_v34

def fn_part1 {F : FTy → Type} [FloatOps F] (main_arg4 : FVec F S2048 .f32) (main_arg5 : FVec F S2048 .f32) (main_arg6 : FVec F S2x4096x1024 .f32) (main_v14 : IVec S_ 1) (main_v15 : FVec F S2048 .f32) (main_cst_5 : FVec F S_ .f32) : IVec S_ 1 :=
  let main_v16 : FVec F S2048 .f32 := broadcastInDim S2048 ![] bcast_S_S2048 main_cst_5
  let main_v17 : IVec S2048 1 := cmpf .olt main_v15 main_v16
  let main_c_6 : IVec S_ 1 := constantI S_ 1 1#1
  let main_v18 : IVec S_ 1 := (fun x v => Host.reduce IntOp.andi x v reducesTo_S2048_S_d0 h_S_) main_v17 main_c_6
  let main_v19 : IVec S_ 1 := andi main_v14 main_v18
  let main_v20 : FVec F S2048 .f32 := Host.absf main_arg4
  let main_cst_7 : FVec F S_ .f32 := constant S_ .f32 0x7F800000#32
  let main_v21 : FVec F S2048 .f32 := broadcastInDim S2048 ![] bcast_S_S2048 main_cst_7
  let main_v22 : IVec S2048 1 := cmpf .olt main_v20 main_v21
  let main_c_8 : IVec S_ 1 := constantI S_ 1 1#1
  let main_v23 : IVec S_ 1 := (fun x v => Host.reduce IntOp.andi x v reducesTo_S2048_S_d0 h_S_) main_v22 main_c_8
  let main_v24 : IVec S_ 1 := andi main_v19 main_v23
  let main_v25 : FVec F S2048 .f32 := Host.absf main_arg5
  let main_cst_9 : FVec F S_ .f32 := constant S_ .f32 0x7F800000#32
  let main_v26 : FVec F S2048 .f32 := broadcastInDim S2048 ![] bcast_S_S2048 main_cst_9
  let main_v27 : IVec S2048 1 := cmpf .olt main_v25 main_v26
  let main_c_10 : IVec S_ 1 := constantI S_ 1 1#1
  let main_v28 : IVec S_ 1 := (fun x v => Host.reduce IntOp.andi x v reducesTo_S2048_S_d0 h_S_) main_v27 main_c_10
  let main_v29 : IVec S_ 1 := andi main_v24 main_v28
  let main_v30 : FVec F S2x4096x1024 .f32 := Host.absf main_arg6
  let main_cst_11 : FVec F S_ .f32 := constant S_ .f32 0x7F800000#32
  let main_v31 : FVec F S2x4096x1024 .f32 := broadcastInDim S2x4096x1024 ![] bcast_S_S2x4096x1024 main_cst_11
  let main_v32 : IVec S2x4096x1024 1 := cmpf .olt main_v30 main_v31
  let main_c_12 : IVec S_ 1 := constantI S_ 1 1#1
  fn_part2 (F := F) main_v29 main_v32 main_c_12

def fn {F : FTy → Type} [FloatOps F] (main_arg0 : FVec F S2x4096x2048 .f32) (main_arg1 : FVec F S2x4096x6144 .f32) (main_arg2 : FVec F S2048x1024 .f32) (main_arg3 : FVec F S2048 .f32) (main_arg4 : FVec F S2048 .f32) (main_arg5 : FVec F S2048 .f32) (main_arg6 : FVec F S2x4096x1024 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_c_0 : IVec S_ 1 := constantI S_ 1 1#1
  let main_v4 : IVec S_ 1 := andi main_c_0 main_v3
  let main_v5 : FVec F S2x4096x6144 .f32 := Host.absf main_arg1
  let main_cst_1 : FVec F S_ .f32 := constant S_ .f32 0x7F800000#32
  let main_v6 : FVec F S2x4096x6144 .f32 := broadcastInDim S2x4096x6144 ![] bcast_S_S2x4096x6144 main_cst_1
  let main_v7 : IVec S2x4096x6144 1 := cmpf .olt main_v5 main_v6
  let main_c_2 : IVec S_ 1 := constantI S_ 1 1#1
  let main_v8 : IVec S_ 1 := (fun x v => Host.reduce IntOp.andi x v reducesTo_S2x4096x6144_S_d0_1_2 h_S_) main_v7 main_c_2
  let main_v9 : IVec S_ 1 := andi main_v4 main_v8
  let main_v10 : FVec F S2048x1024 .f32 := Host.absf main_arg2
  let main_cst_3 : FVec F S_ .f32 := constant S_ .f32 0x7F800000#32
  let main_v11 : FVec F S2048x1024 .f32 := broadcastInDim S2048x1024 ![] bcast_S_S2048x1024 main_cst_3
  let main_v12 : IVec S2048x1024 1 := cmpf .olt main_v10 main_v11
  let main_c_4 : IVec S_ 1 := constantI S_ 1 1#1
  let main_v13 : IVec S_ 1 := (fun x v => Host.reduce IntOp.andi x v reducesTo_S2048x1024_S_d0_1 h_S_) main_v12 main_c_4
  let main_v14 : IVec S_ 1 := andi main_v9 main_v13
  let main_v15 : FVec F S2048 .f32 := Host.absf main_arg3
  let main_cst_5 : FVec F S_ .f32 := constant S_ .f32 0x7F800000#32
  fn_part1 (F := F) main_arg4 main_arg5 main_arg6 main_v14 main_v15 main_cst_5
-- ==== Pre_finite_sgu.lean ====
abbrev S2x4096x6144 : Shape := ⟨3, ![2, 4096, 6144]⟩
abbrev S2048x1024 : Shape := ⟨2, ![2048, 1024]⟩
abbrev S2048 : Shape := ⟨1, ![2048]⟩
abbrev S8x128x128 : Shape := ⟨3, ![8, 128, 128]⟩
abbrev S8x128 : Shape := ⟨2, ![8, 128]⟩
abbrev S2x4096x1024 : Shape := ⟨3, ![2, 4096, 1024]⟩
abbrev S_ : Shape := ⟨0, ![]⟩

class Facts : Prop where
  bcast_S_S2x4096x6144 : S_.BroadcastsInDim S2x4096x6144 (![] : Fin 0 → Fin S2x4096x6144.rank)
  reducesTo_S2x4096x6144_S_d0_1_2 : S2x4096x6144.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn_part2 {F : FTy → Type} [FloatOps F] (main_v29 : IVec S_ 1) (main_v32 : IVec S2x4096x1024 1) (main_c_12 : IVec S_ 1) : IVec S_ 1 :=
  let main_v33 : IVec S_ 1 := (fun x v => Host.reduce IntOp.andi x v reducesTo_S2x4096x1024_S_d0_1_2 h_S_) main_v32 main_c_12
  let main_v34 : IVec S_ 1 := andi main_v29 main_v33
  main_v34

def fn_part1 {F : FTy → Type} [FloatOps F] (main_arg4 : FVec F S8x128x128 .f32) (main_arg5 : FVec F S8x128 .f32) (main_arg6 : FVec F S2x4096x1024 .f32) (main_v14 : IVec S_ 1) (main_v15 : FVec F S2048 .f32) (main_cst_5 : FVec F S_ .f32) : IVec S_ 1 :=
  let main_v16 : FVec F S2048 .f32 := broadcastInDim S2048 ![] bcast_S_S2048 main_cst_5
  let main_v17 : IVec S2048 1 := cmpf .olt main_v15 main_v16
  let main_c_6 : IVec S_ 1 := constantI S_ 1 1#1
  let main_v18 : IVec S_ 1 := (fun x v => Host.reduce IntOp.andi x v reducesTo_S2048_S_d0 h_S_) main_v17 main_c_6
  let main_v19 : IVec S_ 1 := andi main_v14 main_v18
  let main_v20 : FVec F S8x128x128 .f32 := Host.absf main_arg4
  let main_cst_7 : FVec F S_ .f32 := constant S_ .f32 0x7F800000#32
  let main_v21 : FVec F S8x128x128 .f32 := broadcastInDim S8x128x128 ![] bcast_S_S8x128x128 main_cst_7
  let main_v22 : IVec S8x128x128 1 := cmpf .olt main_v20 main_v21
  let main_c_8 : IVec S_ 1 := constantI S_ 1 1#1
  let main_v23 : IVec S_ 1 := (fun x v => Host.reduce IntOp.andi x v reducesTo_S8x128x128_S_d0_1_2 h_S_) main_v22 main_c_8
  let main_v24 : IVec S_ 1 := andi main_v19 main_v23
  let main_v25 : FVec F S8x128 .f32 := Host.absf main_arg5
  let main_cst_9 : FVec F S_ .f32 := constant S_ .f32 0x7F800000#32
  let main_v26 : FVec F S8x128 .f32 := broadcastInDim S8x128 ![] bcast_S_S8x128 main_cst_9
  let main_v27 : IVec S8x128 1 := cmpf .olt main_v25 main_v26
  let main_c_10 : IVec S_ 1 := constantI S_ 1 1#1
  let main_v28 : IVec S_ 1 := (fun x v => Host.reduce IntOp.andi x v reducesTo_S8x128_S_d0_1 h_S_) main_v27 main_c_10
  let main_v29 : IVec S_ 1 := andi main_v24 main_v28
  let main_v30 : FVec F S2x4096x1024 .f32 := Host.absf main_arg6
  let main_cst_11 : FVec F S_ .f32 := constant S_ .f32 0x7F800000#32
  let main_v31 : FVec F S2x4096x1024 .f32 := broadcastInDim S2x4096x1024 ![] bcast_S_S2x4096x1024 main_cst_11
  let main_v32 : IVec S2x4096x1024 1 := cmpf .olt main_v30 main_v31
  let main_c_12 : IVec S_ 1 := constantI S_ 1 1#1
  fn_part2 (F := F) main_v29 main_v32 main_c_12

def fn {F : FTy → Type} [FloatOps F] (main_arg0 : FVec F S2x4096x6144 .f32) (main_arg1 : FVec F S2048x1024 .f32) (main_arg2 : FVec F S2048 .f32) (main_arg3 : FVec F S2048 .f32) (main_arg4 : FVec F S8x128x128 .f32) (main_arg5 : FVec F S8x128 .f32) (main_arg6 : FVec F S2x4096x1024 .f32) : IVec S_ 1 :=
  let main_v0 : FVec F S2x4096x6144 .f32 := Host.absf main_arg0
  let main_cst : FVec F S_ .f32 := constant S_ .f32 0x7F800000#32
  let main_v1 : FVec F S2x4096x6144 .f32 := broadcastInDim S2x4096x6144 ![] bcast_S_S2x4096x6144 main_cst
  let main_v2 : IVec S2x4096x6144 1 := cmpf .olt main_v0 main_v1
  let main_c : IVec S_ 1 := constantI S_ 1 1#1
  let main_v3 : IVec S_ 1 := (fun x v => Host.reduce IntOp.andi x v reducesTo_S2x4096x6144_S_d0_1_2 h_S_) main_v2 main_c
  let main_c_0 : IVec S_ 1 := constantI S_ 1 1#1
  let main_v4 : IVec S_ 1 := andi main_c_0 main_v3
  let main_v5 : FVec F S2048x1024 .f32 := Host.absf main_arg1
  let main_cst_1 : FVec F S_ .f32 := constant S_ .f32 0x7F800000#32
  let main_v6 : FVec F S2048x1024 .f32 := broadcastInDim S2048x1024 ![] bcast_S_S2048x1024 main_cst_1
  let main_v7 : IVec S2048x1024 1 := cmpf .olt main_v5 main_v6
  let main_c_2 : IVec S_ 1 := constantI S_ 1 1#1
  let main_v8 : IVec S_ 1 := (fun x v => Host.reduce IntOp.andi x v reducesTo_S2048x1024_S_d0_1 h_S_) main_v7 main_c_2
  let main_v9 : IVec S_ 1 := andi main_v4 main_v8
  let main_v10 : FVec F S2048 .f32 := Host.absf main_arg2
  let main_cst_3 : FVec F S_ .f32 := constant S_ .f32 0x7F800000#32
  let main_v11 : FVec F S2048 .f32 := broadcastInDim S2048 ![] bcast_S_S2048 main_cst_3
  let main_v12 : IVec S2048 1 := cmpf .olt main_v10 main_v11
  let main_c_4 : IVec S_ 1 := constantI S_ 1 1#1
  let main_v13 : IVec S_ 1 := (fun x v => Host.reduce IntOp.andi x v reducesTo_S2048_S_d0 h_S_) main_v12 main_c_4
  let main_v14 : IVec S_ 1 := andi main_v9 main_v13
  let main_v15 : FVec F S2048 .f32 := Host.absf main_arg3
  let main_cst_5 : FVec F S_ .f32 := constant S_ .f32 0x7F800000#32
  fn_part1 (F := F) main_arg4 main_arg5 main_arg6 main_v14 main_v15 main_cst_5
-- ==== LossK.lean ====
abbrev S2x4096x1024 : Shape := ⟨3, ![2, 4096, 1024]⟩
abbrev S1024 : Shape := ⟨1, ![1024]⟩
abbrev S8192x1024 : Shape := ⟨2, ![8192, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x4096x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1, .f32⟩
  | .hbm, ⟨7, _⟩ => ⟨S8192x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v56 : BitVec 1 := Scalar.cmpi .eq arg0 c15_i32
  let v57 : BitVec 32 := Scalar.extui v56
  let c0_i32_25 : BitVec 32 := 0#32
  let v58 : BitVec 1 := Scalar.cmpi .ne v57 c0_i32_25
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRIdeal.lean ====
abbrev S2x4096x1024 : Shape := ⟨3, ![2, 4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1x1 : Shape := ⟨2, ![1, 1]⟩
abbrev S8192x1024 : Shape := ⟨2, ![8192, 1024]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x4096x1024, .f32⟩
  | .hbm, ⟨3, _⟩ => ⟨S2x4096x1024, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1024, .f32⟩
  | .hbm, ⟨19, _⟩ => ⟨S2x4096x1024, .f32⟩
  | .hbm, ⟨20, _⟩ => ⟨S1x1x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x4096x1024, .f32⟩
  | .hbm, ⟨27, _⟩ => ⟨S2x4096x1024, .f32⟩
  | .hbm, ⟨28, _⟩ => ⟨S_, .f32⟩
  | .hbm, ⟨29, _⟩ => ⟨S2x4096, .f32⟩
  | .hbm, ⟨30, _⟩ => ⟨S_, .f32⟩
  | .hbm, ⟨31, _⟩ => ⟨S2x4096, .f32⟩
  | .hbm, ⟨32, _⟩ => ⟨S2x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x4096, .f32⟩
  | .hbm, ⟨41, _⟩ => ⟨S_, .f32⟩
  | .hbm, ⟨42, _⟩ => ⟨S2x4096, .f32⟩
  | .hbm, ⟨43, _⟩ => ⟨S2x4096, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x4096x1024, .f32⟩
  | .hbm, ⟨51, _⟩ => ⟨S2x4096x1024, .f32⟩
  | .hbm, ⟨52, _⟩ => ⟨S_, .f32⟩
  | .hbm, ⟨53, _⟩ => ⟨S1024, .f32⟩
  | .hbm, ⟨54, _⟩ => ⟨S2x4096x1024, .f32⟩
  | .hbm, ⟨55, _⟩ => ⟨S_, .f32⟩
  | .hbm, ⟨56, _⟩ => ⟨S2x4096, .f32⟩
  | .hbm, ⟨57, _⟩ => ⟨S2x4096x1, .f32⟩
  | .hbm, ⟨58, _⟩ => ⟨S2x4096x1024, .f32⟩
  | .hbm, ⟨59, _⟩ => ⟨S2x4096x1024, .f32⟩
  | .hbm, ⟨60, _⟩ => ⟨S2x4096x1, .f32⟩
  | .hbm, ⟨61, _⟩ => ⟨S_, .f32⟩
  | .hbm, ⟨62, _⟩ => ⟨S2x4096x1, .f32⟩
  | .hbm, ⟨63, _⟩ => ⟨S2x4096x1, .f32⟩
  | .hbm, ⟨64, _⟩ => ⟨S_, .f32⟩
  | .hbm, ⟨65, _⟩ => ⟨S2x4096, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S2x4096x1024, .f32⟩
  | .hbm, ⟨71, _⟩ => ⟨S1x1, .f32⟩
  | .hbm, ⟨72, _⟩ => ⟨S8192x1024, .f32⟩
  | .hbm, ⟨73, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== InxK.lean ====
abbrev S2x4096x1024 : Shape := ⟨3, ![2, 4096, 1024]⟩
abbrev S1024 : Shape := ⟨1, ![1024]⟩
abbrev S1024x6144 : Shape := ⟨2, ![1024, 6144]⟩
abbrev S2x4096x6144 : Shape := ⟨3, ![2, 4096, 6144]⟩
abbrev S1024x8x768 : Shape := ⟨3, ![1024, 8, 768]⟩
abbrev S8x1024x768 : Shape := ⟨3, ![8, 1024, 768]⟩
abbrev S8192x6144 : Shape := ⟨2, ![8192, 6144]⟩
abbrev S8192x1024 : Shape := ⟨2, ![8192, 1024]⟩
abbrev S1x1024 : Shape := ⟨2, ![1, 1024]⟩
abbrev S512x6144 : Shape := ⟨2, ![512, 6144]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x6144, .f32⟩
  | .hbm, ⟨3, _⟩ => ⟨S2x4096x1024, .f32⟩
  | .hbm, ⟨4, _⟩ => ⟨S2x4096x6144, .f32⟩
  | .hbm, ⟨5, _⟩ => ⟨S1024x6144, .bf16⟩
  | .hbm, ⟨6, _⟩ => ⟨S1024x8x768, .bf16⟩
  | .hbm, ⟨7, _⟩ => ⟨S8x1024x768, .bf16⟩
  | .hbm, ⟨8, _⟩ => ⟨S8192x6144, .f32⟩
  | .hbm, ⟨9, _⟩ => ⟨S8192x6144, .bf16⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InxRIdeal.lean ====
abbrev S2x4096x1024 : Shape := ⟨3, ![2, 4096, 1024]⟩
abbrev S1024 : Shape := ⟨1, ![1024]⟩
abbrev S1024x6144 : Shape := ⟨2, ![1024, 6144]⟩
abbrev S2x4096x6144 : Shape := ⟨3, ![2, 4096, 6144]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x6144, .f32⟩
  | .hbm, ⟨3, _⟩ => ⟨S2x4096x1024, .f32⟩
  | .hbm, ⟨4, _⟩ => ⟨S2x4096x6144, .f32⟩
  | .hbm, ⟨5, _⟩ => ⟨S2x4096x1024, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1024, .f32⟩
  | .hbm, ⟨21, _⟩ => ⟨S2x4096x1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S2x4096x6144, .f32⟩
  | .hbm, ⟨26, _⟩ => ⟨S2x4096x1024, .f32⟩
  | .hbm, ⟨27, _⟩ => ⟨S2x4096x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x4096x1024, .f32⟩
  | .hbm, ⟨32, _⟩ => ⟨S2x4096x1024, .f32⟩
  | .hbm, ⟨33, _⟩ => ⟨S_, .f32⟩
  | .hbm, ⟨34, _⟩ => ⟨S1024, .f32⟩
  | .hbm, ⟨35, _⟩ => ⟨S2x4096x1024, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S_, .f32⟩
  | .hbm, ⟨47, _⟩ => ⟨S2x4096, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S8192x1024, .f32⟩
  | .hbm, ⟨54, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== SguK.lean ====
abbrev S2x4096x6144 : Shape := ⟨3, ![2, 4096, 6144]⟩
abbrev S2048x1024 : Shape := ⟨2, ![2048, 1024]⟩
abbrev S2048 : Shape := ⟨1, ![2048]⟩
abbrev S8x128x128 : Shape := ⟨3, ![8, 128, 128]⟩
abbrev S8x128 : Shape := ⟨2, ![8, 128]⟩
abbrev S2x4096x1024 : Shape := ⟨3, ![2, 4096, 1024]⟩
abbrev S8192x1024 : Shape := ⟨2, ![8192, 1024]⟩
abbrev S8192x6144 : Shape := ⟨2, ![8192, 6144]⟩
abbrev S1x2048 : Shape := ⟨2, ![1, 2048]⟩
abbrev S128x8 : Shape := ⟨2, ![128, 8]⟩
abbrev S256x1024 : Shape := ⟨2, ![256, 1024]⟩
abbrev S256x2048 : Shape := ⟨2, ![256, 2048]⟩
abbrev S256x6144 : Shape := ⟨2, ![256, 6144]⟩
abbrev S8x8x128 : Shape := ⟨3, ![8, 8, 128]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S8x256 : Shape := ⟨2, ![8, 256]⟩
abbrev S1x8x128 : Shape := ⟨3, ![1, 8, 128]⟩
abbrev S1x1x128 : Shape := ⟨3, ![1, 1, 128]⟩
abbrev S1x128 : Shape := ⟨2, ![1, 128]⟩

abbrev nBuf : Space → Nat
  | .hbm => 20
  | .vmem => 25
  | .smem => 0
  | _ => 0

abbrev bufTy : (tb : Table) → Fin (tcTables nBuf tb) → BufTy
  | .hbm, ⟨0, _⟩ => ⟨S2x4096x6144, .f32⟩
  | .hbm, ⟨1, _⟩ => ⟨S2048x1024, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2x4096x1024, .f32⟩
  | .hbm, ⟨7, _⟩ => ⟨S8192x1024, .f32⟩
  | .hbm, ⟨8, _⟩ => ⟨S8192x6144, .f32⟩
  | .hbm, ⟨9, _⟩ => ⟨S2048x1024, .bf16⟩
  | .hbm, ⟨10, _⟩ => ⟨S1x2048, .f32⟩
  | .hbm, ⟨11, _⟩ => ⟨S1x2048, .f32⟩
  | .hbm, ⟨12, _⟩ => ⟨S8x128x128, .f32⟩
  | .hbm, ⟨13, _⟩ => ⟨S128x8, .f32⟩
  | .hbm, ⟨14, _⟩ => ⟨S8192x6144, .bf16⟩
  | .hbm, ⟨15, _⟩ => ⟨S2048x1024, .bf16⟩
  | .hbm, ⟨16, _⟩ => ⟨S8x128x128, .f32⟩
  | .hbm, ⟨17, _⟩ => ⟨S8x128, .f32⟩
  | .hbm, ⟨18, _⟩ => ⟨S1x2048, .f32⟩
  | .hbm, ⟨19, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S2048x1024, .bf16⟩
  | .local _ .vmem, ⟨9, _⟩ => ⟨S1x2048, .f32⟩
  | .local _ .vmem, ⟨10, _⟩ => ⟨S1x2048, .f32⟩
  | .local _ .vmem, ⟨11, _⟩ => ⟨S8x128x128, .f32⟩
  | .local _ .vmem, ⟨12, _⟩ => ⟨S8x128x128, .f32⟩
  | .local _ .vmem, ⟨13, _⟩ => ⟨S128x8, .f32⟩
  | .local _ .vmem, ⟨14, _⟩ => ⟨S256x6144, .bf16⟩
  | .local _ .vmem, ⟨15, _⟩ => ⟨S256x6144, .bf16⟩
  | .local _ .vmem, ⟨16, _⟩ => ⟨S2048x1024, .bf16⟩
  | .local _ .vmem, ⟨17, _⟩ => ⟨S8x128x128, .f32⟩
  | .local _ .vmem, ⟨18, _⟩ => ⟨S8x128, .f32⟩
  | .local _ .vmem, ⟨19, _⟩ => ⟨S1x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | .local _ .vmem, ⟨23, _⟩ => ⟨S8x8x128, .f32⟩
  | .local _ .vmem, ⟨24, _⟩ => ⟨S2048x1024, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v682 : BitVec 1 := Scalar.cmpi .eq arg0 c31_i32
  let v683 : BitVec 32 := Scalar.extui v682
  let c0_i32_448 : BitVec 32 := 0#32
  let v684 : BitVec 1 := Scalar.cmpi .ne v683 c0_i32_448
  v684

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== SguKIdeal.lean ====
variable {F : FTy → Type} [FloatOps F] [Named F]
def κ : String → Option EReal := fun
  | "c" => some (((Real.sqrt 2)⁻¹ : ℝ) : EReal)
  | "p" => some (((9465531 / 16777216) * (Real.sqrt 2)⁻¹ : ℝ) : EReal)
  | _ => none
-- ==== SguRIdeal.lean ====
abbrev S2x4096x6144 : Shape := ⟨3, ![2, 4096, 6144]⟩
abbrev S2048x1024 : Shape := ⟨2, ![2048, 1024]⟩
abbrev S2048 : Shape := ⟨1, ![2048]⟩
abbrev S8x128x128 : Shape := ⟨3, ![8, 128, 128]⟩
abbrev S8x128 : Shape := ⟨2, ![8, 128]⟩
abbrev S2x4096x1024 : Shape := ⟨3, ![2, 4096, 1024]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x32x128x8x256 : Shape := ⟨5, ![2, 32, 128, 8, 256]⟩
abbrev S128x128 : Shape := ⟨2, ![128, 128]⟩
abbrev S1x128x128 : Shape := ⟨3, ![1, 128, 128]⟩
abbrev S8x2x32x256x128 : Shape := ⟨5, ![8, 2, 32, 256, 128]⟩
abbrev S128x8 : Shape := ⟨2, ![128, 8]⟩
abbrev S1x1x128x8x1 : Shape := ⟨5, ![1, 1, 128, 8, 1]⟩
abbrev S1024x2048 : Shape := ⟨2, ![1024, 2048]⟩
abbrev S8192x6144 : Shape := ⟨2, ![8192, 6144]⟩
abbrev S1x2048 : Shape := ⟨2, ![1, 2048]⟩

abbrev nBuf : Space → Nat
  | .hbm => 208
  | .vmem => 0
  | .smem => 0
  | _ => 0

abbrev hbmTy0_0 (i : Nat) : BufTy := match i % 128 with
  | 0 => ⟨S2x4096x6144, .f32⟩
  | 1 => ⟨S2048x1024, .f32⟩
  | 2 => ⟨S2048, .f32⟩
  | 3 => ⟨S2048, .f32⟩
  | 4 => ⟨S8x128x128, .f32⟩
  | 5 => ⟨S8x128, .f32⟩
  | 6 => ⟨S2x4096x1024, .f32⟩
  | 7 => ⟨S2x4096x2048, .f32⟩
  | 8 => ⟨S2x4096x2048, .f32⟩
  | 9 => ⟨S2x4096x2048, .f32⟩
  | 10 => ⟨S_, .f32⟩
  | 11 => ⟨S2x4096x2048, .f32⟩
  | 12 => ⟨S2x4096x2048, .f32⟩
  | 13 => ⟨S2x4096x2048, .f32⟩
  | 14 => ⟨S_, .f32⟩
  | 15 => ⟨S_, .f32⟩
  | 16 => ⟨S2x4096x2048, .f32⟩
  | 17 => ⟨S2x4096x2048, .f32⟩
  | 18 => ⟨S2x4096x2048, .f32⟩
  | 19 => ⟨S2x4096x2048, .f32⟩
  | 20 => ⟨S2x4096x2048, .f32⟩
  | 21 => ⟨S2x4096x2048, .f32⟩
  | 22 => ⟨S2x4096x2048, .f32⟩
  | 23 => ⟨S_, .f32⟩
  | 24 => ⟨S2x4096x2048, .f32⟩
  | 25 => ⟨S2x4096x2048, .f32⟩
  | 26 => ⟨S2x4096x2048, .f32⟩
  | 27 => ⟨S_, .f32⟩
  | 28 => ⟨S_, .f32⟩
  | 29 => ⟨S2x4096x2048, .f32⟩
  | 30 => ⟨S2x4096x2048, .f32⟩
  | 31 => ⟨S2x4096x2048, .f32⟩
  | 32 => ⟨S2x4096x2048, .f32⟩
  | 33 => ⟨S2x4096x2048, .f32⟩
  | 34 => ⟨S2x4096x2048, .f32⟩
  | 35 => ⟨S2x4096x2048, .f32⟩
  | 36 => ⟨S_, .f32⟩
  | 37 => ⟨S2x4096, .f32⟩
  | 38 => ⟨S2x4096x1, .f32⟩
  | 39 => ⟨S_, .f32⟩
  | 40 => ⟨S2x4096x1, .f32⟩
  | 41 => ⟨S2x4096x1, .f32⟩
  | 42 => ⟨S2x4096x2048, .f32⟩
  | 43 => ⟨S2x4096x2048, .f32⟩
  | 44 => ⟨S2x4096x2048, .f32⟩
  | 45 => ⟨S_, .f32⟩
  | 46 => ⟨S2x4096, .f32⟩
  | 47 => ⟨S2x4096x1, .f32⟩
  | 48 => ⟨S_, .f32⟩
  | 49 => ⟨S2x4096x1, .f32⟩
  | 50 => ⟨S2x4096x1, .f32⟩
  | 51 => ⟨S_, .f32⟩
  | 52 => ⟨S2x4096x1, .f32⟩
  | 53 => ⟨S2x4096x1, .f32⟩
  | 54 => ⟨S2x4096x1, .f32⟩
  | 55 => ⟨S2x4096x1, .f32⟩
  | 56 => ⟨S_, .f32⟩
  | 57 => ⟨S2x4096x1, .f32⟩
  | 58 => ⟨S2x4096x1, .f32⟩
  | 59 => ⟨S2x4096x2048, .f32⟩
  | 60 => ⟨S2x4096x2048, .f32⟩
  | 61 => ⟨S1x1x2048, .f32⟩
  | 62 => ⟨S2x4096x2048, .f32⟩
  | 63 => ⟨S2x4096x2048, .f32⟩
  | 64 => ⟨S1x1x2048, .f32⟩
  | 65 => ⟨S2x4096x2048, .f32⟩
  | 66 => ⟨S2x4096x2048, .f32⟩
  | 67 => ⟨S2x32x128x8x256, .f32⟩
  | 68 => ⟨S_, .i1⟩
  | 69 => ⟨S128x128, .i1⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .i1⟩
  | 77 => ⟨S128x128, .i1⟩
  | 78 => ⟨S128x128, .i1⟩
  | 79 => ⟨S1x128x128, .i1⟩
  | 80 => ⟨S_, .f32⟩
  | 81 => ⟨S8x128x128, .i1⟩
  | 82 => ⟨S8x128x128, .f32⟩
  | 83 => ⟨S8x128x128, .f32⟩
  | 84 => ⟨S_, .f32⟩
  | 85 => ⟨S8x128x128, .f32⟩
  | 86 => ⟨S8x2x32x256x128, .f32⟩
  | 87 => ⟨S2x32x128x8x256, .f32⟩
  | 88 => ⟨S128x8, .f32⟩
  | 89 => ⟨S1x1x128x8x1, .f32⟩
  | 90 => ⟨S2x32x128x8x256, .f32⟩
  | 91 => ⟨S2x32x128x8x256, .f32⟩
  | 92 => ⟨S2x4096x2048, .f32⟩
  | 93 => ⟨S2x4096x2048, .f32⟩
  | 94 => ⟨S2x4096x2048, .f32⟩
  | 95 => ⟨S2x4096x2048, .f32⟩
  | 96 => ⟨S_, .f32⟩
  | 97 => ⟨S2x4096x2048, .f32⟩
  | 98 => ⟨S2x4096x2048, .f32⟩
  | 99 => ⟨S_, .f32⟩
  | 100 => ⟨S2x4096x2048, .f32⟩
  | 101 => ⟨S2x4096x2048, .f32⟩
  | 102 => ⟨S_, .f32⟩
  | 103 => ⟨S2x4096x2048, .f32⟩
  | 104 => ⟨S2x4096x2048, .f32⟩
  | 105 => ⟨S2x4096x2048, .f32⟩
  | 106 => ⟨S2x4096x2048, .f32⟩
  | 107 => ⟨S2x4096x2048, .f32⟩
  | 108 => ⟨S2x4096x1024, .f32⟩
  | 109 => ⟨S1024x2048, .f32⟩
  | 110 => ⟨S2048x1024, .f32⟩
  | 111 => ⟨S2x4096x2048, .f32⟩
  | 112 => ⟨S2x4096x2048, .f32⟩
  | 113 => ⟨S2x4096x2048, .f32⟩
  | 114 => ⟨S2x4096x2048, .f32⟩
  | 115 => ⟨S2x4096x2048, .f32⟩
  | 116 => ⟨S2x4096x2048, .f32⟩
  | 117 => ⟨S2x4096x2048, .f32⟩
  | 118 => ⟨S2x4096x2048, .f32⟩
  | 119 => ⟨S2x4096x2048, .f32⟩
  | 120 => ⟨S2x32x128x8x256, .f32⟩
  | 121 => ⟨S_, .f32⟩
  | 122 => ⟨S128x8, .f32⟩
  | 123 => ⟨S1x1x128x8x1, .f32⟩
  | 124 => ⟨S_, .f32⟩
  | 125 => ⟨S128x8, .f32⟩
  | 126 => ⟨S8x128, .f32⟩
  | 127 => ⟨S8x2x32x256x128, .f32⟩
  | _ => ⟨S2x4096x6144, .f32⟩

abbrev hbmTy0_1 (i : Nat) : BufTy := match i % 128 with
  | 0 => ⟨S8x128x128, .f32⟩
  | 1 => ⟨S8x2x32x256x128, .f32⟩
  | 2 => ⟨S2x32x128x8x256, .f32⟩
  | 3 => ⟨S_, .f32⟩
  | 4 => ⟨S8x128x128, .f32⟩
  | 5 => ⟨S8x128x128, .f32⟩
  | 6 => ⟨S2x4096x2048, .f32⟩
  | 7 => ⟨S_, .f32⟩
  | 8 => ⟨S2048, .f32⟩
  | 9 => ⟨S1x1x2048, .f32⟩
  | 10 => ⟨S_, .f32⟩
  | 11 => ⟨S2048, .f32⟩
  | 12 => ⟨S2x4096x2048, .f32⟩
  | 13 => ⟨S_, .f32⟩
  | 14 => ⟨S2048, .f32⟩
  | 15 => ⟨S1x1x2048, .f32⟩
  | 16 => ⟨S2x4096x2048, .f32⟩
  | 17 => ⟨S2x4096x2048, .f32⟩
  | 18 => ⟨S_, .f32⟩
  | 19 => ⟨S2048, .f32⟩
  | 20 => ⟨S2x4096x2048, .f32⟩
  | 21 => ⟨S_, .f32⟩
  | 22 => ⟨S2x4096, .f32⟩
  | 23 => ⟨S2x4096x1, .f32⟩
  | 24 => ⟨S2x4096x2048, .f32⟩
  | 25 => ⟨S2x4096x2048, .f32⟩
  | 26 => ⟨S2x4096x1, .f32⟩
  | 27 => ⟨S_, .f32⟩
  | 28 => ⟨S2x4096x1, .f32⟩
  | 29 => ⟨S2x4096x1, .f32⟩
  | 30 => ⟨S_, .f32⟩
  | 31 => ⟨S2x4096, .f32⟩
  | 32 => ⟨S2x4096x2048, .f32⟩
  | 33 => ⟨S2x4096x2048, .f32⟩
  | 34 => ⟨S2x4096x2048, .f32⟩
  | 35 => ⟨S2x4096x2048, .f32⟩
  | 36 => ⟨S2x4096x2048, .f32⟩
  | 37 => ⟨S2x4096x2048, .f32⟩
  | 38 => ⟨S_, .f32⟩
  | 39 => ⟨S2x4096, .f32⟩
  | 40 => ⟨S2x4096x1, .f32⟩
  | 41 => ⟨S_, .f32⟩
  | 42 => ⟨S2x4096x1, .f32⟩
  | 43 => ⟨S2x4096x1, .f32⟩
  | 44 => ⟨S_, .f32⟩
  | 45 => ⟨S2x4096, .f32⟩
  | 46 => ⟨S2x4096x2048, .f32⟩
  | 47 => ⟨S2x4096x2048, .f32⟩
  | 48 => ⟨S2x4096x2048, .f32⟩
  | 49 => ⟨S2x4096x2048, .f32⟩
  | 50 => ⟨S_, .f32⟩
  | 51 => ⟨S2x4096x2048, .f32⟩
  | 52 => ⟨S2x4096x2048, .f32⟩
  | 53 => ⟨S2x4096x2048, .f32⟩
  | 54 => ⟨S2x4096x2048, .f32⟩
  | 55 => ⟨S2x4096x2048, .f32⟩
  | 56 => ⟨S2x4096x2048, .f32⟩
  | 57 => ⟨S_, .f32⟩
  | 58 => ⟨S2x4096x2048, .f32⟩
  | 59 => ⟨S2x4096x2048, .f32⟩
  | 60 => ⟨S2x4096x2048, .f32⟩
  | 61 => ⟨S2x4096x2048, .f32⟩
  | 62 => ⟨S2x4096x2048, .f32⟩
  | 63 => ⟨S_, .f32⟩
  | 64 => ⟨S2x4096x2048, .f32⟩
  | 65 => ⟨S2x4096x2048, .f32⟩
  | 66 => ⟨S2x4096x2048, .f32⟩
  | 67 => ⟨S2x4096x2048, .f32⟩
  | 68 => ⟨S2x4096x2048, .f32⟩
  | 69 => ⟨S2x4096x2048, .f32⟩
  | 70 => ⟨S_, .f32⟩
  | 71 => ⟨S2x4096x2048, .f32⟩
  | 72 => ⟨S2x4096x2048, .f32⟩
  | 73 => ⟨S2x4096x2048, .f32⟩
  | 74 => ⟨S2x4096x6144, .f32⟩
  | 75 => ⟨S8192x6144, .f32⟩
  | 76 => ⟨S8192x6144, .bf16⟩
  | 77 => ⟨S2048x1024, .bf16⟩
  | 78 => ⟨S1x2048, .f32⟩
  | 79 => ⟨S1x2048, .f32⟩
  | _ => ⟨S2x4096x6144, .f32⟩

abbrev hbmTy (i : Nat) : BufTy := match i / 128 with
  | 0 => hbmTy0_0 i
  | 1 => hbmTy0_1 i
  | _ => ⟨S2x4096x6144, .f32⟩

abbrev bufTy : (tb : Table) → Fin (tcTables nBuf tb) → BufTy
  | .hbm, ⟨i, _⟩ => hbmTy i
  | _, _ => ⟨S2x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c : Ref sig .tc := ⟨.hbm, 68, rfl⟩
abbrev main_v51 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54_1 : Ref sig .tc := ⟨.hbm, 81, rfl⟩
abbrev main_call1_v1 : Ref sig .tc := ⟨.hbm, 82, rfl⟩
abbrev main_v54_0 : Ref sig .tc := ⟨.hbm, 83, rfl⟩
abbrev main_call1_cst : Ref sig .tc := ⟨.hbm, 84, rfl⟩
abbrev main_v54_2 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_v63_2 : Ref sig .tc := ⟨.hbm, 101, rfl⟩
abbrev main_call2_cst_1 : Ref sig .tc := ⟨.hbm, 102, rfl⟩
abbrev main_call2_v6 : Ref sig .tc := ⟨.hbm, 103, rfl⟩
abbrev main_call2_v7 : Ref sig .tc := ⟨.hbm, 104, rfl⟩
abbrev main_v63_1 : Ref sig .tc := ⟨.hbm, 105, rfl⟩
abbrev main_v63_0 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_10 : Ref sig .tc := ⟨.hbm, 121, rfl⟩
abbrev main_v75 : Ref sig .tc := ⟨.hbm, 122, rfl⟩
abbrev main_v76 : Ref sig .tc := ⟨.hbm, 123, rfl⟩
abbrev main_cst_11 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_call4_cst : Ref sig .tc := ⟨.hbm, 131, rfl⟩
abbrev main_call4_v0 : Ref sig .tc := ⟨.hbm, 132, rfl⟩
abbrev main_v83 : Ref sig .tc := ⟨.hbm, 133, rfl⟩
abbrev main_v84 : Ref sig .tc := ⟨.hbm, 134, rfl⟩
abbrev main_cst_12 : Ref sig .tc := ⟨.hbm, 135, rfl⟩
abbrev main_v85 : Ref sig .tc := ⟨.hbm, 136, rfl⟩
abbrev main_v86 : Ref sig .tc := ⟨.hbm, 137, rfl⟩
abbrev main_cst_13 : Ref sig .tc := ⟨.hbm, 138, rfl⟩
abbrev main_v87 : Ref sig .tc := ⟨.hbm, 139, rfl⟩
abbrev main_v88 : Ref sig .tc := ⟨.hbm, 140, rfl⟩
abbrev main_cst_14 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_15 : Ref sig .tc := ⟨.hbm, 146, rfl⟩
abbrev main_v93 : Ref sig .tc := ⟨.hbm, 147, rfl⟩
abbrev main_v94 : Ref sig .tc := ⟨.hbm, 148, rfl⟩
abbrev main_cst_16 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_17 : Ref sig .tc := ⟨.hbm, 155, rfl⟩
abbrev main_v100 : Ref sig .tc := ⟨.hbm, 156, rfl⟩
abbrev main_v101 : Ref sig .tc := ⟨.hbm, 157, rfl⟩
abbrev main_cst_18 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_19 : Ref sig .tc := ⟨.hbm, 166, rfl⟩
abbrev main_v109 : Ref sig .tc := ⟨.hbm, 167, rfl⟩
abbrev main_v110 : Ref sig .tc := ⟨.hbm, 168, rfl⟩
abbrev main_cst_20 : Ref sig .tc := ⟨.hbm, 169, rfl⟩
abbrev main_v111 : Ref sig .tc := ⟨.hbm, 170, rfl⟩
abbrev main_v112 : Ref sig .tc := ⟨.hbm, 171, rfl⟩
abbrev main_cst_21 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_cst_22 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_cst_23 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_24 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_25 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩

abbrev nD : Nat := 1
abbrev τ : Topo := Topo.v7x

variable {F : FTy → Type} [FloatOps F]
-- ==== PleK.lean ====
abbrev S2x4096x1024 : Shape := ⟨3, ![2, 4096, 1024]⟩
abbrev S2x4096x256 : Shape := ⟨3, ![2, 4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1x8192x256 : Shape := ⟨3, ![1, 8192, 256]⟩
abbrev S1x1024 : Shape := ⟨2, ![1, 1024]⟩
abbrev S8x256x128 : Shape := ⟨3, ![8, 256, 128]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩
abbrev S256x128 : Shape := ⟨2, ![256, 128]⟩
abbrev S1x256x128 : Shape := ⟨3, ![1, 256, 128]⟩

abbrev nBuf : Space → Nat
  | .hbm => 42
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S2x4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x4096x1024, .f32⟩
  | .hbm, ⟨27, _⟩ => ⟨S2x4096x1024, .f32⟩
  | .hbm, ⟨28, _⟩ => ⟨S_, .f32⟩
  | .hbm, ⟨29, _⟩ => ⟨S2x4096x1024, .f32⟩
  | .hbm, ⟨30, _⟩ => ⟨S2x4096x1024, .f32⟩
  | .hbm, ⟨31, _⟩ => ⟨S8192x1024, .f32⟩
  | .hbm, ⟨32, _⟩ => ⟨S1024x1024, .bf16⟩
  | .hbm, ⟨33, _⟩ => ⟨S256x1024, .bf16⟩
  | .hbm, ⟨34, _⟩ => ⟨S8192x1024, .f32⟩
  | .hbm, ⟨35, _⟩ => ⟨S8192x1024, .f32⟩
  | .hbm, ⟨36, _⟩ => ⟨S1x8192x256, .f32⟩
  | .hbm, ⟨37, _⟩ => ⟨S1x1024, .f32⟩
  | .hbm, ⟨38, _⟩ => ⟨S8192x1024, .f32⟩
  | .hbm, ⟨39, _⟩ => ⟨S1024x1024, .bf16⟩
  | .hbm, ⟨40, _⟩ => ⟨S8x256x128, .bf16⟩
  | .hbm, ⟨41, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512x256, .f32⟩
  | .local _ .vmem, ⟨7, _⟩ => ⟨S1x512x256, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | .local _ .vmem, ⟨13, _⟩ => ⟨S1024x1024, .bf16⟩
  | .local _ .vmem, ⟨14, _⟩ => ⟨S8x256x128, .bf16⟩
  | .local _ .vmem, ⟨15, _⟩ => ⟨S1x1024, .f32⟩
  | .local _ .vmem, ⟨16, _⟩ => ⟨S1024x1024, .f32⟩
  | .local _ .vmem, ⟨17, _⟩ => ⟨S256x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v76 : BitVec 1 := Scalar.cmpi .eq arg0 c15_i32
  let v77 : BitVec 32 := Scalar.extui v76
  let c0_i32_39 : BitVec 32 := 0#32
  let v78 : BitVec 1 := Scalar.cmpi .ne v77 c0_i32_39
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleRIdeal.lean ====
abbrev S2x4096x1024 : Shape := ⟨3, ![2, 4096, 1024]⟩
abbrev S2x4096x256 : Shape := ⟨3, ![2, 4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x256 : Shape := ⟨2, ![1024, 256]⟩
abbrev S256x8x128 : Shape := ⟨3, ![256, 8, 128]⟩
abbrev S8x256x128 : Shape := ⟨3, ![8, 256, 128]⟩
abbrev S8192x1024 : Shape := ⟨2, ![8192, 1024]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1024, .f32⟩
  | .hbm, ⟨22, _⟩ => ⟨S2x4096x1024, .f32⟩
  | .hbm, ⟨23, _⟩ => ⟨S1x1x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x4096x1024, .f32⟩
  | .hbm, ⟨31, _⟩ => ⟨S2x4096x1024, .f32⟩
  | .hbm, ⟨32, _⟩ => ⟨S_, .f32⟩
  | .hbm, ⟨33, _⟩ => ⟨S2x4096x1024, .f32⟩
  | .hbm, ⟨34, _⟩ => ⟨S2x4096x1024, .f32⟩
  | .hbm, ⟨35, _⟩ => ⟨S_, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S1024x256, .f32⟩
  | .hbm, ⟨46, _⟩ => ⟨S256x1024, .f32⟩
  | .hbm, ⟨47, _⟩ => ⟨S2x4096x1024, .f32⟩
  | .hbm, ⟨48, _⟩ => ⟨S1024x1024, .f32⟩
  | .hbm, ⟨49, _⟩ => ⟨S1024x1024, .f32⟩
  | .hbm, ⟨50, _⟩ => ⟨S2x4096x1024, .f32⟩
  | .hbm, ⟨51, _⟩ => ⟨S2x4096x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S2x4096x1024, .f32⟩
  | .hbm, ⟨56, _⟩ => ⟨S2x4096x1024, .f32⟩
  | .hbm, ⟨57, _⟩ => ⟨S_, .f32⟩
  | .hbm, ⟨58, _⟩ => ⟨S1024, .f32⟩
  | .hbm, ⟨59, _⟩ => ⟨S2x4096x1024, .f32⟩
  | .hbm, ⟨60, _⟩ => ⟨S_, .f32⟩
  | .hbm, ⟨61, _⟩ => ⟨S2x4096, .f32⟩
  | .hbm, ⟨62, _⟩ => ⟨S2x4096x1, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S2x4096x1, .f32⟩
  | .hbm, ⟨67, _⟩ => ⟨S_, .f32⟩
  | .hbm, ⟨68, _⟩ => ⟨S2x4096x1, .f32⟩
  | .hbm, ⟨69, _⟩ => ⟨S2x4096x1, .f32⟩
  | .hbm, ⟨70, _⟩ => ⟨S_, .f32⟩
  | .hbm, ⟨71, _⟩ => ⟨S2x4096, .f32⟩
  | .hbm, ⟨72, _⟩ => ⟨S2x4096x1024, .f32⟩
  | .hbm, ⟨73, _⟩ => ⟨S2x4096x1024, .f32⟩
  | .hbm, ⟨74, _⟩ => ⟨S2x4096x1024, .f32⟩
  | .hbm, ⟨75, _⟩ => ⟨S2x4096x1024, .f32⟩
  | .hbm, ⟨76, _⟩ => ⟨S2x4096x1024, .f32⟩
  | .hbm, ⟨77, _⟩ => ⟨S256x8x128, .f32⟩
  | .hbm, ⟨78, _⟩ => ⟨S8x256x128, .f32⟩
  | .hbm, ⟨79, _⟩ => ⟨S8192x1024, .f32⟩
  | .hbm, ⟨80, _⟩ => ⟨S1024x1024, .bf16⟩
  | .hbm, ⟨81, _⟩ => ⟨S8x256x128, .bf16⟩
  | .hbm, ⟨82, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== OconvK.lean ====
abbrev S2x4096x2048 : Shape := ⟨3, ![2, 4096, 2048]⟩
abbrev S2x4096x6144 : Shape := ⟨3, ![2, 4096, 6144]⟩
abbrev S2048x1024 : Shape := ⟨2, ![2048, 1024]⟩
abbrev S2048 : Shape := ⟨1, ![2048]⟩
abbrev S2x4096x1024 : Shape := ⟨3, ![2, 4096, 1024]⟩
abbrev S1x1x2048 : Shape := ⟨3, ![1, 1, 2048]⟩
abbrev S8192x2048 : Shape := ⟨2, ![8192, 2048]⟩
abbrev S8192x1024 : Shape := ⟨2, ![8192, 1024]⟩
abbrev S8192x6144 : Shape := ⟨2, ![8192, 6144]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 18
  | .smem => 0
  | _ => 0

abbrev bufTy : (tb : Table) → Fin (tcTables nBuf tb) → BufTy
  | .hbm, ⟨0, _⟩ => ⟨S2x4096x2048, .f32⟩
  | .hbm, ⟨1, _⟩ => ⟨S2x4096x6144, .f32⟩
  | .hbm, ⟨2, _⟩ => ⟨S2048x1024, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2x4096x1024, .f32⟩
  | .hbm, ⟨7, _⟩ => ⟨S1x1x2048, .f32⟩
  | .hbm, ⟨8, _⟩ => ⟨S2x4096x2048, .f32⟩
  | .hbm, ⟨9, _⟩ => ⟨S2x4096x2048, .f32⟩
  | .hbm, ⟨10, _⟩ => ⟨S8192x2048, .f32⟩
  | .hbm, ⟨11, _⟩ => ⟨S8192x1024, .f32⟩
  | .hbm, ⟨12, _⟩ => ⟨S8192x6144, .f32⟩
  | .hbm, ⟨13, _⟩ => ⟨S2048x1024, .bf16⟩
  | .hbm, ⟨14, _⟩ => ⟨S1x2048, .f32⟩
  | .hbm, ⟨15, _⟩ => ⟨S1x2048, .f32⟩
  | .hbm, ⟨16, _⟩ => ⟨S8192x2048, .f32⟩
  | .hbm, ⟨17, _⟩ => ⟨S8192x2048, .bf16⟩
  | .hbm, ⟨18, _⟩ => ⟨S2048x1024, .bf16⟩
  | .hbm, ⟨19, _⟩ => ⟨S1x2048, .f32⟩
  | .hbm, ⟨20, _⟩ => ⟨S1x2048, .f32⟩
  | .hbm, ⟨21, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2048x1024, .bf16⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S2048x1024, .bf16⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S2048x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v105 : BitVec 1 := Scalar.cmpi .eq arg0 c31_i32
  let v106 : BitVec 32 := Scalar.extui v105
  let c0_i32_49 : BitVec 32 := 0#32
  let v107 : BitVec 1 := Scalar.cmpi .ne v106 c0_i32_49
  v107

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OconvRIdeal.lean ====
abbrev S2x4096x2048 : Shape := ⟨3, ![2, 4096, 2048]⟩
abbrev S2x4096x6144 : Shape := ⟨3, ![2, 4096, 6144]⟩
abbrev S2048x1024 : Shape := ⟨2, ![2048, 1024]⟩
abbrev S2048 : Shape := ⟨1, ![2048]⟩
abbrev S2x4096x1024 : Shape := ⟨3, ![2, 4096, 1024]⟩
abbrev S1x1x2048 : Shape := ⟨3, ![1, 1, 2048]⟩
abbrev S_ : Shape := ⟨0, ![]⟩
abbrev S2x4096 : Shape := ⟨2, ![2, 4096]⟩
abbrev S2x4096x1 : Shape := ⟨3, ![2, 4096, 1]⟩
abbrev S1024x2048 : Shape := ⟨2, ![1024, 2048]⟩
abbrev S8192x2048 : Shape := ⟨2, ![8192, 2048]⟩
abbrev S1x2048 : Shape := ⟨2, ![1, 2048]⟩

abbrev nBuf : Space → Nat
  | .hbm => 138
  | .vmem => 0
  | .smem => 0
  | _ => 0

abbrev hbmTy0_0 (i : Nat) : BufTy := match i % 128 with
  | 0 => ⟨S2x4096x2048, .f32⟩
  | 1 => ⟨S2x4096x6144, .f32⟩
  | 2 => ⟨S2048x1024, .f32⟩
  | 3 => ⟨S2048, .f32⟩
  | 4 => ⟨S2048, .f32⟩
  | 5 => ⟨S2048, .f32⟩
  | 6 => ⟨S2x4096x1024, .f32⟩
  | 7 => ⟨S2x4096x2048, .f32⟩
  | 8 => ⟨S2x4096x2048, .f32⟩
  | 9 => ⟨S2x4096x2048, .f32⟩
  | 10 => ⟨S1x1x2048, .f32⟩
  | 11 => ⟨S2x4096x2048, .f32⟩
  | 12 => ⟨S2x4096x2048, .f32⟩
  | 13 => ⟨S_, .f32⟩
  | 14 => ⟨S2x4096, .f32⟩
  | 15 => ⟨S2x4096x1, .f32⟩
  | 16 => ⟨S_, .f32⟩
  | 17 => ⟨S2x4096x1, .f32⟩
  | 18 => ⟨S2x4096x1, .f32⟩
  | 19 => ⟨S2x4096x2048, .f32⟩
  | 20 => ⟨S2x4096x2048, .f32⟩
  | 21 => ⟨S2x4096x2048, .f32⟩
  | 22 => ⟨S_, .f32⟩
  | 23 => ⟨S2x4096, .f32⟩
  | 24 => ⟨S2x4096x1, .f32⟩
  | 25 => ⟨S_, .f32⟩
  | 26 => ⟨S2x4096x1, .f32⟩
  | 27 => ⟨S2x4096x1, .f32⟩
  | 28 => ⟨S_, .f32⟩
  | 29 => ⟨S2x4096x1, .f32⟩
  | 30 => ⟨S2x4096x1, .f32⟩
  | 31 => ⟨S2x4096x1, .f32⟩
  | 32 => ⟨S2x4096x1, .f32⟩
  | 33 => ⟨S_, .f32⟩
  | 34 => ⟨S2x4096x1, .f32⟩
  | 35 => ⟨S2x4096x1, .f32⟩
  | 36 => ⟨S2x4096x2048, .f32⟩
  | 37 => ⟨S2x4096x2048, .f32⟩
  | 38 => ⟨S1x1x2048, .f32⟩
  | 39 => ⟨S2x4096x2048, .f32⟩
  | 40 => ⟨S2x4096x2048, .f32⟩
  | 41 => ⟨S1x1x2048, .f32⟩
  | 42 => ⟨S2x4096x2048, .f32⟩
  | 43 => ⟨S2x4096x2048, .f32⟩
  | 44 => ⟨S2x4096x2048, .f32⟩
  | 45 => ⟨S2x4096x2048, .f32⟩
  | 46 => ⟨S_, .f32⟩
  | 47 => ⟨S2x4096x2048, .f32⟩
  | 48 => ⟨S2x4096x2048, .f32⟩
  | 49 => ⟨S_, .f32⟩
  | 50 => ⟨S2x4096x2048, .f32⟩
  | 51 => ⟨S2x4096x2048, .f32⟩
  | 52 => ⟨S_, .f32⟩
  | 53 => ⟨S2x4096x2048, .f32⟩
  | 54 => ⟨S2x4096x2048, .f32⟩
  | 55 => ⟨S2x4096x2048, .f32⟩
  | 56 => ⟨S2x4096x2048, .f32⟩
  | 57 => ⟨S2x4096x2048, .f32⟩
  | 58 => ⟨S2x4096x2048, .f32⟩
  | 59 => ⟨S_, .f32⟩
  | 60 => ⟨S2x4096x2048, .f32⟩
  | 61 => ⟨S2x4096x2048, .f32⟩
  | 62 => ⟨S_, .f32⟩
  | 63 => ⟨S2x4096x2048, .f32⟩
  | 64 => ⟨S2x4096x2048, .f32⟩
  | 65 => ⟨S_, .f32⟩
  | 66 => ⟨S2x4096x2048, .f32⟩
  | 67 => ⟨S2x4096x2048, .f32⟩
  | 68 => ⟨S2x4096x2048, .f32⟩
  | 69 => ⟨S2x4096x2048, .f32⟩
  | 70 => ⟨S2x4096x2048, .f32⟩
  | 71 => ⟨S2x4096x1024, .f32⟩
  | 72 => ⟨S1024x2048, .f32⟩
  | 73 => ⟨S2048x1024, .f32⟩
  | 74 => ⟨S2x4096x2048, .f32⟩
  | 75 => ⟨S2x4096x2048, .f32⟩
  | 76 => ⟨S2x4096x2048, .f32⟩
  | 77 => ⟨S2x4096x2048, .f32⟩
  | 78 => ⟨S2x4096x2048, .f32⟩
  | 79 => ⟨S2x4096x2048, .f32⟩
  | 80 => ⟨S2x4096x2048, .f32⟩
  | 81 => ⟨S2x4096x2048, .f32⟩
  | 82 => ⟨S2x4096x2048, .f32⟩
  | 83 => ⟨S2x4096x2048, .f32⟩
  | 84 => ⟨S2x4096x2048, .f32⟩
  | 85 => ⟨S_, .f32⟩
  | 86 => ⟨S2048, .f32⟩
  | 87 => ⟨S1x1x2048, .f32⟩
  | 88 => ⟨S_, .f32⟩
  | 89 => ⟨S2048, .f32⟩
  | 90 => ⟨S2x4096x2048, .f32⟩
  | 91 => ⟨S_, .f32⟩
  | 92 => ⟨S2048, .f32⟩
  | 93 => ⟨S1x1x2048, .f32⟩
  | 94 => ⟨S2x4096x2048, .f32⟩
  | 95 => ⟨S2x4096x2048, .f32⟩
  | 96 => ⟨S_, .f32⟩
  | 97 => ⟨S2048, .f32⟩
  | 98 => ⟨S2x4096x2048, .f32⟩
  | 99 => ⟨S_, .f32⟩
  | 100 => ⟨S2x4096, .f32⟩
  | 101 => ⟨S2x4096x1, .f32⟩
  | 102 => ⟨S2x4096x2048, .f32⟩
  | 103 => ⟨S2x4096x2048, .f32⟩
  | 104 => ⟨S2x4096x1, .f32⟩
  | 105 => ⟨S_, .f32⟩
  | 106 => ⟨S2x4096x1, .f32⟩
  | 107 => ⟨S2x4096x1, .f32⟩
  | 108 => ⟨S_, .f32⟩
  | 109 => ⟨S2x4096, .f32⟩
  | 110 => ⟨S2x4096x2048, .f32⟩
  | 111 => ⟨S2x4096x2048, .f32⟩
  | 112 => ⟨S2x4096x2048, .f32⟩
  | 113 => ⟨S2x4096x2048, .f32⟩
  | 114 => ⟨S2x4096x2048, .f32⟩
  | 115 => ⟨S2x4096x2048, .f32⟩
  | 116 => ⟨S_, .f32⟩
  | 117 => ⟨S2x4096, .f32⟩
  | 118 => ⟨S2x4096x1, .f32⟩
  | 119 => ⟨S_, .f32⟩
  | 120 => ⟨S2x4096x1, .f32⟩
  | 121 => ⟨S2x4096x1, .f32⟩
  | 122 => ⟨S_, .f32⟩
  | 123 => ⟨S2x4096, .f32⟩
  | 124 => ⟨S2x4096x2048, .f32⟩
  | 125 => ⟨S2x4096x2048, .f32⟩
  | 126 => ⟨S_, .f32⟩
  | 127 => ⟨S2048, .f32⟩
  | _ => ⟨S2x4096x2048, .f32⟩

abbrev hbmTy0_1 (i : Nat) : BufTy := match i % 128 with
  | 0 => ⟨S1x1x2048, .f32⟩
  | 1 => ⟨S_, .f32⟩
  | 2 => ⟨S2048, .f32⟩
  | 3 => ⟨S8192x2048, .f32⟩
  | 4 => ⟨S8192x2048, .f32⟩
  | 5 => ⟨S8192x2048, .bf16⟩
  | 6 => ⟨S2048x1024, .bf16⟩
  | 7 => ⟨S1x2048, .f32⟩
  | 8 => ⟨S1x2048, .f32⟩
  | 9 => ⟨S1x2048, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v31_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v31_1 : Ref sig .tc := ⟨.hbm, 55, rfl⟩
abbrev main_v31_0 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_v32_2 : Ref sig .tc := ⟨.hbm, 64, rfl⟩
abbrev main_call1_cst_1 : Ref sig .tc := ⟨.hbm, 65, rfl⟩
abbrev main_call1_v6 : Ref sig .tc := ⟨.hbm, 66, rfl⟩
abbrev main_call1_v7 : Ref sig .tc := ⟨.hbm, 67, rfl⟩
abbrev main_v32_1 : Ref sig .tc := ⟨.hbm, 68, rfl⟩
abbrev main_v32_0 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v40 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v41 : Ref sig .tc := ⟨.hbm, 84, rfl⟩
abbrev main_cst_5 : Ref sig .tc := ⟨.hbm, 85, rfl⟩
abbrev main_v42 : Ref sig .tc := ⟨.hbm, 86, rfl⟩
abbrev main_v43 : Ref sig .tc := ⟨.hbm, 87, rfl⟩
abbrev main_cst_6 : Ref sig .tc := ⟨.hbm, 88, rfl⟩
abbrev main_v44 : Ref sig .tc := ⟨.hbm, 89, rfl⟩
abbrev main_v45 : Ref sig .tc := ⟨.hbm, 90, rfl⟩
abbrev main_cst_7 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_8 : Ref sig .tc := ⟨.hbm, 96, rfl⟩
abbrev main_v50 : Ref sig .tc := ⟨.hbm, 97, rfl⟩
abbrev main_v51 : Ref sig .tc := ⟨.hbm, 98, rfl⟩
abbrev main_cst_9 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_10 : Ref sig .tc := ⟨.hbm, 105, rfl⟩
abbrev main_v57 : Ref sig .tc := ⟨.hbm, 106, rfl⟩
abbrev main_v58 : Ref sig .tc := ⟨.hbm, 107, rfl⟩
abbrev main_cst_11 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_12 : Ref sig .tc := ⟨.hbm, 116, rfl⟩
abbrev main_v66 : Ref sig .tc := ⟨.hbm, 117, rfl⟩
abbrev main_v67 : Ref sig .tc := ⟨.hbm, 118, rfl⟩
abbrev main_cst_13 : Ref sig .tc := ⟨.hbm, 119, rfl⟩
abbrev main_v68 : Ref sig .tc := ⟨.hbm, 120, rfl⟩
abbrev main_v69 : Ref sig .tc := ⟨.hbm, 121, rfl⟩
abbrev main_cst_14 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_15 : Ref sig .tc := ⟨.hbm, 126, rfl⟩
abbrev main_v73 : Ref sig .tc := ⟨.hbm, 127, rfl⟩
abbrev main_v74 : Ref sig .tc := ⟨.hbm, 128, rfl⟩
abbrev main_cst_16 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩

abbrev nD : Nat := 1
abbrev τ : Topo := Topo.v7x

variable {F : FTy → Type} [FloatOps F]
-- ==== LsguK.lean ====
abbrev S2x4096x1024 : Shape := ⟨3, ![2, 4096, 1024]⟩
abbrev S2x4096x256 : Shape := ⟨3, ![2, 4096, 256]⟩
abbrev S1024 : Shape := ⟨1, ![1024]⟩
abbrev S1024x6144 : Shape := ⟨2, ![1024, 6144]⟩
abbrev S2048x1024 : Shape := ⟨2, ![2048, 1024]⟩
abbrev S2048 : Shape := ⟨1, ![2048]⟩
abbrev S8x128x128 : Shape := ⟨3, ![8, 128, 128]⟩
abbrev S8x128 : Shape := ⟨2, ![8, 128]⟩
abbrev S1024x1024 : Shape := ⟨2, ![1024, 1024]⟩
abbrev S256x1024 : Shape := ⟨2, ![256, 1024]⟩
abbrev S1024x8x768 : Shape := ⟨3, ![1024, 8, 768]⟩
abbrev S8x1024x768 : Shape := ⟨3, ![8, 1024, 768]⟩
abbrev S8192x1024 : Shape := ⟨2, ![8192, 1024]⟩
abbrev S1x8192x256 : Shape := ⟨3, ![1, 8192, 256]⟩
abbrev S1x1024 : Shape := ⟨2, ![1, 1024]⟩
abbrev S1x2048 : Shape := ⟨2, ![1, 2048]⟩
abbrev S128x8 : Shape := ⟨2, ![128, 8]⟩
abbrev S8192x6144 : Shape := ⟨2, ![8192, 6144]⟩
abbrev S1x256x256 : Shape := ⟨3, ![1, 256, 256]⟩
abbrev S256x6144 : Shape := ⟨2, ![256, 6144]⟩
abbrev S256x2048 : Shape := ⟨2, ![256, 2048]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩
abbrev S256x768 : Shape := ⟨2, ![256, 768]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S256x256 : Shape := ⟨2, ![256, 256]⟩

abbrev nBuf : Space → Nat
  | .hbm => 30
  | .vmem => 25
  | .smem => 0
  | _ => 0

abbrev bufTy : (tb : Table) → Fin (tcTables nBuf tb) → BufTy
  | .hbm, ⟨0, _⟩ => ⟨S2x4096x1024, .f32⟩
  | .hbm, ⟨1, _⟩ => ⟨S2x4096x256, .f32⟩
  | .hbm, ⟨2, _⟩ => ⟨S1024, .f32⟩
  | .hbm, ⟨3, _⟩ => ⟨S1024x6144, .f32⟩
  | .hbm, ⟨4, _⟩ => ⟨S2048x1024, .f32⟩
  | .hbm, ⟨5, _⟩ => ⟨S2048, .f32⟩
  | .hbm, ⟨6, _⟩ => ⟨S2048, .f32⟩
  | .hbm, ⟨7, _⟩ => ⟨S8x128x128, .f32⟩
  | .hbm, ⟨8, _⟩ => ⟨S8x128, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S1024x6144, .bf16⟩
  | .hbm, ⟨13, _⟩ => ⟨S1024x8x768, .bf16⟩
  | .hbm, ⟨14, _⟩ => ⟨S8x1024x768, .bf16⟩
  | .hbm, ⟨15, _⟩ => ⟨S8192x1024, .f32⟩
  | .hbm, ⟨16, _⟩ => ⟨S1x8192x256, .f32⟩
  | .hbm, ⟨17, _⟩ => ⟨S1x1024, .f32⟩
  | .hbm, ⟨18, _⟩ => ⟨S2048x1024, .bf16⟩
  | .hbm, ⟨19, _⟩ => ⟨S1x1024, .f32⟩
  | .hbm, ⟨20, _⟩ => ⟨S1024x1024, .bf16⟩
  | .hbm, ⟨21, _⟩ => ⟨S256x1024, .bf16⟩
  | .hbm, ⟨22, _⟩ => ⟨S1x2048, .f32⟩
  | .hbm, ⟨23, _⟩ => ⟨S1x2048, .f32⟩
  | .hbm, ⟨24, _⟩ => ⟨S128x8, .f32⟩
  | .hbm, ⟨25, _⟩ => ⟨S8192x1024, .bf16⟩
  | .hbm, ⟨26, _⟩ => ⟨S8192x6144, .f32⟩
  | .hbm, ⟨27, _⟩ => ⟨S8192x1024, .f32⟩
  | .hbm, ⟨28, _⟩ => ⟨S8192x1024, .f32⟩
  | .hbm, ⟨29, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x256x256, .f32⟩
  | .local _ .vmem, ⟨3, _⟩ => ⟨S1x256x256, .f32⟩
  | .local _ .vmem, ⟨4, _⟩ => ⟨S1x1024, .f32⟩
  | .local _ .vmem, ⟨5, _⟩ => ⟨S8x1024x768, .bf16⟩
  | .local _ .vmem, ⟨6, _⟩ => ⟨S2048x1024, .bf16⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S1x2048, .f32⟩
  | .local _ .vmem, ⟨11, _⟩ => ⟨S1x2048, .f32⟩
  | .local _ .vmem, ⟨12, _⟩ => ⟨S8x128x128, .f32⟩
  | .local _ .vmem, ⟨13, _⟩ => ⟨S128x8, .f32⟩
  | .local _ .vmem, ⟨14, _⟩ => ⟨S256x1024, .bf16⟩
  | .local _ .vmem, ⟨15, _⟩ => ⟨S256x1024, .bf16⟩
  | .local _ .vmem, ⟨16, _⟩ => ⟨S256x6144, .f32⟩
  | .local _ .vmem, ⟨17, _⟩ => ⟨S256x6144, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x2048, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x6144 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== LsguKIdeal.lean ====
variable {F : FTy → Type} [FloatOps F] [Named F]
def κ : String → Option EReal := fun
  | "c" => some (((Real.sqrt 2)⁻¹ : ℝ) : EReal)
  | _ => none
-- ==== LsguRIdeal.lean ====
abbrev S2x4096x1024 : Shape := ⟨3, ![2, 4096, 1024]⟩
abbrev S2x4096x256 : Shape := ⟨3, ![2, 4096, 256]⟩
abbrev S1024 : Shape := ⟨1, ![1024]⟩
abbrev S1024x6144 : Shape := ⟨2, ![1024, 6144]⟩
abbrev S2048x1024 : Shape := ⟨2, ![2048, 1024]⟩
abbrev S2048 : Shape := ⟨1, ![2048]⟩
abbrev S8x128x128 : Shape := ⟨3, ![8, 128, 128]⟩
abbrev S8x128 : Shape := ⟨2, ![8, 128]⟩
abbrev S1024x1024 : Shape := ⟨2, ![1024, 1024]⟩
abbrev S256x1024 : Shape := ⟨2, ![256, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x6144 : Shape := ⟨3, ![2, 4096, 6144]⟩
abbrev S2x4096x2048 : Shape := ⟨3, ![2, 4096, 2048]⟩
abbrev S1x1x2048 : Shape := ⟨3, ![1, 1, 2048]⟩
abbrev S2x32x128x8x256 : Shape := ⟨5, ![2, 32, 128, 8, 256]⟩
abbrev S128x128 : Shape := ⟨2, ![128, 128]⟩
abbrev S1x128x128 : Shape := ⟨3, ![1, 128, 128]⟩
abbrev S8x2x32x256x128 : Shape := ⟨5, ![8, 2, 32, 256, 128]⟩
abbrev S128x8 : Shape := ⟨2, ![128, 8]⟩
abbrev S1x1x128x8x1 : Shape := ⟨5, ![1, 1, 128, 8, 1]⟩
abbrev S8192x1024 : Shape := ⟨2, ![8192, 1024]⟩
abbrev S8192x6144 : Shape := ⟨2, ![8192, 6144]⟩

abbrev nBuf : Space → Nat
  | .hbm => 150
  | .vmem => 0
  | .smem => 0
  | _ => 0

abbrev hbmTy0_0 (i : Nat) : BufTy := match i % 128 with
  | 0 => ⟨S2x4096x1024, .f32⟩
  | 1 => ⟨S2x4096x256, .f32⟩
  | 2 => ⟨S1024, .f32⟩
  | 3 => ⟨S1024x6144, .f32⟩
  | 4 => ⟨S2048x1024, .f32⟩
  | 5 => ⟨S2048, .f32⟩
  | 6 => ⟨S2048, .f32⟩
  | 7 => ⟨S8x128x128, .f32⟩
  | 8 => ⟨S8x128, .f32⟩
  | 9 => ⟨S1024, .f32⟩
  | 10 => ⟨S1024x1024, .f32⟩
  | 11 => ⟨S256x1024, .f32⟩
  | 12 => ⟨S2x4096x1024, .f32⟩
  | 13 => ⟨S_, .f32⟩
  | 14 => ⟨S2x4096, .f32⟩
  | 15 => ⟨S2x4096x1, .f32⟩
  | 16 => ⟨S_, .f32⟩
  | 17 => ⟨S2x4096x1, .f32⟩
  | 18 => ⟨S2x4096x1, .f32⟩
  | 19 => ⟨S_, .f32⟩
  | 20 => ⟨S2x4096x1, .f32⟩
  | 21 => ⟨S2x4096x1, .f32⟩
  | 22 => ⟨S2x4096x1, .f32⟩
  | 23 => ⟨S2x4096x1024, .f32⟩
  | 24 => ⟨S2x4096x1024, .f32⟩
  | 25 => ⟨S1x1x1024, .f32⟩
  | 26 => ⟨S2x4096x1024, .f32⟩
  | 27 => ⟨S2x4096x1024, .f32⟩
  | 28 => ⟨S2x4096x6144, .f32⟩
  | 29 => ⟨S2x4096x2048, .f32⟩
  | 30 => ⟨S2x4096x2048, .f32⟩
  | 31 => ⟨S2x4096x2048, .f32⟩
  | 32 => ⟨S_, .f32⟩
  | 33 => ⟨S2x4096x2048, .f32⟩
  | 34 => ⟨S2x4096x2048, .f32⟩
  | 35 => ⟨S2x4096x2048, .f32⟩
  | 36 => ⟨S_, .f32⟩
  | 37 => ⟨S_, .f32⟩
  | 38 => ⟨S2x4096x2048, .f32⟩
  | 39 => ⟨S2x4096x2048, .f32⟩
  | 40 => ⟨S2x4096x2048, .f32⟩
  | 41 => ⟨S2x4096x2048, .f32⟩
  | 42 => ⟨S_, .f32⟩
  | 43 => ⟨S2x4096x2048, .f32⟩
  | 44 => ⟨S2x4096x2048, .f32⟩
  | 45 => ⟨S2x4096x2048, .f32⟩
  | 46 => ⟨S_, .f32⟩
  | 47 => ⟨S_, .f32⟩
  | 48 => ⟨S2x4096x2048, .f32⟩
  | 49 => ⟨S2x4096x2048, .f32⟩
  | 50 => ⟨S2x4096x2048, .f32⟩
  | 51 => ⟨S2x4096x2048, .f32⟩
  | 52 => ⟨S_, .f32⟩
  | 53 => ⟨S2x4096, .f32⟩
  | 54 => ⟨S2x4096x1, .f32⟩
  | 55 => ⟨S_, .f32⟩
  | 56 => ⟨S2x4096x1, .f32⟩
  | 57 => ⟨S2x4096x1, .f32⟩
  | 58 => ⟨S2x4096x2048, .f32⟩
  | 59 => ⟨S2x4096x2048, .f32⟩
  | 60 => ⟨S2x4096x2048, .f32⟩
  | 61 => ⟨S_, .f32⟩
  | 62 => ⟨S2x4096, .f32⟩
  | 63 => ⟨S2x4096x1, .f32⟩
  | 64 => ⟨S_, .f32⟩
  | 65 => ⟨S2x4096x1, .f32⟩
  | 66 => ⟨S2x4096x1, .f32⟩
  | 67 => ⟨S_, .f32⟩
  | 68 => ⟨S2x4096x1, .f32⟩
  | 69 => ⟨S2x4096x1, .f32⟩
  | 70 => ⟨S2x4096x1, .f32⟩
  | 71 => ⟨S2x4096x2048, .f32⟩
  | 72 => ⟨S2x4096x2048, .f32⟩
  | 73 => ⟨S1x1x2048, .f32⟩
  | 74 => ⟨S2x4096x2048, .f32⟩
  | 75 => ⟨S2x4096x2048, .f32⟩
  | 76 => ⟨S1x1x2048, .f32⟩
  | 77 => ⟨S2x4096x2048, .f32⟩
  | 78 => ⟨S2x4096x2048, .f32⟩
  | 79 => ⟨S2x32x128x8x256, .f32⟩
  | 80 => ⟨S_, .i1⟩
  | 81 => ⟨S128x128, .i1⟩
  | 82 => ⟨S128x128, .i32⟩
  | 83 => ⟨S_, .i32⟩
  | 84 => ⟨S128x128, .i32⟩
  | 85 => ⟨S128x128, .i32⟩
  | 86 => ⟨S128x128, .i32⟩
  | 87 => ⟨S128x128, .i1⟩
  | 88 => ⟨S_, .i1⟩
  | 89 => ⟨S128x128, .i1⟩
  | 90 => ⟨S128x128, .i1⟩
  | 91 => ⟨S1x128x128, .i1⟩
  | 92 => ⟨S_, .f32⟩
  | 93 => ⟨S8x128x128, .i1⟩
  | 94 => ⟨S8x128x128, .f32⟩
  | 95 => ⟨S8x128x128, .f32⟩
  | 96 => ⟨S8x2x32x256x128, .f32⟩
  | 97 => ⟨S2x32x128x8x256, .f32⟩
  | 98 => ⟨S128x8, .f32⟩
  | 99 => ⟨S1x1x128x8x1, .f32⟩
  | 100 => ⟨S2x32x128x8x256, .f32⟩
  | 101 => ⟨S2x32x128x8x256, .f32⟩
  | 102 => ⟨S2x4096x2048, .f32⟩
  | 103 => ⟨S2x4096x2048, .f32⟩
  | 104 => ⟨S2x4096x2048, .f32⟩
  | 105 => ⟨S2x4096x2048, .f32⟩
  | 106 => ⟨S_, .f32⟩
  | 107 => ⟨S2x4096x2048, .f32⟩
  | 108 => ⟨S2x4096x2048, .f32⟩
  | 109 => ⟨S_, .f32⟩
  | 110 => ⟨S2x4096x2048, .f32⟩
  | 111 => ⟨S2x4096x2048, .f32⟩
  | 112 => ⟨S2x4096x2048, .f32⟩
  | 113 => ⟨S2x4096x2048, .f32⟩
  | 114 => ⟨S2x4096x1024, .f32⟩
  | 115 => ⟨S2x4096x1024, .f32⟩
  | 116 => ⟨S2x4096x1024, .f32⟩
  | 117 => ⟨S_, .f32⟩
  | 118 => ⟨S2x4096, .f32⟩
  | 119 => ⟨S2x4096x1, .f32⟩
  | 120 => ⟨S_, .f32⟩
  | 121 => ⟨S2x4096x1, .f32⟩
  | 122 => ⟨S2x4096x1, .f32⟩
  | 123 => ⟨S_, .f32⟩
  | 124 => ⟨S2x4096x1, .f32⟩
  | 125 => ⟨S2x4096x1, .f32⟩
  | 126 => ⟨S2x4096x1, .f32⟩
  | 127 => ⟨S2x4096x1024, .f32⟩
  | _ => ⟨S2x4096x1024, .f32⟩

abbrev hbmTy0_1 (i : Nat) : BufTy := match i % 128 with
  | 0 => ⟨S2x4096x1024, .f32⟩
  | 1 => ⟨S1x1x1024, .f32⟩
  | 2 => ⟨S2x4096x1024, .f32⟩
  | 3 => ⟨S2x4096x1024, .f32⟩
  | 4 => ⟨S2x4096x1024, .f32⟩
  | 5 => ⟨S2x4096x1024, .f32⟩
  | 6 => ⟨S2x4096x1024, .f32⟩
  | 7 => ⟨S_, .f32⟩
  | 8 => ⟨S2x4096x1024, .f32⟩
  | 9 => ⟨S2x4096x1024, .f32⟩
  | 10 => ⟨S_, .f32⟩
  | 11 => ⟨S2x4096x1024, .f32⟩
  | 12 => ⟨S2x4096x1024, .f32⟩
  | 13 => ⟨S2x4096x1024, .f32⟩
  | 14 => ⟨S2x4096x1024, .f32⟩
  | 15 => ⟨S2x4096x1024, .f32⟩
  | 16 => ⟨S8192x1024, .f32⟩
  | 17 => ⟨S8192x1024, .bf16⟩
  | 18 => ⟨S8192x6144, .f32⟩
  | 19 => ⟨S8192x1024, .f32⟩
  | 20 => ⟨S8192x1024, .f32⟩
  | 21 => ⟨S8192x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c : Ref sig .tc := ⟨.hbm, 80, rfl⟩
abbrev main_v56 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_call1_v0 : Ref sig .tc := ⟨.hbm, 93, rfl⟩
abbrev main_call1_v1 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call2_v0 : Ref sig .tc := ⟨.hbm, 104, rfl⟩
abbrev main_call2_v1 : Ref sig .tc := ⟨.hbm, 105, rfl⟩
abbrev main_call2_cst : Ref sig .tc := ⟨.hbm, 106, rfl⟩
abbrev main_call2_v2 : Ref sig .tc := ⟨.hbm, 107, rfl⟩
abbrev main_call2_v3 : Ref sig .tc := ⟨.hbm, 108, rfl⟩
abbrev main_call2_cst_0 : Ref sig .tc := ⟨.hbm, 109, rfl⟩
abbrev main_call2_v4 : Ref sig .tc := ⟨.hbm, 110, rfl⟩
abbrev main_call2_v5 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_12 : Ref sig .tc := ⟨.hbm, 117, rfl⟩
abbrev main_v73 : Ref sig .tc := ⟨.hbm, 118, rfl⟩
abbrev main_v74 : Ref sig .tc := ⟨.hbm, 119, rfl⟩
abbrev main_cst_13 : Ref sig .tc := ⟨.hbm, 120, rfl⟩
abbrev main_v75 : Ref sig .tc := ⟨.hbm, 121, rfl⟩
abbrev main_v76 : Ref sig .tc := ⟨.hbm, 122, rfl⟩
abbrev main_cst_14 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_15 : Ref sig .tc := ⟨.hbm, 135, rfl⟩
abbrev main_v88 : Ref sig .tc := ⟨.hbm, 136, rfl⟩
abbrev main_v89 : Ref sig .tc := ⟨.hbm, 137, rfl⟩
abbrev main_cst_16 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩

abbrev nD : Nat := 1
abbrev τ : Topo := Topo.v7x

variable {F : FTy → Type} [FloatOps F]
-- ==== InwK.lean ====
abbrev S2x4096x1024 : Shape := ⟨3, ![2, 4096, 1024]⟩
abbrev S1024 : Shape := ⟨1, ![1024]⟩
abbrev S2x4096x6144 : Shape := ⟨3, ![2, 4096, 6144]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S8192x6144 : Shape := ⟨2, ![8192, 6144]⟩
abbrev S8x1024x768 : Shape := ⟨3, ![8, 1024, 768]⟩
abbrev S512x1024 : Shape := ⟨2, ![512, 1024]⟩
abbrev S512x3072 : Shape := ⟨2, ![512, 3072]⟩
abbrev S4x1024x768 : Shape := ⟨3, ![4, 1024, 768]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 24
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x4096x6144, .f32⟩
  | .hbm, ⟨3, _⟩ => ⟨S2x4096x1024, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x1024, .f32⟩
  | .hbm, ⟨15, _⟩ => ⟨S2x4096x1024, .f32⟩
  | .hbm, ⟨16, _⟩ => ⟨S1x1x1024, .f32⟩
  | .hbm, ⟨17, _⟩ => ⟨S2x4096x1024, .f32⟩
  | .hbm, ⟨18, _⟩ => ⟨S2x4096x1024, .f32⟩
  | .hbm, ⟨19, _⟩ => ⟨S2x4096x1024, .bf16⟩
  | .hbm, ⟨20, _⟩ => ⟨S8192x1024, .bf16⟩
  | .hbm, ⟨21, _⟩ => ⟨S8192x6144, .f32⟩
  | .hbm, ⟨22, _⟩ => ⟨S8192x6144, .bf16⟩
  | .hbm, ⟨23, _⟩ => ⟨S8x1024x768, .bf16⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S4x1024x768, .bf16⟩
  | .local _ .vmem, ⟨5, _⟩ => ⟨S4x1024x768, .bf16⟩
  | .local _ .vmem, ⟨6, _⟩ => ⟨S4x1024x768, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_31 : BitVec 32 := 0#32
  let v43 : BitVec 1 := Scalar.cmpi .ne v42 c0_i32_31
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InwRIdeal.lean ====
abbrev S2x4096x1024 : Shape := ⟨3, ![2, 4096, 1024]⟩
abbrev S1024 : Shape := ⟨1, ![1024]⟩
abbrev S2x4096x6144 : Shape := ⟨3, ![2, 4096, 6144]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x4096x6144, .f32⟩
  | .hbm, ⟨3, _⟩ => ⟨S2x4096x1024, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x1024, .f32⟩
  | .hbm, ⟨15, _⟩ => ⟨S2x4096x1024, .f32⟩
  | .hbm, ⟨16, _⟩ => ⟨S1x1x1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S1024x6144, .f32⟩
  | .hbm, ⟨21, _⟩ => ⟨S2x4096x6144, .f32⟩
  | .hbm, ⟨22, _⟩ => ⟨S6144x1024, .f32⟩
  | .hbm, ⟨23, _⟩ => ⟨S1024x6144, .f32⟩
  | .hbm, ⟨24, _⟩ => ⟨S1024x8x768, .f32⟩
  | .hbm, ⟨25, _⟩ => ⟨S8x1024x768, .f32⟩
  | .hbm, ⟨26, _⟩ => ⟨S8x1024x768, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== AdamK.lean ====
abbrev S8x1024x768 : Shape := ⟨3, ![8, 1024, 768]⟩
abbrev S4x1024x768 : Shape := ⟨3, ![4, 1024, 768]⟩
abbrev S8x128x768 : Shape := ⟨3, ![8, 128, 768]⟩
abbrev S1x128x768 : Shape := ⟨3, ![1, 128, 768]⟩
abbrev S128x768 : Shape := ⟨2, ![128, 768]⟩

abbrev nBuf : Space → Nat
  | .hbm => 15
  | .vmem => 22
  | .smem => 0
  | _ => 0

abbrev bufTy : (tb : Table) → Fin (tcTables nBuf tb) → BufTy
  | .hbm, ⟨0, _⟩ => ⟨S8x1024x768, .f32⟩
  | .hbm, ⟨1, _⟩ => ⟨S8x1024x768, .f32⟩
  | .hbm, ⟨2, _⟩ => ⟨S8x1024x768, .f32⟩
  | .hbm, ⟨3, _⟩ => ⟨S8x1024x768, .f32⟩
  | .hbm, ⟨4, _⟩ => ⟨S4x1024x768, .f32⟩
  | .hbm, ⟨5, _⟩ => ⟨S4x1024x768, .f32⟩
  | .hbm, ⟨6, _⟩ => ⟨S4x1024x768, .f32⟩
  | .hbm, ⟨7, _⟩ => ⟨S8x1024x768, .bf16⟩
  | .hbm, ⟨8, _⟩ => ⟨S8x1024x768, .bf16⟩
  | .hbm, ⟨9, _⟩ => ⟨S8x1024x768, .bf16⟩
  | .hbm, ⟨10, _⟩ => ⟨S8x1024x768, .bf16⟩
  | .hbm, ⟨11, _⟩ => ⟨S4x1024x768, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .local _ .vmem, ⟨0, _⟩ => ⟨S8x128x768, .bf16⟩
  | .local _ .vmem, ⟨1, _⟩ => ⟨S8x128x768, .bf16⟩
  | .local _ .vmem, ⟨2, _⟩ => ⟨S8x128x768, .bf16⟩
  | .local _ .vmem, ⟨3, _⟩ => ⟨S8x128x768, .bf16⟩
  | .local _ .vmem, ⟨4, _⟩ => ⟨S8x128x768, .bf16⟩
  | .local _ .vmem, ⟨5, _⟩ => ⟨S8x128x768, .bf16⟩
  | .local _ .vmem, ⟨6, _⟩ => ⟨S8x128x768, .bf16⟩
  | .local _ .vmem, ⟨7, _⟩ => ⟨S8x128x768, .bf16⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | .local _ .vmem, ⟨14, _⟩ => ⟨S1x128x768, .f32⟩
  | .local _ .vmem, ⟨15, _⟩ => ⟨S1x128x768, .f32⟩
  | .local _ .vmem, ⟨16, _⟩ => ⟨S1x128x768, .f32⟩
  | .local _ .vmem, ⟨17, _⟩ => ⟨S1x128x768, .f32⟩
  | .local _ .vmem, ⟨18, _⟩ => ⟨S1x128x768, .f32⟩
  | .local _ .vmem, ⟨19, _⟩ => ⟨S1x128x768, .f32⟩
  | .local _ .vmem, ⟨20, _⟩ => ⟨S1x128x768, .f32⟩
  | .local _ .vmem, ⟨21, _⟩ => ⟨S1x128x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamRIdeal.lean ====
abbrev S8x1024x768 : Shape := ⟨3, ![8, 1024, 768]⟩
abbrev S4x1024x768 : Shape := ⟨3, ![4, 1024, 768]⟩
abbrev S_ : Shape := ⟨0, ![]⟩
abbrev S1024x768 : Shape := ⟨2, ![1024, 768]⟩
abbrev S1x1024x768 : Shape := ⟨3, ![1, 1024, 768]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S8x1024x768, .f32⟩
  | .hbm, ⟨2, _⟩ => ⟨S8x1024x768, .f32⟩
  | .hbm, ⟨3, _⟩ => ⟨S8x1024x768, .f32⟩
  | .hbm, ⟨4, _⟩ => ⟨S4x1024x768, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S4x1024x768, .f32⟩
  | .hbm, ⟨20, _⟩ => ⟨S_, .f32⟩
  | .hbm, ⟨21, _⟩ => ⟨S4x1024x768, .f32⟩
  | .hbm, ⟨22, _⟩ => ⟨S4x1024x768, .f32⟩
  | .hbm, ⟨23, _⟩ => ⟨S_, .f32⟩
  | .hbm, ⟨24, _⟩ => ⟨S4x1024x768, .f32⟩
  | .hbm, ⟨25, _⟩ => ⟨S4x1024x768, .f32⟩
  | .hbm, ⟨26, _⟩ => ⟨S4x1024x768, .f32⟩
  | .hbm, ⟨27, _⟩ => ⟨S_, .f32⟩
  | .hbm, ⟨28, _⟩ => ⟨S4x1024x768, .f32⟩
  | .hbm, ⟨29, _⟩ => ⟨S4x1024x768, .f32⟩
  | .hbm, ⟨30, _⟩ => ⟨S4x1024x768, .f32⟩
  | .hbm, ⟨31, _⟩ => ⟨S_, .f32⟩
  | .hbm, ⟨32, _⟩ => ⟨S4x1024x768, .f32⟩
  | .hbm, ⟨33, _⟩ => ⟨S4x1024x768, .f32⟩
  | .hbm, ⟨34, _⟩ => ⟨S4x1024x768, .f32⟩
  | .hbm, ⟨35, _⟩ => ⟨S_, .f32⟩
  | .hbm, ⟨36, _⟩ => ⟨S4x1024x768, .f32⟩
  | .hbm, ⟨37, _⟩ => ⟨S4x1024x768, .f32⟩
  | .hbm, ⟨38, _⟩ => ⟨S_, .f32⟩
  | .hbm, ⟨39, _⟩ => ⟨S4x1024x768, .f32⟩
  | .hbm, ⟨40, _⟩ => ⟨S4x1024x768, .f32⟩
  | .hbm, ⟨41, _⟩ => ⟨S4x1024x768, .f32⟩
  | .hbm, ⟨42, _⟩ => ⟨S_, .f32⟩
  | .hbm, ⟨43, _⟩ => ⟨S4x1024x768, .f32⟩
  | .hbm, ⟨44, _⟩ => ⟨S4x1024x768, .f32⟩
  | .hbm, ⟨45, _⟩ => ⟨S4x1024x768, .f32⟩
  | .hbm, ⟨46, _⟩ => ⟨S_, .f32⟩
  | .hbm, ⟨47, _⟩ => ⟨S4x1024x768, .f32⟩
  | .hbm, ⟨48, _⟩ => ⟨S4x1024x768, .f32⟩
  | .hbm, ⟨49, _⟩ => ⟨S4x1024x768, .f32⟩
  | .hbm, ⟨50, _⟩ => ⟨S_, .f32⟩
  | .hbm, ⟨51, _⟩ => ⟨S4x1024x768, .f32⟩
  | .hbm, ⟨52, _⟩ => ⟨S4x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdsK.lean ====
abbrev S8x4x1024 : Shape := ⟨3, ![8, 4, 1024]⟩
abbrev S8x2x2048 : Shape := ⟨3, ![8, 2, 2048]⟩
abbrev S8x2x8x128x128 : Shape := ⟨5, ![8, 2, 8, 128, 128]⟩
abbrev S8x2x8x128 : Shape := ⟨4, ![8, 2, 8, 128]⟩
abbrev S8x1x1024 : Shape := ⟨3, ![8, 1, 1024]⟩
abbrev S8x2x31x256 : Shape := ⟨4, ![8, 2, 31, 256]⟩
abbrev S8x2x256 : Shape := ⟨3, ![8, 2, 256]⟩
abbrev S4x1024 : Shape := ⟨2, ![4, 1024]⟩
abbrev S2x2048 : Shape := ⟨2, ![2, 2048]⟩
abbrev S2x8x128x128 : Shape := ⟨4, ![2, 8, 128, 128]⟩
abbrev S2x8x128 : Shape := ⟨3, ![2, 8, 128]⟩
abbrev S1x1024 : Shape := ⟨2, ![1, 1024]⟩
abbrev S2x31x256 : Shape := ⟨3, ![2, 31, 256]⟩
abbrev S2x256 : Shape := ⟨2, ![2, 256]⟩
abbrev S8x8x128 : Shape := ⟨3, ![8, 8, 128]⟩
abbrev S8x128 : Shape := ⟨2, ![8, 128]⟩
abbrev S1x4x1024 : Shape := ⟨3, ![1, 4, 1024]⟩
abbrev S1x2x2048 : Shape := ⟨3, ![1, 2, 2048]⟩
abbrev S1x2x8x128x128 : Shape := ⟨5, ![1, 2, 8, 128, 128]⟩
abbrev S1x2x8x128 : Shape := ⟨4, ![1, 2, 8, 128]⟩
abbrev S1x1x1024 : Shape := ⟨3, ![1, 1, 1024]⟩
abbrev S1x2x31x256 : Shape := ⟨4, ![1, 2, 31, 256]⟩
abbrev S1x2x256 : Shape := ⟨3, ![1, 2, 256]⟩
abbrev S1x8x128 : Shape := ⟨3, ![1, 8, 128]⟩

abbrev nBuf : Space → Nat
  | .hbm => 90
  | .vmem => 90
  | .smem => 0
  | _ => 0

abbrev bufTy : (tb : Table) → Fin (tcTables nBuf tb) → BufTy
  | .hbm, ⟨0, _⟩ => ⟨S8x4x1024, .f32⟩
  | .hbm, ⟨1, _⟩ => ⟨S8x2x2048, .f32⟩
  | .hbm, ⟨2, _⟩ => ⟨S8x2x2048, .f32⟩
  | .hbm, ⟨3, _⟩ => ⟨S8x2x2048, .f32⟩
  | .hbm, ⟨4, _⟩ => ⟨S8x2x8x128x128, .f32⟩
  | .hbm, ⟨5, _⟩ => ⟨S8x2x8x128, .f32⟩
  | .hbm, ⟨6, _⟩ => ⟨S8x4x1024, .f32⟩
  | .hbm, ⟨7, _⟩ => ⟨S8x1x1024, .f32⟩
  | .hbm, ⟨8, _⟩ => ⟨S8x2x31x256, .f32⟩
  | .hbm, ⟨9, _⟩ => ⟨S8x2x256, .f32⟩
  | .hbm, ⟨10, _⟩ => ⟨S8x2x256, .f32⟩
  | .hbm, ⟨11, _⟩ => ⟨S4x1024, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S2x8x128x128, .f32⟩
  | .hbm, ⟨16, _⟩ => ⟨S2x8x128, .f32⟩
  | .hbm, ⟨17, _⟩ => ⟨S4x1024, .f32⟩
  | .hbm, ⟨18, _⟩ => ⟨S1x1024, .f32⟩
  | .hbm, ⟨19, _⟩ => ⟨S2x31x256, .f32⟩
  | .hbm, ⟨20, _⟩ => ⟨S2x256, .f32⟩
  | .hbm, ⟨21, _⟩ => ⟨S2x256, .f32⟩
  | .hbm, ⟨22, _⟩ => ⟨S4x1024, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S2x8x128x128, .f32⟩
  | .hbm, ⟨27, _⟩ => ⟨S2x8x128, .f32⟩
  | .hbm, ⟨28, _⟩ => ⟨S4x1024, .f32⟩
  | .hbm, ⟨29, _⟩ => ⟨S1x1024, .f32⟩
  | .hbm, ⟨30, _⟩ => ⟨S2x31x256, .f32⟩
  | .hbm, ⟨31, _⟩ => ⟨S2x256, .f32⟩
  | .hbm, ⟨32, _⟩ => ⟨S2x256, .f32⟩
  | .hbm, ⟨33, _⟩ => ⟨S4x1024, .f32⟩
  | .hbm, ⟨34, _⟩ => ⟨S2x2048, .f32⟩
  | .hbm, ⟨35, _⟩ => ⟨S2x2048, .f32⟩
  | .hbm, ⟨36, _⟩ => ⟨S2x2048, .f32⟩
  | .hbm, ⟨37, _⟩ => ⟨S2x8x128x128, .f32⟩
  | .hbm, ⟨38, _⟩ => ⟨S2x8x128, .f32⟩
  | .hbm, ⟨39, _⟩ => ⟨S4x1024, .f32⟩
  | .hbm, ⟨40, _⟩ => ⟨S1x1024, .f32⟩
  | .hbm, ⟨41, _⟩ => ⟨S2x31x256, .f32⟩
  | .hbm, ⟨42, _⟩ => ⟨S2x256, .f32⟩
  | .hbm, ⟨43, _⟩ => ⟨S2x256, .f32⟩
  | .hbm, ⟨44, _⟩ => ⟨S8x8x128, .f32⟩
  | .hbm, ⟨45, _⟩ => ⟨S4x1024, .f32⟩
  | .hbm, ⟨46, _⟩ => ⟨S2x2048, .f32⟩
  | .hbm, ⟨47, _⟩ => ⟨S2x2048, .f32⟩
  | .hbm, ⟨48, _⟩ => ⟨S2x2048, .f32⟩
  | .hbm, ⟨49, _⟩ => ⟨S2x8x128x128, .f32⟩
  | .hbm, ⟨50, _⟩ => ⟨S2x8x128, .f32⟩
  | .hbm, ⟨51, _⟩ => ⟨S4x1024, .f32⟩
  | .hbm, ⟨52, _⟩ => ⟨S1x1024, .f32⟩
  | .hbm, ⟨53, _⟩ => ⟨S2x31x256, .f32⟩
  | .hbm, ⟨54, _⟩ => ⟨S2x256, .f32⟩
  | .hbm, ⟨55, _⟩ => ⟨S2x256, .f32⟩
  | .hbm, ⟨56, _⟩ => ⟨S4x1024, .f32⟩
  | .hbm, ⟨57, _⟩ => ⟨S2x2048, .f32⟩
  | .hbm, ⟨58, _⟩ => ⟨S2x2048, .f32⟩
  | .hbm, ⟨59, _⟩ => ⟨S2x2048, .f32⟩
  | .hbm, ⟨60, _⟩ => ⟨S2x8x128x128, .f32⟩
  | .hbm, ⟨61, _⟩ => ⟨S2x8x128, .f32⟩
  | .hbm, ⟨62, _⟩ => ⟨S4x1024, .f32⟩
  | .hbm, ⟨63, _⟩ => ⟨S1x1024, .f32⟩
  | .hbm, ⟨64, _⟩ => ⟨S2x31x256, .f32⟩
  | .hbm, ⟨65, _⟩ => ⟨S2x256, .f32⟩
  | .hbm, ⟨66, _⟩ => ⟨S2x256, .f32⟩
  | .hbm, ⟨67, _⟩ => ⟨S4x1024, .f32⟩
  | .hbm, ⟨68, _⟩ => ⟨S2x2048, .f32⟩
  | .hbm, ⟨69, _⟩ => ⟨S2x2048, .f32⟩
  | .hbm, ⟨70, _⟩ => ⟨S2x2048, .f32⟩
  | .hbm, ⟨71, _⟩ => ⟨S2x8x128x128, .f32⟩
  | .hbm, ⟨72, _⟩ => ⟨S2x8x128, .f32⟩
  | .hbm, ⟨73, _⟩ => ⟨S4x1024, .f32⟩
  | .hbm, ⟨74, _⟩ => ⟨S1x1024, .f32⟩
  | .hbm, ⟨75, _⟩ => ⟨S2x31x256, .f32⟩
  | .hbm, ⟨76, _⟩ => ⟨S2x256, .f32⟩
  | .hbm, ⟨77, _⟩ => ⟨S2x256, .f32⟩
  | .hbm, ⟨78, _⟩ => ⟨S4x1024, .f32⟩
  | .hbm, ⟨79, _⟩ => ⟨S2x2048, .f32⟩
  | .hbm, ⟨80, _⟩ => ⟨S2x2048, .f32⟩
  | .hbm, ⟨81, _⟩ => ⟨S2x2048, .f32⟩
  | .hbm, ⟨82, _⟩ => ⟨S2x8x128x128, .f32⟩
  | .hbm, ⟨83, _⟩ => ⟨S2x8x128, .f32⟩
  | .hbm, ⟨84, _⟩ => ⟨S4x1024, .f32⟩
  | .hbm, ⟨85, _⟩ => ⟨S1x1024, .f32⟩
  | .hbm, ⟨86, _⟩ => ⟨S2x31x256, .f32⟩
  | .hbm, ⟨87, _⟩ => ⟨S2x256, .f32⟩
  | .hbm, ⟨88, _⟩ => ⟨S2x256, .f32⟩
  | .hbm, ⟨89, _⟩ => ⟨S8x128, .f32⟩
  | .local _ .vmem, ⟨0, _⟩ => ⟨S8x4x1024, .f32⟩
  | .local _ .vmem, ⟨1, _⟩ => ⟨S8x2x2048, .f32⟩
  | .local _ .vmem, ⟨2, _⟩ => ⟨S8x2x2048, .f32⟩
  | .local _ .vmem, ⟨3, _⟩ => ⟨S8x2x2048, .f32⟩
  | .local _ .vmem, ⟨4, _⟩ => ⟨S8x2x8x128x128, .f32⟩
  | .local _ .vmem, ⟨5, _⟩ => ⟨S8x2x8x128, .f32⟩
  | .local _ .vmem, ⟨6, _⟩ => ⟨S8x4x1024, .f32⟩
  | .local _ .vmem, ⟨7, _⟩ => ⟨S8x1x1024, .f32⟩
  | .local _ .vmem, ⟨8, _⟩ => ⟨S8x2x31x256, .f32⟩
  | .local _ .vmem, ⟨9, _⟩ => ⟨S8x2x256, .f32⟩
  | .local _ .vmem, ⟨10, _⟩ => ⟨S8x2x256, .f32⟩
  | .local _ .vmem, ⟨11, _⟩ => ⟨S4x1024, .f32⟩
  | .local _ .vmem, ⟨12, _⟩ => ⟨S2x2048, .f32⟩
  | .local _ .vmem, ⟨13, _⟩ => ⟨S2x2048, .f32⟩
  | .local _ .vmem, ⟨14, _⟩ => ⟨S2x2048, .f32⟩
  | .local _ .vmem, ⟨15, _⟩ => ⟨S2x8x128x128, .f32⟩
  | .local _ .vmem, ⟨16, _⟩ => ⟨S2x8x128, .f32⟩
  | .local _ .vmem, ⟨17, _⟩ => ⟨S4x1024, .f32⟩
  | .local _ .vmem, ⟨18, _⟩ => ⟨S1x1024, .f32⟩
  | .local _ .vmem, ⟨19, _⟩ => ⟨S2x31x256, .f32⟩
  | .local _ .vmem, ⟨20, _⟩ => ⟨S2x256, .f32⟩
  | .local _ .vmem, ⟨21, _⟩ => ⟨S2x256, .f32⟩
  | .local _ .vmem, ⟨22, _⟩ => ⟨S4x1024, .f32⟩
  | .local _ .vmem, ⟨23, _⟩ => ⟨S2x2048, .f32⟩
  | .local _ .vmem, ⟨24, _⟩ => ⟨S2x2048, .f32⟩
  | .local _ .vmem, ⟨25, _⟩ => ⟨S2x2048, .f32⟩
  | .local _ .vmem, ⟨26, _⟩ => ⟨S2x8x128x128, .f32⟩
  | .local _ .vmem, ⟨27, _⟩ => ⟨S2x8x128, .f32⟩
  | .local _ .vmem, ⟨28, _⟩ => ⟨S4x1024, .f32⟩
  | .local _ .vmem, ⟨29, _⟩ => ⟨S1x1024, .f32⟩
  | .local _ .vmem, ⟨30, _⟩ => ⟨S2x31x256, .f32⟩
  | .local _ .vmem, ⟨31, _⟩ => ⟨S2x256, .f32⟩
  | .local _ .vmem, ⟨32, _⟩ => ⟨S2x256, .f32⟩
  | .local _ .vmem, ⟨33, _⟩ => ⟨S4x1024, .f32⟩
  | .local _ .vmem, ⟨34, _⟩ => ⟨S2x2048, .f32⟩
  | .local _ .vmem, ⟨35, _⟩ => ⟨S2x2048, .f32⟩
  | .local _ .vmem, ⟨36, _⟩ => ⟨S2x2048, .f32⟩
  | .local _ .vmem, ⟨37, _⟩ => ⟨S2x8x128x128, .f32⟩
  | .local _ .vmem, ⟨38, _⟩ => ⟨S2x8x128, .f32⟩
  | .local _ .vmem, ⟨39, _⟩ => ⟨S4x1024, .f32⟩
  | .local _ .vmem, ⟨40, _⟩ => ⟨S1x1024, .f32⟩
  | .local _ .vmem, ⟨41, _⟩ => ⟨S2x31x256, .f32⟩
  | .local _ .vmem, ⟨42, _⟩ => ⟨S2x256, .f32⟩
  | .local _ .vmem, ⟨43, _⟩ => ⟨S2x256, .f32⟩
  | .local _ .vmem, ⟨44, _⟩ => ⟨S8x8x128, .f32⟩
  | .local _ .vmem, ⟨45, _⟩ => ⟨S4x1024, .f32⟩
  | .local _ .vmem, ⟨46, _⟩ => ⟨S2x2048, .f32⟩
  | .local _ .vmem, ⟨47, _⟩ => ⟨S2x2048, .f32⟩
  | .local _ .vmem, ⟨48, _⟩ => ⟨S2x2048, .f32⟩
  | .local _ .vmem, ⟨49, _⟩ => ⟨S2x8x128x128, .f32⟩
  | .local _ .vmem, ⟨50, _⟩ => ⟨S2x8x128, .f32⟩
  | .local _ .vmem, ⟨51, _⟩ => ⟨S4x1024, .f32⟩
  | .local _ .vmem, ⟨52, _⟩ => ⟨S1x1024, .f32⟩
  | .local _ .vmem, ⟨53, _⟩ => ⟨S2x31x256, .f32⟩
  | .local _ .vmem, ⟨54, _⟩ => ⟨S2x256, .f32⟩
  | .local _ .vmem, ⟨55, _⟩ => ⟨S2x256, .f32⟩
  | .local _ .vmem, ⟨56, _⟩ => ⟨S4x1024, .f32⟩
  | .local _ .vmem, ⟨57, _⟩ => ⟨S2x2048, .f32⟩
  | .local _ .vmem, ⟨58, _⟩ => ⟨S2x2048, .f32⟩
  | .local _ .vmem, ⟨59, _⟩ => ⟨S2x2048, .f32⟩
  | .local _ .vmem, ⟨60, _⟩ => ⟨S2x8x128x128, .f32⟩
  | .local _ .vmem, ⟨61, _⟩ => ⟨S2x8x128, .f32⟩
  | .local _ .vmem, ⟨62, _⟩ => ⟨S4x1024, .f32⟩
  | .local _ .vmem, ⟨63, _⟩ => ⟨S1x1024, .f32⟩
  | .local _ .vmem, ⟨64, _⟩ => ⟨S2x31x256, .f32⟩
  | .local _ .vmem, ⟨65, _⟩ => ⟨S2x256, .f32⟩
  | .local _ .vmem, ⟨66, _⟩ => ⟨S2x256, .f32⟩
  | .local _ .vmem, ⟨67, _⟩ => ⟨S4x1024, .f32⟩
  | .local _ .vmem, ⟨68, _⟩ => ⟨S2x2048, .f32⟩
  | .local _ .vmem, ⟨69, _⟩ => ⟨S2x2048, .f32⟩
  | .local _ .vmem, ⟨70, _⟩ => ⟨S2x2048, .f32⟩
  | .local _ .vmem, ⟨71, _⟩ => ⟨S2x8x128x128, .f32⟩
  | .local _ .vmem, ⟨72, _⟩ => ⟨S2x8x128, .f32⟩
  | .local _ .vmem, ⟨73, _⟩ => ⟨S4x1024, .f32⟩
  | .local _ .vmem, ⟨74, _⟩ => ⟨S1x1024, .f32⟩
  | .local _ .vmem, ⟨75, _⟩ => ⟨S2x31x256, .f32⟩
  | .local _ .vmem, ⟨76, _⟩ => ⟨S2x256, .f32⟩
  | .local _ .vmem, ⟨77, _⟩ => ⟨S2x256, .f32⟩
  | .local _ .vmem, ⟨78, _⟩ => ⟨S4x1024, .f32⟩
  | .local _ .vmem, ⟨79, _⟩ => ⟨S2x2048, .f32⟩
  | .local _ .vmem, ⟨80, _⟩ => ⟨S2x2048, .f32⟩
  | .local _ .vmem, ⟨81, _⟩ => ⟨S2x2048, .f32⟩
  | .local _ .vmem, ⟨82, _⟩ => ⟨S2x8x128x128, .f32⟩
  | .local _ .vmem, ⟨83, _⟩ => ⟨S2x8x128, .f32⟩
  | .local _ .vmem, ⟨84, _⟩ => ⟨S4x1024, .f32⟩
  | .local _ .vmem, ⟨85, _⟩ => ⟨S1x1024, .f32⟩
  | .local _ .vmem, ⟨86, _⟩ => ⟨S2x31x256, .f32⟩
  | .local _ .vmem, ⟨87, _⟩ => ⟨S2x256, .f32⟩
  | .local _ .vmem, ⟨88, _⟩ => ⟨S2x256, .f32⟩
  | .local _ .vmem, ⟨89, _⟩ => ⟨S8x128, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_v0_0 : Ref sig .tc := ⟨.hbm, 45, rfl⟩
abbrev main_v0_1 : Ref sig .tc := ⟨.hbm, 46, rfl⟩
abbrev main_v0_2 : Ref sig .tc := ⟨.hbm, 47, rfl⟩
abbrev main_v0_3 : Ref sig .tc := ⟨.hbm, 48, rfl⟩
abbrev main_v0_4 : Ref sig .tc := ⟨.hbm, 49, rfl⟩
abbrev main_v0_5 : Ref sig .tc := ⟨.hbm, 50, rfl⟩
abbrev main_v0_6 : Ref sig .tc := ⟨.hbm, 51, rfl⟩
abbrev main_v0_7 : Ref sig .tc := ⟨.hbm, 52, rfl⟩
abbrev main_v0_8 : Ref sig .tc := ⟨.hbm, 53, rfl⟩
abbrev main_v0_9 : Ref sig .tc := ⟨.hbm, 54, rfl⟩
abbrev main_v0_10 : Ref sig .tc := ⟨.hbm, 55, rfl⟩
abbrev main_v0_11 : Ref sig .tc := ⟨.hbm, 56, rfl⟩
abbrev main_v0_12 : Ref sig .tc := ⟨.hbm, 57, rfl⟩
abbrev main_v0_13 : Ref sig .tc := ⟨.hbm, 58, rfl⟩
abbrev main_v0_14 : Ref sig .tc := ⟨.hbm, 59, rfl⟩
abbrev main_v0_15 : Ref sig .tc := ⟨.hbm, 60, rfl⟩
abbrev main_v0_16 : Ref sig .tc := ⟨.hbm, 61, rfl⟩
abbrev main_v0_17 : Ref sig .tc := ⟨.hbm, 62, rfl⟩
abbrev main_v0_18 : Ref sig .tc := ⟨.hbm, 63, rfl⟩
abbrev main_v0_19 : Ref sig .tc := ⟨.hbm, 64, rfl⟩
abbrev main_v0_20 : Ref sig .tc := ⟨.hbm, 65, rfl⟩
abbrev main_v0_21 : Ref sig .tc := ⟨.hbm, 66, rfl⟩
abbrev main_v0_22 : Ref sig .tc := ⟨.hbm, 67, rfl⟩
abbrev main_v0_23 : Ref sig .tc := ⟨.hbm, 68, rfl⟩
abbrev main_v0_24 : Ref sig .tc := ⟨.hbm, 69, rfl⟩
abbrev main_v0_25 : Ref sig .tc := ⟨.hbm, 70, rfl⟩
abbrev main_v0_26 : Ref sig .tc := ⟨.hbm, 71, rfl⟩
abbrev main_v0_27 : Ref sig .tc := ⟨.hbm, 72, rfl⟩
abbrev main_v0_28 : Ref sig .tc := ⟨.hbm, 73, rfl⟩
abbrev main_v0_29 : Ref sig .tc := ⟨.hbm, 74, rfl⟩
abbrev main_v0_30 : Ref sig .tc := ⟨.hbm, 75, rfl⟩
abbrev main_v0_31 : Ref sig .tc := ⟨.hbm, 76, rfl⟩
abbrev main_v0_32 : Ref sig .tc := ⟨.hbm, 77, rfl⟩
abbrev main_v0_33 : Ref sig .tc := ⟨.hbm, 78, rfl⟩
abbrev main_v0_34 : Ref sig .tc := ⟨.hbm, 79, rfl⟩
abbrev main_v0_35 : Ref sig .tc := ⟨.hbm, 80, rfl⟩
abbrev main_v0_36 : Ref sig .tc := ⟨.hbm, 81, rfl⟩
abbrev main_v0_37 : Ref sig .tc := ⟨.hbm, 82, rfl⟩
abbrev main_v0_38 : Ref sig .tc := ⟨.hbm, 83, rfl⟩
abbrev main_v0_39 : Ref sig .tc := ⟨.hbm, 84, rfl⟩
abbrev main_v0_40 : Ref sig .tc := ⟨.hbm, 85, rfl⟩
abbrev main_v0_41 : Ref sig .tc := ⟨.hbm, 86, rfl⟩
abbrev main_v0_42 : Ref sig .tc := ⟨.hbm, 87, rfl⟩
abbrev main_v0_43 : Ref sig .tc := ⟨.hbm, 88, rfl⟩
abbrev main_v0_44 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89

abbrev nD : Nat := 1
abbrev τ : Topo := Topo.v7x

variable {F : FTy → Type} [FloatOps F]

abbrev grid0 : Pipeline.Grid := .none

abbrev stage0_0 : Fin 1 → Memref sig .tc .vmem S8x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2x31x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x2x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x31x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x8x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x8x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S4x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x31x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S4x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S2x2048 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x2048 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x2048 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x8x128x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x8x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S4x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x31x256 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S2x256 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x256 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S8x8x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S4x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S2x2048 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S2x2048 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S2x2048 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S2x8x128x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S2x8x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S4x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S2x31x256 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S2x256 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S2x256 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S4x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S2x2048 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S2x2048 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S2x2048 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S2x8x128x128 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S2x8x128 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S4x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S2x31x256 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S2x256 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S2x256 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S4x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S2x2048 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S2x2048 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S2x2048 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S2x8x128x128 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S2x8x128 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S4x1024 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S1x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S2x31x256 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S2x256 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S2x256 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S4x1024 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S2x2048 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S2x2048 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S2x2048 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S2x8x128x128 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S2x8x128 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S4x1024 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S1x1024 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S2x31x256 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S2x256 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S2x256 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S8x128 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))
-- ==== AdsRIdeal.lean ====
abbrev S8x4x1024 : Shape := ⟨3, ![8, 4, 1024]⟩
abbrev S8x2x2048 : Shape := ⟨3, ![8, 2, 2048]⟩
abbrev S8x2x8x128x128 : Shape := ⟨5, ![8, 2, 8, 128, 128]⟩
abbrev S8x2x8x128 : Shape := ⟨4, ![8, 2, 8, 128]⟩
abbrev S8x1x1024 : Shape := ⟨3, ![8, 1, 1024]⟩
abbrev S8x2x31x256 : Shape := ⟨4, ![8, 2, 31, 256]⟩
abbrev S8x2x256 : Shape := ⟨3, ![8, 2, 256]⟩
abbrev S4x1024 : Shape := ⟨2, ![4, 1024]⟩
abbrev S2x2048 : Shape := ⟨2, ![2, 2048]⟩
abbrev S2x8x128x128 : Shape := ⟨4, ![2, 8, 128, 128]⟩
abbrev S2x8x128 : Shape := ⟨3, ![2, 8, 128]⟩
abbrev S1x1024 : Shape := ⟨2, ![1, 1024]⟩
abbrev S2x31x256 : Shape := ⟨3, ![2, 31, 256]⟩
abbrev S2x256 : Shape := ⟨2, ![2, 256]⟩
abbrev S8x8x128 : Shape := ⟨3, ![8, 8, 128]⟩
abbrev S_ : Shape := ⟨0, ![]⟩
abbrev S8x128 : Shape := ⟨2, ![8, 128]⟩

abbrev nBuf : Space → Nat
  | .hbm => 432
  | .vmem => 0
  | .smem => 0
  | _ => 0

abbrev hbmTy0_0 (i : Nat) : BufTy := match i % 128 with
  | 0 => ⟨S8x4x1024, .f32⟩
  | 1 => ⟨S8x2x2048, .f32⟩
  | 2 => ⟨S8x2x2048, .f32⟩
  | 3 => ⟨S8x2x2048, .f32⟩
  | 4 => ⟨S8x2x8x128x128, .f32⟩
  | 5 => ⟨S8x2x8x128, .f32⟩
  | 6 => ⟨S8x4x1024, .f32⟩
  | 7 => ⟨S8x1x1024, .f32⟩
  | 8 => ⟨S8x2x31x256, .f32⟩
  | 9 => ⟨S8x2x256, .f32⟩
  | 10 => ⟨S8x2x256, .f32⟩
  | 11 => ⟨S4x1024, .f32⟩
  | 12 => ⟨S2x2048, .f32⟩
  | 13 => ⟨S2x2048, .f32⟩
  | 14 => ⟨S2x2048, .f32⟩
  | 15 => ⟨S2x8x128x128, .f32⟩
  | 16 => ⟨S2x8x128, .f32⟩
  | 17 => ⟨S4x1024, .f32⟩
  | 18 => ⟨S1x1024, .f32⟩
  | 19 => ⟨S2x31x256, .f32⟩
  | 20 => ⟨S2x256, .f32⟩
  | 21 => ⟨S2x256, .f32⟩
  | 22 => ⟨S4x1024, .f32⟩
  | 23 => ⟨S2x2048, .f32⟩
  | 24 => ⟨S2x2048, .f32⟩
  | 25 => ⟨S2x2048, .f32⟩
  | 26 => ⟨S2x8x128x128, .f32⟩
  | 27 => ⟨S2x8x128, .f32⟩
  | 28 => ⟨S4x1024, .f32⟩
  | 29 => ⟨S1x1024, .f32⟩
  | 30 => ⟨S2x31x256, .f32⟩
  | 31 => ⟨S2x256, .f32⟩
  | 32 => ⟨S2x256, .f32⟩
  | 33 => ⟨S4x1024, .f32⟩
  | 34 => ⟨S2x2048, .f32⟩
  | 35 => ⟨S2x2048, .f32⟩
  | 36 => ⟨S2x2048, .f32⟩
  | 37 => ⟨S2x8x128x128, .f32⟩
  | 38 => ⟨S2x8x128, .f32⟩
  | 39 => ⟨S4x1024, .f32⟩
  | 40 => ⟨S1x1024, .f32⟩
  | 41 => ⟨S2x31x256, .f32⟩
  | 42 => ⟨S2x256, .f32⟩
  | 43 => ⟨S2x256, .f32⟩
  | 44 => ⟨S8x8x128, .f32⟩
  | 45 => ⟨S_, .f32⟩
  | 46 => ⟨S4x1024, .f32⟩
  | 47 => ⟨S_, .f32⟩
  | 48 => ⟨S2x2048, .f32⟩
  | 49 => ⟨S_, .f32⟩
  | 50 => ⟨S2x2048, .f32⟩
  | 51 => ⟨S_, .f32⟩
  | 52 => ⟨S2x2048, .f32⟩
  | 53 => ⟨S_, .f32⟩
  | 54 => ⟨S2x8x128x128, .f32⟩
  | 55 => ⟨S_, .f32⟩
  | 56 => ⟨S2x8x128, .f32⟩
  | 57 => ⟨S_, .f32⟩
  | 58 => ⟨S4x1024, .f32⟩
  | 59 => ⟨S_, .f32⟩
  | 60 => ⟨S1x1024, .f32⟩
  | 61 => ⟨S_, .f32⟩
  | 62 => ⟨S2x31x256, .f32⟩
  | 63 => ⟨S_, .f32⟩
  | 64 => ⟨S2x256, .f32⟩
  | 65 => ⟨S_, .f32⟩
  | 66 => ⟨S2x256, .f32⟩
  | 67 => ⟨S_, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S_, .f32⟩
  | 86 => ⟨S4x1024, .f32⟩
  | 87 => ⟨S4x1024, .f32⟩
  | 88 => ⟨S4x1024, .f32⟩
  | 89 => ⟨S_, .f32⟩
  | 90 => ⟨S4x1024, .f32⟩
  | 91 => ⟨S4x1024, .f32⟩
  | 92 => ⟨S4x1024, .f32⟩
  | 93 => ⟨S_, .f32⟩
  | 94 => ⟨S4x1024, .f32⟩
  | 95 => ⟨S4x1024, .f32⟩
  | 96 => ⟨S4x1024, .f32⟩
  | 97 => ⟨S_, .f32⟩
  | 98 => ⟨S4x1024, .f32⟩
  | 99 => ⟨S4x1024, .f32⟩
  | 100 => ⟨S_, .f32⟩
  | 101 => ⟨S2x2048, .f32⟩
  | 102 => ⟨S2x2048, .f32⟩
  | 103 => ⟨S_, .f32⟩
  | 104 => ⟨S2x2048, .f32⟩
  | 105 => ⟨S2x2048, .f32⟩
  | 106 => ⟨S2x2048, .f32⟩
  | 107 => ⟨S_, .f32⟩
  | 108 => ⟨S2x2048, .f32⟩
  | 109 => ⟨S2x2048, .f32⟩
  | 110 => ⟨S2x2048, .f32⟩
  | 111 => ⟨S_, .f32⟩
  | 112 => ⟨S2x2048, .f32⟩
  | 113 => ⟨S2x2048, .f32⟩
  | 114 => ⟨S2x2048, .f32⟩
  | 115 => ⟨S_, .f32⟩
  | 116 => ⟨S2x2048, .f32⟩
  | 117 => ⟨S2x2048, .f32⟩
  | 118 => ⟨S_, .f32⟩
  | 119 => ⟨S2x2048, .f32⟩
  | 120 => ⟨S2x2048, .f32⟩
  | 121 => ⟨S2x2048, .f32⟩
  | 122 => ⟨S_, .f32⟩
  | 123 => ⟨S2x2048, .f32⟩
  | 124 => ⟨S2x2048, .f32⟩
  | 125 => ⟨S2x2048, .f32⟩
  | 126 => ⟨S_, .f32⟩
  | 127 => ⟨S2x2048, .f32⟩
  | _ => ⟨S8x4x1024, .f32⟩

abbrev hbmTy0_1 (i : Nat) : BufTy := match i % 128 with
  | 0 => ⟨S2x2048, .f32⟩
  | 1 => ⟨S2x2048, .f32⟩
  | 2 => ⟨S_, .f32⟩
  | 3 => ⟨S2x2048, .f32⟩
  | 4 => ⟨S2x2048, .f32⟩
  | 5 => ⟨S_, .f32⟩
  | 6 => ⟨S2x2048, .f32⟩
  | 7 => ⟨S2x2048, .f32⟩
  | 8 => ⟨S_, .f32⟩
  | 9 => ⟨S2x2048, .f32⟩
  | 10 => ⟨S2x2048, .f32⟩
  | 11 => ⟨S2x2048, .f32⟩
  | 12 => ⟨S_, .f32⟩
  | 13 => ⟨S2x2048, .f32⟩
  | 14 => ⟨S2x2048, .f32⟩
  | 15 => ⟨S2x2048, .f32⟩
  | 16 => ⟨S_, .f32⟩
  | 17 => ⟨S2x2048, .f32⟩
  | 18 => ⟨S2x2048, .f32⟩
  | 19 => ⟨S2x2048, .f32⟩
  | 20 => ⟨S_, .f32⟩
  | 21 => ⟨S2x2048, .f32⟩
  | 22 => ⟨S2x2048, .f32⟩
  | 23 => ⟨S_, .f32⟩
  | 24 => ⟨S2x2048, .f32⟩
  | 25 => ⟨S2x2048, .f32⟩
  | 26 => ⟨S2x2048, .f32⟩
  | 27 => ⟨S_, .f32⟩
  | 28 => ⟨S2x2048, .f32⟩
  | 29 => ⟨S2x2048, .f32⟩
  | 30 => ⟨S2x2048, .f32⟩
  | 31 => ⟨S_, .f32⟩
  | 32 => ⟨S2x2048, .f32⟩
  | 33 => ⟨S2x2048, .f32⟩
  | 34 => ⟨S2x2048, .f32⟩
  | 35 => ⟨S_, .f32⟩
  | 36 => ⟨S2x2048, .f32⟩
  | 37 => ⟨S2x2048, .f32⟩
  | 38 => ⟨S_, .f32⟩
  | 39 => ⟨S2x2048, .f32⟩
  | 40 => ⟨S2x2048, .f32⟩
  | 41 => ⟨S_, .f32⟩
  | 42 => ⟨S2x2048, .f32⟩
  | 43 => ⟨S2x2048, .f32⟩
  | 44 => ⟨S2x2048, .f32⟩
  | 45 => ⟨S_, .f32⟩
  | 46 => ⟨S2x2048, .f32⟩
  | 47 => ⟨S2x2048, .f32⟩
  | 48 => ⟨S2x2048, .f32⟩
  | 49 => ⟨S_, .f32⟩
  | 50 => ⟨S2x2048, .f32⟩
  | 51 => ⟨S2x2048, .f32⟩
  | 52 => ⟨S2x2048, .f32⟩
  | 53 => ⟨S_, .f32⟩
  | 54 => ⟨S2x2048, .f32⟩
  | 55 => ⟨S2x2048, .f32⟩
  | 56 => ⟨S_, .f32⟩
  | 57 => ⟨S2x2048, .f32⟩
  | 58 => ⟨S2x2048, .f32⟩
  | 59 => ⟨S2x2048, .f32⟩
  | 60 => ⟨S_, .f32⟩
  | 61 => ⟨S2x2048, .f32⟩
  | 62 => ⟨S2x2048, .f32⟩
  | 63 => ⟨S2x2048, .f32⟩
  | 64 => ⟨S_, .f32⟩
  | 65 => ⟨S2x2048, .f32⟩
  | 66 => ⟨S2x2048, .f32⟩
  | 67 => ⟨S2x2048, .f32⟩
  | 68 => ⟨S_, .f32⟩
  | 69 => ⟨S2x2048, .f32⟩
  | 70 => ⟨S2x2048, .f32⟩
  | 71 => ⟨S_, .f32⟩
  | 72 => ⟨S2x8x128x128, .f32⟩
  | 73 => ⟨S2x8x128x128, .f32⟩
  | 74 => ⟨S_, .f32⟩
  | 75 => ⟨S2x8x128x128, .f32⟩
  | 76 => ⟨S2x8x128x128, .f32⟩
  | 77 => ⟨S2x8x128x128, .f32⟩
  | 78 => ⟨S_, .f32⟩
  | 79 => ⟨S2x8x128x128, .f32⟩
  | 80 => ⟨S2x8x128x128, .f32⟩
  | 81 => ⟨S2x8x128x128, .f32⟩
  | 82 => ⟨S_, .f32⟩
  | 83 => ⟨S2x8x128x128, .f32⟩
  | 84 => ⟨S2x8x128x128, .f32⟩
  | 85 => ⟨S2x8x128x128, .f32⟩
  | 86 => ⟨S_, .f32⟩
  | 87 => ⟨S2x8x128x128, .f32⟩
  | 88 => ⟨S2x8x128x128, .f32⟩
  | 89 => ⟨S_, .f32⟩
  | 90 => ⟨S2x8x128x128, .f32⟩
  | 91 => ⟨S2x8x128x128, .f32⟩
  | 92 => ⟨S2x8x128x128, .f32⟩
  | 93 => ⟨S_, .f32⟩
  | 94 => ⟨S2x8x128x128, .f32⟩
  | 95 => ⟨S2x8x128x128, .f32⟩
  | 96 => ⟨S2x8x128x128, .f32⟩
  | 97 => ⟨S_, .f32⟩
  | 98 => ⟨S2x8x128x128, .f32⟩
  | 99 => ⟨S2x8x128x128, .f32⟩
  | 100 => ⟨S2x8x128x128, .f32⟩
  | 101 => ⟨S_, .f32⟩
  | 102 => ⟨S2x8x128x128, .f32⟩
  | 103 => ⟨S2x8x128x128, .f32⟩
  | 104 => ⟨S_, .f32⟩
  | 105 => ⟨S2x8x128, .f32⟩
  | 106 => ⟨S2x8x128, .f32⟩
  | 107 => ⟨S_, .f32⟩
  | 108 => ⟨S2x8x128, .f32⟩
  | 109 => ⟨S2x8x128, .f32⟩
  | 110 => ⟨S2x8x128, .f32⟩
  | 111 => ⟨S_, .f32⟩
  | 112 => ⟨S2x8x128, .f32⟩
  | 113 => ⟨S2x8x128, .f32⟩
  | 114 => ⟨S2x8x128, .f32⟩
  | 115 => ⟨S_, .f32⟩
  | 116 => ⟨S2x8x128, .f32⟩
  | 117 => ⟨S2x8x128, .f32⟩
  | 118 => ⟨S2x8x128, .f32⟩
  | 119 => ⟨S_, .f32⟩
  | 120 => ⟨S2x8x128, .f32⟩
  | 121 => ⟨S2x8x128, .f32⟩
  | 122 => ⟨S_, .f32⟩
  | 123 => ⟨S2x8x128, .f32⟩
  | 124 => ⟨S2x8x128, .f32⟩
  | 125 => ⟨S2x8x128, .f32⟩
  | 126 => ⟨S_, .f32⟩
  | 127 => ⟨S2x8x128, .f32⟩
  | _ => ⟨S8x4x1024, .f32⟩

abbrev hbmTy0_2 (i : Nat) : BufTy := match i % 128 with
  | 0 => ⟨S2x8x128, .f32⟩
  | 1 => ⟨S2x8x128, .f32⟩
  | 2 => ⟨S_, .f32⟩
  | 3 => ⟨S2x8x128, .f32⟩
  | 4 => ⟨S2x8x128, .f32⟩
  | 5 => ⟨S2x8x128, .f32⟩
  | 6 => ⟨S_, .f32⟩
  | 7 => ⟨S2x8x128, .f32⟩
  | 8 => ⟨S2x8x128, .f32⟩
  | 9 => ⟨S_, .f32⟩
  | 10 => ⟨S4x1024, .f32⟩
  | 11 => ⟨S4x1024, .f32⟩
  | 12 => ⟨S_, .f32⟩
  | 13 => ⟨S4x1024, .f32⟩
  | 14 => ⟨S4x1024, .f32⟩
  | 15 => ⟨S4x1024, .f32⟩
  | 16 => ⟨S_, .f32⟩
  | 17 => ⟨S4x1024, .f32⟩
  | 18 => ⟨S4x1024, .f32⟩
  | 19 => ⟨S4x1024, .f32⟩
  | 20 => ⟨S_, .f32⟩
  | 21 => ⟨S4x1024, .f32⟩
  | 22 => ⟨S4x1024, .f32⟩
  | 23 => ⟨S4x1024, .f32⟩
  | 24 => ⟨S_, .f32⟩
  | 25 => ⟨S4x1024, .f32⟩
  | 26 => ⟨S4x1024, .f32⟩
  | 27 => ⟨S_, .f32⟩
  | 28 => ⟨S4x1024, .f32⟩
  | 29 => ⟨S4x1024, .f32⟩
  | 30 => ⟨S4x1024, .f32⟩
  | 31 => ⟨S_, .f32⟩
  | 32 => ⟨S4x1024, .f32⟩
  | 33 => ⟨S4x1024, .f32⟩
  | 34 => ⟨S4x1024, .f32⟩
  | 35 => ⟨S_, .f32⟩
  | 36 => ⟨S4x1024, .f32⟩
  | 37 => ⟨S4x1024, .f32⟩
  | 38 => ⟨S4x1024, .f32⟩
  | 39 => ⟨S_, .f32⟩
  | 40 => ⟨S4x1024, .f32⟩
  | 41 => ⟨S4x1024, .f32⟩
  | 42 => ⟨S_, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S2x31x256, .f32⟩
  | 77 => ⟨S2x31x256, .f32⟩
  | 78 => ⟨S_, .f32⟩
  | 79 => ⟨S2x31x256, .f32⟩
  | 80 => ⟨S2x31x256, .f32⟩
  | 81 => ⟨S2x31x256, .f32⟩
  | 82 => ⟨S_, .f32⟩
  | 83 => ⟨S2x31x256, .f32⟩
  | 84 => ⟨S2x31x256, .f32⟩
  | 85 => ⟨S2x31x256, .f32⟩
  | 86 => ⟨S_, .f32⟩
  | 87 => ⟨S2x31x256, .f32⟩
  | 88 => ⟨S2x31x256, .f32⟩
  | 89 => ⟨S2x31x256, .f32⟩
  | 90 => ⟨S_, .f32⟩
  | 91 => ⟨S2x31x256, .f32⟩
  | 92 => ⟨S2x31x256, .f32⟩
  | 93 => ⟨S_, .f32⟩
  | 94 => ⟨S2x31x256, .f32⟩
  | 95 => ⟨S2x31x256, .f32⟩
  | 96 => ⟨S2x31x256, .f32⟩
  | 97 => ⟨S_, .f32⟩
  | 98 => ⟨S2x31x256, .f32⟩
  | 99 => ⟨S2x31x256, .f32⟩
  | 100 => ⟨S2x31x256, .f32⟩
  | 101 => ⟨S_, .f32⟩
  | 102 => ⟨S2x31x256, .f32⟩
  | 103 => ⟨S2x31x256, .f32⟩
  | 104 => ⟨S2x31x256, .f32⟩
  | 105 => ⟨S_, .f32⟩
  | 106 => ⟨S2x31x256, .f32⟩
  | 107 => ⟨S2x31x256, .f32⟩
  | 108 => ⟨S_, .f32⟩
  | 109 => ⟨S2x256, .f32⟩
  | 110 => ⟨S2x256, .f32⟩
  | 111 => ⟨S_, .f32⟩
  | 112 => ⟨S2x256, .f32⟩
  | 113 => ⟨S2x256, .f32⟩
  | 114 => ⟨S2x256, .f32⟩
  | 115 => ⟨S_, .f32⟩
  | 116 => ⟨S2x256, .f32⟩
  | 117 => ⟨S2x256, .f32⟩
  | 118 => ⟨S2x256, .f32⟩
  | 119 => ⟨S_, .f32⟩
  | 120 => ⟨S2x256, .f32⟩
  | 121 => ⟨S2x256, .f32⟩
  | 122 => ⟨S2x256, .f32⟩
  | 123 => ⟨S_, .f32⟩
  | 124 => ⟨S2x256, .f32⟩
  | 125 => ⟨S2x256, .f32⟩
  | 126 => ⟨S_, .f32⟩
  | 127 => ⟨S2x256, .f32⟩
  | _ => ⟨S8x4x1024, .f32⟩

abbrev hbmTy0_3 (i : Nat) : BufTy := match i % 128 with
  | 0 => ⟨S2x256, .f32⟩
  | 1 => ⟨S2x256, .f32⟩
  | 2 => ⟨S_, .f32⟩
  | 3 => ⟨S2x256, .f32⟩
  | 4 => ⟨S2x256, .f32⟩
  | 5 => ⟨S2x256, .f32⟩
  | 6 => ⟨S_, .f32⟩
  | 7 => ⟨S2x256, .f32⟩
  | 8 => ⟨S2x256, .f32⟩
  | 9 => ⟨S2x256, .f32⟩
  | 10 => ⟨S_, .f32⟩
  | 11 => ⟨S2x256, .f32⟩
  | 12 => ⟨S2x256, .f32⟩
  | 13 => ⟨S_, .f32⟩
  | 14 => ⟨S2x256, .f32⟩
  | 15 => ⟨S2x256, .f32⟩
  | 16 => ⟨S_, .f32⟩
  | 17 => ⟨S2x256, .f32⟩
  | 18 => ⟨S2x256, .f32⟩
  | 19 => ⟨S2x256, .f32⟩
  | 20 => ⟨S_, .f32⟩
  | 21 => ⟨S2x256, .f32⟩
  | 22 => ⟨S2x256, .f32⟩
  | 23 => ⟨S2x256, .f32⟩
  | 24 => ⟨S_, .f32⟩
  | 25 => ⟨S2x256, .f32⟩
  | 26 => ⟨S2x256, .f32⟩
  | 27 => ⟨S2x256, .f32⟩
  | 28 => ⟨S_, .f32⟩
  | 29 => ⟨S2x256, .f32⟩
  | 30 => ⟨S2x256, .f32⟩
  | 31 => ⟨S_, .f32⟩
  | 32 => ⟨S2x256, .f32⟩
  | 33 => ⟨S2x256, .f32⟩
  | 34 => ⟨S2x256, .f32⟩
  | 35 => ⟨S_, .f32⟩
  | 36 => ⟨S2x256, .f32⟩
  | 37 => ⟨S2x256, .f32⟩
  | 38 => ⟨S2x256, .f32⟩
  | 39 => ⟨S_, .f32⟩
  | 40 => ⟨S2x256, .f32⟩
  | 41 => ⟨S2x256, .f32⟩
  | 42 => ⟨S2x256, .f32⟩
  | 43 => ⟨S_, .f32⟩
  | 44 => ⟨S2x256, .f32⟩
  | 45 => ⟨S2x256, .f32⟩
  | 46 => ⟨S_, .f32⟩
  | 47 => ⟨S8x128, .f32⟩
  | _ => ⟨S8x4x1024, .f32⟩

abbrev hbmTy (i : Nat) : BufTy := match i / 128 with
  | 0 => hbmTy0_0 i
  | 1 => hbmTy0_1 i
  | 2 => hbmTy0_2 i
  | 3 => hbmTy0_3 i
  | _ => ⟨S8x4x1024, .f32⟩

abbrev bufTy : (tb : Table) → Fin (tcTables nBuf tb) → BufTy
  | .hbm, ⟨i, _⟩ => hbmTy i
  | _, _ => ⟨S8x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_cst : Ref sig .tc := ⟨.hbm, 45, rfl⟩
abbrev main_v0 : Ref sig .tc := ⟨.hbm, 46, rfl⟩
abbrev main_cst_0 : Ref sig .tc := ⟨.hbm, 47, rfl⟩
abbrev main_v1 : Ref sig .tc := ⟨.hbm, 48, rfl⟩
abbrev main_cst_1 : Ref sig .tc := ⟨.hbm, 49, rfl⟩
abbrev main_v2 : Ref sig .tc := ⟨.hbm, 50, rfl⟩
abbrev main_cst_2 : Ref sig .tc := ⟨.hbm, 51, rfl⟩
abbrev main_v3 : Ref sig .tc := ⟨.hbm, 52, rfl⟩
abbrev main_cst_3 : Ref sig .tc := ⟨.hbm, 53, rfl⟩
abbrev main_v4 : Ref sig .tc := ⟨.hbm, 54, rfl⟩
abbrev main_cst_4 : Ref sig .tc := ⟨.hbm, 55, rfl⟩
abbrev main_v5 : Ref sig .tc := ⟨.hbm, 56, rfl⟩
abbrev main_cst_5 : Ref sig .tc := ⟨.hbm, 57, rfl⟩
abbrev main_v6 : Ref sig .tc := ⟨.hbm, 58, rfl⟩
abbrev main_cst_6 : Ref sig .tc := ⟨.hbm, 59, rfl⟩
abbrev main_v7 : Ref sig .tc := ⟨.hbm, 60, rfl⟩
abbrev main_cst_7 : Ref sig .tc := ⟨.hbm, 61, rfl⟩
abbrev main_v8 : Ref sig .tc := ⟨.hbm, 62, rfl⟩
abbrev main_cst_8 : Ref sig .tc := ⟨.hbm, 63, rfl⟩
abbrev main_v9 : Ref sig .tc := ⟨.hbm, 64, rfl⟩
abbrev main_cst_9 : Ref sig .tc := ⟨.hbm, 65, rfl⟩
abbrev main_v10 : Ref sig .tc := ⟨.hbm, 66, rfl⟩
abbrev main_cst_10 : Ref sig .tc := ⟨.hbm, 67, rfl⟩
abbrev main_v11 : Ref sig .tc := ⟨.hbm, 68, rfl⟩
abbrev main_v12 : Ref sig .tc := ⟨.hbm, 69, rfl⟩
abbrev main_cst_11 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_12 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_13 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_14 : Ref sig .tc := ⟨.hbm, 82, rfl⟩
abbrev main_v22 : Ref sig .tc := ⟨.hbm, 83, rfl⟩
abbrev main_v23 : Ref sig .tc := ⟨.hbm, 84, rfl⟩
abbrev main_cst_15 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_cst_16 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_cst_17 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_cst_18 : Ref sig .tc := ⟨.hbm, 97, rfl⟩
abbrev main_v33 : Ref sig .tc := ⟨.hbm, 98, rfl⟩
abbrev main_v34 : Ref sig .tc := ⟨.hbm, 99, rfl⟩
abbrev main_cst_19 : Ref sig .tc := ⟨.hbm, 100, rfl⟩
abbrev main_v35 : Ref sig .tc := ⟨.hbm, 101, rfl⟩
abbrev main_v36 : Ref sig .tc := ⟨.hbm, 102, rfl⟩
abbrev main_cst_20 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_21 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_22 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_23 : Ref sig .tc := ⟨.hbm, 115, rfl⟩
abbrev main_v46 : Ref sig .tc := ⟨.hbm, 116, rfl⟩
abbrev main_v47 : Ref sig .tc := ⟨.hbm, 117, rfl⟩
abbrev main_cst_24 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_cst_25 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_cst_26 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_cst_27 : Ref sig .tc := ⟨.hbm, 130, rfl⟩
abbrev main_v57 : Ref sig .tc := ⟨.hbm, 131, rfl⟩
abbrev main_v58 : Ref sig .tc := ⟨.hbm, 132, rfl⟩
abbrev main_cst_28 : Ref sig .tc := ⟨.hbm, 133, rfl⟩
abbrev main_v59 : Ref sig .tc := ⟨.hbm, 134, rfl⟩
abbrev main_v60 : Ref sig .tc := ⟨.hbm, 135, rfl⟩
abbrev main_cst_29 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_30 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_31 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_32 : Ref sig .tc := ⟨.hbm, 148, rfl⟩
abbrev main_v70 : Ref sig .tc := ⟨.hbm, 149, rfl⟩
abbrev main_v71 : Ref sig .tc := ⟨.hbm, 150, rfl⟩
abbrev main_cst_33 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_cst_34 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_cst_35 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_cst_36 : Ref sig .tc := ⟨.hbm, 163, rfl⟩
abbrev main_v81 : Ref sig .tc := ⟨.hbm, 164, rfl⟩
abbrev main_v82 : Ref sig .tc := ⟨.hbm, 165, rfl⟩
abbrev main_cst_37 : Ref sig .tc := ⟨.hbm, 166, rfl⟩
abbrev main_v83 : Ref sig .tc := ⟨.hbm, 167, rfl⟩
abbrev main_v84 : Ref sig .tc := ⟨.hbm, 168, rfl⟩
abbrev main_cst_38 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_39 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_40 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_41 : Ref sig .tc := ⟨.hbm, 181, rfl⟩
abbrev main_v94 : Ref sig .tc := ⟨.hbm, 182, rfl⟩
abbrev main_v95 : Ref sig .tc := ⟨.hbm, 183, rfl⟩
abbrev main_cst_42 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_cst_43 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_cst_44 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_cst_45 : Ref sig .tc := ⟨.hbm, 196, rfl⟩
abbrev main_v105 : Ref sig .tc := ⟨.hbm, 197, rfl⟩
abbrev main_v106 : Ref sig .tc := ⟨.hbm, 198, rfl⟩
abbrev main_cst_46 : Ref sig .tc := ⟨.hbm, 199, rfl⟩
abbrev main_v107 : Ref sig .tc := ⟨.hbm, 200, rfl⟩
abbrev main_v108 : Ref sig .tc := ⟨.hbm, 201, rfl⟩
abbrev main_cst_47 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_48 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_49 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_50 : Ref sig .tc := ⟨.hbm, 214, rfl⟩
abbrev main_v118 : Ref sig .tc := ⟨.hbm, 215, rfl⟩
abbrev main_v119 : Ref sig .tc := ⟨.hbm, 216, rfl⟩
abbrev main_cst_51 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_cst_52 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_cst_53 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_cst_54 : Ref sig .tc := ⟨.hbm, 229, rfl⟩
abbrev main_v129 : Ref sig .tc := ⟨.hbm, 230, rfl⟩
abbrev main_v130 : Ref sig .tc := ⟨.hbm, 231, rfl⟩
abbrev main_cst_55 : Ref sig .tc := ⟨.hbm, 232, rfl⟩
abbrev main_v131 : Ref sig .tc := ⟨.hbm, 233, rfl⟩
abbrev main_v132 : Ref sig .tc := ⟨.hbm, 234, rfl⟩
abbrev main_cst_56 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_57 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_58 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_59 : Ref sig .tc := ⟨.hbm, 247, rfl⟩
abbrev main_v142 : Ref sig .tc := ⟨.hbm, 248, rfl⟩
abbrev main_v143 : Ref sig .tc := ⟨.hbm, 249, rfl⟩
abbrev main_cst_60 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_cst_61 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_cst_62 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_cst_63 : Ref sig .tc := ⟨.hbm, 262, rfl⟩
abbrev main_v153 : Ref sig .tc := ⟨.hbm, 263, rfl⟩
abbrev main_v154 : Ref sig .tc := ⟨.hbm, 264, rfl⟩
abbrev main_cst_64 : Ref sig .tc := ⟨.hbm, 265, rfl⟩
abbrev main_v155 : Ref sig .tc := ⟨.hbm, 266, rfl⟩
abbrev main_v156 : Ref sig .tc := ⟨.hbm, 267, rfl⟩
abbrev main_cst_65 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_66 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_67 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_68 : Ref sig .tc := ⟨.hbm, 280, rfl⟩
abbrev main_v166 : Ref sig .tc := ⟨.hbm, 281, rfl⟩
abbrev main_v167 : Ref sig .tc := ⟨.hbm, 282, rfl⟩
abbrev main_cst_69 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_cst_70 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_cst_71 : Ref sig .tc := ⟨.hbm, 291, rfl⟩
abbrev main_v174 : Ref sig .tc := ⟨.hbm, 292, rfl⟩
abbrev main_v175 : Ref sig .tc := ⟨.hbm, 293, rfl⟩
abbrev main_v176 : Ref sig .tc := ⟨.hbm, 294, rfl⟩
abbrev main_cst_72 : Ref sig .tc := ⟨.hbm, 295, rfl⟩
abbrev main_v177 : Ref sig .tc := ⟨.hbm, 296, rfl⟩
abbrev main_v178 : Ref sig .tc := ⟨.hbm, 297, rfl⟩
abbrev main_cst_73 : Ref sig .tc := ⟨.hbm, 298, rfl⟩
abbrev main_v179 : Ref sig .tc := ⟨.hbm, 299, rfl⟩
abbrev main_v180 : Ref sig .tc := ⟨.hbm, 300, rfl⟩
abbrev main_cst_74 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_75 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_76 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_77 : Ref sig .tc := ⟨.hbm, 313, rfl⟩
abbrev main_v190 : Ref sig .tc := ⟨.hbm, 314, rfl⟩
abbrev main_v191 : Ref sig .tc := ⟨.hbm, 315, rfl⟩
abbrev main_cst_78 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_cst_79 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_cst_80 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_cst_81 : Ref sig .tc := ⟨.hbm, 328, rfl⟩
abbrev main_v201 : Ref sig .tc := ⟨.hbm, 329, rfl⟩
abbrev main_v202 : Ref sig .tc := ⟨.hbm, 330, rfl⟩
abbrev main_cst_82 : Ref sig .tc := ⟨.hbm, 331, rfl⟩
abbrev main_v203 : Ref sig .tc := ⟨.hbm, 332, rfl⟩
abbrev main_v204 : Ref sig .tc := ⟨.hbm, 333, rfl⟩
abbrev main_cst_83 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_84 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_85 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_86 : Ref sig .tc := ⟨.hbm, 346, rfl⟩
abbrev main_v214 : Ref sig .tc := ⟨.hbm, 347, rfl⟩
abbrev main_v215 : Ref sig .tc := ⟨.hbm, 348, rfl⟩
abbrev main_cst_87 : Ref sig .tc := ⟨.hbm, 349, rfl⟩
abbrev main_v216 : Ref sig .tc := ⟨.hbm, 350, rfl⟩
abbrev main_v217 : Ref sig .tc := ⟨.hbm, 351, rfl⟩
abbrev main_v218 : Ref sig .tc := ⟨.hbm, 352, rfl⟩
abbrev main_cst_88 : Ref sig .tc := ⟨.hbm, 353, rfl⟩
abbrev main_v219 : Ref sig .tc := ⟨.hbm, 354, rfl⟩
abbrev main_v220 : Ref sig .tc := ⟨.hbm, 355, rfl⟩
abbrev main_v221 : Ref sig .tc := ⟨.hbm, 356, rfl⟩
abbrev main_cst_89 : Ref sig .tc := ⟨.hbm, 357, rfl⟩
abbrev main_v222 : Ref sig .tc := ⟨.hbm, 358, rfl⟩
abbrev main_v223 : Ref sig .tc := ⟨.hbm, 359, rfl⟩
abbrev main_v224 : Ref sig .tc := ⟨.hbm, 360, rfl⟩
abbrev main_cst_90 : Ref sig .tc := ⟨.hbm, 361, rfl⟩
abbrev main_v225 : Ref sig .tc := ⟨.hbm, 362, rfl⟩
abbrev main_v226 : Ref sig .tc := ⟨.hbm, 363, rfl⟩
abbrev main_cst_91 : Ref sig .tc := ⟨.hbm, 364, rfl⟩
abbrev main_v227 : Ref sig .tc := ⟨.hbm, 365, rfl⟩
abbrev main_v228 : Ref sig .tc := ⟨.hbm, 366, rfl⟩
abbrev main_cst_92 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_93 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_94 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_95 : Ref sig .tc := ⟨.hbm, 379, rfl⟩
abbrev main_v238 : Ref sig .tc := ⟨.hbm, 380, rfl⟩
abbrev main_v239 : Ref sig .tc := ⟨.hbm, 381, rfl⟩
abbrev main_cst_96 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_cst_97 : Ref sig .tc := ⟨.hbm, 386, rfl⟩
abbrev main_v243 : Ref sig .tc := ⟨.hbm, 387, rfl⟩
abbrev main_v244 : Ref sig .tc := ⟨.hbm, 388, rfl⟩
abbrev main_v245 : Ref sig .tc := ⟨.hbm, 389, rfl⟩
abbrev main_cst_98 : Ref sig .tc := ⟨.hbm, 390, rfl⟩
abbrev main_v246 : Ref sig .tc := ⟨.hbm, 391, rfl⟩
abbrev main_v247 : Ref sig .tc := ⟨.hbm, 392, rfl⟩
abbrev main_v248 : Ref sig .tc := ⟨.hbm, 393, rfl⟩
abbrev main_cst_99 : Ref sig .tc := ⟨.hbm, 394, rfl⟩
abbrev main_v249 : Ref sig .tc := ⟨.hbm, 395, rfl⟩
abbrev main_v250 : Ref sig .tc := ⟨.hbm, 396, rfl⟩
abbrev main_cst_100 : Ref sig .tc := ⟨.hbm, 397, rfl⟩
abbrev main_v251 : Ref sig .tc := ⟨.hbm, 398, rfl⟩
abbrev main_v252 : Ref sig .tc := ⟨.hbm, 399, rfl⟩
abbrev main_cst_101 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_102 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_103 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_104 : Ref sig .tc := ⟨.hbm, 412, rfl⟩
abbrev main_v262 : Ref sig .tc := ⟨.hbm, 413, rfl⟩
abbrev main_v263 : Ref sig .tc := ⟨.hbm, 414, rfl⟩
abbrev main_cst_105 : Ref sig .tc := ⟨.hbm, 415, rfl⟩
abbrev main_v264 : Ref sig .tc := ⟨.hbm, 416, rfl⟩
abbrev main_v265 : Ref sig .tc := ⟨.hbm, 417, rfl⟩
abbrev main_v266 : Ref sig .tc := ⟨.hbm, 418, rfl⟩
abbrev main_cst_106 : Ref sig .tc := ⟨.hbm, 419, rfl⟩
abbrev main_v267 : Ref sig .tc := ⟨.hbm, 420, rfl⟩
abbrev main_v268 : Ref sig .tc := ⟨.hbm, 421, rfl⟩
abbrev main_v269 : Ref sig .tc := ⟨.hbm, 422, rfl⟩
abbrev main_cst_107 : Ref sig .tc := ⟨.hbm, 423, rfl⟩
abbrev main_v270 : Ref sig .tc := ⟨.hbm, 424, rfl⟩
abbrev main_v271 : Ref sig .tc := ⟨.hbm, 425, rfl⟩
abbrev main_v272 : Ref sig .tc := ⟨.hbm, 426, rfl⟩
abbrev main_cst_108 : Ref sig .tc := ⟨.hbm, 427, rfl⟩
abbrev main_v273 : Ref sig .tc := ⟨.hbm, 428, rfl⟩
abbrev main_v274 : Ref sig .tc := ⟨.hbm, 429, rfl⟩
abbrev main_cst_109 : Ref sig .tc := ⟨.hbm, 430, rfl⟩
abbrev main_v275 : Ref sig .tc := ⟨.hbm, 431, rfl⟩

abbrev nD : Nat := 1
abbrev τ : Topo := Topo.v7x

variable {F : FTy → Type} [FloatOps F]
-- ==== Proof.Reals.lean ====
/-
  Facts about extended reals that the value proofs share: a real factor moves through a finite sum, a term added to
  itself is its double, and what the float words of the programs denote.
-/
module

public import Idealize.ShloMosaic.PureOps.Ideal
public import Idealize.ShloMosaic.Lib.IdealHost

@[expose] public section

noncomputable section

namespace Cert.Reals

open Idealize.ShloMosaic

/-! ## What the float words denote -/

theorem w1024 : Ideal.ofBits .f32 0x44800000#32 = ((1024 : ℝ) : EReal) := by
  simp [Ideal.ofBits, Ideal.ieee, -EReal.coe_mul]; norm_num
theorem wInv1024 : Ideal.ofBits .f32 0x3A800000#32 = ((1 / 1024 : ℝ) : EReal) := by
  simp [Ideal.ofBits, Ideal.ieee, -EReal.coe_mul]; norm_num
theorem wInv2048 : Ideal.ofBits .f32 0x3A000000#32 = ((1 / 2048 : ℝ) : EReal) := by
  simp [Ideal.ofBits, Ideal.ieee, -EReal.coe_mul]; norm_num
theorem w2048 : Ideal.ofBits .f32 0x45000000#32 = ((2048 : ℝ) : EReal) := by
  simp [Ideal.ofBits, Ideal.ieee, -EReal.coe_mul]; norm_num
theorem wHalf : Ideal.ofBits .f32 0x3F000000#32 = ((1 / 2 : ℝ) : EReal) := by
  simp [Ideal.ofBits, Ideal.ieee, -EReal.coe_mul]; norm_num
theorem wTwo : Ideal.ofBits .f32 0x40000000#32 = ((2 : ℝ) : EReal) := by
  simp [Ideal.ofBits, Ideal.ieee, -EReal.coe_mul]; norm_num
theorem wNegHalf : Ideal.ofBits .f32 0xBF000000#32 = ((-(1 / 2) : ℝ) : EReal) := by
  simp [Ideal.ofBits, Ideal.ieee, -EReal.coe_mul, -EReal.coe_neg]; norm_num
theorem wOne : Ideal.ofBits .f32 0x3F800000#32 = ((1 : ℝ) : EReal) := by
  simp [Ideal.ofBits, Ideal.ieee, -EReal.coe_mul]; norm_num
/-- The word of `1e-6` is a positive real. -/
theorem wEps : ∃ e : ℝ, 0 < e ∧ Ideal.ofBits .f32 0x358637BD#32 = (e : EReal) := by
  refine ⟨_, ?_, by simp [Ideal.ofBits, Ideal.ieee, -EReal.coe_mul]; rfl⟩
  norm_num

/-! ## Sums and products -/

/-- A real that is not negative moves through a finite sum. -/
theorem sum_mul_real {ι : Type*} (s : Finset ι) (f : ι → EReal) {r : ℝ} (hr : 0 ≤ r) :
    ∑ k ∈ s, f k * (r : EReal) = (∑ k ∈ s, f k) * (r : EReal) := by
  classical
  induction s using Finset.induction with
  | empty => simp
  | insert a s ha ih =>
    rw [Finset.sum_insert ha, Finset.sum_insert ha, ih,
      EReal.right_distrib_of_nonneg_of_ne_top (EReal.coe_nonneg.mpr hr) (EReal.coe_ne_top r)]

theorem real_mul_sum {ι : Type*} (s : Finset ι) (f : ι → EReal) {r : ℝ} (hr : 0 ≤ r) :
    ∑ k ∈ s, (r : EReal) * f k = (r : EReal) * ∑ k ∈ s, f k := by
  rw [mul_comm, ← sum_mul_real s f hr]
  exact Finset.sum_congr rfl fun k _ => mul_comm _ _

theorem div_real (x : EReal) {d : ℝ} (hd : d ≠ 0) : Ideal.div x (d : EReal) = x * ((1 / d : ℝ) : EReal) :=
  Ideal.div_coe hd x

/-- A product with a real, taken twice. -/
theorem mul_real_add_self (y : EReal) (a : ℝ) : y * (a : EReal) + y * (a : EReal) = y * ((2 * a : ℝ) : EReal) := by
  induction y using EReal.rec with
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | coe y => norm_cast; ring_nf

theorem mul_self_nonneg (x : EReal) : 0 ≤ x * x := by
  induction x using EReal.rec with
  | bot => simp
  | top => simp
  | coe x => exact_mod_cast _root_.mul_self_nonneg x

/-- A sum of squares divided by a positive real, a positive real added: either infinite or a positive real. -/
theorem var_cases {ι : Type*} (s : Finset ι) (f : ι → EReal) (h0 : ∀ k, 0 ≤ f k) {d e : ℝ} (hd : 0 < d) (he : 0 < e) :
    Ideal.div (∑ k ∈ s, f k) (d : EReal) + (e : EReal) = ⊤
      ∨ ∃ v : ℝ, 0 < v ∧ Ideal.div (∑ k ∈ s, f k) (d : EReal) + (e : EReal) = (v : EReal) := by
  rw [div_real _ hd.ne']
  have hs : 0 ≤ ∑ k ∈ s, f k := Finset.sum_nonneg fun k _ => h0 k
  generalize ∑ k ∈ s, f k = y at hs
  have hc : 0 < 1 / d := by positivity
  induction y using EReal.rec with
  | bot => exact absurd hs (by simp)
  | top => left; rw [EReal.top_mul_coe_of_pos hc]; rfl
  | coe y =>
    right
    have hy : 0 ≤ y := EReal.coe_nonneg.mp hs
    exact ⟨y * (1 / d) + e, by positivity, by norm_cast⟩

end Cert.Reals
-- ==== Proof.Rms.lean ====
/-
  The backward row of an RMS norm, read two ways. With `v` the mean square of a row plus a positive number and `r` the
  inverse square root of `v`, what a body computes by hand, `r · (gy − (x · r) · mean (gy · (x · r)))`, is what
  differentiating the two lines `r = rsqrt v`, `v = mean (x · x) + e` gives. No finiteness is asked: where `v` is
  infinite, `r` and `r / v` are zero and both sides are zero; elsewhere `r` is a positive real, which distributes.
-/
module

public import proofs.«01_k».proof.Proof.Reals

@[expose] public section

noncomputable section

namespace Cert.Reals

open Idealize.ShloMosaic

theorem rms_bwd {ι : Type*} (s : Finset ι) (x gy : ι → EReal) {d e : ℝ} (hd : 0 < d) (he : 0 < e) (j : ι)
    (v r : EReal) (hv : v = Ideal.div (∑ k ∈ s, x k * x k) (d : EReal) + (e : EReal)) (hr : r = Ideal.rsqrt v) :
    r * (gy j - x j * r * Ideal.div (∑ k ∈ s, gy k * (x k * r)) (d : EReal))
      = gy j * r + x j * Ideal.div ((∑ k ∈ s, x k * gy k) * (((-(1 / 2) : ℝ) : EReal) * Ideal.div r v)) (d : EReal)
        + Ideal.div ((∑ k ∈ s, x k * gy k) * (((-(1 / 2) : ℝ) : EReal) * Ideal.div r v)) (d : EReal) * x j := by
  have hs : ∑ k ∈ s, x k * gy k = ∑ k ∈ s, gy k * x k := Finset.sum_congr rfl fun k _ => mul_comm _ _
  rw [hs]
  rcases var_cases s (fun k => x k * x k) (fun k => mul_self_nonneg _) hd he with h | ⟨w, hw, h⟩
  · rw [← hv] at h
    subst hr
    rw [h, Ideal.rsqrt_top, show Ideal.div (0 : EReal) ⊤ = 0 by simp [Ideal.div]]
    simp [div_real _ hd.ne']
  · rw [← hv] at h
    have hq : r = (((Real.sqrt w)⁻¹ : ℝ) : EReal) := by
      rw [hr, h, Ideal.rsqrt_coe, if_neg (not_lt.mpr hw.le), if_neg hw.ne']
    have hp : 0 < (Real.sqrt w)⁻¹ := inv_pos.mpr (Real.sqrt_pos.mpr hw)
    have hrr : (Real.sqrt w)⁻¹ * (Real.sqrt w)⁻¹ = 1 / w := by
      rw [← mul_inv, Real.mul_self_sqrt hw.le, one_div]
    rw [h, hq, div_real _ hw.ne', div_real _ hd.ne', div_real _ hd.ne']
    generalize (Real.sqrt w)⁻¹ = ρ at hp hrr
    have h1 : ∑ k ∈ s, gy k * (x k * (ρ : EReal)) = (∑ k ∈ s, gy k * x k) * (ρ : EReal) := by
      rw [← sum_mul_real s _ hp.le]
      exact Finset.sum_congr rfl fun k _ => (mul_assoc _ _ _).symm
    rw [h1]
    generalize ∑ k ∈ s, gy k * x k = S
    have h2 : (S * (((-(1 / 2) : ℝ) : EReal) * ((ρ : EReal) * ((1 / w : ℝ) : EReal)))) * ((1 / d : ℝ) : EReal)
        = S * ((-(1 / 2) * (ρ * (1 / w)) * (1 / d) : ℝ) : EReal) := by
      rw [mul_assoc]; norm_cast
    rw [h2, add_assoc, mul_comm (S * _) (x j), ← mul_assoc (x j), mul_real_add_self, sub_eq_add_neg,
      EReal.left_distrib_of_nonneg_of_ne_top (EReal.coe_nonneg.mpr hp.le) (EReal.coe_ne_top _), mul_comm (gy j)]
    congr 1
    have h3 : x j * (ρ : EReal) * (S * (ρ : EReal) * ((1 / d : ℝ) : EReal)) = x j * S * ((ρ * (ρ * (1 / d)) : ℝ) : EReal) := by
      push_cast
      ac_rfl
    rw [h3, ← mul_neg, ← EReal.coe_neg, mul_comm, mul_assoc]
    norm_cast
    congr 2
    rw [← hrr]
    ring

end Cert.Reals
-- ==== Proof.Sums.lean ====
/-
  Sums regrouped, and one reduction read at an index: rows numbered block by block are the rows numbered batch by
  batch, and the host's sum over the two leading axes of a rank-3 array is the double sum over them.
-/
module

public import Idealize.ShloMosaic.Lib.Pointwise
public import Idealize.ShloMosaic.Lib.Pipeline.ValueKit

@[expose] public section

noncomputable section

namespace Cert.Sums

open Idealize.ShloMosaic

/-- `P` blocks of `R` rows are `B` batches of `S` rows. -/
theorem sum_blocks {M : Type*} [AddCommMonoid M] (P R : ℕ) {B S : ℕ} (hS : 0 < S) (h : P * R = B * S) (f : Fin B → Fin S → M) :
    ∑ p : Fin P, ∑ r : Fin R, f ⟨(p.val * R + r.val) / S, by
        have hp := p.isLt; have hr := r.isLt
        refine Nat.div_lt_of_lt_mul ?_
        calc p.val * R + r.val < p.val * R + R := by omega
          _ = (p.val + 1) * R := by ring
          _ ≤ P * R := Nat.mul_le_mul_right _ hp
          _ = S * B := by rw [h, mul_comm]⟩
        ⟨(p.val * R + r.val) % S, Nat.mod_lt _ hS⟩
      = ∑ b, ∑ s, f b s := by
  have hB : ∀ n : Fin (B * S), n.val / S < B := fun n => Nat.div_lt_of_lt_mul (lt_of_lt_of_eq n.isLt (mul_comm _ _))
  have e1 := Fin.sum_mul_add_fin P R (fun n : Fin (B * S) => f ⟨n.val / S, hB n⟩ ⟨n.val % S, Nat.mod_lt _ hS⟩) h.symm
  have e2 := Fin.sum_divmod_fin S f rfl
  refine Eq.trans ?_ (e1.trans e2)
  rfl

/-- The host's sum over the two leading axes of a rank-3 array. -/
theorem hostReduceAdd_r3_a01 {n0 n1 n2 : ℕ} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  have hk : ∀ i : (⟨3, ![n0, n1, n2]⟩ : Shape).Idx, h.drop i = ix1 k ↔ ∃ p : Fin n0 × Fin n1, ix3 p.1 p.2 k = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨p, rfl⟩
      funext b; apply Fin.ext
      match b with
      | ⟨0, _⟩ => rfl
  refine congrArg (init + ·) ?_
  refine (Finset.sum_filter_eq_sum_of_fiber _ (fun p : Fin n0 × Fin n1 => ix3 p.1 p.2 k)
    (fun _ _ e => Prod.ext (congrFun e 0) (congrFun e 1)) hk v).trans ?_
  simp only [Fintype.sum_prod_type]

end Cert.Sums
-- ==== Proof.LossKernel.lean ====
/-
  The loss head's kernel, its three results read at an index of the arguments: 16 blocks of 512 rows, each row's
  gradient of `x` from its own row, the gradient of the gain and the loss summed over the blocks.
-/
module

public import proofs.«01_k».proof.Proof.Rms
public import proofs.«01_k».proof.Proof.Sums
public import proofs.«01_k».proof.Proof.Gen.LossKIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LossKIdeal.Rows

open Idealize.ShloMosaic Idealize.ShloMosaic.TcCoe Idealize.SL.Sem
open Cert.LossKIdeal Cert.LossKIdeal.Gen

variable (m : (ℓ : Loc nD τ sig) → Buf (Elt Ideal) ℓ) (ρ : Dev nD → PrngReg)

theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

theorem blk0 (c : Dev nD) (t : Fin cfg0.N) (r : Fin 512) (j : Fin 1024) :
    iblk m c 0 t (ix2 r j) = m ((c : Thread nD τ).loc main_arg0)
      (ix3 ⟨(t.val * 512 + r.val) / 4096, by have := t.isLt; have : cfg0.N = 16 := N_0; omega⟩
        ⟨(t.val * 512 + r.val) % 4096, Nat.mod_lt _ (by decide)⟩ j) := by
  obtain ⟨e0, e1, e2, e3, e4, e5⟩ := idx0 t
  blk_ext! [iblk, V, e0]

theorem outs4 (c : Dev nD) (t : Fin cfg0.N) : (outsAt0 m c t.val t.isLt).2.1
    = k0_pay1 (k0_pay7 (iblk m c 0 t)) (k0_pay11 (iblk m c 0 t) (iblk m c 1 t) (iblk m c 2 t) (iblk m c 1 t)) (k0_pay12 (iblk m c 0 t)) := by
  have hN : t.val < 16 := lt_of_lt_of_eq t.isLt N_0
  by_cases h0 : t.val % 16 = 0
  · rw [outsAt0_A m c t h0 (by omega)]
    dsimp only
    frame_out
  · by_cases h1 : t.val % 16 = 15
    · rw [outsAt0_C m c t h0 h1]
      dsimp only
      frame_out
    · rw [outsAt0_B m c t h0 h1]
      dsimp only
      frame_out

theorem blk1 (c : Dev nD) (t : Fin cfg0.N) (z : Fin 1) (j : Fin 1024) :
    iblk m c 1 t (ix2 z j) = m ((c : Thread nD τ).loc main_arg1) (ix1 j) := by
  obtain ⟨e0, e1, e2, e3, e4, e5⟩ := idx0 t
  blk_ext! [iblk, V, e1]

theorem blk2 (c : Dev nD) (t : Fin cfg0.N) (r : Fin 512) (j : Fin 1024) :
    iblk m c 2 t (ix2 r j) = m ((c : Thread nD τ).loc main_arg2)
      (ix3 ⟨(t.val * 512 + r.val) / 4096, by have := t.isLt; have : cfg0.N = 16 := N_0; omega⟩
        ⟨(t.val * 512 + r.val) % 4096, Nat.mod_lt _ (by decide)⟩ j) := by
  obtain ⟨e0, e1, e2, e3, e4, e5⟩ := idx0 t
  blk_ext! [iblk, V, e2]

/-- What the first point leaves in the gain's gradient and in the columns' sums of squares. -/
theorem outs_first (c : Dev nD) (t : Fin cfg0.N) (h0 : t.val % 16 = 0) : (outsAt0 m c t.val t.isLt).2.2
    = (k0_pay2 (k0_pay10 (iblk m c 0 t) (iblk m c 1 t) (iblk m c 2 t)) (k0_pay12 (iblk m c 0 t)) (k0_pay5 (F := Ideal)),
      k0_pay9 (iblk m c 0 t) (iblk m c 1 t) (iblk m c 2 t) (k0_pay4 (F := Ideal))) := by
  rw [outsAt0_A m c t h0 (by omega)]
  dsimp only
  refine Prod.ext ?_ ?_ <;> dsimp only <;> frame_out

/-- What a later point leaves there, over what the point before left. -/
theorem outs_next (c : Dev nD) (t : Fin cfg0.N) (h0 : ¬t.val % 16 = 0) : (outsAt0 m c t.val t.isLt).2.2
    = (k0_pay2 (k0_pay10 (iblk m c 0 t) (iblk m c 1 t) (iblk m c 2 t)) (k0_pay12 (iblk m c 0 t))
        (outsAt0 m c (t.val - 1) (Nat.lt_of_le_of_lt (Nat.sub_le _ _) t.isLt)).2.2.1,
      k0_pay9 (iblk m c 0 t) (iblk m c 1 t) (iblk m c 2 t)
        (outsAt0 m c (t.val - 1) (Nat.lt_of_le_of_lt (Nat.sub_le _ _) t.isLt)).2.2.2) := by
  by_cases h1 : t.val % 16 = 15
  · rw [outsAt0_C m c t h0 h1]
    dsimp only
    refine Prod.ext ?_ ?_ <;> dsimp only <;> frame_out <;> try simp only [read_unread_whole]
  · rw [outsAt0_B m c t h0 h1]
    dsimp only
    refine Prod.ext ?_ ?_ <;> dsimp only <;> frame_out <;> try simp only [read_unread_whole]

/-- The last point writes the loss from the columns' sums it has just completed. -/
theorem outs_last (c : Dev nD) (t : Fin cfg0.N) (h1 : t.val % 16 = 15) :
    (outsAt0 m c t.val t.isLt).1 = k0_pay3 (outsAt0 m c t.val t.isLt).2.2.2 := by
  have h0 : ¬t.val % 16 = 0 := by omega
  rw [show (outsAt0 m c t.val t.isLt).2.2.2 = _ from congrArg Prod.snd (outs_next m c t h0), outsAt0_C m c t h0 h1]
  dsimp only
  frame_out
  try simp only [read_unread_whole]

/-! ## Rows -/

/-- A row's inverse root mean square. -/
def rr (x : Fin 1024 → EReal) : EReal :=
  Ideal.rsqrt (Ideal.div (∑ k, x k * x k) (Ideal.ofBits .f32 0x44800000#32) + Ideal.ofBits .f32 0x358637BD#32)

/-- A row's error against its target. -/
def err (x g t : Fin 1024 → EReal) (j : Fin 1024) : EReal := x j * rr x * g j - t j

/-- The gradient of `x` the body writes, one row. -/
def dxRow (x g t : Fin 1024 → EReal) (j : Fin 1024) : EReal :=
  rr x * (err x g t j * Ideal.ofBits .f32 0x3A800000#32 * g j
    - x j * rr x * Ideal.div (∑ k, err x g t k * Ideal.ofBits .f32 0x3A800000#32 * g k * (x k * rr x)) (Ideal.ofBits .f32 0x44800000#32))

/-- One row's part of the gain's gradient. -/
def dgRow (x g t : Fin 1024 → EReal) (j : Fin 1024) : EReal :=
  err x g t j * Ideal.ofBits .f32 0x3A800000#32 * (x j * rr x)

variable (x t : Vec Ideal S512x1024 .f32) (g : Vec Ideal S1x1024 .f32)

theorem pay1_at (r : Fin 512) (j : Fin 1024) : k0_pay1 (k0_pay7 x) (k0_pay11 x g t g) (k0_pay12 x) (ix2 r j)
    = dxRow (fun k => x (ix2 r k)) (fun k => g (ix2 0 k)) (fun k => t (ix2 r k)) j := by
  unfold_payloads
  pointwise [dxRow, err, rr]

theorem pay2_at (z : Fin 1) (j : Fin 1024) (a : Vec Ideal S1x1024 .f32) : k0_pay2 (k0_pay10 x g t) (k0_pay12 x) a (ix2 z j)
    = a (ix2 z j) + ∑ r : Fin 512, dgRow (fun k => x (ix2 r k)) (fun k => g (ix2 0 k)) (fun k => t (ix2 r k)) j := by
  unfold_payloads
  pointwise [dgRow, err, rr]

theorem pay9_at (z : Fin 1) (j : Fin 1024) (a : Vec Ideal S1x1024 .f32) : k0_pay9 x g t a (ix2 z j)
    = a (ix2 z j) + ∑ r : Fin 512, err (fun k => x (ix2 r k)) (fun k => g (ix2 0 k)) (fun k => t (ix2 r k)) j
        * err (fun k => x (ix2 r k)) (fun k => g (ix2 0 k)) (fun k => t (ix2 r k)) j := by
  unfold_payloads
  pointwise [err, rr]

theorem pay3_at (y z : Fin 1) (a : Vec Ideal S1x1024 .f32) : k0_pay3 a (ix2 y z)
    = (∑ j : Fin 1024, a (ix2 0 j)) * Ideal.ofBits .f32 0x3A000000#32 := by
  unfold_payloads
  pointwise

/-! ## The three arrays -/

/-- The rows of the arguments. -/
def xr (c : Dev nD) (b : Fin 2) (s : Fin 4096) (k : Fin 1024) : EReal := m ((c : Thread nD τ).loc main_arg0) (ix3 b s k)
def tr (c : Dev nD) (b : Fin 2) (s : Fin 4096) (k : Fin 1024) : EReal := m ((c : Thread nD τ).loc main_arg2) (ix3 b s k)
def gr (c : Dev nD) (k : Fin 1024) : EReal := m ((c : Thread nD τ).loc main_arg1) (ix1 k)

/-- The batch and the place in it of row `r` of point `t`'s block. -/
theorem row_lt (t : Fin cfg0.N) (r : Fin 512) : (t.val * 512 + r.val) / 4096 < 2 := by
  have := t.isLt; have : cfg0.N = 16 := N_0; omega

theorem row0 (c : Dev nD) (t : Fin cfg0.N) (r : Fin 512) : (fun k => iblk m c 0 t (ix2 r k))
    = xr m c ⟨(t.val * 512 + r.val) / 4096, row_lt t r⟩ ⟨(t.val * 512 + r.val) % 4096, Nat.mod_lt _ (by decide)⟩ :=
  funext fun k => blk0 m c t r k
theorem row1 (c : Dev nD) (t : Fin cfg0.N) : (fun k => iblk m c 1 t (ix2 0 k)) = gr m c :=
  funext fun k => blk1 m c t 0 k
theorem row2 (c : Dev nD) (t : Fin cfg0.N) (r : Fin 512) : (fun k => iblk m c 2 t (ix2 r k))
    = tr m c ⟨(t.val * 512 + r.val) / 4096, row_lt t r⟩ ⟨(t.val * 512 + r.val) % 4096, Nat.mod_lt _ (by decide)⟩ :=
  funext fun k => blk2 m c t r k

def Gdx (c : Dev nD) : S8192x1024.Idx → EReal := fun i =>
  dxRow (xr m c ⟨(i 0).val / 4096, by have := (i 0).isLt; simp at this; omega⟩ ⟨(i 0).val % 4096, Nat.mod_lt _ (by decide)⟩) (gr m c)
    (tr m c ⟨(i 0).val / 4096, by have := (i 0).isLt; simp at this; omega⟩ ⟨(i 0).val % 4096, Nat.mod_lt _ (by decide)⟩) ⟨(i 1).val, (i 1).isLt⟩

def Gdg (c : Dev nD) : S1x1024.Idx → EReal := fun i => ∑ b, ∑ s, dgRow (xr m c b s) (gr m c) (tr m c b s) ⟨(i 1).val, (i 1).isLt⟩

def Gsq (c : Dev nD) (j : Fin 1024) : EReal :=
  ∑ b, ∑ s, err (xr m c b s) (gr m c) (tr m c b s) j * err (xr m c b s) (gr m c) (tr m c b s) j

def Gloss (c : Dev nD) : S1x1.Idx → EReal := fun _ => (∑ j, Gsq m c j) * Ideal.ofBits .f32 0x3A000000#32

theorem final_dx (c : Dev nD) : (dats m 0 c).arrAt 4 cfg0.N = Gdx m c := by
  refine (dats m 0 c).arrAt_eq_of_covers 4 _ (by decide +kernel) fun t hf y => ?_
  obtain ⟨e0, e1, e2, e3, e4, e5⟩ := idx0 t
  blk_simp
  rw [after0_4, outs4]
  idx_vars y
  refine (pay1_at _ _ _ _ _).trans ?_
  rw [row0, row1, row2]
  unfold Gdx
  blk_simp [e4]

theorem zero4 (i) : (k0_pay4 (F := Ideal)) i = 0 := by
  unfold_payloads
  pointwise
theorem zero5 (i) : (k0_pay5 (F := Ideal)) i = 0 := by
  unfold_payloads
  pointwise

theorem dg_at (c : Dev nD) (j : Fin 1024) : (outsAt0 m c t0_15.val t0_15.isLt).2.2.1 (ix2 0 j)
    = ∑ b, ∑ s, dgRow (xr m c b s) (gr m c) (tr m c b s) j := by
  refine (Pipeline.eq_sum_fin_of_reset_step_last (fun n h => (outsAt0 m c n h).2.2.1 (ix2 0 j)) 16 0
    (fun t => ∑ r : Fin 512, dgRow (xr m c ⟨(t.val * 512 + r.val) / 4096, row_lt t r⟩ ⟨(t.val * 512 + r.val) % 4096, Nat.mod_lt _ (by decide)⟩)
      (gr m c) (tr m c ⟨(t.val * 512 + r.val) / 4096, row_lt t r⟩ ⟨(t.val * 512 + r.val) % 4096, Nat.mod_lt _ (by decide)⟩) j)
    (fun t h => ?_) (fun t h => ?_) (le_of_eq N_0) t0_15 rfl).trans ?_
  · rw [outs_first m c t h]
    refine (pay2_at _ _ _ _ _ _).trans ?_
    simp only [zero5, row0, row1, row2]
  · rw [outs_next m c t h]
    refine (pay2_at _ _ _ _ _ _).trans ?_
    simp only [row0, row1, row2]
  · rw [zero_add]
    exact Sums.sum_blocks cfg0.N 512 (by decide) (by rw [show cfg0.N = 16 from N_0]) (fun b s => dgRow (xr m c b s) (gr m c) (tr m c b s) j)

theorem sq_at (c : Dev nD) (j : Fin 1024) : (outsAt0 m c t0_15.val t0_15.isLt).2.2.2 (ix2 0 j) = Gsq m c j := by
  refine (Pipeline.eq_sum_fin_of_reset_step_last (fun n h => (outsAt0 m c n h).2.2.2 (ix2 0 j)) 16 0
    (fun t => ∑ r : Fin 512, (fun b s => err (xr m c b s) (gr m c) (tr m c b s) j * err (xr m c b s) (gr m c) (tr m c b s) j)
      ⟨(t.val * 512 + r.val) / 4096, row_lt t r⟩ ⟨(t.val * 512 + r.val) % 4096, Nat.mod_lt _ (by decide)⟩)
    (fun t h => ?_) (fun t h => ?_) (le_of_eq N_0) t0_15 rfl).trans ?_
  · rw [outs_first m c t h]
    refine (pay9_at _ _ _ _ _ _).trans ?_
    simp only [zero4, row0, row1, row2]
  · rw [outs_next m c t h]
    refine (pay9_at _ _ _ _ _ _).trans ?_
    simp only [row0, row1, row2]
  · rw [zero_add]
    exact Sums.sum_blocks cfg0.N 512 (by decide) (by rw [show cfg0.N = 16 from N_0]) (fun b s => err (xr m c b s) (gr m c) (tr m c b s) j * err (xr m c b s) (gr m c) (tr m c b s) j)

theorem final_dg (c : Dev nD) : (dats m 0 c).arrAt 5 cfg0.N = Gdg m c := by
  refine (dats m 0 c).arrAt_eq_of_after_last 5 t0_15 (by decide +kernel) _ fun j => ?_
  blk_simp
  rw [after0_5]
  idx_vars j
  unfold Gdg
  blk_simp
  obtain rfl : j0 = 0 := Subsingleton.elim _ _
  exact dg_at m c j1

theorem final_loss (c : Dev nD) : (dats m 0 c).arrAt 3 cfg0.N = Gloss m c := by
  refine (dats m 0 c).arrAt_eq_of_after_last 3 t0_15 (by decide +kernel) _ fun j => ?_
  blk_simp
  rw [after0_3, outs_last m c t0_15 rfl]
  idx_vars j
  refine (pay3_at _ _ _).trans ?_
  simp only [sq_at]
  rfl

end Cert.LossKIdeal.Rows
-- ==== Proof.LossValue.lean ====
/-
  The loss head: what the reference computes, read at an index, and its equality with the kernel's three results.
-/
module

public import proofs.«01_k».proof.Proof.LossKernel
public import proofs.«01_k».proof.Proof.Gen.LossRIdeal.Read

@[expose] public section

set_option maxRecDepth 16384

noncomputable section

namespace Cert.LossRIdeal.Rows

open Idealize.ShloMosaic Idealize.ShloMosaic.TcCoe Idealize.SL.Sem
open Cert.LossRIdeal.Read Cert.LossKIdeal.Rows

variable (x0 x2 : (⟨S2x4096x1024, .f32⟩ : BufTy).Contents (Elt Ideal)) (x1 : (⟨S1024, .f32⟩ : BufTy).Contents (Elt Ideal))

/-- The error's gradient as the reference scales it. -/
def ct (x g t : Fin 1024 → EReal) (j : Fin 1024) : EReal :=
  Ideal.div (Ideal.ofBits .f32 0x3F000000#32) (Ideal.ofBits .f32 0x44800000#32) * (Ideal.ofBits .f32 0x40000000#32 * err x g t j)

theorem ct_eq (x g t : Fin 1024 → EReal) (j : Fin 1024) : ct x g t j = err x g t j * Ideal.ofBits .f32 0x3A800000#32 := by
  unfold ct
  rw [Reals.wHalf, Reals.w1024, Reals.wTwo, Reals.wInv1024, Reals.div_real _ (by norm_num), ← EReal.coe_mul, ← mul_assoc,
    ← EReal.coe_mul, mul_comm]
  norm_num

theorem v50_at (b : Fin 2) (s : Fin 4096) (j : Fin 1024) :
    val_main_v50 x0 x1 x2 (ix3 b s j) = dxRow (fun k => x0 (ix3 b s k)) (fun k => x1 (ix1 k)) (fun k => x2 (ix3 b s k)) j := by
  obtain ⟨e, he, hw⟩ := Reals.wEps
  have h := Reals.rms_bwd Finset.univ (fun k => x0 (ix3 b s k))
    (fun k => ct (fun k => x0 (ix3 b s k)) (fun k => x1 (ix1 k)) (fun k => x2 (ix3 b s k)) k * x1 (ix1 k))
    (d := 1024) (by norm_num) he j _ _ rfl rfl
  rw [← hw, ← Reals.w1024, ← Reals.wNegHalf] at h
  unfold dxRow
  simp only [← ct_eq]
  refine Eq.trans ?_ h.symm
  pointwise [ct, err, rr, val_main_v0, val_main_cst, val_main_v1, val_main_v2, val_main_cst_0, val_main_v3, val_main_v4,
    val_main_cst_1, val_main_v5, val_main_v6, val_main_v7, val_main_v8, val_main_cst_2, val_main_v9, val_main_v10,
    val_main_v11, val_main_v12, val_main_v13, val_main_v14, val_main_v15, val_main_v16, val_main_v17, val_main_cst_3,
    val_main_v18, val_main_v19, val_main_cst_8, val_main_cst_9, val_main_v25, val_main_v26, val_main_cst_10, val_main_v27,
    val_main_v28, val_main_v29, val_main_v30, val_main_v34, val_main_v35, val_main_v37, val_main_v38, val_main_v39,
    val_main_v40, val_main_v41, val_main_v42, val_main_v43, val_main_v44, val_main_v45, val_main_v46, val_main_v47,
    val_main_v48, val_main_v49, val_main_v50, val_main_cst_13, val_main_cst_14, val_main_cst_15, Finset.univ_unique,
    Finset.sum_singleton]

theorem v52_at (n : Fin 8192) (j : Fin 1024) : val_main_v52 x0 x1 x2 (ix2 n j)
    = val_main_v50 x0 x1 x2 (ix3 ⟨n.val / 4096, by omega⟩ ⟨n.val % 4096, Nat.mod_lt _ (by decide)⟩ j) := by
  pointwise [val_main_v52]

theorem v53_at (z : Fin 1) (j : Fin 1024) : val_main_v53 x0 x1 x2 (ix2 z j)
    = ∑ b, ∑ s, dgRow (fun k => x0 (ix3 b s k)) (fun k => x1 (ix1 k)) (fun k => x2 (ix3 b s k)) j := by
  have h : val_main_v53 x0 x1 x2 (ix2 z j) = ∑ b : Fin 2, ∑ s : Fin 4096,
      x0 (ix3 b s j) * rr (fun k => x0 (ix3 b s k)) * ct (fun k => x0 (ix3 b s k)) (fun k => x1 (ix1 k)) (fun k => x2 (ix3 b s k)) j := by
    pointwise [ct, err, rr, Sums.hostReduceAdd_r3_a01, val_main_v53, val_main_v36, val_main_v33, val_main_v32, val_main_cst_11,
      val_main_cst_12, val_main_v31, val_main_v0, val_main_cst, val_main_v1, val_main_v2, val_main_cst_0, val_main_v3,
      val_main_v4, val_main_cst_1, val_main_v5, val_main_v6, val_main_v7, val_main_v8, val_main_cst_2, val_main_v9,
      val_main_v10, val_main_v11, val_main_v12, val_main_v13, val_main_v14, val_main_v15, val_main_v16, val_main_v17,
      val_main_cst_3, val_main_v18, val_main_v19, val_main_v25, val_main_v26, val_main_cst_10, val_main_v27, val_main_v28,
      val_main_v29, val_main_v30, val_main_cst_8, val_main_cst_9, Finset.univ_unique, Finset.sum_singleton]
  rw [h]
  refine Finset.sum_congr rfl fun b _ => Finset.sum_congr rfl fun s _ => ?_
  rw [ct_eq, dgRow, mul_comm]

theorem v51_at (j : S1x1.Idx) : val_main_v51 x0 x1 x2 j
    = (∑ j, ∑ b, ∑ s, err (fun k => x0 (ix3 b s k)) (fun k => x1 (ix1 k)) (fun k => x2 (ix3 b s k)) j
        * err (fun k => x0 (ix3 b s k)) (fun k => x1 (ix1 k)) (fun k => x2 (ix3 b s k)) j) * Ideal.ofBits .f32 0x3A000000#32 := by
  have h : val_main_v51 x0 x1 x2 j = Ideal.ofBits .f32 0x3F000000#32 * ∑ b : Fin 2, ∑ s : Fin 4096, Ideal.div
      (∑ j, err (fun k => x0 (ix3 b s k)) (fun k => x1 (ix1 k)) (fun k => x2 (ix3 b s k)) j
        * err (fun k => x0 (ix3 b s k)) (fun k => x1 (ix1 k)) (fun k => x2 (ix3 b s k)) j) (Ideal.ofBits .f32 0x44800000#32) := by
    pointwise [err, rr, val_main_v51, val_main_v0, val_main_cst, val_main_v1, val_main_v2, val_main_cst_0, val_main_v3,
      val_main_v4, val_main_cst_1, val_main_v5, val_main_v6, val_main_v7, val_main_v8, val_main_cst_2, val_main_v9,
      val_main_v10, val_main_v11, val_main_v12, val_main_v13, val_main_v14, val_main_v15, val_main_v16, val_main_v17,
      val_main_cst_4, val_main_v20, val_main_cst_5, val_main_v21, val_main_v22, val_main_cst_6,
      val_main_v23, val_main_cst_7, val_main_v24]
  rw [h, Reals.wHalf, Reals.w1024, Reals.wInv2048]
  simp only [Reals.div_real _ (show (1024 : ℝ) ≠ 0 by norm_num)]
  simp only [Reals.sum_mul_real _ _ (show (0 : ℝ) ≤ 1 / 1024 by norm_num)]
  rw [mul_comm, mul_assoc, ← EReal.coe_mul, Finset.sum_comm (γ := Fin 1024), show (1 / 1024 * (1 / 2) : ℝ) = 1 / 2048 by norm_num]
  refine congrArg (· * _) (Finset.sum_congr rfl fun b _ => ?_)
  rw [Finset.sum_comm]

end Cert.LossRIdeal.Rows
-- ==== Proof.LossClaims.lean ====
/-
  The loss head's claims.
-/
module

public import proofs.«01_k».proof.Defs
public import proofs.«01_k».proof.Proof.LossValue
public import proofs.«01_k».proof.Proof.Gen.LossK.Frame
public import proofs.«01_k».proof.Proof.Gen.LossRIdeal.Run

@[expose] public section

set_option maxRecDepth 16384

noncomputable section

namespace Cert.Loss

open Idealize.ShloMosaic Idealize.ShloMosaic.TcCoe Idealize.SL.Sem Cert.LossKIdeal.Rows Cert.LossRIdeal.Rows

theorem frame_r : Cert.quiescent_LossRIdeal := fun m ρ _ =>
  (θ_run Cert.LossRIdeal.defs _ _).mono (fun r h => ⟨fun c => (h c).2.2.2, sem_eq_zero_of_no_sems (by decide) r.2⟩)
    (Cert.LossRIdeal.Value.run m ρ)

theorem algebraic : Cert.algebraic_LossKIdeal_LossRIdeal := fun m ρ m' ρ' _ hag =>
  ⟨Gloss m, Gdx m, Gdg m,
    (θ_run Cert.LossKIdeal.defs _ _).mono (fun _ h c => ⟨(h c).1.trans (final_loss m c), (h c).2.1.trans (final_dx m c),
      (h c).2.2.1.trans (final_dg m c), (h c).2.2.2⟩) (Cert.LossKIdeal.Value.run_blocks m ρ),
    (θ_run Cert.LossRIdeal.defs _ _).mono (fun _ h c => by
      obtain ⟨a0, a1, a2⟩ := hag c
      refine ⟨(h c).1.trans ?_, (h c).2.1.trans ?_, (h c).2.2.1.trans ?_, (h c).2.2.2⟩
      · rw [Cert.LossRIdeal.Read.val_main_v51_eq, a0, a1, a2]
        funext i
        exact v51_at _ _ _ i
      · rw [Cert.LossRIdeal.Read.val_main_v52_eq, a0, a1, a2]
        funext i
        idx_vars i
        exact (v52_at _ _ _ _ _).trans (v50_at _ _ _ _ _ _)
      · rw [Cert.LossRIdeal.Read.val_main_v53_eq, a0, a1, a2]
        funext i
        idx_vars i
        exact v53_at _ _ _ _ _) (Cert.LossRIdeal.Value.run m' ρ')⟩

end Cert.Loss
-- ==== Proof.InxKernel.lean ====
/-
  The input projection's gradient: the kernel's two results read at an index of the arguments. 16 blocks of 512
  rows; the product with the projection's weights in eight parts of 768 columns, then the RMSNorm's gradient.
-/
module

public import proofs.«01_k».proof.Proof.Rms
public import proofs.«01_k».proof.Proof.Sums
public import proofs.«01_k».proof.Proof.Gen.InxKIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InxKIdeal.Rows

open Idealize.ShloMosaic Idealize.ShloMosaic.TcCoe Idealize.SL.Sem
open Cert.InxKIdeal Cert.InxKIdeal.Gen

variable (m : (ℓ : Loc nD τ sig) → Buf (Elt Ideal) ℓ) (ρ : Dev nD → PrngReg)

theorem idx0 : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The product the body adds up in eight parts. -/
def prod (dp : Vec Ideal S512x6144 .bf16) (w : Vec Ideal S8x1024x768 .bf16) : Vec Ideal S512x1024 .f32 :=
  k0_pay7
    (k0_pay5 (View.ld dp (Rect.unit ![0, 0] ![512, 768] inb_S512x6144_S512x768_0_0))
      (View.ld w (Rect.unit ![0, 0, 0] ![1, 1024, 768] inb_S8x1024x768_S1x1024x768_0_0_0))
      (View.ld dp (Rect.unit ![0, 768] ![512, 768] inb_S512x6144_S512x768_0_768))
      (View.ld w (Rect.unit ![1, 0, 0] ![1, 1024, 768] inb_S8x1024x768_S1x1024x768_1_0_0))
      (View.ld dp (Rect.unit ![0, 1536] ![512, 768] inb_S512x6144_S512x768_0_1536))
      (View.ld w (Rect.unit ![2, 0, 0] ![1, 1024, 768] inb_S8x1024x768_S1x1024x768_2_0_0))
      (View.ld dp (Rect.unit ![0, 2304] ![512, 768] inb_S512x6144_S512x768_0_2304))
      (View.ld w (Rect.unit ![3, 0, 0] ![1, 1024, 768] inb_S8x1024x768_S1x1024x768_3_0_0)))
    (k0_pay6 (View.ld dp (Rect.unit ![0, 3072] ![512, 768] inb_S512x6144_S512x768_0_3072)))
    (View.ld w (Rect.unit ![4, 0, 0] ![1, 1024, 768] inb_S8x1024x768_S1x1024x768_4_0_0))
    (View.ld dp (Rect.unit ![0, 3840] ![512, 768] inb_S512x6144_S512x768_0_3840))
    (View.ld w (Rect.unit ![5, 0, 0] ![1, 1024, 768] inb_S8x1024x768_S1x1024x768_5_0_0))
    (View.ld dp (Rect.unit ![0, 4608] ![512, 768] inb_S512x6144_S512x768_0_4608))
    (View.ld w (Rect.unit ![6, 0, 0] ![1, 1024, 768] inb_S8x1024x768_S1x1024x768_6_0_0))
    (View.ld dp (Rect.unit ![0, 5376] ![512, 768] inb_S512x6144_S512x768_0_5376))
    (View.ld w (Rect.unit ![7, 0, 0] ![1, 1024, 768] inb_S8x1024x768_S1x1024x768_7_0_0))

theorem outs5 (c : Dev nD) (t : Fin cfg0.N) : (outsAt0 m c t.val t.isLt).1
    = k0_pay2 (prod (iblk m c 0 t) (iblk m c 1 t)) (k0_pay8 (iblk m c 3 t)) (k0_pay9 (iblk m c 3 t)) (iblk m c 4 t) (iblk m c 2 t) := by
  have hN : t.val < 16 := lt_of_lt_of_eq t.isLt N_0
  by_cases h0 : t.val % 16 = 0
  · rw [outsAt0_A m c t h0]
    dsimp only
    frame_out
    rfl
  · rw [outsAt0_B m c t h0]
    dsimp only
    frame_out
    rfl

/-- What the first point leaves in the gain's gradient. -/
theorem outs_first (c : Dev nD) (t : Fin cfg0.N) (h0 : t.val % 16 = 0) : (outsAt0 m c t.val t.isLt).2
    = k0_pay3 (prod (iblk m c 0 t) (iblk m c 1 t)) (k0_pay8 (iblk m c 3 t)) (k0_pay9 (iblk m c 3 t)) (k0_pay4 (F := Ideal)) := by
  rw [outsAt0_A m c t h0]
  dsimp only
  frame_out
  try simp only [read_unread_whole]
  try rfl

/-- What a later point leaves there, over what the point before left. -/
theorem outs_next (c : Dev nD) (t : Fin cfg0.N) (h0 : ¬t.val % 16 = 0) : (outsAt0 m c t.val t.isLt).2
    = k0_pay3 (prod (iblk m c 0 t) (iblk m c 1 t)) (k0_pay8 (iblk m c 3 t)) (k0_pay9 (iblk m c 3 t))
        (outsAt0 m c (t.val - 1) (Nat.lt_of_le_of_lt (Nat.sub_le _ _) t.isLt)).2 := by
  rw [outsAt0_B m c t h0]
  dsimp only
  frame_out
  try simp only [read_unread_whole]
  try rfl

/-! ## Blocks -/

theorem row_lt (t : Fin cfg0.N) (r : Fin 512) : (t.val * 512 + r.val) / 4096 < 2 := by
  have := t.isLt; have : cfg0.N = 16 := N_0; omega

theorem blk0 (c : Dev nD) (t : Fin cfg0.N) (r : Fin 512) (j : Fin 6144) :
    iblk m c 0 t (ix2 r j) = m ((c : Thread nD τ).loc main_arg4)
      (ix3 ⟨(t.val * 512 + r.val) / 4096, row_lt t r⟩ ⟨(t.val * 512 + r.val) % 4096, Nat.mod_lt _ (by decide)⟩ j) := by
  obtain ⟨e0, e1, e2, e3, e4, e5, e6⟩ := idx0 t
  blk_ext! [iblk, V, e0]

theorem blk1 (c : Dev nD) (t : Fin cfg0.N) (q : Fin 8) (j : Fin 1024) (k : Fin 768) :
    iblk m c 1 t (ix3 q j k) = m ((c : Thread nD τ).loc main_arg2) (ix2 j ⟨q.val * 768 + k.val, by omega⟩) := by
  obtain ⟨e0, e1, e2, e3, e4, e5, e6⟩ := idx0 t
  blk_ext! [iblk, V, e1]

theorem blk2 (c : Dev nD) (t : Fin cfg0.N) (r : Fin 512) (j : Fin 1024) :
    iblk m c 2 t (ix2 r j) = m ((c : Thread nD τ).loc main_arg3)
      (ix3 ⟨(t.val * 512 + r.val) / 4096, row_lt t r⟩ ⟨(t.val * 512 + r.val) % 4096, Nat.mod_lt _ (by decide)⟩ j) := by
  obtain ⟨e0, e1, e2, e3, e4, e5, e6⟩ := idx0 t
  blk_ext! [iblk, V, e2]

theorem blk3 (c : Dev nD) (t : Fin cfg0.N) (r : Fin 512) (j : Fin 1024) :
    iblk m c 3 t (ix2 r j) = m ((c : Thread nD τ).loc main_arg0)
      (ix3 ⟨(t.val * 512 + r.val) / 4096, row_lt t r⟩ ⟨(t.val * 512 + r.val) % 4096, Nat.mod_lt _ (by decide)⟩ j) := by
  obtain ⟨e0, e1, e2, e3, e4, e5, e6⟩ := idx0 t
  blk_ext! [iblk, V, e3]

theorem blk4 (c : Dev nD) (t : Fin cfg0.N) (z : Fin 1) (j : Fin 1024) :
    iblk m c 4 t (ix2 z j) = m ((c : Thread nD τ).loc main_arg1) (ix1 j) := by
  obtain ⟨e0, e1, e2, e3, e4, e5, e6⟩ := idx0 t
  blk_ext! [iblk, V, e4]

/-! ## Rows -/

/-- A row's inverse root mean square. -/
def rr (x : Fin 1024 → EReal) : EReal :=
  Ideal.rsqrt (Ideal.div (∑ k, x k * x k) (Ideal.ofBits .f32 0x44800000#32) + Ideal.ofBits .f32 0x358637BD#32)

/-- The gradient of the normalised row: its projection's gradient times the weights. -/
def dh (p : Fin 6144 → EReal) (w : Fin 1024 → Fin 6144 → EReal) (j : Fin 1024) : EReal := ∑ k, p k * w j k

/-- The gradient of `x`, one row. -/
def dxRow (h x g a : Fin 1024 → EReal) (j : Fin 1024) : EReal :=
  a j + rr x * (h j * g j - x j * rr x * Ideal.div (∑ k, h k * g k * (x k * rr x)) (Ideal.ofBits .f32 0x44800000#32))

theorem prod_at (dp : Vec Ideal S512x6144 .bf16) (w : Vec Ideal S8x1024x768 .bf16) (r : Fin 512) (j : Fin 1024) :
    prod dp w (ix2 r j) = ∑ q : Fin 8, ∑ k : Fin 768, dp (ix2 r ⟨q.val * 768 + k.val, by omega⟩) * w (ix3 q j k) := by
  unfold prod
  unfold_payloads
  rw [Fin.sum_univ_eight]
  pointwise

variable (h x a : Vec Ideal S512x1024 .f32) (g : Vec Ideal S1x1024 .f32)

theorem pay2_at (r : Fin 512) (j : Fin 1024) : k0_pay2 h (k0_pay8 x) (k0_pay9 x) g a (ix2 r j)
    = dxRow (fun k => h (ix2 r k)) (fun k => x (ix2 r k)) (fun k => g (ix2 0 k)) (fun k => a (ix2 r k)) j := by
  unfold_payloads
  pointwise [dxRow, rr]

/-- A block's part of the gain's gradient. -/
def dgBlk (h x : Vec Ideal S512x1024 .f32) (j : Fin 1024) : EReal :=
  ∑ r : Fin 512, h (ix2 r j) * (x (ix2 r j) * rr (fun k => x (ix2 r k)))

theorem pay3_at (z : Fin 1) (j : Fin 1024) (b : Vec Ideal S1x1024 .f32) : k0_pay3 h (k0_pay8 x) (k0_pay9 x) b (ix2 z j)
    = b (ix2 z j) + dgBlk h x j := by
  unfold_payloads
  pointwise [dgBlk, rr]

theorem zero4 (i) : (k0_pay4 (F := Ideal)) i = 0 := by
  unfold_payloads
  pointwise

/-! ## The two arrays -/

def xr (c : Dev nD) (b : Fin 2) (s : Fin 4096) (k : Fin 1024) : EReal := m ((c : Thread nD τ).loc main_arg0) (ix3 b s k)
def gr (c : Dev nD) (k : Fin 1024) : EReal := m ((c : Thread nD τ).loc main_arg1) (ix1 k)
def wr (c : Dev nD) (j : Fin 1024) (k : Fin 6144) : EReal := m ((c : Thread nD τ).loc main_arg2) (ix2 j k)
def ar (c : Dev nD) (b : Fin 2) (s : Fin 4096) (k : Fin 1024) : EReal := m ((c : Thread nD τ).loc main_arg3) (ix3 b s k)
def pr (c : Dev nD) (b : Fin 2) (s : Fin 4096) (k : Fin 6144) : EReal := m ((c : Thread nD τ).loc main_arg4) (ix3 b s k)

theorem row1 (c : Dev nD) (t : Fin cfg0.N) : (fun k => iblk m c 4 t (ix2 0 k)) = gr m c := funext fun k => blk4 m c t 0 k
theorem row2 (c : Dev nD) (t : Fin cfg0.N) (r : Fin 512) : (fun k => iblk m c 2 t (ix2 r k))
    = ar m c ⟨(t.val * 512 + r.val) / 4096, row_lt t r⟩ ⟨(t.val * 512 + r.val) % 4096, Nat.mod_lt _ (by decide)⟩ :=
  funext fun k => blk2 m c t r k
theorem row3 (c : Dev nD) (t : Fin cfg0.N) (r : Fin 512) : (fun k => iblk m c 3 t (ix2 r k))
    = xr m c ⟨(t.val * 512 + r.val) / 4096, row_lt t r⟩ ⟨(t.val * 512 + r.val) % 4096, Nat.mod_lt _ (by decide)⟩ :=
  funext fun k => blk3 m c t r k

/-- The eight parts of the product are the whole product. -/
theorem prod_row (c : Dev nD) (t : Fin cfg0.N) (r : Fin 512) (j : Fin 1024) : prod (iblk m c 0 t) (iblk m c 1 t) (ix2 r j)
    = dh (pr m c ⟨(t.val * 512 + r.val) / 4096, row_lt t r⟩ ⟨(t.val * 512 + r.val) % 4096, Nat.mod_lt _ (by decide)⟩) (wr m c) j := by
  rw [prod_at]
  simp only [blk0, blk1]
  exact Fin.sum_mul_add_fin 8 768 (fun k : Fin 6144 => pr m c ⟨(t.val * 512 + r.val) / 4096, row_lt t r⟩
    ⟨(t.val * 512 + r.val) % 4096, Nat.mod_lt _ (by decide)⟩ k * wr m c j k) rfl

def Gdx (c : Dev nD) : S8192x1024.Idx → EReal := fun i =>
  have hb : (i 0).val / 4096 < 2 := by have := (i 0).isLt; simp at this; omega
  have hs : (i 0).val % 4096 < 4096 := Nat.mod_lt _ (by decide)
  dxRow (dh (pr m c ⟨(i 0).val / 4096, hb⟩ ⟨(i 0).val % 4096, hs⟩) (wr m c)) (xr m c ⟨(i 0).val / 4096, hb⟩ ⟨(i 0).val % 4096, hs⟩)
    (gr m c) (ar m c ⟨(i 0).val / 4096, hb⟩ ⟨(i 0).val % 4096, hs⟩) ⟨(i 1).val, (i 1).isLt⟩

/-- One row's part of the gain's gradient. -/
def dgRow (c : Dev nD) (j : Fin 1024) (b : Fin 2) (s : Fin 4096) : EReal :=
  dh (pr m c b s) (wr m c) j * (xr m c b s j * rr (xr m c b s))

def Gdg (c : Dev nD) : S1x1024.Idx → EReal := fun i => ∑ b, ∑ s, dgRow m c ⟨(i 1).val, (i 1).isLt⟩ b s

theorem final_dx (c : Dev nD) : (dats m 0 c).arrAt 5 cfg0.N = Gdx m c := by
  refine (dats m 0 c).arrAt_eq_of_covers 5 _ (by decide +kernel) fun t hf y => ?_
  obtain ⟨e0, e1, e2, e3, e4, e5, e6⟩ := idx0 t
  blk_simp
  rw [after0_5, outs5]
  idx_vars y
  refine (pay2_at _ _ _ _ _ _).trans ?_
  rw [row1, row2, row3]
  simp only [prod_row]
  unfold Gdx
  blk_simp [e5]

theorem dg_part (c : Dev nD) (t : Fin cfg0.N) (j : Fin 1024) :
    dgBlk (prod (iblk m c 0 t) (iblk m c 1 t)) (iblk m c 3 t) j
      = ∑ r : Fin 512, dgRow m c j ⟨(t.val * 512 + r.val) / 4096, row_lt t r⟩ ⟨(t.val * 512 + r.val) % 4096, Nat.mod_lt _ (by decide)⟩ :=
  Finset.sum_congr rfl fun r _ => by rw [prod_row, row3, blk3]; rfl

theorem dg_at (c : Dev nD) (j : Fin 1024) : (outsAt0 m c t0_15.val t0_15.isLt).2 (ix2 0 j) = ∑ b, ∑ s, dgRow m c j b s := by
  refine (Pipeline.eq_sum_fin_of_reset_step_last (fun n h => (outsAt0 m c n h).2 (ix2 0 j)) 16 0
    (fun t => ∑ r : Fin 512, dgRow m c j ⟨(t.val * 512 + r.val) / 4096, row_lt t r⟩ ⟨(t.val * 512 + r.val) % 4096, Nat.mod_lt _ (by decide)⟩)
    (fun t h => ?_) (fun t h => ?_) (le_of_eq N_0) t0_15 rfl).trans ?_
  · rw [outs_first m c t h]
    refine (pay3_at _ _ _ _ _).trans ?_
    rw [zero4, dg_part]
  · rw [outs_next m c t h]
    refine (pay3_at _ _ _ _ _).trans ?_
    rw [dg_part]
  · rw [zero_add]
    exact Sums.sum_blocks cfg0.N 512 (by decide) (by rw [show cfg0.N = 16 from N_0]) (fun b s => dgRow m c j b s)

theorem final_dg (c : Dev nD) : (dats m 0 c).arrAt 6 cfg0.N = Gdg m c :=
  (dats m 0 c).arrAt_eq_of_after_last 6 t0_15 (by decide +kernel) _ fun j => by
    blk_simp
    rw [after0_6]
    idx_vars j
    unfold Gdg
    blk_simp
    obtain rfl : j0 = 0 := Subsingleton.elim _ _
    exact dg_at m c j1

end Cert.InxKIdeal.Rows
-- ==== Proof.InxValue.lean ====
/-
  The input projection's gradient: what the reference computes, read at an index, in the kernel's terms.
-/
module

public import proofs.«01_k».proof.Proof.InxKernel
public import proofs.«01_k».proof.Proof.Gen.InxRIdeal.Read

@[expose] public section

set_option maxRecDepth 16384

noncomputable section

namespace Cert.InxRIdeal.Rows

open Idealize.ShloMosaic Idealize.ShloMosaic.TcCoe Idealize.SL.Sem
open Cert.InxRIdeal.Read Cert.InxKIdeal.Rows

variable (x0 x3 : (⟨S2x4096x1024, .f32⟩ : BufTy).Contents (Elt Ideal)) (x1 : (⟨S1024, .f32⟩ : BufTy).Contents (Elt Ideal))
  (x2 : (⟨S1024x6144, .f32⟩ : BufTy).Contents (Elt Ideal)) (x4 : (⟨S2x4096x6144, .f32⟩ : BufTy).Contents (Elt Ideal))

theorem v17_at (b : Fin 2) (s : Fin 4096) (j : Fin 1024) :
    val_main_v17 x2 x4 (ix3 b s j) = dh (fun k => x4 (ix3 b s k)) (fun j k => x2 (ix2 j k)) j := by
  pointwise [val_main_v17, dh]

theorem v38_at (b : Fin 2) (s : Fin 4096) (j : Fin 1024) : val_main_v38 x0 x1 x2 x3 x4 (ix3 b s j)
    = dxRow (dh (fun k => x4 (ix3 b s k)) fun j k => x2 (ix2 j k)) (fun k => x0 (ix3 b s k)) (fun k => x1 (ix1 k))
        (fun k => x3 (ix3 b s k)) j := by
  obtain ⟨e, he, hw⟩ := Reals.wEps
  have h := Reals.rms_bwd Finset.univ (fun k => x0 (ix3 b s k))
    (fun k => dh (fun k => x4 (ix3 b s k)) (fun j k => x2 (ix2 j k)) k * x1 (ix1 k)) (d := 1024) (by norm_num) he j _ _ rfl rfl
  rw [← hw, ← Reals.w1024, ← Reals.wNegHalf] at h
  unfold dxRow
  refine Eq.trans ?_ (congrArg (x3 (ix3 b s j) + ·) h.symm)
  rw [← add_assoc, ← add_assoc]
  pointwise [v17_at, val_main_v0, val_main_cst, val_main_v1, val_main_v2, val_main_cst_0, val_main_v3, val_main_v4,
    val_main_cst_1, val_main_v5, val_main_v6, val_main_v7, val_main_v8, val_main_cst_2, val_main_v9, val_main_v10,
    val_main_v11, val_main_v12, val_main_v13, val_main_v14, val_main_v21, val_main_v22, val_main_v24, val_main_cst_5,
    val_main_v25, val_main_v26, val_main_v27, val_main_v28, val_main_v29, val_main_v30, val_main_cst_6, val_main_v31,
    val_main_v32, val_main_cst_7, val_main_v33, val_main_v34, val_main_v35, val_main_v36, val_main_v37, val_main_v38,
    Finset.univ_unique, Finset.sum_singleton]

theorem v39_at (n : Fin 8192) (j : Fin 1024) : val_main_v39 x0 x1 x2 x3 x4 (ix2 n j)
    = val_main_v38 x0 x1 x2 x3 x4 (ix3 ⟨n.val / 4096, by omega⟩ ⟨n.val % 4096, Nat.mod_lt _ (by decide)⟩ j) := by
  pointwise [val_main_v39]

theorem v40_at (z : Fin 1) (j : Fin 1024) : val_main_v40 x0 x2 x4 (ix2 z j)
    = ∑ b : Fin 2, ∑ s : Fin 4096, dh (fun k => x4 (ix3 b s k)) (fun j k => x2 (ix2 j k)) j
        * (x0 (ix3 b s j) * rr (fun k => x0 (ix3 b s k))) := by
  have h : val_main_v40 x0 x2 x4 (ix2 z j) = ∑ b : Fin 2, ∑ s : Fin 4096,
      x0 (ix3 b s j) * rr (fun k => x0 (ix3 b s k)) * dh (fun k => x4 (ix3 b s k)) (fun j k => x2 (ix2 j k)) j := by
    pointwise [rr, Sums.hostReduceAdd_r3_a01, v17_at, val_main_v40, val_main_v23, val_main_cst_4, val_main_v20, val_main_v19,
      val_main_cst_3, val_main_v18, val_main_v12, val_main_v11, val_main_v7, val_main_v6, val_main_v5, val_main_cst_1,
      val_main_v4, val_main_v3, val_main_cst_0, val_main_v2, val_main_v1, val_main_cst, val_main_v0, Finset.univ_unique,
      Finset.sum_singleton]
  rw [h]
  exact Finset.sum_congr rfl fun b _ => Finset.sum_congr rfl fun s _ => mul_comm _ _

end Cert.InxRIdeal.Rows
-- ==== Proof.InxClaims.lean ====
/-
  The input projection's gradient: its claims.
-/
module

public import proofs.«01_k».proof.Defs
public import proofs.«01_k».proof.Proof.InxValue
public import proofs.«01_k».proof.Proof.Gen.InxK.Frame
public import proofs.«01_k».proof.Proof.Gen.InxRIdeal.Run

@[expose] public section

set_option maxRecDepth 16384

noncomputable section

namespace Cert.Inx

open Idealize.ShloMosaic Idealize.ShloMosaic.TcCoe Idealize.SL.Sem Cert.InxKIdeal.Rows Cert.InxRIdeal.Rows

theorem frame_r : Cert.quiescent_InxRIdeal := fun m ρ _ =>
  (θ_run Cert.InxRIdeal.defs _ _).mono (fun r h => ⟨fun c => (h c).2.2, sem_eq_zero_of_no_sems (by decide) r.2⟩)
    (Cert.InxRIdeal.Value.run m ρ)

theorem algebraic : Cert.algebraic_InxKIdeal_InxRIdeal := fun m ρ m' ρ' _ hag =>
  ⟨Gdx m, Gdg m,
    (θ_run Cert.InxKIdeal.defs _ _).mono (fun _ h c => ⟨(h c).1.trans (final_dx m c), (h c).2.1.trans (final_dg m c), (h c).2.2⟩)
      (Cert.InxKIdeal.Value.run_blocks m ρ),
    (θ_run Cert.InxRIdeal.defs _ _).mono (fun _ h c => by
      obtain ⟨a0, a1, a2, a3, a4⟩ := hag c
      refine ⟨(h c).1.trans ?_, (h c).2.1.trans ?_, (h c).2.2⟩
      · rw [Cert.InxRIdeal.Read.val_main_v39_eq, a0, a1, a2, a3, a4]
        funext i
        idx_vars i
        exact (v39_at _ _ _ _ _ _ _).trans (v38_at _ _ _ _ _ _ _ _)
      · rw [Cert.InxRIdeal.Read.val_main_v40_eq, a0, a2, a4]
        funext i
        idx_vars i
        exact v40_at _ _ _ _ _) (Cert.InxRIdeal.Value.run m' ρ')⟩

end Cert.Inx
-- ==== Proof.Closed.lean ====
/-
  Extended reals that are reals: closed under the operations the gradients use. With it the three identities that hold
  of reals only: the gradients of the exact GELU, of the SiLU and of a layer norm's row, each read two ways.
-/
module

public import proofs.«01_k».proof.Proof.Reals

@[expose] public section

noncomputable section

namespace Cert.Reals

open Idealize.ShloMosaic

@[norm_cast] theorem coe_sum {ι : Type*} (s : Finset ι) (f : ι → ℝ) : ((∑ k ∈ s, f k : ℝ) : EReal) = ∑ k ∈ s, (f k : EReal) := by
  classical
  induction s using Finset.induction with
  | empty => simp
  | insert a s ha ih => rw [Finset.sum_insert ha, Finset.sum_insert ha, EReal.coe_add, ih]

/-- `x` is a real. -/
def IsR (x : EReal) : Prop := ∃ r : ℝ, x = (r : EReal)

namespace IsR

variable {x y : EReal}

theorem coe (r : ℝ) : IsR (r : EReal) := ⟨r, rfl⟩
theorem zero : IsR 0 := ⟨0, rfl⟩
theorem one : IsR 1 := ⟨1, rfl⟩
theorem add (hx : IsR x) (hy : IsR y) : IsR (x + y) := by
  obtain ⟨a, rfl⟩ := hx; obtain ⟨b, rfl⟩ := hy; exact ⟨a + b, by norm_cast⟩
theorem sub (hx : IsR x) (hy : IsR y) : IsR (x - y) := by
  obtain ⟨a, rfl⟩ := hx; obtain ⟨b, rfl⟩ := hy; exact ⟨a - b, by norm_cast⟩
theorem mul (hx : IsR x) (hy : IsR y) : IsR (x * y) := by
  obtain ⟨a, rfl⟩ := hx; obtain ⟨b, rfl⟩ := hy; exact ⟨a * b, by norm_cast⟩
theorem sum {ι : Type*} (s : Finset ι) {f : ι → EReal} (hf : ∀ k, IsR (f k)) : IsR (∑ k ∈ s, f k) := by
  choose g hg using hf
  exact ⟨∑ k ∈ s, g k, by simp only [hg]; norm_cast⟩
theorem ite {p : Prop} [Decidable p] (hx : IsR x) (hy : IsR y) : IsR (if p then x else y) := by
  split
  · exact hx
  · exact hy
theorem div {d : ℝ} (hx : IsR x) (hd : d ≠ 0) : IsR (Ideal.div x (d : EReal)) := by
  rw [div_real _ hd]; exact hx.mul (coe _)
theorem exp (hx : IsR x) : IsR (Ideal.exp x) := by obtain ⟨a, rfl⟩ := hx; exact ⟨_, Ideal.exp_coe a⟩
theorem erf (hx : IsR x) : IsR (Ideal.erf x) := by obtain ⟨a, rfl⟩ := hx; exact ⟨_, Ideal.erf_coe a⟩
theorem logistic (hx : IsR x) : IsR (Ideal.logistic x) := by obtain ⟨a, rfl⟩ := hx; exact ⟨_, Ideal.logistic_coe a⟩

/-- The inverse root of a mean of squares and a positive number. -/
theorem rstd {ι : Type*} (s : Finset ι) {f : ι → EReal} (hf : ∀ k, IsR (f k)) {d e : ℝ} (hd : 0 < d) (he : 0 < e) :
    IsR (Ideal.rsqrt (Ideal.div (∑ k ∈ s, f k * f k) (d : EReal) + (e : EReal))) := by
  rcases var_cases s (fun k => f k * f k) (fun k => mul_self_nonneg _) hd he with h | ⟨w, hw, h⟩
  · rw [h]; exact zero
  · rw [h, Ideal.rsqrt_coe, if_neg (not_lt.mpr hw.le), if_neg hw.ne']; exact coe _

end IsR

/-- A row less its mean sums to zero. -/
theorem centred_sum {n : ℕ} (f : Fin n → EReal) (hf : ∀ k, IsR (f k)) {d : ℝ} (hd : d = n) (hn : n ≠ 0) :
    ∑ k, (f k - Ideal.div (∑ i, f i) (d : EReal)) = 0 := by
  have hd0 : d ≠ 0 := by rw [hd]; exact_mod_cast hn
  choose g hg using hf
  simp only [hg, div_real _ hd0]
  norm_cast
  rw [Finset.sum_sub_distrib, Finset.sum_const, Finset.card_univ, Fintype.card_fin, nsmul_eq_mul, ← hd]
  field_simp
  simp

/-- A layer norm's row: the gradient by hand, and that of the lines that norm it. -/
theorem ln_bwd {ι : Type*} (s : Finset ι) (x g : ι → EReal) (hx : ∀ k, IsR (x k)) (hg : ∀ k, IsR (g k)) (h0 : ∑ k ∈ s, x k = 0)
    {d e : ℝ} (hd : 0 < d) (he : 0 < e) (j : ι) (v r q : EReal) (p : ι → EReal)
    (hv : v = Ideal.div (∑ k ∈ s, x k * x k) (d : EReal) + (e : EReal)) (hr : r = Ideal.rsqrt v)
    (hq : q = Ideal.div ((∑ k ∈ s, x k * g k) * (((-(1 / 2) : ℝ) : EReal) * Ideal.div r v)) (d : EReal))
    (hp : ∀ k, p k = g k * r + x k * q + q * x k) :
    r * (g j - Ideal.div (∑ k ∈ s, g k) (d : EReal) - x j * r * Ideal.div (∑ k ∈ s, g k * (x k * r)) (d : EReal))
      = p j + Ideal.div (∑ k ∈ s, -p k) (d : EReal) := by
  choose x' hx' using hx
  choose g' hg' using hg
  obtain ⟨w, hw, hvw⟩ : ∃ w : ℝ, 0 < w ∧ v = (w : EReal) := by
    refine ⟨(∑ k ∈ s, x' k * x' k) * (1 / d) + e, ?_, ?_⟩
    · have : 0 ≤ ∑ k ∈ s, x' k * x' k := Finset.sum_nonneg fun k _ => _root_.mul_self_nonneg _
      positivity
    · rw [hv, div_real _ hd.ne']; simp only [hx']; norm_cast
  have hr' : r = (((Real.sqrt w)⁻¹ : ℝ) : EReal) := by
    rw [hr, hvw, Ideal.rsqrt_coe, if_neg (not_lt.mpr hw.le), if_neg hw.ne']
  have hrr : (Real.sqrt w)⁻¹ * (Real.sqrt w)⁻¹ = 1 / w := by
    rw [← mul_inv, Real.mul_self_sqrt hw.le, one_div]
  have h0' : ∑ k ∈ s, x' k = 0 := by simp only [hx'] at h0; exact_mod_cast h0
  generalize (Real.sqrt w)⁻¹ = ρ at hr' hrr
  have hq' : q = (((∑ k ∈ s, x' k * g' k) * (-(1 / 2) * (ρ * (1 / w))) * (1 / d) : ℝ) : EReal) := by
    rw [hq, hvw, hr', div_real _ hw.ne', div_real _ hd.ne']; simp only [hx', hg']; norm_cast
  have hp' (k) : p k = ((g' k * ρ + x' k * ((∑ k ∈ s, x' k * g' k) * (-(1 / 2) * (ρ * (1 / w))) * (1 / d))
      + (∑ k ∈ s, x' k * g' k) * (-(1 / 2) * (ρ * (1 / w))) * (1 / d) * x' k : ℝ) : EReal) := by
    rw [hp, hq', hr', hx', hg']; norm_cast
  simp only [hp', hr', hx', hg', div_real _ hd.ne']
  norm_cast
  rw [← hrr]
  have e1 : ∑ k ∈ s, g' k * (x' k * ρ) = (∑ k ∈ s, x' k * g' k) * ρ := by
    rw [Finset.sum_mul]; exact Finset.sum_congr rfl fun k _ => by ring
  have e2 (q : ℝ) : ∑ k ∈ s, -(g' k * ρ + x' k * q + q * x' k) = -((∑ k ∈ s, g' k) * ρ) := by
    have : ∀ k, -(g' k * ρ + x' k * q + q * x' k) = -(g' k * ρ) + x' k * (-2 * q) := fun k => by ring
    simp only [this]
    rw [Finset.sum_add_distrib, ← Finset.sum_mul, h0', Finset.sum_neg_distrib, ← Finset.sum_mul]
    ring
  rw [e1, e2]
  ring

/-- The gradient of `q · (y · silu z)` in `z`, by hand and as differentiated. -/
theorem silu_bwd {y q z s : EReal} (hy : IsR y) (hq : IsR q) (hz : IsR z) (hs : IsR s) :
    q * y * (s * (1 + z * (1 - s))) = y * q * s + z * (y * q) * (s * (1 - s)) := by
  obtain ⟨y, rfl⟩ := hy
  obtain ⟨q, rfl⟩ := hq
  obtain ⟨z, rfl⟩ := hz
  obtain ⟨s, rfl⟩ := hs
  rw [← EReal.coe_one]
  norm_cast
  ring

theorem sqrt_two : Ideal.sqrt (Ideal.ofBits .f32 0x40000000#32) = ((Real.sqrt 2 : ℝ) : EReal) := by
  rw [wTwo, Ideal.sqrt_coe, if_neg (by norm_num)]

theorem sqrt_two_ne : Real.sqrt 2 ≠ 0 := by positivity

/-- The host's argument of the error function is the body's, negated. -/
theorem neg_div_sqrt_two (x : EReal) : Ideal.div (-x) (Ideal.sqrt (Ideal.ofBits .f32 0x40000000#32)) = -(x * ((Real.sqrt 2)⁻¹ : ℝ)) := by
  rw [sqrt_two, div_real _ sqrt_two_ne, one_div, EReal.neg_mul]

/-- The word of minus `2 / √π`, as the host writes it. -/
theorem wSlope : Ideal.ofBits .f32 0xBF906EBB#32 = ((-(9465531 / 8388608) : ℝ) : EReal) := by
  simp [Ideal.ofBits, Ideal.ieee, -EReal.coe_mul, -EReal.coe_neg]; norm_num

/-- The gradient of the exact GELU: by hand, with the two constants named, and as differentiated. -/
theorem gelu_bwd {x g : EReal} (hx : IsR x) (hg : IsR g) :
    g * (Ideal.ofBits .f32 0x3F000000#32 * (1 + Ideal.erf (x * ((Real.sqrt 2)⁻¹ : ℝ)))
        + x * (Ideal.exp (Ideal.ofBits .f32 0xBF000000#32 * x * x) * ((9465531 / 16777216 * (Real.sqrt 2)⁻¹ : ℝ) : ℝ)))
      = -(Ideal.div (Ideal.ofBits .f32 0xBF906EBB#32 * (Ideal.ofBits .f32 0x3F000000#32 * x * g)
            * Ideal.exp (-(-(x * ((Real.sqrt 2)⁻¹ : ℝ)) * -(x * ((Real.sqrt 2)⁻¹ : ℝ))))) (Ideal.sqrt (Ideal.ofBits .f32 0x40000000#32)))
        + Ideal.ofBits .f32 0x3F000000#32 * (g * Ideal.erfc (-(x * ((Real.sqrt 2)⁻¹ : ℝ)))) := by
  rw [Ideal.erfc_neg, sqrt_two, div_real _ sqrt_two_ne, wHalf, wNegHalf, wSlope]
  have hR : IsR (Ideal.erf (x * ((Real.sqrt 2)⁻¹ : ℝ))) := (hx.mul (IsR.coe _)).erf
  obtain ⟨E, hE⟩ := hR
  rw [hE]
  obtain ⟨x, rfl⟩ := hx
  obtain ⟨g, rfl⟩ := hg
  have h2 : (Real.sqrt 2)⁻¹ * (Real.sqrt 2)⁻¹ = 1 / 2 := by
    rw [← mul_inv, Real.mul_self_sqrt (by norm_num), one_div]
  have e1 : Ideal.exp (((-(1 / 2) : ℝ) : EReal) * (x : EReal) * (x : EReal)) = ((Real.exp (-(1 / 2) * x * x) : ℝ) : EReal) := by
    rw [← EReal.coe_mul, ← EReal.coe_mul, Ideal.exp_coe]
  have e2 : Ideal.exp (-(-((x : EReal) * ((Real.sqrt 2)⁻¹ : ℝ)) * -((x : EReal) * ((Real.sqrt 2)⁻¹ : ℝ))))
      = ((Real.exp (-(1 / 2) * x * x) : ℝ) : EReal) := by
    rw [← EReal.coe_mul, ← EReal.coe_neg, ← EReal.coe_mul, ← EReal.coe_neg, Ideal.exp_coe]
    congr 2
    linear_combination -x * x * h2
  rw [e1, e2, ← EReal.coe_one, one_div]
  norm_cast
  ring

end Cert.Reals
-- ==== Proof.Finite.lean ====
/-
  A finiteness precondition read back: an array of which every element's absolute value is below infinity is an array
  of real numbers.
-/
module

public import proofs.«01_k».proof.Proof.Closed
public import Idealize.ShloMosaic.Lib.ReduceAll
public import Idealize.ShloMosaic.Lib.Affine
public import Idealize.ShloMosaic.Lib.Pointwise

@[expose] public section

noncomputable section

namespace Cert.Reals

open Idealize.ShloMosaic

theorem real_of_lt_top (x : EReal) (h : max x (-x) < ⊤) : IsR x := by
  induction x with
  | bot => exact absurd h (by simp)
  | top => exact absurd h (by simp)
  | coe r => exact ⟨r, rfl⟩

theorem wInf : Ideal.ofBits .f32 0x7F800000#32 = ⊤ := by simp [Ideal.ofBits, Ideal.ieee, -EReal.coe_mul]

theorem real_of_all {s : Shape} {axes : List (Fin s.rank)} {x : FVec Ideal s .f32}
    {hb : (⟨0, ![]⟩ : Shape).BroadcastsInDim s (![] : Fin 0 → Fin s.rank)} {hr : s.ReducesTo axes ⟨0, ![]⟩}
    {h0 : 0 < (⟨0, ![]⟩ : Shape).numel} {v : IVec ⟨0, ![]⟩ 1} {j : (⟨0, ![]⟩ : Shape).Idx}
    (e : Host.reduce IntOp.andi (cmpf .olt (Host.absf x) (broadcastInDim s ![] hb (constant ⟨0, ![]⟩ .f32 0x7F800000#32))) v hr h0 j = 1#1)
    (i : s.Idx) : IsR (x i) := by
  haveI : Subsingleton (⟨0, ![]⟩ : Shape).Idx := ⟨fun a b => funext fun q => q.elim0⟩
  have h := Host.reduce_andi_all _ _ _ _ _ e i
  revert h
  pointwise [wInf]
  intro h
  refine real_of_lt_top _ ?_
  by_contra hn
  have : decide (FloatOps.absf (F := Ideal) (φ := .f32) (x i) < (⊤ : EReal)) = false := decide_eq_false hn
  rw [this] at h
  exact absurd h (by decide)

theorem and_all {a b : IVec ⟨0, ![]⟩ 1} {j : (⟨0, ![]⟩ : Shape).Idx} (e : andi a b j = 1#1) : a j = 1#1 ∧ b j = 1#1 :=
  IntOp.andi_eq_one.mp e

end Cert.Reals
-- ==== Proof.SguRow.lean ====
/-
  The chunked gMLP mixer's gradient: one chunk of 128 rows. Its three parts of the projection, the gradient of its
  result, and the parameters, as functions; and everything the kernel computes from them, a name each.
-/
module

public import Idealize.ShloMosaic.Lib.Pointwise
public import Idealize.ShloMosaic.Lib.IdealHost
public import Idealize.ShloMosaic.Lib.WordCmp

@[expose] public section

noncomputable section

namespace Cert.Sgu

open Idealize.ShloMosaic

/-- A comparison of two positions in a chunk, as a choice. -/
theorem sel_ge (a b : Fin 128) (p q : EReal) :
    Scalar.select (IntOp.cmpi .sge (BitVec.ofNat 32 a.val) (BitVec.ofNat 32 b.val)) p q = if b ≤ a then p else q := by
  rw [WordCmp.cmpi_sge_ofNat (by have := a.isLt; omega) (by have := b.isLt; omega)]
  by_cases h : b ≤ a
  · rw [if_pos h, decide_eq_true (Fin.le_def.mp h)]; rfl
  · rw [if_neg h, decide_eq_false (fun e => h (Fin.le_def.mpr e))]; rfl

theorem sel_le (a b : Fin 128) (p q : EReal) :
    Scalar.select (IntOp.cmpi .sle (BitVec.ofNat 32 a.val) (BitVec.ofNat 32 b.val)) p q = if a ≤ b then p else q := by
  rw [WordCmp.cmpi_sle_ofNat (by have := a.isLt; omega) (by have := b.isLt; omega)]
  by_cases h : a ≤ b
  · rw [if_pos h, decide_eq_true (Fin.le_def.mp h)]; rfl
  · rw [if_neg h, decide_eq_false (fun e => h (Fin.le_def.mpr e))]; rfl

/-! ## Scalars -/

def half : EReal := Ideal.ofBits .f32 0x3F000000#32
def n2048 : EReal := Ideal.ofBits .f32 0x45000000#32
def eps : EReal := Ideal.ofBits .f32 0x358637BD#32
/-- The reciprocal of the square root of two. -/
def cc : EReal := ((Real.sqrt 2)⁻¹ : ℝ)
/-- Half of the slope of the error function at zero, as the host writes it, over the square root of two. -/
def pp : EReal := ((9465531 / 16777216 * (Real.sqrt 2)⁻¹ : ℝ) : ℝ)

def gelu (x : EReal) : EReal := half * x * (1 + Ideal.erf (x * cc))
def geluD (x : EReal) : EReal :=
  half * (1 + Ideal.erf (x * cc)) + x * (Ideal.exp (Ideal.ofBits .f32 0xBF000000#32 * x * x) * pp)
def sgm (z : EReal) : EReal := Ideal.logistic z
def siluD (z : EReal) : EReal := sgm z * (1 + z * (1 - sgm z))

/-- The group of a column. -/
def grp (j : Fin 2048) : Fin 8 := ⟨j.val / 256, by omega⟩
/-- A column of a group. -/
def col (g : Fin 8) (k : Fin 256) : Fin 2048 := ⟨g.val * 256 + k.val, by omega⟩

/-- One chunk: the three parts of the projection, the result's gradient, and the parameters. -/
structure Chunk where
  A : Fin 128 → Fin 2048 → EReal
  B : Fin 128 → Fin 2048 → EReal
  Z : Fin 128 → Fin 2048 → EReal
  X : Fin 128 → Fin 1024 → EReal
  W : Fin 2048 → Fin 1024 → EReal
  lg : Fin 2048 → EReal
  lb : Fin 2048 → EReal
  S : Fin 8 → Fin 128 → Fin 128 → EReal
  T : Fin 8 → Fin 128 → EReal

namespace Chunk

variable (c : Chunk)

def u (t : Fin 128) (j : Fin 2048) : EReal := gelu (c.A t j)
def vg (t : Fin 128) (j : Fin 2048) : EReal := gelu (c.B t j)
def xc (t : Fin 128) (j : Fin 2048) : EReal := c.vg t j - Ideal.div (∑ k, c.vg t k) n2048
def rstd (t : Fin 128) : EReal := Ideal.rsqrt (Ideal.div (∑ k, c.xc t k * c.xc t k) n2048 + eps)
def xh (t : Fin 128) (j : Fin 2048) : EReal := c.xc t j * c.rstd t
def v (t : Fin 128) (j : Fin 2048) : EReal := c.xh t j * c.lg j + c.lb j
def mix (t : Fin 128) (j : Fin 2048) : EReal :=
  (∑ s, (if s ≤ t then c.S (grp j) t s else 0) * c.v s j) + c.T (grp j) t
def y (t : Fin 128) (j : Fin 2048) : EReal := c.u t j * c.mix t j
def sz (t : Fin 128) (j : Fin 2048) : EReal := c.Z t j * sgm (c.Z t j)
def dq (t : Fin 128) (j : Fin 2048) : EReal := ∑ k, c.X t k * c.W j k
def dz (t : Fin 128) (j : Fin 2048) : EReal := c.dq t j * c.y t j * siluD (c.Z t j)
def dy (t : Fin 128) (j : Fin 2048) : EReal := c.dq t j * c.sz t j
def du (t : Fin 128) (j : Fin 2048) : EReal := c.dy t j * c.mix t j
def dm (t : Fin 128) (j : Fin 2048) : EReal := c.dy t j * c.u t j
def dv (s : Fin 128) (j : Fin 2048) : EReal := ∑ t, (if s ≤ t then c.S (grp j) t s else 0) * c.dm t j
def dx (s : Fin 128) (j : Fin 2048) : EReal := c.dv s j * c.lg j
def dn (s : Fin 128) (j : Fin 2048) : EReal :=
  c.rstd s * (c.dx s j - Ideal.div (∑ k, c.dx s k) n2048 - c.xh s j * Ideal.div (∑ k, c.dx s k * c.xh s k) n2048)
def da (t : Fin 128) (j : Fin 2048) : EReal := c.du t j * geluD (c.A t j)
def db (t : Fin 128) (j : Fin 2048) : EReal := c.dn t j * geluD (c.B t j)

/-! The chunk's parts of the gradients of the parameters. -/

def pwo (j : Fin 2048) (k : Fin 1024) : EReal := ∑ t, c.y t j * c.sz t j * c.X t k
def psw (g : Fin 8) (t s : Fin 128) : EReal := ∑ k, c.dm t (col g k) * c.v s (col g k)
def psb (g : Fin 8) (t : Fin 128) : EReal := ∑ k, c.dm t (col g k)
def plg (j : Fin 2048) : EReal := ∑ s, c.dv s j * c.xh s j
def plb (j : Fin 2048) : EReal := ∑ s, c.dv s j

end Chunk

end Cert.Sgu
-- ==== Proof.SguPay.lean ====
/-
  The chunked gMLP mixer's gradient: what a block of 256 rows holds, read at a row of one of its two chunks.
-/
module

public import proofs.«01_k».proof.Proof.SguRow
public import proofs.«01_k».proof.Proof.Gen.SguKIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.SguKIdeal.Rows

open Idealize.ShloMosaic Idealize.ShloMosaic.TcCoe Idealize.SL.Sem
open Cert.SguKIdeal Cert.SguKIdeal.Gen Cert.Sgu

/-- Row `t` of chunk `q` of a block. -/
def row (q : Fin 2) (t : Fin 128) : Fin 256 := ⟨q.val * 128 + t.val, by omega⟩

variable (a b z : Vec Ideal S256x2048 .f32) (x : Vec Ideal S256x1024 .f32) (w : Vec Ideal S2048x1024 .bf16)
  (lg lb : Vec Ideal S1x2048 .f32) (sw swt : Vec Ideal S8x128x128 .f32) (sbt : Vec Ideal S128x8 .f32)

/-- A chunk of a block. -/
def chunk (q : Fin 2) : Chunk where
  A t j := a (ix2 (row q t) j)
  B t j := b (ix2 (row q t) j)
  Z t j := z (ix2 (row q t) j)
  X t k := x (ix2 (row q t) k)
  W j k := w (ix2 j k)
  lg j := lg (ix2 0 j)
  lb j := lb (ix2 0 j)
  S g t s := sw (ix3 g t s)
  T g t := sbt (ix2 t g)

theorem c_eq : (Named.named κ "c" 1060439283#32 : Ideal .f32) = cc := rfl
theorem p_eq : (Named.named κ "p" 0x3ECC422A#32 : Ideal .f32) = pp := rfl
theorem erf_eq (x : Ideal .f32) : FloatOps.erf x = Ideal.erf x := rfl

theorem u_at (q : Fin 2) (t : Fin 128) (j : Fin 2048) : k0_pay31 a (ix2 (row q t) j) = (chunk a b z x w lg lb sw sbt q).u t j := by
  unfold_payloads
  pointwise [Chunk.u, gelu, chunk, half, c_eq, erf_eq]

theorem xc_at (q : Fin 2) (t : Fin 128) (j : Fin 2048) : k0_pay32 b (ix2 (row q t) j) = (chunk a b z x w lg lb sw sbt q).xc t j := by
  unfold_payloads
  pointwise [Chunk.xc, Chunk.vg, gelu, chunk, half, n2048, c_eq, erf_eq]

theorem rstd_at (q : Fin 2) (t : Fin 128) (i : Fin 1) : k0_pay34 (k0_pay33 b) (ix2 (row q t) i) = (chunk a b z x w lg lb sw sbt q).rstd t := by
  unfold_payloads
  pointwise [Chunk.rstd, Chunk.xc, Chunk.vg, gelu, chunk, half, n2048, eps, c_eq, erf_eq]

theorem xh_at (q : Fin 2) (t : Fin 128) (j : Fin 2048) : k0_pay35 (k0_pay32 b) (k0_pay33 b) (ix2 (row q t) j) = (chunk a b z x w lg lb sw sbt q).xh t j := by
  unfold_payloads
  pointwise [Chunk.xh, Chunk.rstd, Chunk.xc, Chunk.vg, gelu, chunk, half, n2048, eps, c_eq, erf_eq]

theorem v_at (q : Fin 2) (t : Fin 128) (j : Fin 2048) :
    k0_pay36 (k0_pay27 lg) (k0_pay28 lb) (k0_pay32 b) (k0_pay33 b) (ix2 (row q t) j) = (chunk a b z x w lg lb sw sbt q).v t j := by
  unfold_payloads
  pointwise [Chunk.v, Chunk.xh, Chunk.rstd, Chunk.xc, Chunk.vg, gelu, chunk, half, n2048, eps, c_eq, erf_eq]

theorem y_at (q : Fin 2) (t : Fin 128) (j : Fin 2048) (m : Vec Ideal S256x2048 .f32)
    (h : m (ix2 (row q t) j) = (chunk a b z x w lg lb sw sbt q).mix t j) : k0_pay72 (k0_pay31 a) m (ix2 (row q t) j) = (chunk a b z x w lg lb sw sbt q).y t j := by
  unfold Chunk.y
  rw [← u_at, ← h]
  unfold_payloads
  pointwise

theorem dz_at (q : Fin 2) (t : Fin 128) (j : Fin 2048) (y : FVec Ideal S256x2048 .f32)
    (h : y (ix2 (row q t) j) = (chunk a b z x w lg lb sw sbt q).y t j) : k0_pay79 y z x w (ix2 (row q t) j) = (chunk a b z x w lg lb sw sbt q).dz t j := by
  unfold Chunk.dz
  rw [← h]
  unfold_payloads
  pointwise [Chunk.dq, siluD, Sgu.sgm, chunk]

theorem du_at (q : Fin 2) (t : Fin 128) (j : Fin 2048) (m : Vec Ideal S256x2048 .f32)
    (h : m (ix2 (row q t) j) = (chunk a b z x w lg lb sw sbt q).mix t j) : k0_pay81 m z x w (ix2 (row q t) j) = (chunk a b z x w lg lb sw sbt q).du t j := by
  unfold Chunk.du
  rw [← h]
  unfold_payloads
  pointwise [Chunk.dy, Chunk.dq, Chunk.sz, Sgu.sgm, chunk]

theorem dm_at (q : Fin 2) (t : Fin 128) (j : Fin 2048) (u : FVec Ideal S256x2048 .f32)
    (h : u (ix2 (row q t) j) = (chunk a b z x w lg lb sw sbt q).u t j) : k0_pay82 u z x w (ix2 (row q t) j) = (chunk a b z x w lg lb sw sbt q).dm t j := by
  unfold Chunk.dm
  rw [← h]
  unfold_payloads
  pointwise [Chunk.dy, Chunk.dq, Chunk.sz, Sgu.sgm, chunk]

theorem da_at (q : Fin 2) (t : Fin 128) (j : Fin 2048) (d : FVec Ideal S256x2048 .f32)
    (h : d (ix2 (row q t) j) = (chunk a b z x w lg lb sw sbt q).du t j) :
    k0_pay1 (k0_pay25 a) d (k0_pay172 (k0_pay25 a)) (k0_pay174 (k0_pay29 a)) (ix2 (row q t) j) = (chunk a b z x w lg lb sw sbt q).da t j := by
  unfold Chunk.da
  rw [← h]
  unfold_payloads
  pointwise [chunk, geluD, half, c_eq, p_eq, erf_eq]

/-- The gradient of the LayerNorm's argument, before GELU's. -/
theorem dn_at (q : Fin 2) (t : Fin 128) (j : Fin 2048) (d : Vec Ideal S256x2048 .f32)
    (h : ∀ j, d (ix2 (row q t) j) = (chunk a b z x w lg lb sw sbt q).dv t j) :
    k0_pay171 (k0_pay27 lg) (k0_pay34 (k0_pay33 b)) (k0_pay35 (k0_pay32 b) (k0_pay33 b)) d (ix2 (row q t) j) = (chunk a b z x w lg lb sw sbt q).dn t j := by
  have e : k0_pay171 (k0_pay27 lg) (k0_pay34 (k0_pay33 b)) (k0_pay35 (k0_pay32 b) (k0_pay33 b)) d (ix2 (row q t) j)
      = k0_pay34 (k0_pay33 b) (ix2 (row q t) 0) * (d (ix2 (row q t) j) * lg (ix2 0 j)
        - Ideal.div (∑ k, d (ix2 (row q t) k) * lg (ix2 0 k)) n2048
        - k0_pay35 (k0_pay32 b) (k0_pay33 b) (ix2 (row q t) j)
          * Ideal.div (∑ k, d (ix2 (row q t) k) * lg (ix2 0 k) * k0_pay35 (k0_pay32 b) (k0_pay33 b) (ix2 (row q t) k)) n2048) := by
    generalize k0_pay35 (k0_pay32 b) (k0_pay33 b) = xh
    generalize k0_pay34 (k0_pay33 b) = rs
    unfold_payloads
    pointwise [n2048]
  rw [e, rstd_at (a := a) (z := z) (x := x) (w := w) (lg := lg) (lb := lb) (sw := sw) (sbt := sbt)]
  simp only [h, xh_at (a := a) (z := z) (x := x) (w := w) (lg := lg) (lb := lb) (sw := sw) (sbt := sbt)]
  rfl

theorem db_at (q : Fin 2) (t : Fin 128) (j : Fin 2048) (d : FVec Ideal S256x2048 .f32)
    (h : d (ix2 (row q t) j) = (chunk a b z x w lg lb sw sbt q).dn t j) :
    k0_pay2 (k0_pay26 b) (k0_pay30 b) d (k0_pay173 (k0_pay26 b)) (ix2 (row q t) j) = (chunk a b z x w lg lb sw sbt q).db t j := by
  unfold Chunk.db
  rw [← h]
  unfold_payloads
  pointwise [chunk, geluD, half, c_eq, p_eq, erf_eq]

end Cert.SguKIdeal.Rows
-- ==== Proof.SguMix.lean ====
/-
  The chunked gMLP mixer's gradient: the two scratch buffers of a block, each stored in sixteen pieces, one for every
  group of columns of every chunk, read back at an index. The first is the mixing of the normalised rows, the second
  its transpose, of the mixing's gradient.
-/
module

public import proofs.«01_k».proof.Proof.SguPay

@[expose] public section

set_option maxRecDepth 16384

noncomputable section

namespace Cert.SguKIdeal.Rows

open Idealize.ShloMosaic Idealize.ShloMosaic.TcCoe Idealize.SL.Sem
open Cert.SguKIdeal Cert.SguKIdeal.Gen Cert.Sgu

/-- The pieces of the mixing. -/
def mixL (lg lb : FVec Ideal S1x2048 .f32) (xc : FVec Ideal S256x2048 .f32) (mu : FVec Ideal S256x1 .f32)
    (sw : Vec Ideal S8x128x128 .f32) (sbt : Vec Ideal S128x8 .f32) : List (View.Piece (Elt Ideal) S256x2048 .f32) :=
    [⟨Rect.unit ![128, 1792] ![128, 256] inb_S256x2048_S128x256_128_1792,
      k0_pay71 (k0_pay36 lg lb xc mu) k0_pay37 (View.ld sw (Rect.unit ![7, 0, 0] ![1, 128, 128] inb_S8x128x128_S1x128x128_7_0_0)) (View.ld sbt (Rect.unit ![0, 7] ![128, 1] inb_S128x8_S128x1_0_7))⟩,
    ⟨Rect.unit ![0, 1792] ![128, 256] inb_S256x2048_S128x256_0_1792,
      k0_pay70 (k0_pay36 lg lb xc mu) k0_pay37 (View.ld sw (Rect.unit ![7, 0, 0] ![1, 128, 128] inb_S8x128x128_S1x128x128_7_0_0)) (View.ld sbt (Rect.unit ![0, 7] ![128, 1] inb_S128x8_S128x1_0_7))⟩,
    ⟨Rect.unit ![128, 1536] ![128, 256] inb_S256x2048_S128x256_128_1536,
      k0_pay67 (k0_pay36 lg lb xc mu) (k0_pay63 k0_pay37 (View.ld sw (Rect.unit ![6, 0, 0] ![1, 128, 128] inb_S8x128x128_S1x128x128_6_0_0))) (k0_pay64 (View.ld sbt (Rect.unit ![0, 6] ![128, 1] inb_S128x8_S128x1_0_6)))⟩,
    ⟨Rect.unit ![0, 1536] ![128, 256] inb_S256x2048_S128x256_0_1536,
      k0_pay66 (k0_pay64 (View.ld sbt (Rect.unit ![0, 6] ![128, 1] inb_S128x8_S128x1_0_6))) (k0_pay65 (k0_pay36 lg lb xc mu) k0_pay37 (View.ld sw (Rect.unit ![6, 0, 0] ![1, 128, 128] inb_S8x128x128_S1x128x128_6_0_0)))⟩,
    ⟨Rect.unit ![128, 1280] ![128, 256] inb_S256x2048_S128x256_128_1280,
      k0_pay62 (k0_pay36 lg lb xc mu) k0_pay37 (View.ld sw (Rect.unit ![5, 0, 0] ![1, 128, 128] inb_S8x128x128_S1x128x128_5_0_0)) (View.ld sbt (Rect.unit ![0, 5] ![128, 1] inb_S128x8_S128x1_0_5))⟩,
    ⟨Rect.unit ![0, 1280] ![128, 256] inb_S256x2048_S128x256_0_1280,
      k0_pay61 (k0_pay36 lg lb xc mu) k0_pay37 (View.ld sw (Rect.unit ![5, 0, 0] ![1, 128, 128] inb_S8x128x128_S1x128x128_5_0_0)) (View.ld sbt (Rect.unit ![0, 5] ![128, 1] inb_S128x8_S128x1_0_5))⟩,
    ⟨Rect.unit ![128, 1024] ![128, 256] inb_S256x2048_S128x256_128_1024,
      k0_pay58 (k0_pay54 k0_pay37 (View.ld sw (Rect.unit ![4, 0, 0] ![1, 128, 128] inb_S8x128x128_S1x128x128_4_0_0))) (k0_pay55 (View.ld sbt (Rect.unit ![0, 4] ![128, 1] inb_S128x8_S128x1_0_4))) (k0_pay57 (k0_pay36 lg lb xc mu)) (constant (F := Ideal) S128x256 .f32 0x00000000#32)⟩,
    ⟨Rect.unit ![0, 1024] ![128, 256] inb_S256x2048_S128x256_0_1024,
      k0_pay56 (k0_pay36 lg lb xc mu) k0_pay37 (View.ld sw (Rect.unit ![4, 0, 0] ![1, 128, 128] inb_S8x128x128_S1x128x128_4_0_0)) (View.ld sbt (Rect.unit ![0, 4] ![128, 1] inb_S128x8_S128x1_0_4))⟩,
    ⟨Rect.unit ![128, 768] ![128, 256] inb_S256x2048_S128x256_128_768,
      k0_pay53 (k0_pay36 lg lb xc mu) k0_pay37 (View.ld sw (Rect.unit ![3, 0, 0] ![1, 128, 128] inb_S8x128x128_S1x128x128_3_0_0)) (View.ld sbt (Rect.unit ![0, 3] ![128, 1] inb_S128x8_S128x1_0_3))⟩,
    ⟨Rect.unit ![0, 768] ![128, 256] inb_S256x2048_S128x256_0_768,
      k0_pay52 (k0_pay36 lg lb xc mu) k0_pay37 (View.ld sw (Rect.unit ![3, 0, 0] ![1, 128, 128] inb_S8x128x128_S1x128x128_3_0_0)) (View.ld sbt (Rect.unit ![0, 3] ![128, 1] inb_S128x8_S128x1_0_3))⟩,
    ⟨Rect.unit ![128, 512] ![128, 256] inb_S256x2048_S128x256_128_512,
      k0_pay49 (k0_pay36 lg lb xc mu) k0_pay37 (View.ld sw (Rect.unit ![2, 0, 0] ![1, 128, 128] inb_S8x128x128_S1x128x128_2_0_0)) (View.ld sbt (Rect.unit ![0, 2] ![128, 1] inb_S128x8_S128x1_0_2))⟩,
    ⟨Rect.unit ![0, 512] ![128, 256] inb_S256x2048_S128x256_0_512,
      k0_pay48 (k0_pay36 lg lb xc mu) k0_pay37 (View.ld sw (Rect.unit ![2, 0, 0] ![1, 128, 128] inb_S8x128x128_S1x128x128_2_0_0)) (View.ld sbt (Rect.unit ![0, 2] ![128, 1] inb_S128x8_S128x1_0_2))⟩,
    ⟨Rect.unit ![128, 256] ![128, 256] inb_S256x2048_S128x256_128_256,
      k0_pay45 (k0_pay36 lg lb xc mu) (k0_pay42 (View.ld sw (Rect.unit ![1, 0, 0] ![1, 128, 128] inb_S8x128x128_S1x128x128_1_0_0))) (View.ld sbt (Rect.unit ![0, 1] ![128, 1] inb_S128x8_S128x1_0_1))⟩,
    ⟨Rect.unit ![0, 256] ![128, 256] inb_S256x2048_S128x256_0_256,
      k0_pay44 (k0_pay36 lg lb xc mu) (k0_pay42 (View.ld sw (Rect.unit ![1, 0, 0] ![1, 128, 128] inb_S8x128x128_S1x128x128_1_0_0))) (View.ld sbt (Rect.unit ![0, 1] ![128, 1] inb_S128x8_S128x1_0_1))⟩,
    ⟨Rect.unit ![128, 0] ![128, 256] inb_S256x2048_S128x256_128_0,
      k0_pay41 lg lb xc mu (View.ld sw (Rect.unit ![0, 0, 0] ![1, 128, 128] inb_S8x128x128_S1x128x128_0_0_0)) (View.ld sbt (Rect.unit ![0, 0] ![128, 1] inb_S128x8_S128x1_0_0))⟩,
    ⟨Rect.unit ![0, 0] ![128, 256] inb_S256x2048_S128x256_0_0,
      k0_pay40 lg lb xc mu (View.ld sw (Rect.unit ![0, 0, 0] ![1, 128, 128] inb_S8x128x128_S1x128x128_0_0_0)) (View.ld sbt (Rect.unit ![0, 0] ![128, 1] inb_S128x8_S128x1_0_0))⟩]

/-- The pieces of the transposed mixing. -/
def dvL (d : FVec Ideal S256x2048 .bf16) (swt : Vec Ideal S8x128x128 .f32) : List (View.Piece (Elt Ideal) S256x2048 .f32) :=
    [⟨Rect.unit ![128, 1792] ![128, 256] inb_S256x2048_S128x256_128_1792,
      k0_pay166 d (k0_pay158 k0_pay84 (View.ld swt (Rect.unit ![7, 0, 0] ![1, 128, 128] inb_S8x128x128_S1x128x128_7_0_0)))⟩,
    ⟨Rect.unit ![0, 1792] ![128, 256] inb_S256x2048_S128x256_0_1792,
      k0_pay160 d k0_pay84 (View.ld swt (Rect.unit ![7, 0, 0] ![1, 128, 128] inb_S8x128x128_S1x128x128_7_0_0))⟩,
    ⟨Rect.unit ![128, 1536] ![128, 256] inb_S256x2048_S128x256_128_1536,
      k0_pay154 d (k0_pay148 k0_pay84 (View.ld swt (Rect.unit ![6, 0, 0] ![1, 128, 128] inb_S8x128x128_S1x128x128_6_0_0)))⟩,
    ⟨Rect.unit ![0, 1536] ![128, 256] inb_S256x2048_S128x256_0_1536,
      k0_pay150 (k0_pay148 k0_pay84 (View.ld swt (Rect.unit ![6, 0, 0] ![1, 128, 128] inb_S8x128x128_S1x128x128_6_0_0))) (k0_pay149 d)⟩,
    ⟨Rect.unit ![128, 1280] ![128, 256] inb_S256x2048_S128x256_128_1280,
      k0_pay145 d (k0_pay138 k0_pay84 (View.ld swt (Rect.unit ![5, 0, 0] ![1, 128, 128] inb_S8x128x128_S1x128x128_5_0_0)))⟩,
    ⟨Rect.unit ![0, 1280] ![128, 256] inb_S256x2048_S128x256_0_1280,
      k0_pay140 d k0_pay84 (View.ld swt (Rect.unit ![5, 0, 0] ![1, 128, 128] inb_S8x128x128_S1x128x128_5_0_0))⟩,
    ⟨Rect.unit ![128, 1024] ![128, 256] inb_S256x2048_S128x256_128_1024,
      k0_pay134 d (k0_pay127 k0_pay84 (View.ld swt (Rect.unit ![4, 0, 0] ![1, 128, 128] inb_S8x128x128_S1x128x128_4_0_0)))⟩,
    ⟨Rect.unit ![0, 1024] ![128, 256] inb_S256x2048_S128x256_0_1024,
      k0_pay130 d (k0_pay127 k0_pay84 (View.ld swt (Rect.unit ![4, 0, 0] ![1, 128, 128] inb_S8x128x128_S1x128x128_4_0_0)))⟩,
    ⟨Rect.unit ![128, 768] ![128, 256] inb_S256x2048_S128x256_128_768,
      k0_pay124 d (k0_pay118 k0_pay84 (View.ld swt (Rect.unit ![3, 0, 0] ![1, 128, 128] inb_S8x128x128_S1x128x128_3_0_0)))⟩,
    ⟨Rect.unit ![0, 768] ![128, 256] inb_S256x2048_S128x256_0_768,
      k0_pay120 d k0_pay84 (View.ld swt (Rect.unit ![3, 0, 0] ![1, 128, 128] inb_S8x128x128_S1x128x128_3_0_0))⟩,
    ⟨Rect.unit ![128, 512] ![128, 256] inb_S256x2048_S128x256_128_512,
      k0_pay113 d k0_pay84 (k0_pay106 (View.ld swt (Rect.unit ![2, 0, 0] ![1, 128, 128] inb_S8x128x128_S1x128x128_2_0_0))) (Scalar.ofBits (F := Ideal) .f32 0x00000000#32)⟩,
    ⟨Rect.unit ![0, 512] ![128, 256] inb_S256x2048_S128x256_0_512,
      k0_pay109 d k0_pay84 (k0_pay106 (View.ld swt (Rect.unit ![2, 0, 0] ![1, 128, 128] inb_S8x128x128_S1x128x128_2_0_0))) (Scalar.ofBits (F := Ideal) .f32 0x00000000#32)⟩,
    ⟨Rect.unit ![128, 256] ![128, 256] inb_S256x2048_S128x256_128_256,
      k0_pay103 d (k0_pay97 k0_pay84 (View.ld swt (Rect.unit ![1, 0, 0] ![1, 128, 128] inb_S8x128x128_S1x128x128_1_0_0)))⟩,
    ⟨Rect.unit ![0, 256] ![128, 256] inb_S256x2048_S128x256_0_256,
      k0_pay99 d k0_pay84 (View.ld swt (Rect.unit ![1, 0, 0] ![1, 128, 128] inb_S8x128x128_S1x128x128_1_0_0))⟩,
    ⟨Rect.unit ![128, 0] ![128, 256] inb_S256x2048_S128x256_128_0,
      k0_pay92 d k0_pay84 (View.ld swt (Rect.unit ![0, 0, 0] ![1, 128, 128] inb_S8x128x128_S1x128x128_0_0_0))⟩,
    ⟨Rect.unit ![0, 0] ![128, 256] inb_S256x2048_S128x256_0_0,
      k0_pay88 d k0_pay84 (View.ld swt (Rect.unit ![0, 0, 0] ![1, 128, 128] inb_S8x128x128_S1x128x128_0_0_0))⟩]

/-- A column's group, from its place in the group. -/
theorem grp_of {j : Fin 2048} (k : Fin 8) (b : Fin 256) (h : j.val = k.val * 256 + b.val) : grp j = k :=
  Fin.ext (by have := b.isLt; show j.val / 256 = k.val; omega)

/-- The mixing at an index. -/
def mixAt (v : Vec Ideal S256x2048 .bf16) (sw : Vec Ideal S8x128x128 .f32) (sbt : Vec Ideal S128x8 .f32)
    (q : Fin 2) (t : Fin 128) (j : Fin 2048) : EReal :=
  (∑ s, (if s ≤ t then (sw (ix3 (grp j) t s) : EReal) else 0) * (v (ix2 (row q s) j) : EReal)) + sbt (ix2 t (grp j))

def dvAt (d : Vec Ideal S256x2048 .bf16) (swt : Vec Ideal S8x128x128 .f32)
    (q : Fin 2) (s : Fin 128) (j : Fin 2048) : EReal :=
  ∑ t, (if s ≤ t then (swt (ix3 (grp j) s t) : EReal) else 0) * (d (ix2 (row q t) j) : EReal)

/-- The two scratch buffers read whole. -/
theorem readCov_whole (v : View sig .tc .vmem S256x2048 .f32) (L : List (View.Piece (Elt Ideal) S256x2048 .f32)) :
    v.readCov L (Rect.unit ![0, 0] ![256, 2048] inb_S256x2048_S256x2048_0_0).toLoadRect = View.canon L := by
  rw [View.readCov_eq_canon']
  funext y
  refine congrArg (View.canon L) ?_
  funext a
  apply Fin.ext
  match a with
  | ⟨0, _⟩ => simp
  | ⟨1, _⟩ => simp

set_option maxHeartbeats 2000000 in
theorem mixL_at (lg lb : FVec Ideal S1x2048 .f32) (xc : FVec Ideal S256x2048 .f32) (mu : FVec Ideal S256x1 .f32)
    (sw : Vec Ideal S8x128x128 .f32) (sbt : Vec Ideal S128x8 .f32) (q : Fin 2) (t : Fin 128) (j : Fin 2048) :
    View.canon (mixL lg lb xc mu sw sbt) (ix2 (row q t) j) = mixAt (k0_pay36 lg lb xc mu) sw sbt q t j := by
  unfold mixL
  canon_tiles x h
  all_goals
    try unfold k0_pay40
    try unfold k0_pay41
    generalize k0_pay36 lg lb xc mu = v
    idx_vars x
    replace h0 : q.val * 128 + t.val = _ := h0
    replace h1 : j.val = _ := h1
    obtain rfl : t = x0 := Fin.ext (by omega)
    unfold_payloads
    pointwise [sel_ge]
    unfold mixAt
    refine congrArg₂ (· + ·) (Finset.sum_congr rfl fun s _ => congrArg₂ (· * ·) (if_congr Iff.rfl ?_ rfl) ?_) ?_
    · exact congrArg (fun g => sw (ix3 g t s)) (grp_of _ x1 (by norm_num; omega)).symm
    · exact congrArg v (congrArg₂ ix2 (Fin.ext (by show _ = q.val * 128 + s.val; norm_num; omega)) (Fin.ext (by norm_num; omega)))
    · exact congrArg (fun g => sbt (ix2 t g)) (grp_of _ x1 (by norm_num; omega)).symm

set_option maxHeartbeats 2000000 in
theorem dvL_at (d : FVec Ideal S256x2048 .bf16) (swt : Vec Ideal S8x128x128 .f32) (q : Fin 2) (s : Fin 128) (j : Fin 2048) :
    View.canon (dvL d swt) (ix2 (row q s) j) = dvAt d swt q s j := by
  unfold dvL
  canon_tiles x h
  all_goals
    idx_vars x
    replace h0 : q.val * 128 + s.val = _ := h0
    replace h1 : j.val = _ := h1
    obtain rfl : s = x0 := Fin.ext (by omega)
    unfold_payloads
    pointwise [sel_le]
    unfold dvAt
    refine Finset.sum_congr rfl fun t _ => congrArg₂ (· * ·) (if_congr Iff.rfl ?_ rfl) ?_
    · exact congrArg (fun g => swt (ix3 g s t)) (grp_of _ x1 (by norm_num; omega)).symm
    · exact congrArg d (congrArg₂ ix2 (Fin.ext (by show _ = q.val * 128 + t.val; norm_num; omega)) (Fin.ext (by norm_num; omega)))

end Cert.SguKIdeal.Rows
-- ==== Proof.SguOuts.lean ====
/-
  The chunked gMLP mixer's gradient: what each grid point leaves in the arrays it writes and in the scratch it carries.
-/
module

public import proofs.«01_k».proof.Proof.SguMix

@[expose] public section

set_option maxRecDepth 16384

noncomputable section

namespace Cert.SguKIdeal.Rows

open Idealize.ShloMosaic Idealize.ShloMosaic.TcCoe Idealize.SL.Sem
open Cert.SguKIdeal Cert.SguKIdeal.Gen Cert.Sgu

/-- A piece stored again in the same place is not seen. -/
theorem canon_shadow {S : Shape} {e : EltTy} (r : Rect S) (w w' : r.shape.Idx → Elt Ideal e)
    (L : List (View.Piece (Elt Ideal) S e)) :
    View.canon (⟨r, w⟩ :: ⟨r, w'⟩ :: L) = View.canon (⟨r, w⟩ :: L) := by
  funext y
  by_cases h : y ∈ r.set
  · obtain ⟨x, rfl⟩ := r.toLoadRect.exists_idx_of_mem h
    exact (View.canon_cons_emb r w _ x).trans (View.canon_cons_emb r w L x).symm
  · rw [View.canon_cons_of_not_mem _ _ h, View.canon_cons_of_not_mem _ _ h, View.canon_cons_of_not_mem _ _ h]

/-! ## What a block holds -/

variable (a b z : Vec Ideal S256x2048 .f32) (x : Vec Ideal S256x1024 .f32) (w : Vec Ideal S2048x1024 .bf16)
  (lg lb : Vec Ideal S1x2048 .f32) (sw swt : Vec Ideal S8x128x128 .f32) (sbt : Vec Ideal S128x8 .f32)

def vV : FVec Ideal S256x2048 .bf16 := k0_pay36 (k0_pay27 lg) (k0_pay28 lb) (k0_pay32 b) (k0_pay33 b)
def xhV : FVec Ideal S256x2048 .f32 := k0_pay35 (k0_pay32 b) (k0_pay33 b)
def mixV : Vec Ideal S256x2048 .f32 := View.canon (mixL (k0_pay27 lg) (k0_pay28 lb) (k0_pay32 b) (k0_pay33 b) sw sbt)
def yV : FVec Ideal S256x2048 .f32 := k0_pay72 (k0_pay31 a) (mixV b lg lb sw sbt)
def dmV : FVec Ideal S256x2048 .bf16 := k0_pay82 (k0_pay31 a) z x w
def dvV : Vec Ideal S256x2048 .f32 := View.canon (dvL (dmV a z x w) swt)

/-- The three parts of the projection's gradient. -/
def dprojL : List (View.Piece (Elt Ideal) S256x6144 .bf16) :=
  [⟨Rect.unit ![0, 2048] ![256, 2048] inb_S256x6144_S256x2048_0_2048,
      k0_pay2 (k0_pay26 b) (k0_pay30 b) (k0_pay171 (k0_pay27 lg) (k0_pay34 (k0_pay33 b)) (xhV b) (dvV a z x w swt)) (k0_pay173 (k0_pay26 b))⟩,
   ⟨Rect.unit ![0, 0] ![256, 2048] inb_S256x6144_S256x2048_0_0,
      k0_pay1 (k0_pay25 a) (k0_pay81 (mixV b lg lb sw sbt) z x w) (k0_pay172 (k0_pay25 a)) (k0_pay174 (k0_pay29 a))⟩,
   ⟨Rect.unit ![0, 4096] ![256, 2048] inb_S256x6144_S256x2048_0_4096, k0_pay79 (yV a b lg lb sw sbt) z x w⟩]

/-- What a block adds to the sums of the mixing's gradient: the first chunk over what was there, -/
def sbLo (d : FVec Ideal S256x2048 .bf16) (p : Vec Ideal S8x8x128 .f32) : Fin 8 → Vec Ideal S1x8x128 .f32
  | 0 => k0_pay90 d k0_pay85 (View.ld p (Rect.unit ![0, 0, 0] ![1, 8, 128] inb_S8x8x128_S1x8x128_0_0_0))
  | 1 => k0_pay101 k0_pay85 (k0_pay98 d) (View.ld p (Rect.unit ![1, 0, 0] ![1, 8, 128] inb_S8x8x128_S1x8x128_1_0_0))
  | 2 => k0_pay111 d k0_pay85 (View.ld p (Rect.unit ![2, 0, 0] ![1, 8, 128] inb_S8x8x128_S1x8x128_2_0_0))
  | 3 => k0_pay122 k0_pay85 (k0_pay119 d) (View.ld p (Rect.unit ![3, 0, 0] ![1, 8, 128] inb_S8x8x128_S1x8x128_3_0_0))
  | 4 => k0_pay132 d k0_pay85 (View.ld p (Rect.unit ![4, 0, 0] ![1, 8, 128] inb_S8x8x128_S1x8x128_4_0_0))
  | 5 => k0_pay143 k0_pay85 (k0_pay139 d) (k0_pay142 (View.ld p (Rect.unit ![5, 0, 0] ![1, 8, 128] inb_S8x8x128_S1x8x128_5_0_0)))
  | 6 => k0_pay152 k0_pay85 (k0_pay149 d) (View.ld p (Rect.unit ![6, 0, 0] ![1, 8, 128] inb_S8x8x128_S1x8x128_6_0_0))
  | 7 => k0_pay164 (k0_pay162 (View.ld p (Rect.unit ![7, 0, 0] ![1, 8, 128] inb_S8x8x128_S1x8x128_7_0_0))) (k0_pay163 d k0_pay85)

/-- and the second over that. -/
def sbHi (d : FVec Ideal S256x2048 .bf16) (p : Vec Ideal S8x8x128 .f32) : Fin 8 → Vec Ideal S1x8x128 .f32
  | 0 => k0_pay96 k0_pay85 (k0_pay91 d) (k0_pay90 d k0_pay85 (View.ld p (Rect.unit ![0, 0, 0] ![1, 8, 128] inb_S8x8x128_S1x8x128_0_0_0)))
  | 1 => k0_pay105 d k0_pay85 (k0_pay101 k0_pay85 (k0_pay98 d) (View.ld p (Rect.unit ![1, 0, 0] ![1, 8, 128] inb_S8x8x128_S1x8x128_1_0_0)))
  | 2 => k0_pay117 k0_pay85 (k0_pay112 d) (k0_pay111 d k0_pay85 (View.ld p (Rect.unit ![2, 0, 0] ![1, 8, 128] inb_S8x8x128_S1x8x128_2_0_0)))
  | 3 => k0_pay126 d k0_pay85 (k0_pay122 k0_pay85 (k0_pay119 d) (View.ld p (Rect.unit ![3, 0, 0] ![1, 8, 128] inb_S8x8x128_S1x8x128_3_0_0)))
  | 4 => k0_pay137 k0_pay85 (k0_pay133 d) (k0_pay132 d k0_pay85 (View.ld p (Rect.unit ![4, 0, 0] ![1, 8, 128] inb_S8x8x128_S1x8x128_4_0_0)))
  | 5 => k0_pay147 d k0_pay85 (k0_pay143 k0_pay85 (k0_pay139 d) (k0_pay142 (View.ld p (Rect.unit ![5, 0, 0] ![1, 8, 128] inb_S8x8x128_S1x8x128_5_0_0))))
  | 6 => k0_pay157 k0_pay85 (k0_pay153 d) (k0_pay152 k0_pay85 (k0_pay149 d) (View.ld p (Rect.unit ![6, 0, 0] ![1, 8, 128] inb_S8x8x128_S1x8x128_6_0_0)))
  | 7 => k0_pay168 d k0_pay85 (k0_pay164 (k0_pay162 (View.ld p (Rect.unit ![7, 0, 0] ![1, 8, 128] inb_S8x8x128_S1x8x128_7_0_0))) (k0_pay163 d k0_pay85))

/-- The same for the mixing weights' gradient. -/
def swLo (v d : FVec Ideal S256x2048 .bf16) (p : Vec Ideal S8x128x128 .f32) : Fin 8 → Vec Ideal S1x128x128 .f32
  | 0 => k0_pay89 v d (View.ld p (Rect.unit ![0, 0, 0] ![1, 128, 128] inb_S8x128x128_S1x128x128_0_0_0))
  | 1 => k0_pay100 v d (View.ld p (Rect.unit ![1, 0, 0] ![1, 128, 128] inb_S8x128x128_S1x128x128_1_0_0))
  | 2 => k0_pay110 v d (View.ld p (Rect.unit ![2, 0, 0] ![1, 128, 128] inb_S8x128x128_S1x128x128_2_0_0))
  | 3 => k0_pay121 v d (View.ld p (Rect.unit ![3, 0, 0] ![1, 128, 128] inb_S8x128x128_S1x128x128_3_0_0))
  | 4 => k0_pay131 v d (View.ld p (Rect.unit ![4, 0, 0] ![1, 128, 128] inb_S8x128x128_S1x128x128_4_0_0))
  | 5 => k0_pay141 v d (View.ld p (Rect.unit ![5, 0, 0] ![1, 128, 128] inb_S8x128x128_S1x128x128_5_0_0))
  | 6 => k0_pay151 v (k0_pay149 d) (View.ld p (Rect.unit ![6, 0, 0] ![1, 128, 128] inb_S8x128x128_S1x128x128_6_0_0))
  | 7 => k0_pay161 v d (View.ld p (Rect.unit ![7, 0, 0] ![1, 128, 128] inb_S8x128x128_S1x128x128_7_0_0))

/-- The second chunk. -/
def swHi (v d : FVec Ideal S256x2048 .bf16) (p : Vec Ideal S8x128x128 .f32) : Fin 8 → Vec Ideal S1x128x128 .f32
  | 0 => k0_pay95 (k0_pay91 d) (k0_pay93 (k0_pay89 v d (View.ld p (Rect.unit ![0, 0, 0] ![1, 128, 128] inb_S8x128x128_S1x128x128_0_0_0)))) (k0_pay94 v)
  | 1 => k0_pay104 v d (k0_pay100 v d (View.ld p (Rect.unit ![1, 0, 0] ![1, 128, 128] inb_S8x128x128_S1x128x128_1_0_0)))
  | 2 => k0_pay116 (k0_pay114 (k0_pay110 v d (View.ld p (Rect.unit ![2, 0, 0] ![1, 128, 128] inb_S8x128x128_S1x128x128_2_0_0)))) (k0_pay115 v d)
  | 3 => k0_pay125 v d (k0_pay121 v d (View.ld p (Rect.unit ![3, 0, 0] ![1, 128, 128] inb_S8x128x128_S1x128x128_3_0_0)))
  | 4 => k0_pay136 (k0_pay135 v d (k0_pay131 v d (View.ld p (Rect.unit ![4, 0, 0] ![1, 128, 128] inb_S8x128x128_S1x128x128_4_0_0))))
  | 5 => k0_pay146 v d (k0_pay141 v d (View.ld p (Rect.unit ![5, 0, 0] ![1, 128, 128] inb_S8x128x128_S1x128x128_5_0_0)))
  | 6 => k0_pay156 (k0_pay155 v d (k0_pay151 v (k0_pay149 d) (View.ld p (Rect.unit ![6, 0, 0] ![1, 128, 128] inb_S8x128x128_S1x128x128_6_0_0))))
  | 7 => k0_pay167 v d (k0_pay161 v d (View.ld p (Rect.unit ![7, 0, 0] ![1, 128, 128] inb_S8x128x128_S1x128x128_7_0_0)))

/-- All sixteen stores of the sums. -/
def sbL2 (d : FVec Ideal S256x2048 .bf16) (p : Vec Ideal S8x8x128 .f32) : List (View.Piece (Elt Ideal) S8x8x128 .f32) :=
  [⟨Rect.unit ![7, 0, 0] ![1, 8, 128] inb_S8x8x128_S1x8x128_7_0_0, sbHi d p 7⟩,
    ⟨Rect.unit ![7, 0, 0] ![1, 8, 128] inb_S8x8x128_S1x8x128_7_0_0, sbLo d p 7⟩,
    ⟨Rect.unit ![6, 0, 0] ![1, 8, 128] inb_S8x8x128_S1x8x128_6_0_0, sbHi d p 6⟩,
    ⟨Rect.unit ![6, 0, 0] ![1, 8, 128] inb_S8x8x128_S1x8x128_6_0_0, sbLo d p 6⟩,
    ⟨Rect.unit ![5, 0, 0] ![1, 8, 128] inb_S8x8x128_S1x8x128_5_0_0, sbHi d p 5⟩,
    ⟨Rect.unit ![5, 0, 0] ![1, 8, 128] inb_S8x8x128_S1x8x128_5_0_0, sbLo d p 5⟩,
    ⟨Rect.unit ![4, 0, 0] ![1, 8, 128] inb_S8x8x128_S1x8x128_4_0_0, sbHi d p 4⟩,
    ⟨Rect.unit ![4, 0, 0] ![1, 8, 128] inb_S8x8x128_S1x8x128_4_0_0, sbLo d p 4⟩,
    ⟨Rect.unit ![3, 0, 0] ![1, 8, 128] inb_S8x8x128_S1x8x128_3_0_0, sbHi d p 3⟩,
    ⟨Rect.unit ![3, 0, 0] ![1, 8, 128] inb_S8x8x128_S1x8x128_3_0_0, sbLo d p 3⟩,
    ⟨Rect.unit ![2, 0, 0] ![1, 8, 128] inb_S8x8x128_S1x8x128_2_0_0, sbHi d p 2⟩,
    ⟨Rect.unit ![2, 0, 0] ![1, 8, 128] inb_S8x8x128_S1x8x128_2_0_0, sbLo d p 2⟩,
    ⟨Rect.unit ![1, 0, 0] ![1, 8, 128] inb_S8x8x128_S1x8x128_1_0_0, sbHi d p 1⟩,
    ⟨Rect.unit ![1, 0, 0] ![1, 8, 128] inb_S8x8x128_S1x8x128_1_0_0, sbLo d p 1⟩,
    ⟨Rect.unit ![0, 0, 0] ![1, 8, 128] inb_S8x8x128_S1x8x128_0_0_0, sbHi d p 0⟩,
    ⟨Rect.unit ![0, 0, 0] ![1, 8, 128] inb_S8x8x128_S1x8x128_0_0_0, sbLo d p 0⟩]

/-- The eight that are seen. -/
def sbL (d : FVec Ideal S256x2048 .bf16) (p : Vec Ideal S8x8x128 .f32) : List (View.Piece (Elt Ideal) S8x8x128 .f32) :=
  [⟨Rect.unit ![7, 0, 0] ![1, 8, 128] inb_S8x8x128_S1x8x128_7_0_0, sbHi d p 7⟩,
    ⟨Rect.unit ![6, 0, 0] ![1, 8, 128] inb_S8x8x128_S1x8x128_6_0_0, sbHi d p 6⟩,
    ⟨Rect.unit ![5, 0, 0] ![1, 8, 128] inb_S8x8x128_S1x8x128_5_0_0, sbHi d p 5⟩,
    ⟨Rect.unit ![4, 0, 0] ![1, 8, 128] inb_S8x8x128_S1x8x128_4_0_0, sbHi d p 4⟩,
    ⟨Rect.unit ![3, 0, 0] ![1, 8, 128] inb_S8x8x128_S1x8x128_3_0_0, sbHi d p 3⟩,
    ⟨Rect.unit ![2, 0, 0] ![1, 8, 128] inb_S8x8x128_S1x8x128_2_0_0, sbHi d p 2⟩,
    ⟨Rect.unit ![1, 0, 0] ![1, 8, 128] inb_S8x8x128_S1x8x128_1_0_0, sbHi d p 1⟩,
    ⟨Rect.unit ![0, 0, 0] ![1, 8, 128] inb_S8x8x128_S1x8x128_0_0_0, sbHi d p 0⟩]

/-- All sixteen stores of the weights' gradient. -/
def swL2 (v d : FVec Ideal S256x2048 .bf16) (p : Vec Ideal S8x128x128 .f32) : List (View.Piece (Elt Ideal) S8x128x128 .f32) :=
  [⟨Rect.unit ![7, 0, 0] ![1, 128, 128] inb_S8x128x128_S1x128x128_7_0_0, swHi v d p 7⟩,
    ⟨Rect.unit ![7, 0, 0] ![1, 128, 128] inb_S8x128x128_S1x128x128_7_0_0, swLo v d p 7⟩,
    ⟨Rect.unit ![6, 0, 0] ![1, 128, 128] inb_S8x128x128_S1x128x128_6_0_0, swHi v d p 6⟩,
    ⟨Rect.unit ![6, 0, 0] ![1, 128, 128] inb_S8x128x128_S1x128x128_6_0_0, swLo v d p 6⟩,
    ⟨Rect.unit ![5, 0, 0] ![1, 128, 128] inb_S8x128x128_S1x128x128_5_0_0, swHi v d p 5⟩,
    ⟨Rect.unit ![5, 0, 0] ![1, 128, 128] inb_S8x128x128_S1x128x128_5_0_0, swLo v d p 5⟩,
    ⟨Rect.unit ![4, 0, 0] ![1, 128, 128] inb_S8x128x128_S1x128x128_4_0_0, swHi v d p 4⟩,
    ⟨Rect.unit ![4, 0, 0] ![1, 128, 128] inb_S8x128x128_S1x128x128_4_0_0, swLo v d p 4⟩,
    ⟨Rect.unit ![3, 0, 0] ![1, 128, 128] inb_S8x128x128_S1x128x128_3_0_0, swHi v d p 3⟩,
    ⟨Rect.unit ![3, 0, 0] ![1, 128, 128] inb_S8x128x128_S1x128x128_3_0_0, swLo v d p 3⟩,
    ⟨Rect.unit ![2, 0, 0] ![1, 128, 128] inb_S8x128x128_S1x128x128_2_0_0, swHi v d p 2⟩,
    ⟨Rect.unit ![2, 0, 0] ![1, 128, 128] inb_S8x128x128_S1x128x128_2_0_0, swLo v d p 2⟩,
    ⟨Rect.unit ![1, 0, 0] ![1, 128, 128] inb_S8x128x128_S1x128x128_1_0_0, swHi v d p 1⟩,
    ⟨Rect.unit ![1, 0, 0] ![1, 128, 128] inb_S8x128x128_S1x128x128_1_0_0, swLo v d p 1⟩,
    ⟨Rect.unit ![0, 0, 0] ![1, 128, 128] inb_S8x128x128_S1x128x128_0_0_0, swHi v d p 0⟩,
    ⟨Rect.unit ![0, 0, 0] ![1, 128, 128] inb_S8x128x128_S1x128x128_0_0_0, swLo v d p 0⟩]

/-- The eight that are seen. -/
def swL (v d : FVec Ideal S256x2048 .bf16) (p : Vec Ideal S8x128x128 .f32) : List (View.Piece (Elt Ideal) S8x128x128 .f32) :=
  [⟨Rect.unit ![7, 0, 0] ![1, 128, 128] inb_S8x128x128_S1x128x128_7_0_0, swHi v d p 7⟩,
    ⟨Rect.unit ![6, 0, 0] ![1, 128, 128] inb_S8x128x128_S1x128x128_6_0_0, swHi v d p 6⟩,
    ⟨Rect.unit ![5, 0, 0] ![1, 128, 128] inb_S8x128x128_S1x128x128_5_0_0, swHi v d p 5⟩,
    ⟨Rect.unit ![4, 0, 0] ![1, 128, 128] inb_S8x128x128_S1x128x128_4_0_0, swHi v d p 4⟩,
    ⟨Rect.unit ![3, 0, 0] ![1, 128, 128] inb_S8x128x128_S1x128x128_3_0_0, swHi v d p 3⟩,
    ⟨Rect.unit ![2, 0, 0] ![1, 128, 128] inb_S8x128x128_S1x128x128_2_0_0, swHi v d p 2⟩,
    ⟨Rect.unit ![1, 0, 0] ![1, 128, 128] inb_S8x128x128_S1x128x128_1_0_0, swHi v d p 1⟩,
    ⟨Rect.unit ![0, 0, 0] ![1, 128, 128] inb_S8x128x128_S1x128x128_0_0_0, swHi v d p 0⟩]

/-- The last point's masked stores. -/
def swMask (v d : FVec Ideal S256x2048 .bf16) (p : Vec Ideal S8x128x128 .f32) : List (View.Piece (Elt Ideal) S8x128x128 .f32) :=
  [⟨Rect.unit ![7, 0, 0] ![1, 128, 128] inb_S8x128x128_S1x128x128_7_0_0, k0_pay3 k0_pay83 (swHi v d p 7)⟩,
    ⟨Rect.unit ![6, 0, 0] ![1, 128, 128] inb_S8x128x128_S1x128x128_6_0_0, k0_pay18 k0_pay83 (swHi v d p 6)⟩,
    ⟨Rect.unit ![5, 0, 0] ![1, 128, 128] inb_S8x128x128_S1x128x128_5_0_0, k0_pay16 k0_pay83 (swHi v d p 5)⟩,
    ⟨Rect.unit ![4, 0, 0] ![1, 128, 128] inb_S8x128x128_S1x128x128_4_0_0, k0_pay14 k0_pay83 (swHi v d p 4)⟩,
    ⟨Rect.unit ![3, 0, 0] ![1, 128, 128] inb_S8x128x128_S1x128x128_3_0_0, k0_pay12 k0_pay83 (swHi v d p 3)⟩,
    ⟨Rect.unit ![2, 0, 0] ![1, 128, 128] inb_S8x128x128_S1x128x128_2_0_0, k0_pay10 k0_pay83 (swHi v d p 2)⟩,
    ⟨Rect.unit ![1, 0, 0] ![1, 128, 128] inb_S8x128x128_S1x128x128_1_0_0, k0_pay8 k0_pay83 (swHi v d p 1)⟩,
    ⟨Rect.unit ![0, 0, 0] ![1, 128, 128] inb_S8x128x128_S1x128x128_0_0_0, k0_pay6 k0_pay83 (swHi v d p 0)⟩]

/-- The last point's rows of the bias's gradient. -/
def dsbL (s : Vec Ideal S8x8x128 .f32) : List (View.Piece (Elt Ideal) S8x128 .f32) :=
  [⟨Rect.unit ![7, 0] ![1, 128] inb_S8x128_S1x128_7_0, k0_pay4 (View.ld s (Rect.unit ![7, 0, 0] ![1, 1, 128] inb_S8x8x128_S1x1x128_7_0_0))⟩,
    ⟨Rect.unit ![6, 0] ![1, 128] inb_S8x128_S1x128_6_0, k0_pay19 (View.ld s (Rect.unit ![6, 0, 0] ![1, 1, 128] inb_S8x8x128_S1x1x128_6_0_0))⟩,
    ⟨Rect.unit ![5, 0] ![1, 128] inb_S8x128_S1x128_5_0, k0_pay17 (View.ld s (Rect.unit ![5, 0, 0] ![1, 1, 128] inb_S8x8x128_S1x1x128_5_0_0))⟩,
    ⟨Rect.unit ![4, 0] ![1, 128] inb_S8x128_S1x128_4_0, k0_pay15 (View.ld s (Rect.unit ![4, 0, 0] ![1, 1, 128] inb_S8x8x128_S1x1x128_4_0_0))⟩,
    ⟨Rect.unit ![3, 0] ![1, 128] inb_S8x128_S1x128_3_0, k0_pay13 (View.ld s (Rect.unit ![3, 0, 0] ![1, 1, 128] inb_S8x8x128_S1x1x128_3_0_0))⟩,
    ⟨Rect.unit ![2, 0] ![1, 128] inb_S8x128_S1x128_2_0, k0_pay11 (View.ld s (Rect.unit ![2, 0, 0] ![1, 1, 128] inb_S8x8x128_S1x1x128_2_0_0))⟩,
    ⟨Rect.unit ![1, 0] ![1, 128] inb_S8x128_S1x128_1_0, k0_pay9 (View.ld s (Rect.unit ![1, 0, 0] ![1, 1, 128] inb_S8x8x128_S1x1x128_1_0_0))⟩,
    ⟨Rect.unit ![0, 0] ![1, 128] inb_S8x128_S1x128_0_0, k0_pay7 (View.ld s (Rect.unit ![0, 0, 0] ![1, 1, 128] inb_S8x8x128_S1x1x128_0_0_0))⟩]

theorem canon_tail {S : Shape} {e : EltTy} (p : View.Piece (Elt Ideal) S e) {L L' : List (View.Piece (Elt Ideal) S e)}
    (h : View.canon L = View.canon L') : View.canon (p :: L) = View.canon (p :: L') := by
  rw [View.canon_cons, View.canon_cons, h]

/-- A store made twice in the same place, and the rest of the stores as they are seen. -/
theorem canon_twice {S : Shape} {e : EltTy} (r : Rect S) (w w' : r.shape.Idx → Elt Ideal e)
    {L L' : List (View.Piece (Elt Ideal) S e)} (h : View.canon L = View.canon L') :
    View.canon (⟨r, w⟩ :: ⟨r, w'⟩ :: L) = View.canon (⟨r, w⟩ :: L') :=
  (canon_shadow r w w' L).trans (canon_tail _ h)

theorem sb_seen (d : FVec Ideal S256x2048 .bf16) (p : Vec Ideal S8x8x128 .f32) (L : List (View.Piece (Elt Ideal) S8x8x128 .f32)) :
    View.canon (sbL2 d p ++ L) = View.canon (sbL d p ++ L) :=
  canon_twice _ _ _ (canon_twice _ _ _ (canon_twice _ _ _ (canon_twice _ _ _ (canon_twice _ _ _ (canon_twice _ _ _
    (canon_twice _ _ _ (canon_twice _ _ _ rfl)))))))

theorem sw_seen (v d : FVec Ideal S256x2048 .bf16) (p : Vec Ideal S8x128x128 .f32) (L : List (View.Piece (Elt Ideal) S8x128x128 .f32)) :
    View.canon (swL2 v d p ++ L) = View.canon (swL v d p ++ L) :=
  canon_twice _ _ _ (canon_twice _ _ _ (canon_twice _ _ _ (canon_twice _ _ _ (canon_twice _ _ _ (canon_twice _ _ _
    (canon_twice _ _ _ (canon_twice _ _ _ rfl)))))))

/-- A row of the sums, read at the last point. -/
theorem readCov_row (v : View sig .tc .vmem S8x8x128 .f32) (L : List (View.Piece (Elt Ideal) S8x8x128 .f32)) (g : ℕ)
    (inb : ∀ a, (![g, 0, 0] : Fin 3 → ℕ) a + (![1, 1, 128] : Fin 3 → ℕ) a ≤ S8x8x128.size a) :
    v.readCov L (Rect.unit ![g, 0, 0] ![1, 1, 128] inb).toLoadRect = View.ld (View.canon L) (Rect.unit ![g, 0, 0] ![1, 1, 128] inb) :=
  View.readCov_eq_canon' _ _ _

/-! ## What the points leave -/

variable (m : (ℓ : Loc nD τ sig) → Buf (Elt Ideal) ℓ)

theorem proj_A (c : Dev nD) (t : Fin cfg0.N) (h0 : t.val % 32 = 0) (h1 : ¬t.val % 32 = 31) : (outsAt0 m c t.val t.isLt).1
    = View.canon (dprojL (iblk m c 1 t) (iblk m c 2 t) (iblk m c 3 t) (iblk m c 0 t) (iblk m c 4 t) (iblk m c 5 t) (iblk m c 6 t)
      (iblk m c 7 t) (iblk m c 8 t) (iblk m c 9 t)) := by
  rw [outsAt0_A m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem proj_B (c : Dev nD) (t : Fin cfg0.N) (h0 : ¬t.val % 32 = 0) (h1 : ¬t.val % 32 = 31) : (outsAt0 m c t.val t.isLt).1
    = View.canon (dprojL (iblk m c 1 t) (iblk m c 2 t) (iblk m c 3 t) (iblk m c 0 t) (iblk m c 4 t) (iblk m c 5 t) (iblk m c 6 t)
      (iblk m c 7 t) (iblk m c 8 t) (iblk m c 9 t)) := by
  rw [outsAt0_B m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem proj_C (c : Dev nD) (t : Fin cfg0.N) (h0 : ¬t.val % 32 = 0) (h1 : t.val % 32 = 31) : (outsAt0 m c t.val t.isLt).1
    = View.canon (dprojL (iblk m c 1 t) (iblk m c 2 t) (iblk m c 3 t) (iblk m c 0 t) (iblk m c 4 t) (iblk m c 5 t) (iblk m c 6 t)
      (iblk m c 7 t) (iblk m c 8 t) (iblk m c 9 t)) := by
  rw [outsAt0_C m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem lg_A (c : Dev nD) (t : Fin cfg0.N) (h0 : t.val % 32 = 0) (h1 : ¬t.val % 32 = 31) : (outsAt0 m c t.val t.isLt).2.2.2.2.1
    = k0_pay169 (xhV (iblk m c 2 t)) (dvV (iblk m c 1 t) (iblk m c 3 t) (iblk m c 0 t) (iblk m c 4 t) (iblk m c 8 t)) (k0_pay23 (F := Ideal)) := by
  rw [outsAt0_A m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem lg_B (c : Dev nD) (t : Fin cfg0.N) (h0 : ¬t.val % 32 = 0) (h1 : ¬t.val % 32 = 31) : (outsAt0 m c t.val t.isLt).2.2.2.2.1
    = k0_pay169 (xhV (iblk m c 2 t)) (dvV (iblk m c 1 t) (iblk m c 3 t) (iblk m c 0 t) (iblk m c 4 t) (iblk m c 8 t)) (outsAt0 m c (t.val - 1) (Nat.lt_of_le_of_lt (Nat.sub_le _ _) t.isLt)).2.2.2.2.1 := by
  rw [outsAt0_B m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem lg_C (c : Dev nD) (t : Fin cfg0.N) (h0 : ¬t.val % 32 = 0) (h1 : t.val % 32 = 31) : (outsAt0 m c t.val t.isLt).2.2.2.2.1
    = k0_pay169 (xhV (iblk m c 2 t)) (dvV (iblk m c 1 t) (iblk m c 3 t) (iblk m c 0 t) (iblk m c 4 t) (iblk m c 8 t)) (outsAt0 m c (t.val - 1) (Nat.lt_of_le_of_lt (Nat.sub_le _ _) t.isLt)).2.2.2.2.1 := by
  rw [outsAt0_C m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem lb_A (c : Dev nD) (t : Fin cfg0.N) (h0 : t.val % 32 = 0) (h1 : ¬t.val % 32 = 31) : (outsAt0 m c t.val t.isLt).2.2.2.2.2.1
    = k0_pay170 (dvV (iblk m c 1 t) (iblk m c 3 t) (iblk m c 0 t) (iblk m c 4 t) (iblk m c 8 t)) (k0_pay24 (F := Ideal)) := by
  rw [outsAt0_A m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem lb_B (c : Dev nD) (t : Fin cfg0.N) (h0 : ¬t.val % 32 = 0) (h1 : ¬t.val % 32 = 31) : (outsAt0 m c t.val t.isLt).2.2.2.2.2.1
    = k0_pay170 (dvV (iblk m c 1 t) (iblk m c 3 t) (iblk m c 0 t) (iblk m c 4 t) (iblk m c 8 t)) (outsAt0 m c (t.val - 1) (Nat.lt_of_le_of_lt (Nat.sub_le _ _) t.isLt)).2.2.2.2.2.1 := by
  rw [outsAt0_B m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem lb_C (c : Dev nD) (t : Fin cfg0.N) (h0 : ¬t.val % 32 = 0) (h1 : t.val % 32 = 31) : (outsAt0 m c t.val t.isLt).2.2.2.2.2.1
    = k0_pay170 (dvV (iblk m c 1 t) (iblk m c 3 t) (iblk m c 0 t) (iblk m c 4 t) (iblk m c 8 t)) (outsAt0 m c (t.val - 1) (Nat.lt_of_le_of_lt (Nat.sub_le _ _) t.isLt)).2.2.2.2.2.1 := by
  rw [outsAt0_C m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem wo_A (c : Dev nD) (t : Fin cfg0.N) (h0 : t.val % 32 = 0) (h1 : ¬t.val % 32 = 31) : (outsAt0 m c t.val t.isLt).2.2.2.2.2.2.2
    = k0_pay77 (yV (iblk m c 1 t) (iblk m c 2 t) (iblk m c 5 t) (iblk m c 6 t) (iblk m c 7 t) (iblk m c 9 t)) (iblk m c 3 t) (iblk m c 0 t) (k0_pay20 (F := Ideal)) := by
  rw [outsAt0_A m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem wo_B (c : Dev nD) (t : Fin cfg0.N) (h0 : ¬t.val % 32 = 0) (h1 : ¬t.val % 32 = 31) : (outsAt0 m c t.val t.isLt).2.2.2.2.2.2.2
    = k0_pay77 (yV (iblk m c 1 t) (iblk m c 2 t) (iblk m c 5 t) (iblk m c 6 t) (iblk m c 7 t) (iblk m c 9 t)) (iblk m c 3 t) (iblk m c 0 t) (outsAt0 m c (t.val - 1) (Nat.lt_of_le_of_lt (Nat.sub_le _ _) t.isLt)).2.2.2.2.2.2.2 := by
  rw [outsAt0_B m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem wo_C (c : Dev nD) (t : Fin cfg0.N) (h0 : ¬t.val % 32 = 0) (h1 : t.val % 32 = 31) : (outsAt0 m c t.val t.isLt).2.2.2.2.2.2.2
    = k0_pay77 (yV (iblk m c 1 t) (iblk m c 2 t) (iblk m c 5 t) (iblk m c 6 t) (iblk m c 7 t) (iblk m c 9 t)) (iblk m c 3 t) (iblk m c 0 t) (outsAt0 m c (t.val - 1) (Nat.lt_of_le_of_lt (Nat.sub_le _ _) t.isLt)).2.2.2.2.2.2.2 := by
  rw [outsAt0_C m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem sb_A (c : Dev nD) (t : Fin cfg0.N) (h0 : t.val % 32 = 0) (h1 : ¬t.val % 32 = 31) : (outsAt0 m c t.val t.isLt).2.2.2.2.2.2.1
    = View.canon (sbL (dmV (iblk m c 1 t) (iblk m c 3 t) (iblk m c 0 t) (iblk m c 4 t)) (k0_pay22 (F := Ideal)) ++ [⟨Rect.unit ![0, 0, 0] ![8, 8, 128] inb_S8x8x128_S8x8x128_0_0_0, k0_pay22 (F := Ideal)⟩]) := by
  rw [outsAt0_A m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  exact sb_seen _ _ [⟨Rect.unit ![0, 0, 0] ![8, 8, 128] inb_S8x8x128_S8x8x128_0_0_0, k0_pay22 (F := Ideal)⟩]

theorem sb_B (c : Dev nD) (t : Fin cfg0.N) (h0 : ¬t.val % 32 = 0) (h1 : ¬t.val % 32 = 31) : (outsAt0 m c t.val t.isLt).2.2.2.2.2.2.1
    = View.canon (sbL (dmV (iblk m c 1 t) (iblk m c 3 t) (iblk m c 0 t) (iblk m c 4 t)) (outsAt0 m c (t.val - 1) (Nat.lt_of_le_of_lt (Nat.sub_le _ _) t.isLt)).2.2.2.2.2.2.1 ++ []) := by
  rw [outsAt0_B m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  exact sb_seen _ _ []

theorem sb_C (c : Dev nD) (t : Fin cfg0.N) (h0 : ¬t.val % 32 = 0) (h1 : t.val % 32 = 31) : (outsAt0 m c t.val t.isLt).2.2.2.2.2.2.1
    = View.canon (sbL (dmV (iblk m c 1 t) (iblk m c 3 t) (iblk m c 0 t) (iblk m c 4 t)) (outsAt0 m c (t.val - 1) (Nat.lt_of_le_of_lt (Nat.sub_le _ _) t.isLt)).2.2.2.2.2.2.1 ++ []) := by
  rw [outsAt0_C m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  exact sb_seen _ _ []

theorem sw_A (c : Dev nD) (t : Fin cfg0.N) (h0 : t.val % 32 = 0) (h1 : ¬t.val % 32 = 31) : (outsAt0 m c t.val t.isLt).2.2.1
    = View.canon (swL (vV (iblk m c 2 t) (iblk m c 5 t) (iblk m c 6 t)) (dmV (iblk m c 1 t) (iblk m c 3 t) (iblk m c 0 t) (iblk m c 4 t)) (k0_pay21 (F := Ideal)) ++ [⟨Rect.unit ![0, 0, 0] ![8, 128, 128] inb_S8x128x128_S8x128x128_0_0_0, k0_pay21 (F := Ideal)⟩]) := by
  rw [outsAt0_A m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  exact sw_seen _ _ _ [⟨Rect.unit ![0, 0, 0] ![8, 128, 128] inb_S8x128x128_S8x128x128_0_0_0, k0_pay21 (F := Ideal)⟩]

theorem sw_B (c : Dev nD) (t : Fin cfg0.N) (h0 : ¬t.val % 32 = 0) (h1 : ¬t.val % 32 = 31) : (outsAt0 m c t.val t.isLt).2.2.1
    = View.canon (swL (vV (iblk m c 2 t) (iblk m c 5 t) (iblk m c 6 t)) (dmV (iblk m c 1 t) (iblk m c 3 t) (iblk m c 0 t) (iblk m c 4 t)) (outsAt0 m c (t.val - 1) (Nat.lt_of_le_of_lt (Nat.sub_le _ _) t.isLt)).2.2.1 ++ []) := by
  rw [outsAt0_B m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  exact sw_seen _ _ _ []

theorem sw_C (c : Dev nD) (t : Fin cfg0.N) (h0 : ¬t.val % 32 = 0) (h1 : t.val % 32 = 31) : (outsAt0 m c t.val t.isLt).2.2.1
    = View.canon (swMask (vV (iblk m c 2 t) (iblk m c 5 t) (iblk m c 6 t)) (dmV (iblk m c 1 t) (iblk m c 3 t) (iblk m c 0 t) (iblk m c 4 t)) (outsAt0 m c (t.val - 1) (Nat.lt_of_le_of_lt (Nat.sub_le _ _) t.isLt)).2.2.1 ++ swL2 (vV (iblk m c 2 t) (iblk m c 5 t) (iblk m c 6 t)) (dmV (iblk m c 1 t) (iblk m c 3 t) (iblk m c 0 t) (iblk m c 4 t)) (outsAt0 m c (t.val - 1) (Nat.lt_of_le_of_lt (Nat.sub_le _ _) t.isLt)).2.2.1) := by
  rw [outsAt0_C m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem wo_out_C (c : Dev nD) (t : Fin cfg0.N) (h0 : ¬t.val % 32 = 0) (h1 : t.val % 32 = 31) : (outsAt0 m c t.val t.isLt).2.1
    = k0_pay5 (k0_pay77 (yV (iblk m c 1 t) (iblk m c 2 t) (iblk m c 5 t) (iblk m c 6 t) (iblk m c 7 t) (iblk m c 9 t)) (iblk m c 3 t) (iblk m c 0 t) (outsAt0 m c (t.val - 1) (Nat.lt_of_le_of_lt (Nat.sub_le _ _) t.isLt)).2.2.2.2.2.2.2) := by
  rw [outsAt0_C m c t h0 h1]
  dsimp only
  frame_open
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rfl

theorem sb_out_C (c : Dev nD) (t : Fin cfg0.N) (h0 : ¬t.val % 32 = 0) (h1 : t.val % 32 = 31) : (outsAt0 m c t.val t.isLt).2.2.2.1
    = View.canon (dsbL (View.canon (sbL (dmV (iblk m c 1 t) (iblk m c 3 t) (iblk m c 0 t) (iblk m c 4 t)) (outsAt0 m c (t.val - 1) (Nat.lt_of_le_of_lt (Nat.sub_le _ _) t.isLt)).2.2.2.2.2.2.1 ++ []))) := by
  rw [outsAt0_C m c t h0 h1]
  dsimp only
  frame_open
  simp only [readCov_row]
  simp (disch := decide) only [↓readCov_row, ↓View.readCov_skip, ↓View.readCov_cons_toLoadRect, ↓View.readCov_fill, ↓readCov_whole, View.read_writes_junk_eq_canon,
    View.canon_cons_unit_lit', View.ld_unit_lit', View.readCov_unit_lit', View.readCov_cons_unit_lit', View.readAt_eq_ld,
    Memref.IsWhole.read_unread, read_unread_whole]
  rw [← sb_seen]
  rfl

end Cert.SguKIdeal.Rows
-- ==== Proof.SguArgs.lean ====
/-
  The chunked gMLP mixer's gradient: the chunks of the arguments. Two batches of 32 chunks of 128 rows; the three
  parts of the projection are three ranges of 2048 columns.
-/
module

public import proofs.«01_k».proof.Proof.SguRow

@[expose] public section

noncomputable section

namespace Cert.Sgu

open Idealize.ShloMosaic

/-- A column of one of the three parts of the projection. -/
def pcol (p : Fin 3) (j : Fin 2048) : Fin 6144 := ⟨p.val * 2048 + j.val, by omega⟩
/-- A row of a chunk. -/
def pos (n : Fin 32) (t : Fin 128) : Fin 4096 := ⟨n.val * 128 + t.val, by omega⟩

/-- Chunk `n` of batch `b`. -/
def ofArgs (p : (⟨3, ![2, 4096, 6144]⟩ : Shape).Idx → EReal) (w : (⟨2, ![2048, 1024]⟩ : Shape).Idx → EReal)
    (lg lb : (⟨1, ![2048]⟩ : Shape).Idx → EReal) (s : (⟨3, ![8, 128, 128]⟩ : Shape).Idx → EReal)
    (h : (⟨2, ![8, 128]⟩ : Shape).Idx → EReal) (x : (⟨3, ![2, 4096, 1024]⟩ : Shape).Idx → EReal) (b : Fin 2) (n : Fin 32) : Chunk where
  A t j := p (ix3 b (pos n t) (pcol 0 j))
  B t j := p (ix3 b (pos n t) (pcol 1 j))
  Z t j := p (ix3 b (pos n t) (pcol 2 j))
  X t k := x (ix3 b (pos n t) k)
  W j k := w (ix2 j k)
  lg j := lg (ix1 j)
  lb j := lb (ix1 j)
  S g t s' := s (ix3 g t s')
  T g t := h (ix2 g t)

/-- The three parts of the projection's gradient. -/
def Chunk.dproj (c : Chunk) (p : Fin 3) (t : Fin 128) (j : Fin 2048) : EReal :=
  match p with
  | 0 => c.da t j
  | 1 => c.db t j
  | 2 => c.dz t j

/-- The weights' gradient: the lower triangle. -/
def Chunk.pswM (c : Chunk) (g : Fin 8) (t s : Fin 128) : EReal := if s ≤ t then c.psw g t s else 0

/-! ## Groups of columns, and the mask's word -/

theorem grp_col (g : Fin 8) (k : Fin 256) : grp (col g k) = g := Fin.ext (by unfold grp col; dsimp only; omega)

theorem exists_col (j : Fin 2048) : ∃ g k, j = col g k :=
  ⟨⟨j.val / 256, by omega⟩, ⟨j.val % 256, by omega⟩, Fin.ext (by unfold col; dsimp only; omega)⟩

theorem select_word {α : Type} (c : BitVec 1) (p q : α) :
    Scalar.select (Scalar.select c (1#1 : BitVec 1) 0#1) p q = Scalar.select c p q := by
  rcases BitVec.eq_zero_or_eq_one c with rfl | rfl <;> rfl

theorem addi_zero (x : BitVec 32) : IntOp.addi x 0#32 = x := BitVec.add_zero x

end Cert.Sgu
-- ==== Proof.SguBlk.lean ====
/-
  The chunked gMLP mixer's gradient: what a grid point leaves, read at an index of its block, chunk by chunk.
-/
module

public import proofs.«01_k».proof.Proof.SguOuts
public import proofs.«01_k».proof.Proof.SguArgs

@[expose] public section

set_option maxRecDepth 16384

noncomputable section

namespace Cert.SguKIdeal.Rows

open Idealize.ShloMosaic Idealize.ShloMosaic.TcCoe Idealize.SL.Sem
open Cert.SguKIdeal Cert.SguKIdeal.Gen Cert.Sgu

variable (a b z : Vec Ideal S256x2048 .f32) (x : Vec Ideal S256x1024 .f32) (w : Vec Ideal S2048x1024 .bf16)
  (lg lb : Vec Ideal S1x2048 .f32) (sw swt : Vec Ideal S8x128x128 .f32) (sbt : Vec Ideal S128x8 .f32)

theorem mixV_at (q : Fin 2) (t : Fin 128) (j : Fin 2048) :
    mixV b lg lb sw sbt (ix2 (row q t) j) = (chunk a b z x w lg lb sw sbt q).mix t j := by
  unfold mixV
  rw [mixL_at]
  unfold mixAt
  simp only [v_at a b z x w lg lb sw sbt]
  rfl

theorem yV_at (q : Fin 2) (t : Fin 128) (j : Fin 2048) :
    yV a b lg lb sw sbt (ix2 (row q t) j) = (chunk a b z x w lg lb sw sbt q).y t j :=
  y_at a b z x w lg lb sw sbt q t j _ (mixV_at a b z x w lg lb sw sbt q t j)

theorem dmV_at (q : Fin 2) (t : Fin 128) (j : Fin 2048) :
    dmV a z x w (ix2 (row q t) j) = (chunk a b z x w lg lb sw sbt q).dm t j :=
  dm_at a b z x w lg lb sw sbt q t j _ (u_at a b z x w lg lb sw sbt q t j)

variable (hT : ∀ g s t, swt (ix3 g s t) = sw (ix3 g t s))

include hT in
theorem dvV_at (q : Fin 2) (s : Fin 128) (j : Fin 2048) :
    dvV a z x w swt (ix2 (row q s) j) = (chunk a b z x w lg lb sw sbt q).dv s j := by
  unfold dvV
  rw [dvL_at]
  unfold dvAt
  simp only [dmV_at a b z x w lg lb sw sbt, hT]
  rfl

include hT in
theorem dproj_at (q : Fin 2) (t : Fin 128) (p : Fin 3) (j : Fin 2048) :
    View.canon (dprojL a b z x w lg lb sw swt sbt) (ix2 (row q t) (pcol p j)) = (chunk a b z x w lg lb sw sbt q).dproj p t j := by
  unfold dprojL
  canon_tiles y h
  all_goals
    idx_vars y
    replace h0 : q.val * 128 + t.val = y0.val := h0
    obtain rfl : row q t = y0 := Fin.ext h0
    replace h1 : p.val * 2048 + j.val = _ := h1
  · obtain rfl : p = 1 := Fin.ext (by omega)
    obtain rfl : j = y1 := Fin.ext (by omega)
    exact db_at a b z x w lg lb sw sbt q t j _ (dn_at a b z x w lg lb sw sbt q t j _ (dvV_at a b z x w lg lb sw swt sbt hT q t))
  · obtain rfl : p = 0 := Fin.ext (by omega)
    obtain rfl : j = y1 := Fin.ext (by omega)
    exact da_at a b z x w lg lb sw sbt q t j _ (du_at a b z x w lg lb sw sbt q t j _ (mixV_at a b z x w lg lb sw sbt q t j))
  · obtain rfl : p = 2 := Fin.ext (by omega)
    obtain rfl : j = y1 := Fin.ext (by omega)
    exact dz_at a b z x w lg lb sw sbt q t j _ (yV_at a b z x w lg lb sw sbt q t j)

/-- The rows of a block are the rows of its two chunks. -/
theorem sum_rows (f : Fin 256 → EReal) : ∑ r, f r = ∑ q, ∑ t, f (row q t) :=
  (Fin.sum_mul_add_fin 2 128 f rfl).symm

include hT in
theorem lg_at (i : Fin 1) (j : Fin 2048) (p : Vec Ideal S1x2048 .f32) :
    k0_pay169 (xhV b) (dvV a z x w swt) p (ix2 i j) = p (ix2 i j) + ∑ q, (chunk a b z x w lg lb sw sbt q).plg j := by
  have e : k0_pay169 (xhV b) (dvV a z x w swt) p (ix2 i j)
      = p (ix2 i j) + ∑ r, dvV a z x w swt (ix2 r j) * xhV b (ix2 r j) := by
    generalize dvV a z x w swt = d
    generalize xhV b = h
    unfold_payloads
    pointwise
  rw [e, sum_rows]
  refine congrArg _ (Finset.sum_congr rfl fun q _ => Finset.sum_congr rfl fun t _ => ?_)
  rw [dvV_at a b z x w lg lb sw swt sbt hT, xhV, xh_at a b z x w lg lb sw sbt]

include hT in
theorem lb_at (i : Fin 1) (j : Fin 2048) (p : Vec Ideal S1x2048 .f32) :
    k0_pay170 (dvV a z x w swt) p (ix2 i j) = p (ix2 i j) + ∑ q, (chunk a b z x w lg lb sw sbt q).plb j := by
  have e : k0_pay170 (dvV a z x w swt) p (ix2 i j) = p (ix2 i j) + ∑ r, dvV a z x w swt (ix2 r j) := by
    generalize dvV a z x w swt = d
    unfold_payloads
    pointwise
  rw [e, sum_rows]
  refine congrArg _ (Finset.sum_congr rfl fun q _ => Finset.sum_congr rfl fun t _ => ?_)
  rw [dvV_at a b z x w lg lb sw swt sbt hT]

theorem wo_at (j : Fin 2048) (k : Fin 1024) (p : Vec Ideal S2048x1024 .f32) :
    k0_pay77 (yV a b lg lb sw sbt) z x p (ix2 j k) = p (ix2 j k) + ∑ q, (chunk a b z x w lg lb sw sbt q).pwo j k := by
  have e : k0_pay77 (yV a b lg lb sw sbt) z x p (ix2 j k)
      = p (ix2 j k) + ∑ r, yV a b lg lb sw sbt (ix2 r j) * (z (ix2 r j) * sgm (z (ix2 r j))) * x (ix2 r k) := by
    generalize yV a b lg lb sw sbt = y
    unfold_payloads
    pointwise [Sgu.sgm]
  rw [e, sum_rows]
  refine congrArg _ (Finset.sum_congr rfl fun q _ => Finset.sum_congr rfl fun t _ => ?_)
  rw [yV_at a b z x w lg lb sw sbt]
  rfl

/-! ## The mixing's parameters -/

theorem rc (d : FVec Ideal S256x2048 .bf16) (r r' : Fin 256) (k k' : Fin 2048) (hr : r.val = r'.val) (hk : k.val = k'.val) :
    d (ix2 r k) = d (ix2 r' k') := by rw [Fin.ext hr, Fin.ext hk]

/-- The sums of a group, after a block. -/
def sbAt (d : FVec Ideal S256x2048 .bf16) (p : Vec Ideal S8x8x128 .f32) (g r : Fin 8) (t : Fin 128) : EReal :=
  p (ix3 g r t) + (∑ k, d (ix2 (row 0 t) (col g k))) + ∑ k, d (ix2 (row 1 t) (col g k))

/-- The weights' gradient of a group, after a block. -/
def swAt (v d : FVec Ideal S256x2048 .bf16) (p : Vec Ideal S8x128x128 .f32) (g : Fin 8) (t s : Fin 128) : EReal :=
  p (ix3 g t s) + (∑ k, d (ix2 (row 0 t) (col g k)) * v (ix2 (row 0 s) (col g k)))
    + ∑ k, d (ix2 (row 1 t) (col g k)) * v (ix2 (row 1 s) (col g k))

theorem sbHi_at (d : FVec Ideal S256x2048 .bf16) (p : Vec Ideal S8x8x128 .f32) (g : Fin 8) (i : Fin 1) (r : Fin 8) (t : Fin 128) :
    sbHi d p g (ix3 i r t) = sbAt d p g r t := by
  fin_cases g
  all_goals
    unfold sbHi
    dsimp only
    unfold_payloads
    pointwise
    unfold sbAt
    exact congrArg₂ (· + ·) (congrArg₂ (· + ·) rfl (Finset.sum_congr rfl fun k _ => rc d _ _ _ _ (by simp [row]) (by simp [col])))
      (Finset.sum_congr rfl fun k _ => rc d _ _ _ _ (by simp [row]) (by simp [col]))

theorem swHi_at (v d : FVec Ideal S256x2048 .bf16) (p : Vec Ideal S8x128x128 .f32) (g : Fin 8) (i : Fin 1) (t s : Fin 128) :
    swHi v d p g (ix3 i t s) = swAt v d p g t s := by
  fin_cases g
  all_goals
    unfold swHi
    dsimp only
    unfold_payloads
    pointwise
    unfold swAt
    exact congrArg₂ (· + ·) (congrArg₂ (· + ·) rfl (Finset.sum_congr rfl fun k _ =>
        congrArg₂ (· * ·) (rc d _ _ _ _ (by simp [row]) (by simp [col])) (rc v _ _ _ _ (by simp [row]) (by simp [col]))))
      (Finset.sum_congr rfl fun k _ =>
        congrArg₂ (· * ·) (rc d _ _ _ _ (by simp [row]) (by simp [col])) (rc v _ _ _ _ (by simp [row]) (by simp [col])))

theorem sbL_at (d : FVec Ideal S256x2048 .bf16) (p : Vec Ideal S8x8x128 .f32) (L) (g r : Fin 8) (t : Fin 128) :
    View.canon (sbL d p ++ L) (ix3 g r t) = sbAt d p g r t := by
  refine (View.canon_append_of_piecesOf (fun y => sbAt d p ⟨(y 0).val, (y 0).isLt⟩ ⟨(y 1).val, (y 1).isLt⟩ ⟨(y 2).val, (y 2).isLt⟩)
    L (sbL d p) ?_ _ (View.cover_of_tiledL _ ![1, 8, 128] (by sl_kernel_rfl) _)).trans rfl
  refine ⟨fun x => ?_, fun x => ?_, fun x => ?_, fun x => ?_, fun x => ?_, fun x => ?_, fun x => ?_, fun x => ?_, trivial⟩
  all_goals
    idx_vars x
    refine (sbHi_at _ _ _ _ _ _).trans ?_
    simp [Rect.emb, LoadRect.idx, Rect.unit]

theorem swL_at (v d : FVec Ideal S256x2048 .bf16) (p : Vec Ideal S8x128x128 .f32) (L) (g : Fin 8) (t s : Fin 128) :
    View.canon (swL v d p ++ L) (ix3 g t s) = swAt v d p g t s := by
  refine (View.canon_append_of_piecesOf (fun y => swAt v d p ⟨(y 0).val, (y 0).isLt⟩ ⟨(y 1).val, (y 1).isLt⟩ ⟨(y 2).val, (y 2).isLt⟩)
    L (swL v d p) ?_ _ (View.cover_of_tiledL _ ![1, 128, 128] (by sl_kernel_rfl) _)).trans rfl
  refine ⟨fun x => ?_, fun x => ?_, fun x => ?_, fun x => ?_, fun x => ?_, fun x => ?_, fun x => ?_, fun x => ?_, trivial⟩
  all_goals
    idx_vars x
    refine (swHi_at _ _ _ _ _ _ _).trans ?_
    simp [Rect.emb, LoadRect.idx, Rect.unit]

/-- What the last point leaves of the weights' gradient: its lower triangle. -/
theorem swMask_at (v d : FVec Ideal S256x2048 .bf16) (p : Vec Ideal S8x128x128 .f32) (L) (g : Fin 8) (t s : Fin 128) :
    View.canon (swMask v d p ++ L) (ix3 g t s) = if s ≤ t then swAt v d p g t s else 0 := by
  refine (View.canon_append_of_piecesOf (fun y => if (⟨(y 2).val, (y 2).isLt⟩ : Fin 128) ≤ ⟨(y 1).val, (y 1).isLt⟩
      then swAt v d p ⟨(y 0).val, (y 0).isLt⟩ ⟨(y 1).val, (y 1).isLt⟩ ⟨(y 2).val, (y 2).isLt⟩ else 0)
    L (swMask v d p) ?_ _ (View.cover_of_tiledL _ ![1, 128, 128] (by sl_kernel_rfl) _)).trans rfl
  refine ⟨fun x => ?_, fun x => ?_, fun x => ?_, fun x => ?_, fun x => ?_, fun x => ?_, fun x => ?_, fun x => ?_, trivial⟩
  all_goals
    idx_vars x
    have e := swHi_at v d p
    generalize swHi v d p = f at e ⊢
    unfold_payloads
    pointwise [sel_ge]
    rw [e]
    simp [Rect.emb, LoadRect.idx, Rect.unit]

theorem dsbL_at (f : Vec Ideal S8x8x128 .f32) (g : Fin 8) (t : Fin 128) : View.canon (dsbL f) (ix2 g t) = f (ix3 g 0 t) := by
  unfold dsbL
  canon_tiles x h
  all_goals
    idx_vars x
    unfold_payloads
    pointwise
    obtain rfl : t = x1 := Fin.ext h1
    exact congrArg (fun g => f (ix3 g 0 t)) (Fin.ext (by replace h0 : g.val = _ := h0; norm_num; omega))

end Cert.SguKIdeal.Rows
-- ==== Proof.SguKernel.lean ====
/-
  The chunked gMLP mixer's gradient: the kernel's six results read at an index of the arguments. 32 blocks of two
  chunks; the chunks' parts of the parameters' gradients summed from block to block.
-/
module

public import proofs.«01_k».proof.Proof.SguBlk
public import proofs.«01_k».proof.Proof.Sums

@[expose] public section

set_option maxRecDepth 16384

noncomputable section

namespace Cert.SguKIdeal.Rows

open Idealize.ShloMosaic Idealize.ShloMosaic.TcCoe Idealize.SL.Sem
open Cert.SguKIdeal Cert.SguKIdeal.Gen Cert.Sgu

variable (m : (ℓ : Loc nD τ sig) → Buf (Elt Ideal) ℓ) (ρ : Dev nD → PrngReg)

theorem idxRows : ∀ t : Fin cfg0.N, win0_0.index t = ![t.val, 0] ∧ win0_1.index t = ![t.val, 0] ∧ win0_2.index t = ![t.val, 1]
    ∧ win0_3.index t = ![t.val, 2] ∧ win0_10.index t = ![t.val, 0] :=
  (by decide +kernel : ∀ t : Fin grid0.N, _)

theorem idxParams : ∀ t : Fin cfg0.N, win0_4.index t = ![0, 0] ∧ win0_5.index t = ![0, 0] ∧ win0_6.index t = ![0, 0]
    ∧ win0_7.index t = ![0, 0, 0] ∧ win0_8.index t = ![0, 0, 0] ∧ win0_9.index t = ![0, 0] :=
  (by decide +kernel : ∀ t : Fin grid0.N, _)

/-! ## Blocks -/

theorem batch_lt (t : Fin cfg0.N) (q : Fin 2) : (t.val * 2 + q.val) / 32 < 2 := by
  have := t.isLt; have : cfg0.N = 32 := N_0; omega

theorem row_lt (t : Fin cfg0.N) (r : Fin 256) : (t.val * 256 + r.val) / 4096 < 2 := by
  have := t.isLt; have : cfg0.N = 32 := N_0; omega

theorem blk0 (c : Dev nD) (t : Fin cfg0.N) (r : Fin 256) (k : Fin 1024) :
    iblk m c 0 t (ix2 r k) = m ((c : Thread nD τ).loc main_arg6)
      (ix3 ⟨(t.val * 256 + r.val) / 4096, row_lt t r⟩ ⟨(t.val * 256 + r.val) % 4096, Nat.mod_lt _ (by decide)⟩ k) := by
  obtain ⟨e0, e1, e2, e3, e4⟩ := idxRows t
  blk_ext! [iblk, V, e0]

theorem blk1 (c : Dev nD) (t : Fin cfg0.N) (r : Fin 256) (j : Fin 2048) :
    iblk m c 1 t (ix2 r j) = m ((c : Thread nD τ).loc main_arg0)
      (ix3 ⟨(t.val * 256 + r.val) / 4096, row_lt t r⟩ ⟨(t.val * 256 + r.val) % 4096, Nat.mod_lt _ (by decide)⟩ (pcol 0 j)) := by
  obtain ⟨e0, e1, e2, e3, e4⟩ := idxRows t
  blk_ext! [iblk, V, e1, pcol]

theorem blk2 (c : Dev nD) (t : Fin cfg0.N) (r : Fin 256) (j : Fin 2048) :
    iblk m c 2 t (ix2 r j) = m ((c : Thread nD τ).loc main_arg0)
      (ix3 ⟨(t.val * 256 + r.val) / 4096, row_lt t r⟩ ⟨(t.val * 256 + r.val) % 4096, Nat.mod_lt _ (by decide)⟩ (pcol 1 j)) := by
  obtain ⟨e0, e1, e2, e3, e4⟩ := idxRows t
  blk_ext! [iblk, V, e2, pcol]

theorem blk3 (c : Dev nD) (t : Fin cfg0.N) (r : Fin 256) (j : Fin 2048) :
    iblk m c 3 t (ix2 r j) = m ((c : Thread nD τ).loc main_arg0)
      (ix3 ⟨(t.val * 256 + r.val) / 4096, row_lt t r⟩ ⟨(t.val * 256 + r.val) % 4096, Nat.mod_lt _ (by decide)⟩ (pcol 2 j)) := by
  obtain ⟨e0, e1, e2, e3, e4⟩ := idxRows t
  blk_ext! [iblk, V, e3, pcol]

theorem blk4 (c : Dev nD) (t : Fin cfg0.N) (j : Fin 2048) (k : Fin 1024) :
    iblk m c 4 t (ix2 j k) = m ((c : Thread nD τ).loc main_arg1) (ix2 j k) := by
  obtain ⟨e0, e1, e2, e3, e4, e5⟩ := idxParams t
  blk_ext! [iblk, V, e0]

theorem blk5 (c : Dev nD) (t : Fin cfg0.N) (i : Fin 1) (j : Fin 2048) :
    iblk m c 5 t (ix2 i j) = m ((c : Thread nD τ).loc main_arg2) (ix1 j) := by
  obtain ⟨e0, e1, e2, e3, e4, e5⟩ := idxParams t
  blk_ext! [iblk, V, e1]

theorem blk6 (c : Dev nD) (t : Fin cfg0.N) (i : Fin 1) (j : Fin 2048) :
    iblk m c 6 t (ix2 i j) = m ((c : Thread nD τ).loc main_arg3) (ix1 j) := by
  obtain ⟨e0, e1, e2, e3, e4, e5⟩ := idxParams t
  blk_ext! [iblk, V, e2]

theorem blk7 (c : Dev nD) (t : Fin cfg0.N) (g : Fin 8) (i s : Fin 128) :
    iblk m c 7 t (ix3 g i s) = m ((c : Thread nD τ).loc main_arg4) (ix3 g i s) := by
  obtain ⟨e0, e1, e2, e3, e4, e5⟩ := idxParams t
  blk_ext! [iblk, V, e3]

theorem blk8 (c : Dev nD) (t : Fin cfg0.N) (g : Fin 8) (s i : Fin 128) :
    iblk m c 8 t (ix3 g s i) = m ((c : Thread nD τ).loc main_arg4) (ix3 g i s) := by
  obtain ⟨e0, e1, e2, e3, e4, e5⟩ := idxParams t
  blk_ext! [iblk, V, e4]

theorem blk9 (c : Dev nD) (t : Fin cfg0.N) (i : Fin 128) (g : Fin 8) :
    iblk m c 9 t (ix2 i g) = m ((c : Thread nD τ).loc main_arg5) (ix2 g i) := by
  obtain ⟨e0, e1, e2, e3, e4, e5⟩ := idxParams t
  blk_ext! [iblk, V, e5]

theorem swap8 (c : Dev nD) (t : Fin cfg0.N) (g s i) : iblk m c 8 t (ix3 g s i) = iblk m c 7 t (ix3 g i s) :=
  (blk8 m c t g s i).trans (blk7 m c t g i s).symm

/-- A chunk of the arguments. -/
def ck (c : Dev nD) : Fin 2 → Fin 32 → Chunk :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The chunk that half `q` of block `t` is. -/
def at2 (c : Dev nD) (t : Fin cfg0.N) (q : Fin 2) : Chunk :=
  ck m c ⟨(t.val * 2 + q.val) / 32, batch_lt t q⟩ ⟨(t.val * 2 + q.val) % 32, Nat.mod_lt _ (by decide)⟩

theorem row_batch (t : Fin cfg0.N) (q : Fin 2) (i : Fin 128) : (t.val * 256 + (row q i).val) / 4096 = (t.val * 2 + q.val) / 32 := by
  unfold row; dsimp only; omega
theorem row_pos (t : Fin cfg0.N) (q : Fin 2) (i : Fin 128) :
    (t.val * 256 + (row q i).val) % 4096 = (t.val * 2 + q.val) % 32 * 128 + i.val := by
  unfold row; dsimp only; omega

theorem chunk_eq (c : Dev nD) (t : Fin cfg0.N) (q : Fin 2) :
    chunk (iblk m c 1 t) (iblk m c 2 t) (iblk m c 3 t) (iblk m c 0 t) (iblk m c 4 t) (iblk m c 5 t) (iblk m c 6 t) (iblk m c 7 t)
      (iblk m c 9 t) q = at2 m c t q := by
  unfold chunk at2 ck ofArgs pos
  simp only [blk0, blk1, blk2, blk3, blk4, blk5, blk6, blk7, blk9, row_batch, row_pos]

/-! ## Sums over the chunks -/

section
variable (l : Fin cfg0.N) (hl : l.val + 1 = cfg0.N)
include hl

omit hl in
theorem sum_chunks (f : Chunk → EReal) (c : Dev nD) : ∑ t : Fin cfg0.N, ∑ q, f (at2 m c t q) = ∑ b, ∑ n, f (ck m c b n) :=
  Sums.sum_blocks cfg0.N 2 (by decide) (by rw [show cfg0.N = 32 from N_0]) (fun b n => f (ck m c b n))

/-- An entry that starts over at the first block and adds both chunks' parts at each, after the last. -/
theorem sum_of_steps (c : Dev nD) (s : (n : ℕ) → n < cfg0.N → EReal) (f : Chunk → EReal)
    (hA : ∀ t : Fin cfg0.N, t.val % 32 = 0 → s t.val t.isLt = 0 + ∑ q, f (at2 m c t q))
    (hB : ∀ t : Fin cfg0.N, ¬t.val % 32 = 0 →
      s t.val t.isLt = s (t.val - 1) (Nat.lt_of_le_of_lt (Nat.sub_le _ _) t.isLt) + ∑ q, f (at2 m c t q)) :
    s l.val l.isLt = ∑ b, ∑ n, f (ck m c b n) := by
  refine (Pipeline.eq_sum_fin_of_reset_step_last s 32 0 (fun t => ∑ q, f (at2 m c t q)) hA hB (le_of_eq N_0) l hl).trans ?_
  rw [zero_add]
  exact sum_chunks m f c

omit hl in
theorem zero20 (i) : (k0_pay20 (F := Ideal)) i = 0 := by unfold_payloads; pointwise
omit hl in
theorem zero21 (i) : (k0_pay21 (F := Ideal)) i = 0 := by unfold_payloads; pointwise
omit hl in
theorem zero22 (i) : (k0_pay22 (F := Ideal)) i = 0 := by unfold_payloads; pointwise
omit hl in
theorem zero23 (i) : (k0_pay23 (F := Ideal)) i = 0 := by unfold_payloads; pointwise
omit hl in
theorem zero24 (i) : (k0_pay24 (F := Ideal)) i = 0 := by unfold_payloads; pointwise
omit hl in
theorem pay5_at (f : Vec Ideal S2048x1024 .f32) (i) : k0_pay5 f i = f i := by unfold_payloads; pointwise

theorem last_mod : l.val % 32 = 31 := by have : cfg0.N = 32 := N_0; omega

theorem lg_sum (c : Dev nD) (i : Fin 1) (j : Fin 2048) :
    (outsAt0 m c l.val l.isLt).2.2.2.2.1 (ix2 i j) = ∑ b, ∑ n, (ck m c b n).plg j := by
  have e (t : Fin cfg0.N) := lg_at (iblk m c 1 t) (iblk m c 2 t) (iblk m c 3 t) (iblk m c 0 t) (iblk m c 4 t) (iblk m c 5 t) (iblk m c 6 t)
    (iblk m c 7 t) (iblk m c 8 t) (iblk m c 9 t) (swap8 m c t) i j
  simp only [chunk_eq] at e
  refine sum_of_steps m l hl c (fun n h => (outsAt0 m c n h).2.2.2.2.1 (ix2 i j)) (·.plg j) (fun t h => ?_) (fun t h => ?_)
  · rw [lg_A m c t h (by omega), e, zero23]
  · by_cases h1 : t.val % 32 = 31
    · rw [lg_C m c t h h1, e]
    · rw [lg_B m c t h h1, e]

theorem lb_sum (c : Dev nD) (i : Fin 1) (j : Fin 2048) :
    (outsAt0 m c l.val l.isLt).2.2.2.2.2.1 (ix2 i j) = ∑ b, ∑ n, (ck m c b n).plb j := by
  have e (t : Fin cfg0.N) := lb_at (iblk m c 1 t) (iblk m c 2 t) (iblk m c 3 t) (iblk m c 0 t) (iblk m c 4 t) (iblk m c 5 t) (iblk m c 6 t)
    (iblk m c 7 t) (iblk m c 8 t) (iblk m c 9 t) (swap8 m c t) i j
  simp only [chunk_eq] at e
  refine sum_of_steps m l hl c (fun n h => (outsAt0 m c n h).2.2.2.2.2.1 (ix2 i j)) (·.plb j) (fun t h => ?_) (fun t h => ?_)
  · rw [lb_A m c t h (by omega), e, zero24]
  · by_cases h1 : t.val % 32 = 31
    · rw [lb_C m c t h h1, e]
    · rw [lb_B m c t h h1, e]

theorem wo_sum (c : Dev nD) (j : Fin 2048) (k : Fin 1024) :
    (outsAt0 m c l.val l.isLt).2.2.2.2.2.2.2 (ix2 j k) = ∑ b, ∑ n, (ck m c b n).pwo j k := by
  have e (t : Fin cfg0.N) := wo_at (iblk m c 1 t) (iblk m c 2 t) (iblk m c 3 t) (iblk m c 0 t) (iblk m c 4 t) (iblk m c 5 t) (iblk m c 6 t)
    (iblk m c 7 t) (iblk m c 9 t) j k
  simp only [chunk_eq] at e
  refine sum_of_steps m l hl c (fun n h => (outsAt0 m c n h).2.2.2.2.2.2.2 (ix2 j k)) (·.pwo j k) (fun t h => ?_) (fun t h => ?_)
  · rw [wo_A m c t h (by omega), e, zero20]
  · by_cases h1 : t.val % 32 = 31
    · rw [wo_C m c t h h1, e]
    · rw [wo_B m c t h h1, e]

omit hl in
/-- One block's part of a group's sums. -/
theorem sb_step (c : Dev nD) (t : Fin cfg0.N) (p : Vec Ideal S8x8x128 .f32) (L) (g r : Fin 8) (i : Fin 128) :
    View.canon (sbL (dmV (iblk m c 1 t) (iblk m c 3 t) (iblk m c 0 t) (iblk m c 4 t)) p ++ L) (ix3 g r i)
      = p (ix3 g r i) + ∑ q, (at2 m c t q).psb g i := by
  have e (q i j) := dmV_at (iblk m c 1 t) (iblk m c 2 t) (iblk m c 3 t) (iblk m c 0 t) (iblk m c 4 t) (iblk m c 5 t) (iblk m c 6 t)
    (iblk m c 7 t) (iblk m c 9 t) q i j
  rw [sbL_at]
  unfold sbAt
  simp only [e, chunk_eq]
  rw [Fin.sum_univ_two, add_assoc]
  rfl

omit hl in
/-- One block's part of a group's weights. -/
theorem sw_step (c : Dev nD) (t : Fin cfg0.N) (p : Vec Ideal S8x128x128 .f32) (g : Fin 8) (i s : Fin 128) :
    swAt (vV (iblk m c 2 t) (iblk m c 5 t) (iblk m c 6 t)) (dmV (iblk m c 1 t) (iblk m c 3 t) (iblk m c 0 t) (iblk m c 4 t)) p g i s
      = p (ix3 g i s) + ∑ q, (at2 m c t q).psw g i s := by
  have e (q i j) := dmV_at (iblk m c 1 t) (iblk m c 2 t) (iblk m c 3 t) (iblk m c 0 t) (iblk m c 4 t) (iblk m c 5 t) (iblk m c 6 t)
    (iblk m c 7 t) (iblk m c 9 t) q i j
  have e' (q i j) : vV (iblk m c 2 t) (iblk m c 5 t) (iblk m c 6 t) (ix2 (row q i) j) = _ := v_at (iblk m c 1 t) (iblk m c 2 t)
    (iblk m c 3 t) (iblk m c 0 t) (iblk m c 4 t) (iblk m c 5 t) (iblk m c 6 t) (iblk m c 7 t) (iblk m c 9 t) q i j
  unfold swAt
  simp only [e, e', chunk_eq]
  rw [Fin.sum_univ_two, add_assoc]
  rfl

theorem sb_sum (c : Dev nD) (g r : Fin 8) (i : Fin 128) :
    (outsAt0 m c l.val l.isLt).2.2.2.2.2.2.1 (ix3 g r i) = ∑ b, ∑ n, (ck m c b n).psb g i := by
  refine sum_of_steps m l hl c (fun n h => (outsAt0 m c n h).2.2.2.2.2.2.1 (ix3 g r i)) (·.psb g i) (fun t h => ?_) (fun t h => ?_)
  · rw [sb_A m c t h (by omega), sb_step, zero22]
  · by_cases h1 : t.val % 32 = 31
    · rw [sb_C m c t h h1, sb_step]
    · rw [sb_B m c t h h1, sb_step]

theorem sw_low (c : Dev nD) (g : Fin 8) (i s : Fin 128) (hs : s ≤ i) :
    (outsAt0 m c l.val l.isLt).2.2.1 (ix3 g i s) = ∑ b, ∑ n, (ck m c b n).psw g i s := by
  refine sum_of_steps m l hl c (fun n h => (outsAt0 m c n h).2.2.1 (ix3 g i s)) (·.psw g i s) (fun t h => ?_) (fun t h => ?_)
  · rw [sw_A m c t h (by omega), swL_at, sw_step, zero21]
  · by_cases h1 : t.val % 32 = 31
    · rw [sw_C m c t h h1, swMask_at, if_pos hs, sw_step]
    · rw [sw_B m c t h h1, swL_at, sw_step]

theorem sw_sum (c : Dev nD) (g : Fin 8) (i s : Fin 128) :
    (outsAt0 m c l.val l.isLt).2.2.1 (ix3 g i s) = ∑ b, ∑ n, (ck m c b n).pswM g i s := by
  unfold Chunk.pswM
  by_cases hs : s ≤ i
  · simp only [if_pos hs]
    exact sw_low m l hl c g i s hs
  · rw [sw_C m c l (by rw [last_mod l hl]; decide) (last_mod l hl), swMask_at, if_neg hs]
    simp only [if_neg hs, Finset.sum_const_zero]

end

/-! ## The six arrays -/

def Gproj (c : Dev nD) : S8192x6144.Idx → EReal := fun i =>
  have h0 : (i 0).val < 8192 := (i 0).isLt
  have h1 : (i 1).val < 6144 := (i 1).isLt
  (ck m c ⟨(i 0).val / 4096, by omega⟩ ⟨(i 0).val % 4096 / 128, by omega⟩).dproj ⟨(i 1).val / 2048, by omega⟩
    ⟨(i 0).val % 128, by omega⟩ ⟨(i 1).val % 2048, by omega⟩

def Gwo (c : Dev nD) : S2048x1024.Idx → EReal := fun i =>
  ∑ b, ∑ n, (ck m c b n).pwo ⟨(i 0).val, (i 0).isLt⟩ ⟨(i 1).val, (i 1).isLt⟩
def Gsw (c : Dev nD) : S8x128x128.Idx → EReal := fun i =>
  ∑ b, ∑ n, (ck m c b n).pswM ⟨(i 0).val, (i 0).isLt⟩ ⟨(i 1).val, (i 1).isLt⟩ ⟨(i 2).val, (i 2).isLt⟩
def Gsb (c : Dev nD) : S8x128.Idx → EReal := fun i =>
  ∑ b, ∑ n, (ck m c b n).psb ⟨(i 0).val, (i 0).isLt⟩ ⟨(i 1).val, (i 1).isLt⟩
def Glg (c : Dev nD) : S1x2048.Idx → EReal := fun i => ∑ b, ∑ n, (ck m c b n).plg ⟨(i 1).val, (i 1).isLt⟩
def Glb (c : Dev nD) : S1x2048.Idx → EReal := fun i => ∑ b, ∑ n, (ck m c b n).plb ⟨(i 1).val, (i 1).isLt⟩

theorem proj_all (c : Dev nD) (t : Fin cfg0.N) : (outsAt0 m c t.val t.isLt).1 = View.canon (dprojL (iblk m c 1 t) (iblk m c 2 t)
    (iblk m c 3 t) (iblk m c 0 t) (iblk m c 4 t) (iblk m c 5 t) (iblk m c 6 t) (iblk m c 7 t) (iblk m c 8 t) (iblk m c 9 t)) := by
  by_cases h0 : t.val % 32 = 0
  · exact proj_A m c t h0 (by omega)
  · by_cases h1 : t.val % 32 = 31
    · exact proj_C m c t h0 h1
    · exact proj_B m c t h0 h1

theorem dproj_congr (f : Fin 2 → Fin 32 → Chunk) (b b' : Fin 2) {n n' : Fin 32} {p p' : Fin 3} {i i' : Fin 128} {j j' : Fin 2048}
    (hb : b.val = b'.val) (hn : n.val = n'.val) (hp : p.val = p'.val) (hi : i.val = i'.val) (hj : j.val = j'.val) :
    (f b n).dproj p i j = (f b' n').dproj p' i' j' := by
  rw [Fin.ext hb, Fin.ext hn, Fin.ext hp, Fin.ext hi, Fin.ext hj]

theorem final_proj (c : Dev nD) : (dats m 0 c).arrAt 10 cfg0.N = Gproj m c := by
  refine (dats m 0 c).arrAt_eq_of_covers 10 _ (by decide +kernel) fun t hf y => ?_
  obtain ⟨e0, e1, e2, e3, e4⟩ := idxRows t
  blk_simp
  rw [after0_10, proj_all]
  idx_vars y
  obtain ⟨q, i, rfl⟩ : ∃ q i, y0 = row q i := ⟨⟨y0.val / 128, by omega⟩, ⟨y0.val % 128, by omega⟩, Fin.ext (by unfold row; dsimp only; omega)⟩
  obtain ⟨p, j, rfl⟩ : ∃ p j, y1 = pcol p j := ⟨⟨y1.val / 2048, by omega⟩, ⟨y1.val % 2048, by omega⟩, Fin.ext (by unfold pcol; dsimp only; omega)⟩
  rw [dproj_at _ _ _ _ _ _ _ _ _ _ (swap8 m c t), chunk_eq]
  unfold Gproj at2
  blk_simp [e4, row, pcol]
  exact dproj_congr _ _ _ (by dsimp only; omega) (by dsimp only; omega) (by dsimp only; omega) (by dsimp only; omega) (by dsimp only; omega)

/-- The last block. -/
def tl : Fin cfg0.N := ⟨31, by rw [show cfg0.N = 32 from N_0]; decide⟩

theorem after_wo (l : Fin cfg0.N) (hl : l.val + 1 = cfg0.N) (c : Dev nD) (j : _) : (dats m 0 c).after 11 l j = Gwo m c j := by
  refine (congrFun (after0_11 m c l) j).trans ?_
  have h := last_mod l hl
  refine (congrFun ((wo_out_C m c l (by omega) h).trans (congrArg k0_pay5 (wo_C m c l (by omega) h).symm)) j).trans ?_
  idx_vars j
  exact (pay5_at _ _).trans (wo_sum m l hl c j0 j1)

theorem final_wo (c : Dev nD) : (dats m 0 c).arrAt 11 cfg0.N = Gwo m c :=
  (dats m 0 c).arrAt_eq_of_after_last 11 tl (by decide +kernel) _ (after_wo m tl rfl c)

theorem after_sw (l : Fin cfg0.N) (hl : l.val + 1 = cfg0.N) (c : Dev nD) (j : _) : (dats m 0 c).after 12 l j = Gsw m c j := by
  refine (congrFun (after0_12 m c l) j).trans ?_
  idx_vars j
  exact sw_sum m l hl c j0 j1 j2

theorem final_sw (c : Dev nD) : (dats m 0 c).arrAt 12 cfg0.N = Gsw m c :=
  (dats m 0 c).arrAt_eq_of_after_last 12 tl (by decide +kernel) _ (after_sw m tl rfl c)

theorem after_sb (l : Fin cfg0.N) (hl : l.val + 1 = cfg0.N) (c : Dev nD) (j : _) : (dats m 0 c).after 13 l j = Gsb m c j := by
  refine (congrFun (after0_13 m c l) j).trans ?_
  have h := last_mod l hl
  refine (congrFun ((sb_out_C m c l (by omega) h).trans (congrArg (fun f => View.canon (dsbL f)) (sb_C m c l (by omega) h).symm)) j).trans ?_
  idx_vars j
  exact (dsbL_at _ _ _).trans (sb_sum m l hl c j0 0 j1)

theorem final_sb (c : Dev nD) : (dats m 0 c).arrAt 13 cfg0.N = Gsb m c :=
  (dats m 0 c).arrAt_eq_of_after_last 13 tl (by decide +kernel) _ (after_sb m tl rfl c)

theorem after_lg (l : Fin cfg0.N) (hl : l.val + 1 = cfg0.N) (c : Dev nD) (j : _) : (dats m 0 c).after 14 l j = Glg m c j := by
  refine (congrFun (after0_14 m c l) j).trans ?_
  idx_vars j
  exact lg_sum m l hl c j0 j1

theorem final_lg (c : Dev nD) : (dats m 0 c).arrAt 14 cfg0.N = Glg m c :=
  (dats m 0 c).arrAt_eq_of_after_last 14 tl (by decide +kernel) _ (after_lg m tl rfl c)

theorem after_lb (l : Fin cfg0.N) (hl : l.val + 1 = cfg0.N) (c : Dev nD) (j : _) : (dats m 0 c).after 15 l j = Glb m c j := by
  refine (congrFun (after0_15 m c l) j).trans ?_
  idx_vars j
  exact lb_sum m l hl c j0 j1

theorem final_lb (c : Dev nD) : (dats m 0 c).arrAt 15 cfg0.N = Glb m c :=
  (dats m 0 c).arrAt_eq_of_after_last 15 tl (by decide +kernel) _ (after_lb m tl rfl c)

end Cert.SguKIdeal.Rows
-- ==== Proof.SguReal.lean ====
/-
  The chunked gMLP mixer's gradient: with real arguments everything a chunk computes is real, and the gradients of the
  GELU, the SiLU and the layer norm by hand are those of the lines that compute them.
-/
module

public import proofs.«01_k».proof.Proof.Closed
public import proofs.«01_k».proof.Proof.SguArgs

@[expose] public section

noncomputable section

namespace Cert.Sgu

open Idealize.ShloMosaic Cert.Reals

/-- The host's gradient of the GELU. -/
def geluB (x g : EReal) : EReal :=
  -(Ideal.div (Ideal.ofBits .f32 0xBF906EBB#32 * (half * x * g) * Ideal.exp (-(-(x * cc) * -(x * cc))))
      (Ideal.sqrt (Ideal.ofBits .f32 0x40000000#32))) + half * (g * Ideal.erfc (-(x * cc)))

theorem geluB_eq {x g : EReal} (hx : IsR x) (hg : IsR g) : g * geluD x = geluB x g := gelu_bwd hx hg

theorem gelu_real {x : EReal} (hx : IsR x) : IsR (gelu x) := by
  unfold gelu half cc
  rw [wHalf]
  exact ((IsR.coe _).mul hx).mul (IsR.one.add (hx.mul (IsR.coe _)).erf)

namespace Chunk

/-- The variance and its offset. -/
def var (c : Chunk) (t : Fin 128) : EReal := Ideal.div (∑ k, c.xc t k * c.xc t k) n2048 + eps
/-- The gradient of the mean square, halved. -/
def dvar (c : Chunk) (s : Fin 128) : EReal :=
  Ideal.div ((∑ k, c.xc s k * c.dx s k) * (Ideal.ofBits .f32 0xBF000000#32 * Ideal.div (c.rstd s) (c.var s))) n2048
/-- The gradient of the centred row. -/
def dxc (c : Chunk) (s : Fin 128) (j : Fin 2048) : EReal := c.dx s j * c.rstd s + c.xc s j * c.dvar s + c.dvar s * c.xc s j
/-- The gradient of the row that is normed, as differentiated. -/
def dnB (c : Chunk) (s : Fin 128) (j : Fin 2048) : EReal := c.dxc s j + Ideal.div (∑ k, -c.dxc s k) n2048
/-- The gradient of the gate, as differentiated. -/
def dzB (c : Chunk) (t : Fin 128) (j : Fin 2048) : EReal :=
  c.y t j * c.dq t j * sgm (c.Z t j) + c.Z t j * (c.y t j * c.dq t j) * (sgm (c.Z t j) * (1 - sgm (c.Z t j)))

/-- Every argument is real. -/
structure AllR (c : Chunk) : Prop where
  A : ∀ t j, IsR (c.A t j)
  B : ∀ t j, IsR (c.B t j)
  Z : ∀ t j, IsR (c.Z t j)
  X : ∀ t k, IsR (c.X t k)
  W : ∀ j k, IsR (c.W j k)
  lg : ∀ j, IsR (c.lg j)
  lb : ∀ j, IsR (c.lb j)
  S : ∀ g t s, IsR (c.S g t s)
  T : ∀ g t, IsR (c.T g t)

namespace AllR

variable {c : Chunk} (h : c.AllR)
include h

theorem u (t j) : IsR (c.u t j) := gelu_real (h.A t j)
theorem vg (t j) : IsR (c.vg t j) := gelu_real (h.B t j)
theorem xc (t j) : IsR (c.xc t j) := by
  unfold Chunk.xc n2048
  rw [w2048]
  exact (h.vg t j).sub (IsR.div (IsR.sum _ (h.vg t)) (by norm_num))
theorem rstd (t) : IsR (c.rstd t) := by
  obtain ⟨e, he, hw⟩ := wEps
  unfold Chunk.rstd n2048 eps
  rw [w2048, hw]
  exact IsR.rstd _ (h.xc t) (by norm_num) he
theorem v (t j) : IsR (c.v t j) := (((h.xc t j).mul (h.rstd t)).mul (h.lg j)).add (h.lb j)
theorem mix (t j) : IsR (c.mix t j) := (IsR.sum _ fun s => (IsR.ite (h.S _ t s) IsR.zero).mul (h.v s j)).add (h.T _ t)
theorem y (t j) : IsR (c.y t j) := (h.u t j).mul (h.mix t j)
theorem sgm (t j) : IsR (sgm (c.Z t j)) := (h.Z t j).logistic
theorem dq (t j) : IsR (c.dq t j) := IsR.sum _ fun k => (h.X t k).mul (h.W j k)
theorem dy (t j) : IsR (c.dy t j) := (h.dq t j).mul ((h.Z t j).mul (h.sgm t j))
theorem dm (t j) : IsR (c.dm t j) := (h.dy t j).mul (h.u t j)
theorem dv (s j) : IsR (c.dv s j) := IsR.sum _ fun t => (IsR.ite (h.S _ t s) IsR.zero).mul (h.dm t j)
theorem dx (s j) : IsR (c.dx s j) := (h.dv s j).mul (h.lg j)
theorem dn (s j) : IsR (c.dn s j) := by
  unfold Chunk.dn Chunk.xh n2048
  rw [w2048]
  exact (h.rstd s).mul (((h.dx s j).sub (IsR.div (IsR.sum _ (h.dx s)) (by norm_num))).sub
    (((h.xc s j).mul (h.rstd s)).mul (IsR.div (IsR.sum _ fun k => (h.dx s k).mul ((h.xc s k).mul (h.rstd s))) (by norm_num))))

theorem dn_eq (s j) : c.dn s j = c.dnB s j := by
  obtain ⟨e, he, hw⟩ := wEps
  have h0 : ∑ k, c.xc s k = 0 := by
    unfold Chunk.xc n2048
    rw [w2048]
    exact centred_sum _ (h.vg s) (by norm_num) (by norm_num)
  have := ln_bwd Finset.univ (c.xc s) (c.dx s) (h.xc s) (h.dx s) h0 (d := 2048) (by norm_num) he j (c.var s) (c.rstd s) (c.dvar s)
    (c.dxc s) (by unfold Chunk.var n2048 eps; rw [w2048, hw]) rfl (by unfold Chunk.dvar n2048; rw [w2048, wNegHalf]) (fun k => rfl)
  unfold Chunk.dn Chunk.dnB Chunk.xh n2048
  rw [w2048]
  exact this

theorem dz_eq (t j) : c.dz t j = c.dzB t j := silu_bwd (h.y t j) (h.dq t j) (h.Z t j) (h.sgm t j)

theorem da_eq (t j) : c.da t j = geluB (c.A t j) (c.du t j) := geluB_eq (h.A t j) ((h.dy t j).mul (h.mix t j))

theorem db_eq (t j) : c.db t j = geluB (c.B t j) (c.dnB t j) := by
  rw [← h.dn_eq]
  exact geluB_eq (h.B t j) (h.dn t j)

end AllR

end Chunk

end Cert.Sgu
-- ==== Proof.SguValue.lean ====
/-
  The chunked gMLP mixer's gradient as the reference computes it: each stage read at a row of a chunk and a column, and
  the six gradients as the kernel's sums over the chunks.
-/
module

public import proofs.«01_k».proof.Proof.SguReal
public import proofs.«01_k».proof.Proof.Sums
public import proofs.«01_k».proof.Proof.Gen.SguRIdeal.Read

@[expose] public section

set_option maxRecDepth 16384

noncomputable section

namespace Cert.SguRIdeal.Rows

open Idealize.ShloMosaic Idealize.ShloMosaic.TcCoe Idealize.SL.Sem
open Cert.SguRIdeal.Read Cert.Sgu

/-- The contraction of the spatial matrix's gradient, over batch, chunk and column. -/
abbrev dotS := dot_S8x2x32x256x128_S2x32x128x8x256_S8x128x128_123_014_4_2_0_3

/-- Its index from three coordinates. -/
def dotIdx (k : Fin 2 × Fin 32 × Fin 256) : dotS.contr.Idx
  | ⟨0, _⟩ => k.1
  | ⟨1, _⟩ => k.2.1
  | ⟨2, _⟩ => k.2.2

theorem dotIdx_bij : Function.Bijective dotIdx := by
  constructor
  · intro p q e
    exact Prod.ext (congrFun e ⟨0, by decide⟩) (Prod.ext (congrFun e ⟨1, by decide⟩) (congrFun e ⟨2, by decide⟩))
  · intro k
    refine ⟨(k ⟨0, by decide⟩, k ⟨1, by decide⟩, k ⟨2, by decide⟩), ?_⟩
    funext p
    match p with
    | ⟨0, _⟩ => rfl
    | ⟨1, _⟩ => rfl
    | ⟨2, _⟩ => rfl

theorem dotS_at (l : S8x2x32x256x128.Idx → EReal) (r : S2x32x128x8x256.Idx → EReal) (g : Fin 8) (t s : Fin 128) :
    Ideal.matmul dotS l r (fun _ => 0) (ix3 g t s) = ∑ b : Fin 2, ∑ n : Fin 32, ∑ k : Fin 256, l (ix5 g b n k t) * r (ix5 b n s g k) := by
  have hl : ∀ k, dotS.lhsIdx (ix3 g t s) (dotIdx k) = ix5 g k.1 k.2.1 k.2.2 t := by
    intro k; funext a; apply Fin.ext
    match a with
    | ⟨0, _⟩ => rfl
    | ⟨1, _⟩ => rfl
    | ⟨2, _⟩ => rfl
    | ⟨3, _⟩ => rfl
    | ⟨4, _⟩ => rfl
  have hr : ∀ k, dotS.rhsIdx (ix3 g t s) (dotIdx k) = ix5 k.1 k.2.1 s g k.2.2 := by
    intro k; funext a; apply Fin.ext
    match a with
    | ⟨0, _⟩ => rfl
    | ⟨1, _⟩ => rfl
    | ⟨2, _⟩ => rfl
    | ⟨3, _⟩ => rfl
    | ⟨4, _⟩ => rfl
  unfold Ideal.matmul
  rw [zero_add, ← dotIdx_bij.sum_comp]
  simp only [hl, hr, Fintype.sum_prod_type]

/-- The host's sum of a rank-5 array over its axes 0, 1 and 4. -/
theorem reduce_a014 {n0 n1 n2 n3 n4 : ℕ} (h : (⟨5, ![n0, n1, n2, n3, n4]⟩ : Shape).ReducesTo [0, 1, 4] ⟨2, ![n2, n3]⟩)
    (v : (⟨5, ![n0, n1, n2, n3, n4]⟩ : Shape).Idx → EReal) (init : EReal) (k : Fin n2) (l : Fin n3) :
    Ideal.hostReduceAdd h v init (ix2 k l) = init + ∑ a : Fin n0, ∑ b : Fin n1, ∑ e : Fin n4, v (ix5 a b k l e) := by
  have hk : ∀ i : (⟨5, ![n0, n1, n2, n3, n4]⟩ : Shape).Idx, h.drop i = ix2 k l ↔
      ∃ p : Fin n0 × Fin n1 × Fin n4, ix5 p.1 p.2.1 k l p.2.2 = i := by
    intro i
    constructor
    · intro e
      refine ⟨(i 0, i 1, i 4), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => rfl
    · rintro ⟨p, rfl⟩
      funext b; apply Fin.ext
      match b with
      | ⟨0, _⟩ => rfl
      | ⟨1, _⟩ => rfl
  refine congrArg (init + ·) ?_
  refine (Finset.sum_filter_eq_sum_of_fiber _ (fun p : Fin n0 × Fin n1 × Fin n4 => ix5 p.1 p.2.1 k l p.2.2)
    (fun _ _ e => Prod.ext (congrFun e 0) (Prod.ext (congrFun e 1) (congrFun e 4))) hk v).trans ?_
  simp only [Fintype.sum_prod_type]

theorem sum_pos {M : Type*} [AddCommMonoid M] (f : Fin 4096 → M) : ∑ s, f s = ∑ n, ∑ t, f (pos n t) :=
  (Fin.sum_mul_add_fin 32 128 f rfl).symm

theorem sum_col {M : Type*} [AddCommMonoid M] (f : Fin 2048 → M) : ∑ s, f s = ∑ g, ∑ k, f (col g k) :=
  (Fin.sum_mul_add_fin 8 256 f rfl).symm

variable (x0 : (⟨S2x4096x6144, .f32⟩ : BufTy).Contents (Elt Ideal)) (x1 : (⟨S2048x1024, .f32⟩ : BufTy).Contents (Elt Ideal))
  (x2 x3 : (⟨S2048, .f32⟩ : BufTy).Contents (Elt Ideal)) (x4 : (⟨S8x128x128, .f32⟩ : BufTy).Contents (Elt Ideal))
  (x5 : (⟨S8x128, .f32⟩ : BufTy).Contents (Elt Ideal)) (x6 : (⟨S2x4096x1024, .f32⟩ : BufTy).Contents (Elt Ideal))
  (b : Fin 2) (n : Fin 32)

theorem A_at (t : Fin 128) (j : Fin 2048) :
    val_main_v0 x0 (ix3 b (pos n t) j) = (ofArgs x0 x1 x2 x3 x4 x5 x6 b n).A t j := by
  pointwise [val_main_v0, ofArgs, pcol, pos]

theorem B_at (t : Fin 128) (j : Fin 2048) :
    val_main_v1 x0 (ix3 b (pos n t) j) = (ofArgs x0 x1 x2 x3 x4 x5 x6 b n).B t j := by
  pointwise [val_main_v1, ofArgs, pcol, pos]

theorem Z_at (t : Fin 128) (j : Fin 2048) :
    val_main_v2 x0 (ix3 b (pos n t) j) = (ofArgs x0 x1 x2 x3 x4 x5 x6 b n).Z t j := by
  pointwise [val_main_v2, ofArgs, pcol, pos]

theorem u_at (t : Fin 128) (j : Fin 2048) :
    val_main_v13 x0 (ix3 b (pos n t) j) = (ofArgs x0 x1 x2 x3 x4 x5 x6 b n).u t j := by
  pointwise [A_at x0 x1 x2 x3 x4 x5 x6 b n, val_main_v3, val_main_cst, val_main_v4, val_main_v5, val_main_cst_0, val_main_v6, val_main_v7, val_main_v8, val_main_v9, val_main_v13, Reals.neg_div_sqrt_two, Ideal.erfc_neg, Chunk.u, gelu, half, cc]

theorem vg_at (t : Fin 128) (j : Fin 2048) :
    val_main_v24 x0 (ix3 b (pos n t) j) = (ofArgs x0 x1 x2 x3 x4 x5 x6 b n).vg t j := by
  pointwise [B_at x0 x1 x2 x3 x4 x5 x6 b n, val_main_v14, val_main_cst_1, val_main_v15, val_main_v16, val_main_cst_2, val_main_v17, val_main_v18, val_main_v19, val_main_v20, val_main_v24, Reals.neg_div_sqrt_two, Ideal.erfc_neg, Chunk.vg, gelu, half, cc]

theorem xc_at (t : Fin 128) (j : Fin 2048) :
    val_main_v30 x0 (ix3 b (pos n t) j) = (ofArgs x0 x1 x2 x3 x4 x5 x6 b n).xc t j := by
  pointwise [vg_at x0 x1 x2 x3 x4 x5 x6 b n, val_main_v25, val_main_cst_3, val_main_v26, val_main_cst_4, val_main_v27, val_main_v28, val_main_v29, val_main_v30, Chunk.xc, n2048]

theorem var_at (t : Fin 128) :
    val_main_v37 x0 (ix3 b (pos n t) 0) = (ofArgs x0 x1 x2 x3 x4 x5 x6 b n).var t := by
  pointwise [xc_at x0 x1 x2 x3 x4 x5 x6 b n, val_main_v31, val_main_v32, val_main_cst_5, val_main_v33, val_main_cst_6, val_main_v34, val_main_v35, val_main_cst_7, val_main_v36, val_main_v37, Chunk.var, n2048, eps]

theorem rstd_at (t : Fin 128) :
    val_main_v38 x0 (ix3 b (pos n t) 0) = (ofArgs x0 x1 x2 x3 x4 x5 x6 b n).rstd t := by
  pointwise [var_at x0 x1 x2 x3 x4 x5 x6 b n, val_main_v38, Chunk.rstd, Chunk.var]

theorem xh_at (t : Fin 128) (j : Fin 2048) :
    val_main_v43 x0 (ix3 b (pos n t) j) = (ofArgs x0 x1 x2 x3 x4 x5 x6 b n).xh t j := by
  pointwise [xc_at x0 x1 x2 x3 x4 x5 x6 b n, rstd_at x0 x1 x2 x3 x4 x5 x6 b n, val_main_v42, val_main_v43, Chunk.xh]

theorem v_at (t : Fin 128) (j : Fin 2048) :
    val_main_v49 x0 x2 x3 (ix3 b (pos n t) j) = (ofArgs x0 x1 x2 x3 x4 x5 x6 b n).v t j := by
  pointwise [xh_at x0 x1 x2 x3 x4 x5 x6 b n, val_main_v44, val_main_v45, val_main_v46, val_main_v47, val_main_v48, val_main_v49, Chunk.v, ofArgs]

theorem v5_at (t : Fin 128) (g : Fin 8) (k : Fin 256) :
    val_main_v50 x0 x2 x3 (ix5 b n t g k) = (ofArgs x0 x1 x2 x3 x4 x5 x6 b n).v t (col g k) := by
  pointwise [val_main_v50, ← v_at x0 x1 x2 x3 x4 x5 x6 b n, pos, col]

theorem mask_at (g : Fin 8) (t s : Fin 128) (p q : EReal) :
    Scalar.select (val_main_v54_1 (F := Ideal) (ix3 g t s)) p q = if s ≤ t then p else q := by
  pointwise [val_main_v54_1, val_main_v53, val_main_v52, val_main_call0_v4, val_main_call0_v5, val_main_call0_c_0, val_main_call0_v3, val_main_call0_v2, val_main_call0_v1, val_main_call0_v0, val_main_call0_c, val_main_v51, val_main_c, addi_zero, select_word, sel_ge]

theorem w_at (g : Fin 8) (t s : Fin 128) :
    val_main_v54_0 x4 (ix3 g t s) = if s ≤ t then (ofArgs x0 x1 x2 x3 x4 x5 x6 b n).S g t s else 0 := by
  pointwise [val_main_v54_0, val_main_call1_v1, val_main_cst_9, mask_at, ofArgs]

theorem mix_at (t : Fin 128) (j : Fin 2048) :
    val_main_v61 x0 x2 x3 x4 x5 (ix3 b (pos n t) j) = (ofArgs x0 x1 x2 x3 x4 x5 x6 b n).mix t j := by
  obtain ⟨g, k, rfl⟩ := exists_col j
  have e : val_main_v61 x0 x2 x3 x4 x5 (ix3 b (pos n t) (col g k)) = val_main_v60 x0 x2 x3 x4 x5 (ix5 b n t g k) := by
    pointwise [val_main_v61, pos, col]
  rw [e]
  pointwise [v5_at x0 x1 x2 x3 x4 x5 x6 b n, w_at x0 x1 x2 x3 x4 x5 x6 b n, val_main_v60, val_main_v59, val_main_v58, val_main_v57, val_main_v56, val_main_v55, Chunk.mix, grp_col, mul_comm]
  rfl

theorem y_at (t : Fin 128) (j : Fin 2048) :
    val_main_v62 x0 x2 x3 x4 x5 (ix3 b (pos n t) j) = (ofArgs x0 x1 x2 x3 x4 x5 x6 b n).y t j := by
  pointwise [u_at x0 x1 x2 x3 x4 x5 x6 b n, mix_at x0 x1 x2 x3 x4 x5 x6 b n, val_main_v62, Chunk.y]

theorem sgm_at (t : Fin 128) (j : Fin 2048) : val_main_v63_2 x0 (ix3 b (pos n t) j) = sgm ((ofArgs x0 x1 x2 x3 x4 x5 x6 b n).Z t j) := by
  pointwise [Z_at x0 x1 x2 x3 x4 x5 x6 b n, val_main_call2_v0, val_main_call2_v1, val_main_call2_cst, val_main_call2_v2, val_main_call2_v3, val_main_call2_cst_0, val_main_call2_v4, val_main_v63_2, sgm, Ideal.logistic]

theorem sz_at (t : Fin 128) (j : Fin 2048) :
    val_main_v63_0 x0 (ix3 b (pos n t) j) = (ofArgs x0 x1 x2 x3 x4 x5 x6 b n).sz t j := by
  pointwise [Z_at x0 x1 x2 x3 x4 x5 x6 b n, sgm_at x0 x1 x2 x3 x4 x5 x6 b n, val_main_v63_0, Chunk.sz]

theorem dq_at (t : Fin 128) (j : Fin 2048) :
    val_main_v68 x1 x6 (ix3 b (pos n t) j) = (ofArgs x0 x1 x2 x3 x4 x5 x6 b n).dq t j := by
  pointwise [val_main_v68, Chunk.dq, ofArgs]

theorem dy_at (t : Fin 128) (j : Fin 2048) :
    val_main_v70 x0 x1 x6 (ix3 b (pos n t) j) = (ofArgs x0 x1 x2 x3 x4 x5 x6 b n).dy t j := by
  pointwise [dq_at x0 x1 x2 x3 x4 x5 x6 b n, sz_at x0 x1 x2 x3 x4 x5 x6 b n, val_main_v70, Chunk.dy]

theorem dz_at (t : Fin 128) (j : Fin 2048) :
    val_main_v71 x0 x1 x2 x3 x4 x5 x6 (ix3 b (pos n t) j) = (ofArgs x0 x1 x2 x3 x4 x5 x6 b n).dzB t j := by
  pointwise [y_at x0 x1 x2 x3 x4 x5 x6 b n, dq_at x0 x1 x2 x3 x4 x5 x6 b n, Z_at x0 x1 x2 x3 x4 x5 x6 b n, sgm_at x0 x1 x2 x3 x4 x5 x6 b n, val_main_v69, val_main_call3_v0, val_main_call3_v1, val_main_call3_v2, val_main_v63_1, val_main_call2_v7, val_main_call2_v6, val_main_call2_cst_1, val_main_v71, Chunk.dzB]

theorem dm_at (t : Fin 128) (j : Fin 2048) :
    val_main_v72 x0 x1 x6 (ix3 b (pos n t) j) = (ofArgs x0 x1 x2 x3 x4 x5 x6 b n).dm t j := by
  pointwise [u_at x0 x1 x2 x3 x4 x5 x6 b n, dy_at x0 x1 x2 x3 x4 x5 x6 b n, val_main_v72, Chunk.dm, mul_comm]

theorem du_at (t : Fin 128) (j : Fin 2048) :
    val_main_v73 x0 x1 x2 x3 x4 x5 x6 (ix3 b (pos n t) j) = (ofArgs x0 x1 x2 x3 x4 x5 x6 b n).du t j := by
  pointwise [dy_at x0 x1 x2 x3 x4 x5 x6 b n, mix_at x0 x1 x2 x3 x4 x5 x6 b n, val_main_v73, Chunk.du]

theorem dm5_at (t : Fin 128) (g : Fin 8) (k : Fin 256) :
    val_main_v74 x0 x1 x6 (ix5 b n t g k) = (ofArgs x0 x1 x2 x3 x4 x5 x6 b n).dm t (col g k) := by
  pointwise [val_main_v74, ← dm_at x0 x1 x2 x3 x4 x5 x6 b n, pos, col]

theorem dv_at (s : Fin 128) (j : Fin 2048) :
    val_main_v84 x0 x1 x4 x6 (ix3 b (pos n s) j) = (ofArgs x0 x1 x2 x3 x4 x5 x6 b n).dv s j := by
  obtain ⟨g, k, rfl⟩ := exists_col j
  have e : val_main_v84 x0 x1 x4 x6 (ix3 b (pos n s) (col g k)) = val_main_v82 x0 x1 x4 x6 (ix5 b n s g k) := by
    pointwise [val_main_v84, pos, col]
  rw [e]
  pointwise [dm5_at x0 x1 x2 x3 x4 x5 x6 b n, w_at x0 x1 x2 x3 x4 x5 x6 b n, val_main_v82, val_main_v81, val_main_v79, Chunk.dv, grp_col, mul_comm]

theorem dx_at (t : Fin 128) (j : Fin 2048) :
    val_main_v92 x0 x1 x2 x4 x6 (ix3 b (pos n t) j) = (ofArgs x0 x1 x2 x3 x4 x5 x6 b n).dx t j := by
  pointwise [dv_at x0 x1 x2 x3 x4 x5 x6 b n, val_main_v44, val_main_v91, val_main_v92, Chunk.dx, ofArgs]

theorem dvar_at (t : Fin 128) :
    val_main_v102 x0 x1 x2 x4 x6 (ix2 b (pos n t)) = (ofArgs x0 x1 x2 x3 x4 x5 x6 b n).dvar t := by
  pointwise [xc_at x0 x1 x2 x3 x4 x5 x6 b n, dx_at x0 x1 x2 x3 x4 x5 x6 b n, rstd_at x0 x1 x2 x3 x4 x5 x6 b n, var_at x0 x1 x2 x3 x4 x5 x6 b n, val_main_v94, val_main_v95, val_main_cst_15, val_main_cst_16, val_main_v96, val_main_v39, val_main_cst_8, val_main_v40, val_main_v41, val_main_v99, val_main_cst_17, val_main_v100, val_main_v101, val_main_cst_18, val_main_v102, Fin.sum_univ_one, Chunk.dvar, n2048]

theorem dxc_at (t : Fin 128) (j : Fin 2048) :
    val_main_v107 x0 x1 x2 x4 x6 (ix3 b (pos n t) j) = (ofArgs x0 x1 x2 x3 x4 x5 x6 b n).dxc t j := by
  pointwise [xc_at x0 x1 x2 x3 x4 x5 x6 b n, dx_at x0 x1 x2 x3 x4 x5 x6 b n, rstd_at x0 x1 x2 x3 x4 x5 x6 b n, dvar_at x0 x1 x2 x3 x4 x5 x6 b n, val_main_v97, val_main_v98, val_main_v103, val_main_v104, val_main_v105, val_main_v106, val_main_v107, Chunk.dxc]

theorem dn_at (t : Fin 128) (j : Fin 2048) :
    val_main_v115 x0 x1 x2 x4 x6 (ix3 b (pos n t) j) = (ofArgs x0 x1 x2 x3 x4 x5 x6 b n).dnB t j := by
  pointwise [dxc_at x0 x1 x2 x3 x4 x5 x6 b n, val_main_v108, val_main_cst_19, val_main_v109, val_main_v110, val_main_cst_20, val_main_v111, val_main_v112, val_main_cst_21, val_main_v113, val_main_v114, val_main_v115, Fin.sum_univ_one, Chunk.dnB, n2048]

theorem db_at (t : Fin 128) (j : Fin 2048) :
    val_main_v126 x0 x1 x2 x4 x6 (ix3 b (pos n t) j) = geluB ((ofArgs x0 x1 x2 x3 x4 x5 x6 b n).B t j) ((ofArgs x0 x1 x2 x3 x4 x5 x6 b n).dnB t j) := by
  pointwise [B_at x0 x1 x2 x3 x4 x5 x6 b n, dn_at x0 x1 x2 x3 x4 x5 x6 b n, val_main_v14, val_main_cst_1, val_main_v15, val_main_v16, val_main_cst_2, val_main_v17, val_main_v18, val_main_v19, val_main_v20, val_main_v21, val_main_v22, val_main_v23, val_main_v116, val_main_v117, val_main_cst_22, val_main_v118, val_main_v119, val_main_v120, val_main_v121, val_main_v122, val_main_v123, val_main_cst_23, val_main_v124, val_main_v125, val_main_v126, Reals.neg_div_sqrt_two, geluB, half, cc]

theorem da_at (t : Fin 128) (j : Fin 2048) :
    val_main_v137 x0 x1 x2 x3 x4 x5 x6 (ix3 b (pos n t) j) = geluB ((ofArgs x0 x1 x2 x3 x4 x5 x6 b n).A t j) ((ofArgs x0 x1 x2 x3 x4 x5 x6 b n).du t j) := by
  pointwise [A_at x0 x1 x2 x3 x4 x5 x6 b n, du_at x0 x1 x2 x3 x4 x5 x6 b n, val_main_v3, val_main_cst, val_main_v4, val_main_v5, val_main_cst_0, val_main_v6, val_main_v7, val_main_v8, val_main_v9, val_main_v10, val_main_v11, val_main_v12, val_main_v127, val_main_v128, val_main_cst_24, val_main_v129, val_main_v130, val_main_v131, val_main_v132, val_main_v133, val_main_v134, val_main_cst_25, val_main_v135, val_main_v136, val_main_v137, Reals.neg_div_sqrt_two, geluB, half, cc]

/-! ## The gradients -/

theorem wo_at (j : Fin 2048) (k : Fin 1024) :
    val_main_v141 x0 x2 x3 x4 x5 x6 (ix2 j k) = ∑ b, ∑ n, (ofArgs x0 x1 x2 x3 x4 x5 x6 b n).pwo j k := by
  have e : val_main_v141 x0 x2 x3 x4 x5 x6 (ix2 j k) = ∑ b : Fin 2, ∑ s : Fin 4096, x6 (ix3 b s k) * val_main_v64 x0 x2 x3 x4 x5 (ix3 b s j) := by
    pointwise [val_main_v141, val_main_v67, val_main_v66]
  rw [e]
  refine Finset.sum_congr rfl fun b _ => (sum_pos _).trans (Finset.sum_congr rfl fun n _ => Finset.sum_congr rfl fun t _ => ?_)
  pointwise [y_at x0 x1 x2 x3 x4 x5 x6 b n, sz_at x0 x1 x2 x3 x4 x5 x6 b n, val_main_v64]
  exact mul_comm _ _

theorem sw_at (g : Fin 8) (t s : Fin 128) :
    val_main_v83 x0 x1 x2 x3 x6 (ix3 g t s) = ∑ b, ∑ n, (ofArgs x0 x1 x2 x3 x4 x5 x6 b n).pswM g t s := by
  have e : val_main_v83 x0 x1 x2 x3 x6 (ix3 g t s) = if s ≤ t then val_main_v80 x0 x1 x2 x3 x6 (ix3 g t s) else 0 := by
    pointwise [val_main_v83, mask_at, val_main_call4_v0, val_main_call4_cst]
  have e' : val_main_v80 x0 x1 x2 x3 x6 (ix3 g t s) = ∑ b, ∑ n, (ofArgs x0 x1 x2 x3 x4 x5 x6 b n).psw g t s := by
    pointwise [val_main_v80, dotS_at]
    refine Finset.sum_congr rfl fun b _ => Finset.sum_congr rfl fun n _ => ?_
    pointwise [v5_at x0 x1 x2 x3 x4 x5 x6 b n, dm5_at x0 x1 x2 x3 x4 x5 x6 b n, val_main_v79, Chunk.psw]
  rw [e, e']
  unfold Chunk.pswM
  by_cases h : s ≤ t
  · simp only [if_pos h]
  · simp only [if_neg h, Finset.sum_const_zero]

theorem sb_at (g : Fin 8) (t : Fin 128) :
    val_main_v78 x0 x1 x6 (ix2 g t) = ∑ b, ∑ n, (ofArgs x0 x1 x2 x3 x4 x5 x6 b n).psb g t := by
  pointwise [val_main_v78, val_main_v77, val_main_cst_11, val_main_v76, val_main_v75, val_main_cst_10, reduce_a014, Fin.sum_univ_one]
  refine Finset.sum_congr rfl fun b _ => Finset.sum_congr rfl fun n _ => ?_
  pointwise [dm5_at x0 x1 x2 x3 x4 x5 x6 b n, Chunk.psb]

theorem lb_at (j : Fin 2048) :
    val_main_v143 x0 x1 x4 x6 (ix2 0 j) = ∑ b, ∑ n, (ofArgs x0 x1 x2 x3 x4 x5 x6 b n).plb j := by
  pointwise [val_main_v143, val_main_v87, val_main_cst_13, val_main_v86, val_main_v85, val_main_cst_12, Sums.hostReduceAdd_r3_a01, Fin.sum_univ_one]
  refine Finset.sum_congr rfl fun b _ => (sum_pos _).trans (Finset.sum_congr rfl fun n _ => Finset.sum_congr rfl fun t _ => ?_)
  exact dv_at x0 x1 x2 x3 x4 x5 x6 b n t j

theorem lg_at (j : Fin 2048) :
    val_main_v142 x0 x1 x4 x6 (ix2 0 j) = ∑ b, ∑ n, (ofArgs x0 x1 x2 x3 x4 x5 x6 b n).plg j := by
  pointwise [val_main_v142, val_main_v93, val_main_cst_15, val_main_v90, val_main_v89, val_main_cst_14, Sums.hostReduceAdd_r3_a01, Fin.sum_univ_one]
  refine Finset.sum_congr rfl fun b _ => (sum_pos _).trans (Finset.sum_congr rfl fun n _ => Finset.sum_congr rfl fun t _ => ?_)
  pointwise [dv_at x0 x1 x2 x3 x4 x5 x6 b n, xh_at x0 x1 x2 x3 x4 x5 x6 b n, val_main_v88]
  exact mul_comm _ _

theorem part0 (t : Fin 128) (j : Fin 2048) : val_main_v138 x0 x1 x2 x3 x4 x5 x6 (ix3 b (pos n t) (pcol 0 j)) = val_main_v137 x0 x1 x2 x3 x4 x5 x6 (ix3 b (pos n t) j) := by
  pointwise [val_main_v138, pcol]

theorem part1 (t : Fin 128) (j : Fin 2048) : val_main_v138 x0 x1 x2 x3 x4 x5 x6 (ix3 b (pos n t) (pcol 1 j)) = val_main_v126 x0 x1 x2 x4 x6 (ix3 b (pos n t) j) := by
  pointwise [val_main_v138, pcol]

theorem part2 (t : Fin 128) (j : Fin 2048) : val_main_v138 x0 x1 x2 x3 x4 x5 x6 (ix3 b (pos n t) (pcol 2 j)) = val_main_v71 x0 x1 x2 x3 x4 x5 x6 (ix3 b (pos n t) j) := by
  pointwise [val_main_v138, pcol]
  rw [dif_neg (by omega), dif_neg (by omega)]
  exact congrArg (fun q => val_main_v71 x0 x1 x2 x3 x4 x5 x6 (ix3 b (pos n t) q)) (Fin.ext (by dsimp only; omega))

theorem proj_at (h : (ofArgs x0 x1 x2 x3 x4 x5 x6 b n).AllR) (t : Fin 128) (p : Fin 3) (j : Fin 2048) :
    val_main_v140 x0 x1 x2 x3 x4 x5 x6 (ix2 ⟨b.val * 4096 + n.val * 128 + t.val, by omega⟩ ⟨p.val * 2048 + j.val, by omega⟩) = (ofArgs x0 x1 x2 x3 x4 x5 x6 b n).dproj p t j := by
  have e : val_main_v140 x0 x1 x2 x3 x4 x5 x6 (ix2 ⟨b.val * 4096 + n.val * 128 + t.val, by omega⟩ ⟨p.val * 2048 + j.val, by omega⟩)
      = val_main_v138 x0 x1 x2 x3 x4 x5 x6 (ix3 b (pos n t) (pcol p j)) := by
    pointwise [val_main_v140, val_main_v139, pos, pcol]
    refine congrArg (fun q => val_main_v138 x0 x1 x2 x3 x4 x5 x6 (ix3 b q _)) (Fin.ext ?_)
    dsimp only
    omega
  rw [e]
  match p with
  | 0 => exact (part0 x0 x1 x2 x3 x4 x5 x6 b n t j).trans ((da_at x0 x1 x2 x3 x4 x5 x6 b n t j).trans (h.da_eq t j).symm)
  | 1 => exact (part1 x0 x1 x2 x3 x4 x5 x6 b n t j).trans ((db_at x0 x1 x2 x3 x4 x5 x6 b n t j).trans (h.db_eq t j).symm)
  | 2 => exact (part2 x0 x1 x2 x3 x4 x5 x6 b n t j).trans ((dz_at x0 x1 x2 x3 x4 x5 x6 b n t j).trans (h.dz_eq t j).symm)

theorem proj_all (h : ∀ b n, (ofArgs x0 x1 x2 x3 x4 x5 x6 b n).AllR) (r : Fin 8192) (q : Fin 6144) :
    val_main_v140 x0 x1 x2 x3 x4 x5 x6 (ix2 r q) = (ofArgs x0 x1 x2 x3 x4 x5 x6 ⟨r.val / 4096, by omega⟩ ⟨r.val % 4096 / 128, by omega⟩).dproj
      ⟨q.val / 2048, by omega⟩ ⟨r.val % 128, by omega⟩ ⟨q.val % 2048, by omega⟩ :=
  (congrArg (val_main_v140 x0 x1 x2 x3 x4 x5 x6) (congrArg₂ ix2 (Fin.ext (by dsimp only; omega)) (Fin.ext (by dsimp only; omega)))).trans
    (proj_at x0 x1 x2 x3 x4 x5 x6 _ _ (h _ _) _ _ _)

end Cert.SguRIdeal.Rows
-- ==== Proof.SguClaims.lean ====
/-
  The chunked gMLP mixer's gradient: its claims.
-/
module

public import proofs.«01_k».proof.Defs
public import proofs.«01_k».proof.Proof.Finite
public import proofs.«01_k».proof.Proof.SguKernel
public import proofs.«01_k».proof.Proof.SguValue
public import proofs.«01_k».proof.Proof.Gen.SguK.Frame
public import proofs.«01_k».proof.Proof.Gen.SguRIdeal.Run

@[expose] public section

set_option maxRecDepth 16384

noncomputable section

namespace Cert.Sgu

open Idealize.ShloMosaic Idealize.ShloMosaic.TcCoe Idealize.SL.Sem Cert.SguKIdeal.Rows Cert.SguRIdeal.Rows

theorem pre_facts : Cert.Pre_finite_sgu.Facts := by
  constructor <;> decide

/-- The chunks of real arguments are real. -/
theorem real_ofArgs [Cert.Pre_finite_sgu.Facts] (x0 x1 x2 x3 x4 x5 x6) (h : Cert.Pre_finite_sgu.fn (F := Ideal) x0 x1 x2 x3 x4 x5 x6 = fun _ => 1#1)
    (b : Fin 2) (n : Fin 32) : (ofArgs x0 x1 x2 x3 x4 x5 x6 b n).AllR := by
  have e := congrFun h (Shape.Idx.first (by decide))
  obtain ⟨e, h6⟩ := Reals.and_all e
  obtain ⟨e, h5⟩ := Reals.and_all e
  obtain ⟨e, h4⟩ := Reals.and_all e
  obtain ⟨e, h3⟩ := Reals.and_all e
  obtain ⟨e, h2⟩ := Reals.and_all e
  obtain ⟨e, h1⟩ := Reals.and_all e
  obtain ⟨_, h0⟩ := Reals.and_all e
  exact ⟨fun _ _ => Reals.real_of_all h0 _, fun _ _ => Reals.real_of_all h0 _, fun _ _ => Reals.real_of_all h0 _,
    fun _ _ => Reals.real_of_all h6 _, fun _ _ => Reals.real_of_all h1 _, fun _ => Reals.real_of_all h2 _,
    fun _ => Reals.real_of_all h3 _, fun _ _ _ => Reals.real_of_all h4 _, fun _ _ => Reals.real_of_all h5 _⟩

theorem frame_r : Cert.quiescent_SguRIdeal := fun m ρ _ =>
  (θ_run Cert.SguRIdeal.defs _ _).mono (fun r h => ⟨fun c => (h c).2.2.2.2.2.2, sem_eq_zero_of_no_sems (by decide) r.2⟩)
    (Cert.SguRIdeal.Value.run m ρ)

theorem preserves : Cert.preserves_SguK_SguKIdeal :=
  ⟨IdealRules.named_const.statement _ _ _ _ _ rfl, IdealRules.named_const.statement _ _ _ _ _ rfl⟩

theorem algebraic [Cert.Pre_finite_sgu.Facts] : Cert.algebraic_SguKIdeal_SguRIdeal_pre_finite_sgu := fun m ρ m' ρ' hp hag =>
  ⟨Gproj m, Gwo m, Gsw m, Gsb m, Glg m, Glb m,
    (θ_run Cert.SguKIdeal.defs _ _).mono (fun _ h c => ⟨(h c).1.trans (final_proj m c), (h c).2.1.trans (final_wo m c),
      (h c).2.2.1.trans (final_sw m c), (h c).2.2.2.1.trans (final_sb m c), (h c).2.2.2.2.1.trans (final_lg m c),
      (h c).2.2.2.2.2.1.trans (final_lb m c), (h c).2.2.2.2.2.2⟩) (Cert.SguKIdeal.Value.run_blocks m ρ),
    (θ_run Cert.SguRIdeal.defs _ _).mono (fun _ h c => by
      obtain ⟨a0, a1, a2, a3, a4, a5, a6⟩ := hag c
      refine ⟨(h c).1.trans ?_, (h c).2.1.trans ?_, (h c).2.2.1.trans ?_, (h c).2.2.2.1.trans ?_, (h c).2.2.2.2.1.trans ?_,
        (h c).2.2.2.2.2.1.trans ?_, (h c).2.2.2.2.2.2⟩
      · rw [Cert.SguRIdeal.Read.val_main_v140_eq]
        refine (congr (congr (congr (congr (congr (congr (congrArg Cert.SguRIdeal.Read.val_main_v140 a0) a1) a2) a3) a4) a5) a6).trans ?_
        funext i
        idx_vars i
        exact proj_all _ _ _ _ _ _ _ (real_ofArgs _ _ _ _ _ _ _ (hp c)) _ _
      · rw [Cert.SguRIdeal.Read.val_main_v141_eq]
        refine (congr (congr (congr (congr (congr (congrArg Cert.SguRIdeal.Read.val_main_v141 a0) a2) a3) a4) a5) a6).trans ?_
        funext i
        idx_vars i
        exact wo_at _ _ _ _ _ _ _ _ _
      · rw [Cert.SguRIdeal.Read.val_main_v83_eq]
        refine (congr (congr (congr (congr (congrArg Cert.SguRIdeal.Read.val_main_v83 a0) a1) a2) a3) a6).trans ?_
        funext i
        idx_vars i
        exact sw_at _ _ _ _ _ _ _ _ _ _
      · rw [Cert.SguRIdeal.Read.val_main_v78_eq]
        refine (congr (congr (congrArg Cert.SguRIdeal.Read.val_main_v78 a0) a1) a6).trans ?_
        funext i
        idx_vars i
        exact sb_at _ _ _ _ _ _ _ _ _
      · rw [Cert.SguRIdeal.Read.val_main_v142_eq]
        refine (congr (congr (congr (congrArg Cert.SguRIdeal.Read.val_main_v142 a0) a1) a4) a6).trans ?_
        funext i
        idx_vars i
        obtain rfl : i0 = 0 := Subsingleton.elim _ _
        exact lg_at _ _ _ _ _ _ _ _
      · rw [Cert.SguRIdeal.Read.val_main_v143_eq]
        refine (congr (congr (congr (congrArg Cert.SguRIdeal.Read.val_main_v143 a0) a1) a4) a6).trans ?_
        funext i
        idx_vars i
        obtain rfl : i0 = 0 := Subsingleton.elim _ _
        exact lb_at _ _ _ _ _ _ _ _) (Cert.SguRIdeal.Value.run m' ρ')⟩

end Cert.Sgu
-- ==== Proof.PleKernel.lean ====
/-
  The per-layer embedding's gradient: the kernel's four results read at an index of its blocks. 16 blocks of 512 rows;
  the gradients of the two matrices and of the gain are summed over the blocks, the matrices' in scratch.
-/
module

public import proofs.«01_k».proof.Proof.Rms
public import proofs.«01_k».proof.Proof.Sums
public import proofs.«01_k».proof.Proof.Gen.PleKIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.PleKIdeal.Rows

open Idealize.ShloMosaic Idealize.ShloMosaic.TcCoe Idealize.SL.Sem
open Cert.PleKIdeal Cert.PleKIdeal.Gen

variable (m : (ℓ : Loc nD τ sig) → Buf (Elt Ideal) ℓ) (ρ : Dev nD → PrngReg)

theorem idx0 : ∀ t : Fin cfg0.N, win0_0.index t = ![t.val, 0] ∧ win0_1.index t = ![t.val, 0] ∧ win0_2.index t = ![t.val, 0]
    ∧ win0_3.index t = ![0, t.val, 0] ∧ win0_4.index t = ![0, 0] ∧ win0_5.index t = ![0, 0] ∧ win0_6.index t = ![0, 0]
    ∧ win0_7.index t = ![t.val, 0] ∧ win0_8.index t = ![0, 0] ∧ win0_9.index t = ![0, 0, 0] ∧ win0_10.index t = ![0, 0] :=
  (by decide +kernel : ∀ t : Fin grid0.N, _)

/-! ## What each point leaves -/

/-- A block's gradient of the gate before its sigmoid. -/
def gpre (c : Dev nD) (t : Fin cfg0.N) : FVec Ideal S512x1024 .bf16 :=
  k0_pay22 (iblk m c 0 t) (iblk m c 2 t) (iblk m c 3 t) (iblk m c 6 t)

theorem outs7 (c : Dev nD) (t : Fin cfg0.N) : (outsAt0 m c t.val t.isLt).1
    = k0_pay27 (k0_pay14 (iblk m c 0 t)) (k0_pay15 (iblk m c 1 t)) (k0_pay16 (iblk m c 4 t)) (k0_pay17 (iblk m c 1 t))
        (gpre m c t) (iblk m c 5 t) := by
  have hN : t.val < 16 := lt_of_lt_of_eq t.isLt N_0
  by_cases h0 : t.val % 16 = 0
  · rw [outsAt0_A m c t h0 (by omega)]
    dsimp only
    frame_out
    rfl
  · by_cases h1 : t.val % 16 = 15
    · rw [outsAt0_C m c t h0 h1]
      dsimp only
      frame_out
      rfl
    · rw [outsAt0_B m c t h0 h1]
      dsimp only
      frame_out
      rfl

/-- What a point leaves in the three sums, over what they held. -/
def sums (c : Dev nD) (t : Fin cfg0.N) (a : Vec Ideal S1x1024 .f32) (g : Vec Ideal S1024x1024 .f32) (p : Vec Ideal S256x1024 .f32) :
    Vec Ideal S1x1024 .f32 × Vec Ideal S1024x1024 .f32 × Vec Ideal S256x1024 .f32 :=
  (k0_pay28 (k0_pay15 (iblk m c 1 t)) (k0_pay17 (iblk m c 1 t)) (gpre m c t) (iblk m c 5 t) a,
    k0_pay24 (k0_pay18 (iblk m c 1 t) (iblk m c 4 t)) (gpre m c t) g,
    k0_pay23 (k0_pay20 (iblk m c 3 t)) (k0_pay21 (iblk m c 0 t) (iblk m c 2 t)) p)

theorem outs_first (c : Dev nD) (t : Fin cfg0.N) (h0 : t.val % 16 = 0) : (outsAt0 m c t.val t.isLt).2.2.2
    = sums m c t (k0_pay13 (F := Ideal)) (k0_pay11 (F := Ideal)) (k0_pay12 (F := Ideal)) := by
  rw [outsAt0_A m c t h0 (by omega)]
  dsimp only
  refine Prod.ext ?_ (Prod.ext ?_ ?_) <;> dsimp only [sums] <;> frame_out <;> (try simp only [read_unread_whole]) <;> rfl

theorem outs_next (c : Dev nD) (t : Fin cfg0.N) (h0 : ¬t.val % 16 = 0) : (outsAt0 m c t.val t.isLt).2.2.2
    = sums m c t (outsAt0 m c (t.val - 1) (Nat.lt_of_le_of_lt (Nat.sub_le _ _) t.isLt)).2.2.2.1
        (outsAt0 m c (t.val - 1) (Nat.lt_of_le_of_lt (Nat.sub_le _ _) t.isLt)).2.2.2.2.1
        (outsAt0 m c (t.val - 1) (Nat.lt_of_le_of_lt (Nat.sub_le _ _) t.isLt)).2.2.2.2.2 := by
  by_cases h1 : t.val % 16 = 15
  · rw [outsAt0_C m c t h0 h1]
    dsimp only
    refine Prod.ext ?_ (Prod.ext ?_ ?_) <;> dsimp only [sums] <;> frame_out <;> (try simp only [read_unread_whole]) <;> rfl
  · rw [outsAt0_B m c t h0 h1]
    dsimp only
    refine Prod.ext ?_ (Prod.ext ?_ ?_) <;> dsimp only [sums] <;> frame_out <;> (try simp only [read_unread_whole]) <;> rfl

/-- The eight parts of the projection's gradient, as the last point stores them. -/
def shardL (p : Vec Ideal S256x1024 .f32) : List (View.Piece (Elt Ideal) S8x256x128 .bf16) :=
  [⟨Rect.unit ![7, 0, 0] ![1, 256, 128] inb_S8x256x128_S1x256x128_7_0_0, k0_pay4 (View.ld p (Rect.unit ![0, 896] ![256, 128] inb_S256x1024_S256x128_0_896))⟩,
   ⟨Rect.unit ![6, 0, 0] ![1, 256, 128] inb_S8x256x128_S1x256x128_6_0_0, k0_pay3 (View.ld p (Rect.unit ![0, 768] ![256, 128] inb_S256x1024_S256x128_0_768))⟩,
   ⟨Rect.unit ![5, 0, 0] ![1, 256, 128] inb_S8x256x128_S1x256x128_5_0_0, k0_pay2 (View.ld p (Rect.unit ![0, 640] ![256, 128] inb_S256x1024_S256x128_0_640))⟩,
   ⟨Rect.unit ![4, 0, 0] ![1, 256, 128] inb_S8x256x128_S1x256x128_4_0_0, k0_pay1 (k0_pay10 (View.ld p (Rect.unit ![0, 512] ![256, 128] inb_S256x1024_S256x128_0_512)))⟩,
   ⟨Rect.unit ![3, 0, 0] ![1, 256, 128] inb_S8x256x128_S1x256x128_3_0_0, k0_pay9 (View.ld p (Rect.unit ![0, 384] ![256, 128] inb_S256x1024_S256x128_0_384))⟩,
   ⟨Rect.unit ![2, 0, 0] ![1, 256, 128] inb_S8x256x128_S1x256x128_2_0_0, k0_pay8 (View.ld p (Rect.unit ![0, 256] ![256, 128] inb_S256x1024_S256x128_0_256))⟩,
   ⟨Rect.unit ![1, 0, 0] ![1, 256, 128] inb_S8x256x128_S1x256x128_1_0_0, k0_pay7 (View.ld p (Rect.unit ![0, 128] ![256, 128] inb_S256x1024_S256x128_0_128))⟩,
   ⟨Rect.unit ![0, 0, 0] ![1, 256, 128] inb_S8x256x128_S1x256x128_0_0_0, k0_pay6 (View.ld p (Rect.unit ![0, 0] ![256, 128] inb_S256x1024_S256x128_0_0))⟩]

theorem shardL_at (p : Vec Ideal S256x1024 .f32) (q : Fin 8) (k : Fin 256) (j : Fin 128) :
    View.canon (shardL p) (ix3 q k j) = p (ix2 k ⟨q.val * 128 + j.val, by omega⟩) := by
  unfold shardL
  canon_tiles x h
  all_goals
    idx_vars x
    replace h0 : q.val = _ := h0
    replace h1 : k.val = _ := h1
    replace h2 : j.val = _ := h2
    unfold_payloads
    pointwise
    exact congrArg p (congrArg₂ ix2 (Fin.ext (by norm_num; omega)) (Fin.ext (by norm_num; omega)))

/-- A part of the scratch, read back. -/
theorem part (v : View sig .tc .vmem S256x1024 .f32) (p : Vec Ideal S256x1024 .f32) (o : ℕ) (ib) :
    v.readCov [(⟨Rect.unit ![0, 0] ![256, 1024] inb_S256x1024_S256x1024_0_0, p⟩ : View.Piece (Elt Ideal) S256x1024 .f32)]
      (Rect.unit ![0, o] ![256, 128] ib).toLoadRect = View.ld p (Rect.unit ![0, o] ![256, 128] ib) := by
  rw [View.readCov_eq_canon']
  funext y
  exact congrFun (View.canon_cons_unit_lit' inb_S256x1024_S256x1024_0_0 p [] (by decide)) _

theorem outs_last8 (c : Dev nD) (t : Fin cfg0.N) (h1 : t.val % 16 = 15) :
    (outsAt0 m c t.val t.isLt).2.1 = k0_pay5 (outsAt0 m c t.val t.isLt).2.2.2.2.1 := by
  have h0 : ¬t.val % 16 = 0 := by omega
  rw [show (outsAt0 m c t.val t.isLt).2.2.2.2.1 = _ from congrArg (fun p => p.2.1) (outs_next m c t h0), outsAt0_C m c t h0 h1]
  dsimp only [sums]
  frame_out
  try simp only [read_unread_whole]
  try rfl

theorem outs_last9 (c : Dev nD) (t : Fin cfg0.N) (h1 : t.val % 16 = 15) :
    (outsAt0 m c t.val t.isLt).2.2.1 = View.canon (shardL (outsAt0 m c t.val t.isLt).2.2.2.2.2) := by
  have h0 : ¬t.val % 16 = 0 := by omega
  rw [show (outsAt0 m c t.val t.isLt).2.2.2.2.2 = _ from congrArg (fun p => p.2.2) (outs_next m c t h0), outsAt0_C m c t h0 h1]
  dsimp only [sums]
  frame_out
  try simp only [read_unread_whole]
  generalize k0_pay23 (F := Ideal) _ _ _ = p
  rw [part, part, part, part, part, part, part, part]
  rfl

/-! ## Rows -/

/-- A row's inverse root mean square. -/
def rr (x : Fin 1024 → EReal) : EReal :=
  Ideal.rsqrt (Ideal.div (∑ k, x k * x k) (Ideal.ofBits .f32 0x44800000#32) + Ideal.ofBits .f32 0x358637BD#32)

/-- A row of the call: the input, the gate, the embedding, the output's gradient; the gain and the two matrices. -/
structure Row where
  x : Fin 1024 → EReal
  q : Fin 1024 → EReal
  p : Fin 256 → EReal
  ct : Fin 1024 → EReal
  g : Fin 1024 → EReal
  gw : Fin 1024 → Fin 1024 → EReal
  pw : Fin 256 → Fin 1024 → EReal

namespace Row

variable (o : Row)

/-- The gradient of the gate before its sigmoid. -/
def gp (j : Fin 1024) : EReal :=
  o.ct j * (∑ k, o.p k * o.pw k j) * o.q j * (Ideal.ofBits .f32 0x3F800000#32 - o.q j)
/-- The gradient of the normalised row. -/
def dn (j : Fin 1024) : EReal := ∑ k, o.gp k * o.gw j k
def dx (j : Fin 1024) : EReal :=
  o.ct j + rr o.x * (o.dn j * o.g j
    - o.x j * rr o.x * Ideal.div (∑ k, o.dn k * o.g k * (o.x k * rr o.x)) (Ideal.ofBits .f32 0x44800000#32))
/-- A row's parts of the gradients of the gain and of the two matrices. -/
def dg (j : Fin 1024) : EReal := o.dn j * (o.x j * rr o.x)
def dgw (i j : Fin 1024) : EReal := o.x i * rr o.x * o.g i * o.gp j
def dpw (k : Fin 256) (j : Fin 1024) : EReal := o.p k * (o.ct j * o.q j)

end Row

section

variable (d x q : Vec Ideal S512x1024 .f32) (p : Vec Ideal S1x512x256 .f32) (g : Vec Ideal S1x1024 .f32)
  (gw : Vec Ideal S1024x1024 .bf16) (pw : Vec Ideal S256x1024 .bf16)

/-- A row of a block. -/
def blkRow (r : Fin 512) : Row where
  x k := x (ix2 r k)
  q k := q (ix2 r k)
  p k := p (ix3 0 r k)
  ct k := d (ix2 r k)
  g k := g (ix2 0 k)
  gw j k := gw (ix2 j k)
  pw k j := pw (ix2 k j)

theorem pay22_at (r : Fin 512) (j : Fin 1024) : k0_pay22 d q p pw (ix2 r j) = (blkRow d x q p g gw pw r).gp j := by
  unfold_payloads
  pointwise [Row.gp, blkRow]

theorem dn_at (r : Fin 512) (j : Fin 1024) : k0_pay25 (k0_pay22 d q p pw) gw (ix2 r j) = (blkRow d x q p g gw pw r).dn j := by
  have e : ∀ b : FVec Ideal S512x1024 .bf16, k0_pay25 b gw (ix2 r j) = ∑ k, b (ix2 r k) * gw (ix2 j k) := fun b => by
    unfold_payloads
    pointwise
  rw [e]
  simp only [pay22_at d x q p g gw pw]
  rfl

theorem dx_at (r : Fin 512) (j : Fin 1024) :
    k0_pay27 (k0_pay14 d) (k0_pay15 x) (k0_pay16 g) (k0_pay17 x) (k0_pay22 d q p pw) gw (ix2 r j) = (blkRow d x q p g gw pw r).dx j := by
  have e : k0_pay27 (k0_pay14 d) (k0_pay15 x) (k0_pay16 g) (k0_pay17 x) (k0_pay22 d q p pw) gw (ix2 r j)
      = d (ix2 r j) + rr (fun k => x (ix2 r k)) * (k0_pay25 (k0_pay22 d q p pw) gw (ix2 r j) * g (ix2 0 j)
        - x (ix2 r j) * rr (fun k => x (ix2 r k)) * Ideal.div (∑ k, k0_pay25 (k0_pay22 d q p pw) gw (ix2 r k) * g (ix2 0 k)
          * (x (ix2 r k) * rr (fun k => x (ix2 r k)))) (Ideal.ofBits .f32 0x44800000#32)) := by
    unfold k0_pay27
    generalize k0_pay25 (k0_pay22 d q p pw) gw = b
    unfold_payloads
    pointwise [rr]
  rw [e]
  simp only [dn_at d x q p g gw pw]
  rfl

theorem dg_at (z : Fin 1) (j : Fin 1024) (a : Vec Ideal S1x1024 .f32) :
    k0_pay28 (k0_pay15 x) (k0_pay17 x) (k0_pay22 d q p pw) gw a (ix2 z j) = a (ix2 z j) + ∑ r, (blkRow d x q p g gw pw r).dg j := by
  have e : k0_pay28 (k0_pay15 x) (k0_pay17 x) (k0_pay22 d q p pw) gw a (ix2 z j)
      = a (ix2 z j) + ∑ r : Fin 512, k0_pay25 (k0_pay22 d q p pw) gw (ix2 r j) * (x (ix2 r j) * rr (fun k => x (ix2 r k))) := by
    unfold k0_pay28
    generalize k0_pay25 (k0_pay22 d q p pw) gw = b
    unfold_payloads
    pointwise [rr]
  rw [e]
  simp only [dn_at d x q p g gw pw]
  rfl

theorem dgw_at (i j : Fin 1024) (a : Vec Ideal S1024x1024 .f32) :
    k0_pay24 (k0_pay18 x g) (k0_pay22 d q p pw) a (ix2 i j) = a (ix2 i j) + ∑ r, (blkRow d x q p g gw pw r).dgw i j := by
  have e : ∀ b : FVec Ideal S512x1024 .bf16, k0_pay24 (k0_pay18 x g) b a (ix2 i j)
      = a (ix2 i j) + ∑ r : Fin 512, x (ix2 r i) * rr (fun k => x (ix2 r k)) * g (ix2 0 i) * b (ix2 r j) := fun b => by
    unfold_payloads
    pointwise [rr]
  rw [e]
  simp only [pay22_at d x q p g gw pw]
  rfl

theorem dpw_at (k : Fin 256) (j : Fin 1024) (a : Vec Ideal S256x1024 .f32) :
    k0_pay23 (k0_pay20 p) (k0_pay21 d q) a (ix2 k j) = a (ix2 k j) + ∑ r, (blkRow d x q p g gw pw r).dpw k j := by
  unfold_payloads
  pointwise [Row.dpw, blkRow]

end

theorem zero11 (i) : (k0_pay11 (F := Ideal)) i = 0 := by
  unfold_payloads
  pointwise
theorem zero12 (i) : (k0_pay12 (F := Ideal)) i = 0 := by
  unfold_payloads
  pointwise
theorem zero13 (i) : (k0_pay13 (F := Ideal)) i = 0 := by
  unfold_payloads
  pointwise
theorem pay5_at (a : Vec Ideal S1024x1024 .f32) (i) : k0_pay5 a i = a i := by
  idx_vars i
  unfold_payloads
  pointwise

end Cert.PleKIdeal.Rows
-- ==== Proof.PleBlk.lean ====
/-
  The per-layer embedding's gradient: a block's rows as rows of the arguments, and the kernel's four results read at an
  index of the arguments.
-/
module

public import proofs.«01_k».proof.Proof.PleKernel

@[expose] public section

set_option maxRecDepth 16384

noncomputable section

namespace Cert.PleKIdeal.Rows

open Idealize.ShloMosaic Idealize.ShloMosaic.TcCoe Idealize.SL.Sem
open Cert.PleKIdeal Cert.PleKIdeal.Gen

variable (m : (ℓ : Loc nD τ sig) → Buf (Elt Ideal) ℓ) (ρ : Dev nD → PrngReg)

/-- The gate of a row. -/
def gate (x g : Fin 1024 → EReal) (w : Fin 1024 → Fin 1024 → EReal) (j : Fin 1024) : EReal :=
  Ideal.div 1 (1 + Ideal.exp (-∑ k, x k * rr x * g k * w k j))

/-- Row `s` of batch `b`. -/
def ofArgs (x0 x5 : S2x4096x1024.Idx → EReal) (x1 : S2x4096x256.Idx → EReal) (x2 : S1024.Idx → EReal)
    (x3 : S1024x1024.Idx → EReal) (x4 : S256x1024.Idx → EReal) (b : Fin 2) (s : Fin 4096) : Row where
  x k := x0 (ix3 b s k)
  q := gate (fun k => x0 (ix3 b s k)) (fun k => x2 (ix1 k)) (fun j k => x3 (ix2 j k))
  p k := x1 (ix3 b s k)
  ct k := x5 (ix3 b s k)
  g k := x2 (ix1 k)
  gw j k := x3 (ix2 j k)
  pw k j := x4 (ix2 k j)

def row (c : Dev nD) (b : Fin 2) (s : Fin 4096) : Row :=
  ofArgs (m ((c : Thread nD τ).loc main_arg0)) (m ((c : Thread nD τ).loc main_arg5)) (m ((c : Thread nD τ).loc main_arg1))
    (m ((c : Thread nD τ).loc main_arg2)) (m ((c : Thread nD τ).loc main_arg3)) (m ((c : Thread nD τ).loc main_arg4)) b s

theorem row_lt (t : Fin cfg0.N) (r : Fin 512) : (t.val * 512 + r.val) / 4096 < 2 := by
  have := t.isLt; have : cfg0.N = 16 := N_0; omega

/-- Row `r` of block `t`, by its batch and its place in it. -/
def at512 (f : Fin 2 → Fin 4096 → Row) (t : Fin cfg0.N) (r : Fin 512) : Row :=
  f ⟨(t.val * 512 + r.val) / 4096, row_lt t r⟩ ⟨(t.val * 512 + r.val) % 4096, Nat.mod_lt _ (by decide)⟩

theorem blk0 (c : Dev nD) (t : Fin cfg0.N) (r : Fin 512) (j : Fin 1024) :
    iblk m c 0 t (ix2 r j) = (at512 (row m c) t r).ct j := by
  obtain ⟨e0, e1, e2, e3, e4, e5, e6, e7⟩ := idx0 t
  unfold at512 row ofArgs
  blk_ext! [iblk, V, e0]

theorem blk1 (c : Dev nD) (t : Fin cfg0.N) (r : Fin 512) (j : Fin 1024) :
    iblk m c 1 t (ix2 r j) = (at512 (row m c) t r).x j := by
  obtain ⟨e0, e1, e2, e3, e4, e5, e6, e7⟩ := idx0 t
  unfold at512 row ofArgs
  blk_ext! [iblk, V, e1]

theorem blk2 (c : Dev nD) (t : Fin cfg0.N) (r : Fin 512) (j : Fin 1024) :
    iblk m c 2 t (ix2 r j) = (at512 (row m c) t r).q j := by
  obtain ⟨e0, e1, e2, e3, e4, e5, e6, e7⟩ := idx0 t
  have h1 : (win0_2.blk t).view.emb (ix2 r j) 1 = j := Fin.ext (by blk_simp [e2])
  refine Eq.trans ?_ (congrArg (at512 (row m c) t r).q h1)
  unfold at512 row ofArgs gate rr
  dsimp only
  blk_simp [iblk, e2]
  entry_read
  pointwise
  blk_simp [e2]

theorem blk3 (c : Dev nD) (t : Fin cfg0.N) (z : Fin 1) (r : Fin 512) (j : Fin 256) :
    iblk m c 3 t (ix3 z r j) = (at512 (row m c) t r).p j := by
  obtain ⟨e0, e1, e2, e3, e4, e5, e6, e7⟩ := idx0 t
  unfold at512 row ofArgs
  blk_ext! [iblk, V, e3]

theorem blk4 (c : Dev nD) (t : Fin cfg0.N) (r : Fin 512) (z : Fin 1) (j : Fin 1024) :
    iblk m c 4 t (ix2 z j) = (at512 (row m c) t r).g j := by
  obtain ⟨e0, e1, e2, e3, e4, e5, e6, e7⟩ := idx0 t
  unfold at512 row ofArgs
  blk_ext! [iblk, V, e4]

theorem blk5 (c : Dev nD) (t : Fin cfg0.N) (r : Fin 512) (i j : Fin 1024) :
    iblk m c 5 t (ix2 i j) = (at512 (row m c) t r).gw i j := by
  obtain ⟨e0, e1, e2, e3, e4, e5, e6, e7⟩ := idx0 t
  unfold at512 row ofArgs
  blk_ext! [iblk, V, e5]

theorem blk6 (c : Dev nD) (t : Fin cfg0.N) (r : Fin 512) (i : Fin 256) (j : Fin 1024) :
    iblk m c 6 t (ix2 i j) = (at512 (row m c) t r).pw i j := by
  obtain ⟨e0, e1, e2, e3, e4, e5, e6, e7⟩ := idx0 t
  unfold at512 row ofArgs
  blk_ext! [iblk, V, e6]

theorem blk_row (c : Dev nD) (t : Fin cfg0.N) (r : Fin 512) :
    blkRow (iblk m c 0 t) (iblk m c 1 t) (iblk m c 2 t) (iblk m c 3 t) (iblk m c 4 t) (iblk m c 5 t) (iblk m c 6 t) r = at512 (row m c) t r := by
  unfold blkRow
  simp only [blk0, blk1, blk2, blk3, blk4 m c t r, blk5 m c t r, blk6 m c t r]

/-! ## The four arrays -/

def Gdx (c : Dev nD) : S8192x1024.Idx → EReal := fun i =>
  have hb : (i 0).val / 4096 < 2 := by have := (i 0).isLt; simp at this; omega
  have hs : (i 0).val % 4096 < 4096 := Nat.mod_lt _ (by decide)
  (row m c ⟨(i 0).val / 4096, hb⟩ ⟨(i 0).val % 4096, hs⟩).dx ⟨(i 1).val, (i 1).isLt⟩
def Gdgw (c : Dev nD) : S1024x1024.Idx → EReal := fun i => ∑ b, ∑ s, (row m c b s).dgw ⟨(i 0).val, (i 0).isLt⟩ ⟨(i 1).val, (i 1).isLt⟩
def Gdpw (c : Dev nD) : S8x256x128.Idx → EReal := fun i =>
  have h : (i 0).val * 128 + (i 2).val < 1024 := by have := (i 0).isLt; have := (i 2).isLt; simp at *; omega
  ∑ b, ∑ s, (row m c b s).dpw ⟨(i 1).val, (i 1).isLt⟩ ⟨(i 0).val * 128 + (i 2).val, h⟩
def Gdg (c : Dev nD) : S1x1024.Idx → EReal := fun i => ∑ b, ∑ s, (row m c b s).dg ⟨(i 1).val, (i 1).isLt⟩

theorem final_dx (c : Dev nD) : (dats m 0 c).arrAt 7 cfg0.N = Gdx m c := by
  refine (dats m 0 c).arrAt_eq_of_covers 7 _ (by decide +kernel) fun t hf y => ?_
  obtain ⟨e0, e1, e2, e3, e4, e5, e6, e7, e8⟩ := idx0 t
  blk_simp
  rw [after0_7, outs7]
  idx_vars y
  refine (dx_at _ _ _ _ _ _ _ _ _).trans ?_
  rw [blk_row]
  unfold Gdx at512
  blk_simp [e7]

/-- A sum that each point takes further by its block's part holds, after the last point, the sum over all rows. -/
theorem sum_of_steps (l : Fin cfg0.N) (hl : l.val + 1 = cfg0.N) (c : Dev nD) (out : ∀ n, n < cfg0.N → EReal) (f : Row → EReal)
    (h0 : ∀ t : Fin cfg0.N, t.val % 16 = 0 → out t.val t.isLt = 0 + ∑ r, f (at512 (row m c) t r))
    (h1 : ∀ t : Fin cfg0.N, ¬t.val % 16 = 0 → out t.val t.isLt
      = out (t.val - 1) (Nat.lt_of_le_of_lt (Nat.sub_le _ _) t.isLt) + ∑ r, f (at512 (row m c) t r)) :
    out l.val l.isLt = ∑ b, ∑ s, f (row m c b s) := by
  refine (Pipeline.eq_sum_fin_of_reset_step_last out 16 0 (fun t => ∑ r, f (at512 (row m c) t r)) h0 h1 (le_of_eq N_0) l hl).trans ?_
  rw [zero_add]
  exact Sums.sum_blocks cfg0.N 512 (by decide) (by rw [show cfg0.N = 16 from N_0]) (fun b s => f (row m c b s))

section

variable (l : Fin cfg0.N) (hl : l.val + 1 = cfg0.N)

include hl in
theorem last_mod : l.val % 16 = 15 := by have : cfg0.N = 16 := N_0; omega

include hl

theorem dg_sum (c : Dev nD) (z : Fin 1) (j : Fin 1024) :
    (outsAt0 m c l.val l.isLt).2.2.2.1 (ix2 z j) = ∑ b, ∑ s, (row m c b s).dg j := by
  refine sum_of_steps m l hl c (fun n h => (outsAt0 m c n h).2.2.2.1 (ix2 z j)) (·.dg j) (fun t h => ?_) (fun t h => ?_)
  · rw [outs_first m c t h]
    refine (dg_at _ _ _ _ (iblk m c 4 t) _ _ _ _ _).trans ?_
    simp only [blk_row, zero13]
  · rw [outs_next m c t h]
    refine (dg_at _ _ _ _ (iblk m c 4 t) _ _ _ _ _).trans ?_
    simp only [blk_row]

theorem dgw_sum (c : Dev nD) (i j : Fin 1024) :
    (outsAt0 m c l.val l.isLt).2.2.2.2.1 (ix2 i j) = ∑ b, ∑ s, (row m c b s).dgw i j := by
  refine sum_of_steps m l hl c (fun n h => (outsAt0 m c n h).2.2.2.2.1 (ix2 i j)) (·.dgw i j) (fun t h => ?_) (fun t h => ?_)
  · rw [outs_first m c t h]
    refine (dgw_at _ _ _ _ _ (iblk m c 5 t) _ _ _ _).trans ?_
    simp only [blk_row, zero11]
  · rw [outs_next m c t h]
    refine (dgw_at _ _ _ _ _ (iblk m c 5 t) _ _ _ _).trans ?_
    simp only [blk_row]

theorem dpw_sum (c : Dev nD) (k : Fin 256) (j : Fin 1024) :
    (outsAt0 m c l.val l.isLt).2.2.2.2.2 (ix2 k j) = ∑ b, ∑ s, (row m c b s).dpw k j := by
  refine sum_of_steps m l hl c (fun n h => (outsAt0 m c n h).2.2.2.2.2 (ix2 k j)) (·.dpw k j) (fun t h => ?_) (fun t h => ?_)
  · rw [outs_first m c t h]
    refine (dpw_at _ (iblk m c 1 t) _ _ (iblk m c 4 t) (iblk m c 5 t) (iblk m c 6 t) _ _ _).trans ?_
    simp only [blk_row, zero12]
  · rw [outs_next m c t h]
    refine (dpw_at _ (iblk m c 1 t) _ _ (iblk m c 4 t) (iblk m c 5 t) (iblk m c 6 t) _ _ _).trans ?_
    simp only [blk_row]

theorem after_dgw (c : Dev nD) (j : _) : (dats m 0 c).after 8 l j = Gdgw m c j := by
  refine (congrFun ((after0_8 m c l).trans (outs_last8 m c l (last_mod l hl))) j).trans ?_
  idx_vars j
  exact (pay5_at _ _).trans (dgw_sum m l hl c j0 j1)

theorem after_dpw (c : Dev nD) (j : _) : (dats m 0 c).after 9 l j = Gdpw m c j := by
  refine (congrFun ((after0_9 m c l).trans (outs_last9 m c l (last_mod l hl))) j).trans ?_
  idx_vars j
  exact (shardL_at _ _ _ _).trans (dpw_sum m l hl c j1 _)

theorem after_dg (c : Dev nD) (j : _) : (dats m 0 c).after 10 l j = Gdg m c j := by
  refine (congrFun (after0_10 m c l) j).trans ?_
  idx_vars j
  exact dg_sum m l hl c j0 j1

end

/-- The last block. -/
def tl : Fin cfg0.N := ⟨15, by rw [show cfg0.N = 16 from N_0]; decide⟩

theorem final_dgw (c : Dev nD) : (dats m 0 c).arrAt 8 cfg0.N = Gdgw m c :=
  (dats m 0 c).arrAt_eq_of_after_last 8 tl (by decide +kernel) _ (after_dgw m tl rfl c)
theorem final_dpw (c : Dev nD) : (dats m 0 c).arrAt 9 cfg0.N = Gdpw m c :=
  (dats m 0 c).arrAt_eq_of_after_last 9 tl (by decide +kernel) _ (after_dpw m tl rfl c)
theorem final_dg (c : Dev nD) : (dats m 0 c).arrAt 10 cfg0.N = Gdg m c :=
  (dats m 0 c).arrAt_eq_of_after_last 10 tl (by decide +kernel) _ (after_dg m tl rfl c)

end Cert.PleKIdeal.Rows
-- ==== Proof.PleValue.lean ====
/-
  The per-layer embedding's gradient: what the reference computes, read at an index, in the kernel's terms.
-/
module

public import proofs.«01_k».proof.Proof.PleBlk
public import proofs.«01_k».proof.Proof.Gen.PleRIdeal.Read

@[expose] public section

set_option maxRecDepth 16384

noncomputable section

namespace Cert.PleRIdeal.Rows

open Idealize.ShloMosaic Idealize.ShloMosaic.TcCoe Idealize.SL.Sem
open Cert.PleRIdeal.Read Cert.PleKIdeal.Rows

variable (x0 x5 : (⟨S2x4096x1024, .f32⟩ : BufTy).Contents (Elt Ideal)) (x1 : (⟨S2x4096x256, .f32⟩ : BufTy).Contents (Elt Ideal))
  (x2 : (⟨S1024, .f32⟩ : BufTy).Contents (Elt Ideal)) (x3 : (⟨S1024x1024, .f32⟩ : BufTy).Contents (Elt Ideal))
  (x4 : (⟨S256x1024, .f32⟩ : BufTy).Contents (Elt Ideal)) (b : Fin 2) (s : Fin 4096)

theorem r_at : val_main_v7 x0 (ix3 b s 0) = rr (fun k => x0 (ix3 b s k)) := by
  pointwise [rr, val_main_v0, val_main_cst, val_main_v1, val_main_v2, val_main_cst_0, val_main_v3, val_main_v4, val_main_cst_1,
    val_main_v5, val_main_v6, val_main_v7]

theorem rn_at (j : Fin 1024) : val_main_v15 x0 x2 (ix3 b s j) = x0 (ix3 b s j) * rr (fun k => x0 (ix3 b s k)) * x2 (ix1 j) := by
  pointwise [r_at, val_main_v11, val_main_v12, val_main_v13, val_main_v14, val_main_v15]

theorem gate_at (j : Fin 1024) : val_main_v22 x0 x2 x3 (ix3 b s j) = (ofArgs x0 x5 x1 x2 x3 x4 b s).q j := by
  pointwise [rn_at, val_main_v16, val_main_v17, val_main_v18, val_main_cst_3, val_main_v19, val_main_v20, val_main_cst_4,
    val_main_v21, val_main_v22, ofArgs, gate]

theorem gp_at (j : Fin 1024) : val_main_v34 x0 x1 x2 x3 x4 x5 (ix3 b s j) = (ofArgs x0 x5 x1 x2 x3 x4 b s).gp j := by
  have e : val_main_v34 x0 x1 x2 x3 x4 x5 (ix3 b s j) = x5 (ix3 b s j) * (∑ k, x1 (ix3 b s k) * x4 (ix2 k j))
      * ((ofArgs x0 x5 x1 x2 x3 x4 b s).q j * (Ideal.ofBits .f32 0x3F800000#32 - (ofArgs x0 x5 x1 x2 x3 x4 b s).q j)) := by
    pointwise [gate_at x0 x5 x1 x2 x3 x4, val_main_cst_5, val_main_v23, val_main_v24, val_main_v25, val_main_v26, val_main_v29,
      val_main_v31, val_main_v34]
  rw [e, ← mul_assoc]
  rfl

theorem dn_at (j : Fin 1024) : val_main_v37 x0 x1 x2 x3 x4 x5 (ix3 b s j) = (ofArgs x0 x5 x1 x2 x3 x4 b s).dn j := by
  pointwise [gp_at, val_main_v37, Row.dn, ofArgs]

theorem dx_at (j : Fin 1024) : val_main_v58 x0 x1 x2 x3 x4 x5 (ix3 b s j) = (ofArgs x0 x5 x1 x2 x3 x4 b s).dx j := by
  obtain ⟨e, he, hw⟩ := Reals.wEps
  have h := Reals.rms_bwd Finset.univ (fun k => x0 (ix3 b s k)) (fun k => (ofArgs x0 x5 x1 x2 x3 x4 b s).dn k * x2 (ix1 k))
    (d := 1024) (by norm_num) he j _ _ rfl rfl
  rw [← hw, ← Reals.w1024, ← Reals.wNegHalf] at h
  refine Eq.trans ?_ (congrArg (x5 (ix3 b s j) + ·) h.symm)
  dsimp only
  rw [← add_assoc, ← add_assoc]
  pointwise [dn_at, val_main_v0, val_main_cst, val_main_v1, val_main_v2, val_main_cst_0, val_main_v3, val_main_v4, val_main_cst_1,
    val_main_v5, val_main_v6, val_main_v7, val_main_v8, val_main_cst_2, val_main_v9, val_main_v10, val_main_v13, val_main_v41,
    val_main_v42, val_main_v44, val_main_cst_8, val_main_v45, val_main_v46, val_main_v47, val_main_v48, val_main_v49, val_main_v50,
    val_main_cst_9, val_main_v51, val_main_v52, val_main_cst_10, val_main_v53, val_main_v54, val_main_v55, val_main_v56,
    val_main_v57, val_main_v58, Finset.univ_unique, Finset.sum_singleton]

theorem v61_at (n : Fin 8192) (j : Fin 1024) : val_main_v61 x0 x1 x2 x3 x4 x5 (ix2 n j)
    = (ofArgs x0 x5 x1 x2 x3 x4 ⟨n.val / 4096, by omega⟩ ⟨n.val % 4096, Nat.mod_lt _ (by decide)⟩).dx j := by
  rw [← dx_at]
  pointwise [val_main_v61]

theorem v62_at (i j : Fin 1024) : val_main_v62 x0 x1 x2 x3 x4 x5 (ix2 i j) = ∑ b, ∑ s, (ofArgs x0 x5 x1 x2 x3 x4 b s).dgw i j := by
  have e : val_main_v62 x0 x1 x2 x3 x4 x5 (ix2 i j) = ∑ b : Fin 2, ∑ s : Fin 4096, (ofArgs x0 x5 x1 x2 x3 x4 b s).gp j
      * (x0 (ix3 b s i) * rr (fun k => x0 (ix3 b s k)) * x2 (ix1 i)) := by
    pointwise [gp_at, rn_at, val_main_v35, val_main_v36, val_main_v62]
  rw [e]
  exact Finset.sum_congr rfl fun b _ => Finset.sum_congr rfl fun s _ => mul_comm _ _

theorem v63_at (q : Fin 8) (k : Fin 256) (j : Fin 128) : val_main_v63 x0 x1 x2 x3 x5 (ix3 q k j)
    = ∑ b, ∑ s, (ofArgs x0 x5 x1 x2 x3 x4 b s).dpw k ⟨q.val * 128 + j.val, by omega⟩ := by
  have e : val_main_v63 x0 x1 x2 x3 x5 (ix3 q k j) = ∑ b : Fin 2, ∑ s : Fin 4096,
      (ofArgs x0 x5 x1 x2 x3 x4 b s).q ⟨q.val * 128 + j.val, by omega⟩ * x5 (ix3 b s ⟨q.val * 128 + j.val, by omega⟩) * x1 (ix3 b s k) := by
    pointwise [gate_at x0 x5 x1 x2 x3 x4, val_main_v29, val_main_v30, val_main_v32, val_main_v33, val_main_v59, val_main_v60, val_main_v63]
  rw [e]
  exact Finset.sum_congr rfl fun b _ => Finset.sum_congr rfl fun s _ => by rw [mul_comm, mul_comm (Row.q _ _)]; rfl

theorem v64_at (z : Fin 1) (j : Fin 1024) : val_main_v64 x0 x1 x2 x3 x4 x5 (ix2 z j)
    = ∑ b, ∑ s, (ofArgs x0 x5 x1 x2 x3 x4 b s).dg j := by
  have e : val_main_v64 x0 x1 x2 x3 x4 x5 (ix2 z j) = ∑ b : Fin 2, ∑ s : Fin 4096,
      x0 (ix3 b s j) * rr (fun k => x0 (ix3 b s k)) * (ofArgs x0 x5 x1 x2 x3 x4 b s).dn j := by
    pointwise [r_at, dn_at, Sums.hostReduceAdd_r3_a01, val_main_v11, val_main_v12, val_main_v38, val_main_cst_6, val_main_v39,
      val_main_v40, val_main_cst_7, val_main_v43, val_main_v64, Finset.univ_unique, Finset.sum_singleton]
  rw [e]
  exact Finset.sum_congr rfl fun b _ => Finset.sum_congr rfl fun s _ => mul_comm _ _

end Cert.PleRIdeal.Rows
-- ==== Proof.PleClaims.lean ====
/-
  The per-layer embedding's gradient: its claims.
-/
module

public import proofs.«01_k».proof.Defs
public import proofs.«01_k».proof.Proof.PleValue
public import proofs.«01_k».proof.Proof.Gen.PleK.Frame
public import proofs.«01_k».proof.Proof.Gen.PleRIdeal.Run

@[expose] public section

set_option maxRecDepth 16384

noncomputable section

namespace Cert.Ple

open Idealize.ShloMosaic Idealize.ShloMosaic.TcCoe Idealize.SL.Sem Cert.PleKIdeal.Rows Cert.PleRIdeal.Rows

theorem frame_r : Cert.quiescent_PleRIdeal := fun m ρ _ =>
  (θ_run Cert.PleRIdeal.defs _ _).mono (fun r h => ⟨fun c => (h c).2.2.2.2, sem_eq_zero_of_no_sems (by decide) r.2⟩)
    (Cert.PleRIdeal.Value.run m ρ)

theorem algebraic : Cert.algebraic_PleKIdeal_PleRIdeal := fun m ρ m' ρ' _ hag =>
  ⟨Gdx m, Gdgw m, Gdpw m, Gdg m,
    (θ_run Cert.PleKIdeal.defs _ _).mono (fun _ h c => ⟨(h c).1.trans (final_dx m c), (h c).2.1.trans (final_dgw m c),
      (h c).2.2.1.trans (final_dpw m c), (h c).2.2.2.1.trans (final_dg m c), (h c).2.2.2.2⟩) (Cert.PleKIdeal.Value.run_blocks m ρ),
    (θ_run Cert.PleRIdeal.defs _ _).mono (fun _ h c => by
      obtain ⟨a0, a1, a2, a3, a4, a5⟩ := hag c
      refine ⟨(h c).1.trans ?_, (h c).2.1.trans ?_, (h c).2.2.1.trans ?_, (h c).2.2.2.1.trans ?_, (h c).2.2.2.2⟩
      · rw [Cert.PleRIdeal.Read.val_main_v61_eq]
        refine (congr (congr (congr (congr (congr (congrArg Cert.PleRIdeal.Read.val_main_v61 a0) a1) a2) a3) a4) a5).trans ?_
        funext i
        idx_vars i
        exact v61_at _ _ _ _ _ _ _ _
      · rw [Cert.PleRIdeal.Read.val_main_v62_eq]
        refine (congr (congr (congr (congr (congr (congrArg Cert.PleRIdeal.Read.val_main_v62 a0) a1) a2) a3) a4) a5).trans ?_
        funext i
        idx_vars i
        exact v62_at _ _ _ _ _ _ _ _
      · rw [Cert.PleRIdeal.Read.val_main_v63_eq]
        refine (congr (congr (congr (congr (congrArg Cert.PleRIdeal.Read.val_main_v63 a0) a1) a2) a3) a5).trans ?_
        funext i
        idx_vars i
        exact v63_at _ _ _ _ _ _ _ _ _
      · rw [Cert.PleRIdeal.Read.val_main_v64_eq]
        refine (congr (congr (congr (congr (congr (congrArg Cert.PleRIdeal.Read.val_main_v64 a0) a1) a2) a3) a4) a5).trans ?_
        funext i
        idx_vars i
        exact v64_at _ _ _ _ _ _ _ _) (Cert.PleRIdeal.Value.run m' ρ')⟩

end Cert.Ple
-- ==== Proof.OconvRow.lean ====
/-
  The convolution mixer's norm, swish, gate and output product, backward: what one row computes, and its mathematics
  for real arguments.
-/
module

public import proofs.«01_k».proof.Proof.Closed
public import proofs.«01_k».proof.Proof.SguRow

@[expose] public section

noncomputable section

namespace Cert.Oconv

open Idealize.ShloMosaic Cert.Reals
open Cert.Sgu (sgm siluD n2048 eps)

/-- A row of the call: the biased convolution, the gate's part of the projection, the result's gradient; the output
    projection, the norm's gain and offset. -/
structure Row where
  y : Fin 2048 → EReal
  z : Fin 2048 → EReal
  ct : Fin 1024 → EReal
  w : Fin 2048 → Fin 1024 → EReal
  lg : Fin 2048 → EReal
  lb : Fin 2048 → EReal

namespace Row

variable (o : Row)

def xc (j : Fin 2048) : EReal := o.y j - Ideal.div (∑ k, o.y k) n2048
def rstd : EReal := Ideal.rsqrt (Ideal.div (∑ k, o.xc k * o.xc k) n2048 + eps)
def xh (j : Fin 2048) : EReal := o.xc j * o.rstd
/-- The norm's result, and its swish. -/
def n (j : Fin 2048) : EReal := o.xh j * o.lg j + o.lb j
def sw (j : Fin 2048) : EReal := o.n j * sgm (o.n j)
def sz (j : Fin 2048) : EReal := o.z j * sgm (o.z j)
def dq (j : Fin 2048) : EReal := ∑ k, o.ct k * o.w j k
def dz (j : Fin 2048) : EReal := o.dq j * o.sw j * siluD (o.z j)
/-- The gradient of the norm's result. -/
def dn (j : Fin 2048) : EReal := o.dq j * o.sz j * siluD (o.n j)
def dx (j : Fin 2048) : EReal := o.dn j * o.lg j
def dy (j : Fin 2048) : EReal :=
  o.rstd * (o.dx j - Ideal.div (∑ k, o.dx k) n2048 - o.xh j * Ideal.div (∑ k, o.dx k * o.xh k) n2048)
/-- A row's parts of the gradients of the output projection and of the gain. -/
def dw (j : Fin 2048) (k : Fin 1024) : EReal := o.sw j * o.sz j * o.ct k
def dlg (j : Fin 2048) : EReal := o.dn j * o.xh j

/-! ## As differentiated -/

def var : EReal := Ideal.div (∑ k, o.xc k * o.xc k) n2048 + eps
def dvar : EReal := Ideal.div ((∑ k, o.xc k * o.dx k) * (Ideal.ofBits .f32 0xBF000000#32 * Ideal.div o.rstd o.var)) n2048
def dxc (j : Fin 2048) : EReal := o.dx j * o.rstd + o.xc j * o.dvar + o.dvar * o.xc j
def dyB (j : Fin 2048) : EReal := o.dxc j + Ideal.div (∑ k, -o.dxc k) n2048
def dzB (j : Fin 2048) : EReal := o.sw j * o.dq j * sgm (o.z j) + o.z j * (o.sw j * o.dq j) * (sgm (o.z j) * (1 - sgm (o.z j)))
def dnB (j : Fin 2048) : EReal := o.dq j * o.sz j * sgm (o.n j) + o.n j * (o.dq j * o.sz j) * (sgm (o.n j) * (1 - sgm (o.n j)))

/-- Every argument is real. -/
structure AllR (o : Row) : Prop where
  y : ∀ j, IsR (o.y j)
  z : ∀ j, IsR (o.z j)
  ct : ∀ k, IsR (o.ct k)
  w : ∀ j k, IsR (o.w j k)
  lg : ∀ j, IsR (o.lg j)
  lb : ∀ j, IsR (o.lb j)

namespace AllR

variable {o : Row} (h : o.AllR)
include h

theorem xc (j) : IsR (o.xc j) := by
  unfold Row.xc n2048
  rw [w2048]
  exact (h.y j).sub (IsR.div (IsR.sum _ h.y) (by norm_num))
theorem rstd : IsR o.rstd := by
  obtain ⟨e, he, hw⟩ := wEps
  unfold Row.rstd n2048 eps
  rw [w2048, hw]
  exact IsR.rstd _ h.xc (by norm_num) he
theorem n (j) : IsR (o.n j) := (((h.xc j).mul h.rstd).mul (h.lg j)).add (h.lb j)
theorem sw (j) : IsR (o.sw j) := (h.n j).mul (h.n j).logistic
theorem sz (j) : IsR (o.sz j) := (h.z j).mul (h.z j).logistic
theorem dq (j) : IsR (o.dq j) := IsR.sum _ fun k => (h.ct k).mul (h.w j k)
theorem dn (j) : IsR (o.dn j) := ((h.dq j).mul (h.sz j)).mul
  ((h.n j).logistic.mul (IsR.one.add ((h.n j).mul (IsR.one.sub (h.n j).logistic))))

theorem dz_eq (j) : o.dz j = o.dzB j := silu_bwd (h.sw j) (h.dq j) (h.z j) (h.z j).logistic
theorem dn_eq (j) : o.dn j = o.dnB j := by
  refine (congrArg (· * siluD (o.n j)) (mul_comm (o.dq j) (o.sz j))).trans ((silu_bwd (h.dq j) (h.sz j) (h.n j) (h.n j).logistic).trans ?_)
  rfl

theorem dy_eq (j) : o.dy j = o.dyB j := by
  obtain ⟨e, he, hw⟩ := wEps
  have h0 : ∑ k, o.xc k = 0 := by
    unfold Row.xc n2048
    rw [w2048]
    exact centred_sum _ h.y (by norm_num) (by norm_num)
  have := ln_bwd Finset.univ o.xc o.dx h.xc (fun k => (h.dn k).mul (h.lg k)) h0 (d := 2048) (by norm_num) he j o.var o.rstd o.dvar
    o.dxc (by unfold Row.var n2048 eps; rw [w2048, hw]) rfl (by unfold Row.dvar n2048; rw [w2048, wNegHalf]) (fun k => rfl)
  unfold Row.dy Row.dyB Row.xh n2048
  rw [w2048]
  exact this

end AllR

end Row

end Cert.Oconv
-- ==== Proof.OconvKernel.lean ====
/-
  The convolution mixer's norm, swish, gate and output product, backward: the kernel's six results read at an index of
  its blocks. 32 blocks of 256 rows; the gradients of the parameters are summed over the blocks.
-/
module

public import proofs.«01_k».proof.Proof.OconvRow
public import proofs.«01_k».proof.Proof.Sums
public import proofs.«01_k».proof.Proof.Gen.OconvKIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OconvKIdeal.Rows

open Idealize.ShloMosaic Idealize.ShloMosaic.TcCoe Idealize.SL.Sem
open Cert.OconvKIdeal Cert.OconvKIdeal.Gen Cert.Oconv
open Cert.Sgu (sgm siluD n2048 eps)

variable (m : (ℓ : Loc nD τ sig) → Buf (Elt Ideal) ℓ) (ρ : Dev nD → PrngReg)

theorem idx0 : ∀ t : Fin cfg0.N, win0_0.index t = ![t.val, 0] ∧ win0_1.index t = ![t.val, 0] ∧ win0_2.index t = ![t.val, 2]
    ∧ win0_3.index t = ![0, 0] ∧ win0_4.index t = ![0, 0] ∧ win0_5.index t = ![0, 0] ∧ win0_6.index t = ![t.val, 0]
    ∧ win0_7.index t = ![t.val, 0] :=
  (by decide +kernel : ∀ t : Fin grid0.N, _)

/-! ## What each point leaves -/

/-- A block's gradient of the norm's result. -/
def dnB (c : Dev nD) (t : Fin cfg0.N) : FVec Ideal S256x2048 .f32 :=
  k0_pay23 (k0_pay13 (iblk m c 1 t) (iblk m c 4 t) (iblk m c 5 t)) (k0_pay14 (iblk m c 1 t) (iblk m c 4 t) (iblk m c 5 t))
    (k0_pay18 (iblk m c 2 t)) (k0_pay19 (iblk m c 0 t)) (iblk m c 3 t)

theorem outs67 (c : Dev nD) (t : Fin cfg0.N) : ((outsAt0 m c t.val t.isLt).1, (outsAt0 m c t.val t.isLt).2.1)
    = (k0_pay2 (k0_pay10 (iblk m c 1 t)) (k0_pay11 (iblk m c 1 t)) (k0_pay12 (iblk m c 4 t)) (dnB m c t),
        k0_pay22 (k0_pay15 (iblk m c 1 t) (iblk m c 4 t) (iblk m c 5 t)) (k0_pay16 (iblk m c 2 t)) (k0_pay17 (iblk m c 2 t))
          (k0_pay19 (iblk m c 0 t)) (iblk m c 3 t)) := by
  have hN : t.val < 32 := lt_of_lt_of_eq t.isLt N_0
  by_cases h0 : t.val % 32 = 0
  · rw [outsAt0_A m c t h0 (by omega)]
    dsimp only
    refine Prod.ext ?_ ?_ <;> dsimp only <;> frame_out <;> rfl
  · by_cases h1 : t.val % 32 = 31
    · rw [outsAt0_C m c t h0 h1]
      dsimp only
      refine Prod.ext ?_ ?_ <;> dsimp only <;> frame_out <;> rfl
    · rw [outsAt0_B m c t h0 h1]
      dsimp only
      refine Prod.ext ?_ ?_ <;> dsimp only <;> frame_out <;> rfl

/-- What a point leaves in the four sums, over what they held. -/
def sums (c : Dev nD) (t : Fin cfg0.N) (g b y : Vec Ideal S1x2048 .f32) (w : Vec Ideal S2048x1024 .f32) :
    Vec Ideal S1x2048 .f32 × Vec Ideal S1x2048 .f32 × Vec Ideal S1x2048 .f32 × Vec Ideal S2048x1024 .f32 :=
  (k0_pay24 (k0_pay11 (iblk m c 1 t)) (k0_pay13 (iblk m c 1 t) (iblk m c 4 t) (iblk m c 5 t))
      (k0_pay14 (iblk m c 1 t) (iblk m c 4 t) (iblk m c 5 t)) (k0_pay18 (iblk m c 2 t)) (k0_pay19 (iblk m c 0 t)) (iblk m c 3 t) g,
    k0_pay1 (dnB m c t) (k0_pay25 b),
    k0_pay3 (k0_pay10 (iblk m c 1 t)) (k0_pay11 (iblk m c 1 t)) (k0_pay12 (iblk m c 4 t)) (dnB m c t) y,
    k0_pay20 (k0_pay15 (iblk m c 1 t) (iblk m c 4 t) (iblk m c 5 t)) (k0_pay18 (iblk m c 2 t)) (k0_pay19 (iblk m c 0 t)) w)

theorem outs_first (c : Dev nD) (t : Fin cfg0.N) (h0 : t.val % 32 = 0) : (outsAt0 m c t.val t.isLt).2.2.2
    = sums m c t (k0_pay6 (F := Ideal)) (k0_pay7 (F := Ideal)) (k0_pay8 (F := Ideal)) (k0_pay5 (F := Ideal)) := by
  rw [outsAt0_A m c t h0 (by omega)]
  dsimp only
  refine Prod.ext ?_ (Prod.ext ?_ (Prod.ext ?_ ?_)) <;> dsimp only [sums] <;> frame_out <;> (try simp only [read_unread_whole]) <;> rfl

theorem outs_next (c : Dev nD) (t : Fin cfg0.N) (h0 : ¬t.val % 32 = 0) : (outsAt0 m c t.val t.isLt).2.2.2
    = sums m c t (outsAt0 m c (t.val - 1) (Nat.lt_of_le_of_lt (Nat.sub_le _ _) t.isLt)).2.2.2.1
        (outsAt0 m c (t.val - 1) (Nat.lt_of_le_of_lt (Nat.sub_le _ _) t.isLt)).2.2.2.2.1
        (outsAt0 m c (t.val - 1) (Nat.lt_of_le_of_lt (Nat.sub_le _ _) t.isLt)).2.2.2.2.2.1
        (outsAt0 m c (t.val - 1) (Nat.lt_of_le_of_lt (Nat.sub_le _ _) t.isLt)).2.2.2.2.2.2 := by
  by_cases h1 : t.val % 32 = 31
  · rw [outsAt0_C m c t h0 h1]
    dsimp only
    refine Prod.ext ?_ (Prod.ext ?_ (Prod.ext ?_ ?_)) <;> dsimp only [sums] <;> frame_out <;> (try simp only [read_unread_whole]) <;> rfl
  · rw [outsAt0_B m c t h0 h1]
    dsimp only
    refine Prod.ext ?_ (Prod.ext ?_ (Prod.ext ?_ ?_)) <;> dsimp only [sums] <;> frame_out <;> (try simp only [read_unread_whole]) <;> rfl

theorem outs_last8 (c : Dev nD) (t : Fin cfg0.N) (h1 : t.val % 32 = 31) :
    (outsAt0 m c t.val t.isLt).2.2.1 = k0_pay4 (outsAt0 m c t.val t.isLt).2.2.2.2.2.2 := by
  have h0 : ¬t.val % 32 = 0 := by omega
  rw [show (outsAt0 m c t.val t.isLt).2.2.2.2.2.2 = _ from congrArg (fun p => p.2.2.2) (outs_next m c t h0), outsAt0_C m c t h0 h1]
  dsimp only [sums]
  frame_out
  try simp only [read_unread_whole]
  try rfl

/-! ## Rows -/

section

variable (x : Vec Ideal S256x1024 .f32) (y z : Vec Ideal S256x2048 .f32) (w : Vec Ideal S2048x1024 .bf16)
  (lg lb : Vec Ideal S1x2048 .f32)

/-- A row of a block. -/
def blkRow (r : Fin 256) : Row where
  y k := y (ix2 r k)
  z k := z (ix2 r k)
  ct k := x (ix2 r k)
  w j k := w (ix2 j k)
  lg k := lg (ix2 0 k)
  lb k := lb (ix2 0 k)

theorem xc_at (r : Fin 256) (j : Fin 2048) : k0_pay9 y (ix2 r j) = (blkRow x y z w lg lb r).xc j := by
  unfold_payloads
  pointwise [Row.xc, blkRow, n2048]

theorem rstd_at (r : Fin 256) : k0_pay10 y (ix2 r 0) = (blkRow x y z w lg lb r).rstd := by
  unfold k0_pay10
  pointwise [xc_at x y z w lg lb, Row.rstd, n2048, eps]

theorem xh_at (r : Fin 256) (j : Fin 2048) : k0_pay11 y (ix2 r j) = (blkRow x y z w lg lb r).xh j := by
  unfold k0_pay11
  pointwise [xc_at x y z w lg lb, rstd_at x y z w lg lb, Row.xh]

theorem n_at (r : Fin 256) (j : Fin 2048) : k0_pay13 y lg lb (ix2 r j) = (blkRow x y z w lg lb r).n j := by
  unfold k0_pay13 k0_pay12
  pointwise [xh_at x y z w lg lb, Row.n, blkRow]

theorem sn_at (r : Fin 256) (j : Fin 2048) : k0_pay14 y lg lb (ix2 r j) = sgm ((blkRow x y z w lg lb r).n j) := by
  unfold k0_pay14
  pointwise [n_at x y z w lg lb, sgm]

theorem sw_at (r : Fin 256) (j : Fin 2048) : k0_pay15 y lg lb (ix2 r j) = (blkRow x y z w lg lb r).sw j := by
  unfold k0_pay15
  pointwise [n_at x y z w lg lb, sn_at x y z w lg lb, Row.sw]

theorem sz_at (r : Fin 256) (j : Fin 2048) : k0_pay18 z (ix2 r j) = (blkRow x y z w lg lb r).sz j := by
  unfold_payloads
  pointwise [Row.sz, blkRow, sgm]

theorem dq_at (r : Fin 256) (j : Fin 2048) : k0_pay21 (k0_pay19 x) w (ix2 r j) = (blkRow x y z w lg lb r).dq j := by
  unfold_payloads
  pointwise [Row.dq, blkRow]

theorem dz_at (r : Fin 256) (j : Fin 2048) :
    k0_pay22 (k0_pay15 y lg lb) (k0_pay16 z) (k0_pay17 z) (k0_pay19 x) w (ix2 r j) = (blkRow x y z w lg lb r).dz j := by
  unfold k0_pay22 k0_pay17 k0_pay16
  pointwise [dq_at x y z w lg lb, sw_at x y z w lg lb, Row.dz, siluD, sgm, blkRow]

theorem dn_at (r : Fin 256) (j : Fin 2048) :
    k0_pay23 (k0_pay13 y lg lb) (k0_pay14 y lg lb) (k0_pay18 z) (k0_pay19 x) w (ix2 r j) = (blkRow x y z w lg lb r).dn j := by
  unfold k0_pay23
  pointwise [dq_at x y z w lg lb, sz_at x y z w lg lb, n_at x y z w lg lb, sn_at x y z w lg lb, Row.dn, siluD]

theorem dy_at (r : Fin 256) (j : Fin 2048) (d : FVec Ideal S256x2048 .f32) (h : ∀ r j, d (ix2 r j) = (blkRow x y z w lg lb r).dn j) :
    k0_pay2 (k0_pay10 y) (k0_pay11 y) (k0_pay12 lg) d (ix2 r j) = (blkRow x y z w lg lb r).dy j := by
  unfold k0_pay2 k0_pay12
  pointwise [h, rstd_at x y z w lg lb, xh_at x y z w lg lb, Row.dy, Row.dx, n2048, blkRow]

theorem dlg_at (z' : Fin 1) (j : Fin 2048) (a : Vec Ideal S1x2048 .f32) :
    k0_pay24 (k0_pay11 y) (k0_pay13 y lg lb) (k0_pay14 y lg lb) (k0_pay18 z) (k0_pay19 x) w a (ix2 z' j)
      = a (ix2 z' j) + ∑ r, (blkRow x y z w lg lb r).dlg j := by
  unfold k0_pay24
  pointwise [dn_at x y z w lg lb, xh_at x y z w lg lb, Row.dlg]

theorem dlb_at (z' : Fin 1) (j : Fin 2048) (a : Vec Ideal S1x2048 .f32) (d : FVec Ideal S256x2048 .f32)
    (h : ∀ r j, d (ix2 r j) = (blkRow x y z w lg lb r).dn j) :
    k0_pay1 d (k0_pay25 a) (ix2 z' j) = a (ix2 z' j) + ∑ r, (blkRow x y z w lg lb r).dn j := by
  unfold_payloads
  pointwise [h]

theorem dcb_at (z' : Fin 1) (j : Fin 2048) (a : Vec Ideal S1x2048 .f32) (d : FVec Ideal S256x2048 .f32)
    (h : ∀ r j, d (ix2 r j) = (blkRow x y z w lg lb r).dn j) :
    k0_pay3 (k0_pay10 y) (k0_pay11 y) (k0_pay12 lg) d a (ix2 z' j) = a (ix2 z' j) + ∑ r, (blkRow x y z w lg lb r).dy j := by
  unfold k0_pay3
  pointwise [dy_at x y z w lg lb _ _ d h]

theorem dw_at (j : Fin 2048) (k : Fin 1024) (a : Vec Ideal S2048x1024 .f32) :
    k0_pay20 (k0_pay15 y lg lb) (k0_pay18 z) (k0_pay19 x) a (ix2 j k) = a (ix2 j k) + ∑ r, (blkRow x y z w lg lb r).dw j k := by
  unfold k0_pay20 k0_pay19
  pointwise [sw_at x y z w lg lb, sz_at x y z w lg lb, Row.dw, blkRow]

end

theorem zero5 (i) : (k0_pay5 (F := Ideal)) i = 0 := by
  unfold_payloads
  pointwise
theorem zero6 (i) : (k0_pay6 (F := Ideal)) i = 0 := by
  unfold_payloads
  pointwise
theorem zero7 (i) : (k0_pay7 (F := Ideal)) i = 0 := by
  unfold_payloads
  pointwise
theorem zero8 (i) : (k0_pay8 (F := Ideal)) i = 0 := by
  unfold_payloads
  pointwise
theorem pay4_at (a : Vec Ideal S2048x1024 .f32) (i) : k0_pay4 a i = a i := by
  idx_vars i
  unfold_payloads
  pointwise

end Cert.OconvKIdeal.Rows
-- ==== Proof.OconvBlk.lean ====
/-
  The convolution mixer's norm, swish, gate and output product, backward: a block's rows as rows of the arguments, and
  the kernel's six results read at an index of the arguments.
-/
module

public import proofs.«01_k».proof.Proof.OconvKernel

@[expose] public section

set_option maxRecDepth 16384

noncomputable section

namespace Cert.OconvKIdeal.Rows

open Idealize.ShloMosaic Idealize.ShloMosaic.TcCoe Idealize.SL.Sem
open Cert.OconvKIdeal Cert.OconvKIdeal.Gen Cert.Oconv

variable (m : (ℓ : Loc nD τ sig) → Buf (Elt Ideal) ℓ) (ρ : Dev nD → PrngReg)

/-- A column of the gate's part of the projection. -/
def zcol (k : Fin 2048) : Fin 6144 := ⟨4096 + k.val, by omega⟩

/-- Row `s` of batch `b`. -/
def ofArgs (x0 : S2x4096x2048.Idx → EReal) (x1 : S2x4096x6144.Idx → EReal) (x2 : S2048x1024.Idx → EReal)
    (x3 x4 x5 : S2048.Idx → EReal) (x6 : S2x4096x1024.Idx → EReal) (b : Fin 2) (s : Fin 4096) : Row where
  y k := x0 (ix3 b s k) + x3 (ix1 k)
  z k := x1 (ix3 b s (zcol k))
  ct k := x6 (ix3 b s k)
  w j k := x2 (ix2 j k)
  lg k := x4 (ix1 k)
  lb k := x5 (ix1 k)

def row (c : Dev nD) (b : Fin 2) (s : Fin 4096) : Row :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b s

theorem row_lt (t : Fin cfg0.N) (r : Fin 256) : (t.val * 256 + r.val) / 4096 < 2 := by
  have := t.isLt; have : cfg0.N = 32 := N_0; omega

/-- Row `r` of block `t`, by its batch and its place in it. -/
def at256 (f : Fin 2 → Fin 4096 → Row) (t : Fin cfg0.N) (r : Fin 256) : Row :=
  f ⟨(t.val * 256 + r.val) / 4096, row_lt t r⟩ ⟨(t.val * 256 + r.val) % 4096, Nat.mod_lt _ (by decide)⟩

theorem blk0 (c : Dev nD) (t : Fin cfg0.N) (r : Fin 256) (j : Fin 1024) :
    iblk m c 0 t (ix2 r j) = (at256 (row m c) t r).ct j := by
  obtain ⟨e0, e1, e2, e3, e4, e5, e6, e7⟩ := idx0 t
  unfold at256 row ofArgs
  blk_ext! [iblk, V, e0]

theorem blk1 (c : Dev nD) (t : Fin cfg0.N) (r : Fin 256) (j : Fin 2048) :
    iblk m c 1 t (ix2 r j) = (at256 (row m c) t r).y j := by
  obtain ⟨e0, e1, e2, e3, e4, e5, e6, e7⟩ := idx0 t
  have h1 : (win0_1.blk t).view.emb (ix2 r j) 1 = j := Fin.ext (by blk_simp [e1])
  refine Eq.trans ?_ (congrArg (at256 (row m c) t r).y h1)
  unfold at256 row ofArgs
  dsimp only
  blk_simp [iblk, e1]
  entry_read
  pointwise
  blk_simp [e1]

theorem blk2 (c : Dev nD) (t : Fin cfg0.N) (r : Fin 256) (j : Fin 2048) :
    iblk m c 2 t (ix2 r j) = (at256 (row m c) t r).z j := by
  obtain ⟨e0, e1, e2, e3, e4, e5, e6, e7⟩ := idx0 t
  unfold at256 row ofArgs zcol
  blk_ext! [iblk, V, e2]

theorem blk3 (c : Dev nD) (t : Fin cfg0.N) (r : Fin 256) (i : Fin 2048) (j : Fin 1024) :
    iblk m c 3 t (ix2 i j) = (at256 (row m c) t r).w i j := by
  obtain ⟨e0, e1, e2, e3, e4, e5, e6, e7⟩ := idx0 t
  unfold at256 row ofArgs
  blk_ext! [iblk, V, e3]

theorem blk4 (c : Dev nD) (t : Fin cfg0.N) (r : Fin 256) (z : Fin 1) (j : Fin 2048) :
    iblk m c 4 t (ix2 z j) = (at256 (row m c) t r).lg j := by
  obtain ⟨e0, e1, e2, e3, e4, e5, e6, e7⟩ := idx0 t
  unfold at256 row ofArgs
  blk_ext! [iblk, V, e4]

theorem blk5 (c : Dev nD) (t : Fin cfg0.N) (r : Fin 256) (z : Fin 1) (j : Fin 2048) :
    iblk m c 5 t (ix2 z j) = (at256 (row m c) t r).lb j := by
  obtain ⟨e0, e1, e2, e3, e4, e5, e6, e7⟩ := idx0 t
  unfold at256 row ofArgs
  blk_ext! [iblk, V, e5]

theorem blk_row (c : Dev nD) (t : Fin cfg0.N) (r : Fin 256) :
    blkRow (iblk m c 0 t) (iblk m c 1 t) (iblk m c 2 t) (iblk m c 3 t) (iblk m c 4 t) (iblk m c 5 t) r = at256 (row m c) t r := by
  unfold blkRow
  simp only [blk0, blk1, blk2, blk3 m c t r, blk4 m c t r, blk5 m c t r]

/-! ## The six arrays -/

/-- A function of the rows, at a row of all rows. -/
def flat (f : Fin 2 → Fin 4096 → Fin 2048 → EReal) : S8192x2048.Idx → EReal := fun i =>
  have hb : (i 0).val / 4096 < 2 := by have := (i 0).isLt; simp at this; omega
  have hs : (i 0).val % 4096 < 4096 := Nat.mod_lt _ (by decide)
  f ⟨(i 0).val / 4096, hb⟩ ⟨(i 0).val % 4096, hs⟩ ⟨(i 1).val, (i 1).isLt⟩

def Gdy (c : Dev nD) : S8192x2048.Idx → EReal := flat fun b s => (row m c b s).dy
def Gdz (c : Dev nD) : S8192x2048.Idx → EReal := flat fun b s => (row m c b s).dz
def Gdw (c : Dev nD) : S2048x1024.Idx → EReal := fun i => ∑ b, ∑ s, (row m c b s).dw ⟨(i 0).val, (i 0).isLt⟩ ⟨(i 1).val, (i 1).isLt⟩
def Gdlg (c : Dev nD) : S1x2048.Idx → EReal := fun i => ∑ b, ∑ s, (row m c b s).dlg ⟨(i 1).val, (i 1).isLt⟩
def Gdlb (c : Dev nD) : S1x2048.Idx → EReal := fun i => ∑ b, ∑ s, (row m c b s).dn ⟨(i 1).val, (i 1).isLt⟩
def Gdcb (c : Dev nD) : S1x2048.Idx → EReal := fun i => ∑ b, ∑ s, (row m c b s).dy ⟨(i 1).val, (i 1).isLt⟩

theorem dnB_at (c : Dev nD) (t : Fin cfg0.N) (r : Fin 256) (j : Fin 2048) : dnB m c t (ix2 r j)
    = (blkRow (iblk m c 0 t) (iblk m c 1 t) (iblk m c 2 t) (iblk m c 3 t) (iblk m c 4 t) (iblk m c 5 t) r).dn j := dn_at _ _ _ _ _ _ _ _

theorem final_dy (c : Dev nD) : (dats m 0 c).arrAt 6 cfg0.N = Gdy m c := by
  refine (dats m 0 c).arrAt_eq_of_covers 6 _ (by decide +kernel) fun t hf y => ?_
  obtain ⟨e0, e1, e2, e3, e4, e5, e6, e7⟩ := idx0 t
  blk_simp
  rw [after0_6, show (outsAt0 m c t.val t.isLt).1 = _ from (Prod.ext_iff.mp (outs67 m c t)).1]
  idx_vars y
  refine (dy_at _ _ _ _ _ _ _ _ _ (dnB_at m c t)).trans ?_
  rw [blk_row]
  unfold Gdy flat at256
  blk_simp [e6]

theorem final_dz (c : Dev nD) : (dats m 0 c).arrAt 7 cfg0.N = Gdz m c := by
  refine (dats m 0 c).arrAt_eq_of_covers 7 _ (by decide +kernel) fun t hf y => ?_
  obtain ⟨e0, e1, e2, e3, e4, e5, e6, e7⟩ := idx0 t
  blk_simp
  rw [after0_7, show (outsAt0 m c t.val t.isLt).2.1 = _ from (Prod.ext_iff.mp (outs67 m c t)).2]
  idx_vars y
  refine (dz_at _ _ _ _ _ _ _ _).trans ?_
  rw [blk_row]
  unfold Gdz flat at256
  blk_simp [e7]

/-- A sum that each point takes further by its block's part holds, after the last point, the sum over all rows. -/
theorem sum_of_steps (l : Fin cfg0.N) (hl : l.val + 1 = cfg0.N) (c : Dev nD) (out : ∀ n, n < cfg0.N → EReal) (f : Row → EReal)
    (h0 : ∀ t : Fin cfg0.N, t.val % 32 = 0 → out t.val t.isLt = 0 + ∑ r, f (at256 (row m c) t r))
    (h1 : ∀ t : Fin cfg0.N, ¬t.val % 32 = 0 → out t.val t.isLt
      = out (t.val - 1) (Nat.lt_of_le_of_lt (Nat.sub_le _ _) t.isLt) + ∑ r, f (at256 (row m c) t r)) :
    out l.val l.isLt = ∑ b, ∑ s, f (row m c b s) := by
  refine (Pipeline.eq_sum_fin_of_reset_step_last out 32 0 (fun t => ∑ r, f (at256 (row m c) t r)) h0 h1 (le_of_eq N_0) l hl).trans ?_
  rw [zero_add]
  exact Sums.sum_blocks cfg0.N 256 (by decide) (by rw [show cfg0.N = 32 from N_0]) (fun b s => f (row m c b s))

section

variable (l : Fin cfg0.N) (hl : l.val + 1 = cfg0.N)

include hl in
theorem last_mod : l.val % 32 = 31 := by have : cfg0.N = 32 := N_0; omega

include hl

theorem dlg_sum (c : Dev nD) (z : Fin 1) (j : Fin 2048) :
    (outsAt0 m c l.val l.isLt).2.2.2.1 (ix2 z j) = ∑ b, ∑ s, (row m c b s).dlg j := by
  refine sum_of_steps m l hl c (fun n h => (outsAt0 m c n h).2.2.2.1 (ix2 z j)) (·.dlg j) (fun t h => ?_) (fun t h => ?_)
  · rw [outs_first m c t h]
    refine (dlg_at _ _ _ _ _ _ _ _ _).trans ?_
    simp only [blk_row, zero6]
  · rw [outs_next m c t h]
    refine (dlg_at _ _ _ _ _ _ _ _ _).trans ?_
    simp only [blk_row]

theorem dlb_sum (c : Dev nD) (z : Fin 1) (j : Fin 2048) :
    (outsAt0 m c l.val l.isLt).2.2.2.2.1 (ix2 z j) = ∑ b, ∑ s, (row m c b s).dn j := by
  refine sum_of_steps m l hl c (fun n h => (outsAt0 m c n h).2.2.2.2.1 (ix2 z j)) (·.dn j) (fun t h => ?_) (fun t h => ?_)
  · rw [outs_first m c t h]
    refine (dlb_at _ _ _ _ _ _ _ _ _ _ (dnB_at m c t)).trans ?_
    simp only [blk_row, zero7]
  · rw [outs_next m c t h]
    refine (dlb_at _ _ _ _ _ _ _ _ _ _ (dnB_at m c t)).trans ?_
    simp only [blk_row]

theorem dcb_sum (c : Dev nD) (z : Fin 1) (j : Fin 2048) :
    (outsAt0 m c l.val l.isLt).2.2.2.2.2.1 (ix2 z j) = ∑ b, ∑ s, (row m c b s).dy j := by
  refine sum_of_steps m l hl c (fun n h => (outsAt0 m c n h).2.2.2.2.2.1 (ix2 z j)) (·.dy j) (fun t h => ?_) (fun t h => ?_)
  · rw [outs_first m c t h]
    refine (dcb_at _ _ _ _ _ _ _ _ _ _ (dnB_at m c t)).trans ?_
    simp only [blk_row, zero8]
  · rw [outs_next m c t h]
    refine (dcb_at _ _ _ _ _ _ _ _ _ _ (dnB_at m c t)).trans ?_
    simp only [blk_row]

theorem dw_sum (c : Dev nD) (j : Fin 2048) (k : Fin 1024) :
    (outsAt0 m c l.val l.isLt).2.2.2.2.2.2 (ix2 j k) = ∑ b, ∑ s, (row m c b s).dw j k := by
  refine sum_of_steps m l hl c (fun n h => (outsAt0 m c n h).2.2.2.2.2.2 (ix2 j k)) (·.dw j k) (fun t h => ?_) (fun t h => ?_)
  · rw [outs_first m c t h]
    refine (dw_at _ _ _ (iblk m c 3 t) _ _ _ _ _).trans ?_
    simp only [blk_row, zero5]
  · rw [outs_next m c t h]
    refine (dw_at _ _ _ (iblk m c 3 t) _ _ _ _ _).trans ?_
    simp only [blk_row]

theorem after_dw (c : Dev nD) (j : _) : (dats m 0 c).after 8 l j = Gdw m c j := by
  refine (congrFun ((after0_8 m c l).trans (outs_last8 m c l (last_mod l hl))) j).trans ?_
  idx_vars j
  exact (pay4_at _ _).trans (dw_sum m l hl c j0 j1)

theorem after_dlg (c : Dev nD) (j : _) : (dats m 0 c).after 9 l j = Gdlg m c j := by
  refine (congrFun (after0_9 m c l) j).trans ?_
  idx_vars j
  exact dlg_sum m l hl c j0 j1

theorem after_dlb (c : Dev nD) (j : _) : (dats m 0 c).after 10 l j = Gdlb m c j := by
  refine (congrFun (after0_10 m c l) j).trans ?_
  idx_vars j
  exact dlb_sum m l hl c j0 j1

theorem after_dcb (c : Dev nD) (j : _) : (dats m 0 c).after 11 l j = Gdcb m c j := by
  refine (congrFun (after0_11 m c l) j).trans ?_
  idx_vars j
  exact dcb_sum m l hl c j0 j1

end

/-- The last block. -/
def tl : Fin cfg0.N := ⟨31, by rw [show cfg0.N = 32 from N_0]; decide⟩

theorem final_dw (c : Dev nD) : (dats m 0 c).arrAt 8 cfg0.N = Gdw m c :=
  (dats m 0 c).arrAt_eq_of_after_last 8 tl (by decide +kernel) _ (after_dw m tl rfl c)
theorem final_dlg (c : Dev nD) : (dats m 0 c).arrAt 9 cfg0.N = Gdlg m c :=
  (dats m 0 c).arrAt_eq_of_after_last 9 tl (by decide +kernel) _ (after_dlg m tl rfl c)
theorem final_dlb (c : Dev nD) : (dats m 0 c).arrAt 10 cfg0.N = Gdlb m c :=
  (dats m 0 c).arrAt_eq_of_after_last 10 tl (by decide +kernel) _ (after_dlb m tl rfl c)
theorem final_dcb (c : Dev nD) : (dats m 0 c).arrAt 11 cfg0.N = Gdcb m c :=
  (dats m 0 c).arrAt_eq_of_after_last 11 tl (by decide +kernel) _ (after_dcb m tl rfl c)

end Cert.OconvKIdeal.Rows
-- ==== Proof.OconvValue.lean ====
/-
  The convolution mixer's norm, swish, gate and output product, backward: what the reference computes, read at an index,
  in the kernel's terms.
-/
module

public import proofs.«01_k».proof.Proof.OconvBlk
public import proofs.«01_k».proof.Proof.Gen.OconvRIdeal.Read

@[expose] public section

set_option maxRecDepth 16384

noncomputable section

namespace Cert.OconvRIdeal.Rows

open Idealize.ShloMosaic Idealize.ShloMosaic.TcCoe Idealize.SL.Sem
open Cert.OconvRIdeal.Read Cert.Oconv
open Cert.OconvKIdeal.Rows (ofArgs zcol)
open Cert.Sgu (sgm n2048 eps)

variable (x0 : (⟨S2x4096x2048, .f32⟩ : BufTy).Contents (Elt Ideal)) (x1 : (⟨S2x4096x6144, .f32⟩ : BufTy).Contents (Elt Ideal))
  (x2 : (⟨S2048x1024, .f32⟩ : BufTy).Contents (Elt Ideal)) (x3 x4 x5 : (⟨S2048, .f32⟩ : BufTy).Contents (Elt Ideal))
  (x6 : (⟨S2x4096x1024, .f32⟩ : BufTy).Contents (Elt Ideal)) (b : Fin 2) (s : Fin 4096)

theorem xc_at (j : Fin 2048) : val_main_v11 x0 x3 (ix3 b s j) = (ofArgs x0 x1 x2 x3 x4 x5 x6 b s).xc j := by
  pointwise [val_main_v3, val_main_v4, val_main_v5, val_main_cst, val_main_v6, val_main_v7, val_main_cst_0, val_main_v8, val_main_v9,
    val_main_v10, val_main_v11, Row.xc, n2048, ofArgs]

theorem var_at : val_main_v18 x0 x3 (ix3 b s 0) = (ofArgs x0 x1 x2 x3 x4 x5 x6 b s).var := by
  pointwise [xc_at x0 x1 x2 x3 x4 x5 x6 b s, val_main_v12, val_main_cst_1, val_main_v13, val_main_v14, val_main_cst_2, val_main_v15,
    val_main_v16, val_main_cst_3, val_main_v17, val_main_v18, Row.var, n2048, eps]

theorem rstd_at : val_main_v19 x0 x3 (ix3 b s 0) = (ofArgs x0 x1 x2 x3 x4 x5 x6 b s).rstd := by
  pointwise [var_at x0 x1 x2 x3 x4 x5 x6 b s, val_main_v19, Row.rstd, Row.var]

theorem xh_at (j : Fin 2048) : val_main_v24 x0 x3 (ix3 b s j) = (ofArgs x0 x1 x2 x3 x4 x5 x6 b s).xh j := by
  pointwise [xc_at x0 x1 x2 x3 x4 x5 x6 b s, rstd_at x0 x1 x2 x3 x4 x5 x6 b s, val_main_v23, val_main_v24, Row.xh]

theorem n_at (j : Fin 2048) : val_main_v30 x0 x3 x4 x5 (ix3 b s j) = (ofArgs x0 x1 x2 x3 x4 x5 x6 b s).n j := by
  pointwise [xh_at x0 x1 x2 x3 x4 x5 x6 b s, val_main_v25, val_main_v26, val_main_v27, val_main_v28, val_main_v29, val_main_v30,
    Row.n, ofArgs]

theorem z_at (j : Fin 2048) : val_main_v2 x1 (ix3 b s j) = (ofArgs x0 x1 x2 x3 x4 x5 x6 b s).z j := by
  pointwise [val_main_v2, ofArgs, zcol]

theorem sn_at (j : Fin 2048) : val_main_v31_2 x0 x3 x4 x5 (ix3 b s j) = sgm ((ofArgs x0 x1 x2 x3 x4 x5 x6 b s).n j) := by
  pointwise [n_at x0 x1 x2 x3 x4 x5 x6 b s, val_main_call0_v0, val_main_call0_v1, val_main_call0_cst, val_main_call0_v2,
    val_main_call0_v3, val_main_call0_cst_0, val_main_call0_v4, val_main_v31_2, sgm, Ideal.logistic]

theorem s_at (j : Fin 2048) : val_main_v32_2 x1 (ix3 b s j) = sgm ((ofArgs x0 x1 x2 x3 x4 x5 x6 b s).z j) := by
  pointwise [z_at x0 x1 x2 x3 x4 x5 x6 b s, val_main_call1_v0, val_main_call1_v1, val_main_call1_cst, val_main_call1_v2,
    val_main_call1_v3, val_main_call1_cst_0, val_main_call1_v4, val_main_v32_2, sgm, Ideal.logistic]

theorem sw_at (j : Fin 2048) : val_main_v31_0 x0 x3 x4 x5 (ix3 b s j) = (ofArgs x0 x1 x2 x3 x4 x5 x6 b s).sw j := by
  pointwise [n_at x0 x1 x2 x3 x4 x5 x6 b s, sn_at x0 x1 x2 x3 x4 x5 x6 b s, val_main_v31_0, Row.sw]

theorem sz_at (j : Fin 2048) : val_main_v32_0 x1 (ix3 b s j) = (ofArgs x0 x1 x2 x3 x4 x5 x6 b s).sz j := by
  pointwise [z_at x0 x1 x2 x3 x4 x5 x6 b s, s_at x0 x1 x2 x3 x4 x5 x6 b s, val_main_v32_0, Row.sz]

theorem dq_at (j : Fin 2048) : val_main_v37 x2 x6 (ix3 b s j) = (ofArgs x0 x1 x2 x3 x4 x5 x6 b s).dq j := by
  pointwise [val_main_v37, Row.dq, ofArgs]

theorem dz_at (j : Fin 2048) : val_main_v40 x0 x1 x2 x3 x4 x5 x6 (ix3 b s j) = (ofArgs x0 x1 x2 x3 x4 x5 x6 b s).dzB j := by
  pointwise [z_at x0 x1 x2 x3 x4 x5 x6 b s, s_at x0 x1 x2 x3 x4 x5 x6 b s, sw_at x0 x1 x2 x3 x4 x5 x6 b s,
    dq_at x0 x1 x2 x3 x4 x5 x6 b s, val_main_call1_cst_1, val_main_call1_v6, val_main_call1_v7, val_main_v32_1, val_main_v38,
    val_main_call2_v0, val_main_call2_v1, val_main_call2_v2, val_main_v40, Row.dzB]

theorem dn_at (j : Fin 2048) : val_main_v41 x0 x1 x2 x3 x4 x5 x6 (ix3 b s j) = (ofArgs x0 x1 x2 x3 x4 x5 x6 b s).dnB j := by
  pointwise [n_at x0 x1 x2 x3 x4 x5 x6 b s, sn_at x0 x1 x2 x3 x4 x5 x6 b s, sz_at x0 x1 x2 x3 x4 x5 x6 b s,
    dq_at x0 x1 x2 x3 x4 x5 x6 b s, val_main_call0_cst_1, val_main_call0_v6, val_main_call0_v7, val_main_v31_1, val_main_v39,
    val_main_call3_v0, val_main_call3_v1, val_main_call3_v2, val_main_v41, Row.dnB]

section

variable (h : ∀ b s, (ofArgs x0 x1 x2 x3 x4 x5 x6 b s).AllR)
include h

theorem dx_at (j : Fin 2048) : val_main_v49 x0 x1 x2 x3 x4 x5 x6 (ix3 b s j) = (ofArgs x0 x1 x2 x3 x4 x5 x6 b s).dx j := by
  have e : val_main_v49 x0 x1 x2 x3 x4 x5 x6 (ix3 b s j) = (ofArgs x0 x1 x2 x3 x4 x5 x6 b s).dnB j * x4 (ix1 j) := by
    pointwise [dn_at x0 x1 x2 x3 x4 x5 x6 b s, val_main_v25, val_main_v48, val_main_v49]
  rw [e, ← (h b s).dn_eq]
  rfl

theorem dvar_at : val_main_v59 x0 x1 x2 x3 x4 x5 x6 (ix2 b s) = (ofArgs x0 x1 x2 x3 x4 x5 x6 b s).dvar := by
  pointwise [xc_at x0 x1 x2 x3 x4 x5 x6 b s, dx_at x0 x1 x2 x3 x4 x5 x6 b s h, rstd_at x0 x1 x2 x3 x4 x5 x6 b s,
    var_at x0 x1 x2 x3 x4 x5 x6 b s, val_main_v20, val_main_cst_4, val_main_v21, val_main_v22, val_main_v51, val_main_cst_9,
    val_main_v52, val_main_v53, val_main_v56, val_main_cst_10, val_main_v57, val_main_v58, val_main_cst_11, val_main_v59,
    Fin.sum_univ_one, Row.dvar, n2048]

theorem dxc_at (j : Fin 2048) : val_main_v64 x0 x1 x2 x3 x4 x5 x6 (ix3 b s j) = (ofArgs x0 x1 x2 x3 x4 x5 x6 b s).dxc j := by
  pointwise [xc_at x0 x1 x2 x3 x4 x5 x6 b s, dx_at x0 x1 x2 x3 x4 x5 x6 b s h, rstd_at x0 x1 x2 x3 x4 x5 x6 b s,
    dvar_at x0 x1 x2 x3 x4 x5 x6 b s h, val_main_v54, val_main_v55, val_main_v60, val_main_v61, val_main_v62, val_main_v63,
    val_main_v64, Row.dxc]

theorem dy_at (j : Fin 2048) : val_main_v72 x0 x1 x2 x3 x4 x5 x6 (ix3 b s j) = (ofArgs x0 x1 x2 x3 x4 x5 x6 b s).dy j := by
  rw [(h b s).dy_eq]
  pointwise [dxc_at x0 x1 x2 x3 x4 x5 x6 b s h, val_main_v65, val_main_cst_12, val_main_v66, val_main_v67, val_main_cst_13,
    val_main_v68, val_main_v69, val_main_cst_14, val_main_v70, val_main_v71, val_main_v72, Fin.sum_univ_one, Row.dyB, n2048]

/-! ## The gradients -/

theorem v76_at (n : Fin 8192) (j : Fin 2048) : val_main_v76 x0 x1 x2 x3 x4 x5 x6 (ix2 n j)
    = (ofArgs x0 x1 x2 x3 x4 x5 x6 ⟨n.val / 4096, by omega⟩ ⟨n.val % 4096, Nat.mod_lt _ (by decide)⟩).dy j := by
  rw [← dy_at x0 x1 x2 x3 x4 x5 x6 _ _ h]
  pointwise [val_main_v76]

theorem v78_at (n : Fin 8192) (j : Fin 2048) : val_main_v78 x0 x1 x2 x3 x4 x5 x6 (ix2 n j)
    = (ofArgs x0 x1 x2 x3 x4 x5 x6 ⟨n.val / 4096, by omega⟩ ⟨n.val % 4096, Nat.mod_lt _ (by decide)⟩).dz j := by
  rw [(h _ _).dz_eq, ← dz_at x0 x1 x2 x3 x4 x5 x6]
  pointwise [val_main_v77, val_main_v78]

omit h in
theorem v79_at (j : Fin 2048) (k : Fin 1024) :
    val_main_v79 x0 x1 x3 x4 x5 x6 (ix2 j k) = ∑ b, ∑ s, (ofArgs x0 x1 x2 x3 x4 x5 x6 b s).dw j k := by
  have e : val_main_v79 x0 x1 x3 x4 x5 x6 (ix2 j k) = ∑ b : Fin 2, ∑ s : Fin 4096, x6 (ix3 b s k)
      * ((ofArgs x0 x1 x2 x3 x4 x5 x6 b s).sw j * (ofArgs x0 x1 x2 x3 x4 x5 x6 b s).sz j) := by
    pointwise [sw_at x0 x1 x2 x3 x4 x5 x6, sz_at x0 x1 x2 x3 x4 x5 x6, val_main_v33, val_main_v35, val_main_v36, val_main_v79]
  rw [e]
  exact Finset.sum_congr rfl fun b _ => Finset.sum_congr rfl fun s _ => mul_comm _ _

theorem v80_at (z : Fin 1) (j : Fin 2048) : val_main_v80 x0 x1 x2 x3 x4 x5 x6 (ix2 z j)
    = ∑ b, ∑ s, (ofArgs x0 x1 x2 x3 x4 x5 x6 b s).dlg j := by
  have e : val_main_v80 x0 x1 x2 x3 x4 x5 x6 (ix2 z j) = ∑ b : Fin 2, ∑ s : Fin 4096,
      (ofArgs x0 x1 x2 x3 x4 x5 x6 b s).xh j * (ofArgs x0 x1 x2 x3 x4 x5 x6 b s).dnB j := by
    pointwise [xh_at x0 x1 x2 x3 x4 x5 x6, dn_at x0 x1 x2 x3 x4 x5 x6, Sums.hostReduceAdd_r3_a01, val_main_v45, val_main_cst_7,
      val_main_v46, val_main_v47, val_main_cst_8, val_main_v50, val_main_v80, Fin.sum_univ_one]
  rw [e]
  refine Finset.sum_congr rfl fun b _ => Finset.sum_congr rfl fun s _ => ?_
  rw [← (h b s).dn_eq]
  exact mul_comm _ _

theorem v81_at (z : Fin 1) (j : Fin 2048) : val_main_v81 x0 x1 x2 x3 x4 x5 x6 (ix2 z j)
    = ∑ b, ∑ s, (ofArgs x0 x1 x2 x3 x4 x5 x6 b s).dn j := by
  simp only [(h _ _).dn_eq, ← dn_at x0 x1 x2 x3 x4 x5 x6]
  pointwise [Sums.hostReduceAdd_r3_a01, val_main_cst_5, val_main_v42, val_main_v43, val_main_cst_6, val_main_v44, val_main_v81,
    Fin.sum_univ_one]

theorem v82_at (z : Fin 1) (j : Fin 2048) : val_main_v82 x0 x1 x2 x3 x4 x5 x6 (ix2 z j)
    = ∑ b, ∑ s, (ofArgs x0 x1 x2 x3 x4 x5 x6 b s).dy j := by
  simp only [← dy_at x0 x1 x2 x3 x4 x5 x6 _ _ h]
  pointwise [Sums.hostReduceAdd_r3_a01, val_main_cst_15, val_main_v73, val_main_v74, val_main_cst_16, val_main_v75, val_main_v82,
    Fin.sum_univ_one]

end

end Cert.OconvRIdeal.Rows
-- ==== Proof.OconvClaims.lean ====
/-
  The convolution mixer's norm, swish, gate and output product, backward: its claims.
-/
module

public import proofs.«01_k».proof.Defs
public import proofs.«01_k».proof.Proof.Finite
public import proofs.«01_k».proof.Proof.OconvValue
public import proofs.«01_k».proof.Proof.Gen.OconvK.Frame
public import proofs.«01_k».proof.Proof.Gen.OconvRIdeal.Run

@[expose] public section

set_option maxRecDepth 16384

noncomputable section

namespace Cert.Oconv

open Idealize.ShloMosaic Idealize.ShloMosaic.TcCoe Idealize.SL.Sem Cert.OconvKIdeal.Rows Cert.OconvRIdeal.Rows

theorem pre_facts : Cert.Pre_finite_oconv.Facts := by
  constructor <;> decide

/-- The rows of real arguments are real. -/
theorem real_ofArgs [Cert.Pre_finite_oconv.Facts] (x0 x1 x2 x3 x4 x5 x6)
    (h : Cert.Pre_finite_oconv.fn (F := Ideal) x0 x1 x2 x3 x4 x5 x6 = fun _ => 1#1) (b : Fin 2) (s : Fin 4096) :
    (ofArgs x0 x1 x2 x3 x4 x5 x6 b s).AllR := by
  have e := congrFun h (Shape.Idx.first (by decide))
  obtain ⟨e, h6⟩ := Reals.and_all e
  obtain ⟨e, h5⟩ := Reals.and_all e
  obtain ⟨e, h4⟩ := Reals.and_all e
  obtain ⟨e, h3⟩ := Reals.and_all e
  obtain ⟨e, h2⟩ := Reals.and_all e
  obtain ⟨e, h1⟩ := Reals.and_all e
  obtain ⟨_, h0⟩ := Reals.and_all e
  exact ⟨fun _ => Reals.IsR.add (Reals.real_of_all h0 _) (Reals.real_of_all h3 _), fun _ => Reals.real_of_all h1 _,
    fun _ => Reals.real_of_all h6 _, fun _ _ => Reals.real_of_all h2 _, fun _ => Reals.real_of_all h4 _, fun _ => Reals.real_of_all h5 _⟩

theorem frame_r : Cert.quiescent_OconvRIdeal := fun m ρ _ =>
  (θ_run Cert.OconvRIdeal.defs _ _).mono (fun r h => ⟨fun c => (h c).2.2.2.2.2.2, sem_eq_zero_of_no_sems (by decide) r.2⟩)
    (Cert.OconvRIdeal.Value.run m ρ)

theorem algebraic [Cert.Pre_finite_oconv.Facts] : Cert.algebraic_OconvKIdeal_OconvRIdeal_pre_finite_oconv := fun m ρ m' ρ' hp hag =>
  ⟨Gdy m, Gdz m, Gdw m, Gdlg m, Gdlb m, Gdcb m,
    (θ_run Cert.OconvKIdeal.defs _ _).mono (fun _ h c => ⟨(h c).1.trans (final_dy m c), (h c).2.1.trans (final_dz m c),
      (h c).2.2.1.trans (final_dw m c), (h c).2.2.2.1.trans (final_dlg m c), (h c).2.2.2.2.1.trans (final_dlb m c),
      (h c).2.2.2.2.2.1.trans (final_dcb m c), (h c).2.2.2.2.2.2⟩) (Cert.OconvKIdeal.Value.run_blocks m ρ),
    (θ_run Cert.OconvRIdeal.defs _ _).mono (fun _ h c => by
      obtain ⟨a0, a1, a2, a3, a4, a5, a6⟩ := hag c
      have hr := real_ofArgs _ _ _ _ _ _ _ (hp c)
      refine ⟨(h c).1.trans ?_, (h c).2.1.trans ?_, (h c).2.2.1.trans ?_, (h c).2.2.2.1.trans ?_, (h c).2.2.2.2.1.trans ?_,
        (h c).2.2.2.2.2.1.trans ?_, (h c).2.2.2.2.2.2⟩
      · rw [Cert.OconvRIdeal.Read.val_main_v76_eq]
        refine (congr (congr (congr (congr (congr (congr (congrArg Cert.OconvRIdeal.Read.val_main_v76 a0) a1) a2) a3) a4) a5) a6).trans ?_
        funext i
        idx_vars i
        exact v76_at _ _ _ _ _ _ _ hr _ _
      · rw [Cert.OconvRIdeal.Read.val_main_v78_eq]
        refine (congr (congr (congr (congr (congr (congr (congrArg Cert.OconvRIdeal.Read.val_main_v78 a0) a1) a2) a3) a4) a5) a6).trans ?_
        funext i
        idx_vars i
        exact v78_at _ _ _ _ _ _ _ hr _ _
      · rw [Cert.OconvRIdeal.Read.val_main_v79_eq]
        refine (congr (congr (congr (congr (congr (congrArg Cert.OconvRIdeal.Read.val_main_v79 a0) a1) a3) a4) a5) a6).trans ?_
        funext i
        idx_vars i
        exact v79_at _ _ _ _ _ _ _ _ _
      · rw [Cert.OconvRIdeal.Read.val_main_v80_eq]
        refine (congr (congr (congr (congr (congr (congr (congrArg Cert.OconvRIdeal.Read.val_main_v80 a0) a1) a2) a3) a4) a5) a6).trans ?_
        funext i
        idx_vars i
        exact v80_at _ _ _ _ _ _ _ hr _ _
      · rw [Cert.OconvRIdeal.Read.val_main_v81_eq]
        refine (congr (congr (congr (congr (congr (congr (congrArg Cert.OconvRIdeal.Read.val_main_v81 a0) a1) a2) a3) a4) a5) a6).trans ?_
        funext i
        idx_vars i
        exact v81_at _ _ _ _ _ _ _ hr _ _
      · rw [Cert.OconvRIdeal.Read.val_main_v82_eq]
        refine (congr (congr (congr (congr (congr (congr (congrArg Cert.OconvRIdeal.Read.val_main_v82 a0) a1) a2) a3) a4) a5) a6).trans ?_
        funext i
        idx_vars i
        exact v82_at _ _ _ _ _ _ _ hr _ _) (Cert.OconvRIdeal.Value.run m' ρ')⟩

end Cert.Oconv
-- ==== Proof.LsguRow.lean ====
/-
  A gMLP layer: one chunk of 128 rows of its input and of its embedding, and the parameters, as functions; and
  everything the layer computes from them, a name each. The mixer is that of `Chunk`.
-/
module

public import proofs.«01_k».proof.Proof.SguArgs

@[expose] public section

noncomputable section

namespace Cert.Lsgu

open Idealize.ShloMosaic Cert.Sgu

def n1024 : EReal := Ideal.ofBits .f32 0x44800000#32
/-- The inverse root mean square of a row. -/
def rr (x : Fin 1024 → EReal) : EReal := Ideal.rsqrt (Ideal.div (∑ k, x k * x k) n1024 + eps)

structure Layer where
  x : Fin 128 → Fin 1024 → EReal
  p : Fin 128 → Fin 256 → EReal
  g : Fin 1024 → EReal
  V : Fin 1024 → Fin 6144 → EReal
  W : Fin 2048 → Fin 1024 → EReal
  lg : Fin 2048 → EReal
  lb : Fin 2048 → EReal
  S : Fin 8 → Fin 128 → Fin 128 → EReal
  T : Fin 8 → Fin 128 → EReal
  pg : Fin 1024 → EReal
  gw : Fin 1024 → Fin 1024 → EReal
  pw : Fin 256 → Fin 1024 → EReal

namespace Layer

variable (l : Layer)

def h (t : Fin 128) (k : Fin 1024) : EReal := l.x t k * rr (l.x t) * l.g k
def proj (t : Fin 128) (j : Fin 6144) : EReal := ∑ k, l.h t k * l.V k j
/-- The mixer's chunk. -/
def ck : Chunk where
  A t j := l.proj t (pcol 0 j)
  B t j := l.proj t (pcol 1 j)
  Z t j := l.proj t (pcol 2 j)
  X _ _ := 0
  W := l.W
  lg := l.lg
  lb := l.lb
  S := l.S
  T := l.T
def x1 (t : Fin 128) (k : Fin 1024) : EReal := l.x t k + ∑ j, l.ck.y t j * l.ck.sz t j * l.W j k
def gate (t : Fin 128) (k : Fin 1024) : EReal := Ideal.logistic (∑ i, l.x1 t i * rr (l.x1 t) * l.pg i * l.gw i k)
def x2 (t : Fin 128) (k : Fin 1024) : EReal := l.x1 t k + l.gate t k * ∑ i, l.p t i * l.pw i k

end Layer

/-- Chunk `n` of batch `b` of the arguments. -/
def ofArgs (x : (⟨3, ![2, 4096, 1024]⟩ : Shape).Idx → EReal) (p : (⟨3, ![2, 4096, 256]⟩ : Shape).Idx → EReal)
    (g : (⟨1, ![1024]⟩ : Shape).Idx → EReal) (V : (⟨2, ![1024, 6144]⟩ : Shape).Idx → EReal)
    (W : (⟨2, ![2048, 1024]⟩ : Shape).Idx → EReal) (lg lb : (⟨1, ![2048]⟩ : Shape).Idx → EReal)
    (s : (⟨3, ![8, 128, 128]⟩ : Shape).Idx → EReal) (h : (⟨2, ![8, 128]⟩ : Shape).Idx → EReal)
    (pg : (⟨1, ![1024]⟩ : Shape).Idx → EReal) (gw : (⟨2, ![1024, 1024]⟩ : Shape).Idx → EReal)
    (pw : (⟨2, ![256, 1024]⟩ : Shape).Idx → EReal) (b : Fin 2) (n : Fin 32) : Layer where
  x t k := x (ix3 b (pos n t) k)
  p t k := p (ix3 b (pos n t) k)
  g k := g (ix1 k)
  V k j := V (ix2 k j)
  W j k := W (ix2 j k)
  lg j := lg (ix1 j)
  lb j := lb (ix1 j)
  S i t s' := s (ix3 i t s')
  T i t := h (ix2 i t)
  pg k := pg (ix1 k)
  gw i k := gw (ix2 i k)
  pw i k := pw (ix2 i k)

end Cert.Lsgu
-- ==== Proof.LsguKernel.lean ====
/-
  A gMLP layer forward: the kernel's five results read at a row of one of the two chunks of a block of 256 rows. The
  projection is stored in eight pieces of 768 columns and the mixing in sixteen, one for every group of every chunk.
-/
module

public import proofs.«01_k».proof.Proof.LsguRow
public import proofs.«01_k».proof.Proof.Gen.LsguKIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LsguKIdeal.Rows

open Idealize.ShloMosaic Idealize.ShloMosaic.TcCoe Idealize.SL.Sem
open Cert.LsguKIdeal Cert.LsguKIdeal.Gen Cert.Sgu Cert.Lsgu

/-- The pieces of the projection. -/
def projL (x : Vec Ideal S256x1024 .f32) (g : Vec Ideal S1x1024 .f32) (V : Vec Ideal S8x1024x768 .bf16) :
    List (View.Piece (Elt Ideal) S256x6144 .f32) :=
  [⟨Rect.unit ![0, 5376] ![256, 768] inb_S256x6144_S256x768_0_5376, k0_pay9 (k0_pay1 x g) (View.ld V (Rect.unit ![7, 0, 0] ![1, 1024, 768] inb_S8x1024x768_S1x1024x768_7_0_0))⟩,
   ⟨Rect.unit ![0, 4608] ![256, 768] inb_S256x6144_S256x768_0_4608, k0_pay8 (k0_pay1 x g) (View.ld V (Rect.unit ![6, 0, 0] ![1, 1024, 768] inb_S8x1024x768_S1x1024x768_6_0_0))⟩,
   ⟨Rect.unit ![0, 3840] ![256, 768] inb_S256x6144_S256x768_0_3840, k0_pay7 (k0_pay1 x g) (View.ld V (Rect.unit ![5, 0, 0] ![1, 1024, 768] inb_S8x1024x768_S1x1024x768_5_0_0))⟩,
   ⟨Rect.unit ![0, 3072] ![256, 768] inb_S256x6144_S256x768_0_3072, k0_pay6 (k0_pay1 x g) (View.ld V (Rect.unit ![4, 0, 0] ![1, 1024, 768] inb_S8x1024x768_S1x1024x768_4_0_0))⟩,
   ⟨Rect.unit ![0, 2304] ![256, 768] inb_S256x6144_S256x768_0_2304, k0_pay5 (k0_pay1 x g) (View.ld V (Rect.unit ![3, 0, 0] ![1, 1024, 768] inb_S8x1024x768_S1x1024x768_3_0_0))⟩,
   ⟨Rect.unit ![0, 1536] ![256, 768] inb_S256x6144_S256x768_0_1536, k0_pay4 x g (View.ld V (Rect.unit ![2, 0, 0] ![1, 1024, 768] inb_S8x1024x768_S1x1024x768_2_0_0))⟩,
   ⟨Rect.unit ![0, 768] ![256, 768] inb_S256x6144_S256x768_0_768, k0_pay3 x g (View.ld V (Rect.unit ![1, 0, 0] ![1, 1024, 768] inb_S8x1024x768_S1x1024x768_1_0_0))⟩,
   ⟨Rect.unit ![0, 0] ![256, 768] inb_S256x6144_S256x768_0_0, k0_pay2 x g (View.ld V (Rect.unit ![0, 0, 0] ![1, 1024, 768] inb_S8x1024x768_S1x1024x768_0_0_0))⟩]

/-- The pieces of the mixing of the normed rows `v`. -/
def mixL (v : FVec Ideal S256x2048 .f32) (sw : Vec Ideal S8x128x128 .f32) (sbt : Vec Ideal S128x8 .f32) :
    List (View.Piece (Elt Ideal) S256x2048 .f32) :=
  [⟨Rect.unit ![128, 1792] ![128, 256] inb_S256x2048_S128x256_128_1792,
      k0_pay47 (k0_pay12 v) k0_pay13 (View.ld sw (Rect.unit ![7, 0, 0] ![1, 128, 128] inb_S8x128x128_S1x128x128_7_0_0)) (View.ld sbt (Rect.unit ![0, 7] ![128, 1] inb_S128x8_S128x1_0_7))⟩,
    ⟨Rect.unit ![0, 1792] ![128, 256] inb_S256x2048_S128x256_0_1792,
      k0_pay46 (k0_pay12 v) k0_pay13 (View.ld sw (Rect.unit ![7, 0, 0] ![1, 128, 128] inb_S8x128x128_S1x128x128_7_0_0)) (View.ld sbt (Rect.unit ![0, 7] ![128, 1] inb_S128x8_S128x1_0_7))⟩,
    ⟨Rect.unit ![128, 1536] ![128, 256] inb_S256x2048_S128x256_128_1536,
      k0_pay43 (k0_pay39 k0_pay13 (View.ld sw (Rect.unit ![6, 0, 0] ![1, 128, 128] inb_S8x128x128_S1x128x128_6_0_0))) (k0_pay40 (View.ld sbt (Rect.unit ![0, 6] ![128, 1] inb_S128x8_S128x1_0_6))) (k0_pay42 (k0_pay12 v)) (constant (F := Ideal) S128x256 .f32 0x00000000#32)⟩,
    ⟨Rect.unit ![0, 1536] ![128, 256] inb_S256x2048_S128x256_0_1536,
      k0_pay41 (k0_pay12 v) k0_pay13 (View.ld sw (Rect.unit ![6, 0, 0] ![1, 128, 128] inb_S8x128x128_S1x128x128_6_0_0)) (View.ld sbt (Rect.unit ![0, 6] ![128, 1] inb_S128x8_S128x1_0_6))⟩,
    ⟨Rect.unit ![128, 1280] ![128, 256] inb_S256x2048_S128x256_128_1280,
      k0_pay38 (k0_pay12 v) k0_pay13 (View.ld sw (Rect.unit ![5, 0, 0] ![1, 128, 128] inb_S8x128x128_S1x128x128_5_0_0)) (View.ld sbt (Rect.unit ![0, 5] ![128, 1] inb_S128x8_S128x1_0_5))⟩,
    ⟨Rect.unit ![0, 1280] ![128, 256] inb_S256x2048_S128x256_0_1280,
      k0_pay37 (k0_pay12 v) k0_pay13 (View.ld sw (Rect.unit ![5, 0, 0] ![1, 128, 128] inb_S8x128x128_S1x128x128_5_0_0)) (View.ld sbt (Rect.unit ![0, 5] ![128, 1] inb_S128x8_S128x1_0_5))⟩,
    ⟨Rect.unit ![128, 1024] ![128, 256] inb_S256x2048_S128x256_128_1024,
      k0_pay34 (k0_pay12 v) k0_pay13 (View.ld sw (Rect.unit ![4, 0, 0] ![1, 128, 128] inb_S8x128x128_S1x128x128_4_0_0)) (View.ld sbt (Rect.unit ![0, 4] ![128, 1] inb_S128x8_S128x1_0_4))⟩,
    ⟨Rect.unit ![0, 1024] ![128, 256] inb_S256x2048_S128x256_0_1024,
      k0_pay33 (k0_pay12 v) k0_pay13 (View.ld sw (Rect.unit ![4, 0, 0] ![1, 128, 128] inb_S8x128x128_S1x128x128_4_0_0)) (View.ld sbt (Rect.unit ![0, 4] ![128, 1] inb_S128x8_S128x1_0_4))⟩,
    ⟨Rect.unit ![128, 768] ![128, 256] inb_S256x2048_S128x256_128_768,
      k0_pay30 (k0_pay12 v) (k0_pay27 k0_pay13 (View.ld sw (Rect.unit ![3, 0, 0] ![1, 128, 128] inb_S8x128x128_S1x128x128_3_0_0))) (View.ld sbt (Rect.unit ![0, 3] ![128, 1] inb_S128x8_S128x1_0_3))⟩,
    ⟨Rect.unit ![0, 768] ![128, 256] inb_S256x2048_S128x256_0_768,
      k0_pay29 (k0_pay12 v) (k0_pay27 k0_pay13 (View.ld sw (Rect.unit ![3, 0, 0] ![1, 128, 128] inb_S8x128x128_S1x128x128_3_0_0))) (View.ld sbt (Rect.unit ![0, 3] ![128, 1] inb_S128x8_S128x1_0_3))⟩,
    ⟨Rect.unit ![128, 512] ![128, 256] inb_S256x2048_S128x256_128_512,
      k0_pay26 (k0_pay12 v) k0_pay13 (View.ld sw (Rect.unit ![2, 0, 0] ![1, 128, 128] inb_S8x128x128_S1x128x128_2_0_0)) (View.ld sbt (Rect.unit ![0, 2] ![128, 1] inb_S128x8_S128x1_0_2))⟩,
    ⟨Rect.unit ![0, 512] ![128, 256] inb_S256x2048_S128x256_0_512,
      k0_pay25 (k0_pay12 v) k0_pay13 (View.ld sw (Rect.unit ![2, 0, 0] ![1, 128, 128] inb_S8x128x128_S1x128x128_2_0_0)) (View.ld sbt (Rect.unit ![0, 2] ![128, 1] inb_S128x8_S128x1_0_2))⟩,
    ⟨Rect.unit ![128, 256] ![128, 256] inb_S256x2048_S128x256_128_256,
      k0_pay22 (k0_pay12 v) (k0_pay18 (View.ld sw (Rect.unit ![1, 0, 0] ![1, 128, 128] inb_S8x128x128_S1x128x128_1_0_0))) (k0_pay19 (View.ld sbt (Rect.unit ![0, 1] ![128, 1] inb_S128x8_S128x1_0_1)))⟩,
    ⟨Rect.unit ![0, 256] ![128, 256] inb_S256x2048_S128x256_0_256,
      k0_pay21 (k0_pay20 v (View.ld sw (Rect.unit ![1, 0, 0] ![1, 128, 128] inb_S8x128x128_S1x128x128_1_0_0)) (View.ld sbt (Rect.unit ![0, 1] ![128, 1] inb_S128x8_S128x1_0_1)))⟩,
    ⟨Rect.unit ![128, 0] ![128, 256] inb_S256x2048_S128x256_128_0,
      k0_pay17 v (View.ld sw (Rect.unit ![0, 0, 0] ![1, 128, 128] inb_S8x128x128_S1x128x128_0_0_0)) (View.ld sbt (Rect.unit ![0, 0] ![128, 1] inb_S128x8_S128x1_0_0))⟩,
    ⟨Rect.unit ![0, 0] ![128, 256] inb_S256x2048_S128x256_0_0,
      k0_pay16 v (View.ld sw (Rect.unit ![0, 0, 0] ![1, 128, 128] inb_S8x128x128_S1x128x128_0_0_0)) (View.ld sbt (Rect.unit ![0, 0] ![128, 1] inb_S128x8_S128x1_0_0))⟩]

/-- The mixing read whole, and the projection read in three parts. -/
theorem readCov_mix (v : View sig .tc .vmem S256x2048 .f32) (L : List (View.Piece (Elt Ideal) S256x2048 .f32)) :
    v.readCov L (Rect.unit ![0, 0] ![256, 2048] inb_S256x2048_S256x2048_0_0).toLoadRect = View.canon L := by
  rw [View.readCov_eq_canon']
  funext y
  refine congrArg (View.canon L) ?_
  funext a
  apply Fin.ext
  match a with
  | ⟨0, _⟩ => simp
  | ⟨1, _⟩ => simp

theorem readCov_cols (v : View sig .tc .vmem S256x6144 .f32) (L : List (View.Piece (Elt Ideal) S256x6144 .f32)) (g : ℕ)
    (inb : ∀ a, (![0, g] : Fin 2 → ℕ) a + (![256, 2048] : Fin 2 → ℕ) a ≤ S256x6144.size a) :
    v.readCov L (Rect.unit ![0, g] ![256, 2048] inb).toLoadRect = View.ld (View.canon L) (Rect.unit ![0, g] ![256, 2048] inb) :=
  View.readCov_eq_canon' _ _ _

/-! ## What a block holds -/

section
variable (x : Vec Ideal S256x1024 .f32) (p : Vec Ideal S1x256x256 .f32) (g : Vec Ideal S1x1024 .f32) (V : Vec Ideal S8x1024x768 .bf16)
  (w : Vec Ideal S2048x1024 .bf16) (pg : Vec Ideal S1x1024 .f32) (gw : Vec Ideal S1024x1024 .bf16) (pw : Vec Ideal S256x1024 .bf16)
  (lg lb : Vec Ideal S1x2048 .f32) (sw : Vec Ideal S8x128x128 .f32) (sbt : Vec Ideal S128x8 .f32)

def aV : Vec Ideal S256x2048 .f32 := View.ld (View.canon (projL x g V)) (Rect.unit ![0, 0] ![256, 2048] inb_S256x6144_S256x2048_0_0)
def bV : Vec Ideal S256x2048 .f32 := View.ld (View.canon (projL x g V)) (Rect.unit ![0, 2048] ![256, 2048] inb_S256x6144_S256x2048_0_2048)
def zV : Vec Ideal S256x2048 .f32 := View.ld (View.canon (projL x g V)) (Rect.unit ![0, 4096] ![256, 2048] inb_S256x6144_S256x2048_0_4096)
/-- The rows that the output projection takes. -/
def qV : FVec Ideal S256x2048 .bf16 :=
  k0_pay48 (k0_pay10 (aV x g V)) (View.canon (mixL (k0_pay11 (bV x g V) lg lb) sw sbt)) (zV x g V)
def x1V : FVec Ideal S256x1024 .f32 := k0_pay50 (qV x g V lg lb sw sbt) (k0_pay49 x) w
def gateV : FVec Ideal S256x1024 .f32 := k0_pay51 (qV x g V lg lb sw sbt) (k0_pay49 x) w pg gw
def x2V : FVec Ideal S256x1024 .f32 := k0_pay52 (qV x g V lg lb sw sbt) (k0_pay49 x) w pg gw p pw

end

variable (m : (ℓ : Loc nD τ sig) → Buf (Elt Ideal) ℓ)

theorem outs12 (c : Dev nD) (t : Fin cfg0.N) : (outsAt0 m c t).1 = k0_pay1 (iblk m c 0 t) (iblk m c 2 t) := by
  unfold outsAt0
  dsimp only
  frame_out

theorem outs13 (c : Dev nD) (t : Fin cfg0.N) : (outsAt0 m c t).2.1
    = View.canon (projL (iblk m c 0 t) (iblk m c 2 t) (iblk m c 3 t)) := by
  unfold outsAt0
  dsimp only
  frame_open
  simp (disch := decide) only [↓readCov_cols, ↓readCov_mix, View.read_writes_junk_eq_canon,
    View.canon_cons_unit_lit', View.ld_unit_lit', View.readCov_unit_lit', View.readCov_cons_unit_lit', View.readAt_eq_ld,
    Memref.IsWhole.read_unread, read_unread_whole]
  rfl

/-- The last three results. -/
theorem outs14 (c : Dev nD) (t : Fin cfg0.N) : (outsAt0 m c t).2.2
    = (x1V (iblk m c 0 t) (iblk m c 2 t) (iblk m c 3 t) (iblk m c 4 t) (iblk m c 8 t) (iblk m c 9 t) (iblk m c 10 t) (iblk m c 11 t),
      gateV (iblk m c 0 t) (iblk m c 2 t) (iblk m c 3 t) (iblk m c 4 t) (iblk m c 5 t) (iblk m c 6 t) (iblk m c 8 t) (iblk m c 9 t)
        (iblk m c 10 t) (iblk m c 11 t),
      x2V (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t)) := by
  unfold outsAt0
  dsimp only
  refine Prod.ext ?_ (Prod.ext ?_ ?_) <;> dsimp only <;> frame_open <;>
  simp (disch := decide) only [↓readCov_cols, ↓readCov_mix, View.read_writes_junk_eq_canon,
    View.canon_cons_unit_lit', View.ld_unit_lit', View.readCov_unit_lit', View.readCov_cons_unit_lit', View.readAt_eq_ld,
    Memref.IsWhole.read_unread, read_unread_whole] <;>
  rfl

end Cert.LsguKIdeal.Rows
-- ==== Proof.LsguPay.lean ====
/-
  A gMLP layer forward: the values a block of 256 rows holds, read at a row of one of its two chunks.
-/
module

public import proofs.«01_k».proof.Proof.LsguKernel

@[expose] public section

set_option maxRecDepth 16384

noncomputable section

namespace Cert.LsguKIdeal.Rows

open Idealize.ShloMosaic Idealize.ShloMosaic.TcCoe Idealize.SL.Sem
open Cert.LsguKIdeal Cert.LsguKIdeal.Gen Cert.Sgu Cert.Lsgu

/-- Row `t` of chunk `q` of a block. -/
def row (q : Fin 2) (t : Fin 128) : Fin 256 := ⟨q.val * 128 + t.val, by omega⟩

theorem c_eq : (Named.named κ "c" 0x3F3504F3#32 : Ideal .f32) = cc := rfl
theorem erf_eq (x : Ideal .f32) : FloatOps.erf x = Ideal.erf x := rfl

/-- A column's group, from its place in the group. -/
theorem grp_of {j : Fin 2048} (k : Fin 8) (b : Fin 256) (h : j.val = k.val * 256 + b.val) : grp j = k :=
  Fin.ext (by have := b.isLt; show j.val / 256 = k.val; omega)

variable (x : Vec Ideal S256x1024 .f32) (p : Vec Ideal S1x256x256 .f32) (g : Vec Ideal S1x1024 .f32) (V : Vec Ideal S8x1024x768 .bf16)
  (w : Vec Ideal S2048x1024 .bf16) (pg : Vec Ideal S1x1024 .f32) (gw : Vec Ideal S1024x1024 .bf16) (pw : Vec Ideal S256x1024 .bf16)
  (lg lb : Vec Ideal S1x2048 .f32) (sw : Vec Ideal S8x128x128 .f32) (sbt : Vec Ideal S128x8 .f32)

/-- A chunk of a block. -/
def lay (q : Fin 2) : Layer where
  x t k := x (ix2 (row q t) k)
  p t k := p (ix3 0 (row q t) k)
  g k := g (ix2 0 k)
  V k j := V (ix3 ⟨j.val / 768, by omega⟩ k ⟨j.val % 768, Nat.mod_lt _ (by decide)⟩)
  W j k := w (ix2 j k)
  lg j := lg (ix2 0 j)
  lb j := lb (ix2 0 j)
  S i t s := sw (ix3 i t s)
  T i t := sbt (ix2 t i)
  pg k := pg (ix2 0 k)
  gw i k := gw (ix2 i k)
  pw i k := pw (ix2 i k)

theorem h_at (q : Fin 2) (t : Fin 128) (k : Fin 1024) :
    k0_pay1 x g (ix2 (row q t) k) = (lay x p g V w pg gw pw lg lb sw sbt q).h t k := by
  unfold_payloads
  pointwise [Layer.h, rr, lay, n1024, eps]

set_option maxHeartbeats 1000000 in
theorem proj_at (q : Fin 2) (t : Fin 128) (j : Fin 6144) :
    View.canon (projL x g V) (ix2 (row q t) j) = (lay x p g V w pg gw pw lg lb sw sbt q).proj t j := by
  have hh (k : Fin 1024) := h_at x p g V w pg gw pw lg lb sw sbt q t k
  unfold projL
  canon_tiles y h
  all_goals
    idx_vars y
    replace h0 : q.val * 128 + t.val = _ := h0
    replace h1 : j.val = _ := h1
    obtain rfl : row q t = y0 := Fin.ext (by show q.val * 128 + t.val = _; omega)
    unfold Layer.proj
    simp only [← hh]
    try unfold k0_pay2
    try unfold k0_pay3
    try unfold k0_pay4
    generalize k0_pay1 x g = u
    unfold_payloads
    pointwise
    unfold lay
    dsimp only
    refine Finset.sum_congr rfl fun k _ => congrArg _ (congrArg V ?_)
    exact congrArg₂ (fun a b => ix3 a k b) (Fin.ext (by norm_num; omega)) (Fin.ext (by norm_num; omega))

/-- An index of one of the projection's three parts. -/
theorem cols_idx (g : ℕ) (inb : ∀ a, (![0, g] : Fin 2 → ℕ) a + (![256, 2048] : Fin 2 → ℕ) a ≤ S256x6144.size a) (r : Fin 256) (j : Fin 2048)
    (i : Fin 3) (hg : g = i.val * 2048) : (Rect.unit ![0, g] ![256, 2048] inb).idx (ix2 r j) = ix2 r (pcol i j) := by
  subst hg
  funext a
  apply Fin.ext
  match a with
  | ⟨0, _⟩ => simp
  | ⟨1, _⟩ => simp [pcol]

theorem a_at (q : Fin 2) (t : Fin 128) (j : Fin 2048) :
    aV x g V (ix2 (row q t) j) = (lay x p g V w pg gw pw lg lb sw sbt q).ck.A t j :=
  (congrArg (View.canon _) (cols_idx 0 _ (row q t) j 0 rfl)).trans (proj_at x p g V w pg gw pw lg lb sw sbt q t (pcol 0 j))

theorem b_at (q : Fin 2) (t : Fin 128) (j : Fin 2048) :
    bV x g V (ix2 (row q t) j) = (lay x p g V w pg gw pw lg lb sw sbt q).ck.B t j :=
  (congrArg (View.canon _) (cols_idx 2048 _ (row q t) j 1 rfl)).trans (proj_at x p g V w pg gw pw lg lb sw sbt q t (pcol 1 j))

theorem z_at (q : Fin 2) (t : Fin 128) (j : Fin 2048) :
    zV x g V (ix2 (row q t) j) = (lay x p g V w pg gw pw lg lb sw sbt q).ck.Z t j :=
  (congrArg (View.canon _) (cols_idx 4096 _ (row q t) j 2 rfl)).trans (proj_at x p g V w pg gw pw lg lb sw sbt q t (pcol 2 j))

theorem u_at (q : Fin 2) (t : Fin 128) (j : Fin 2048) :
    k0_pay10 (aV x g V) (ix2 (row q t) j) = (lay x p g V w pg gw pw lg lb sw sbt q).ck.u t j := by
  have h := a_at x p g V w pg gw pw lg lb sw sbt q t j
  generalize aV x g V = a at h
  unfold_payloads
  pointwise [h, Chunk.u, gelu, half, c_eq, erf_eq]

theorem v_at (q : Fin 2) (t : Fin 128) (j : Fin 2048) :
    k0_pay11 (bV x g V) lg lb (ix2 (row q t) j) = (lay x p g V w pg gw pw lg lb sw sbt q).ck.v t j := by
  have h (j) := b_at x p g V w pg gw pw lg lb sw sbt q t j
  generalize bV x g V = b at h
  have hl : ∀ j, lg (ix2 0 j) = (lay x p g V w pg gw pw lg lb sw sbt q).ck.lg j := fun _ => rfl
  have hb : ∀ j, lb (ix2 0 j) = (lay x p g V w pg gw pw lg lb sw sbt q).ck.lb j := fun _ => rfl
  generalize (lay x p g V w pg gw pw lg lb sw sbt q).ck = c at *
  unfold_payloads
  pointwise [h, hl, hb, Chunk.v, Chunk.xh, Chunk.rstd, Chunk.xc, Chunk.vg, gelu, half, n2048, eps, c_eq, erf_eq]

set_option maxHeartbeats 2000000 in
/-- The mixing of any rows `v`. -/
theorem mixL_at (v : FVec Ideal S256x2048 .f32) (q : Fin 2) (t : Fin 128) (j : Fin 2048) :
    View.canon (mixL v sw sbt) (ix2 (row q t) j)
      = (∑ s, (if s ≤ t then (sw (ix3 (grp j) t s) : EReal) else 0) * (v (ix2 (row q s) j) : EReal)) + sbt (ix2 t (grp j)) := by
  unfold mixL
  canon_tiles x h
  all_goals
    idx_vars x
    replace h0 : q.val * 128 + t.val = _ := h0
    replace h1 : j.val = _ := h1
    obtain rfl : t = x0 := Fin.ext (by omega)
    unfold_payloads
    pointwise [sel_ge]
    refine congrArg₂ (· + ·) (Finset.sum_congr rfl fun s _ => congrArg₂ (· * ·) (if_congr Iff.rfl ?_ rfl) ?_) ?_
    · exact congrArg (fun g => sw (ix3 g t s)) (grp_of _ x1 (by norm_num; omega)).symm
    · exact congrArg v (congrArg₂ ix2 (Fin.ext (by show _ = q.val * 128 + s.val; norm_num; omega)) (Fin.ext (by norm_num; omega)))
    · exact congrArg (fun g => sbt (ix2 t g)) (grp_of _ x1 (by norm_num; omega)).symm

theorem mix_at (q : Fin 2) (t : Fin 128) (j : Fin 2048) :
    View.canon (mixL (k0_pay11 (bV x g V) lg lb) sw sbt) (ix2 (row q t) j) = (lay x p g V w pg gw pw lg lb sw sbt q).ck.mix t j := by
  rw [mixL_at]
  unfold Chunk.mix
  simp only [v_at x p g V w pg gw pw lg lb sw sbt]
  rfl

theorem q_at (q : Fin 2) (t : Fin 128) (j : Fin 2048) : qV x g V lg lb sw sbt (ix2 (row q t) j)
    = (lay x p g V w pg gw pw lg lb sw sbt q).ck.y t j * (lay x p g V w pg gw pw lg lb sw sbt q).ck.sz t j := by
  have hu := u_at x p g V w pg gw pw lg lb sw sbt q t j
  have hm := mix_at x p g V w pg gw pw lg lb sw sbt q t j
  have hz := z_at x p g V w pg gw pw lg lb sw sbt q t j
  unfold qV
  generalize k0_pay10 (aV x g V) = u at *
  generalize View.canon (mixL (k0_pay11 (bV x g V) lg lb) sw sbt) = y at *
  generalize zV x g V = z at *
  unfold_payloads
  pointwise [hu, hm, hz, Chunk.y, Chunk.sz, Sgu.sgm]

theorem x1_at (q : Fin 2) (t : Fin 128) (k : Fin 1024) :
    x1V x g V w lg lb sw sbt (ix2 (row q t) k) = (lay x p g V w pg gw pw lg lb sw sbt q).x1 t k := by
  have hq (j) := q_at x p g V w pg gw pw lg lb sw sbt q t j
  unfold x1V Layer.x1
  simp only [← hq]
  generalize qV x g V lg lb sw sbt = y
  unfold_payloads
  pointwise [lay]

theorem gate_at (q : Fin 2) (t : Fin 128) (k : Fin 1024) :
    gateV x g V w pg gw lg lb sw sbt (ix2 (row q t) k) = (lay x p g V w pg gw pw lg lb sw sbt q).gate t k := by
  have h (j) := x1_at x p g V w pg gw pw lg lb sw sbt q t j
  unfold gateV k0_pay51 Layer.gate rr
  simp only [← h]
  unfold x1V
  generalize k0_pay50 (qV x g V lg lb sw sbt) (k0_pay49 x) w = y
  pointwise [lay, n1024, eps]

theorem x2_at (q : Fin 2) (t : Fin 128) (k : Fin 1024) :
    x2V x p g V w pg gw pw lg lb sw sbt (ix2 (row q t) k) = (lay x p g V w pg gw pw lg lb sw sbt q).x2 t k := by
  have h := x1_at x p g V w pg gw pw lg lb sw sbt q t k
  have h' := gate_at x p g V w pg gw pw lg lb sw sbt q t k
  unfold x2V k0_pay52 Layer.x2
  rw [← h, ← h']
  unfold x1V gateV
  generalize k0_pay51 (qV x g V lg lb sw sbt) (k0_pay49 x) w pg gw = y
  generalize k0_pay50 (qV x g V lg lb sw sbt) (k0_pay49 x) w = y'
  pointwise [lay]

end Cert.LsguKIdeal.Rows
-- ==== Proof.LsguBlk.lean ====
/-
  A gMLP layer forward: a block's chunks as chunks of the arguments, and the kernel's five arrays.
-/
module

public import proofs.«01_k».proof.Proof.LsguPay

@[expose] public section

set_option maxRecDepth 16384

noncomputable section

namespace Cert.LsguKIdeal.Rows

open Idealize.ShloMosaic Idealize.ShloMosaic.TcCoe Idealize.SL.Sem
open Cert.LsguKIdeal Cert.LsguKIdeal.Gen Cert.Sgu Cert.Lsgu

variable (m : (ℓ : Loc nD τ sig) → Buf (Elt Ideal) ℓ)

theorem idxIn : ∀ t : Fin cfg0.N, win0_0.index t = ![t.val, 0] ∧ win0_1.index t = ![0, t.val, 0] ∧ win0_2.index t = ![0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0, 0]
    ∧ win0_11.index t = ![0, 0] :=
  (by decide +kernel : ∀ t : Fin grid0.N, _)

theorem idxOut : ∀ t : Fin cfg0.N, win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

/-- A chunk of the arguments. -/
def ck (c : Dev nD) : Fin 2 → Fin 32 → Layer :=
  Lsgu.ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem half_lt (t : Fin cfg0.N) (q : Fin 2) : (t.val * 2 + q.val) / 32 < 2 := by
  have := t.isLt; have : cfg0.N = 32 := N_0; omega

/-- Half `q` of block `t`. -/
def at2 (c : Dev nD) (t : Fin cfg0.N) (q : Fin 2) : Layer :=
  ck m c ⟨(t.val * 2 + q.val) / 32, half_lt t q⟩ ⟨(t.val * 2 + q.val) % 32, Nat.mod_lt _ (by decide)⟩

theorem row_div (t : Fin cfg0.N) (q : Fin 2) (i : Fin 128) : (t.val * 256 + (row q i).val) / 4096 = (t.val * 2 + q.val) / 32 := by
  unfold row; dsimp only; omega
theorem row_mod (t : Fin cfg0.N) (q : Fin 2) (i : Fin 128) :
    (t.val * 256 + (row q i).val) % 4096 = (t.val * 2 + q.val) % 32 * 128 + i.val := by
  unfold row; dsimp only; omega

theorem blk0 (c : Dev nD) (t : Fin cfg0.N) (q : Fin 2) (i : Fin 128) (k : Fin 1024) :
    iblk m c 0 t (ix2 (row q i) k) = (at2 m c t q).x i k := by
  obtain ⟨e, -⟩ := idxIn t
  unfold at2 ck Lsgu.ofArgs pos
  simp only [← row_div t q i, ← row_mod t q i]
  blk_ext! [iblk, V, e]

theorem blk1 (c : Dev nD) (t : Fin cfg0.N) (q : Fin 2) (z : Fin 1) (i : Fin 128) (k : Fin 256) :
    iblk m c 1 t (ix3 z (row q i) k) = (at2 m c t q).p i k := by
  obtain ⟨-, e, -⟩ := idxIn t
  unfold at2 ck Lsgu.ofArgs pos
  simp only [← row_div t q i, ← row_mod t q i]
  blk_ext! [iblk, V, e]

theorem blk2 (c : Dev nD) (t : Fin cfg0.N) (q : Fin 2) (z : Fin 1) (k : Fin 1024) : iblk m c 2 t (ix2 z k) = (at2 m c t q).g k := by
  obtain ⟨-, -, e, -⟩ := idxIn t
  unfold at2 ck Lsgu.ofArgs
  blk_ext! [iblk, V, e]

theorem blk3 (c : Dev nD) (t : Fin cfg0.N) (q : Fin 2) (k : Fin 1024) (j : Fin 6144) :
    iblk m c 3 t (ix3 ⟨j.val / 768, by omega⟩ k ⟨j.val % 768, Nat.mod_lt _ (by decide)⟩) = (at2 m c t q).V k j := by
  obtain ⟨-, -, -, e, -⟩ := idxIn t
  unfold at2 ck Lsgu.ofArgs
  blk_ext! [iblk, V, e]

theorem blk4 (c : Dev nD) (t : Fin cfg0.N) (q : Fin 2) (j : Fin 2048) (k : Fin 1024) : iblk m c 4 t (ix2 j k) = (at2 m c t q).W j k := by
  obtain ⟨-, -, -, -, e, -⟩ := idxIn t
  unfold at2 ck Lsgu.ofArgs
  blk_ext! [iblk, V, e]

theorem blk5 (c : Dev nD) (t : Fin cfg0.N) (q : Fin 2) (z : Fin 1) (k : Fin 1024) : iblk m c 5 t (ix2 z k) = (at2 m c t q).pg k := by
  obtain ⟨-, -, -, -, -, e, -⟩ := idxIn t
  unfold at2 ck Lsgu.ofArgs
  blk_ext! [iblk, V, e]

theorem blk6 (c : Dev nD) (t : Fin cfg0.N) (q : Fin 2) (i k : Fin 1024) : iblk m c 6 t (ix2 i k) = (at2 m c t q).gw i k := by
  obtain ⟨-, -, -, -, -, -, e, -⟩ := idxIn t
  unfold at2 ck Lsgu.ofArgs
  blk_ext! [iblk, V, e]

theorem blk7 (c : Dev nD) (t : Fin cfg0.N) (q : Fin 2) (i : Fin 256) (k : Fin 1024) : iblk m c 7 t (ix2 i k) = (at2 m c t q).pw i k := by
  obtain ⟨-, -, -, -, -, -, -, e, -⟩ := idxIn t
  unfold at2 ck Lsgu.ofArgs
  blk_ext! [iblk, V, e]

theorem blk8 (c : Dev nD) (t : Fin cfg0.N) (q : Fin 2) (z : Fin 1) (j : Fin 2048) : iblk m c 8 t (ix2 z j) = (at2 m c t q).lg j := by
  obtain ⟨-, -, -, -, -, -, -, -, e, -⟩ := idxIn t
  unfold at2 ck Lsgu.ofArgs
  blk_ext! [iblk, V, e]

theorem blk9 (c : Dev nD) (t : Fin cfg0.N) (q : Fin 2) (z : Fin 1) (j : Fin 2048) : iblk m c 9 t (ix2 z j) = (at2 m c t q).lb j := by
  obtain ⟨-, -, -, -, -, -, -, -, -, e, -⟩ := idxIn t
  unfold at2 ck Lsgu.ofArgs
  blk_ext! [iblk, V, e]

theorem blk10 (c : Dev nD) (t : Fin cfg0.N) (q : Fin 2) (i : Fin 8) (r s : Fin 128) : iblk m c 10 t (ix3 i r s) = (at2 m c t q).S i r s := by
  obtain ⟨-, -, -, -, -, -, -, -, -, -, e, -⟩ := idxIn t
  unfold at2 ck Lsgu.ofArgs
  blk_ext! [iblk, V, e]

theorem blk11 (c : Dev nD) (t : Fin cfg0.N) (q : Fin 2) (r : Fin 128) (i : Fin 8) : iblk m c 11 t (ix2 r i) = (at2 m c t q).T i r := by
  obtain ⟨-, -, -, -, -, -, -, -, -, -, -, e⟩ := idxIn t
  unfold at2 ck Lsgu.ofArgs
  blk_ext! [iblk, V, e]

/-- Half `q` of a block's windows is a chunk of the arguments. -/
theorem blk_lay (c : Dev nD) (t : Fin cfg0.N) (q : Fin 2) :
    lay (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) q = at2 m c t q := by
  unfold lay
  simp only [blk0, blk1, blk2 m c t q, blk3 m c t q, blk4 m c t q, blk5 m c t q, blk6 m c t q, blk7 m c t q, blk8 m c t q, blk9 m c t q,
    blk10 m c t q, blk11 m c t q]

/-! ## The five arrays -/

/-- A function of a chunk's rows, as an array of 8192 rows. -/
def rows {n : ℕ} (c : Dev nD) (f : Layer → Fin 128 → Fin n → EReal) : (⟨2, ![8192, n]⟩ : Shape).Idx → EReal := fun i =>
  have h0 : (i 0).val < 8192 := (i 0).isLt
  f (ck m c ⟨(i 0).val / 4096, by omega⟩ ⟨(i 0).val % 4096 / 128, by omega⟩) ⟨(i 0).val % 128, by omega⟩ ⟨(i 1).val, (i 1).isLt⟩

theorem rows_of {n : ℕ} (c : Dev nD) (f : Layer → Fin 128 → Fin n → EReal) (t : Fin cfg0.N) (q : Fin 2) (r : Fin 128) (k : Fin n)
    (i : (⟨2, ![8192, n]⟩ : Shape).Idx) (h0 : (i 0).val = t.val * 256 + (row q r).val) (h1 : (i 1).val = k.val) :
    f (at2 m c t q) r k = rows m c f i := by
  unfold rows at2
  have hr : (row q r).val = q.val * 128 + r.val := rfl
  have e0 : (⟨(t.val * 2 + q.val) / 32, half_lt t q⟩ : Fin 2) = ⟨(i 0).val / 4096, by have : (i 0).val < 8192 := (i 0).isLt; omega⟩ :=
    Fin.ext (by dsimp only; omega)
  have e1 : (⟨(t.val * 2 + q.val) % 32, Nat.mod_lt _ (by decide)⟩ : Fin 32) = ⟨(i 0).val % 4096 / 128, by omega⟩ :=
    Fin.ext (by dsimp only; omega)
  have e2 : r = ⟨(i 0).val % 128, by omega⟩ := Fin.ext (by dsimp only; omega)
  have e3 : k = ⟨(i 1).val, (i 1).isLt⟩ := Fin.ext (by dsimp only; omega)
  exact congr (congr (congrArg f (congr (congrArg (ck m c) e0) e1)) e2) e3

theorem row_cases (y : Fin 256) : ∃ q i, y = row q i :=
  ⟨⟨y.val / 128, by omega⟩, ⟨y.val % 128, by omega⟩, Fin.ext (by unfold row; dsimp only; omega)⟩

theorem final_h (c : Dev nD) : (dats m 0 c).arrAt 12 cfg0.N = rows m c Layer.h := by
  refine (dats m 0 c).arrAt_eq_of_covers 12 _ (by decide +kernel) fun t hf y => ?_
  obtain ⟨e, -⟩ := idxOut t
  blk_simp
  rw [after0_12, outs12]
  idx_vars y
  obtain ⟨q, i, rfl⟩ := row_cases y0
  refine (h_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) q i _).trans ?_
  rw [blk_lay]
  exact rows_of m c _ t q i _ _ (by blk_simp [e]) (by blk_simp [e])

theorem final_proj (c : Dev nD) : (dats m 0 c).arrAt 13 cfg0.N = rows m c Layer.proj := by
  refine (dats m 0 c).arrAt_eq_of_covers 13 _ (by decide +kernel) fun t hf y => ?_
  obtain ⟨-, e, -⟩ := idxOut t
  blk_simp
  rw [after0_13, outs13]
  idx_vars y
  obtain ⟨q, i, rfl⟩ := row_cases y0
  refine (proj_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) q i _).trans ?_
  rw [blk_lay]
  exact rows_of m c _ t q i _ _ (by blk_simp [e]) (by blk_simp [e])

theorem final_x1 (c : Dev nD) : (dats m 0 c).arrAt 14 cfg0.N = rows m c Layer.x1 := by
  refine (dats m 0 c).arrAt_eq_of_covers 14 _ (by decide +kernel) fun t hf y => ?_
  obtain ⟨-, -, e, -⟩ := idxOut t
  blk_simp
  rw [after0_14, show (outsAt0 m c t).2.2.1 = _ from (Prod.ext_iff.mp (outs14 m c t)).1]
  idx_vars y
  obtain ⟨q, i, rfl⟩ := row_cases y0
  refine (x1_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) q i _).trans ?_
  rw [blk_lay]
  exact rows_of m c _ t q i _ _ (by blk_simp [e]) (by blk_simp [e])

theorem final_gate (c : Dev nD) : (dats m 0 c).arrAt 15 cfg0.N = rows m c Layer.gate := by
  refine (dats m 0 c).arrAt_eq_of_covers 15 _ (by decide +kernel) fun t hf y => ?_
  obtain ⟨-, -, -, e, -⟩ := idxOut t
  blk_simp
  rw [after0_15, show (outsAt0 m c t).2.2.2.1 = _ from (Prod.ext_iff.mp (Prod.ext_iff.mp (outs14 m c t)).2).1]
  idx_vars y
  obtain ⟨q, i, rfl⟩ := row_cases y0
  refine (gate_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) q i _).trans ?_
  rw [blk_lay]
  exact rows_of m c _ t q i _ _ (by blk_simp [e]) (by blk_simp [e])

theorem final_x2 (c : Dev nD) : (dats m 0 c).arrAt 16 cfg0.N = rows m c Layer.x2 := by
  refine (dats m 0 c).arrAt_eq_of_covers 16 _ (by decide +kernel) fun t hf y => ?_
  obtain ⟨-, -, -, -, e⟩ := idxOut t
  blk_simp
  rw [after0_16, show (outsAt0 m c t).2.2.2.2 = _ from (Prod.ext_iff.mp (Prod.ext_iff.mp (outs14 m c t)).2).2]
  idx_vars y
  obtain ⟨q, i, rfl⟩ := row_cases y0
  refine (x2_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) q i _).trans ?_
  rw [blk_lay]
  exact rows_of m c _ t q i _ _ (by blk_simp [e]) (by blk_simp [e])

end Cert.LsguKIdeal.Rows
-- ==== Proof.LsguValue.lean ====
/-
  A gMLP layer forward as the reference computes it: each stage read at a row of a chunk.
-/
module

public import proofs.«01_k».proof.Proof.LsguRow
public import proofs.«01_k».proof.Proof.Closed
public import proofs.«01_k».proof.Proof.Gen.LsguRIdeal.Read
public import Idealize.ShloMosaic.Lib.Pointwise

@[expose] public section

set_option maxRecDepth 16384

noncomputable section

namespace Cert.LsguRIdeal.Rows

open Idealize.ShloMosaic Idealize.ShloMosaic.TcCoe Idealize.SL.Sem
open Cert.LsguRIdeal.Read Cert.Sgu Cert.Lsgu

variable (x0 : (⟨S2x4096x1024, .f32⟩ : BufTy).Contents (Elt Ideal)) (x1 : (⟨S2x4096x256, .f32⟩ : BufTy).Contents (Elt Ideal))
  (x2 : (⟨S1024, .f32⟩ : BufTy).Contents (Elt Ideal)) (x3 : (⟨S1024x6144, .f32⟩ : BufTy).Contents (Elt Ideal))
  (x4 : (⟨S2048x1024, .f32⟩ : BufTy).Contents (Elt Ideal)) (x5 x6 : (⟨S2048, .f32⟩ : BufTy).Contents (Elt Ideal))
  (x7 : (⟨S8x128x128, .f32⟩ : BufTy).Contents (Elt Ideal)) (x8 : (⟨S8x128, .f32⟩ : BufTy).Contents (Elt Ideal))
  (x9 : (⟨S1024, .f32⟩ : BufTy).Contents (Elt Ideal)) (x10 : (⟨S1024x1024, .f32⟩ : BufTy).Contents (Elt Ideal))
  (x11 : (⟨S256x1024, .f32⟩ : BufTy).Contents (Elt Ideal)) (b : Fin 2) (n : Fin 32)

theorem rr_at (t : Fin 128) :
    val_main_v7 x0 (ix3 b (pos n t) 0) = rr ((Lsgu.ofArgs x0 x1 x2 x3 x4 x5 x6 x7 x8 x9 x10 x11 b n).x t) := by
  pointwise [val_main_v0, val_main_v1, val_main_v2, val_main_v3, val_main_v4, val_main_v5, val_main_v6, val_main_v7, val_main_cst, val_main_cst_0, val_main_cst_1, rr, n1024, eps, Lsgu.ofArgs]

theorem h_at (t : Fin 128) (k : Fin 1024) :
    val_main_v12 x0 x2 (ix3 b (pos n t) k) = (Lsgu.ofArgs x0 x1 x2 x3 x4 x5 x6 x7 x8 x9 x10 x11 b n).h t k := by
  pointwise [rr_at x0 x1 x2 x3 x4 x5 x6 x7 x8 x9 x10 x11 b n, val_main_v8, val_main_v9, val_main_v10, val_main_v11, val_main_v12, Layer.h, Lsgu.ofArgs]

theorem proj_at (t : Fin 128) (j : Fin 6144) :
    val_main_v13 x0 x2 x3 (ix3 b (pos n t) j) = (Lsgu.ofArgs x0 x1 x2 x3 x4 x5 x6 x7 x8 x9 x10 x11 b n).proj t j := by
  pointwise [h_at x0 x1 x2 x3 x4 x5 x6 x7 x8 x9 x10 x11 b n, val_main_v13, Layer.proj, Lsgu.ofArgs]

theorem A_at (t : Fin 128) (j : Fin 2048) :
    val_main_v14 x0 x2 x3 (ix3 b (pos n t) j) = (Lsgu.ofArgs x0 x1 x2 x3 x4 x5 x6 x7 x8 x9 x10 x11 b n).ck.A t j := by
  refine Eq.trans ?_ (proj_at x0 x1 x2 x3 x4 x5 x6 x7 x8 x9 x10 x11 b n t (pcol 0 j))
  pointwise [val_main_v14, pcol]

theorem B_at (t : Fin 128) (j : Fin 2048) :
    val_main_v15 x0 x2 x3 (ix3 b (pos n t) j) = (Lsgu.ofArgs x0 x1 x2 x3 x4 x5 x6 x7 x8 x9 x10 x11 b n).ck.B t j := by
  refine Eq.trans ?_ (proj_at x0 x1 x2 x3 x4 x5 x6 x7 x8 x9 x10 x11 b n t (pcol 1 j))
  pointwise [val_main_v15, pcol]

theorem Z_at (t : Fin 128) (j : Fin 2048) :
    val_main_v16 x0 x2 x3 (ix3 b (pos n t) j) = (Lsgu.ofArgs x0 x1 x2 x3 x4 x5 x6 x7 x8 x9 x10 x11 b n).ck.Z t j := by
  refine Eq.trans ?_ (proj_at x0 x1 x2 x3 x4 x5 x6 x7 x8 x9 x10 x11 b n t (pcol 2 j))
  pointwise [val_main_v16, pcol]

theorem u_at (t : Fin 128) (j : Fin 2048) :
    val_main_v24 x0 x2 x3 (ix3 b (pos n t) j) = (Lsgu.ofArgs x0 x1 x2 x3 x4 x5 x6 x7 x8 x9 x10 x11 b n).ck.u t j := by
  pointwise [A_at x0 x1 x2 x3 x4 x5 x6 x7 x8 x9 x10 x11 b n, val_main_v17, val_main_v18, val_main_v19, val_main_v20, val_main_v21, val_main_v22, val_main_v23, val_main_v24, val_main_cst_2, val_main_cst_3, Chunk.u, Reals.neg_div_sqrt_two, Ideal.erfc_neg, gelu, half, cc]

theorem vg_at (t : Fin 128) (j : Fin 2048) :
    val_main_v32 x0 x2 x3 (ix3 b (pos n t) j) = (Lsgu.ofArgs x0 x1 x2 x3 x4 x5 x6 x7 x8 x9 x10 x11 b n).ck.vg t j := by
  pointwise [B_at x0 x1 x2 x3 x4 x5 x6 x7 x8 x9 x10 x11 b n, val_main_v25, val_main_v26, val_main_v27, val_main_v28, val_main_v29, val_main_v30, val_main_v31, val_main_v32, val_main_cst_4, val_main_cst_5, Chunk.vg, Reals.neg_div_sqrt_two, Ideal.erfc_neg, gelu, half, cc]

theorem xc_at (t : Fin 128) (j : Fin 2048) :
    val_main_v38 x0 x2 x3 (ix3 b (pos n t) j) = (Lsgu.ofArgs x0 x1 x2 x3 x4 x5 x6 x7 x8 x9 x10 x11 b n).ck.xc t j := by
  pointwise [vg_at x0 x1 x2 x3 x4 x5 x6 x7 x8 x9 x10 x11 b n, val_main_v33, val_main_v34, val_main_v35, val_main_v36, val_main_v37, val_main_v38, val_main_cst_6, val_main_cst_7, Chunk.xc, n2048]

theorem rstd_at (t : Fin 128) :
    val_main_v46 x0 x2 x3 (ix3 b (pos n t) 0) = (Lsgu.ofArgs x0 x1 x2 x3 x4 x5 x6 x7 x8 x9 x10 x11 b n).ck.rstd t := by
  pointwise [xc_at x0 x1 x2 x3 x4 x5 x6 x7 x8 x9 x10 x11 b n, val_main_v39, val_main_v40, val_main_v41, val_main_v42, val_main_v43, val_main_v44, val_main_v45, val_main_v46, val_main_cst_8, val_main_cst_9, val_main_cst_10, Chunk.rstd, n2048, eps]

theorem xh_at (t : Fin 128) (j : Fin 2048) :
    val_main_v48 x0 x2 x3 (ix3 b (pos n t) j) = (Lsgu.ofArgs x0 x1 x2 x3 x4 x5 x6 x7 x8 x9 x10 x11 b n).ck.xh t j := by
  pointwise [xc_at x0 x1 x2 x3 x4 x5 x6 x7 x8 x9 x10 x11 b n, rstd_at x0 x1 x2 x3 x4 x5 x6 x7 x8 x9 x10 x11 b n, val_main_v47, val_main_v48, Chunk.xh]

theorem v_at (t : Fin 128) (j : Fin 2048) :
    val_main_v54 x0 x2 x3 x5 x6 (ix3 b (pos n t) j) = (Lsgu.ofArgs x0 x1 x2 x3 x4 x5 x6 x7 x8 x9 x10 x11 b n).ck.v t j := by
  pointwise [xh_at x0 x1 x2 x3 x4 x5 x6 x7 x8 x9 x10 x11 b n, val_main_v49, val_main_v50, val_main_v51, val_main_v52, val_main_v53, val_main_v54, Chunk.v, Layer.ck, Lsgu.ofArgs]

theorem v5_at (t : Fin 128) (g : Fin 8) (k : Fin 256) :
    val_main_v55 x0 x2 x3 x5 x6 (ix5 b n t g k) = (Lsgu.ofArgs x0 x1 x2 x3 x4 x5 x6 x7 x8 x9 x10 x11 b n).ck.v t (col g k) := by
  refine Eq.trans ?_ (v_at x0 x1 x2 x3 x4 x5 x6 x7 x8 x9 x10 x11 b n t (col g k))
  pointwise [val_main_v55, pos, col]

theorem mask_at (g : Fin 8) (t s : Fin 128) (p q : EReal) :
    Scalar.select (val_main_call1_v0 (F := Ideal) (ix3 g t s)) p q = if s ≤ t then p else q := by
  pointwise [val_main_call1_v0, val_main_v58, val_main_v57, val_main_call0_v4, val_main_call0_v5, val_main_call0_c_0, val_main_call0_v3, val_main_call0_v2, val_main_call0_v1, val_main_call0_v0, val_main_call0_c, val_main_v56, val_main_c, addi_zero, select_word, sel_ge]

theorem w_at (g : Fin 8) (t s : Fin 128) :
    val_main_v59 x7 (ix3 g t s) = if s ≤ t then (Lsgu.ofArgs x0 x1 x2 x3 x4 x5 x6 x7 x8 x9 x10 x11 b n).S g t s else 0 := by
  pointwise [val_main_v59, val_main_call1_v1, val_main_cst_11, mask_at, Lsgu.ofArgs]

theorem mix_at (t : Fin 128) (j : Fin 2048) :
    val_main_v66 x0 x2 x3 x5 x6 x7 x8 (ix3 b (pos n t) j) = (Lsgu.ofArgs x0 x1 x2 x3 x4 x5 x6 x7 x8 x9 x10 x11 b n).ck.mix t j := by
  obtain ⟨g, k, rfl⟩ := exists_col j
  have e : val_main_v66 x0 x2 x3 x5 x6 x7 x8 (ix3 b (pos n t) (col g k)) = val_main_v65 x0 x2 x3 x5 x6 x7 x8 (ix5 b n t g k) := by
    pointwise [val_main_v66, pos, col]
  rw [e]
  pointwise [v5_at x0 x1 x2 x3 x4 x5 x6 x7 x8 x9 x10 x11 b n, w_at x0 x1 x2 x3 x4 x5 x6 x7 x8 x9 x10 x11 b n, val_main_v60, val_main_v61, val_main_v62, val_main_v63, val_main_v64, val_main_v65, Chunk.mix, grp_col, mul_comm]
  rfl

theorem sz_at (t : Fin 128) (j : Fin 2048) :
    val_main_v68 x0 x2 x3 (ix3 b (pos n t) j) = (Lsgu.ofArgs x0 x1 x2 x3 x4 x5 x6 x7 x8 x9 x10 x11 b n).ck.sz t j := by
  pointwise [Z_at x0 x1 x2 x3 x4 x5 x6 x7 x8 x9 x10 x11 b n, val_main_call2_v0, val_main_call2_v1, val_main_call2_cst, val_main_call2_v2, val_main_call2_v3, val_main_call2_cst_0, val_main_call2_v4, val_main_call2_v5, val_main_v68, Chunk.sz, Sgu.sgm, Ideal.logistic]

theorem x1_at (t : Fin 128) (k : Fin 1024) :
    val_main_v71 x0 x2 x3 x4 x5 x6 x7 x8 (ix3 b (pos n t) k) = (Lsgu.ofArgs x0 x1 x2 x3 x4 x5 x6 x7 x8 x9 x10 x11 b n).x1 t k := by
  pointwise [u_at x0 x1 x2 x3 x4 x5 x6 x7 x8 x9 x10 x11 b n, mix_at x0 x1 x2 x3 x4 x5 x6 x7 x8 x9 x10 x11 b n, sz_at x0 x1 x2 x3 x4 x5 x6 x7 x8 x9 x10 x11 b n, val_main_v67, val_main_v69, val_main_v70, val_main_v71, Layer.x1, Chunk.y, Layer.ck, Lsgu.ofArgs]

theorem rr1_at (t : Fin 128) :
    val_main_v79 x0 x2 x3 x4 x5 x6 x7 x8 (ix3 b (pos n t) 0) = rr ((Lsgu.ofArgs x0 x1 x2 x3 x4 x5 x6 x7 x8 x9 x10 x11 b n).x1 t) := by
  pointwise [x1_at x0 x1 x2 x3 x4 x5 x6 x7 x8 x9 x10 x11 b n, val_main_v72, val_main_v73, val_main_v74, val_main_v75, val_main_v76, val_main_v77, val_main_v78, val_main_v79, val_main_cst_12, val_main_cst_13, val_main_cst_14, rr, n1024, eps]

theorem gate_at (t : Fin 128) (k : Fin 1024) :
    val_main_v91 x0 x2 x3 x4 x5 x6 x7 x8 x9 x10 (ix3 b (pos n t) k) = (Lsgu.ofArgs x0 x1 x2 x3 x4 x5 x6 x7 x8 x9 x10 x11 b n).gate t k := by
  pointwise [x1_at x0 x1 x2 x3 x4 x5 x6 x7 x8 x9 x10 x11 b n, rr1_at x0 x1 x2 x3 x4 x5 x6 x7 x8 x9 x10 x11 b n, val_main_v80, val_main_v81, val_main_v82, val_main_v83, val_main_v84, val_main_v85, val_main_v86, val_main_v87, val_main_v88, val_main_v89, val_main_v90, val_main_v91, val_main_cst_15, val_main_cst_16, Layer.gate, Ideal.logistic, Lsgu.ofArgs]

theorem x2_at (t : Fin 128) (k : Fin 1024) :
    val_main_v94 x0 x1 x2 x3 x4 x5 x6 x7 x8 x9 x10 x11 (ix3 b (pos n t) k) = (Lsgu.ofArgs x0 x1 x2 x3 x4 x5 x6 x7 x8 x9 x10 x11 b n).x2 t k := by
  pointwise [x1_at x0 x1 x2 x3 x4 x5 x6 x7 x8 x9 x10 x11 b n, gate_at x0 x1 x2 x3 x4 x5 x6 x7 x8 x9 x10 x11 b n, val_main_v92, val_main_v93, val_main_v94, Layer.x2, Lsgu.ofArgs]

/-! ## The five results -/

/-- A function of a chunk's rows, as an array of 8192 rows. -/
def rows {n : ℕ} (f : Layer → Fin 128 → Fin n → EReal) : (⟨2, ![8192, n]⟩ : Shape).Idx → EReal := fun i =>
  have h0 : (i 0).val < 8192 := (i 0).isLt
  f (Lsgu.ofArgs x0 x1 x2 x3 x4 x5 x6 x7 x8 x9 x10 x11 ⟨(i 0).val / 4096, by omega⟩ ⟨(i 0).val % 4096 / 128, by omega⟩) ⟨(i 0).val % 128, by omega⟩
    ⟨(i 1).val, (i 1).isLt⟩

theorem row_cases (i : Fin 8192) : ∃ (b : Fin 2) (n : Fin 32) (t : Fin 128), i = (⟨b.val * 4096 + (pos n t).val, by omega⟩ : Fin 8192) :=
  ⟨⟨i.val / 4096, by omega⟩, ⟨i.val % 4096 / 128, by omega⟩, ⟨i.val % 128, by omega⟩, Fin.ext (by unfold pos; dsimp only; omega)⟩

theorem rows_at {n' : ℕ} (f : Layer → Fin 128 → Fin n' → EReal) (t : Fin 128) (k : Fin n') :
    rows x0 x1 x2 x3 x4 x5 x6 x7 x8 x9 x10 x11 f (ix2 ⟨b.val * 4096 + (pos n t).val, by omega⟩ k) = f (Lsgu.ofArgs x0 x1 x2 x3 x4 x5 x6 x7 x8 x9 x10 x11 b n) t k := by
  have hp : (pos n t).val = n.val * 128 + t.val := rfl
  unfold rows
  have e0 : (⟨(b.val * 4096 + (pos n t).val) / 4096, by omega⟩ : Fin 2) = b := Fin.ext (by dsimp only; omega)
  have e1 : (⟨(b.val * 4096 + (pos n t).val) % 4096 / 128, by omega⟩ : Fin 32) = n := Fin.ext (by dsimp only; omega)
  have e2 : (⟨(b.val * 4096 + (pos n t).val) % 128, by omega⟩ : Fin 128) = t := Fin.ext (by dsimp only; omega)
  exact congr (congr (congrArg f (congr (congrArg (Lsgu.ofArgs x0 x1 x2 x3 x4 x5 x6 x7 x8 x9 x10 x11) e0) e1)) e2) rfl

/-- An array of 2 by 4096 rows, reshaped to 8192 rows. -/
theorem reshaped {n' : ℕ} (v : (⟨3, ![2, 4096, n']⟩ : Shape).Idx → EReal) (w : (⟨2, ![8192, n']⟩ : Shape).Idx → EReal)
    (f : Layer → Fin 128 → Fin n' → EReal)
    (hw : ∀ (b : Fin 2) (s : Fin 4096) (k : Fin n'), w (ix2 ⟨b.val * 4096 + s.val, by omega⟩ k) = v (ix3 b s k))
    (hv : ∀ b n t k, v (ix3 b (pos n t) k) = f (Lsgu.ofArgs x0 x1 x2 x3 x4 x5 x6 x7 x8 x9 x10 x11 b n) t k) : w = rows x0 x1 x2 x3 x4 x5 x6 x7 x8 x9 x10 x11 f := by
  funext i
  obtain ⟨r, k, rfl⟩ : ∃ (r : Fin 8192) (k : Fin n'), i = ix2 r k := ⟨i 0, i 1, by
    funext a
    match a with
    | ⟨0, _⟩ => rfl
    | ⟨1, _⟩ => rfl⟩
  obtain ⟨b, n, t, rfl⟩ := row_cases r
  rw [hw, hv, rows_at]

theorem v96_eq : val_main_v96 x0 x2 = rows x0 x1 x2 x3 x4 x5 x6 x7 x8 x9 x10 x11 Layer.h :=
  reshaped x0 x1 x2 x3 x4 x5 x6 x7 x8 x9 x10 x11 (val_main_v12 x0 x2) _ Layer.h (fun b s k => by pointwise [val_main_v95, val_main_v96])
    fun b n => h_at x0 x1 x2 x3 x4 x5 x6 x7 x8 x9 x10 x11 b n

theorem v97_eq : val_main_v97 x0 x2 x3 = rows x0 x1 x2 x3 x4 x5 x6 x7 x8 x9 x10 x11 Layer.proj :=
  reshaped x0 x1 x2 x3 x4 x5 x6 x7 x8 x9 x10 x11 (val_main_v13 x0 x2 x3) _ Layer.proj (fun b s k => by pointwise [val_main_v97])
    fun b n => proj_at x0 x1 x2 x3 x4 x5 x6 x7 x8 x9 x10 x11 b n

theorem v98_eq : val_main_v98 x0 x2 x3 x4 x5 x6 x7 x8 = rows x0 x1 x2 x3 x4 x5 x6 x7 x8 x9 x10 x11 Layer.x1 :=
  reshaped x0 x1 x2 x3 x4 x5 x6 x7 x8 x9 x10 x11 (val_main_v71 x0 x2 x3 x4 x5 x6 x7 x8) _ Layer.x1 (fun b s k => by pointwise [val_main_v98])
    fun b n => x1_at x0 x1 x2 x3 x4 x5 x6 x7 x8 x9 x10 x11 b n

theorem v99_eq : val_main_v99 x0 x2 x3 x4 x5 x6 x7 x8 x9 x10 = rows x0 x1 x2 x3 x4 x5 x6 x7 x8 x9 x10 x11 Layer.gate :=
  reshaped x0 x1 x2 x3 x4 x5 x6 x7 x8 x9 x10 x11 (val_main_v91 x0 x2 x3 x4 x5 x6 x7 x8 x9 x10) _ Layer.gate (fun b s k => by pointwise [val_main_v99])
    fun b n => gate_at x0 x1 x2 x3 x4 x5 x6 x7 x8 x9 x10 x11 b n

theorem v100_eq : val_main_v100 x0 x1 x2 x3 x4 x5 x6 x7 x8 x9 x10 x11 = rows x0 x1 x2 x3 x4 x5 x6 x7 x8 x9 x10 x11 Layer.x2 :=
  reshaped x0 x1 x2 x3 x4 x5 x6 x7 x8 x9 x10 x11 (val_main_v94 x0 x1 x2 x3 x4 x5 x6 x7 x8 x9 x10 x11) _ Layer.x2 (fun b s k => by pointwise [val_main_v100])
    fun b n => x2_at x0 x1 x2 x3 x4 x5 x6 x7 x8 x9 x10 x11 b n

end Cert.LsguRIdeal.Rows
-- ==== Proof.LsguClaims.lean ====
/-
  A gMLP layer forward: its claims.
-/
module

public import proofs.«01_k».proof.Defs
public import proofs.«01_k».proof.Proof.LsguBlk
public import proofs.«01_k».proof.Proof.LsguValue
public import proofs.«01_k».proof.Proof.Gen.LsguK.Frame
public import proofs.«01_k».proof.Proof.Gen.LsguRIdeal.Run

@[expose] public section

set_option maxRecDepth 16384

noncomputable section

namespace Cert.Lsgu

open Idealize.ShloMosaic Idealize.ShloMosaic.TcCoe Idealize.SL.Sem Cert.LsguRIdeal.Read Cert.LsguRIdeal.Rows

theorem frame_r : Cert.quiescent_LsguRIdeal := fun m ρ _ =>
  (θ_run Cert.LsguRIdeal.defs _ _).mono (fun r h => ⟨fun c => (h c).2.2.2.2.2, sem_eq_zero_of_no_sems (by decide) r.2⟩)
    (Cert.LsguRIdeal.Value.run m ρ)

theorem preserves : Cert.preserves_LsguK_LsguKIdeal :=
  IdealRules.named_const.statement _ _ _ _ _ rfl

open Cert.LsguKIdeal.Rows in
theorem algebraic : Cert.algebraic_LsguKIdeal_LsguRIdeal := fun m ρ m' ρ' _ hag =>
  ⟨fun c => LsguKIdeal.Rows.rows m c Layer.h, fun c => LsguKIdeal.Rows.rows m c Layer.proj, fun c => LsguKIdeal.Rows.rows m c Layer.x1,
    fun c => LsguKIdeal.Rows.rows m c Layer.gate, fun c => LsguKIdeal.Rows.rows m c Layer.x2,
    (θ_run Cert.LsguKIdeal.defs _ _).mono (fun _ h c => ⟨(h c).1.trans (final_h m c), (h c).2.1.trans (final_proj m c),
      (h c).2.2.1.trans (final_x1 m c), (h c).2.2.2.1.trans (final_gate m c), (h c).2.2.2.2.1.trans (final_x2 m c), (h c).2.2.2.2.2⟩)
      (Cert.LsguKIdeal.Value.run_blocks m ρ),
    (θ_run Cert.LsguRIdeal.defs _ _).mono (fun _ h c => by
      obtain ⟨a0, a1, a2, a3, a4, a5, a6, a7, a8, a9, a10, a11⟩ := hag c
      refine ⟨(h c).1.trans ?_, (h c).2.1.trans ?_, (h c).2.2.1.trans ?_, (h c).2.2.2.1.trans ?_, (h c).2.2.2.2.1.trans ?_,
        (h c).2.2.2.2.2⟩
      · rw [val_main_v96_eq]
        exact (congr (congrArg val_main_v96 a0) a2).trans (v96_eq _ _ _ _ _ _ _ _ _ _ _ _)
      · rw [val_main_v97_eq]
        exact (congr (congr (congrArg val_main_v97 a0) a2) a3).trans (v97_eq _ _ _ _ _ _ _ _ _ _ _ _)
      · rw [val_main_v98_eq]
        exact (congr (congr (congr (congr (congr (congr (congr (congrArg val_main_v98 a0) a2) a3) a4) a5) a6) a7) a8).trans
          (v98_eq _ _ _ _ _ _ _ _ _ _ _ _)
      · rw [val_main_v99_eq]
        exact (congr (congr (congr (congr (congr (congr (congr (congr (congr (congrArg val_main_v99 a0) a2) a3) a4) a5) a6) a7) a8) a9)
          a10).trans (v99_eq _ _ _ _ _ _ _ _ _ _ _ _)
      · rw [val_main_v100_eq]
        exact (congr (congr (congr (congr (congr (congr (congr (congr (congr (congr (congr (congrArg val_main_v100 a0) a1) a2) a3) a4) a5)
          a6) a7) a8) a9) a10) a11).trans (v100_eq _ _ _ _ _ _ _ _ _ _ _ _)) (Cert.LsguRIdeal.Value.run m' ρ')⟩

end Cert.Lsgu
-- ==== Proof.InwKernel.lean ====
/-
  The gradient of the input projection's weight: the kernel's result read at an index. The grid is two halves of the
  columns by sixteen blocks of 512 rows; four slabs of 768 columns are summed over the blocks in scratch.
-/
module

public import proofs.«01_k».proof.Proof.Sums
public import proofs.«01_k».proof.Proof.Gen.InwKIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InwKIdeal.Rows

open Idealize.ShloMosaic Idealize.ShloMosaic.TcCoe Idealize.SL.Sem
open Cert.InwKIdeal Cert.InwKIdeal.Gen

variable (m : (ℓ : Loc nD τ sig) → Buf (Elt Ideal) ℓ) (ρ : Dev nD → PrngReg)

theorem idx0 : ∀ t : Fin cfg0.N, win0_0.index t = ![t.val % 16, 0] ∧ win0_1.index t = ![t.val % 16, t.val / 16]
    ∧ win0_2.index t = ![t.val / 16, 0, 0] :=
  (by decide +kernel : ∀ t : Fin grid0.N, _)

/-! ## What each point leaves in the scratch -/

section

variable (h : Vec Ideal S512x1024 .bf16) (d : Vec Ideal S512x3072 .bf16) (p : Vec Ideal S4x1024x768 .f32)

/-- The four slabs, each with its product added. -/
def accL : List (View.Piece (Elt Ideal) S4x1024x768 .f32) :=
  [⟨Rect.unit ![3, 0, 0] ![1, 1024, 768] inb_S4x1024x768_S1x1024x768_3_0_0,
      k0_pay2 (k0_pay5 h) (View.ld p (Rect.unit ![3, 0, 0] ![1, 1024, 768] inb_S4x1024x768_S1x1024x768_3_0_0))
        (View.ld d (Rect.unit ![0, 2304] ![512, 768] inb_S512x3072_S512x768_0_2304))⟩,
   ⟨Rect.unit ![2, 0, 0] ![1, 1024, 768] inb_S4x1024x768_S1x1024x768_2_0_0,
      k0_pay1 (k0_pay5 h) (k0_pay8 (View.ld p (Rect.unit ![2, 0, 0] ![1, 1024, 768] inb_S4x1024x768_S1x1024x768_2_0_0)))
        (k0_pay9 (View.ld d (Rect.unit ![0, 1536] ![512, 768] inb_S512x3072_S512x768_0_1536))) (constant S1024x768 .f32 0x00000000#32)⟩,
   ⟨Rect.unit ![1, 0, 0] ![1, 1024, 768] inb_S4x1024x768_S1x1024x768_1_0_0,
      k0_pay7 h (View.ld p (Rect.unit ![1, 0, 0] ![1, 1024, 768] inb_S4x1024x768_S1x1024x768_1_0_0))
        (View.ld d (Rect.unit ![0, 768] ![512, 768] inb_S512x3072_S512x768_0_768))⟩,
   ⟨Rect.unit ![0, 0, 0] ![1, 1024, 768] inb_S4x1024x768_S1x1024x768_0_0_0,
      k0_pay6 h (View.ld p (Rect.unit ![0, 0, 0] ![1, 1024, 768] inb_S4x1024x768_S1x1024x768_0_0_0))
        (View.ld d (Rect.unit ![0, 0] ![512, 768] inb_S512x3072_S512x768_0_0))⟩]

/-- A slab after a block. -/
def accAt (q : Fin 4) (k : Fin 1024) (j : Fin 768) : EReal :=
  p (ix3 q k j) + ∑ r : Fin 512, h (ix2 r k) * d (ix2 r ⟨q.val * 768 + j.val, by omega⟩)

theorem accL_at (L : List (View.Piece (Elt Ideal) S4x1024x768 .f32)) (q : Fin 4) (k : Fin 1024) (j : Fin 768) :
    View.canon (accL h d p ++ L) (ix3 q k j) = accAt h d p q k j := by
  refine (View.canon_append_of_piecesOf (fun y => accAt h d p ⟨(y 0).val, (y 0).isLt⟩ ⟨(y 1).val, (y 1).isLt⟩ ⟨(y 2).val, (y 2).isLt⟩)
    L (accL h d p) ?_ _ (View.cover_of_tiledL _ ![1, 1024, 768] (by sl_kernel_rfl) _)).trans rfl
  refine ⟨fun x => ?_, fun x => ?_, fun x => ?_, fun x => ?_, trivial⟩
  all_goals
    idx_vars x
    unfold_payloads
    pointwise
    unfold accAt
    simp [Rect.emb, LoadRect.idx, Rect.unit]

end

theorem acc_first (c : Dev nD) (t : Fin cfg0.N) (h0 : t.val % 16 = 0) : (outsAt0 m c t.val t.isLt).2
    = View.canon (accL (iblk m c 0 t) (iblk m c 1 t) (k0_pay4 (F := Ideal))
        ++ [⟨Rect.unit ![0, 0, 0] ![4, 1024, 768] inb_S4x1024x768_S4x1024x768_0_0_0, k0_pay4 (F := Ideal)⟩]) := by
  rw [outsAt0_A m c t h0 (by omega)]
  dsimp only
  frame_open
  simp (disch := decide) only [↓View.readCov_skip, ↓View.readCov_cons_toLoadRect, ↓View.readCov_fill, View.read_writes_junk_eq_canon,
    View.ld_unit_lit', View.readCov_unit_lit', View.readCov_cons_unit_lit', View.readAt_eq_ld, Memref.IsWhole.read_unread, read_unread_whole]
  rfl

theorem acc_next (c : Dev nD) (t : Fin cfg0.N) (h0 : ¬t.val % 16 = 0) : (outsAt0 m c t.val t.isLt).2
    = View.canon (accL (iblk m c 0 t) (iblk m c 1 t) (outsAt0 m c (t.val - 1) (Nat.lt_of_le_of_lt (Nat.sub_le _ _) t.isLt)).2 ++ []) := by
  by_cases h1 : t.val % 16 = 15
  · rw [outsAt0_C m c t h0 h1]
    dsimp only
    frame_open
    simp (disch := decide) only [↓View.readCov_skip, ↓View.readCov_cons_toLoadRect, ↓View.readCov_fill, View.read_writes_junk_eq_canon,
      View.ld_unit_lit', View.readCov_unit_lit', View.readCov_cons_unit_lit', View.readAt_eq_ld, Memref.IsWhole.read_unread, read_unread_whole]
    rfl
  · rw [outsAt0_B m c t h0 h1]
    dsimp only
    frame_open
    simp (disch := decide) only [↓View.readCov_skip, ↓View.readCov_cons_toLoadRect, ↓View.readCov_fill, View.read_writes_junk_eq_canon,
      View.ld_unit_lit', View.readCov_unit_lit', View.readCov_cons_unit_lit', View.readAt_eq_ld, Memref.IsWhole.read_unread, read_unread_whole]
    rfl

/-- A load of the whole scratch reads what the stores left. -/
theorem load_all (v : View sig .tc .vmem S4x1024x768 .f32) (L : List (View.Piece (Elt Ideal) S4x1024x768 .f32)) :
    v.readCov L (Rect.unit ![0, 0, 0] ![4, 1024, 768] inb_S4x1024x768_S4x1024x768_0_0_0).toLoadRect = View.canon L := by
  rw [View.readCov_eq_canon']
  funext y
  refine congrArg (View.canon L) (funext fun a => Fin.ext ?_)
  match a with
  | ⟨0, _⟩ => simp
  | ⟨1, _⟩ => simp
  | ⟨2, _⟩ => simp

theorem out_last (c : Dev nD) (t : Fin cfg0.N) (h1 : t.val % 16 = 15) :
    (outsAt0 m c t.val t.isLt).1 = k0_pay3 (outsAt0 m c t.val t.isLt).2 := by
  have h0 : ¬t.val % 16 = 0 := by omega
  rw [acc_next m c t h0, outsAt0_C m c t h0 h1]
  dsimp only
  frame_open
  simp (disch := decide) only [↓View.readCov_skip, ↓View.readCov_cons_toLoadRect, ↓View.readCov_fill, View.read_writes_junk_eq_canon,
    View.canon_cons_unit_lit', View.ld_unit_lit', View.readCov_unit_lit', View.readCov_cons_unit_lit', View.readAt_eq_ld, Memref.IsWhole.read_unread, read_unread_whole]
  exact congrArg k0_pay3 (load_all _ _)

theorem zero4 (i) : (k0_pay4 (F := Ideal)) i = 0 := by
  unfold_payloads
  pointwise

theorem pay3_at (a : Vec Ideal S4x1024x768 .f32) (i) : k0_pay3 a i = a i := by
  idx_vars i
  unfold_payloads
  pointwise

/-! ## Rows -/

/-- A row of the normalised input: the row over its root mean square, times the gain. -/
def hn (x g : Fin 1024 → EReal) (k : Fin 1024) : EReal :=
  x k * Ideal.rsqrt (Ideal.div (∑ k, x k * x k) (Ideal.ofBits .f32 0x44800000#32) + Ideal.ofBits .f32 0x358637BD#32) * g k

/-- Row `s` of batch `b`: what it adds to the gradient at row `k` and column `j` of the weight. -/
def term (x0 : S2x4096x1024.Idx → EReal) (x1 : S1024.Idx → EReal) (x2 : S2x4096x6144.Idx → EReal) (k : Fin 1024) (j : Fin 6144)
    (b : Fin 2) (s : Fin 4096) : EReal :=
  hn (fun k => x0 (ix3 b s k)) (fun k => x1 (ix1 k)) k * x2 (ix3 b s j)

theorem row_lt (n : Fin 16) (r : Fin 512) : (n.val * 512 + r.val) / 4096 < 2 := by omega

/-- The block a point takes. -/
def bl (t : Fin cfg0.N) : Fin 16 := ⟨t.val % 16, Nat.mod_lt _ (by decide)⟩

theorem half_lt (t : Fin cfg0.N) (j : Fin 3072) : t.val / 16 * 3072 + j.val < 6144 := by
  have := t.isLt; have : cfg0.N = 32 := N_0; omega

theorem blk0 (c : Dev nD) (t : Fin cfg0.N) (r : Fin 512) (k : Fin 1024) :
    iblk m c 0 t (ix2 r k) = hn (fun k => m ((c : Thread nD τ).loc main_arg0)
      (ix3 ⟨((bl t).val * 512 + r.val) / 4096, row_lt _ r⟩ ⟨((bl t).val * 512 + r.val) % 4096, Nat.mod_lt _ (by decide)⟩ k))
      (fun k => m ((c : Thread nD τ).loc main_arg1) (ix1 k)) k := by
  obtain ⟨e0, e1, e2⟩ := idx0 t
  have h1 : (win0_0.blk t).view.emb (ix2 r k) 1 = k := Fin.ext (by blk_simp [e0])
  refine Eq.trans ?_ (congrArg (hn _ _) h1)
  unfold hn bl
  dsimp only
  blk_simp [iblk, e0]
  entry_read
  pointwise
  blk_simp [e0]

theorem blk1 (c : Dev nD) (t : Fin cfg0.N) (r : Fin 512) (j : Fin 3072) :
    iblk m c 1 t (ix2 r j) = m ((c : Thread nD τ).loc main_arg2) (ix3 ⟨((bl t).val * 512 + r.val) / 4096, row_lt _ r⟩
      ⟨((bl t).val * 512 + r.val) % 4096, Nat.mod_lt _ (by decide)⟩ ⟨t.val / 16 * 3072 + j.val, half_lt t j⟩) := by
  obtain ⟨e0, e1, e2⟩ := idx0 t
  unfold bl
  blk_ext! [iblk, V, e1]

end Cert.InwKIdeal.Rows
-- ==== Proof.InwValue.lean ====
/-
  The gradient of the input projection's weight: the array the kernel leaves, and what the reference computes, read at
  an index in the same terms.
-/
module

public import proofs.«01_k».proof.Proof.InwKernel
public import proofs.«01_k».proof.Proof.Gen.InwRIdeal.Read

@[expose] public section

set_option maxRecDepth 16384

noncomputable section

namespace Cert.InwKIdeal.Rows

open Idealize.ShloMosaic Idealize.ShloMosaic.TcCoe Idealize.SL.Sem
open Cert.InwKIdeal Cert.InwKIdeal.Gen

variable (m : (ℓ : Loc nD τ sig) → Buf (Elt Ideal) ℓ) (ρ : Dev nD → PrngReg)

/-- The terms of the arguments. -/
def tm (c : Dev nD) (k : Fin 1024) (j : Fin 6144) (b : Fin 2) (s : Fin 4096) : EReal :=
  term (m ((c : Thread nD τ).loc main_arg0)) (m ((c : Thread nD τ).loc main_arg1)) (m ((c : Thread nD τ).loc main_arg2)) k j b s

/-- What block `n` adds. -/
def blkSum (c : Dev nD) (k : Fin 1024) (j : Fin 6144) (n : Fin 16) : EReal :=
  ∑ r : Fin 512, tm m c k j ⟨(n.val * 512 + r.val) / 4096, row_lt n r⟩ ⟨(n.val * 512 + r.val) % 4096, Nat.mod_lt _ (by decide)⟩

theorem col_lt (t : Fin cfg0.N) (q : Fin 4) (j : Fin 768) : t.val / 16 * 3072 + (q.val * 768 + j.val) < 6144 := by
  have := t.isLt; have : cfg0.N = 32 := N_0; omega

theorem acc_at (c : Dev nD) (t : Fin cfg0.N) (p : Vec Ideal S4x1024x768 .f32) (q : Fin 4) (k : Fin 1024) (j : Fin 768) :
    accAt (iblk m c 0 t) (iblk m c 1 t) p q k j
      = p (ix3 q k j) + blkSum m c k ⟨t.val / 16 * 3072 + (q.val * 768 + j.val), col_lt t q j⟩ (bl t) := by
  unfold accAt blkSum tm term
  simp only [blk0, blk1]

/-- After the last block of a half, a slab holds the sum over all rows. -/
theorem acc_last (c : Dev nD) (t : Fin cfg0.N) (h : t.val % 16 = 15) (q : Fin 4) (k : Fin 1024) (j : Fin 768) :
    (outsAt0 m c t.val t.isLt).2 (ix3 q k j)
      = ∑ b, ∑ s, tm m c k ⟨t.val / 16 * 3072 + (q.val * 768 + j.val), col_lt t q j⟩ b s := by
  refine (Pipeline.eq_sum_fin_of_reset_step_of_flush (fun n hn => (outsAt0 m c n hn).2 (ix3 q k j)) 16 0
    (fun u => blkSum m c k ⟨u.val / 16 * 3072 + (q.val * 768 + j.val), col_lt u q j⟩ (bl u))
    (fun u hu => ?_) (fun u hu => ?_) t h).trans ?_
  · refine (congrFun (acc_first m c u hu) _).trans ((accL_at _ _ _ _ q k j).trans ((acc_at m c u _ q k j).trans ?_))
    rw [zero4]
  · exact (congrFun (acc_next m c u hu) _).trans ((accL_at _ _ _ _ q k j).trans (acc_at m c u _ q k j))
  · rw [zero_add]
    refine Eq.trans (Finset.sum_congr rfl fun s _ => ?_)
      (Sums.sum_blocks 16 512 (by decide) (by decide) (tm m c k ⟨t.val / 16 * 3072 + (q.val * 768 + j.val), col_lt t q j⟩))
    have hs := s.isLt
    have e1 : (16 * (t.val / 16) + s.val) / 16 = t.val / 16 := by omega
    have e2 : (16 * (t.val / 16) + s.val) % 16 = s.val := by omega
    unfold blkSum bl
    simp only [e1, e2]

/-- The gradient, in eight parts of 768 columns. -/
def Gw (c : Dev nD) : S8x1024x768.Idx → EReal := fun i =>
  have h : (i 0).val * 768 + (i 2).val < 6144 := by have := (i 0).isLt; have := (i 2).isLt; simp at *; omega
  ∑ b, ∑ s, tm m c ⟨(i 1).val, (i 1).isLt⟩ ⟨(i 0).val * 768 + (i 2).val, h⟩ b s

theorem flush_mod : ∀ t : Fin cfg0.N, (cfg0.win 2).flush t = true → t.val % 16 = 15 :=
  (by decide +kernel : ∀ t : Fin grid0.N, _)

theorem final_w (c : Dev nD) : (dats m 0 c).arrAt 2 cfg0.N = Gw m c := by
  refine (dats m 0 c).arrAt_eq_of_covers 2 _ (by decide +kernel) fun t hf y => ?_
  obtain ⟨e0, e1, e2⟩ := idx0 t
  have ht := flush_mod t hf
  blk_simp
  rw [after0_2, out_last m c t ht]
  idx_vars y
  refine (pay3_at _ _).trans ((acc_last m c t ht _ _ _).trans ?_)
  unfold Gw
  blk_simp [e2]
  exact Finset.sum_congr rfl fun b _ => Finset.sum_congr rfl fun s _ => congrArg (fun j => tm m c y1 j b s) (Fin.ext (by dsimp only; omega))

end Cert.InwKIdeal.Rows

namespace Cert.InwRIdeal.Rows

open Idealize.ShloMosaic Idealize.ShloMosaic.TcCoe Idealize.SL.Sem
open Cert.InwRIdeal.Read Cert.InwKIdeal.Rows

variable (x0 : (⟨S2x4096x1024, .f32⟩ : BufTy).Contents (Elt Ideal)) (x1 : (⟨S1024, .f32⟩ : BufTy).Contents (Elt Ideal))
  (x2 : (⟨S2x4096x6144, .f32⟩ : BufTy).Contents (Elt Ideal))

theorem hn_at (b : Fin 2) (s : Fin 4096) (k : Fin 1024) :
    val_main_v12 x0 x1 (ix3 b s k) = hn (fun k => x0 (ix3 b s k)) (fun k => x1 (ix1 k)) k := by
  pointwise [hn, val_main_v0, val_main_cst, val_main_v1, val_main_v2, val_main_cst_0, val_main_v3, val_main_v4, val_main_cst_1,
    val_main_v5, val_main_v6, val_main_v7, val_main_v8, val_main_v9, val_main_v10, val_main_v11, val_main_v12]

theorem v19_at (q : Fin 8) (k : Fin 1024) (j : Fin 768) :
    val_main_v19 x0 x1 x2 (ix3 q k j) = ∑ b, ∑ s, term x0 x1 x2 k ⟨q.val * 768 + j.val, by omega⟩ b s := by
  have e : val_main_v19 x0 x1 x2 (ix3 q k j) = ∑ b : Fin 2, ∑ s : Fin 4096,
      x2 (ix3 b s ⟨q.val * 768 + j.val, by omega⟩) * hn (fun k => x0 (ix3 b s k)) (fun k => x1 (ix1 k)) k := by
    pointwise [hn_at, val_main_v15, val_main_v16, val_main_v17, val_main_v18, val_main_v19]
  rw [e]
  exact Finset.sum_congr rfl fun b _ => Finset.sum_congr rfl fun s _ => mul_comm _ _

end Cert.InwRIdeal.Rows
-- ==== Proof.InwClaims.lean ====
/-
  The gradient of the input projection's weight: its claims.
-/
module

public import proofs.«01_k».proof.Defs
public import proofs.«01_k».proof.Proof.InwValue
public import proofs.«01_k».proof.Proof.Gen.InwK.Frame
public import proofs.«01_k».proof.Proof.Gen.InwRIdeal.Run

@[expose] public section

set_option maxRecDepth 16384

noncomputable section

namespace Cert.Inw

open Idealize.ShloMosaic Idealize.ShloMosaic.TcCoe Idealize.SL.Sem Cert.InwKIdeal.Rows Cert.InwRIdeal.Rows

theorem frame_r : Cert.quiescent_InwRIdeal := fun m ρ _ =>
  (θ_run Cert.InwRIdeal.defs _ _).mono (fun r h => ⟨fun c => (h c).2, sem_eq_zero_of_no_sems (by decide) r.2⟩)
    (Cert.InwRIdeal.Value.run m ρ)

theorem algebraic : Cert.algebraic_InwKIdeal_InwRIdeal := fun m ρ m' ρ' _ hag =>
  ⟨Gw m,
    (θ_run Cert.InwKIdeal.defs _ _).mono (fun _ h c => ⟨(h c).1.trans (final_w m c), (h c).2⟩) (Cert.InwKIdeal.Value.run_blocks m ρ),
    (θ_run Cert.InwRIdeal.defs _ _).mono (fun _ h c => by
      obtain ⟨a0, a1, a2⟩ := hag c
      refine ⟨(h c).1.trans ?_, (h c).2⟩
      rw [Cert.InwRIdeal.Read.val_main_v19_eq]
      refine (congr (congr (congrArg Cert.InwRIdeal.Read.val_main_v19 a0) a1) a2).trans ?_
      funext i
      idx_vars i
      exact v19_at _ _ _ _ _ _) (Cert.InwRIdeal.Value.run m' ρ')⟩

end Cert.Inw
-- ==== Proof.AdamRow.lean ====
/-
  One element of the optimiser's step: the gradient summed over the eight devices' parts, the two moments and the change.
-/
module

public import Idealize.ShloMosaic.Lib.Pointwise

@[expose] public section

noncomputable section

namespace Cert.Step

open Idealize.ShloMosaic

/-- The eight parts, added one after the other. -/
def gS (p : Fin 8 → EReal) : EReal := p 0 + p 1 + p 2 + p 3 + p 4 + p 5 + p 6 + p 7

/-- The first moment. -/
def nmE (m g : EReal) : EReal := Ideal.ofBits .f32 0x3F666666#32 * m + Ideal.ofBits .f32 0x3DCCCCCD#32 * g

/-- The second moment. -/
def nvE (v g : EReal) : EReal := Ideal.ofBits .f32 0x3F7FBE77#32 * v + Ideal.ofBits .f32 0x3A83126F#32 * (g * g)

/-- The weight's change. -/
def dE (w m v g : EReal) : EReal :=
  Ideal.ofBits .f32 0xBA83126F#32 * (Ideal.div (Ideal.div (nmE m g) (Ideal.ofBits .f32 0x3F26BD02#32))
    (Ideal.sqrt (Ideal.div (nvE v g) (Ideal.ofBits .f32 0x3C231ACC#32)) + Ideal.ofBits .f32 0x322BCC77#32)
    + Ideal.ofBits .f32 0x3C23D70A#32 * w)

theorem sum_gS (p : Fin 8 → EReal) : ∑ k, p k = gS p := Fin.sum_univ_eight p

end Cert.Step
-- ==== Proof.AdamKernel.lean ====
/-
  The optimiser's step for one group of weights: the kernel's four results read at an index. Four layers by eight blocks
  of 128 rows; a point takes the parts of its own layer.
-/
module

public import proofs.«01_k».proof.Proof.AdamRow
public import proofs.«01_k».proof.Proof.Gen.AdamKIdeal.Value
public import Idealize.ShloMosaic.Lib.Pipeline.ValueKit
public import Idealize.ShloMosaic.Lib.Pipeline.ReadBack

@[expose] public section

set_option maxRecDepth 16384

noncomputable section

namespace Cert.AdamKIdeal.Rows

open Idealize.ShloMosaic Idealize.ShloMosaic.TcCoe Idealize.SL.Sem
open Cert.AdamKIdeal Cert.AdamKIdeal.Gen Cert.Step

variable (m : (ℓ : Loc nD τ sig) → Buf (Elt Ideal) ℓ) (ρ : Dev nD → PrngReg)

theorem idx0 : ∀ t : Fin cfg0.N, win0_0.index t = ![0, if t.val / 8 = 0 then t.val % 8 else 0, 0]
    ∧ win0_1.index t = ![0, if t.val / 8 = 1 then t.val % 8 else 0, 0]
    ∧ win0_2.index t = ![0, if t.val / 8 = 2 then t.val % 8 else 0, 0]
    ∧ win0_3.index t = ![0, if t.val / 8 = 3 then t.val % 8 else 0, 0]
    ∧ win0_4.index t = ![t.val / 8, t.val % 8, 0] ∧ win0_5.index t = ![t.val / 8, t.val % 8, 0] ∧ win0_6.index t = ![t.val / 8, t.val % 8, 0]
    ∧ win0_7.index t = ![t.val / 8, t.val % 8, 0] ∧ win0_8.index t = ![t.val / 8, t.val % 8, 0] ∧ win0_9.index t = ![t.val / 8, t.val % 8, 0]
    ∧ win0_10.index t = ![t.val / 8, t.val % 8, 0] :=
  (by decide +kernel : ∀ t : Fin grid0.N, _)

/-- What a point leaves in its four blocks, at an index: `p` its layer's parts. -/
def Leaves (c : Dev nD) (t : Fin cfg0.N) (p : Fin 8 → Fin 128 → Fin 768 → EReal) (z : Fin 1) (r : Fin 128) (j : Fin 768) : Prop :=
  (outsAt0 m c t.val t.isLt).1 (ix3 z r j) = gS (fun s => p s r j)
  ∧ (outsAt0 m c t.val t.isLt).2.1 (ix3 z r j)
    = dE (iblk m c 4 t (ix3 0 r j)) (iblk m c 5 t (ix3 0 r j)) (iblk m c 6 t (ix3 0 r j)) (gS (fun s => p s r j))
  ∧ (outsAt0 m c t.val t.isLt).2.2.1 (ix3 z r j) = nmE (iblk m c 5 t (ix3 0 r j)) (gS (fun s => p s r j))
  ∧ (outsAt0 m c t.val t.isLt).2.2.2 (ix3 z r j) = nvE (iblk m c 6 t (ix3 0 r j)) (gS (fun s => p s r j))

theorem leaves_A (c : Dev nD) (t : Fin cfg0.N) (h : t.val < 8) (z : Fin 1) (r : Fin 128) (j : Fin 768) :
    Leaves m c t (fun s r j => iblk m c 0 t (ix3 s r j)) z r j := by
  unfold Leaves
  rw [outsAt0_A m c t h (by omega) (by omega) (by omega)]
  dsimp only
  refine ⟨?_, ?_, ?_, ?_⟩ <;> frame_out <;> unfold_payloads <;> pointwise [gS, dE, nmE, nvE]

theorem leaves_B (c : Dev nD) (t : Fin cfg0.N) (h : t.val / 8 = 1) (z : Fin 1) (r : Fin 128) (j : Fin 768) :
    Leaves m c t (fun s r j => iblk m c 1 t (ix3 s r j)) z r j := by
  unfold Leaves
  rw [outsAt0_B m c t (by omega) (by omega) (by omega) (by omega)]
  dsimp only
  refine ⟨?_, ?_, ?_, ?_⟩ <;> frame_out <;> unfold_payloads <;> pointwise [gS, dE, nmE, nvE]

theorem leaves_C (c : Dev nD) (t : Fin cfg0.N) (h : t.val / 8 = 2) (z : Fin 1) (r : Fin 128) (j : Fin 768) :
    Leaves m c t (fun s r j => iblk m c 2 t (ix3 s r j)) z r j := by
  unfold Leaves
  rw [outsAt0_C m c t (by omega) (by omega) (by omega) (by omega)]
  dsimp only
  refine ⟨?_, ?_, ?_, ?_⟩ <;> frame_out <;> unfold_payloads <;> pointwise [gS, dE, nmE, nvE]

theorem leaves_D (c : Dev nD) (t : Fin cfg0.N) (h : t.val / 8 = 3) (z : Fin 1) (r : Fin 128) (j : Fin 768) :
    Leaves m c t (fun s r j => iblk m c 3 t (ix3 s r j)) z r j := by
  unfold Leaves
  rw [outsAt0_D m c t (by omega) (by omega) (by omega) (by omega)]
  dsimp only
  refine ⟨?_, ?_, ?_, ?_⟩ <;> frame_out <;> unfold_payloads <;> pointwise [gS, dE, nmE, nvE]

/-! ## The blocks as rows of the arguments -/

/-- The parts of a layer. -/
def part (p0 p1 p2 p3 : S8x1024x768.Idx → EReal) (l : Fin 4) (s : Fin 8) (r : Fin 1024) (j : Fin 768) : EReal :=
  match l with
  | 0 => p0 (ix3 s r j)
  | 1 => p1 (ix3 s r j)
  | 2 => p2 (ix3 s r j)
  | 3 => p3 (ix3 s r j)

def pt (c : Dev nD) : Fin 4 → Fin 8 → Fin 1024 → Fin 768 → EReal :=
  part (m ((c : Thread nD τ).loc main_arg0)) (m ((c : Thread nD τ).loc main_arg1)) (m ((c : Thread nD τ).loc main_arg2))
    (m ((c : Thread nD τ).loc main_arg3))

/-- A point's layer, and a row of its block. -/
def ly (t : Fin cfg0.N) : Fin 4 := ⟨t.val / 8, by have := t.isLt; have : cfg0.N = 32 := N_0; omega⟩
def rw' (t : Fin cfg0.N) (r : Fin 128) : Fin 1024 := ⟨t.val % 8 * 128 + r.val, by omega⟩

theorem leaves (c : Dev nD) (t : Fin cfg0.N) (z : Fin 1) (r : Fin 128) (j : Fin 768) :
    Leaves m c t (fun s r j => pt m c (ly t) s (rw' t r) j) z r j := by
  obtain ⟨e0, e1, e2, e3, e4⟩ := idx0 t
  have hN : t.val < 32 := lt_of_lt_of_eq t.isLt N_0
  obtain h | h | h | h : t.val / 8 = 0 ∨ t.val / 8 = 1 ∨ t.val / 8 = 2 ∨ t.val / 8 = 3 := by omega
  · have e : ∀ s r j, pt m c (ly t) s (rw' t r) j = iblk m c 0 t (ix3 s r j) := fun s r j => by
      rw [show ly t = 0 from Fin.ext h]
      unfold pt part rw'
      rw [if_pos h] at e0
      symm
      blk_ext! [iblk, V, e0]
    simp only [e]
    exact leaves_A m c t (by omega) z r j
  · have e : ∀ s r j, pt m c (ly t) s (rw' t r) j = iblk m c 1 t (ix3 s r j) := fun s r j => by
      rw [show ly t = 1 from Fin.ext h]
      unfold pt part rw'
      rw [if_pos h] at e1
      symm
      blk_ext! [iblk, V, e1]
    simp only [e]
    exact leaves_B m c t h z r j
  · have e : ∀ s r j, pt m c (ly t) s (rw' t r) j = iblk m c 2 t (ix3 s r j) := fun s r j => by
      rw [show ly t = 2 from Fin.ext h]
      unfold pt part rw'
      rw [if_pos h] at e2
      symm
      blk_ext! [iblk, V, e2]
    simp only [e]
    exact leaves_C m c t h z r j
  · have e : ∀ s r j, pt m c (ly t) s (rw' t r) j = iblk m c 3 t (ix3 s r j) := fun s r j => by
      rw [show ly t = 3 from Fin.ext h]
      unfold pt part rw'
      rw [if_pos h] at e3
      symm
      blk_ext! [iblk, V, e3]
    simp only [e]
    exact leaves_D m c t h z r j

theorem blk4 (c : Dev nD) (t : Fin cfg0.N) (r : Fin 128) (j : Fin 768) :
    iblk m c 4 t (ix3 0 r j) = m ((c : Thread nD τ).loc main_arg4) (ix3 (ly t) (rw' t r) j) := by
  obtain ⟨e0, e1, e2, e3, e4, e5, e6, e7⟩ := idx0 t
  unfold ly rw'
  blk_ext! [iblk, V, e4]
theorem blk5 (c : Dev nD) (t : Fin cfg0.N) (r : Fin 128) (j : Fin 768) :
    iblk m c 5 t (ix3 0 r j) = m ((c : Thread nD τ).loc main_arg5) (ix3 (ly t) (rw' t r) j) := by
  obtain ⟨e0, e1, e2, e3, e4, e5, e6, e7⟩ := idx0 t
  unfold ly rw'
  blk_ext! [iblk, V, e5]
theorem blk6 (c : Dev nD) (t : Fin cfg0.N) (r : Fin 128) (j : Fin 768) :
    iblk m c 6 t (ix3 0 r j) = m ((c : Thread nD τ).loc main_arg6) (ix3 (ly t) (rw' t r) j) := by
  obtain ⟨e0, e1, e2, e3, e4, e5, e6, e7⟩ := idx0 t
  unfold ly rw'
  blk_ext! [iblk, V, e6]

end Cert.AdamKIdeal.Rows
-- ==== Proof.AdamValue.lean ====
/-
  The optimiser's step for one group of weights: the four arrays the kernel leaves, and what the reference computes, read
  at an index in the same terms.
-/
module

public import proofs.«01_k».proof.Proof.AdamKernel
public import proofs.«01_k».proof.Proof.Gen.AdamRIdeal.Read

@[expose] public section

set_option maxRecDepth 16384

noncomputable section

namespace Cert.AdamKIdeal.Rows

open Idealize.ShloMosaic Idealize.ShloMosaic.TcCoe Idealize.SL.Sem
open Cert.AdamKIdeal Cert.AdamKIdeal.Gen Cert.Step

variable (m : (ℓ : Loc nD τ sig) → Buf (Elt Ideal) ℓ) (ρ : Dev nD → PrngReg)

/-- A result, by layer, row and column. -/
def arr (f : Fin 4 → Fin 1024 → Fin 768 → EReal) : S4x1024x768.Idx → EReal :=
  fun i => f ⟨(i 0).val, (i 0).isLt⟩ ⟨(i 1).val, (i 1).isLt⟩ ⟨(i 2).val, (i 2).isLt⟩

def gA (c : Dev nD) (l : Fin 4) (r : Fin 1024) (j : Fin 768) : EReal := gS (fun s => pt m c l s r j)
def dA (c : Dev nD) (l : Fin 4) (r : Fin 1024) (j : Fin 768) : EReal :=
  dE (m ((c : Thread nD τ).loc main_arg4) (ix3 l r j)) (m ((c : Thread nD τ).loc main_arg5) (ix3 l r j))
    (m ((c : Thread nD τ).loc main_arg6) (ix3 l r j)) (gA m c l r j)
def nmA (c : Dev nD) (l : Fin 4) (r : Fin 1024) (j : Fin 768) : EReal :=
  nmE (m ((c : Thread nD τ).loc main_arg5) (ix3 l r j)) (gA m c l r j)
def nvA (c : Dev nD) (l : Fin 4) (r : Fin 1024) (j : Fin 768) : EReal :=
  nvE (m ((c : Thread nD τ).loc main_arg6) (ix3 l r j)) (gA m c l r j)

theorem final_g (c : Dev nD) : (dats m 0 c).arrAt 7 cfg0.N = arr (gA m c) := by
  refine (dats m 0 c).arrAt_eq_of_covers 7 _ (by decide +kernel) fun t hf y => ?_
  obtain ⟨e0, e1, e2, e3, e4, e5, e6, e7, e8, e9, e10⟩ := idx0 t
  blk_simp
  rw [after0_7]
  idx_vars y
  refine ((leaves m c t y0 y1 y2).1).trans ?_
  unfold arr gA ly rw'
  blk_simp [e7]

theorem final_d (c : Dev nD) : (dats m 0 c).arrAt 8 cfg0.N = arr (dA m c) := by
  refine (dats m 0 c).arrAt_eq_of_covers 8 _ (by decide +kernel) fun t hf y => ?_
  obtain ⟨e0, e1, e2, e3, e4, e5, e6, e7, e8, e9, e10⟩ := idx0 t
  blk_simp
  rw [after0_8]
  idx_vars y
  refine ((leaves m c t y0 y1 y2).2.1).trans ?_
  rw [blk4, blk5, blk6]
  unfold arr dA gA ly rw'
  blk_simp [e8]

theorem final_nm (c : Dev nD) : (dats m 0 c).arrAt 9 cfg0.N = arr (nmA m c) := by
  refine (dats m 0 c).arrAt_eq_of_covers 9 _ (by decide +kernel) fun t hf y => ?_
  obtain ⟨e0, e1, e2, e3, e4, e5, e6, e7, e8, e9, e10⟩ := idx0 t
  blk_simp
  rw [after0_9]
  idx_vars y
  refine ((leaves m c t y0 y1 y2).2.2.1).trans ?_
  rw [blk5]
  unfold arr nmA gA ly rw'
  blk_simp [e9]

theorem final_nv (c : Dev nD) : (dats m 0 c).arrAt 10 cfg0.N = arr (nvA m c) := by
  refine (dats m 0 c).arrAt_eq_of_covers 10 _ (by decide +kernel) fun t hf y => ?_
  obtain ⟨e0, e1, e2, e3, e4, e5, e6, e7, e8, e9, e10⟩ := idx0 t
  blk_simp
  rw [after0_10]
  idx_vars y
  refine ((leaves m c t y0 y1 y2).2.2.2).trans ?_
  rw [blk6]
  unfold arr nvA gA ly rw'
  blk_simp [e10]

end Cert.AdamKIdeal.Rows

namespace Cert.AdamRIdeal.Rows

open Idealize.ShloMosaic Idealize.ShloMosaic.TcCoe Idealize.SL.Sem
open Cert.AdamRIdeal Cert.AdamRIdeal.Read Cert.AdamKIdeal.Rows Cert.Step

variable (x0 x1 x2 x3 : (⟨S8x1024x768, .f32⟩ : BufTy).Contents (Elt Ideal)) (x4 x5 x6 : (⟨S4x1024x768, .f32⟩ : BufTy).Contents (Elt Ideal))

/-- The coordinates off the stacking axis. -/
theorem off_axis (i : S1x1024x768.Idx) (l : Fin 4) (r : Fin 1024) (j : Fin 768)
    (hb : ∀ b : Fin S4x1024x768.rank, b ≠ 0 → (i b : ℕ) = ix3 l r j b) : i 1 = r ∧ i 2 = j :=
  ⟨Fin.ext (hb 1 (by decide)), Fin.ext (hb 2 (by decide))⟩

theorem sum0_at (x : (⟨S8x1024x768, .f32⟩ : BufTy).Contents (Elt Ideal)) (i : S1x1024x768.Idx) :
    val_main_v4 x i = ∑ s : Fin 8, x (ix3 s (i 1) (i 2)) := by
  idx_vars i
  pointwise [val_main_cst, val_main_v0, val_main_v4]

theorem sum1_at (x : (⟨S8x1024x768, .f32⟩ : BufTy).Contents (Elt Ideal)) (i : S1x1024x768.Idx) :
    val_main_v5 x i = ∑ s : Fin 8, x (ix3 s (i 1) (i 2)) := by
  idx_vars i
  pointwise [val_main_cst_0, val_main_v1, val_main_v5]

theorem sum2_at (x : (⟨S8x1024x768, .f32⟩ : BufTy).Contents (Elt Ideal)) (i : S1x1024x768.Idx) :
    val_main_v6 x i = ∑ s : Fin 8, x (ix3 s (i 1) (i 2)) := by
  idx_vars i
  pointwise [val_main_cst_1, val_main_v2, val_main_v6]

theorem sum3_at (x : (⟨S8x1024x768, .f32⟩ : BufTy).Contents (Elt Ideal)) (i : S1x1024x768.Idx) :
    val_main_v7 x i = ∑ s : Fin 8, x (ix3 s (i 1) (i 2)) := by
  idx_vars i
  pointwise [val_main_cst_2, val_main_v3, val_main_v7]

theorem v8_at (l : Fin 4) (r : Fin 1024) (j : Fin 768) :
    val_main_v8 x0 x1 x2 x3 (ix3 l r j) = gS (fun s => part x0 x1 x2 x3 l s r j) := by
  rw [← sum_gS]
  unfold val_main_v8
  refine concatenate_unit_eq _ _ _ _ _ rfl ?_
  refine ⟨fun h hr i h0 hb => ?_, fun h hr i h0 hb => ?_, fun h hr i h0 hb => ?_, fun h hr i h0 hb => ?_, trivial⟩
  · obtain rfl : l = 0 := Fin.ext h
    obtain ⟨rfl, rfl⟩ := off_axis i _ r j hb
    exact sum0_at x0 i
  · obtain rfl : l = 1 := Fin.ext h
    obtain ⟨rfl, rfl⟩ := off_axis i _ r j hb
    exact sum1_at x1 i
  · obtain rfl : l = 2 := Fin.ext h
    obtain ⟨rfl, rfl⟩ := off_axis i _ r j hb
    exact sum2_at x2 i
  · obtain rfl : l = 3 := Fin.ext h
    obtain ⟨rfl, rfl⟩ := off_axis i _ r j hb
    exact sum3_at x3 i

theorem v13_at (l : Fin 4) (r : Fin 1024) (j : Fin 768) :
    val_main_v13 x0 x1 x2 x3 x5 (ix3 l r j) = nmE (x5 (ix3 l r j)) (gS (fun s => part x0 x1 x2 x3 l s r j)) := by
  pointwise [v8_at, nmE, val_main_cst_3, val_main_v9, val_main_v10, val_main_cst_4, val_main_v11, val_main_v12, val_main_v13]

theorem v19_at (l : Fin 4) (r : Fin 1024) (j : Fin 768) :
    val_main_v19 x0 x1 x2 x3 x6 (ix3 l r j) = nvE (x6 (ix3 l r j)) (gS (fun s => part x0 x1 x2 x3 l s r j)) := by
  pointwise [v8_at, nvE, val_main_cst_5, val_main_v14, val_main_v15, val_main_v16, val_main_cst_6, val_main_v17, val_main_v18, val_main_v19]

theorem v32_at (l : Fin 4) (r : Fin 1024) (j : Fin 768) : val_main_v32 x0 x1 x2 x3 x4 x5 x6 (ix3 l r j)
    = dE (x4 (ix3 l r j)) (x5 (ix3 l r j)) (x6 (ix3 l r j)) (gS (fun s => part x0 x1 x2 x3 l s r j)) := by
  pointwise [v13_at, v19_at, dE, val_main_cst_7, val_main_v20, val_main_v21, val_main_cst_8, val_main_v22, val_main_v23, val_main_v24,
    val_main_cst_9, val_main_v25, val_main_v26, val_main_v27, val_main_cst_10, val_main_v28, val_main_v29, val_main_v30,
    val_main_cst_11, val_main_v31, val_main_v32]

end Cert.AdamRIdeal.Rows
-- ==== Proof.AdamClaims.lean ====
/-
  The optimiser's step for one group of weights: its claims.
-/
module

public import proofs.«01_k».proof.Defs
public import proofs.«01_k».proof.Proof.AdamValue
public import proofs.«01_k».proof.Proof.Gen.AdamK.Frame
public import proofs.«01_k».proof.Proof.Gen.AdamRIdeal.Run

@[expose] public section

set_option maxRecDepth 16384

noncomputable section

namespace Cert.Adam

open Idealize.ShloMosaic Idealize.ShloMosaic.TcCoe Idealize.SL.Sem Cert.AdamKIdeal.Rows Cert.AdamRIdeal.Rows

theorem frame_r : Cert.quiescent_AdamRIdeal := fun m ρ _ =>
  (θ_run Cert.AdamRIdeal.defs _ _).mono (fun r h => ⟨fun c => (h c).2.2.2.2, sem_eq_zero_of_no_sems (by decide) r.2⟩)
    (Cert.AdamRIdeal.Value.run m ρ)

theorem algebraic : Cert.algebraic_AdamKIdeal_AdamRIdeal := fun m ρ m' ρ' _ hag =>
  ⟨fun c => arr (gA m c), fun c => arr (dA m c), fun c => arr (nmA m c), fun c => arr (nvA m c),
    (θ_run Cert.AdamKIdeal.defs _ _).mono (fun _ h c => ⟨(h c).1.trans (final_g m c), (h c).2.1.trans (final_d m c),
      (h c).2.2.1.trans (final_nm m c), (h c).2.2.2.1.trans (final_nv m c), (h c).2.2.2.2⟩) (Cert.AdamKIdeal.Value.run_blocks m ρ),
    (θ_run Cert.AdamRIdeal.defs _ _).mono (fun _ h c => by
      obtain ⟨a0, a1, a2, a3, a4, a5, a6⟩ := hag c
      refine ⟨(h c).1.trans ?_, (h c).2.1.trans ?_, (h c).2.2.1.trans ?_, (h c).2.2.2.1.trans ?_, (h c).2.2.2.2⟩
      · refine (congr (congr (congr (congrArg Cert.AdamRIdeal.Read.val_main_v8 a0) a1) a2) a3).trans ?_
        funext i
        idx_vars i
        exact v8_at _ _ _ _ _ _ _
      · rw [Cert.AdamRIdeal.Read.val_main_v32_eq]
        refine (congr (congr (congr (congr (congr (congr (congrArg Cert.AdamRIdeal.Read.val_main_v32 a0) a1) a2) a3) a4) a5) a6).trans ?_
        funext i
        idx_vars i
        exact v32_at _ _ _ _ _ _ _ _ _ _
      · refine (congr (congr (congr (congr (congrArg Cert.AdamRIdeal.Read.val_main_v13 a0) a1) a2) a3) a5).trans ?_
        funext i
        idx_vars i
        exact v13_at _ _ _ _ _ _ _ _
      · refine (congr (congr (congr (congr (congrArg Cert.AdamRIdeal.Read.val_main_v19 a0) a1) a2) a3) a6).trans ?_
        funext i
        idx_vars i
        exact v19_at _ _ _ _ _ _ _ _) (Cert.AdamRIdeal.Value.run m' ρ')⟩

end Cert.Adam
-- ==== Proof.AdsBlock.lean ====
/-
  One weight of the optimiser of the small weights, at any shape: the eight parts of its gradient are summed, the two
  moments and the step are computed, and the four results are stored. The kernel does this once for every weight.
-/
module

public import proofs.«01_k».proof.Proof.Gen.AdsKIdeal
public import Idealize.ShloMosaic.Lib.Pipeline.Kit
public import Idealize.ShloMosaic.Lib.Pipeline.FrameBody
public import Idealize.ShloMosaic.Lib.Pipeline.Value
public import Idealize.ShloMosaic.Lib.Exec
public import Idealize.ShloMosaic.Lib.Tactic

@[expose] public section

set_option maxRecDepth 16384

noncomputable section

namespace Cert.AdsKIdeal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AdsKIdeal

variable {F : FTy → Type} [FloatOps F]

/-! ## What is computed -/

/-- The sum of the eight parts, from the first to the last. -/
def total {s1 s : Shape} (hc : s1.ShapeCasts s) (p0 p1 p2 p3 p4 p5 p6 p7 : Vec F s1 .f32) : FVec F s .f32 :=
  addf (addf (addf (addf (addf (addf (addf (shapeCast s p0 hc) (shapeCast s p1 hc)) (shapeCast s p2 hc)) (shapeCast s p3 hc))
    (shapeCast s p4 hc)) (shapeCast s p5 hc)) (shapeCast s p6 hc)) (shapeCast s p7 hc)

/-- The new first moment. -/
def first {s : Shape} (g m : FVec F s .f32) : FVec F s .f32 :=
  addf (mulf (broadcast s (Scalar.ofBits .f32 0x3F666666#32)) m) (mulf (broadcast s (Scalar.ofBits .f32 0x3DCCCCCD#32)) g)

/-- The new second moment. -/
def second {s : Shape} (g v : FVec F s .f32) : FVec F s .f32 :=
  addf (mulf (broadcast s (Scalar.ofBits .f32 0x3F7FBE77#32)) v) (mulf (broadcast s (Scalar.ofBits .f32 0x3A83126F#32)) (mulf g g))

/-- The step. -/
def step {s : Shape} (g w m v : FVec F s .f32) : FVec F s .f32 :=
  mulf (broadcast s (Scalar.ofBits .f32 0xBA83126F#32))
    (addf (divf (divf (first g m) (broadcast s (Scalar.ofBits .f32 0x3F26BD02#32)))
      (addf (sqrt (divf (second g v) (broadcast s (Scalar.ofBits .f32 0x3C231ACC#32)))) (broadcast s (Scalar.ofBits .f32 0x322BCC77#32))))
      (mulf (broadcast s (Scalar.ofBits .f32 0x3C23D70A#32)) w))

/-! ## The program of one weight -/

section
variable {r r' : ℕ} {z8 z1 : Fin r → ℕ} {z : Fin r' → ℕ} (o : Fin 8 → Fin r → ℕ) (inb : ∀ k a, o k a + z1 a ≤ z8 a)
  (h1 : 0 < (⟨r, z1⟩ : Shape).numel) (hc : (⟨r, z1⟩ : Shape).ShapeCasts ⟨r', z⟩)
  (o0 : Fin r' → ℕ) (inb0 : ∀ a, o0 a + z a ≤ z a) (h : 0 < (⟨r', z⟩ : Shape).numel)
  (p : Memref sig .tc .vmem ⟨r, z8⟩ .f32) (w m v g d nm nv : Memref sig .tc .vmem ⟨r', z⟩ .f32)

/-- Part `k`, read from the eight. -/
def part (k : Fin 8) : Prog (TpuEff nD τ sig (Elt F) Λ₀ .tc) (Vec F ⟨r, z1⟩ .f32) :=
  Prog.lift (.load p (Rect.unit (s := ⟨r, z8⟩) (o k) z1 (inb k)).toLoadRect (View.loadsAt_vmem h1))

/-- A whole block read. -/
def rd (a : Memref sig .tc .vmem ⟨r', z⟩ .f32) : Prog (TpuEff nD τ sig (Elt F) Λ₀ .tc) (Vec F ⟨r', z⟩ .f32) :=
  Prog.lift (.load a (Rect.unit (s := ⟨r', z⟩) o0 z inb0).toLoadRect (View.loadsAt_vmem h))

/-- A whole block written; the kernel reads it first and makes no use of what it reads. -/
def wr (a : Memref sig .tc .vmem ⟨r', z⟩ .f32) (x : FVec F ⟨r', z⟩ .f32) : Prog (TpuEff nD τ sig (Elt F) Λ₀ .tc) PUnit := do
  let _ ← rd (F := F) o0 inb0 h a
  Prog.lift (.store a (Rect.unit (s := ⟨r', z⟩) o0 z inb0) x Finset.univ (View.stores_vmem_bits_univ h rfl) (.inl rfl))

/-- The eight parts read and summed. -/
def sum8 : Prog (TpuEff nD τ sig (Elt F) Λ₀ .tc) (FVec F ⟨r', z⟩ .f32) := do
  let p0 ← part (F := F) o inb h1 p 0
  let p1 ← part (F := F) o inb h1 p 1
  let p2 ← part (F := F) o inb h1 p 2
  let p3 ← part (F := F) o inb h1 p 3
  let p4 ← part (F := F) o inb h1 p 4
  let p5 ← part (F := F) o inb h1 p 5
  let p6 ← part (F := F) o inb h1 p 6
  let p7 ← part (F := F) o inb h1 p 7
  pure (total hc p0 p1 p2 p3 p4 p5 p6 p7)

/-- One weight. -/
def one : Prog (TpuEff nD τ sig (Elt F) Λ₀ .tc) PUnit := do
  let gx ← sum8 (F := F) o inb h1 hc p
  let mx ← rd (F := F) o0 inb0 h m
  let vx ← rd (F := F) o0 inb0 h v
  wr o0 inb0 h g gx
  let wx ← rd (F := F) o0 inb0 h w
  wr o0 inb0 h d (step gx wx mx vx)
  wr o0 inb0 h nm (first gx mx)
  wr o0 inb0 h nv (second gx vx)

/-- The sum alone: the loss's parts. -/
def tot : Prog (TpuEff nD τ sig (Elt F) Λ₀ .tc) PUnit := do
  let gx ← sum8 (F := F) o inb h1 hc p
  wr o0 inb0 h g gx

end

/-! ## Its triple -/

/-- The sum of the eight parts of a block. -/
def sumOf {r r' : ℕ} {z8 z1 : Fin r → ℕ} {z : Fin r' → ℕ} (o : Fin 8 → Fin r → ℕ) (inb : ∀ k a, o k a + z1 a ≤ z8 a)
    (hc : (⟨r, z1⟩ : Shape).ShapeCasts ⟨r', z⟩) (x : Vec F ⟨r, z8⟩ .f32) : FVec F ⟨r', z⟩ .f32 :=
  total hc (View.ld x (Rect.unit (s := ⟨r, z8⟩) (o 0) z1 (inb 0))) (View.ld x (Rect.unit (s := ⟨r, z8⟩) (o 1) z1 (inb 1)))
    (View.ld x (Rect.unit (s := ⟨r, z8⟩) (o 2) z1 (inb 2))) (View.ld x (Rect.unit (s := ⟨r, z8⟩) (o 3) z1 (inb 3)))
    (View.ld x (Rect.unit (s := ⟨r, z8⟩) (o 4) z1 (inb 4))) (View.ld x (Rect.unit (s := ⟨r, z8⟩) (o 5) z1 (inb 5)))
    (View.ld x (Rect.unit (s := ⟨r, z8⟩) (o 6) z1 (inb 6))) (View.ld x (Rect.unit (s := ⟨r, z8⟩) (o 7) z1 (inb 7)))

/-- Reading every output block as one piece stored over the whole of it. -/
theorem whole_piece {r' : ℕ} {z : Fin r' → ℕ} (o0 : Fin r' → ℕ) (inb0 : ∀ a, o0 a + z a ≤ z a) (h0 : o0 = fun _ => 0)
    (x : Vec F ⟨r', z⟩ .f32) (y : (⟨r', z⟩ : Shape).Idx) :
    ∃ pc ∈ ([⟨Rect.unit (s := ⟨r', z⟩) o0 z inb0, x⟩] : List (View.Piece (Elt F) ⟨r', z⟩ .f32)), y ∈ pc.1.set :=
  ⟨_, List.mem_singleton_self _, View.mem_set_unit_zero h0 inb0 y⟩

theorem tot_spec {r r' : ℕ} {z8 z1 : Fin r → ℕ} {z : Fin r' → ℕ} (o : Fin 8 → Fin r → ℕ) (inb : ∀ k a, o k a + z1 a ≤ z8 a)
    (h1 : 0 < (⟨r, z1⟩ : Shape).numel) (hc : (⟨r, z1⟩ : Shape).ShapeCasts ⟨r', z⟩)
    (o0 : Fin r' → ℕ) (inb0 : ∀ a, o0 a + z a ≤ z a) (h : 0 < (⟨r', z⟩ : Shape).numel) (h0 : o0 = fun _ => 0)
    (p : Memref sig .tc .vmem ⟨r, z8⟩ .f32) (g : Memref sig .tc .vmem ⟨r', z⟩ .f32)
    (c : Dev nD) (E : Set ℕ) {D D' : Type} (xp' : D → Vec F ⟨r, z8⟩ .f32) (xp : Vec F ⟨r, z8⟩ .f32) (hxp : ∀ d, xp' d = xp)
    (xg : D' → Vec F ⟨r', z⟩ .f32) :
    (iprop((∃ d, owns (c : Thread nD τ) p fullShare (xp' d)) ∗ (∃ d, owns (c : Thread nD τ) g fullShare (xg d)))
        : sProp (MT nD τ sig Unit (Elt F) ℕ (UR sig nD τ) ℕ))
      ⊢ wp frame (wpE (defs₀ (F := F)) Variants.none c none) E (tot (F := F) o inb h1 hc o0 inb0 h p g) (fun _ =>
        iprop(owns (c : Thread nD τ) p fullShare xp ∗ owns (c : Thread nD τ) g fullShare (sumOf o inb hc xp))) := by
  simp only [hxp]
  unfold tot sum8 part wr rd owns
  iintro ⟨⟨%d0, %f0, %hf0, H0⟩, ⟨%d1, %f1, %hf1, H1⟩⟩
  subst hf0
  sl_exec
  sl_step
  isplitl [H0]
  · iexists f0; isplitr; · ipureintro; rfl
    iexact H0
  iexists _; isplitr
  swap; · iexact H1
  ipureintro
  refine (View.read_writes_eq_canon _ _ _ (whole_piece o0 inb0 h0 _)).trans ?_
  exact View.canon_unit_zero h0 inb0 _

theorem one_spec {r r' : ℕ} {z8 z1 : Fin r → ℕ} {z : Fin r' → ℕ} (o : Fin 8 → Fin r → ℕ) (inb : ∀ k a, o k a + z1 a ≤ z8 a)
    (h1 : 0 < (⟨r, z1⟩ : Shape).numel) (hc : (⟨r, z1⟩ : Shape).ShapeCasts ⟨r', z⟩)
    (o0 : Fin r' → ℕ) (inb0 : ∀ a, o0 a + z a ≤ z a) (h : 0 < (⟨r', z⟩ : Shape).numel) (h0 : o0 = fun _ => 0)
    (p : Memref sig .tc .vmem ⟨r, z8⟩ .f32) (w m v g d nm nv : Memref sig .tc .vmem ⟨r', z⟩ .f32)
    (c : Dev nD) (E : Set ℕ) {D0 D1 D2 D3 D4 D5 D6 D7 : Type} (xp' : D0 → Vec F ⟨r, z8⟩ .f32) (xp : Vec F ⟨r, z8⟩ .f32) (hxp : ∀ d, xp' d = xp)
    (xw' : D1 → Vec F ⟨r', z⟩ .f32) (xw : Vec F ⟨r', z⟩ .f32) (hxw : ∀ d, xw' d = xw)
    (xm' : D2 → Vec F ⟨r', z⟩ .f32) (xm : Vec F ⟨r', z⟩ .f32) (hxm : ∀ d, xm' d = xm)
    (xv' : D3 → Vec F ⟨r', z⟩ .f32) (xv : Vec F ⟨r', z⟩ .f32) (hxv : ∀ d, xv' d = xv)
    (xg : D4 → Vec F ⟨r', z⟩ .f32) (xd : D5 → Vec F ⟨r', z⟩ .f32) (xnm : D6 → Vec F ⟨r', z⟩ .f32) (xnv : D7 → Vec F ⟨r', z⟩ .f32) :
    (iprop((∃ e, owns (c : Thread nD τ) p fullShare (xp' e)) ∗ (∃ e, owns (c : Thread nD τ) w fullShare (xw' e))
        ∗ (∃ e, owns (c : Thread nD τ) m fullShare (xm' e)) ∗ (∃ e, owns (c : Thread nD τ) v fullShare (xv' e))
        ∗ (∃ e, owns (c : Thread nD τ) g fullShare (xg e)) ∗ (∃ e, owns (c : Thread nD τ) d fullShare (xd e))
        ∗ (∃ e, owns (c : Thread nD τ) nm fullShare (xnm e)) ∗ (∃ e, owns (c : Thread nD τ) nv fullShare (xnv e)))
        : sProp (MT nD τ sig Unit (Elt F) ℕ (UR sig nD τ) ℕ))
      ⊢ wp frame (wpE (defs₀ (F := F)) Variants.none c none) E (one (F := F) o inb h1 hc o0 inb0 h p w m v g d nm nv) (fun _ =>
        iprop(owns (c : Thread nD τ) p fullShare xp ∗ owns (c : Thread nD τ) w fullShare xw
          ∗ owns (c : Thread nD τ) m fullShare xm ∗ owns (c : Thread nD τ) v fullShare xv
          ∗ owns (c : Thread nD τ) g fullShare (sumOf o inb hc xp) ∗ owns (c : Thread nD τ) d fullShare (step (sumOf o inb hc xp) xw xm xv)
          ∗ owns (c : Thread nD τ) nm fullShare (first (sumOf o inb hc xp) xm) ∗ owns (c : Thread nD τ) nv fullShare (second (sumOf o inb hc xp) xv))) := by
  simp only [hxp, hxw, hxm, hxv]
  unfold one sum8 part wr rd owns
  iintro ⟨⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  subst hf0 hf1 hf2 hf3
  sl_exec
  sl_step
  have e (a : Memref sig .tc .vmem ⟨r', z⟩ .f32) (f) : View.readAt (Elt F) a.view (Rect.unit (s := ⟨r', z⟩) o0 z inb0).toLoadRect f
      = View.read (Elt F) a.view f := View.ld_unit_zero h0 inb0 (View.read (Elt F) a.view f)
  simp only [e]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (whole_piece o0 inb0 h0 _)).trans ?_
    exact View.canon_unit_zero h0 inb0 _
  isplitl [H5]
  · iexists _; isplitr
    swap; · iexact H5
    ipureintro
    refine (View.read_writes_eq_canon _ _ _ (whole_piece o0 inb0 h0 _)).trans ?_
    exact View.canon_unit_zero h0 inb0 _
  isplitl [H6]
  · iexists _; isplitr
    swap; · iexact H6
    ipureintro
    refine (View.read_writes_eq_canon _ _ _ (whole_piece o0 inb0 h0 _)).trans ?_
    exact View.canon_unit_zero h0 inb0 _
  iexists _; isplitr
  swap; · iexact H7
  ipureintro
  refine (View.read_writes_eq_canon _ _ _ (whole_piece o0 inb0 h0 _)).trans ?_
  exact View.canon_unit_zero h0 inb0 _

/-! ## One after the other -/

/-- The programs of a list, one after the other. -/
def seqAll : List (Prog (TpuEff nD τ sig (Elt F) Λ₀ .tc) PUnit) → Prog (TpuEff nD τ sig (Elt F) Λ₀ .tc) PUnit
  | [] => pure ⟨⟩
  | p :: l => p >>= fun _ => seqAll l

section
variable {c : Dev nD} {E : Set ℕ}

/-- Two triples, one after the other, on separate resources. -/
theorem seq_spec {P Q R S : sProp (MT nD τ sig Unit (Elt F) ℕ (UR sig nD τ) ℕ)} {p : Prog (TpuEff nD τ sig (Elt F) Λ₀ .tc) PUnit}
    {l : List (Prog (TpuEff nD τ sig (Elt F) Λ₀ .tc) PUnit)}
    (hp : P ⊢ wp frame (wpE (defs₀ (F := F)) Variants.none c none) E p (fun _ => Q))
    (hl : R ⊢ wp frame (wpE (defs₀ (F := F)) Variants.none c none) E (seqAll l) (fun _ => S)) :
    iprop(P ∗ R) ⊢ wp frame (wpE (defs₀ (F := F)) Variants.none c none) E (seqAll (p :: l)) (fun _ => iprop(Q ∗ S)) := by
  show _ ⊢ wp frame (wpE (defs₀ (F := F)) Variants.none c none) E (p >>= fun _ => seqAll l) _
  rw [wp_bind]
  refine (sep_mono_left hp).trans ((wp_frame_r _ _ _).trans ((wp frame _ E p).mono fun _ => ?_))
  exact (sep_mono_right hl).trans (wp_frame_l _ _ _)

theorem assoc {M : Type _} [RA M] (P Q R : sProp M) : iprop((P ∗ Q) ∗ R) = iprop(P ∗ Q ∗ R) :=
  equiv_iff.mp ⟨BI.sep_assoc, BI.sep_assoc'⟩

/-- One weight's eight windows in front of the others'. -/
theorem group8 {I : Type} (Φ : I → sProp (MT nD τ sig Unit (Elt F) ℕ (UR sig nD τ) ℕ)) (a0 a1 a2 a3 a4 a5 a6 a7 : I) (l : List I) :
    bigSepL (a0 :: a1 :: a2 :: a3 :: a4 :: a5 :: a6 :: a7 :: l) Φ
      = iprop((Φ a0 ∗ Φ a1 ∗ Φ a2 ∗ Φ a3 ∗ Φ a4 ∗ Φ a5 ∗ Φ a6 ∗ Φ a7) ∗ bigSepL l Φ) := by
  simp only [bigSepL_cons, assoc]
  rfl

theorem step8 {I : Type} {Φ Ψ : I → sProp (MT nD τ sig Unit (Elt F) ℕ (UR sig nD τ) ℕ)} {a0 a1 a2 a3 a4 a5 a6 a7 : I} {l : List I}
    {p : Prog (TpuEff nD τ sig (Elt F) Λ₀ .tc) PUnit} {ps : List (Prog (TpuEff nD τ sig (Elt F) Λ₀ .tc) PUnit)}
    (hp : iprop(Φ a0 ∗ Φ a1 ∗ Φ a2 ∗ Φ a3 ∗ Φ a4 ∗ Φ a5 ∗ Φ a6 ∗ Φ a7) ⊢ wp frame (wpE (defs₀ (F := F)) Variants.none c none) E p
      (fun _ => iprop(Ψ a0 ∗ Ψ a1 ∗ Ψ a2 ∗ Ψ a3 ∗ Ψ a4 ∗ Ψ a5 ∗ Ψ a6 ∗ Ψ a7)))
    (hl : bigSepL l Φ ⊢ wp frame (wpE (defs₀ (F := F)) Variants.none c none) E (seqAll ps) (fun _ => bigSepL l Ψ)) :
    bigSepL (a0 :: a1 :: a2 :: a3 :: a4 :: a5 :: a6 :: a7 :: l) Φ ⊢ wp frame (wpE (defs₀ (F := F)) Variants.none c none) E (seqAll (p :: ps))
      (fun _ => bigSepL (a0 :: a1 :: a2 :: a3 :: a4 :: a5 :: a6 :: a7 :: l) Ψ) := by
  simp only [group8]
  exact seq_spec hp hl

theorem last2 {I : Type} {Φ Ψ : I → sProp (MT nD τ sig Unit (Elt F) ℕ (UR sig nD τ) ℕ)} {a0 a1 : I}
    {p : Prog (TpuEff nD τ sig (Elt F) Λ₀ .tc) PUnit}
    (hp : iprop(Φ a0 ∗ Φ a1) ⊢ wp frame (wpE (defs₀ (F := F)) Variants.none c none) E p (fun _ => iprop(Ψ a0 ∗ Ψ a1))) :
    bigSepL [a0, a1] Φ ⊢ wp frame (wpE (defs₀ (F := F)) Variants.none c none) E (seqAll [p]) (fun _ => bigSepL [a0, a1] Ψ) := by
  show _ ⊢ wp frame (wpE (defs₀ (F := F)) Variants.none c none) E (p >>= fun _ => pure PUnit.unit) _
  rw [wp_bind]
  refine hp.trans ((wp frame _ E p).mono fun _ => ?_)
  rw [wp_pure]
  exact fupd_intro (PROP := sProp (MT nD τ sig Unit (Elt F) ℕ (UR sig nD τ) ℕ))

end

end Cert.AdsKIdeal.Small

end
-- ==== Proof.AdsBody.lean ====
/-
  The kernel of the optimiser of the small weights is eleven weights one after the other, and the loss's sum.
-/
module

public import proofs.«01_k».proof.Proof.AdsBlock
public import proofs.«01_k».proof.Proof.Gen.AdsKIdeal.Launch
public import proofs.«01_k».proof.Proof.Gen.AdsKIdeal.Points

@[expose] public section

set_option maxRecDepth 65536

noncomputable section

namespace Cert.AdsKIdeal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AdsKIdeal Cert.AdsKIdeal.Gen

variable {F : FTy → Type} [FloatOps F]

/-! ## Where the parts lie -/

/-- Part `k` of eight arrays of shape 4 by 1024. -/
def o4x1024 : Fin 8 → Fin 3 → ℕ := ![![0, 0, 0], ![1, 0, 0], ![2, 0, 0], ![3, 0, 0], ![4, 0, 0], ![5, 0, 0], ![6, 0, 0], ![7, 0, 0]]

theorem i4x1024 : ∀ k a, o4x1024 k a + S1x4x1024.size a ≤ S8x4x1024.size a := by decide

/-- Part `k` of eight arrays of shape 2 by 2048. -/
def o2x2048 : Fin 8 → Fin 3 → ℕ := ![![0, 0, 0], ![1, 0, 0], ![2, 0, 0], ![3, 0, 0], ![4, 0, 0], ![5, 0, 0], ![6, 0, 0], ![7, 0, 0]]

theorem i2x2048 : ∀ k a, o2x2048 k a + S1x2x2048.size a ≤ S8x2x2048.size a := by decide

/-- Part `k` of eight arrays of shape 2 by 8 by 128 by 128. -/
def o2x8x128x128 : Fin 8 → Fin 5 → ℕ := ![![0, 0, 0, 0, 0], ![1, 0, 0, 0, 0], ![2, 0, 0, 0, 0], ![3, 0, 0, 0, 0], ![4, 0, 0, 0, 0], ![5, 0, 0, 0, 0], ![6, 0, 0, 0, 0], ![7, 0, 0, 0, 0]]

theorem i2x8x128x128 : ∀ k a, o2x8x128x128 k a + S1x2x8x128x128.size a ≤ S8x2x8x128x128.size a := by decide

/-- Part `k` of eight arrays of shape 2 by 8 by 128. -/
def o2x8x128 : Fin 8 → Fin 4 → ℕ := ![![0, 0, 0, 0], ![1, 0, 0, 0], ![2, 0, 0, 0], ![3, 0, 0, 0], ![4, 0, 0, 0], ![5, 0, 0, 0], ![6, 0, 0, 0], ![7, 0, 0, 0]]

theorem i2x8x128 : ∀ k a, o2x8x128 k a + S1x2x8x128.size a ≤ S8x2x8x128.size a := by decide

/-- Part `k` of eight arrays of shape 1 by 1024. -/
def o1x1024 : Fin 8 → Fin 3 → ℕ := ![![0, 0, 0], ![1, 0, 0], ![2, 0, 0], ![3, 0, 0], ![4, 0, 0], ![5, 0, 0], ![6, 0, 0], ![7, 0, 0]]

theorem i1x1024 : ∀ k a, o1x1024 k a + S1x1x1024.size a ≤ S8x1x1024.size a := by decide

/-- Part `k` of eight arrays of shape 2 by 31 by 256. -/
def o2x31x256 : Fin 8 → Fin 4 → ℕ := ![![0, 0, 0, 0], ![1, 0, 0, 0], ![2, 0, 0, 0], ![3, 0, 0, 0], ![4, 0, 0, 0], ![5, 0, 0, 0], ![6, 0, 0, 0], ![7, 0, 0, 0]]

theorem i2x31x256 : ∀ k a, o2x31x256 k a + S1x2x31x256.size a ≤ S8x2x31x256.size a := by decide

/-- Part `k` of eight arrays of shape 2 by 256. -/
def o2x256 : Fin 8 → Fin 3 → ℕ := ![![0, 0, 0], ![1, 0, 0], ![2, 0, 0], ![3, 0, 0], ![4, 0, 0], ![5, 0, 0], ![6, 0, 0], ![7, 0, 0]]

theorem i2x256 : ∀ k a, o2x256 k a + S1x2x256.size a ≤ S8x2x256.size a := by decide

/-- Part `k` of eight arrays of shape 8 by 128. -/
def o8x128 : Fin 8 → Fin 3 → ℕ := ![![0, 0, 0], ![1, 0, 0], ![2, 0, 0], ![3, 0, 0], ![4, 0, 0], ![5, 0, 0], ![6, 0, 0], ![7, 0, 0]]

theorem i8x128 : ∀ k a, o8x128 k a + S1x8x128.size a ≤ S8x8x128.size a := by decide

/-! ## The kernel's text -/

variable(a0 : Memref sig .tc .vmem S8x4x1024 .f32) (h0 : a0.IsWhole) (a1 : Memref sig .tc .vmem S8x2x2048 .f32) (h1 : a1.IsWhole) (a2 : Memref sig .tc .vmem S8x2x2048 .f32) (h2 : a2.IsWhole) (a3 : Memref sig .tc .vmem S8x2x2048 .f32) (h3 : a3.IsWhole) (a4 : Memref sig .tc .vmem S8x2x8x128x128 .f32) (h4 : a4.IsWhole) (a5 : Memref sig .tc .vmem S8x2x8x128 .f32) (h5 : a5.IsWhole) (a6 : Memref sig .tc .vmem S8x4x1024 .f32) (h6 : a6.IsWhole) (a7 : Memref sig .tc .vmem S8x1x1024 .f32) (h7 : a7.IsWhole) (a8 : Memref sig .tc .vmem S8x2x31x256 .f32) (h8 : a8.IsWhole) (a9 : Memref sig .tc .vmem S8x2x256 .f32) (h9 : a9.IsWhole) (a10 : Memref sig .tc .vmem S8x2x256 .f32) (h10 : a10.IsWhole) (a11 : Memref sig .tc .vmem S4x1024 .f32) (h11 : a11.IsWhole) (a12 : Memref sig .tc .vmem S2x2048 .f32) (h12 : a12.IsWhole) (a13 : Memref sig .tc .vmem S2x2048 .f32) (h13 : a13.IsWhole) (a14 : Memref sig .tc .vmem S2x2048 .f32) (h14 : a14.IsWhole) (a15 : Memref sig .tc .vmem S2x8x128x128 .f32) (h15 : a15.IsWhole) (a16 : Memref sig .tc .vmem S2x8x128 .f32) (h16 : a16.IsWhole) (a17 : Memref sig .tc .vmem S4x1024 .f32) (h17 : a17.IsWhole) (a18 : Memref sig .tc .vmem S1x1024 .f32) (h18 : a18.IsWhole) (a19 : Memref sig .tc .vmem S2x31x256 .f32) (h19 : a19.IsWhole) (a20 : Memref sig .tc .vmem S2x256 .f32) (h20 : a20.IsWhole) (a21 : Memref sig .tc .vmem S2x256 .f32) (h21 : a21.IsWhole) (a22 : Memref sig .tc .vmem S4x1024 .f32) (h22 : a22.IsWhole) (a23 : Memref sig .tc .vmem S2x2048 .f32) (h23 : a23.IsWhole) (a24 : Memref sig .tc .vmem S2x2048 .f32) (h24 : a24.IsWhole) (a25 : Memref sig .tc .vmem S2x2048 .f32) (h25 : a25.IsWhole) (a26 : Memref sig .tc .vmem S2x8x128x128 .f32) (h26 : a26.IsWhole) (a27 : Memref sig .tc .vmem S2x8x128 .f32) (h27 : a27.IsWhole) (a28 : Memref sig .tc .vmem S4x1024 .f32) (h28 : a28.IsWhole) (a29 : Memref sig .tc .vmem S1x1024 .f32) (h29 : a29.IsWhole) (a30 : Memref sig .tc .vmem S2x31x256 .f32) (h30 : a30.IsWhole) (a31 : Memref sig .tc .vmem S2x256 .f32) (h31 : a31.IsWhole) (a32 : Memref sig .tc .vmem S2x256 .f32) (h32 : a32.IsWhole) (a33 : Memref sig .tc .vmem S4x1024 .f32) (h33 : a33.IsWhole) (a34 : Memref sig .tc .vmem S2x2048 .f32) (h34 : a34.IsWhole) (a35 : Memref sig .tc .vmem S2x2048 .f32) (h35 : a35.IsWhole) (a36 : Memref sig .tc .vmem S2x2048 .f32) (h36 : a36.IsWhole) (a37 : Memref sig .tc .vmem S2x8x128x128 .f32) (h37 : a37.IsWhole) (a38 : Memref sig .tc .vmem S2x8x128 .f32) (h38 : a38.IsWhole) (a39 : Memref sig .tc .vmem S4x1024 .f32) (h39 : a39.IsWhole) (a40 : Memref sig .tc .vmem S1x1024 .f32) (h40 : a40.IsWhole) (a41 : Memref sig .tc .vmem S2x31x256 .f32) (h41 : a41.IsWhole) (a42 : Memref sig .tc .vmem S2x256 .f32) (h42 : a42.IsWhole) (a43 : Memref sig .tc .vmem S2x256 .f32) (h43 : a43.IsWhole) (a44 : Memref sig .tc .vmem S8x8x128 .f32) (h44 : a44.IsWhole) (a45 : Memref sig .tc .vmem S4x1024 .f32) (h45 : a45.IsWhole) (a46 : Memref sig .tc .vmem S2x2048 .f32) (h46 : a46.IsWhole) (a47 : Memref sig .tc .vmem S2x2048 .f32) (h47 : a47.IsWhole) (a48 : Memref sig .tc .vmem S2x2048 .f32) (h48 : a48.IsWhole) (a49 : Memref sig .tc .vmem S2x8x128x128 .f32) (h49 : a49.IsWhole) (a50 : Memref sig .tc .vmem S2x8x128 .f32) (h50 : a50.IsWhole) (a51 : Memref sig .tc .vmem S4x1024 .f32) (h51 : a51.IsWhole) (a52 : Memref sig .tc .vmem S1x1024 .f32) (h52 : a52.IsWhole) (a53 : Memref sig .tc .vmem S2x31x256 .f32) (h53 : a53.IsWhole) (a54 : Memref sig .tc .vmem S2x256 .f32) (h54 : a54.IsWhole) (a55 : Memref sig .tc .vmem S2x256 .f32) (h55 : a55.IsWhole) (a56 : Memref sig .tc .vmem S4x1024 .f32) (h56 : a56.IsWhole) (a57 : Memref sig .tc .vmem S2x2048 .f32) (h57 : a57.IsWhole) (a58 : Memref sig .tc .vmem S2x2048 .f32) (h58 : a58.IsWhole) (a59 : Memref sig .tc .vmem S2x2048 .f32) (h59 : a59.IsWhole) (a60 : Memref sig .tc .vmem S2x8x128x128 .f32) (h60 : a60.IsWhole) (a61 : Memref sig .tc .vmem S2x8x128 .f32) (h61 : a61.IsWhole) (a62 : Memref sig .tc .vmem S4x1024 .f32) (h62 : a62.IsWhole) (a63 : Memref sig .tc .vmem S1x1024 .f32) (h63 : a63.IsWhole) (a64 : Memref sig .tc .vmem S2x31x256 .f32) (h64 : a64.IsWhole) (a65 : Memref sig .tc .vmem S2x256 .f32) (h65 : a65.IsWhole) (a66 : Memref sig .tc .vmem S2x256 .f32) (h66 : a66.IsWhole) (a67 : Memref sig .tc .vmem S4x1024 .f32) (h67 : a67.IsWhole) (a68 : Memref sig .tc .vmem S2x2048 .f32) (h68 : a68.IsWhole) (a69 : Memref sig .tc .vmem S2x2048 .f32) (h69 : a69.IsWhole) (a70 : Memref sig .tc .vmem S2x2048 .f32) (h70 : a70.IsWhole) (a71 : Memref sig .tc .vmem S2x8x128x128 .f32) (h71 : a71.IsWhole) (a72 : Memref sig .tc .vmem S2x8x128 .f32) (h72 : a72.IsWhole) (a73 : Memref sig .tc .vmem S4x1024 .f32) (h73 : a73.IsWhole) (a74 : Memref sig .tc .vmem S1x1024 .f32) (h74 : a74.IsWhole) (a75 : Memref sig .tc .vmem S2x31x256 .f32) (h75 : a75.IsWhole) (a76 : Memref sig .tc .vmem S2x256 .f32) (h76 : a76.IsWhole) (a77 : Memref sig .tc .vmem S2x256 .f32) (h77 : a77.IsWhole) (a78 : Memref sig .tc .vmem S4x1024 .f32) (h78 : a78.IsWhole) (a79 : Memref sig .tc .vmem S2x2048 .f32) (h79 : a79.IsWhole) (a80 : Memref sig .tc .vmem S2x2048 .f32) (h80 : a80.IsWhole) (a81 : Memref sig .tc .vmem S2x2048 .f32) (h81 : a81.IsWhole) (a82 : Memref sig .tc .vmem S2x8x128x128 .f32) (h82 : a82.IsWhole) (a83 : Memref sig .tc .vmem S2x8x128 .f32) (h83 : a83.IsWhole) (a84 : Memref sig .tc .vmem S4x1024 .f32) (h84 : a84.IsWhole) (a85 : Memref sig .tc .vmem S1x1024 .f32) (h85 : a85.IsWhole) (a86 : Memref sig .tc .vmem S2x31x256 .f32) (h86 : a86.IsWhole) (a87 : Memref sig .tc .vmem S2x256 .f32) (h87 : a87.IsWhole) (a88 : Memref sig .tc .vmem S2x256 .f32) (h88 : a88.IsWhole) (a89 : Memref sig .tc .vmem S8x128 .f32) (h89 : a89.IsWhole)

theorem body_eq : cc0_adamw_small (F := F) a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 = seqAll [
    one o4x1024 i4x1024 h_S1x4x1024 shapeCasts_S1x4x1024_S4x1024 ![0, 0] inb_S4x1024_S4x1024_0_0 h_S4x1024 a0 a11 a22 a33 a45 a56 a67 a78,
    one o2x2048 i2x2048 h_S1x2x2048 shapeCasts_S1x2x2048_S2x2048 ![0, 0] inb_S2x2048_S2x2048_0_0 h_S2x2048 a1 a12 a23 a34 a46 a57 a68 a79,
    one o2x2048 i2x2048 h_S1x2x2048 shapeCasts_S1x2x2048_S2x2048 ![0, 0] inb_S2x2048_S2x2048_0_0 h_S2x2048 a2 a13 a24 a35 a47 a58 a69 a80,
    one o2x2048 i2x2048 h_S1x2x2048 shapeCasts_S1x2x2048_S2x2048 ![0, 0] inb_S2x2048_S2x2048_0_0 h_S2x2048 a3 a14 a25 a36 a48 a59 a70 a81,
    one o2x8x128x128 i2x8x128x128 h_S1x2x8x128x128 shapeCasts_S1x2x8x128x128_S2x8x128x128 ![0, 0, 0, 0] inb_S2x8x128x128_S2x8x128x128_0_0_0_0 h_S2x8x128x128 a4 a15 a26 a37 a49 a60 a71 a82,
    one o2x8x128 i2x8x128 h_S1x2x8x128 shapeCasts_S1x2x8x128_S2x8x128 ![0, 0, 0] inb_S2x8x128_S2x8x128_0_0_0 h_S2x8x128 a5 a16 a27 a38 a50 a61 a72 a83,
    one o4x1024 i4x1024 h_S1x4x1024 shapeCasts_S1x4x1024_S4x1024 ![0, 0] inb_S4x1024_S4x1024_0_0 h_S4x1024 a6 a17 a28 a39 a51 a62 a73 a84,
    one o1x1024 i1x1024 h_S1x1x1024 shapeCasts_S1x1x1024_S1x1024 ![0, 0] inb_S1x1024_S1x1024_0_0 h_S1x1024 a7 a18 a29 a40 a52 a63 a74 a85,
    one o2x31x256 i2x31x256 h_S1x2x31x256 shapeCasts_S1x2x31x256_S2x31x256 ![0, 0, 0] inb_S2x31x256_S2x31x256_0_0_0 h_S2x31x256 a8 a19 a30 a41 a53 a64 a75 a86,
    one o2x256 i2x256 h_S1x2x256 shapeCasts_S1x2x256_S2x256 ![0, 0] inb_S2x256_S2x256_0_0 h_S2x256 a9 a20 a31 a42 a54 a65 a76 a87,
    one o2x256 i2x256 h_S1x2x256 shapeCasts_S1x2x256_S2x256 ![0, 0] inb_S2x256_S2x256_0_0 h_S2x256 a10 a21 a32 a43 a55 a66 a77 a88,
    tot o8x128 i8x128 h_S1x8x128 shapeCasts_S1x8x128_S8x128 ![0, 0] inb_S8x128_S8x128_0_0 h_S8x128 a44 a89] := by
  rfl

end Cert.AdsKIdeal.Small

end
-- ==== Proof.AdsRun.lean ====
/-
  The optimiser of the small weights runs: the body at the grid's one point, the run of the kernel for any float values,
  and its frame.
-/
module

public import proofs.«01_k».proof.Proof.AdsBody
public import Idealize.ShloMosaic.Lib.Claim
public import Idealize.ShloMosaic.Lib.Ring

@[expose] public section

set_option maxRecDepth 16384

noncomputable section

namespace Cert.AdsKIdeal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.AdsKIdeal Cert.AdsKIdeal.Gen

variable {F : FTy → Type} [FloatOps F] (m : (ℓ : Loc nD τ sig) → Buf (Elt F) ℓ) (ρ : Dev nD → PrngReg)

/-- A buffer as the kernel finds it. -/
abbrev V (c : Dev nD) (b : Ref sig .tc) : Buf (Elt F) ((c : Thread nD τ).loc b) := m ((c : Thread nD τ).loc b)

/-- Window `w`'s block. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves: the inputs' blocks as they were, and for each weight its sum, step and moments. -/
def left (c : Dev nD) (t : Fin cfg0.N) (w : Fin cfg0.W) : (cfg0.win w).block.Idx → Elt F (cfg0.win w).elt :=
  match w with
  | ⟨0, _⟩ => blk m c 0 t
  | ⟨1, _⟩ => blk m c 1 t
  | ⟨2, _⟩ => blk m c 2 t
  | ⟨3, _⟩ => blk m c 3 t
  | ⟨4, _⟩ => blk m c 4 t
  | ⟨5, _⟩ => blk m c 5 t
  | ⟨6, _⟩ => blk m c 6 t
  | ⟨7, _⟩ => blk m c 7 t
  | ⟨8, _⟩ => blk m c 8 t
  | ⟨9, _⟩ => blk m c 9 t
  | ⟨10, _⟩ => blk m c 10 t
  | ⟨11, _⟩ => blk m c 11 t
  | ⟨12, _⟩ => blk m c 12 t
  | ⟨13, _⟩ => blk m c 13 t
  | ⟨14, _⟩ => blk m c 14 t
  | ⟨15, _⟩ => blk m c 15 t
  | ⟨16, _⟩ => blk m c 16 t
  | ⟨17, _⟩ => blk m c 17 t
  | ⟨18, _⟩ => blk m c 18 t
  | ⟨19, _⟩ => blk m c 19 t
  | ⟨20, _⟩ => blk m c 20 t
  | ⟨21, _⟩ => blk m c 21 t
  | ⟨22, _⟩ => blk m c 22 t
  | ⟨23, _⟩ => blk m c 23 t
  | ⟨24, _⟩ => blk m c 24 t
  | ⟨25, _⟩ => blk m c 25 t
  | ⟨26, _⟩ => blk m c 26 t
  | ⟨27, _⟩ => blk m c 27 t
  | ⟨28, _⟩ => blk m c 28 t
  | ⟨29, _⟩ => blk m c 29 t
  | ⟨30, _⟩ => blk m c 30 t
  | ⟨31, _⟩ => blk m c 31 t
  | ⟨32, _⟩ => blk m c 32 t
  | ⟨33, _⟩ => blk m c 33 t
  | ⟨34, _⟩ => blk m c 34 t
  | ⟨35, _⟩ => blk m c 35 t
  | ⟨36, _⟩ => blk m c 36 t
  | ⟨37, _⟩ => blk m c 37 t
  | ⟨38, _⟩ => blk m c 38 t
  | ⟨39, _⟩ => blk m c 39 t
  | ⟨40, _⟩ => blk m c 40 t
  | ⟨41, _⟩ => blk m c 41 t
  | ⟨42, _⟩ => blk m c 42 t
  | ⟨43, _⟩ => blk m c 43 t
  | ⟨44, _⟩ => blk m c 44 t
  | ⟨45, _⟩ => sumOf o4x1024 i4x1024 shapeCasts_S1x4x1024_S4x1024 (blk m c 0 t)
  | ⟨46, _⟩ => sumOf o2x2048 i2x2048 shapeCasts_S1x2x2048_S2x2048 (blk m c 1 t)
  | ⟨47, _⟩ => sumOf o2x2048 i2x2048 shapeCasts_S1x2x2048_S2x2048 (blk m c 2 t)
  | ⟨48, _⟩ => sumOf o2x2048 i2x2048 shapeCasts_S1x2x2048_S2x2048 (blk m c 3 t)
  | ⟨49, _⟩ => sumOf o2x8x128x128 i2x8x128x128 shapeCasts_S1x2x8x128x128_S2x8x128x128 (blk m c 4 t)
  | ⟨50, _⟩ => sumOf o2x8x128 i2x8x128 shapeCasts_S1x2x8x128_S2x8x128 (blk m c 5 t)
  | ⟨51, _⟩ => sumOf o4x1024 i4x1024 shapeCasts_S1x4x1024_S4x1024 (blk m c 6 t)
  | ⟨52, _⟩ => sumOf o1x1024 i1x1024 shapeCasts_S1x1x1024_S1x1024 (blk m c 7 t)
  | ⟨53, _⟩ => sumOf o2x31x256 i2x31x256 shapeCasts_S1x2x31x256_S2x31x256 (blk m c 8 t)
  | ⟨54, _⟩ => sumOf o2x256 i2x256 shapeCasts_S1x2x256_S2x256 (blk m c 9 t)
  | ⟨55, _⟩ => sumOf o2x256 i2x256 shapeCasts_S1x2x256_S2x256 (blk m c 10 t)
  | ⟨56, _⟩ => step (sumOf o4x1024 i4x1024 shapeCasts_S1x4x1024_S4x1024 (blk m c 0 t)) (blk m c 11 t) (blk m c 22 t) (blk m c 33 t)
  | ⟨57, _⟩ => step (sumOf o2x2048 i2x2048 shapeCasts_S1x2x2048_S2x2048 (blk m c 1 t)) (blk m c 12 t) (blk m c 23 t) (blk m c 34 t)
  | ⟨58, _⟩ => step (sumOf o2x2048 i2x2048 shapeCasts_S1x2x2048_S2x2048 (blk m c 2 t)) (blk m c 13 t) (blk m c 24 t) (blk m c 35 t)
  | ⟨59, _⟩ => step (sumOf o2x2048 i2x2048 shapeCasts_S1x2x2048_S2x2048 (blk m c 3 t)) (blk m c 14 t) (blk m c 25 t) (blk m c 36 t)
  | ⟨60, _⟩ => step (sumOf o2x8x128x128 i2x8x128x128 shapeCasts_S1x2x8x128x128_S2x8x128x128 (blk m c 4 t)) (blk m c 15 t) (blk m c 26 t) (blk m c 37 t)
  | ⟨61, _⟩ => step (sumOf o2x8x128 i2x8x128 shapeCasts_S1x2x8x128_S2x8x128 (blk m c 5 t)) (blk m c 16 t) (blk m c 27 t) (blk m c 38 t)
  | ⟨62, _⟩ => step (sumOf o4x1024 i4x1024 shapeCasts_S1x4x1024_S4x1024 (blk m c 6 t)) (blk m c 17 t) (blk m c 28 t) (blk m c 39 t)
  | ⟨63, _⟩ => step (sumOf o1x1024 i1x1024 shapeCasts_S1x1x1024_S1x1024 (blk m c 7 t)) (blk m c 18 t) (blk m c 29 t) (blk m c 40 t)
  | ⟨64, _⟩ => step (sumOf o2x31x256 i2x31x256 shapeCasts_S1x2x31x256_S2x31x256 (blk m c 8 t)) (blk m c 19 t) (blk m c 30 t) (blk m c 41 t)
  | ⟨65, _⟩ => step (sumOf o2x256 i2x256 shapeCasts_S1x2x256_S2x256 (blk m c 9 t)) (blk m c 20 t) (blk m c 31 t) (blk m c 42 t)
  | ⟨66, _⟩ => step (sumOf o2x256 i2x256 shapeCasts_S1x2x256_S2x256 (blk m c 10 t)) (blk m c 21 t) (blk m c 32 t) (blk m c 43 t)
  | ⟨67, _⟩ => first (sumOf o4x1024 i4x1024 shapeCasts_S1x4x1024_S4x1024 (blk m c 0 t)) (blk m c 22 t)
  | ⟨68, _⟩ => first (sumOf o2x2048 i2x2048 shapeCasts_S1x2x2048_S2x2048 (blk m c 1 t)) (blk m c 23 t)
  | ⟨69, _⟩ => first (sumOf o2x2048 i2x2048 shapeCasts_S1x2x2048_S2x2048 (blk m c 2 t)) (blk m c 24 t)
  | ⟨70, _⟩ => first (sumOf o2x2048 i2x2048 shapeCasts_S1x2x2048_S2x2048 (blk m c 3 t)) (blk m c 25 t)
  | ⟨71, _⟩ => first (sumOf o2x8x128x128 i2x8x128x128 shapeCasts_S1x2x8x128x128_S2x8x128x128 (blk m c 4 t)) (blk m c 26 t)
  | ⟨72, _⟩ => first (sumOf o2x8x128 i2x8x128 shapeCasts_S1x2x8x128_S2x8x128 (blk m c 5 t)) (blk m c 27 t)
  | ⟨73, _⟩ => first (sumOf o4x1024 i4x1024 shapeCasts_S1x4x1024_S4x1024 (blk m c 6 t)) (blk m c 28 t)
  | ⟨74, _⟩ => first (sumOf o1x1024 i1x1024 shapeCasts_S1x1x1024_S1x1024 (blk m c 7 t)) (blk m c 29 t)
  | ⟨75, _⟩ => first (sumOf o2x31x256 i2x31x256 shapeCasts_S1x2x31x256_S2x31x256 (blk m c 8 t)) (blk m c 30 t)
  | ⟨76, _⟩ => first (sumOf o2x256 i2x256 shapeCasts_S1x2x256_S2x256 (blk m c 9 t)) (blk m c 31 t)
  | ⟨77, _⟩ => first (sumOf o2x256 i2x256 shapeCasts_S1x2x256_S2x256 (blk m c 10 t)) (blk m c 32 t)
  | ⟨78, _⟩ => second (sumOf o4x1024 i4x1024 shapeCasts_S1x4x1024_S4x1024 (blk m c 0 t)) (blk m c 33 t)
  | ⟨79, _⟩ => second (sumOf o2x2048 i2x2048 shapeCasts_S1x2x2048_S2x2048 (blk m c 1 t)) (blk m c 34 t)
  | ⟨80, _⟩ => second (sumOf o2x2048 i2x2048 shapeCasts_S1x2x2048_S2x2048 (blk m c 2 t)) (blk m c 35 t)
  | ⟨81, _⟩ => second (sumOf o2x2048 i2x2048 shapeCasts_S1x2x2048_S2x2048 (blk m c 3 t)) (blk m c 36 t)
  | ⟨82, _⟩ => second (sumOf o2x8x128x128 i2x8x128x128 shapeCasts_S1x2x8x128x128_S2x8x128x128 (blk m c 4 t)) (blk m c 37 t)
  | ⟨83, _⟩ => second (sumOf o2x8x128 i2x8x128 shapeCasts_S1x2x8x128_S2x8x128 (blk m c 5 t)) (blk m c 38 t)
  | ⟨84, _⟩ => second (sumOf o4x1024 i4x1024 shapeCasts_S1x4x1024_S4x1024 (blk m c 6 t)) (blk m c 39 t)
  | ⟨85, _⟩ => second (sumOf o1x1024 i1x1024 shapeCasts_S1x1x1024_S1x1024 (blk m c 7 t)) (blk m c 40 t)
  | ⟨86, _⟩ => second (sumOf o2x31x256 i2x31x256 shapeCasts_S1x2x31x256_S2x31x256 (blk m c 8 t)) (blk m c 41 t)
  | ⟨87, _⟩ => second (sumOf o2x256 i2x256 shapeCasts_S1x2x256_S2x256 (blk m c 9 t)) (blk m c 42 t)
  | ⟨88, _⟩ => second (sumOf o2x256 i2x256 shapeCasts_S1x2x256_S2x256 (blk m c 10 t)) (blk m c 43 t)
  | ⟨89, _⟩ => sumOf o8x128 i8x128 shapeCasts_S1x8x128_S8x128 (blk m c 44 t)
  | ⟨_ + 90, h⟩ => absurd h (Nat.not_lt.2 (Nat.le_add_left _ _))

/-- The proof data: the arrays as found, what the body leaves, and nothing else touched. -/
def dats (_ : Fin 1) (c : Dev nD) : Dat τ (Elt F) Unit ℕ (UR sig nD τ) ℕ cfg0 c where
  A w := V m c (Pipeline.arrRef spec0 w)
  after w t := left m c t w
  Φ _ := Pipeline.ΦA spec0 c
  q _ := fullShare
  owed _ := 0

/-- A window before the body, -/
def pre (c : Dev nD) (t : Fin cfg0.N) (w : Fin cfg0.W) : sProp (MT nD τ sig Unit (Elt F) ℕ (UR sig nD τ) ℕ) :=
  iprop(∃ d, owns (c : Thread nD τ) ((cfg0.win w).stage (cfg0.slots t w)) fullShare ((dats m 0 c).before w t d))

/-- and after it. -/
def post (c : Dev nD) (t : Fin cfg0.N) (w : Fin cfg0.W) : sProp (MT nD τ sig Unit (Elt F) ℕ (UR sig nD τ) ℕ) :=
  owns (c : Thread nD τ) ((cfg0.win w).stage (cfg0.slots t w)) fullShare ((dats m 0 c).after w t)

theorem weight0 (c : Dev nD) (t : Fin cfg0.N) :
    iprop(pre m c t 0 ∗ pre m c t 11 ∗ pre m c t 22 ∗ pre m c t 33 ∗ pre m c t 45 ∗ pre m c t 56 ∗ pre m c t 67 ∗ pre m c t 78) ⊢ wp frame (wpE (defs₀ (F := F)) Variants.none c none) Set.univ
      (one o4x1024 i4x1024 h_S1x4x1024 shapeCasts_S1x4x1024_S4x1024 ![0, 0] inb_S4x1024_S4x1024_0_0 h_S4x1024 ((cfg0.win 0).stage (cfg0.slots t 0)) ((cfg0.win 11).stage (cfg0.slots t 11)) ((cfg0.win 22).stage (cfg0.slots t 22)) ((cfg0.win 33).stage (cfg0.slots t 33)) ((cfg0.win 45).stage (cfg0.slots t 45)) ((cfg0.win 56).stage (cfg0.slots t 56)) ((cfg0.win 67).stage (cfg0.slots t 67)) ((cfg0.win 78).stage (cfg0.slots t 78)))
      (fun _ => iprop(post m c t 0 ∗ post m c t 11 ∗ post m c t 22 ∗ post m c t 33 ∗ post m c t 45 ∗ post m c t 56 ∗ post m c t 67 ∗ post m c t 78)) :=
  one_spec _ _ _ _ _ _ _ (by decide) _ _ _ _ _ _ _ _ c _ _ (blk m c 0 t) (fun d => (dats m 0 c).before_fetched 0 t (fetch0_0 t) d) _ (blk m c 11 t) (fun d => (dats m 0 c).before_fetched 11 t (fetch0_11 t) d) _ (blk m c 22 t) (fun d => (dats m 0 c).before_fetched 22 t (fetch0_22 t) d) _ (blk m c 33 t) (fun d => (dats m 0 c).before_fetched 33 t (fetch0_33 t) d) _ _ _ _

theorem weight1 (c : Dev nD) (t : Fin cfg0.N) :
    iprop(pre m c t 1 ∗ pre m c t 12 ∗ pre m c t 23 ∗ pre m c t 34 ∗ pre m c t 46 ∗ pre m c t 57 ∗ pre m c t 68 ∗ pre m c t 79) ⊢ wp frame (wpE (defs₀ (F := F)) Variants.none c none) Set.univ
      (one o2x2048 i2x2048 h_S1x2x2048 shapeCasts_S1x2x2048_S2x2048 ![0, 0] inb_S2x2048_S2x2048_0_0 h_S2x2048 ((cfg0.win 1).stage (cfg0.slots t 1)) ((cfg0.win 12).stage (cfg0.slots t 12)) ((cfg0.win 23).stage (cfg0.slots t 23)) ((cfg0.win 34).stage (cfg0.slots t 34)) ((cfg0.win 46).stage (cfg0.slots t 46)) ((cfg0.win 57).stage (cfg0.slots t 57)) ((cfg0.win 68).stage (cfg0.slots t 68)) ((cfg0.win 79).stage (cfg0.slots t 79)))
      (fun _ => iprop(post m c t 1 ∗ post m c t 12 ∗ post m c t 23 ∗ post m c t 34 ∗ post m c t 46 ∗ post m c t 57 ∗ post m c t 68 ∗ post m c t 79)) :=
  one_spec _ _ _ _ _ _ _ (by decide) _ _ _ _ _ _ _ _ c _ _ (blk m c 1 t) (fun d => (dats m 0 c).before_fetched 1 t (fetch0_1 t) d) _ (blk m c 12 t) (fun d => (dats m 0 c).before_fetched 12 t (fetch0_12 t) d) _ (blk m c 23 t) (fun d => (dats m 0 c).before_fetched 23 t (fetch0_23 t) d) _ (blk m c 34 t) (fun d => (dats m 0 c).before_fetched 34 t (fetch0_34 t) d) _ _ _ _

theorem weight2 (c : Dev nD) (t : Fin cfg0.N) :
    iprop(pre m c t 2 ∗ pre m c t 13 ∗ pre m c t 24 ∗ pre m c t 35 ∗ pre m c t 47 ∗ pre m c t 58 ∗ pre m c t 69 ∗ pre m c t 80) ⊢ wp frame (wpE (defs₀ (F := F)) Variants.none c none) Set.univ
      (one o2x2048 i2x2048 h_S1x2x2048 shapeCasts_S1x2x2048_S2x2048 ![0, 0] inb_S2x2048_S2x2048_0_0 h_S2x2048 ((cfg0.win 2).stage (cfg0.slots t 2)) ((cfg0.win 13).stage (cfg0.slots t 13)) ((cfg0.win 24).stage (cfg0.slots t 24)) ((cfg0.win 35).stage (cfg0.slots t 35)) ((cfg0.win 47).stage (cfg0.slots t 47)) ((cfg0.win 58).stage (cfg0.slots t 58)) ((cfg0.win 69).stage (cfg0.slots t 69)) ((cfg0.win 80).stage (cfg0.slots t 80)))
      (fun _ => iprop(post m c t 2 ∗ post m c t 13 ∗ post m c t 24 ∗ post m c t 35 ∗ post m c t 47 ∗ post m c t 58 ∗ post m c t 69 ∗ post m c t 80)) :=
  one_spec _ _ _ _ _ _ _ (by decide) _ _ _ _ _ _ _ _ c _ _ (blk m c 2 t) (fun d => (dats m 0 c).before_fetched 2 t (fetch0_2 t) d) _ (blk m c 13 t) (fun d => (dats m 0 c).before_fetched 13 t (fetch0_13 t) d) _ (blk m c 24 t) (fun d => (dats m 0 c).before_fetched 24 t (fetch0_24 t) d) _ (blk m c 35 t) (fun d => (dats m 0 c).before_fetched 35 t (fetch0_35 t) d) _ _ _ _

theorem weight3 (c : Dev nD) (t : Fin cfg0.N) :
    iprop(pre m c t 3 ∗ pre m c t 14 ∗ pre m c t 25 ∗ pre m c t 36 ∗ pre m c t 48 ∗ pre m c t 59 ∗ pre m c t 70 ∗ pre m c t 81) ⊢ wp frame (wpE (defs₀ (F := F)) Variants.none c none) Set.univ
      (one o2x2048 i2x2048 h_S1x2x2048 shapeCasts_S1x2x2048_S2x2048 ![0, 0] inb_S2x2048_S2x2048_0_0 h_S2x2048 ((cfg0.win 3).stage (cfg0.slots t 3)) ((cfg0.win 14).stage (cfg0.slots t 14)) ((cfg0.win 25).stage (cfg0.slots t 25)) ((cfg0.win 36).stage (cfg0.slots t 36)) ((cfg0.win 48).stage (cfg0.slots t 48)) ((cfg0.win 59).stage (cfg0.slots t 59)) ((cfg0.win 70).stage (cfg0.slots t 70)) ((cfg0.win 81).stage (cfg0.slots t 81)))
      (fun _ => iprop(post m c t 3 ∗ post m c t 14 ∗ post m c t 25 ∗ post m c t 36 ∗ post m c t 48 ∗ post m c t 59 ∗ post m c t 70 ∗ post m c t 81)) :=
  one_spec _ _ _ _ _ _ _ (by decide) _ _ _ _ _ _ _ _ c _ _ (blk m c 3 t) (fun d => (dats m 0 c).before_fetched 3 t (fetch0_3 t) d) _ (blk m c 14 t) (fun d => (dats m 0 c).before_fetched 14 t (fetch0_14 t) d) _ (blk m c 25 t) (fun d => (dats m 0 c).before_fetched 25 t (fetch0_25 t) d) _ (blk m c 36 t) (fun d => (dats m 0 c).before_fetched 36 t (fetch0_36 t) d) _ _ _ _

theorem weight4 (c : Dev nD) (t : Fin cfg0.N) :
    iprop(pre m c t 4 ∗ pre m c t 15 ∗ pre m c t 26 ∗ pre m c t 37 ∗ pre m c t 49 ∗ pre m c t 60 ∗ pre m c t 71 ∗ pre m c t 82) ⊢ wp frame (wpE (defs₀ (F := F)) Variants.none c none) Set.univ
      (one o2x8x128x128 i2x8x128x128 h_S1x2x8x128x128 shapeCasts_S1x2x8x128x128_S2x8x128x128 ![0, 0, 0, 0] inb_S2x8x128x128_S2x8x128x128_0_0_0_0 h_S2x8x128x128 ((cfg0.win 4).stage (cfg0.slots t 4)) ((cfg0.win 15).stage (cfg0.slots t 15)) ((cfg0.win 26).stage (cfg0.slots t 26)) ((cfg0.win 37).stage (cfg0.slots t 37)) ((cfg0.win 49).stage (cfg0.slots t 49)) ((cfg0.win 60).stage (cfg0.slots t 60)) ((cfg0.win 71).stage (cfg0.slots t 71)) ((cfg0.win 82).stage (cfg0.slots t 82)))
      (fun _ => iprop(post m c t 4 ∗ post m c t 15 ∗ post m c t 26 ∗ post m c t 37 ∗ post m c t 49 ∗ post m c t 60 ∗ post m c t 71 ∗ post m c t 82)) :=
  one_spec _ _ _ _ _ _ _ (by decide) _ _ _ _ _ _ _ _ c _ _ (blk m c 4 t) (fun d => (dats m 0 c).before_fetched 4 t (fetch0_4 t) d) _ (blk m c 15 t) (fun d => (dats m 0 c).before_fetched 15 t (fetch0_15 t) d) _ (blk m c 26 t) (fun d => (dats m 0 c).before_fetched 26 t (fetch0_26 t) d) _ (blk m c 37 t) (fun d => (dats m 0 c).before_fetched 37 t (fetch0_37 t) d) _ _ _ _

theorem weight5 (c : Dev nD) (t : Fin cfg0.N) :
    iprop(pre m c t 5 ∗ pre m c t 16 ∗ pre m c t 27 ∗ pre m c t 38 ∗ pre m c t 50 ∗ pre m c t 61 ∗ pre m c t 72 ∗ pre m c t 83) ⊢ wp frame (wpE (defs₀ (F := F)) Variants.none c none) Set.univ
      (one o2x8x128 i2x8x128 h_S1x2x8x128 shapeCasts_S1x2x8x128_S2x8x128 ![0, 0, 0] inb_S2x8x128_S2x8x128_0_0_0 h_S2x8x128 ((cfg0.win 5).stage (cfg0.slots t 5)) ((cfg0.win 16).stage (cfg0.slots t 16)) ((cfg0.win 27).stage (cfg0.slots t 27)) ((cfg0.win 38).stage (cfg0.slots t 38)) ((cfg0.win 50).stage (cfg0.slots t 50)) ((cfg0.win 61).stage (cfg0.slots t 61)) ((cfg0.win 72).stage (cfg0.slots t 72)) ((cfg0.win 83).stage (cfg0.slots t 83)))
      (fun _ => iprop(post m c t 5 ∗ post m c t 16 ∗ post m c t 27 ∗ post m c t 38 ∗ post m c t 50 ∗ post m c t 61 ∗ post m c t 72 ∗ post m c t 83)) :=
  one_spec _ _ _ _ _ _ _ (by decide) _ _ _ _ _ _ _ _ c _ _ (blk m c 5 t) (fun d => (dats m 0 c).before_fetched 5 t (fetch0_5 t) d) _ (blk m c 16 t) (fun d => (dats m 0 c).before_fetched 16 t (fetch0_16 t) d) _ (blk m c 27 t) (fun d => (dats m 0 c).before_fetched 27 t (fetch0_27 t) d) _ (blk m c 38 t) (fun d => (dats m 0 c).before_fetched 38 t (fetch0_38 t) d) _ _ _ _

theorem weight6 (c : Dev nD) (t : Fin cfg0.N) :
    iprop(pre m c t 6 ∗ pre m c t 17 ∗ pre m c t 28 ∗ pre m c t 39 ∗ pre m c t 51 ∗ pre m c t 62 ∗ pre m c t 73 ∗ pre m c t 84) ⊢ wp frame (wpE (defs₀ (F := F)) Variants.none c none) Set.univ
      (one o4x1024 i4x1024 h_S1x4x1024 shapeCasts_S1x4x1024_S4x1024 ![0, 0] inb_S4x1024_S4x1024_0_0 h_S4x1024 ((cfg0.win 6).stage (cfg0.slots t 6)) ((cfg0.win 17).stage (cfg0.slots t 17)) ((cfg0.win 28).stage (cfg0.slots t 28)) ((cfg0.win 39).stage (cfg0.slots t 39)) ((cfg0.win 51).stage (cfg0.slots t 51)) ((cfg0.win 62).stage (cfg0.slots t 62)) ((cfg0.win 73).stage (cfg0.slots t 73)) ((cfg0.win 84).stage (cfg0.slots t 84)))
      (fun _ => iprop(post m c t 6 ∗ post m c t 17 ∗ post m c t 28 ∗ post m c t 39 ∗ post m c t 51 ∗ post m c t 62 ∗ post m c t 73 ∗ post m c t 84)) :=
  one_spec _ _ _ _ _ _ _ (by decide) _ _ _ _ _ _ _ _ c _ _ (blk m c 6 t) (fun d => (dats m 0 c).before_fetched 6 t (fetch0_6 t) d) _ (blk m c 17 t) (fun d => (dats m 0 c).before_fetched 17 t (fetch0_17 t) d) _ (blk m c 28 t) (fun d => (dats m 0 c).before_fetched 28 t (fetch0_28 t) d) _ (blk m c 39 t) (fun d => (dats m 0 c).before_fetched 39 t (fetch0_39 t) d) _ _ _ _

theorem weight7 (c : Dev nD) (t : Fin cfg0.N) :
    iprop(pre m c t 7 ∗ pre m c t 18 ∗ pre m c t 29 ∗ pre m c t 40 ∗ pre m c t 52 ∗ pre m c t 63 ∗ pre m c t 74 ∗ pre m c t 85) ⊢ wp frame (wpE (defs₀ (F := F)) Variants.none c none) Set.univ
      (one o1x1024 i1x1024 h_S1x1x1024 shapeCasts_S1x1x1024_S1x1024 ![0, 0] inb_S1x1024_S1x1024_0_0 h_S1x1024 ((cfg0.win 7).stage (cfg0.slots t 7)) ((cfg0.win 18).stage (cfg0.slots t 18)) ((cfg0.win 29).stage (cfg0.slots t 29)) ((cfg0.win 40).stage (cfg0.slots t 40)) ((cfg0.win 52).stage (cfg0.slots t 52)) ((cfg0.win 63).stage (cfg0.slots t 63)) ((cfg0.win 74).stage (cfg0.slots t 74)) ((cfg0.win 85).stage (cfg0.slots t 85)))
      (fun _ => iprop(post m c t 7 ∗ post m c t 18 ∗ post m c t 29 ∗ post m c t 40 ∗ post m c t 52 ∗ post m c t 63 ∗ post m c t 74 ∗ post m c t 85)) :=
  one_spec _ _ _ _ _ _ _ (by decide) _ _ _ _ _ _ _ _ c _ _ (blk m c 7 t) (fun d => (dats m 0 c).before_fetched 7 t (fetch0_7 t) d) _ (blk m c 18 t) (fun d => (dats m 0 c).before_fetched 18 t (fetch0_18 t) d) _ (blk m c 29 t) (fun d => (dats m 0 c).before_fetched 29 t (fetch0_29 t) d) _ (blk m c 40 t) (fun d => (dats m 0 c).before_fetched 40 t (fetch0_40 t) d) _ _ _ _

theorem weight8 (c : Dev nD) (t : Fin cfg0.N) :
    iprop(pre m c t 8 ∗ pre m c t 19 ∗ pre m c t 30 ∗ pre m c t 41 ∗ pre m c t 53 ∗ pre m c t 64 ∗ pre m c t 75 ∗ pre m c t 86) ⊢ wp frame (wpE (defs₀ (F := F)) Variants.none c none) Set.univ
      (one o2x31x256 i2x31x256 h_S1x2x31x256 shapeCasts_S1x2x31x256_S2x31x256 ![0, 0, 0] inb_S2x31x256_S2x31x256_0_0_0 h_S2x31x256 ((cfg0.win 8).stage (cfg0.slots t 8)) ((cfg0.win 19).stage (cfg0.slots t 19)) ((cfg0.win 30).stage (cfg0.slots t 30)) ((cfg0.win 41).stage (cfg0.slots t 41)) ((cfg0.win 53).stage (cfg0.slots t 53)) ((cfg0.win 64).stage (cfg0.slots t 64)) ((cfg0.win 75).stage (cfg0.slots t 75)) ((cfg0.win 86).stage (cfg0.slots t 86)))
      (fun _ => iprop(post m c t 8 ∗ post m c t 19 ∗ post m c t 30 ∗ post m c t 41 ∗ post m c t 53 ∗ post m c t 64 ∗ post m c t 75 ∗ post m c t 86)) :=
  one_spec _ _ _ _ _ _ _ (by decide) _ _ _ _ _ _ _ _ c _ _ (blk m c 8 t) (fun d => (dats m 0 c).before_fetched 8 t (fetch0_8 t) d) _ (blk m c 19 t) (fun d => (dats m 0 c).before_fetched 19 t (fetch0_19 t) d) _ (blk m c 30 t) (fun d => (dats m 0 c).before_fetched 30 t (fetch0_30 t) d) _ (blk m c 41 t) (fun d => (dats m 0 c).before_fetched 41 t (fetch0_41 t) d) _ _ _ _

theorem weight9 (c : Dev nD) (t : Fin cfg0.N) :
    iprop(pre m c t 9 ∗ pre m c t 20 ∗ pre m c t 31 ∗ pre m c t 42 ∗ pre m c t 54 ∗ pre m c t 65 ∗ pre m c t 76 ∗ pre m c t 87) ⊢ wp frame (wpE (defs₀ (F := F)) Variants.none c none) Set.univ
      (one o2x256 i2x256 h_S1x2x256 shapeCasts_S1x2x256_S2x256 ![0, 0] inb_S2x256_S2x256_0_0 h_S2x256 ((cfg0.win 9).stage (cfg0.slots t 9)) ((cfg0.win 20).stage (cfg0.slots t 20)) ((cfg0.win 31).stage (cfg0.slots t 31)) ((cfg0.win 42).stage (cfg0.slots t 42)) ((cfg0.win 54).stage (cfg0.slots t 54)) ((cfg0.win 65).stage (cfg0.slots t 65)) ((cfg0.win 76).stage (cfg0.slots t 76)) ((cfg0.win 87).stage (cfg0.slots t 87)))
      (fun _ => iprop(post m c t 9 ∗ post m c t 20 ∗ post m c t 31 ∗ post m c t 42 ∗ post m c t 54 ∗ post m c t 65 ∗ post m c t 76 ∗ post m c t 87)) :=
  one_spec _ _ _ _ _ _ _ (by decide) _ _ _ _ _ _ _ _ c _ _ (blk m c 9 t) (fun d => (dats m 0 c).before_fetched 9 t (fetch0_9 t) d) _ (blk m c 20 t) (fun d => (dats m 0 c).before_fetched 20 t (fetch0_20 t) d) _ (blk m c 31 t) (fun d => (dats m 0 c).before_fetched 31 t (fetch0_31 t) d) _ (blk m c 42 t) (fun d => (dats m 0 c).before_fetched 42 t (fetch0_42 t) d) _ _ _ _

theorem weight10 (c : Dev nD) (t : Fin cfg0.N) :
    iprop(pre m c t 10 ∗ pre m c t 21 ∗ pre m c t 32 ∗ pre m c t 43 ∗ pre m c t 55 ∗ pre m c t 66 ∗ pre m c t 77 ∗ pre m c t 88) ⊢ wp frame (wpE (defs₀ (F := F)) Variants.none c none) Set.univ
      (one o2x256 i2x256 h_S1x2x256 shapeCasts_S1x2x256_S2x256 ![0, 0] inb_S2x256_S2x256_0_0 h_S2x256 ((cfg0.win 10).stage (cfg0.slots t 10)) ((cfg0.win 21).stage (cfg0.slots t 21)) ((cfg0.win 32).stage (cfg0.slots t 32)) ((cfg0.win 43).stage (cfg0.slots t 43)) ((cfg0.win 55).stage (cfg0.slots t 55)) ((cfg0.win 66).stage (cfg0.slots t 66)) ((cfg0.win 77).stage (cfg0.slots t 77)) ((cfg0.win 88).stage (cfg0.slots t 88)))
      (fun _ => iprop(post m c t 10 ∗ post m c t 21 ∗ post m c t 32 ∗ post m c t 43 ∗ post m c t 55 ∗ post m c t 66 ∗ post m c t 77 ∗ post m c t 88)) :=
  one_spec _ _ _ _ _ _ _ (by decide) _ _ _ _ _ _ _ _ c _ _ (blk m c 10 t) (fun d => (dats m 0 c).before_fetched 10 t (fetch0_10 t) d) _ (blk m c 21 t) (fun d => (dats m 0 c).before_fetched 21 t (fetch0_21 t) d) _ (blk m c 32 t) (fun d => (dats m 0 c).before_fetched 32 t (fetch0_32 t) d) _ (blk m c 43 t) (fun d => (dats m 0 c).before_fetched 43 t (fetch0_43 t) d) _ _ _ _

theorem weights (c : Dev nD) (t : Fin cfg0.N) :
    iprop(pre m c t 44 ∗ pre m c t 89) ⊢ wp frame (wpE (defs₀ (F := F)) Variants.none c none) Set.univ
      (tot o8x128 i8x128 h_S1x8x128 shapeCasts_S1x8x128_S8x128 ![0, 0] inb_S8x128_S8x128_0_0 h_S8x128 ((cfg0.win 44).stage (cfg0.slots t 44)) ((cfg0.win 89).stage (cfg0.slots t 89)))
      (fun _ => iprop(post m c t 44 ∗ post m c t 89)) :=
  tot_spec _ _ _ _ _ _ _ (by decide) _ _ c _ _ (blk m c 44 t) (fun d => (dats m 0 c).before_fetched 44 t (fetch0_44 t) d) _

/-- The windows, weight by weight. -/
def order : List (Fin 90) := [0, 11, 22, 33, 45, 56, 67, 78, 1, 12, 23, 34, 46, 57, 68, 79, 2, 13, 24, 35, 47, 58, 69, 80, 3, 14, 25, 36, 48, 59, 70, 81, 4, 15, 26, 37, 49, 60, 71, 82, 5, 16, 27, 38, 50, 61, 72, 83, 6, 17, 28, 39, 51, 62, 73, 84, 7, 18, 29, 40, 52, 63, 74, 85, 8, 19, 30, 41, 53, 64, 75, 86, 9, 20, 31, 42, 54, 65, 76, 87, 10, 21, 32, 43, 55, 66, 77, 88, 44, 89]

theorem order_all : Finset.univ = order.toFinset := by decide +kernel

theorem order_nodup : order.Nodup := by decide +kernel

theorem body_list (c : Dev nD) (t : Fin cfg0.N) :
    bigSepL order (pre m c t) ⊢ wp frame (wpE (defs₀ (F := F)) Variants.none c none) Set.univ (bodyAt0 t) (fun _ => bigSepL order (post m c t)) := by
  unfold bodyAt0
  rw [body_eq]
  unfold order
  exact step8 (weight0 m c t) (step8 (weight1 m c t) (step8 (weight2 m c t) (step8 (weight3 m c t) (step8 (weight4 m c t) (step8 (weight5 m c t) (step8 (weight6 m c t) (step8 (weight7 m c t) (step8 (weight8 m c t) (step8 (weight9 m c t) (step8 (weight10 m c t) (last2 (weights m c t))))))))))))

end Cert.AdsKIdeal.Small

end
-- ==== Proof.AdsFrame.lean ====
/-
  The optimiser of the small weights: the kernel's run for any float values, and the frames.
-/
module

public import proofs.«01_k».proof.Defs
public import proofs.«01_k».proof.Proof.AdsRun
public import proofs.«01_k».proof.Proof.Gen.AdsK.Launch

@[expose] public section

set_option maxRecDepth 16384

noncomputable section

namespace Cert.AdsKIdeal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.AdsKIdeal Cert.AdsKIdeal.Gen

variable {F : FTy → Type} [FloatOps F] (m : (ℓ : Loc nD τ sig) → Buf (Elt F) ℓ) (ρ : Dev nD → PrngReg)

/-- The body with what it does not touch beside it. -/
theorem body_framed (c : Dev nD) (t : Fin cfg0.N) :
    iprop((dats m 0 c).Φ t.castSucc ∗ (dats m 0 c).owesAt () t.castSucc ∗ bigSep Finset.univ (pre m c t))
      ⊢ wp frame (wpE (defs₀ (F := F)) Variants.none c none) Set.univ (bodyAt0 t)
        (fun _ => iprop((dats m 0 c).Φ t.castSucc ∗ (dats m 0 c).owesAt () t.castSucc ∗ bigSep Finset.univ (post m c t))) := by
  rw [bigSep_univ_eq_bigSepL order order_all order_nodup, bigSep_univ_eq_bigSepL order order_all order_nodup]
  exact (sep_mono_right ((sep_mono_right (body_list m c t)).trans (wp_frame_l _ _ _))).trans (wp_frame_l _ _ _)

theorem body_obligation (c : Dev nD) : BodyObligation (dats (F := F) m 0 c) (defs₀ (F := F)) Variants.none () Set.univ := fun t => by
  have row : defs₀ (F := F) .tc cfg0.body (cfg0.bodyArgs t (cfg0.slots t)) = bodyAt0 t := by
    unfold defs₀; rw [Defs.onTc_tc]
  rw [row]
  exact triple_restated (body_framed m c t) rfl .rfl fun _ => .rfl

set_option backward.isDefEq.respectTransparency.types false in
set_option maxHeartbeats 800000 in
/-- Every run ends with each array at what the proof data say and no semaphore raised. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := Pipeline.hmain_region cfgs 0 defs₀ Variants.none m main fun c => (main_chain c).trans rfl)
    (hA := fun _ _ => rfl) (hΦ := fun _ _ => rfl)

/-- An array no window writes to ends as it was. -/
theorem kept {r : PUnit × MemSt nD τ sig (Elt F)} (h : Pipeline.FramePost cfgs (dats m) 0 (V m) r) (c : Dev nD) (w : Fin 90)
    (hw : (cfg0.win w).isOut = false) :
    r.2.mem ((spec0 w).arr.view.loc (c : Thread nD τ)) = (dats m 0 c).A w :=
  ((h c).1 w).trans ((dats m 0 c).arrAt_in w hw _)

/-- The frame, at any float values. -/
def Quiet : Prop := θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31)
    ∧ r.2.mem ((c.tc : Thread nD τ).loc main_arg32) = m ((c.tc : Thread nD τ).loc main_arg32)
    ∧ r.2.mem ((c.tc : Thread nD τ).loc main_arg33) = m ((c.tc : Thread nD τ).loc main_arg33)
    ∧ r.2.mem ((c.tc : Thread nD τ).loc main_arg34) = m ((c.tc : Thread nD τ).loc main_arg34)
    ∧ r.2.mem ((c.tc : Thread nD τ).loc main_arg35) = m ((c.tc : Thread nD τ).loc main_arg35)
    ∧ r.2.mem ((c.tc : Thread nD τ).loc main_arg36) = m ((c.tc : Thread nD τ).loc main_arg36)
    ∧ r.2.mem ((c.tc : Thread nD τ).loc main_arg37) = m ((c.tc : Thread nD τ).loc main_arg37)
    ∧ r.2.mem ((c.tc : Thread nD τ).loc main_arg38) = m ((c.tc : Thread nD τ).loc main_arg38)
    ∧ r.2.mem ((c.tc : Thread nD τ).loc main_arg39) = m ((c.tc : Thread nD τ).loc main_arg39)
    ∧ r.2.mem ((c.tc : Thread nD τ).loc main_arg40) = m ((c.tc : Thread nD τ).loc main_arg40)
    ∧ r.2.mem ((c.tc : Thread nD τ).loc main_arg41) = m ((c.tc : Thread nD τ).loc main_arg41)
    ∧ r.2.mem ((c.tc : Thread nD τ).loc main_arg42) = m ((c.tc : Thread nD τ).loc main_arg42)
    ∧ r.2.mem ((c.tc : Thread nD τ).loc main_arg43) = m ((c.tc : Thread nD τ).loc main_arg43)
    ∧ r.2.mem ((c.tc : Thread nD τ).loc main_arg44) = m ((c.tc : Thread nD τ).loc main_arg44))
    ∧ r.2.sem = fun _ => 0)

set_option maxHeartbeats 1600000 in
theorem frame_any : Quiet m ρ :=
  (θ_run defs _ _).mono (fun r h => ⟨fun c => ⟨kept m h.1 c 0 rfl, kept m h.1 c 1 rfl, kept m h.1 c 2 rfl, kept m h.1 c 3 rfl, kept m h.1 c 4 rfl, kept m h.1 c 5 rfl, kept m h.1 c 6 rfl, kept m h.1 c 7 rfl, kept m h.1 c 8 rfl, kept m h.1 c 9 rfl, kept m h.1 c 10 rfl, kept m h.1 c 11 rfl, kept m h.1 c 12 rfl, kept m h.1 c 13 rfl, kept m h.1 c 14 rfl, kept m h.1 c 15 rfl, kept m h.1 c 16 rfl, kept m h.1 c 17 rfl, kept m h.1 c 18 rfl, kept m h.1 c 19 rfl, kept m h.1 c 20 rfl, kept m h.1 c 21 rfl, kept m h.1 c 22 rfl, kept m h.1 c 23 rfl, kept m h.1 c 24 rfl, kept m h.1 c 25 rfl, kept m h.1 c 26 rfl, kept m h.1 c 27 rfl, kept m h.1 c 28 rfl, kept m h.1 c 29 rfl, kept m h.1 c 30 rfl, kept m h.1 c 31 rfl, kept m h.1 c 32 rfl, kept m h.1 c 33 rfl, kept m h.1 c 34 rfl, kept m h.1 c 35 rfl, kept m h.1 c 36 rfl, kept m h.1 c 37 rfl, kept m h.1 c 38 rfl, kept m h.1 c 39 rfl, kept m h.1 c 40 rfl, kept m h.1 c 41 rfl, kept m h.1 c 42 rfl, kept m h.1 c 43 rfl, kept m h.1 c 44 rfl⟩, h.2⟩) (run m ρ)

end Cert.AdsKIdeal.Small

namespace Cert.Ads

open Idealize.ShloMosaic Idealize.ShloMosaic.TcCoe Idealize.SL.Sem Idealize.ShloMosaic.Tactic

theorem frame_i : Cert.quiescent_AdsKIdeal := fun m ρ _ => Cert.AdsKIdeal.Small.frame_any (F := Ideal) m ρ

/-- The printed kernel is its idealization's text at floats as bits. -/
theorem same_text : Cert.quiescent_AdsK = (∀ m ρ, True → Cert.AdsKIdeal.Small.Quiet (F := Bits) m ρ) := by
  sl_kernel_rfl

theorem frame_k : Cert.quiescent_AdsK := same_text.mpr fun m ρ _ => Cert.AdsKIdeal.Small.frame_any (F := Bits) m ρ

end Cert.Ads

end
-- ==== Proof.AdsValue.lean ====
/-
  The optimiser of the small weights: what the kernel leaves in its arrays is what the reference computes.
-/
module

public import proofs.«01_k».proof.Proof.AdsFrame
public import proofs.«01_k».proof.Proof.Gen.AdsRIdeal.Read
public import Idealize.ShloMosaic.Lib.Pipeline.ValueKit
public import Idealize.ShloMosaic.Lib.Pipeline.ReadBack

@[expose] public section

set_option maxRecDepth 16384

noncomputable section

namespace Cert.AdsKIdeal.Small

open Idealize.ShloMosaic Idealize.ShloMosaic.TcCoe Idealize.SL.Sem
open Cert.AdsKIdeal Cert.AdsKIdeal.Gen Cert.AdsRIdeal.Read

/-! ## The eight parts, one after the other, are the sum over them -/

theorem sum_4x1024 (x : Vec Ideal S8x4x1024 .f32) : sumOf o4x1024 i4x1024 shapeCasts_S1x4x1024_S4x1024 x = val_main_v0 x := by
  funext i
  idx_vars i
  pointwise [sumOf, total, o4x1024, val_main_v0, val_main_cst]
  rw [Fin.sum_univ_eight]

theorem sum_2x2048 (x : Vec Ideal S8x2x2048 .f32) : sumOf o2x2048 i2x2048 shapeCasts_S1x2x2048_S2x2048 x = val_main_v1 x := by
  funext i
  idx_vars i
  pointwise [sumOf, total, o2x2048, val_main_v1, val_main_cst_0]
  rw [Fin.sum_univ_eight]

theorem sum_2x8x128x128 (x : Vec Ideal S8x2x8x128x128 .f32) : sumOf o2x8x128x128 i2x8x128x128 shapeCasts_S1x2x8x128x128_S2x8x128x128 x = val_main_v4 x := by
  funext i
  idx_vars i
  pointwise [sumOf, total, o2x8x128x128, val_main_v4, val_main_cst_3]
  rw [Fin.sum_univ_eight]

theorem sum_2x8x128 (x : Vec Ideal S8x2x8x128 .f32) : sumOf o2x8x128 i2x8x128 shapeCasts_S1x2x8x128_S2x8x128 x = val_main_v5 x := by
  funext i
  idx_vars i
  pointwise [sumOf, total, o2x8x128, val_main_v5, val_main_cst_4]
  rw [Fin.sum_univ_eight]

theorem sum_1x1024 (x : Vec Ideal S8x1x1024 .f32) : sumOf o1x1024 i1x1024 shapeCasts_S1x1x1024_S1x1024 x = val_main_v7 x := by
  funext i
  idx_vars i
  pointwise [sumOf, total, o1x1024, val_main_v7, val_main_cst_6]
  rw [Fin.sum_univ_eight]

theorem sum_2x31x256 (x : Vec Ideal S8x2x31x256 .f32) : sumOf o2x31x256 i2x31x256 shapeCasts_S1x2x31x256_S2x31x256 x = val_main_v8 x := by
  funext i
  idx_vars i
  pointwise [sumOf, total, o2x31x256, val_main_v8, val_main_cst_7]
  rw [Fin.sum_univ_eight]

theorem sum_2x256 (x : Vec Ideal S8x2x256 .f32) : sumOf o2x256 i2x256 shapeCasts_S1x2x256_S2x256 x = val_main_v9 x := by
  funext i
  idx_vars i
  pointwise [sumOf, total, o2x256, val_main_v9, val_main_cst_8]
  rw [Fin.sum_univ_eight]

theorem sum_8x128 (x : Vec Ideal S8x8x128 .f32) : sumOf o8x128 i8x128 shapeCasts_S1x8x128_S8x128 x = val_main_v275 x := by
  funext i
  idx_vars i
  pointwise [sumOf, total, o8x128, val_main_v275, val_main_cst_109]
  rw [Fin.sum_univ_eight]

/-! ## Every block is its whole array -/

variable (m : (ℓ : Loc nD τ sig) → Buf (Elt Ideal) ℓ) (c : Dev nD)

theorem idx : ∀ (w : Fin 90) (a : Fin (cfg0.win w).shape.rank), (cfg0.win w).index t0_0 a = 0 := by decide +kernel

theorem outs : ∀ w : Fin 90, 45 ≤ w.val → (cfg0.win w).WholeAt t0_0 := by decide +kernel

theorem blk_at (w : Fin 90) (y : ((cfg0.win w).xblock (cfg0.grid.coords t0_0)).Idx) (j : (cfg0.win w).shape.Idx)
    (h : ∀ a, (j a).val = (y a).val) : blk m c w t0_0 y = (cfg0.win w).arr.view.read (Elt Ideal) (V m c (Pipeline.arrRef spec0 w)) j := by
  have e : ((cfg0.win w).rect t0_0).emb y = j := by
    funext a
    apply Fin.ext
    rw [Pipeline.Window.rect_emb_val_of_index_zero _ _ _ (idx w a), h]
  subst e
  rfl

/-- What an output's array holds at the end. -/
theorem ends (w : Fin 90) (h : 45 ≤ w.val) (G : (cfg0.win w).block.Idx → Elt Ideal (cfg0.win w).elt) (e : left m c t0_0 w = G)
    (j : (cfg0.win w).shape.Idx) :
    (dats m 0 c).arrAt w cfg0.N ((cfg0.win w).arr.view.emb j) = _root_.cast (congrArg (Elt Ideal) (cfg0.win w).arr.view.elt_eq.symm)
      (G fun a => ⟨j a, (outs w h).lt_size j a⟩) := by
  subst e
  exact (dats m 0 c).arrAt_emb_eq_after_last w t0_0 (outs w h) j

/-- An argument. -/
abbrev A (b : Ref sig .tc) : Buf (Elt Ideal) ((c : Thread nD τ).loc b) := m ((c : Thread nD τ).loc b)

theorem blk0 : blk m c 0 t0_0 = A m c main_arg0 := funext fun y => blk_at m c 0 y y fun _ => rfl
theorem blk1 : blk m c 1 t0_0 = A m c main_arg1 := funext fun y => blk_at m c 1 y y fun _ => rfl
theorem blk2 : blk m c 2 t0_0 = A m c main_arg2 := funext fun y => blk_at m c 2 y y fun _ => rfl
theorem blk3 : blk m c 3 t0_0 = A m c main_arg3 := funext fun y => blk_at m c 3 y y fun _ => rfl
theorem blk4 : blk m c 4 t0_0 = A m c main_arg4 := funext fun y => blk_at m c 4 y y fun _ => rfl
theorem blk5 : blk m c 5 t0_0 = A m c main_arg5 := funext fun y => blk_at m c 5 y y fun _ => rfl
theorem blk6 : blk m c 6 t0_0 = A m c main_arg6 := funext fun y => blk_at m c 6 y y fun _ => rfl
theorem blk7 : blk m c 7 t0_0 = A m c main_arg7 := funext fun y => blk_at m c 7 y y fun _ => rfl
theorem blk8 : blk m c 8 t0_0 = A m c main_arg8 := funext fun y => blk_at m c 8 y y fun _ => rfl
theorem blk9 : blk m c 9 t0_0 = A m c main_arg9 := funext fun y => blk_at m c 9 y y fun _ => rfl
theorem blk10 : blk m c 10 t0_0 = A m c main_arg10 := funext fun y => blk_at m c 10 y y fun _ => rfl
theorem blk11 : blk m c 11 t0_0 = A m c main_arg11 := funext fun y => blk_at m c 11 y y fun _ => rfl
theorem blk12 : blk m c 12 t0_0 = A m c main_arg12 := funext fun y => blk_at m c 12 y y fun _ => rfl
theorem blk13 : blk m c 13 t0_0 = A m c main_arg13 := funext fun y => blk_at m c 13 y y fun _ => rfl
theorem blk14 : blk m c 14 t0_0 = A m c main_arg14 := funext fun y => blk_at m c 14 y y fun _ => rfl
theorem blk15 : blk m c 15 t0_0 = A m c main_arg15 := funext fun y => blk_at m c 15 y y fun _ => rfl
theorem blk16 : blk m c 16 t0_0 = A m c main_arg16 := funext fun y => blk_at m c 16 y y fun _ => rfl
theorem blk17 : blk m c 17 t0_0 = A m c main_arg17 := funext fun y => blk_at m c 17 y y fun _ => rfl
theorem blk18 : blk m c 18 t0_0 = A m c main_arg18 := funext fun y => blk_at m c 18 y y fun _ => rfl
theorem blk19 : blk m c 19 t0_0 = A m c main_arg19 := funext fun y => blk_at m c 19 y y fun _ => rfl
theorem blk20 : blk m c 20 t0_0 = A m c main_arg20 := funext fun y => blk_at m c 20 y y fun _ => rfl
theorem blk21 : blk m c 21 t0_0 = A m c main_arg21 := funext fun y => blk_at m c 21 y y fun _ => rfl
theorem blk22 : blk m c 22 t0_0 = A m c main_arg22 := funext fun y => blk_at m c 22 y y fun _ => rfl
theorem blk23 : blk m c 23 t0_0 = A m c main_arg23 := funext fun y => blk_at m c 23 y y fun _ => rfl
theorem blk24 : blk m c 24 t0_0 = A m c main_arg24 := funext fun y => blk_at m c 24 y y fun _ => rfl
theorem blk25 : blk m c 25 t0_0 = A m c main_arg25 := funext fun y => blk_at m c 25 y y fun _ => rfl
theorem blk26 : blk m c 26 t0_0 = A m c main_arg26 := funext fun y => blk_at m c 26 y y fun _ => rfl
theorem blk27 : blk m c 27 t0_0 = A m c main_arg27 := funext fun y => blk_at m c 27 y y fun _ => rfl
theorem blk28 : blk m c 28 t0_0 = A m c main_arg28 := funext fun y => blk_at m c 28 y y fun _ => rfl
theorem blk29 : blk m c 29 t0_0 = A m c main_arg29 := funext fun y => blk_at m c 29 y y fun _ => rfl
theorem blk30 : blk m c 30 t0_0 = A m c main_arg30 := funext fun y => blk_at m c 30 y y fun _ => rfl
theorem blk31 : blk m c 31 t0_0 = A m c main_arg31 := funext fun y => blk_at m c 31 y y fun _ => rfl
theorem blk32 : blk m c 32 t0_0 = A m c main_arg32 := funext fun y => blk_at m c 32 y y fun _ => rfl
theorem blk33 : blk m c 33 t0_0 = A m c main_arg33 := funext fun y => blk_at m c 33 y y fun _ => rfl
theorem blk34 : blk m c 34 t0_0 = A m c main_arg34 := funext fun y => blk_at m c 34 y y fun _ => rfl
theorem blk35 : blk m c 35 t0_0 = A m c main_arg35 := funext fun y => blk_at m c 35 y y fun _ => rfl
theorem blk36 : blk m c 36 t0_0 = A m c main_arg36 := funext fun y => blk_at m c 36 y y fun _ => rfl
theorem blk37 : blk m c 37 t0_0 = A m c main_arg37 := funext fun y => blk_at m c 37 y y fun _ => rfl
theorem blk38 : blk m c 38 t0_0 = A m c main_arg38 := funext fun y => blk_at m c 38 y y fun _ => rfl
theorem blk39 : blk m c 39 t0_0 = A m c main_arg39 := funext fun y => blk_at m c 39 y y fun _ => rfl
theorem blk40 : blk m c 40 t0_0 = A m c main_arg40 := funext fun y => blk_at m c 40 y y fun _ => rfl
theorem blk41 : blk m c 41 t0_0 = A m c main_arg41 := funext fun y => blk_at m c 41 y y fun _ => rfl
theorem blk42 : blk m c 42 t0_0 = A m c main_arg42 := funext fun y => blk_at m c 42 y y fun _ => rfl
theorem blk43 : blk m c 43 t0_0 = A m c main_arg43 := funext fun y => blk_at m c 43 y y fun _ => rfl
theorem blk44 : blk m c 44 t0_0 = A m c main_arg44 := funext fun y => blk_at m c 44 y y fun _ => rfl

/-! ## The arrays at the end, weight by weight -/

set_option maxHeartbeats 1600000 in
theorem ends_0 : (dats m 0 c).arrAt 45 cfg0.N = val_main_v0 (A m c main_arg0)
    ∧ (dats m 0 c).arrAt 56 cfg0.N = val_main_v34 (A m c main_arg0) (A m c main_arg11) (A m c main_arg22) (A m c main_arg33)
    ∧ (dats m 0 c).arrAt 67 cfg0.N = val_main_v15 (A m c main_arg0) (A m c main_arg22)
    ∧ (dats m 0 c).arrAt 78 cfg0.N = val_main_v21 (A m c main_arg0) (A m c main_arg33) := by
  have g : sumOf o4x1024 i4x1024 shapeCasts_S1x4x1024_S4x1024 (blk m c 0 t0_0) = val_main_v0 (A m c main_arg0) := by
    rw [blk0]
    exact sum_4x1024 _
  have l0 : left m c t0_0 45 = val_main_v0 (A m c main_arg0) := (show _ = sumOf o4x1024 i4x1024 shapeCasts_S1x4x1024_S4x1024 (blk m c 0 t0_0) from rfl).trans g
  have l1 : left m c t0_0 56 = val_main_v34 (A m c main_arg0) (A m c main_arg11) (A m c main_arg22) (A m c main_arg33) :=
    (show _ = step (sumOf o4x1024 i4x1024 shapeCasts_S1x4x1024_S4x1024 (blk m c 0 t0_0)) (blk m c 11 t0_0) (blk m c 22 t0_0) (blk m c 33 t0_0) from rfl).trans
      (by rw [g, blk11, blk22, blk33]; rfl)
  have l2 : left m c t0_0 67 = val_main_v15 (A m c main_arg0) (A m c main_arg22) :=
    (show _ = first (sumOf o4x1024 i4x1024 shapeCasts_S1x4x1024_S4x1024 (blk m c 0 t0_0)) (blk m c 22 t0_0) from rfl).trans (by rw [g, blk22]; rfl)
  have l3 : left m c t0_0 78 = val_main_v21 (A m c main_arg0) (A m c main_arg33) :=
    (show _ = second (sumOf o4x1024 i4x1024 shapeCasts_S1x4x1024_S4x1024 (blk m c 0 t0_0)) (blk m c 33 t0_0) from rfl).trans (by rw [g, blk33]; rfl)
  exact ⟨funext fun j => ends m c 45 (by decide) _ l0 j, funext fun j => ends m c 56 (by decide) _ l1 j,
    funext fun j => ends m c 67 (by decide) _ l2 j, funext fun j => ends m c 78 (by decide) _ l3 j⟩

set_option maxHeartbeats 1600000 in
theorem ends_1 : (dats m 0 c).arrAt 46 cfg0.N = val_main_v1 (A m c main_arg1)
    ∧ (dats m 0 c).arrAt 57 cfg0.N = val_main_v58 (A m c main_arg1) (A m c main_arg12) (A m c main_arg23) (A m c main_arg34)
    ∧ (dats m 0 c).arrAt 68 cfg0.N = val_main_v39 (A m c main_arg1) (A m c main_arg23)
    ∧ (dats m 0 c).arrAt 79 cfg0.N = val_main_v45 (A m c main_arg1) (A m c main_arg34) := by
  have g : sumOf o2x2048 i2x2048 shapeCasts_S1x2x2048_S2x2048 (blk m c 1 t0_0) = val_main_v1 (A m c main_arg1) := by
    rw [blk1]
    exact sum_2x2048 _
  have l0 : left m c t0_0 46 = val_main_v1 (A m c main_arg1) := (show _ = sumOf o2x2048 i2x2048 shapeCasts_S1x2x2048_S2x2048 (blk m c 1 t0_0) from rfl).trans g
  have l1 : left m c t0_0 57 = val_main_v58 (A m c main_arg1) (A m c main_arg12) (A m c main_arg23) (A m c main_arg34) :=
    (show _ = step (sumOf o2x2048 i2x2048 shapeCasts_S1x2x2048_S2x2048 (blk m c 1 t0_0)) (blk m c 12 t0_0) (blk m c 23 t0_0) (blk m c 34 t0_0) from rfl).trans
      (by rw [g, blk12, blk23, blk34]; rfl)
  have l2 : left m c t0_0 68 = val_main_v39 (A m c main_arg1) (A m c main_arg23) :=
    (show _ = first (sumOf o2x2048 i2x2048 shapeCasts_S1x2x2048_S2x2048 (blk m c 1 t0_0)) (blk m c 23 t0_0) from rfl).trans (by rw [g, blk23]; rfl)
  have l3 : left m c t0_0 79 = val_main_v45 (A m c main_arg1) (A m c main_arg34) :=
    (show _ = second (sumOf o2x2048 i2x2048 shapeCasts_S1x2x2048_S2x2048 (blk m c 1 t0_0)) (blk m c 34 t0_0) from rfl).trans (by rw [g, blk34]; rfl)
  exact ⟨funext fun j => ends m c 46 (by decide) _ l0 j, funext fun j => ends m c 57 (by decide) _ l1 j,
    funext fun j => ends m c 68 (by decide) _ l2 j, funext fun j => ends m c 79 (by decide) _ l3 j⟩

set_option maxHeartbeats 1600000 in
theorem ends_2 : (dats m 0 c).arrAt 47 cfg0.N = val_main_v2 (A m c main_arg2)
    ∧ (dats m 0 c).arrAt 58 cfg0.N = val_main_v82 (A m c main_arg2) (A m c main_arg13) (A m c main_arg24) (A m c main_arg35)
    ∧ (dats m 0 c).arrAt 69 cfg0.N = val_main_v63 (A m c main_arg2) (A m c main_arg24)
    ∧ (dats m 0 c).arrAt 80 cfg0.N = val_main_v69 (A m c main_arg2) (A m c main_arg35) := by
  have g : sumOf o2x2048 i2x2048 shapeCasts_S1x2x2048_S2x2048 (blk m c 2 t0_0) = val_main_v2 (A m c main_arg2) := by
    rw [blk2]
    exact sum_2x2048 _
  have l0 : left m c t0_0 47 = val_main_v2 (A m c main_arg2) := (show _ = sumOf o2x2048 i2x2048 shapeCasts_S1x2x2048_S2x2048 (blk m c 2 t0_0) from rfl).trans g
  have l1 : left m c t0_0 58 = val_main_v82 (A m c main_arg2) (A m c main_arg13) (A m c main_arg24) (A m c main_arg35) :=
    (show _ = step (sumOf o2x2048 i2x2048 shapeCasts_S1x2x2048_S2x2048 (blk m c 2 t0_0)) (blk m c 13 t0_0) (blk m c 24 t0_0) (blk m c 35 t0_0) from rfl).trans
      (by rw [g, blk13, blk24, blk35]; rfl)
  have l2 : left m c t0_0 69 = val_main_v63 (A m c main_arg2) (A m c main_arg24) :=
    (show _ = first (sumOf o2x2048 i2x2048 shapeCasts_S1x2x2048_S2x2048 (blk m c 2 t0_0)) (blk m c 24 t0_0) from rfl).trans (by rw [g, blk24]; rfl)
  have l3 : left m c t0_0 80 = val_main_v69 (A m c main_arg2) (A m c main_arg35) :=
    (show _ = second (sumOf o2x2048 i2x2048 shapeCasts_S1x2x2048_S2x2048 (blk m c 2 t0_0)) (blk m c 35 t0_0) from rfl).trans (by rw [g, blk35]; rfl)
  exact ⟨funext fun j => ends m c 47 (by decide) _ l0 j, funext fun j => ends m c 58 (by decide) _ l1 j,
    funext fun j => ends m c 69 (by decide) _ l2 j, funext fun j => ends m c 80 (by decide) _ l3 j⟩

set_option maxHeartbeats 1600000 in
theorem ends_3 : (dats m 0 c).arrAt 48 cfg0.N = val_main_v3 (A m c main_arg3)
    ∧ (dats m 0 c).arrAt 59 cfg0.N = val_main_v106 (A m c main_arg3) (A m c main_arg14) (A m c main_arg25) (A m c main_arg36)
    ∧ (dats m 0 c).arrAt 70 cfg0.N = val_main_v87 (A m c main_arg3) (A m c main_arg25)
    ∧ (dats m 0 c).arrAt 81 cfg0.N = val_main_v93 (A m c main_arg3) (A m c main_arg36) := by
  have g : sumOf o2x2048 i2x2048 shapeCasts_S1x2x2048_S2x2048 (blk m c 3 t0_0) = val_main_v3 (A m c main_arg3) := by
    rw [blk3]
    exact sum_2x2048 _
  have l0 : left m c t0_0 48 = val_main_v3 (A m c main_arg3) := (show _ = sumOf o2x2048 i2x2048 shapeCasts_S1x2x2048_S2x2048 (blk m c 3 t0_0) from rfl).trans g
  have l1 : left m c t0_0 59 = val_main_v106 (A m c main_arg3) (A m c main_arg14) (A m c main_arg25) (A m c main_arg36) :=
    (show _ = step (sumOf o2x2048 i2x2048 shapeCasts_S1x2x2048_S2x2048 (blk m c 3 t0_0)) (blk m c 14 t0_0) (blk m c 25 t0_0) (blk m c 36 t0_0) from rfl).trans
      (by rw [g, blk14, blk25, blk36]; rfl)
  have l2 : left m c t0_0 70 = val_main_v87 (A m c main_arg3) (A m c main_arg25) :=
    (show _ = first (sumOf o2x2048 i2x2048 shapeCasts_S1x2x2048_S2x2048 (blk m c 3 t0_0)) (blk m c 25 t0_0) from rfl).trans (by rw [g, blk25]; rfl)
  have l3 : left m c t0_0 81 = val_main_v93 (A m c main_arg3) (A m c main_arg36) :=
    (show _ = second (sumOf o2x2048 i2x2048 shapeCasts_S1x2x2048_S2x2048 (blk m c 3 t0_0)) (blk m c 36 t0_0) from rfl).trans (by rw [g, blk36]; rfl)
  exact ⟨funext fun j => ends m c 48 (by decide) _ l0 j, funext fun j => ends m c 59 (by decide) _ l1 j,
    funext fun j => ends m c 70 (by decide) _ l2 j, funext fun j => ends m c 81 (by decide) _ l3 j⟩

set_option maxHeartbeats 1600000 in
theorem ends_4 : (dats m 0 c).arrAt 49 cfg0.N = val_main_v4 (A m c main_arg4)
    ∧ (dats m 0 c).arrAt 60 cfg0.N = val_main_v130 (A m c main_arg4) (A m c main_arg15) (A m c main_arg26) (A m c main_arg37)
    ∧ (dats m 0 c).arrAt 71 cfg0.N = val_main_v111 (A m c main_arg4) (A m c main_arg26)
    ∧ (dats m 0 c).arrAt 82 cfg0.N = val_main_v117 (A m c main_arg4) (A m c main_arg37) := by
  have g : sumOf o2x8x128x128 i2x8x128x128 shapeCasts_S1x2x8x128x128_S2x8x128x128 (blk m c 4 t0_0) = val_main_v4 (A m c main_arg4) := by
    rw [blk4]
    exact sum_2x8x128x128 _
  have l0 : left m c t0_0 49 = val_main_v4 (A m c main_arg4) := (show _ = sumOf o2x8x128x128 i2x8x128x128 shapeCasts_S1x2x8x128x128_S2x8x128x128 (blk m c 4 t0_0) from rfl).trans g
  have l1 : left m c t0_0 60 = val_main_v130 (A m c main_arg4) (A m c main_arg15) (A m c main_arg26) (A m c main_arg37) :=
    (show _ = step (sumOf o2x8x128x128 i2x8x128x128 shapeCasts_S1x2x8x128x128_S2x8x128x128 (blk m c 4 t0_0)) (blk m c 15 t0_0) (blk m c 26 t0_0) (blk m c 37 t0_0) from rfl).trans
      (by rw [g, blk15, blk26, blk37]; rfl)
  have l2 : left m c t0_0 71 = val_main_v111 (A m c main_arg4) (A m c main_arg26) :=
    (show _ = first (sumOf o2x8x128x128 i2x8x128x128 shapeCasts_S1x2x8x128x128_S2x8x128x128 (blk m c 4 t0_0)) (blk m c 26 t0_0) from rfl).trans (by rw [g, blk26]; rfl)
  have l3 : left m c t0_0 82 = val_main_v117 (A m c main_arg4) (A m c main_arg37) :=
    (show _ = second (sumOf o2x8x128x128 i2x8x128x128 shapeCasts_S1x2x8x128x128_S2x8x128x128 (blk m c 4 t0_0)) (blk m c 37 t0_0) from rfl).trans (by rw [g, blk37]; rfl)
  exact ⟨funext fun j => ends m c 49 (by decide) _ l0 j, funext fun j => ends m c 60 (by decide) _ l1 j,
    funext fun j => ends m c 71 (by decide) _ l2 j, funext fun j => ends m c 82 (by decide) _ l3 j⟩

set_option maxHeartbeats 1600000 in
theorem ends_5 : (dats m 0 c).arrAt 50 cfg0.N = val_main_v5 (A m c main_arg5)
    ∧ (dats m 0 c).arrAt 61 cfg0.N = val_main_v154 (A m c main_arg5) (A m c main_arg16) (A m c main_arg27) (A m c main_arg38)
    ∧ (dats m 0 c).arrAt 72 cfg0.N = val_main_v135 (A m c main_arg5) (A m c main_arg27)
    ∧ (dats m 0 c).arrAt 83 cfg0.N = val_main_v141 (A m c main_arg5) (A m c main_arg38) := by
  have g : sumOf o2x8x128 i2x8x128 shapeCasts_S1x2x8x128_S2x8x128 (blk m c 5 t0_0) = val_main_v5 (A m c main_arg5) := by
    rw [blk5]
    exact sum_2x8x128 _
  have l0 : left m c t0_0 50 = val_main_v5 (A m c main_arg5) := (show _ = sumOf o2x8x128 i2x8x128 shapeCasts_S1x2x8x128_S2x8x128 (blk m c 5 t0_0) from rfl).trans g
  have l1 : left m c t0_0 61 = val_main_v154 (A m c main_arg5) (A m c main_arg16) (A m c main_arg27) (A m c main_arg38) :=
    (show _ = step (sumOf o2x8x128 i2x8x128 shapeCasts_S1x2x8x128_S2x8x128 (blk m c 5 t0_0)) (blk m c 16 t0_0) (blk m c 27 t0_0) (blk m c 38 t0_0) from rfl).trans
      (by rw [g, blk16, blk27, blk38]; rfl)
  have l2 : left m c t0_0 72 = val_main_v135 (A m c main_arg5) (A m c main_arg27) :=
    (show _ = first (sumOf o2x8x128 i2x8x128 shapeCasts_S1x2x8x128_S2x8x128 (blk m c 5 t0_0)) (blk m c 27 t0_0) from rfl).trans (by rw [g, blk27]; rfl)
  have l3 : left m c t0_0 83 = val_main_v141 (A m c main_arg5) (A m c main_arg38) :=
    (show _ = second (sumOf o2x8x128 i2x8x128 shapeCasts_S1x2x8x128_S2x8x128 (blk m c 5 t0_0)) (blk m c 38 t0_0) from rfl).trans (by rw [g, blk38]; rfl)
  exact ⟨funext fun j => ends m c 50 (by decide) _ l0 j, funext fun j => ends m c 61 (by decide) _ l1 j,
    funext fun j => ends m c 72 (by decide) _ l2 j, funext fun j => ends m c 83 (by decide) _ l3 j⟩

set_option maxHeartbeats 1600000 in
theorem ends_6 : (dats m 0 c).arrAt 51 cfg0.N = val_main_v6 (A m c main_arg6)
    ∧ (dats m 0 c).arrAt 62 cfg0.N = val_main_v178 (A m c main_arg6) (A m c main_arg17) (A m c main_arg28) (A m c main_arg39)
    ∧ (dats m 0 c).arrAt 73 cfg0.N = val_main_v159 (A m c main_arg6) (A m c main_arg28)
    ∧ (dats m 0 c).arrAt 84 cfg0.N = val_main_v165 (A m c main_arg6) (A m c main_arg39) := by
  have g : sumOf o4x1024 i4x1024 shapeCasts_S1x4x1024_S4x1024 (blk m c 6 t0_0) = val_main_v6 (A m c main_arg6) := by
    rw [blk6]
    exact sum_4x1024 _
  have l0 : left m c t0_0 51 = val_main_v6 (A m c main_arg6) := (show _ = sumOf o4x1024 i4x1024 shapeCasts_S1x4x1024_S4x1024 (blk m c 6 t0_0) from rfl).trans g
  have l1 : left m c t0_0 62 = val_main_v178 (A m c main_arg6) (A m c main_arg17) (A m c main_arg28) (A m c main_arg39) :=
    (show _ = step (sumOf o4x1024 i4x1024 shapeCasts_S1x4x1024_S4x1024 (blk m c 6 t0_0)) (blk m c 17 t0_0) (blk m c 28 t0_0) (blk m c 39 t0_0) from rfl).trans
      (by rw [g, blk17, blk28, blk39]; rfl)
  have l2 : left m c t0_0 73 = val_main_v159 (A m c main_arg6) (A m c main_arg28) :=
    (show _ = first (sumOf o4x1024 i4x1024 shapeCasts_S1x4x1024_S4x1024 (blk m c 6 t0_0)) (blk m c 28 t0_0) from rfl).trans (by rw [g, blk28]; rfl)
  have l3 : left m c t0_0 84 = val_main_v165 (A m c main_arg6) (A m c main_arg39) :=
    (show _ = second (sumOf o4x1024 i4x1024 shapeCasts_S1x4x1024_S4x1024 (blk m c 6 t0_0)) (blk m c 39 t0_0) from rfl).trans (by rw [g, blk39]; rfl)
  exact ⟨funext fun j => ends m c 51 (by decide) _ l0 j, funext fun j => ends m c 62 (by decide) _ l1 j,
    funext fun j => ends m c 73 (by decide) _ l2 j, funext fun j => ends m c 84 (by decide) _ l3 j⟩

set_option maxHeartbeats 1600000 in
theorem ends_7 : (dats m 0 c).arrAt 52 cfg0.N = val_main_v7 (A m c main_arg7)
    ∧ (dats m 0 c).arrAt 63 cfg0.N = val_main_v202 (A m c main_arg7) (A m c main_arg18) (A m c main_arg29) (A m c main_arg40)
    ∧ (dats m 0 c).arrAt 74 cfg0.N = val_main_v183 (A m c main_arg7) (A m c main_arg29)
    ∧ (dats m 0 c).arrAt 85 cfg0.N = val_main_v189 (A m c main_arg7) (A m c main_arg40) := by
  have g : sumOf o1x1024 i1x1024 shapeCasts_S1x1x1024_S1x1024 (blk m c 7 t0_0) = val_main_v7 (A m c main_arg7) := by
    rw [blk7]
    exact sum_1x1024 _
  have l0 : left m c t0_0 52 = val_main_v7 (A m c main_arg7) := (show _ = sumOf o1x1024 i1x1024 shapeCasts_S1x1x1024_S1x1024 (blk m c 7 t0_0) from rfl).trans g
  have l1 : left m c t0_0 63 = val_main_v202 (A m c main_arg7) (A m c main_arg18) (A m c main_arg29) (A m c main_arg40) :=
    (show _ = step (sumOf o1x1024 i1x1024 shapeCasts_S1x1x1024_S1x1024 (blk m c 7 t0_0)) (blk m c 18 t0_0) (blk m c 29 t0_0) (blk m c 40 t0_0) from rfl).trans
      (by rw [g, blk18, blk29, blk40]; rfl)
  have l2 : left m c t0_0 74 = val_main_v183 (A m c main_arg7) (A m c main_arg29) :=
    (show _ = first (sumOf o1x1024 i1x1024 shapeCasts_S1x1x1024_S1x1024 (blk m c 7 t0_0)) (blk m c 29 t0_0) from rfl).trans (by rw [g, blk29]; rfl)
  have l3 : left m c t0_0 85 = val_main_v189 (A m c main_arg7) (A m c main_arg40) :=
    (show _ = second (sumOf o1x1024 i1x1024 shapeCasts_S1x1x1024_S1x1024 (blk m c 7 t0_0)) (blk m c 40 t0_0) from rfl).trans (by rw [g, blk40]; rfl)
  exact ⟨funext fun j => ends m c 52 (by decide) _ l0 j, funext fun j => ends m c 63 (by decide) _ l1 j,
    funext fun j => ends m c 74 (by decide) _ l2 j, funext fun j => ends m c 85 (by decide) _ l3 j⟩

set_option maxHeartbeats 1600000 in
theorem ends_8 : (dats m 0 c).arrAt 53 cfg0.N = val_main_v8 (A m c main_arg8)
    ∧ (dats m 0 c).arrAt 64 cfg0.N = val_main_v226 (A m c main_arg8) (A m c main_arg19) (A m c main_arg30) (A m c main_arg41)
    ∧ (dats m 0 c).arrAt 75 cfg0.N = val_main_v207 (A m c main_arg8) (A m c main_arg30)
    ∧ (dats m 0 c).arrAt 86 cfg0.N = val_main_v213 (A m c main_arg8) (A m c main_arg41) := by
  have g : sumOf o2x31x256 i2x31x256 shapeCasts_S1x2x31x256_S2x31x256 (blk m c 8 t0_0) = val_main_v8 (A m c main_arg8) := by
    rw [blk8]
    exact sum_2x31x256 _
  have l0 : left m c t0_0 53 = val_main_v8 (A m c main_arg8) := (show _ = sumOf o2x31x256 i2x31x256 shapeCasts_S1x2x31x256_S2x31x256 (blk m c 8 t0_0) from rfl).trans g
  have l1 : left m c t0_0 64 = val_main_v226 (A m c main_arg8) (A m c main_arg19) (A m c main_arg30) (A m c main_arg41) :=
    (show _ = step (sumOf o2x31x256 i2x31x256 shapeCasts_S1x2x31x256_S2x31x256 (blk m c 8 t0_0)) (blk m c 19 t0_0) (blk m c 30 t0_0) (blk m c 41 t0_0) from rfl).trans
      (by rw [g, blk19, blk30, blk41]; rfl)
  have l2 : left m c t0_0 75 = val_main_v207 (A m c main_arg8) (A m c main_arg30) :=
    (show _ = first (sumOf o2x31x256 i2x31x256 shapeCasts_S1x2x31x256_S2x31x256 (blk m c 8 t0_0)) (blk m c 30 t0_0) from rfl).trans (by rw [g, blk30]; rfl)
  have l3 : left m c t0_0 86 = val_main_v213 (A m c main_arg8) (A m c main_arg41) :=
    (show _ = second (sumOf o2x31x256 i2x31x256 shapeCasts_S1x2x31x256_S2x31x256 (blk m c 8 t0_0)) (blk m c 41 t0_0) from rfl).trans (by rw [g, blk41]; rfl)
  exact ⟨funext fun j => ends m c 53 (by decide) _ l0 j, funext fun j => ends m c 64 (by decide) _ l1 j,
    funext fun j => ends m c 75 (by decide) _ l2 j, funext fun j => ends m c 86 (by decide) _ l3 j⟩

set_option maxHeartbeats 1600000 in
theorem ends_9 : (dats m 0 c).arrAt 54 cfg0.N = val_main_v9 (A m c main_arg9)
    ∧ (dats m 0 c).arrAt 65 cfg0.N = val_main_v250 (A m c main_arg9) (A m c main_arg20) (A m c main_arg31) (A m c main_arg42)
    ∧ (dats m 0 c).arrAt 76 cfg0.N = val_main_v231 (A m c main_arg9) (A m c main_arg31)
    ∧ (dats m 0 c).arrAt 87 cfg0.N = val_main_v237 (A m c main_arg9) (A m c main_arg42) := by
  have g : sumOf o2x256 i2x256 shapeCasts_S1x2x256_S2x256 (blk m c 9 t0_0) = val_main_v9 (A m c main_arg9) := by
    rw [blk9]
    exact sum_2x256 _
  have l0 : left m c t0_0 54 = val_main_v9 (A m c main_arg9) := (show _ = sumOf o2x256 i2x256 shapeCasts_S1x2x256_S2x256 (blk m c 9 t0_0) from rfl).trans g
  have l1 : left m c t0_0 65 = val_main_v250 (A m c main_arg9) (A m c main_arg20) (A m c main_arg31) (A m c main_arg42) :=
    (show _ = step (sumOf o2x256 i2x256 shapeCasts_S1x2x256_S2x256 (blk m c 9 t0_0)) (blk m c 20 t0_0) (blk m c 31 t0_0) (blk m c 42 t0_0) from rfl).trans
      (by rw [g, blk20, blk31, blk42]; rfl)
  have l2 : left m c t0_0 76 = val_main_v231 (A m c main_arg9) (A m c main_arg31) :=
    (show _ = first (sumOf o2x256 i2x256 shapeCasts_S1x2x256_S2x256 (blk m c 9 t0_0)) (blk m c 31 t0_0) from rfl).trans (by rw [g, blk31]; rfl)
  have l3 : left m c t0_0 87 = val_main_v237 (A m c main_arg9) (A m c main_arg42) :=
    (show _ = second (sumOf o2x256 i2x256 shapeCasts_S1x2x256_S2x256 (blk m c 9 t0_0)) (blk m c 42 t0_0) from rfl).trans (by rw [g, blk42]; rfl)
  exact ⟨funext fun j => ends m c 54 (by decide) _ l0 j, funext fun j => ends m c 65 (by decide) _ l1 j,
    funext fun j => ends m c 76 (by decide) _ l2 j, funext fun j => ends m c 87 (by decide) _ l3 j⟩

set_option maxHeartbeats 1600000 in
theorem ends_10 : (dats m 0 c).arrAt 55 cfg0.N = val_main_v10 (A m c main_arg10)
    ∧ (dats m 0 c).arrAt 66 cfg0.N = val_main_v274 (A m c main_arg10) (A m c main_arg21) (A m c main_arg32) (A m c main_arg43)
    ∧ (dats m 0 c).arrAt 77 cfg0.N = val_main_v255 (A m c main_arg10) (A m c main_arg32)
    ∧ (dats m 0 c).arrAt 88 cfg0.N = val_main_v261 (A m c main_arg10) (A m c main_arg43) := by
  have g : sumOf o2x256 i2x256 shapeCasts_S1x2x256_S2x256 (blk m c 10 t0_0) = val_main_v10 (A m c main_arg10) := by
    rw [blk10]
    exact sum_2x256 _
  have l0 : left m c t0_0 55 = val_main_v10 (A m c main_arg10) := (show _ = sumOf o2x256 i2x256 shapeCasts_S1x2x256_S2x256 (blk m c 10 t0_0) from rfl).trans g
  have l1 : left m c t0_0 66 = val_main_v274 (A m c main_arg10) (A m c main_arg21) (A m c main_arg32) (A m c main_arg43) :=
    (show _ = step (sumOf o2x256 i2x256 shapeCasts_S1x2x256_S2x256 (blk m c 10 t0_0)) (blk m c 21 t0_0) (blk m c 32 t0_0) (blk m c 43 t0_0) from rfl).trans
      (by rw [g, blk21, blk32, blk43]; rfl)
  have l2 : left m c t0_0 77 = val_main_v255 (A m c main_arg10) (A m c main_arg32) :=
    (show _ = first (sumOf o2x256 i2x256 shapeCasts_S1x2x256_S2x256 (blk m c 10 t0_0)) (blk m c 32 t0_0) from rfl).trans (by rw [g, blk32]; rfl)
  have l3 : left m c t0_0 88 = val_main_v261 (A m c main_arg10) (A m c main_arg43) :=
    (show _ = second (sumOf o2x256 i2x256 shapeCasts_S1x2x256_S2x256 (blk m c 10 t0_0)) (blk m c 43 t0_0) from rfl).trans (by rw [g, blk43]; rfl)
  exact ⟨funext fun j => ends m c 55 (by decide) _ l0 j, funext fun j => ends m c 66 (by decide) _ l1 j,
    funext fun j => ends m c 77 (by decide) _ l2 j, funext fun j => ends m c 88 (by decide) _ l3 j⟩

theorem ends_loss : (dats m 0 c).arrAt 89 cfg0.N = val_main_v275 (A m c main_arg44) := by
  have l : left m c t0_0 89 = sumOf o8x128 i8x128 shapeCasts_S1x8x128_S8x128 (blk m c 44 t0_0) := rfl
  rw [blk44, sum_8x128] at l
  exact funext fun j => ends m c 89 (by decide) _ l j

end Cert.AdsKIdeal.Small
-- ==== Proof.AdsClaims.lean ====
/-
  The optimiser of the small weights: its claims.
-/
module

public import proofs.«01_k».proof.Proof.AdsValue
public import proofs.«01_k».proof.Proof.Gen.AdsRIdeal.Run

@[expose] public section

set_option maxRecDepth 16384

noncomputable section

namespace Cert.Ads

open Idealize.ShloMosaic Idealize.ShloMosaic.TcCoe Idealize.SL.Sem
open Cert.AdsKIdeal Cert.AdsKIdeal.Gen Cert.AdsKIdeal.Small Cert.AdsRIdeal.Read

set_option maxHeartbeats 1600000 in
theorem frame_r : Cert.quiescent_AdsRIdeal := fun m ρ _ =>
  (θ_run Cert.AdsRIdeal.defs _ _).mono (fun r h => ⟨fun c => (h c).2.2.2.2.2.2.2.2.2.2.2.2.2.2.2.2.2.2.2.2.2.2.2.2.2.2.2.2.2.2.2.2.2.2.2.2.2.2.2.2.2.2.2.2.2, sem_eq_zero_of_no_sems (by decide) r.2⟩)
    (Cert.AdsRIdeal.Value.run m ρ)

/-- An output's array ends as the proof data say. -/
theorem result (m : (ℓ : Loc nD τ sig) → Buf (Elt Ideal) ℓ) {r : PUnit × MemSt nD τ sig (Elt Ideal)}
    (h : Pipeline.FramePost cfgs (dats m) 0 (V m) r) (c : Dev nD) (w : Fin 90) :
    r.2.mem ((spec0 w).arr.view.loc (c : Thread nD τ)) = (dats m 0 c).arrAt w cfg0.N :=
  (h c).1 w

theorem results_0 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_0) = val_main_v0 (A m c main_arg0)
    ∧ r.2.mem ((c.tc : Thread nD τ).loc main_v0_11) = val_main_v34 (A m c main_arg0) (A m c main_arg11) (A m c main_arg22) (A m c main_arg33)
    ∧ r.2.mem ((c.tc : Thread nD τ).loc main_v0_22) = val_main_v15 (A m c main_arg0) (A m c main_arg22)
    ∧ r.2.mem ((c.tc : Thread nD τ).loc main_v0_33) = val_main_v21 (A m c main_arg0) (A m c main_arg33) :=
  ⟨(result m h c 45).trans (ends_0 m c).1, (result m h c 56).trans (ends_0 m c).2.1, (result m h c 67).trans (ends_0 m c).2.2.1, (result m h c 78).trans (ends_0 m c).2.2.2⟩

theorem results_1 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_1) = val_main_v1 (A m c main_arg1)
    ∧ r.2.mem ((c.tc : Thread nD τ).loc main_v0_12) = val_main_v58 (A m c main_arg1) (A m c main_arg12) (A m c main_arg23) (A m c main_arg34)
    ∧ r.2.mem ((c.tc : Thread nD τ).loc main_v0_23) = val_main_v39 (A m c main_arg1) (A m c main_arg23)
    ∧ r.2.mem ((c.tc : Thread nD τ).loc main_v0_34) = val_main_v45 (A m c main_arg1) (A m c main_arg34) :=
  ⟨(result m h c 46).trans (ends_1 m c).1, (result m h c 57).trans (ends_1 m c).2.1, (result m h c 68).trans (ends_1 m c).2.2.1, (result m h c 79).trans (ends_1 m c).2.2.2⟩

theorem results_2 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_2) = val_main_v2 (A m c main_arg2)
    ∧ r.2.mem ((c.tc : Thread nD τ).loc main_v0_13) = val_main_v82 (A m c main_arg2) (A m c main_arg13) (A m c main_arg24) (A m c main_arg35)
    ∧ r.2.mem ((c.tc : Thread nD τ).loc main_v0_24) = val_main_v63 (A m c main_arg2) (A m c main_arg24)
    ∧ r.2.mem ((c.tc : Thread nD τ).loc main_v0_35) = val_main_v69 (A m c main_arg2) (A m c main_arg35) :=
  ⟨(result m h c 47).trans (ends_2 m c).1, (result m h c 58).trans (ends_2 m c).2.1, (result m h c 69).trans (ends_2 m c).2.2.1, (result m h c 80).trans (ends_2 m c).2.2.2⟩

theorem results_3 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_3) = val_main_v3 (A m c main_arg3)
    ∧ r.2.mem ((c.tc : Thread nD τ).loc main_v0_14) = val_main_v106 (A m c main_arg3) (A m c main_arg14) (A m c main_arg25) (A m c main_arg36)
    ∧ r.2.mem ((c.tc : Thread nD τ).loc main_v0_25) = val_main_v87 (A m c main_arg3) (A m c main_arg25)
    ∧ r.2.mem ((c.tc : Thread nD τ).loc main_v0_36) = val_main_v93 (A m c main_arg3) (A m c main_arg36) :=
  ⟨(result m h c 48).trans (ends_3 m c).1, (result m h c 59).trans (ends_3 m c).2.1, (result m h c 70).trans (ends_3 m c).2.2.1, (result m h c 81).trans (ends_3 m c).2.2.2⟩

theorem results_4 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_4) = val_main_v4 (A m c main_arg4)
    ∧ r.2.mem ((c.tc : Thread nD τ).loc main_v0_15) = val_main_v130 (A m c main_arg4) (A m c main_arg15) (A m c main_arg26) (A m c main_arg37)
    ∧ r.2.mem ((c.tc : Thread nD τ).loc main_v0_26) = val_main_v111 (A m c main_arg4) (A m c main_arg26)
    ∧ r.2.mem ((c.tc : Thread nD τ).loc main_v0_37) = val_main_v117 (A m c main_arg4) (A m c main_arg37) :=
  ⟨(result m h c 49).trans (ends_4 m c).1, (result m h c 60).trans (ends_4 m c).2.1, (result m h c 71).trans (ends_4 m c).2.2.1, (result m h c 82).trans (ends_4 m c).2.2.2⟩

theorem results_5 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_5) = val_main_v5 (A m c main_arg5)
    ∧ r.2.mem ((c.tc : Thread nD τ).loc main_v0_16) = val_main_v154 (A m c main_arg5) (A m c main_arg16) (A m c main_arg27) (A m c main_arg38)
    ∧ r.2.mem ((c.tc : Thread nD τ).loc main_v0_27) = val_main_v135 (A m c main_arg5) (A m c main_arg27)
    ∧ r.2.mem ((c.tc : Thread nD τ).loc main_v0_38) = val_main_v141 (A m c main_arg5) (A m c main_arg38) :=
  ⟨(result m h c 50).trans (ends_5 m c).1, (result m h c 61).trans (ends_5 m c).2.1, (result m h c 72).trans (ends_5 m c).2.2.1, (result m h c 83).trans (ends_5 m c).2.2.2⟩

theorem results_6 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_6) = val_main_v6 (A m c main_arg6)
    ∧ r.2.mem ((c.tc : Thread nD τ).loc main_v0_17) = val_main_v178 (A m c main_arg6) (A m c main_arg17) (A m c main_arg28) (A m c main_arg39)
    ∧ r.2.mem ((c.tc : Thread nD τ).loc main_v0_28) = val_main_v159 (A m c main_arg6) (A m c main_arg28)
    ∧ r.2.mem ((c.tc : Thread nD τ).loc main_v0_39) = val_main_v165 (A m c main_arg6) (A m c main_arg39) :=
  ⟨(result m h c 51).trans (ends_6 m c).1, (result m h c 62).trans (ends_6 m c).2.1, (result m h c 73).trans (ends_6 m c).2.2.1, (result m h c 84).trans (ends_6 m c).2.2.2⟩

theorem results_7 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_7) = val_main_v7 (A m c main_arg7)
    ∧ r.2.mem ((c.tc : Thread nD τ).loc main_v0_18) = val_main_v202 (A m c main_arg7) (A m c main_arg18) (A m c main_arg29) (A m c main_arg40)
    ∧ r.2.mem ((c.tc : Thread nD τ).loc main_v0_29) = val_main_v183 (A m c main_arg7) (A m c main_arg29)
    ∧ r.2.mem ((c.tc : Thread nD τ).loc main_v0_40) = val_main_v189 (A m c main_arg7) (A m c main_arg40) :=
  ⟨(result m h c 52).trans (ends_7 m c).1, (result m h c 63).trans (ends_7 m c).2.1, (result m h c 74).trans (ends_7 m c).2.2.1, (result m h c 85).trans (ends_7 m c).2.2.2⟩

theorem results_8 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_8) = val_main_v8 (A m c main_arg8)
    ∧ r.2.mem ((c.tc : Thread nD τ).loc main_v0_19) = val_main_v226 (A m c main_arg8) (A m c main_arg19) (A m c main_arg30) (A m c main_arg41)
    ∧ r.2.mem ((c.tc : Thread nD τ).loc main_v0_30) = val_main_v207 (A m c main_arg8) (A m c main_arg30)
    ∧ r.2.mem ((c.tc : Thread nD τ).loc main_v0_41) = val_main_v213 (A m c main_arg8) (A m c main_arg41) :=
  ⟨(result m h c 53).trans (ends_8 m c).1, (result m h c 64).trans (ends_8 m c).2.1, (result m h c 75).trans (ends_8 m c).2.2.1, (result m h c 86).trans (ends_8 m c).2.2.2⟩

theorem results_9 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_9) = val_main_v9 (A m c main_arg9)
    ∧ r.2.mem ((c.tc : Thread nD τ).loc main_v0_20) = val_main_v250 (A m c main_arg9) (A m c main_arg20) (A m c main_arg31) (A m c main_arg42)
    ∧ r.2.mem ((c.tc : Thread nD τ).loc main_v0_31) = val_main_v231 (A m c main_arg9) (A m c main_arg31)
    ∧ r.2.mem ((c.tc : Thread nD τ).loc main_v0_42) = val_main_v237 (A m c main_arg9) (A m c main_arg42) :=
  ⟨(result m h c 54).trans (ends_9 m c).1, (result m h c 65).trans (ends_9 m c).2.1, (result m h c 76).trans (ends_9 m c).2.2.1, (result m h c 87).trans (ends_9 m c).2.2.2⟩

theorem results_10 {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_v0_10) = val_main_v10 (A m c main_arg10)
    ∧ r.2.mem ((c.tc : Thread nD τ).loc main_v0_21) = val_main_v274 (A m c main_arg10) (A m c main_arg21) (A m c main_arg32) (A m c main_arg43)
    ∧ r.2.mem ((c.tc : Thread nD τ).loc main_v0_32) = val_main_v255 (A m c main_arg10) (A m c main_arg32)
    ∧ r.2.mem ((c.tc : Thread nD τ).loc main_v0_43) = val_main_v261 (A m c main_arg10) (A m c main_arg43) :=
  ⟨(result m h c 55).trans (ends_10 m c).1, (result m h c 66).trans (ends_10 m c).2.1, (result m h c 77).trans (ends_10 m c).2.2.1, (result m h c 88).trans (ends_10 m c).2.2.2⟩

set_option maxHeartbeats 1600000 in
/-- The kernel's run with its results by the reference's names. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = val_main_v0 (A m c main_arg0)
      ∧ r.2.mem ((c.tc : Thread nD τ).loc main_v0_1) = val_main_v1 (A m c main_arg1)
      ∧ r.2.mem ((c.tc : Thread nD τ).loc main_v0_2) = val_main_v2 (A m c main_arg2)
      ∧ r.2.mem ((c.tc : Thread nD τ).loc main_v0_3) = val_main_v3 (A m c main_arg3)
      ∧ r.2.mem ((c.tc : Thread nD τ).loc main_v0_4) = val_main_v4 (A m c main_arg4)
      ∧ r.2.mem ((c.tc : Thread nD τ).loc main_v0_5) = val_main_v5 (A m c main_arg5)
      ∧ r.2.mem ((c.tc : Thread nD τ).loc main_v0_6) = val_main_v6 (A m c main_arg6)
      ∧ r.2.mem ((c.tc : Thread nD τ).loc main_v0_7) = val_main_v7 (A m c main_arg7)
      ∧ r.2.mem ((c.tc : Thread nD τ).loc main_v0_8) = val_main_v8 (A m c main_arg8)
      ∧ r.2.mem ((c.tc : Thread nD τ).loc main_v0_9) = val_main_v9 (A m c main_arg9)
      ∧ r.2.mem ((c.tc : Thread nD τ).loc main_v0_10) = val_main_v10 (A m c main_arg10)
      ∧ r.2.mem ((c.tc : Thread nD τ).loc main_v0_11) = val_main_v34 (A m c main_arg0) (A m c main_arg11) (A m c main_arg22) (A m c main_arg33)
      ∧ r.2.mem ((c.tc : Thread nD τ).loc main_v0_12) = val_main_v58 (A m c main_arg1) (A m c main_arg12) (A m c main_arg23) (A m c main_arg34)
      ∧ r.2.mem ((c.tc : Thread nD τ).loc main_v0_13) = val_main_v82 (A m c main_arg2) (A m c main_arg13) (A m c main_arg24) (A m c main_arg35)
      ∧ r.2.mem ((c.tc : Thread nD τ).loc main_v0_14) = val_main_v106 (A m c main_arg3) (A m c main_arg14) (A m c main_arg25) (A m c main_arg36)
      ∧ r.2.mem ((c.tc : Thread nD τ).loc main_v0_15) = val_main_v130 (A m c main_arg4) (A m c main_arg15) (A m c main_arg26) (A m c main_arg37)
      ∧ r.2.mem ((c.tc : Thread nD τ).loc main_v0_16) = val_main_v154 (A m c main_arg5) (A m c main_arg16) (A m c main_arg27) (A m c main_arg38)
      ∧ r.2.mem ((c.tc : Thread nD τ).loc main_v0_17) = val_main_v178 (A m c main_arg6) (A m c main_arg17) (A m c main_arg28) (A m c main_arg39)
      ∧ r.2.mem ((c.tc : Thread nD τ).loc main_v0_18) = val_main_v202 (A m c main_arg7) (A m c main_arg18) (A m c main_arg29) (A m c main_arg40)
      ∧ r.2.mem ((c.tc : Thread nD τ).loc main_v0_19) = val_main_v226 (A m c main_arg8) (A m c main_arg19) (A m c main_arg30) (A m c main_arg41)
      ∧ r.2.mem ((c.tc : Thread nD τ).loc main_v0_20) = val_main_v250 (A m c main_arg9) (A m c main_arg20) (A m c main_arg31) (A m c main_arg42)
      ∧ r.2.mem ((c.tc : Thread nD τ).loc main_v0_21) = val_main_v274 (A m c main_arg10) (A m c main_arg21) (A m c main_arg32) (A m c main_arg43)
      ∧ r.2.mem ((c.tc : Thread nD τ).loc main_v0_22) = val_main_v15 (A m c main_arg0) (A m c main_arg22)
      ∧ r.2.mem ((c.tc : Thread nD τ).loc main_v0_23) = val_main_v39 (A m c main_arg1) (A m c main_arg23)
      ∧ r.2.mem ((c.tc : Thread nD τ).loc main_v0_24) = val_main_v63 (A m c main_arg2) (A m c main_arg24)
      ∧ r.2.mem ((c.tc : Thread nD τ).loc main_v0_25) = val_main_v87 (A m c main_arg3) (A m c main_arg25)
      ∧ r.2.mem ((c.tc : Thread nD τ).loc main_v0_26) = val_main_v111 (A m c main_arg4) (A m c main_arg26)
      ∧ r.2.mem ((c.tc : Thread nD τ).loc main_v0_27) = val_main_v135 (A m c main_arg5) (A m c main_arg27)
      ∧ r.2.mem ((c.tc : Thread nD τ).loc main_v0_28) = val_main_v159 (A m c main_arg6) (A m c main_arg28)
      ∧ r.2.mem ((c.tc : Thread nD τ).loc main_v0_29) = val_main_v183 (A m c main_arg7) (A m c main_arg29)
      ∧ r.2.mem ((c.tc : Thread nD τ).loc main_v0_30) = val_main_v207 (A m c main_arg8) (A m c main_arg30)
      ∧ r.2.mem ((c.tc : Thread nD τ).loc main_v0_31) = val_main_v231 (A m c main_arg9) (A m c main_arg31)
      ∧ r.2.mem ((c.tc : Thread nD τ).loc main_v0_32) = val_main_v255 (A m c main_arg10) (A m c main_arg32)
      ∧ r.2.mem ((c.tc : Thread nD τ).loc main_v0_33) = val_main_v21 (A m c main_arg0) (A m c main_arg33)
      ∧ r.2.mem ((c.tc : Thread nD τ).loc main_v0_34) = val_main_v45 (A m c main_arg1) (A m c main_arg34)
      ∧ r.2.mem ((c.tc : Thread nD τ).loc main_v0_35) = val_main_v69 (A m c main_arg2) (A m c main_arg35)
      ∧ r.2.mem ((c.tc : Thread nD τ).loc main_v0_36) = val_main_v93 (A m c main_arg3) (A m c main_arg36)
      ∧ r.2.mem ((c.tc : Thread nD τ).loc main_v0_37) = val_main_v117 (A m c main_arg4) (A m c main_arg37)
      ∧ r.2.mem ((c.tc : Thread nD τ).loc main_v0_38) = val_main_v141 (A m c main_arg5) (A m c main_arg38)
      ∧ r.2.mem ((c.tc : Thread nD τ).loc main_v0_39) = val_main_v165 (A m c main_arg6) (A m c main_arg39)
      ∧ r.2.mem ((c.tc : Thread nD τ).loc main_v0_40) = val_main_v189 (A m c main_arg7) (A m c main_arg40)
      ∧ r.2.mem ((c.tc : Thread nD τ).loc main_v0_41) = val_main_v213 (A m c main_arg8) (A m c main_arg41)
      ∧ r.2.mem ((c.tc : Thread nD τ).loc main_v0_42) = val_main_v237 (A m c main_arg9) (A m c main_arg42)
      ∧ r.2.mem ((c.tc : Thread nD τ).loc main_v0_43) = val_main_v261 (A m c main_arg10) (A m c main_arg43)
      ∧ r.2.mem ((c.tc : Thread nD τ).loc main_v0_44) = val_main_v275 (A m c main_arg44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)) :=
  (θ_run defs _ _).mono (fun r h c => ⟨(results_0 h.1 c).1, (results_1 h.1 c).1, (results_2 h.1 c).1,
    (results_3 h.1 c).1, (results_4 h.1 c).1, (results_5 h.1 c).1,
    (results_6 h.1 c).1, (results_7 h.1 c).1, (results_8 h.1 c).1,
    (results_9 h.1 c).1, (results_10 h.1 c).1, (results_0 h.1 c).2.1,
    (results_1 h.1 c).2.1, (results_2 h.1 c).2.1, (results_3 h.1 c).2.1,
    (results_4 h.1 c).2.1, (results_5 h.1 c).2.1, (results_6 h.1 c).2.1,
    (results_7 h.1 c).2.1, (results_8 h.1 c).2.1, (results_9 h.1 c).2.1,
    (results_10 h.1 c).2.1, (results_0 h.1 c).2.2.1, (results_1 h.1 c).2.2.1,
    (results_2 h.1 c).2.2.1, (results_3 h.1 c).2.2.1, (results_4 h.1 c).2.2.1,
    (results_5 h.1 c).2.2.1, (results_6 h.1 c).2.2.1, (results_7 h.1 c).2.2.1,
    (results_8 h.1 c).2.2.1, (results_9 h.1 c).2.2.1, (results_10 h.1 c).2.2.1,
    (results_0 h.1 c).2.2.2, (results_1 h.1 c).2.2.2, (results_2 h.1 c).2.2.2,
    (results_3 h.1 c).2.2.2, (results_4 h.1 c).2.2.2, (results_5 h.1 c).2.2.2,
    (results_6 h.1 c).2.2.2, (results_7 h.1 c).2.2.2, (results_8 h.1 c).2.2.2,
    (results_9 h.1 c).2.2.2, (results_10 h.1 c).2.2.2, (result m h.1 c 89).trans (ends_loss m c),
    kept m h.1 c 0 rfl, kept m h.1 c 1 rfl, kept m h.1 c 2 rfl,
    kept m h.1 c 3 rfl, kept m h.1 c 4 rfl, kept m h.1 c 5 rfl,
    kept m h.1 c 6 rfl, kept m h.1 c 7 rfl, kept m h.1 c 8 rfl,
    kept m h.1 c 9 rfl, kept m h.1 c 10 rfl, kept m h.1 c 11 rfl,
    kept m h.1 c 12 rfl, kept m h.1 c 13 rfl, kept m h.1 c 14 rfl,
    kept m h.1 c 15 rfl, kept m h.1 c 16 rfl, kept m h.1 c 17 rfl,
    kept m h.1 c 18 rfl, kept m h.1 c 19 rfl, kept m h.1 c 20 rfl,
    kept m h.1 c 21 rfl, kept m h.1 c 22 rfl, kept m h.1 c 23 rfl,
    kept m h.1 c 24 rfl, kept m h.1 c 25 rfl, kept m h.1 c 26 rfl,
    kept m h.1 c 27 rfl, kept m h.1 c 28 rfl, kept m h.1 c 29 rfl,
    kept m h.1 c 30 rfl, kept m h.1 c 31 rfl, kept m h.1 c 32 rfl,
    kept m h.1 c 33 rfl, kept m h.1 c 34 rfl, kept m h.1 c 35 rfl,
    kept m h.1 c 36 rfl, kept m h.1 c 37 rfl, kept m h.1 c 38 rfl,
    kept m h.1 c 39 rfl, kept m h.1 c 40 rfl, kept m h.1 c 41 rfl,
    kept m h.1 c 42 rfl, kept m h.1 c 43 rfl, kept m h.1 c 44 rfl⟩) (run m ρ)

set_option maxHeartbeats 3200000 in
theorem algebraic : Cert.algebraic_AdsKIdeal_AdsRIdeal := fun m ρ m' ρ' _ hag =>
  ⟨fun c => val_main_v0 (A m c main_arg0), fun c => val_main_v1 (A m c main_arg1), fun c => val_main_v2 (A m c main_arg2),
   fun c => val_main_v3 (A m c main_arg3), fun c => val_main_v4 (A m c main_arg4), fun c => val_main_v5 (A m c main_arg5),
   fun c => val_main_v6 (A m c main_arg6), fun c => val_main_v7 (A m c main_arg7), fun c => val_main_v8 (A m c main_arg8),
   fun c => val_main_v9 (A m c main_arg9), fun c => val_main_v10 (A m c main_arg10), fun c => val_main_v34 (A m c main_arg0) (A m c main_arg11) (A m c main_arg22) (A m c main_arg33),
   fun c => val_main_v58 (A m c main_arg1) (A m c main_arg12) (A m c main_arg23) (A m c main_arg34), fun c => val_main_v82 (A m c main_arg2) (A m c main_arg13) (A m c main_arg24) (A m c main_arg35), fun c => val_main_v106 (A m c main_arg3) (A m c main_arg14) (A m c main_arg25) (A m c main_arg36),
   fun c => val_main_v130 (A m c main_arg4) (A m c main_arg15) (A m c main_arg26) (A m c main_arg37), fun c => val_main_v154 (A m c main_arg5) (A m c main_arg16) (A m c main_arg27) (A m c main_arg38), fun c => val_main_v178 (A m c main_arg6) (A m c main_arg17) (A m c main_arg28) (A m c main_arg39),
   fun c => val_main_v202 (A m c main_arg7) (A m c main_arg18) (A m c main_arg29) (A m c main_arg40), fun c => val_main_v226 (A m c main_arg8) (A m c main_arg19) (A m c main_arg30) (A m c main_arg41), fun c => val_main_v250 (A m c main_arg9) (A m c main_arg20) (A m c main_arg31) (A m c main_arg42),
   fun c => val_main_v274 (A m c main_arg10) (A m c main_arg21) (A m c main_arg32) (A m c main_arg43), fun c => val_main_v15 (A m c main_arg0) (A m c main_arg22), fun c => val_main_v39 (A m c main_arg1) (A m c main_arg23),
   fun c => val_main_v63 (A m c main_arg2) (A m c main_arg24), fun c => val_main_v87 (A m c main_arg3) (A m c main_arg25), fun c => val_main_v111 (A m c main_arg4) (A m c main_arg26),
   fun c => val_main_v135 (A m c main_arg5) (A m c main_arg27), fun c => val_main_v159 (A m c main_arg6) (A m c main_arg28), fun c => val_main_v183 (A m c main_arg7) (A m c main_arg29),
   fun c => val_main_v207 (A m c main_arg8) (A m c main_arg30), fun c => val_main_v231 (A m c main_arg9) (A m c main_arg31), fun c => val_main_v255 (A m c main_arg10) (A m c main_arg32),
   fun c => val_main_v21 (A m c main_arg0) (A m c main_arg33), fun c => val_main_v45 (A m c main_arg1) (A m c main_arg34), fun c => val_main_v69 (A m c main_arg2) (A m c main_arg35),
   fun c => val_main_v93 (A m c main_arg3) (A m c main_arg36), fun c => val_main_v117 (A m c main_arg4) (A m c main_arg37), fun c => val_main_v141 (A m c main_arg5) (A m c main_arg38),
   fun c => val_main_v165 (A m c main_arg6) (A m c main_arg39), fun c => val_main_v189 (A m c main_arg7) (A m c main_arg40), fun c => val_main_v213 (A m c main_arg8) (A m c main_arg41),
   fun c => val_main_v237 (A m c main_arg9) (A m c main_arg42), fun c => val_main_v261 (A m c main_arg10) (A m c main_arg43), fun c => val_main_v275 (A m c main_arg44),
    kernel_run m ρ,
    (θ_run Cert.AdsRIdeal.defs _ _).mono (fun _ h c => by
      obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44⟩ := hag c
      obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, hargs⟩ := h c
      exact ⟨h0.trans (congrArg val_main_v0 a0), h1.trans (congrArg val_main_v1 a1), h2.trans (congrArg val_main_v2 a2),
        h3.trans (congrArg val_main_v3 a3), h4.trans (congrArg val_main_v4 a4), h5.trans (congrArg val_main_v5 a5),
        h6.trans (congrArg val_main_v6 a6), h7.trans (congrArg val_main_v7 a7), h8.trans (congrArg val_main_v8 a8),
        h9.trans (congrArg val_main_v9 a9), h10.trans (congrArg val_main_v10 a10), h11.trans ((val_main_v34_eq _).trans (congr (congr (congr (congrArg val_main_v34 a0) a11) a22) a33)),
        h12.trans ((val_main_v58_eq _).trans (congr (congr (congr (congrArg val_main_v58 a1) a12) a23) a34)), h13.trans ((val_main_v82_eq _).trans (congr (congr (congr (congrArg val_main_v82 a2) a13) a24) a35)), h14.trans ((val_main_v106_eq _).trans (congr (congr (congr (congrArg val_main_v106 a3) a14) a25) a36)),
        h15.trans ((val_main_v130_eq _).trans (congr (congr (congr (congrArg val_main_v130 a4) a15) a26) a37)), h16.trans ((val_main_v154_eq _).trans (congr (congr (congr (congrArg val_main_v154 a5) a16) a27) a38)), h17.trans ((val_main_v178_eq _).trans (congr (congr (congr (congrArg val_main_v178 a6) a17) a28) a39)),
        h18.trans ((val_main_v202_eq _).trans (congr (congr (congr (congrArg val_main_v202 a7) a18) a29) a40)), h19.trans ((val_main_v226_eq _).trans (congr (congr (congr (congrArg val_main_v226 a8) a19) a30) a41)), h20.trans ((val_main_v250_eq _).trans (congr (congr (congr (congrArg val_main_v250 a9) a20) a31) a42)),
        h21.trans ((val_main_v274_eq _).trans (congr (congr (congr (congrArg val_main_v274 a10) a21) a32) a43)), h22.trans ((val_main_v15_eq _).trans (congr (congrArg val_main_v15 a0) a22)), h23.trans ((val_main_v39_eq _).trans (congr (congrArg val_main_v39 a1) a23)),
        h24.trans ((val_main_v63_eq _).trans (congr (congrArg val_main_v63 a2) a24)), h25.trans ((val_main_v87_eq _).trans (congr (congrArg val_main_v87 a3) a25)), h26.trans ((val_main_v111_eq _).trans (congr (congrArg val_main_v111 a4) a26)),
        h27.trans ((val_main_v135_eq _).trans (congr (congrArg val_main_v135 a5) a27)), h28.trans ((val_main_v159_eq _).trans (congr (congrArg val_main_v159 a6) a28)), h29.trans ((val_main_v183_eq _).trans (congr (congrArg val_main_v183 a7) a29)),
        h30.trans ((val_main_v207_eq _).trans (congr (congrArg val_main_v207 a8) a30)), h31.trans ((val_main_v231_eq _).trans (congr (congrArg val_main_v231 a9) a31)), h32.trans ((val_main_v255_eq _).trans (congr (congrArg val_main_v255 a10) a32)),
        h33.trans ((val_main_v21_eq _).trans (congr (congrArg val_main_v21 a0) a33)), h34.trans ((val_main_v45_eq _).trans (congr (congrArg val_main_v45 a1) a34)), h35.trans ((val_main_v69_eq _).trans (congr (congrArg val_main_v69 a2) a35)),
        h36.trans ((val_main_v93_eq _).trans (congr (congrArg val_main_v93 a3) a36)), h37.trans ((val_main_v117_eq _).trans (congr (congrArg val_main_v117 a4) a37)), h38.trans ((val_main_v141_eq _).trans (congr (congrArg val_main_v141 a5) a38)),
        h39.trans ((val_main_v165_eq _).trans (congr (congrArg val_main_v165 a6) a39)), h40.trans ((val_main_v189_eq _).trans (congr (congrArg val_main_v189 a7) a40)), h41.trans ((val_main_v213_eq _).trans (congr (congrArg val_main_v213 a8) a41)),
        h42.trans ((val_main_v237_eq _).trans (congr (congrArg val_main_v237 a9) a42)), h43.trans ((val_main_v261_eq _).trans (congr (congrArg val_main_v261 a10) a43)), h44.trans ((val_main_v275_eq _).trans (congrArg val_main_v275 a44)), hargs⟩) (Cert.AdsRIdeal.Value.run m' ρ')⟩

end Cert.Ads
-- ==== Proof.lean ====
module

public import proofs.«01_k».proof.Defs
public import proofs.«01_k».proof.Proof.LossClaims
public import proofs.«01_k».proof.Proof.InxClaims
public import proofs.«01_k».proof.Proof.SguClaims
public import proofs.«01_k».proof.Proof.PleClaims
public import proofs.«01_k».proof.Proof.OconvClaims
public import proofs.«01_k».proof.Proof.LsguClaims
public import proofs.«01_k».proof.Proof.InwClaims
public import proofs.«01_k».proof.Proof.AdamClaims
public import proofs.«01_k».proof.Proof.AdsClaims

@[expose] public section

noncomputable section

namespace Cert.Proof

open Idealize.ShloMosaic Idealize.SL.Sem

theorem claim : Cert.Claim :=
  ⟨Cert.LossK.Gen.facts, Cert.LossKIdeal.Gen.facts, Cert.LossRIdeal.Gen.facts, Cert.InxK.Gen.facts, Cert.InxKIdeal.Gen.facts, Cert.InxRIdeal.Gen.facts, Cert.SguK.Gen.facts, Cert.SguKIdeal.Gen.facts, Cert.SguRIdeal.Gen.facts, Cert.PleK.Gen.facts, Cert.PleKIdeal.Gen.facts, Cert.PleRIdeal.Gen.facts, Cert.OconvK.Gen.facts, Cert.OconvKIdeal.Gen.facts, Cert.OconvRIdeal.Gen.facts, Cert.LsguK.Gen.facts, Cert.LsguKIdeal.Gen.facts, Cert.LsguRIdeal.Gen.facts, Cert.InwK.Gen.facts, Cert.InwKIdeal.Gen.facts, Cert.InwRIdeal.Gen.facts, Cert.AdamK.Gen.facts, Cert.AdamKIdeal.Gen.facts, Cert.AdamRIdeal.Gen.facts, Cert.AdsK.Gen.facts, Cert.AdsKIdeal.Gen.facts, Cert.AdsRIdeal.Gen.facts, Cert.Sgu.pre_facts, Cert.Oconv.pre_facts,
    fun m ρ _ => Cert.LossK.Gen.frame m ρ,
    fun m ρ _ => Cert.LossKIdeal.Gen.frame m ρ,
    Cert.Loss.frame_r,
    fun m ρ _ => Cert.InxK.Gen.frame m ρ,
    fun m ρ _ => Cert.InxKIdeal.Gen.frame m ρ,
    Cert.Inx.frame_r,
    fun m ρ _ => Cert.SguK.Gen.frame m ρ,
    fun m ρ _ => Cert.SguKIdeal.Gen.frame m ρ,
    fun m ρ _ => Cert.SguKIdeal.Gen.frame m ρ,
    Cert.Sgu.frame_r,
    fun m ρ _ => Cert.Sgu.frame_r m ρ trivial,
    fun m ρ _ => Cert.PleK.Gen.frame m ρ,
    fun m ρ _ => Cert.PleKIdeal.Gen.frame m ρ,
    Cert.Ple.frame_r,
    fun m ρ _ => Cert.OconvK.Gen.frame m ρ,
    fun m ρ _ => Cert.OconvKIdeal.Gen.frame m ρ,
    fun m ρ _ => Cert.OconvKIdeal.Gen.frame m ρ,
    Cert.Oconv.frame_r,
    fun m ρ _ => Cert.Oconv.frame_r m ρ trivial,
    fun m ρ _ => Cert.LsguK.Gen.frame m ρ,
    fun m ρ _ => Cert.LsguKIdeal.Gen.frame m ρ,
    Cert.Lsgu.frame_r,
    fun m ρ _ => Cert.InwK.Gen.frame m ρ,
    fun m ρ _ => Cert.InwKIdeal.Gen.frame m ρ,
    Cert.Inw.frame_r,
    fun m ρ _ => Cert.AdamK.Gen.frame m ρ,
    fun m ρ _ => Cert.AdamKIdeal.Gen.frame m ρ,
    Cert.Adam.frame_r,
    Cert.Ads.frame_k,
    Cert.Ads.frame_i,
    Cert.Ads.frame_r,
    trivial, Cert.Loss.algebraic, trivial, Cert.Inx.algebraic, Cert.Sgu.preserves, letI := Cert.Sgu.pre_facts; Cert.Sgu.algebraic, trivial, Cert.Ple.algebraic, trivial, letI := Cert.Oconv.pre_facts; Cert.Oconv.algebraic, Cert.Lsgu.preserves, Cert.Lsgu.algebraic, trivial, Cert.Inw.algebraic, trivial, Cert.Adam.algebraic, trivial, Cert.Ads.algebraic⟩

end Cert.Proof

end
